-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelOutDx (m : (ℓ : Loc Cert.KernelOutDx.nD Cert.KernelOutDx.τ Cert.KernelOutDx.sig) → Buf (Elt Bits) ℓ) : Prop :=
  True

def Pre_KernelOutDxIdeal (m : (ℓ : Loc Cert.KernelOutDxIdeal.nD Cert.KernelOutDxIdeal.τ Cert.KernelOutDxIdeal.sig) → Buf (Elt Ideal) ℓ) : Prop :=
  True

def Pre_ReferenceOutDxIdeal (m : (ℓ : Loc Cert.ReferenceOutDxIdeal.nD Cert.ReferenceOutDxIdeal.τ Cert.ReferenceOutDxIdeal.sig) → Buf (Elt Ideal) ℓ) : Prop :=
  True

def Pre_KernelUpDx (m : (ℓ : Loc Cert.KernelUpDx.nD Cert.KernelUpDx.τ Cert.KernelUpDx.sig) → Buf (Elt Bits) ℓ) : Prop :=
  True

def Pre_KernelUpDxIdeal (m : (ℓ : Loc Cert.KernelUpDxIdeal.nD Cert.KernelUpDxIdeal.τ Cert.KernelUpDxIdeal.sig) → Buf (Elt Ideal) ℓ) : Prop :=
  True

def Pre_KernelUpDxIdeal_finite_up_dx [hPre_finite_up_dx : Cert.Pre_finite_up_dx.Facts] (m : (ℓ : Loc Cert.KernelUpDxIdeal.nD Cert.KernelUpDxIdeal.τ Cert.KernelUpDxIdeal.sig) → Buf (Elt Ideal) ℓ) : Prop :=
  ∀ c : Dev Cert.KernelUpDxIdeal.nD,
    (Cert.Pre_finite_up_dx.fn (F := Ideal) (m ((c.tc : Thread Cert.KernelUpDxIdeal.nD Cert.KernelUpDxIdeal.τ).loc Cert.KernelUpDxIdeal.main_arg0)) (m ((c.tc : Thread Cert.KernelUpDxIdeal.nD Cert.KernelUpDxIdeal.τ).loc Cert.KernelUpDxIdeal.main_arg1)) (m ((c.tc : Thread Cert.KernelUpDxIdeal.nD Cert.KernelUpDxIdeal.τ).loc Cert.KernelUpDxIdeal.main_arg2)) (m ((c.tc : Thread Cert.KernelUpDxIdeal.nD Cert.KernelUpDxIdeal.τ).loc Cert.KernelUpDxIdeal.main_arg3)) (m ((c.tc : Thread Cert.KernelUpDxIdeal.nD Cert.KernelUpDxIdeal.τ).loc Cert.KernelUpDxIdeal.main_arg4))) = (fun _ => 1#1)

def Pre_ReferenceUpDxIdeal (m : (ℓ : Loc Cert.ReferenceUpDxIdeal.nD Cert.ReferenceUpDxIdeal.τ Cert.ReferenceUpDxIdeal.sig) → Buf (Elt Ideal) ℓ) : Prop :=
  True

def Pre_ReferenceUpDxIdeal_finite_up_dx [hPre_finite_up_dx : Cert.Pre_finite_up_dx.Facts] (m : (ℓ : Loc Cert.ReferenceUpDxIdeal.nD Cert.ReferenceUpDxIdeal.τ Cert.ReferenceUpDxIdeal.sig) → Buf (Elt Ideal) ℓ) : Prop :=
  ∀ c : Dev Cert.ReferenceUpDxIdeal.nD,
    (Cert.Pre_finite_up_dx.fn (F := Ideal) (m ((c.tc : Thread Cert.ReferenceUpDxIdeal.nD Cert.ReferenceUpDxIdeal.τ).loc Cert.ReferenceUpDxIdeal.main_arg0)) (m ((c.tc : Thread Cert.ReferenceUpDxIdeal.nD Cert.ReferenceUpDxIdeal.τ).loc Cert.ReferenceUpDxIdeal.main_arg1)) (m ((c.tc : Thread Cert.ReferenceUpDxIdeal.nD Cert.ReferenceUpDxIdeal.τ).loc Cert.ReferenceUpDxIdeal.main_arg2)) (m ((c.tc : Thread Cert.ReferenceUpDxIdeal.nD Cert.ReferenceUpDxIdeal.τ).loc Cert.ReferenceUpDxIdeal.main_arg3)) (m ((c.tc : Thread Cert.ReferenceUpDxIdeal.nD Cert.ReferenceUpDxIdeal.τ).loc Cert.ReferenceUpDxIdeal.main_arg4))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))) = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelInOwn (m : (ℓ : Loc Cert.KernelInOwn.nD Cert.KernelInOwn.τ Cert.KernelInOwn.sig) → Buf (Elt Bits) ℓ) : Prop :=
  True

def Pre_KernelInOwnIdeal (m : (ℓ : Loc Cert.KernelInOwnIdeal.nD Cert.KernelInOwnIdeal.τ Cert.KernelInOwnIdeal.sig) → Buf (Elt Ideal) ℓ) : Prop :=
  True

def Pre_ReferenceInOwnIdeal (m : (ℓ : Loc Cert.ReferenceInOwnIdeal.nD Cert.ReferenceInOwnIdeal.τ Cert.ReferenceInOwnIdeal.sig) → Buf (Elt Ideal) ℓ) : Prop :=
  True

def Pre_KernelInRest (m : (ℓ : Loc Cert.KernelInRest.nD Cert.KernelInRest.τ Cert.KernelInRest.sig) → Buf (Elt Bits) ℓ) : Prop :=
  True

def Pre_KernelInRestIdeal (m : (ℓ : Loc Cert.KernelInRestIdeal.nD Cert.KernelInRestIdeal.τ Cert.KernelInRestIdeal.sig) → Buf (Elt Ideal) ℓ) : Prop :=
  True

def Pre_ReferenceInRestIdeal (m : (ℓ : Loc Cert.ReferenceInRestIdeal.nD Cert.ReferenceInRestIdeal.τ Cert.ReferenceInRestIdeal.sig) → Buf (Elt Ideal) ℓ) : Prop :=
  True

def Pre_KernelWRows (m : (ℓ : Loc Cert.KernelWRows.nD Cert.KernelWRows.τ Cert.KernelWRows.sig) → Buf (Elt Bits) ℓ) : Prop :=
  True

def Pre_KernelWRowsIdeal (m : (ℓ : Loc Cert.KernelWRowsIdeal.nD Cert.KernelWRowsIdeal.τ Cert.KernelWRowsIdeal.sig) → Buf (Elt Ideal) ℓ) : Prop :=
  True

def Pre_ReferenceWRowsIdeal (m : (ℓ : Loc Cert.ReferenceWRowsIdeal.nD Cert.ReferenceWRowsIdeal.τ Cert.ReferenceWRowsIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_KernelInDxIdeal_finite_in_dx [hPre_finite_in_dx : Cert.Pre_finite_in_dx.Facts] (m : (ℓ : Loc Cert.KernelInDxIdeal.nD Cert.KernelInDxIdeal.τ Cert.KernelInDxIdeal.sig) → Buf (Elt Ideal) ℓ) : Prop :=
  ∀ c : Dev Cert.KernelInDxIdeal.nD,
    (Cert.Pre_finite_in_dx.fn (F := Ideal) (m ((c.tc : Thread Cert.KernelInDxIdeal.nD Cert.KernelInDxIdeal.τ).loc Cert.KernelInDxIdeal.main_arg0)) (m ((c.tc : Thread Cert.KernelInDxIdeal.nD Cert.KernelInDxIdeal.τ).loc Cert.KernelInDxIdeal.main_arg1)) (m ((c.tc : Thread Cert.KernelInDxIdeal.nD Cert.KernelInDxIdeal.τ).loc Cert.KernelInDxIdeal.main_arg2)) (m ((c.tc : Thread Cert.KernelInDxIdeal.nD Cert.KernelInDxIdeal.τ).loc Cert.KernelInDxIdeal.main_arg3)) (m ((c.tc : Thread Cert.KernelInDxIdeal.nD Cert.KernelInDxIdeal.τ).loc Cert.KernelInDxIdeal.main_arg4))) = (fun _ => 1#1)

def Pre_ReferenceInDxIdeal (m : (ℓ : Loc Cert.ReferenceInDxIdeal.nD Cert.ReferenceInDxIdeal.τ Cert.ReferenceInDxIdeal.sig) → Buf (Elt Ideal) ℓ) : Prop :=
  True

def Pre_ReferenceInDxIdeal_finite_in_dx [hPre_finite_in_dx : Cert.Pre_finite_in_dx.Facts] (m : (ℓ : Loc Cert.ReferenceInDxIdeal.nD Cert.ReferenceInDxIdeal.τ Cert.ReferenceInDxIdeal.sig) → Buf (Elt Ideal) ℓ) : Prop :=
  ∀ c : Dev Cert.ReferenceInDxIdeal.nD,
    (Cert.Pre_finite_in_dx.fn (F := Ideal) (m ((c.tc : Thread Cert.ReferenceInDxIdeal.nD Cert.ReferenceInDxIdeal.τ).loc Cert.ReferenceInDxIdeal.main_arg0)) (m ((c.tc : Thread Cert.ReferenceInDxIdeal.nD Cert.ReferenceInDxIdeal.τ).loc Cert.ReferenceInDxIdeal.main_arg1)) (m ((c.tc : Thread Cert.ReferenceInDxIdeal.nD Cert.ReferenceInDxIdeal.τ).loc Cert.ReferenceInDxIdeal.main_arg2)) (m ((c.tc : Thread Cert.ReferenceInDxIdeal.nD Cert.ReferenceInDxIdeal.τ).loc Cert.ReferenceInDxIdeal.main_arg3)) (m ((c.tc : Thread Cert.ReferenceInDxIdeal.nD Cert.ReferenceInDxIdeal.τ).loc Cert.ReferenceInDxIdeal.main_arg4))) = (fun _ => 1#1)

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamLru (m : (ℓ : Loc Cert.KernelAdamLru.nD Cert.KernelAdamLru.τ Cert.KernelAdamLru.sig) → Buf (Elt Bits) ℓ) : Prop :=
  True

def Pre_KernelAdamLruIdeal (m : (ℓ : Loc Cert.KernelAdamLruIdeal.nD Cert.KernelAdamLruIdeal.τ Cert.KernelAdamLruIdeal.sig) → Buf (Elt Ideal) ℓ) : Prop :=
  True

def Pre_ReferenceAdamLruIdeal (m : (ℓ : Loc Cert.ReferenceAdamLruIdeal.nD Cert.ReferenceAdamLruIdeal.τ Cert.ReferenceAdamLruIdeal.sig) → Buf (Elt Ideal) ℓ) : Prop :=
  True

def Pre_KernelAdamConv (m : (ℓ : Loc Cert.KernelAdamConv.nD Cert.KernelAdamConv.τ Cert.KernelAdamConv.sig) → Buf (Elt Bits) ℓ) : Prop :=
  True

def Pre_KernelAdamConvIdeal (m : (ℓ : Loc Cert.KernelAdamConvIdeal.nD Cert.KernelAdamConvIdeal.τ Cert.KernelAdamConvIdeal.sig) → Buf (Elt Ideal) ℓ) : Prop :=
  True

def Pre_ReferenceAdamConvIdeal (m : (ℓ : Loc Cert.ReferenceAdamConvIdeal.nD Cert.ReferenceAdamConvIdeal.τ Cert.ReferenceAdamConvIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelSum (m : (ℓ : Loc Cert.KernelSum.nD Cert.KernelSum.τ Cert.KernelSum.sig) → Buf (Elt Bits) ℓ) : Prop :=
  True

def Pre_KernelSumIdeal (m : (ℓ : Loc Cert.KernelSumIdeal.nD Cert.KernelSumIdeal.τ Cert.KernelSumIdeal.sig) → Buf (Elt Ideal) ℓ) : Prop :=
  True

def Pre_ReferenceSumIdeal (m : (ℓ : Loc Cert.ReferenceSumIdeal.nD Cert.ReferenceSumIdeal.τ Cert.ReferenceSumIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelOutDx [hKernelOutDx : Cert.KernelOutDx.Facts] : Prop :=
  ∀ (m : (ℓ : Loc Cert.KernelOutDx.nD Cert.KernelOutDx.τ Cert.KernelOutDx.sig) → Buf (Elt Bits) ℓ) (g : Dev Cert.KernelOutDx.nD → PrngReg), Pre_KernelOutDx m →
    θ_run (Cert.KernelOutDx.defs (F := Bits)) (onTc (τ := Cert.KernelOutDx.τ) (Cert.KernelOutDx.main (F := Bits))) ⟨m, fun _ => 0, g⟩ (fun r => (∀ c : Dev Cert.KernelOutDx.nD,
      r.2.mem ((c.tc : Thread Cert.KernelOutDx.nD Cert.KernelOutDx.τ).loc Cert.KernelOutDx.main_arg0) = m ((c.tc : Thread Cert.KernelOutDx.nD Cert.KernelOutDx.τ).loc Cert.KernelOutDx.main_arg0)
      ∧ r.2.mem ((c.tc : Thread Cert.KernelOutDx.nD Cert.KernelOutDx.τ).loc Cert.KernelOutDx.main_arg1) = m ((c.tc : Thread Cert.KernelOutDx.nD Cert.KernelOutDx.τ).loc Cert.KernelOutDx.main_arg1))
      ∧ r.2.sem = fun _ => 0)

def quiescent_KernelOutDxIdeal [hKernelOutDxIdeal : Cert.KernelOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg), Pre_KernelOutDxIdeal m →
    θ_run (Cert.KernelOutDxIdeal.defs (F := Ideal)) (onTc (τ := Cert.KernelOutDxIdeal.τ) (Cert.KernelOutDxIdeal.main (F := Ideal))) ⟨m, fun _ => 0, g⟩ (fun r => (∀ c : Dev Cert.KernelOutDxIdeal.nD,
      r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
      ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ r.2.sem = fun _ => 0)

def quiescent_ReferenceOutDxIdeal [hReferenceOutDxIdeal : Cert.ReferenceOutDxIdeal.Facts] : Prop :=
  ∀ (m : (ℓ : Loc Cert.ReferenceOutDxIdeal.nD Cert.ReferenceOutDxIdeal.τ Cert.ReferenceOutDxIdeal.sig) → Buf (Elt Ideal) ℓ) (g : Dev Cert.ReferenceOutDxIdeal.nD → PrngReg), Pre_ReferenceOutDxIdeal m →
    θ_run (Cert.ReferenceOutDxIdeal.defs (F := Ideal)) (onTc (τ := Cert.ReferenceOutDxIdeal.τ) (Cert.ReferenceOutDxIdeal.main (F := Ideal))) ⟨m, fun _ => 0, g⟩ (fun r => (∀ c : Dev Cert.ReferenceOutDxIdeal.nD,
      r.2.mem ((c.tc : Thread Cert.ReferenceOutDxIdeal.nD Cert.ReferenceOutDxIdeal.τ).loc Cert.ReferenceOutDxIdeal.main_arg0) = m ((c.tc : Thread Cert.ReferenceOutDxIdeal.nD Cert.ReferenceOutDxIdeal.τ).loc Cert.ReferenceOutDxIdeal.main_arg0)
      ∧ r.2.mem ((c.tc : Thread Cert.ReferenceOutDxIdeal.nD Cert.ReferenceOutDxIdeal.τ).loc Cert.ReferenceOutDxIdeal.main_arg1) = m ((c.tc : Thread Cert.ReferenceOutDxIdeal.nD Cert.ReferenceOutDxIdeal.τ).loc Cert.ReferenceOutDxIdeal.main_arg1))
      ∧ r.2.sem = fun _ => 0)

def quiescent_KernelUpDx [hKernelUpDx : Cert.KernelUpDx.Facts] : Prop :=
  ∀ (m : (ℓ : Loc Cert.KernelUpDx.nD Cert.KernelUpDx.τ Cert.KernelUpDx.sig) → Buf (Elt Bits) ℓ) (g : Dev Cert.KernelUpDx.nD → PrngReg), Pre_KernelUpDx m →
    θ_run (Cert.KernelUpDx.defs (F := Bits)) (onTc (τ := Cert.KernelUpDx.τ) (Cert.KernelUpDx.main (F := Bits))) ⟨m, fun _ => 0, g⟩ (fun r => (∀ c : Dev Cert.KernelUpDx.nD,
      r.2.mem ((c.tc : Thread Cert.KernelUpDx.nD Cert.KernelUpDx.τ).loc Cert.KernelUpDx.main_arg0) = m ((c.tc : Thread Cert.KernelUpDx.nD Cert.KernelUpDx.τ).loc Cert.KernelUpDx.main_arg0)
      ∧ r.2.mem ((c.tc : Thread Cert.KernelUpDx.nD Cert.KernelUpDx.τ).loc Cert.KernelUpDx.main_arg1) = m ((c.tc : Thread Cert.KernelUpDx.nD Cert.KernelUpDx.τ).loc Cert.KernelUpDx.main_arg1)
      ∧ r.2.mem ((c.tc : Thread Cert.KernelUpDx.nD Cert.KernelUpDx.τ).loc Cert.KernelUpDx.main_arg2) = m ((c.tc : Thread Cert.KernelUpDx.nD Cert.KernelUpDx.τ).loc Cert.KernelUpDx.main_arg2)
      ∧ r.2.mem ((c.tc : Thread Cert.KernelUpDx.nD Cert.KernelUpDx.τ).loc Cert.KernelUpDx.main_arg3) = m ((c.tc : Thread Cert.KernelUpDx.nD Cert.KernelUpDx.τ).loc Cert.KernelUpDx.main_arg3)
      ∧ r.2.mem ((c.tc : Thread Cert.KernelUpDx.nD Cert.KernelUpDx.τ).loc Cert.KernelUpDx.main_arg4) = m ((c.tc : Thread Cert.KernelUpDx.nD Cert.KernelUpDx.τ).loc Cert.KernelUpDx.main_arg4))
      ∧ r.2.sem = fun _ => 0)

def quiescent_KernelUpDxIdeal [hKernelUpDxIdeal : Cert.KernelUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg), Pre_KernelUpDxIdeal m →
    θ_run (Cert.KernelUpDxIdeal.defs (F := Ideal)) (onTc (τ := Cert.KernelUpDxIdeal.τ) (Cert.KernelUpDxIdeal.main (F := Ideal))) ⟨m, fun _ => 0, g⟩ (fun r => (∀ c : Dev Cert.KernelUpDxIdeal.nD,
      r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
      ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1)
      ∧ r.2.mem ((c.tc : Thread Cert.KernelUpDxIdeal.nD Cert.KernelUpDxIdeal.τ).loc Cert.KernelUpDxIdeal.main_arg2) = m ((c.tc : Thread Cert.KernelUpDxIdeal.nD Cert.KernelUpDxIdeal.τ).loc Cert.KernelUpDxIdeal.main_arg2)
      ∧ r.2.mem ((c.tc : Thread Cert.KernelUpDxIdeal.nD Cert.KernelUpDxIdeal.τ).loc Cert.KernelUpDxIdeal.main_arg3) = m ((c.tc : Thread Cert.KernelUpDxIdeal.nD Cert.KernelUpDxIdeal.τ).loc Cert.KernelUpDxIdeal.main_arg3)
      ∧ r.2.mem ((c.tc : Thread Cert.KernelUpDxIdeal.nD Cert.KernelUpDxIdeal.τ).loc Cert.KernelUpDxIdeal.main_arg4) = m ((c.tc : Thread Cert.KernelUpDxIdeal.nD Cert.KernelUpDxIdeal.τ).loc Cert.KernelUpDxIdeal.main_arg4))
      ∧ r.2.sem = fun _ => 0)

def quiescent_KernelUpDxIdeal_pre_finite_up_dx [hKernelUpDxIdeal : Cert.KernelUpDxIdeal.Facts] [hPre_finite_up_dx : Cert.Pre_finite_up_dx.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg), Pre_KernelUpDxIdeal_finite_up_dx m →
    θ_run (Cert.KernelUpDxIdeal.defs (F := Ideal)) (onTc (τ := Cert.KernelUpDxIdeal.τ) (Cert.KernelUpDxIdeal.main (F := Ideal))) ⟨m, fun _ => 0, g⟩ (fun r => (∀ c : Dev Cert.KernelUpDxIdeal.nD,
      r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
      ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1)
      ∧ r.2.mem ((c.tc : Thread Cert.KernelUpDxIdeal.nD Cert.KernelUpDxIdeal.τ).loc Cert.KernelUpDxIdeal.main_arg2) = m ((c.tc : Thread Cert.KernelUpDxIdeal.nD Cert.KernelUpDxIdeal.τ).loc Cert.KernelUpDxIdeal.main_arg2)
      ∧ r.2.mem ((c.tc : Thread Cert.KernelUpDxIdeal.nD Cert.KernelUpDxIdeal.τ).loc Cert.KernelUpDxIdeal.main_arg3) = m ((c.tc : Thread Cert.KernelUpDxIdeal.nD Cert.KernelUpDxIdeal.τ).loc Cert.KernelUpDxIdeal.main_arg3)
      ∧ r.2.mem ((c.tc : Thread Cert.KernelUpDxIdeal.nD Cert.KernelUpDxIdeal.τ).loc Cert.KernelUpDxIdeal.main_arg4) = m ((c.tc : Thread Cert.KernelUpDxIdeal.nD Cert.KernelUpDxIdeal.τ).loc Cert.KernelUpDxIdeal.main_arg4))
      ∧ r.2.sem = fun _ => 0)

def quiescent_ReferenceUpDxIdeal [hReferenceUpDxIdeal : Cert.ReferenceUpDxIdeal.Facts] : Prop :=
  ∀ (m : (ℓ : Loc Cert.ReferenceUpDxIdeal.nD Cert.ReferenceUpDxIdeal.τ Cert.ReferenceUpDxIdeal.sig) → Buf (Elt Ideal) ℓ) (g : Dev Cert.ReferenceUpDxIdeal.nD → PrngReg), Pre_ReferenceUpDxIdeal m →
    θ_run (Cert.ReferenceUpDxIdeal.defs (F := Ideal)) (onTc (τ := Cert.ReferenceUpDxIdeal.τ) (Cert.ReferenceUpDxIdeal.main (F := Ideal))) ⟨m, fun _ => 0, g⟩ (fun r => (∀ c : Dev Cert.ReferenceUpDxIdeal.nD,
      r.2.mem ((c.tc : Thread Cert.ReferenceUpDxIdeal.nD Cert.ReferenceUpDxIdeal.τ).loc Cert.ReferenceUpDxIdeal.main_arg0) = m ((c.tc : Thread Cert.ReferenceUpDxIdeal.nD Cert.ReferenceUpDxIdeal.τ).loc Cert.ReferenceUpDxIdeal.main_arg0)
      ∧ r.2.mem ((c.tc : Thread Cert.ReferenceUpDxIdeal.nD Cert.ReferenceUpDxIdeal.τ).loc Cert.ReferenceUpDxIdeal.main_arg1) = m ((c.tc : Thread Cert.ReferenceUpDxIdeal.nD Cert.ReferenceUpDxIdeal.τ).loc Cert.ReferenceUpDxIdeal.main_arg1)
      ∧ r.2.mem ((c.tc : Thread Cert.ReferenceUpDxIdeal.nD Cert.ReferenceUpDxIdeal.τ).loc Cert.ReferenceUpDxIdeal.main_arg2) = m ((c.tc : Thread Cert.ReferenceUpDxIdeal.nD Cert.ReferenceUpDxIdeal.τ).loc Cert.ReferenceUpDxIdeal.main_arg2)
      ∧ r.2.mem ((c.tc : Thread Cert.ReferenceUpDxIdeal.nD Cert.ReferenceUpDxIdeal.τ).loc Cert.ReferenceUpDxIdeal.main_arg3) = m ((c.tc : Thread Cert.ReferenceUpDxIdeal.nD Cert.ReferenceUpDxIdeal.τ).loc Cert.ReferenceUpDxIdeal.main_arg3)
      ∧ r.2.mem ((c.tc : Thread Cert.ReferenceUpDxIdeal.nD Cert.ReferenceUpDxIdeal.τ).loc Cert.ReferenceUpDxIdeal.main_arg4) = m ((c.tc : Thread Cert.ReferenceUpDxIdeal.nD Cert.ReferenceUpDxIdeal.τ).loc Cert.ReferenceUpDxIdeal.main_arg4))
      ∧ r.2.sem = fun _ => 0)

def quiescent_ReferenceUpDxIdeal_pre_finite_up_dx [hReferenceUpDxIdeal : Cert.ReferenceUpDxIdeal.Facts] [hPre_finite_up_dx : Cert.Pre_finite_up_dx.Facts] : Prop :=
  ∀ (m : (ℓ : Loc Cert.ReferenceUpDxIdeal.nD Cert.ReferenceUpDxIdeal.τ Cert.ReferenceUpDxIdeal.sig) → Buf (Elt Ideal) ℓ) (g : Dev Cert.ReferenceUpDxIdeal.nD → PrngReg), Pre_ReferenceUpDxIdeal_finite_up_dx m →
    θ_run (Cert.ReferenceUpDxIdeal.defs (F := Ideal)) (onTc (τ := Cert.ReferenceUpDxIdeal.τ) (Cert.ReferenceUpDxIdeal.main (F := Ideal))) ⟨m, fun _ => 0, g⟩ (fun r => (∀ c : Dev Cert.ReferenceUpDxIdeal.nD,
      r.2.mem ((c.tc : Thread Cert.ReferenceUpDxIdeal.nD Cert.ReferenceUpDxIdeal.τ).loc Cert.ReferenceUpDxIdeal.main_arg0) = m ((c.tc : Thread Cert.ReferenceUpDxIdeal.nD Cert.ReferenceUpDxIdeal.τ).loc Cert.ReferenceUpDxIdeal.main_arg0)
      ∧ r.2.mem ((c.tc : Thread Cert.ReferenceUpDxIdeal.nD Cert.ReferenceUpDxIdeal.τ).loc Cert.ReferenceUpDxIdeal.main_arg1) = m ((c.tc : Thread Cert.ReferenceUpDxIdeal.nD Cert.ReferenceUpDxIdeal.τ).loc Cert.ReferenceUpDxIdeal.main_arg1)
      ∧ r.2.mem ((c.tc : Thread Cert.ReferenceUpDxIdeal.nD Cert.ReferenceUpDxIdeal.τ).loc Cert.ReferenceUpDxIdeal.main_arg2) = m ((c.tc : Thread Cert.ReferenceUpDxIdeal.nD Cert.ReferenceUpDxIdeal.τ).loc Cert.ReferenceUpDxIdeal.main_arg2)
      ∧ r.2.mem ((c.tc : Thread Cert.ReferenceUpDxIdeal.nD Cert.ReferenceUpDxIdeal.τ).loc Cert.ReferenceUpDxIdeal.main_arg3) = m ((c.tc : Thread Cert.ReferenceUpDxIdeal.nD Cert.ReferenceUpDxIdeal.τ).loc Cert.ReferenceUpDxIdeal.main_arg3)
      ∧ r.2.mem ((c.tc : Thread Cert.ReferenceUpDxIdeal.nD Cert.ReferenceUpDxIdeal.τ).loc Cert.ReferenceUpDxIdeal.main_arg4) = m ((c.tc : Thread Cert.ReferenceUpDxIdeal.nD Cert.ReferenceUpDxIdeal.τ).loc Cert.ReferenceUpDxIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelInOwn [hKernelInOwn : Cert.KernelInOwn.Facts] : Prop :=
  ∀ (m : (ℓ : Loc Cert.KernelInOwn.nD Cert.KernelInOwn.τ Cert.KernelInOwn.sig) → Buf (Elt Bits) ℓ) (g : Dev Cert.KernelInOwn.nD → PrngReg), Pre_KernelInOwn m →
    θ_run (Cert.KernelInOwn.defs (F := Bits)) (onTc (τ := Cert.KernelInOwn.τ) (Cert.KernelInOwn.main (F := Bits))) ⟨m, fun _ => 0, g⟩ (fun r => (∀ c : Dev Cert.KernelInOwn.nD,
      r.2.mem ((c.tc : Thread Cert.KernelInOwn.nD Cert.KernelInOwn.τ).loc Cert.KernelInOwn.main_arg0) = m ((c.tc : Thread Cert.KernelInOwn.nD Cert.KernelInOwn.τ).loc Cert.KernelInOwn.main_arg0)
      ∧ r.2.mem ((c.tc : Thread Cert.KernelInOwn.nD Cert.KernelInOwn.τ).loc Cert.KernelInOwn.main_arg1) = m ((c.tc : Thread Cert.KernelInOwn.nD Cert.KernelInOwn.τ).loc Cert.KernelInOwn.main_arg1))
      ∧ r.2.sem = fun _ => 0)

def quiescent_KernelInOwnIdeal [hKernelInOwnIdeal : Cert.KernelInOwnIdeal.Facts] : Prop :=
  ∀ (m : (ℓ : Loc Cert.KernelInOwnIdeal.nD Cert.KernelInOwnIdeal.τ Cert.KernelInOwnIdeal.sig) → Buf (Elt Ideal) ℓ) (g : Dev Cert.KernelInOwnIdeal.nD → PrngReg), Pre_KernelInOwnIdeal m →
    θ_run (Cert.KernelInOwnIdeal.defs (F := Ideal)) (onTc (τ := Cert.KernelInOwnIdeal.τ) (Cert.KernelInOwnIdeal.main (F := Ideal))) ⟨m, fun _ => 0, g⟩ (fun r => (∀ c : Dev Cert.KernelInOwnIdeal.nD,
      r.2.mem ((c.tc : Thread Cert.KernelInOwnIdeal.nD Cert.KernelInOwnIdeal.τ).loc Cert.KernelInOwnIdeal.main_arg0) = m ((c.tc : Thread Cert.KernelInOwnIdeal.nD Cert.KernelInOwnIdeal.τ).loc Cert.KernelInOwnIdeal.main_arg0)
      ∧ r.2.mem ((c.tc : Thread Cert.KernelInOwnIdeal.nD Cert.KernelInOwnIdeal.τ).loc Cert.KernelInOwnIdeal.main_arg1) = m ((c.tc : Thread Cert.KernelInOwnIdeal.nD Cert.KernelInOwnIdeal.τ).loc Cert.KernelInOwnIdeal.main_arg1))
      ∧ r.2.sem = fun _ => 0)

def quiescent_ReferenceInOwnIdeal [hReferenceInOwnIdeal : Cert.ReferenceInOwnIdeal.Facts] : Prop :=
  ∀ (m : (ℓ : Loc Cert.ReferenceInOwnIdeal.nD Cert.ReferenceInOwnIdeal.τ Cert.ReferenceInOwnIdeal.sig) → Buf (Elt Ideal) ℓ) (g : Dev Cert.ReferenceInOwnIdeal.nD → PrngReg), Pre_ReferenceInOwnIdeal m →
    θ_run (Cert.ReferenceInOwnIdeal.defs (F := Ideal)) (onTc (τ := Cert.ReferenceInOwnIdeal.τ) (Cert.ReferenceInOwnIdeal.main (F := Ideal))) ⟨m, fun _ => 0, g⟩ (fun r => (∀ c : Dev Cert.ReferenceInOwnIdeal.nD,
      r.2.mem ((c.tc : Thread Cert.ReferenceInOwnIdeal.nD Cert.ReferenceInOwnIdeal.τ).loc Cert.ReferenceInOwnIdeal.main_arg0) = m ((c.tc : Thread Cert.ReferenceInOwnIdeal.nD Cert.ReferenceInOwnIdeal.τ).loc Cert.ReferenceInOwnIdeal.main_arg0)
      ∧ r.2.mem ((c.tc : Thread Cert.ReferenceInOwnIdeal.nD Cert.ReferenceInOwnIdeal.τ).loc Cert.ReferenceInOwnIdeal.main_arg1) = m ((c.tc : Thread Cert.ReferenceInOwnIdeal.nD Cert.ReferenceInOwnIdeal.τ).loc Cert.ReferenceInOwnIdeal.main_arg1))
      ∧ r.2.sem = fun _ => 0)

def quiescent_KernelInRest [hKernelInRest : Cert.KernelInRest.Facts] : Prop :=
  ∀ (m : (ℓ : Loc Cert.KernelInRest.nD Cert.KernelInRest.τ Cert.KernelInRest.sig) → Buf (Elt Bits) ℓ) (g : Dev Cert.KernelInRest.nD → PrngReg), Pre_KernelInRest m →
    θ_run (Cert.KernelInRest.defs (F := Bits)) (onTc (τ := Cert.KernelInRest.τ) (Cert.KernelInRest.main (F := Bits))) ⟨m, fun _ => 0, g⟩ (fun r => (∀ c : Dev Cert.KernelInRest.nD,
      r.2.mem ((c.tc : Thread Cert.KernelInRest.nD Cert.KernelInRest.τ).loc Cert.KernelInRest.main_arg0) = m ((c.tc : Thread Cert.KernelInRest.nD Cert.KernelInRest.τ).loc Cert.KernelInRest.main_arg0)
      ∧ r.2.mem ((c.tc : Thread Cert.KernelInRest.nD Cert.KernelInRest.τ).loc Cert.KernelInRest.main_arg1) = m ((c.tc : Thread Cert.KernelInRest.nD Cert.KernelInRest.τ).loc Cert.KernelInRest.main_arg1)
      ∧ r.2.mem ((c.tc : Thread Cert.KernelInRest.nD Cert.KernelInRest.τ).loc Cert.KernelInRest.main_arg2) = m ((c.tc : Thread Cert.KernelInRest.nD Cert.KernelInRest.τ).loc Cert.KernelInRest.main_arg2))
      ∧ r.2.sem = fun _ => 0)

def quiescent_KernelInRestIdeal [hKernelInRestIdeal : Cert.KernelInRestIdeal.Facts] : Prop :=
  ∀ (m : (ℓ : Loc Cert.KernelInRestIdeal.nD Cert.KernelInRestIdeal.τ Cert.KernelInRestIdeal.sig) → Buf (Elt Ideal) ℓ) (g : Dev Cert.KernelInRestIdeal.nD → PrngReg), Pre_KernelInRestIdeal m →
    θ_run (Cert.KernelInRestIdeal.defs (F := Ideal)) (onTc (τ := Cert.KernelInRestIdeal.τ) (Cert.KernelInRestIdeal.main (F := Ideal))) ⟨m, fun _ => 0, g⟩ (fun r => (∀ c : Dev Cert.KernelInRestIdeal.nD,
      r.2.mem ((c.tc : Thread Cert.KernelInRestIdeal.nD Cert.KernelInRestIdeal.τ).loc Cert.KernelInRestIdeal.main_arg0) = m ((c.tc : Thread Cert.KernelInRestIdeal.nD Cert.KernelInRestIdeal.τ).loc Cert.KernelInRestIdeal.main_arg0)
      ∧ r.2.mem ((c.tc : Thread Cert.KernelInRestIdeal.nD Cert.KernelInRestIdeal.τ).loc Cert.KernelInRestIdeal.main_arg1) = m ((c.tc : Thread Cert.KernelInRestIdeal.nD Cert.KernelInRestIdeal.τ).loc Cert.KernelInRestIdeal.main_arg1)
      ∧ r.2.mem ((c.tc : Thread Cert.KernelInRestIdeal.nD Cert.KernelInRestIdeal.τ).loc Cert.KernelInRestIdeal.main_arg2) = m ((c.tc : Thread Cert.KernelInRestIdeal.nD Cert.KernelInRestIdeal.τ).loc Cert.KernelInRestIdeal.main_arg2))
      ∧ r.2.sem = fun _ => 0)

def quiescent_ReferenceInRestIdeal [hReferenceInRestIdeal : Cert.ReferenceInRestIdeal.Facts] : Prop :=
  ∀ (m : (ℓ : Loc Cert.ReferenceInRestIdeal.nD Cert.ReferenceInRestIdeal.τ Cert.ReferenceInRestIdeal.sig) → Buf (Elt Ideal) ℓ) (g : Dev Cert.ReferenceInRestIdeal.nD → PrngReg), Pre_ReferenceInRestIdeal m →
    θ_run (Cert.ReferenceInRestIdeal.defs (F := Ideal)) (onTc (τ := Cert.ReferenceInRestIdeal.τ) (Cert.ReferenceInRestIdeal.main (F := Ideal))) ⟨m, fun _ => 0, g⟩ (fun r => (∀ c : Dev Cert.ReferenceInRestIdeal.nD,
      r.2.mem ((c.tc : Thread Cert.ReferenceInRestIdeal.nD Cert.ReferenceInRestIdeal.τ).loc Cert.ReferenceInRestIdeal.main_arg0) = m ((c.tc : Thread Cert.ReferenceInRestIdeal.nD Cert.ReferenceInRestIdeal.τ).loc Cert.ReferenceInRestIdeal.main_arg0)
      ∧ r.2.mem ((c.tc : Thread Cert.ReferenceInRestIdeal.nD Cert.ReferenceInRestIdeal.τ).loc Cert.ReferenceInRestIdeal.main_arg1) = m ((c.tc : Thread Cert.ReferenceInRestIdeal.nD Cert.ReferenceInRestIdeal.τ).loc Cert.ReferenceInRestIdeal.main_arg1)
      ∧ r.2.mem ((c.tc : Thread Cert.ReferenceInRestIdeal.nD Cert.ReferenceInRestIdeal.τ).loc Cert.ReferenceInRestIdeal.main_arg2) = m ((c.tc : Thread Cert.ReferenceInRestIdeal.nD Cert.ReferenceInRestIdeal.τ).loc Cert.ReferenceInRestIdeal.main_arg2))
      ∧ r.2.sem = fun _ => 0)

def quiescent_KernelWRows [hKernelWRows : Cert.KernelWRows.Facts] : Prop :=
  ∀ (m : (ℓ : Loc Cert.KernelWRows.nD Cert.KernelWRows.τ Cert.KernelWRows.sig) → Buf (Elt Bits) ℓ) (g : Dev Cert.KernelWRows.nD → PrngReg), Pre_KernelWRows m →
    θ_run (Cert.KernelWRows.defs (F := Bits)) (onTc (τ := Cert.KernelWRows.τ) (Cert.KernelWRows.main (F := Bits))) ⟨m, fun _ => 0, g⟩ (fun r => (∀ c : Dev Cert.KernelWRows.nD,
      r.2.mem ((c.tc : Thread Cert.KernelWRows.nD Cert.KernelWRows.τ).loc Cert.KernelWRows.main_arg0) = m ((c.tc : Thread Cert.KernelWRows.nD Cert.KernelWRows.τ).loc Cert.KernelWRows.main_arg0))
      ∧ r.2.sem = fun _ => 0)

def quiescent_KernelWRowsIdeal [hKernelWRowsIdeal : Cert.KernelWRowsIdeal.Facts] : Prop :=
  ∀ (m : (ℓ : Loc Cert.KernelWRowsIdeal.nD Cert.KernelWRowsIdeal.τ Cert.KernelWRowsIdeal.sig) → Buf (Elt Ideal) ℓ) (g : Dev Cert.KernelWRowsIdeal.nD → PrngReg), Pre_KernelWRowsIdeal m →
    θ_run (Cert.KernelWRowsIdeal.defs (F := Ideal)) (onTc (τ := Cert.KernelWRowsIdeal.τ) (Cert.KernelWRowsIdeal.main (F := Ideal))) ⟨m, fun _ => 0, g⟩ (fun r => (∀ c : Dev Cert.KernelWRowsIdeal.nD,
      r.2.mem ((c.tc : Thread Cert.KernelWRowsIdeal.nD Cert.KernelWRowsIdeal.τ).loc Cert.KernelWRowsIdeal.main_arg0) = m ((c.tc : Thread Cert.KernelWRowsIdeal.nD Cert.KernelWRowsIdeal.τ).loc Cert.KernelWRowsIdeal.main_arg0))
      ∧ r.2.sem = fun _ => 0)

def quiescent_ReferenceWRowsIdeal [hReferenceWRowsIdeal : Cert.ReferenceWRowsIdeal.Facts] : Prop :=
  ∀ (m : (ℓ : Loc Cert.ReferenceWRowsIdeal.nD Cert.ReferenceWRowsIdeal.τ Cert.ReferenceWRowsIdeal.sig) → Buf (Elt Ideal) ℓ) (g : Dev Cert.ReferenceWRowsIdeal.nD → PrngReg), Pre_ReferenceWRowsIdeal m →
    θ_run (Cert.ReferenceWRowsIdeal.defs (F := Ideal)) (onTc (τ := Cert.ReferenceWRowsIdeal.τ) (Cert.ReferenceWRowsIdeal.main (F := Ideal))) ⟨m, fun _ => 0, g⟩ (fun r => (∀ c : Dev Cert.ReferenceWRowsIdeal.nD,
      r.2.mem ((c.tc : Thread Cert.ReferenceWRowsIdeal.nD Cert.ReferenceWRowsIdeal.τ).loc Cert.ReferenceWRowsIdeal.main_arg0) = m ((c.tc : Thread Cert.ReferenceWRowsIdeal.nD Cert.ReferenceWRowsIdeal.τ).loc Cert.ReferenceWRowsIdeal.main_arg0))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1)
      ∧ r.2.mem ((c.tc : Thread Cert.KernelInDx.nD Cert.KernelInDx.τ).loc Cert.KernelInDx.main_arg2) = m ((c.tc : Thread Cert.KernelInDx.nD Cert.KernelInDx.τ).loc Cert.KernelInDx.main_arg2)
      ∧ r.2.mem ((c.tc : Thread Cert.KernelInDx.nD Cert.KernelInDx.τ).loc Cert.KernelInDx.main_arg3) = m ((c.tc : Thread Cert.KernelInDx.nD Cert.KernelInDx.τ).loc Cert.KernelInDx.main_arg3)
      ∧ r.2.mem ((c.tc : Thread Cert.KernelInDx.nD Cert.KernelInDx.τ).loc Cert.KernelInDx.main_arg4) = m ((c.tc : Thread Cert.KernelInDx.nD Cert.KernelInDx.τ).loc Cert.KernelInDx.main_arg4))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1)
      ∧ r.2.mem ((c.tc : Thread Cert.KernelInDxIdeal.nD Cert.KernelInDxIdeal.τ).loc Cert.KernelInDxIdeal.main_arg2) = m ((c.tc : Thread Cert.KernelInDxIdeal.nD Cert.KernelInDxIdeal.τ).loc Cert.KernelInDxIdeal.main_arg2)
      ∧ r.2.mem ((c.tc : Thread Cert.KernelInDxIdeal.nD Cert.KernelInDxIdeal.τ).loc Cert.KernelInDxIdeal.main_arg3) = m ((c.tc : Thread Cert.KernelInDxIdeal.nD Cert.KernelInDxIdeal.τ).loc Cert.KernelInDxIdeal.main_arg3)
      ∧ r.2.mem ((c.tc : Thread Cert.KernelInDxIdeal.nD Cert.KernelInDxIdeal.τ).loc Cert.KernelInDxIdeal.main_arg4) = m ((c.tc : Thread Cert.KernelInDxIdeal.nD Cert.KernelInDxIdeal.τ).loc Cert.KernelInDxIdeal.main_arg4))
      ∧ r.2.sem = fun _ => 0)

def quiescent_KernelInDxIdeal_pre_finite_in_dx [hKernelInDxIdeal : Cert.KernelInDxIdeal.Facts] [hPre_finite_in_dx : Cert.Pre_finite_in_dx.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal_finite_in_dx m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1)
      ∧ r.2.mem ((c.tc : Thread Cert.KernelInDxIdeal.nD Cert.KernelInDxIdeal.τ).loc Cert.KernelInDxIdeal.main_arg2) = m ((c.tc : Thread Cert.KernelInDxIdeal.nD Cert.KernelInDxIdeal.τ).loc Cert.KernelInDxIdeal.main_arg2)
      ∧ r.2.mem ((c.tc : Thread Cert.KernelInDxIdeal.nD Cert.KernelInDxIdeal.τ).loc Cert.KernelInDxIdeal.main_arg3) = m ((c.tc : Thread Cert.KernelInDxIdeal.nD Cert.KernelInDxIdeal.τ).loc Cert.KernelInDxIdeal.main_arg3)
      ∧ r.2.mem ((c.tc : Thread Cert.KernelInDxIdeal.nD Cert.KernelInDxIdeal.τ).loc Cert.KernelInDxIdeal.main_arg4) = m ((c.tc : Thread Cert.KernelInDxIdeal.nD Cert.KernelInDxIdeal.τ).loc Cert.KernelInDxIdeal.main_arg4))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1)
      ∧ r.2.mem ((c.tc : Thread Cert.ReferenceInDxIdeal.nD Cert.ReferenceInDxIdeal.τ).loc Cert.ReferenceInDxIdeal.main_arg2) = m ((c.tc : Thread Cert.ReferenceInDxIdeal.nD Cert.ReferenceInDxIdeal.τ).loc Cert.ReferenceInDxIdeal.main_arg2)
      ∧ r.2.mem ((c.tc : Thread Cert.ReferenceInDxIdeal.nD Cert.ReferenceInDxIdeal.τ).loc Cert.ReferenceInDxIdeal.main_arg3) = m ((c.tc : Thread Cert.ReferenceInDxIdeal.nD Cert.ReferenceInDxIdeal.τ).loc Cert.ReferenceInDxIdeal.main_arg3)
      ∧ r.2.mem ((c.tc : Thread Cert.ReferenceInDxIdeal.nD Cert.ReferenceInDxIdeal.τ).loc Cert.ReferenceInDxIdeal.main_arg4) = m ((c.tc : Thread Cert.ReferenceInDxIdeal.nD Cert.ReferenceInDxIdeal.τ).loc Cert.ReferenceInDxIdeal.main_arg4))
      ∧ r.2.sem = fun _ => 0)

def quiescent_ReferenceInDxIdeal_pre_finite_in_dx [hReferenceInDxIdeal : Cert.ReferenceInDxIdeal.Facts] [hPre_finite_in_dx : Cert.Pre_finite_in_dx.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal_finite_in_dx m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1)
      ∧ r.2.mem ((c.tc : Thread Cert.ReferenceInDxIdeal.nD Cert.ReferenceInDxIdeal.τ).loc Cert.ReferenceInDxIdeal.main_arg2) = m ((c.tc : Thread Cert.ReferenceInDxIdeal.nD Cert.ReferenceInDxIdeal.τ).loc Cert.ReferenceInDxIdeal.main_arg2)
      ∧ r.2.mem ((c.tc : Thread Cert.ReferenceInDxIdeal.nD Cert.ReferenceInDxIdeal.τ).loc Cert.ReferenceInDxIdeal.main_arg3) = m ((c.tc : Thread Cert.ReferenceInDxIdeal.nD Cert.ReferenceInDxIdeal.τ).loc Cert.ReferenceInDxIdeal.main_arg3)
      ∧ r.2.mem ((c.tc : Thread Cert.ReferenceInDxIdeal.nD Cert.ReferenceInDxIdeal.τ).loc Cert.ReferenceInDxIdeal.main_arg4) = m ((c.tc : Thread Cert.ReferenceInDxIdeal.nD Cert.ReferenceInDxIdeal.τ).loc Cert.ReferenceInDxIdeal.main_arg4))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3)
      ∧ r.2.mem ((c.tc : Thread Cert.KernelAdamDown.nD Cert.KernelAdamDown.τ).loc Cert.KernelAdamDown.main_arg4) = m ((c.tc : Thread Cert.KernelAdamDown.nD Cert.KernelAdamDown.τ).loc Cert.KernelAdamDown.main_arg4))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
      ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3)
      ∧ r.2.mem ((c.tc : Thread Cert.ReferenceAdamDownIdeal.nD Cert.ReferenceAdamDownIdeal.τ).loc Cert.ReferenceAdamDownIdeal.main_arg4) = m ((c.tc : Thread Cert.ReferenceAdamDownIdeal.nD Cert.ReferenceAdamDownIdeal.τ).loc Cert.ReferenceAdamDownIdeal.main_arg4))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3)
      ∧ r.2.mem ((c.tc : Thread Cert.KernelAdamUp.nD Cert.KernelAdamUp.τ).loc Cert.KernelAdamUp.main_arg4) = m ((c.tc : Thread Cert.KernelAdamUp.nD Cert.KernelAdamUp.τ).loc Cert.KernelAdamUp.main_arg4))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
      ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3)
      ∧ r.2.mem ((c.tc : Thread Cert.ReferenceAdamUpIdeal.nD Cert.ReferenceAdamUpIdeal.τ).loc Cert.ReferenceAdamUpIdeal.main_arg4) = m ((c.tc : Thread Cert.ReferenceAdamUpIdeal.nD Cert.ReferenceAdamUpIdeal.τ).loc Cert.ReferenceAdamUpIdeal.main_arg4))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3)
      ∧ r.2.mem ((c.tc : Thread Cert.KernelAdamOut.nD Cert.KernelAdamOut.τ).loc Cert.KernelAdamOut.main_arg4) = m ((c.tc : Thread Cert.KernelAdamOut.nD Cert.KernelAdamOut.τ).loc Cert.KernelAdamOut.main_arg4))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
      ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3)
      ∧ r.2.mem ((c.tc : Thread Cert.ReferenceAdamOutIdeal.nD Cert.ReferenceAdamOutIdeal.τ).loc Cert.ReferenceAdamOutIdeal.main_arg4) = m ((c.tc : Thread Cert.ReferenceAdamOutIdeal.nD Cert.ReferenceAdamOutIdeal.τ).loc Cert.ReferenceAdamOutIdeal.main_arg4))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3)
      ∧ r.2.mem ((c.tc : Thread Cert.KernelAdamIn.nD Cert.KernelAdamIn.τ).loc Cert.KernelAdamIn.main_arg4) = m ((c.tc : Thread Cert.KernelAdamIn.nD Cert.KernelAdamIn.τ).loc Cert.KernelAdamIn.main_arg4))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
      ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3)
      ∧ r.2.mem ((c.tc : Thread Cert.ReferenceAdamInIdeal.nD Cert.ReferenceAdamInIdeal.τ).loc Cert.ReferenceAdamInIdeal.main_arg4) = m ((c.tc : Thread Cert.ReferenceAdamInIdeal.nD Cert.ReferenceAdamInIdeal.τ).loc Cert.ReferenceAdamInIdeal.main_arg4))
      ∧ r.2.sem = fun _ => 0)

def quiescent_KernelAdamLru [hKernelAdamLru : Cert.KernelAdamLru.Facts] : Prop :=
  ∀ (m : (ℓ : Loc Cert.KernelAdamLru.nD Cert.KernelAdamLru.τ Cert.KernelAdamLru.sig) → Buf (Elt Bits) ℓ) (g : Dev Cert.KernelAdamLru.nD → PrngReg), Pre_KernelAdamLru m →
    θ_run (Cert.KernelAdamLru.defs (F := Bits)) (onTc (τ := Cert.KernelAdamLru.τ) (Cert.KernelAdamLru.main (F := Bits))) ⟨m, fun _ => 0, g⟩ (fun r => (∀ c : Dev Cert.KernelAdamLru.nD,
      r.2.mem ((c.tc : Thread Cert.KernelAdamLru.nD Cert.KernelAdamLru.τ).loc Cert.KernelAdamLru.main_arg0) = m ((c.tc : Thread Cert.KernelAdamLru.nD Cert.KernelAdamLru.τ).loc Cert.KernelAdamLru.main_arg0)
      ∧ r.2.mem ((c.tc : Thread Cert.KernelAdamLru.nD Cert.KernelAdamLru.τ).loc Cert.KernelAdamLru.main_arg1) = m ((c.tc : Thread Cert.KernelAdamLru.nD Cert.KernelAdamLru.τ).loc Cert.KernelAdamLru.main_arg1)
      ∧ r.2.mem ((c.tc : Thread Cert.KernelAdamLru.nD Cert.KernelAdamLru.τ).loc Cert.KernelAdamLru.main_arg2) = m ((c.tc : Thread Cert.KernelAdamLru.nD Cert.KernelAdamLru.τ).loc Cert.KernelAdamLru.main_arg2)
      ∧ r.2.mem ((c.tc : Thread Cert.KernelAdamLru.nD Cert.KernelAdamLru.τ).loc Cert.KernelAdamLru.main_arg3) = m ((c.tc : Thread Cert.KernelAdamLru.nD Cert.KernelAdamLru.τ).loc Cert.KernelAdamLru.main_arg3))
      ∧ r.2.sem = fun _ => 0)

def quiescent_KernelAdamLruIdeal [hKernelAdamLruIdeal : Cert.KernelAdamLruIdeal.Facts] : Prop :=
  ∀ (m : (ℓ : Loc Cert.KernelAdamLruIdeal.nD Cert.KernelAdamLruIdeal.τ Cert.KernelAdamLruIdeal.sig) → Buf (Elt Ideal) ℓ) (g : Dev Cert.KernelAdamLruIdeal.nD → PrngReg), Pre_KernelAdamLruIdeal m →
    θ_run (Cert.KernelAdamLruIdeal.defs (F := Ideal)) (onTc (τ := Cert.KernelAdamLruIdeal.τ) (Cert.KernelAdamLruIdeal.main (F := Ideal))) ⟨m, fun _ => 0, g⟩ (fun r => (∀ c : Dev Cert.KernelAdamLruIdeal.nD,
      r.2.mem ((c.tc : Thread Cert.KernelAdamLruIdeal.nD Cert.KernelAdamLruIdeal.τ).loc Cert.KernelAdamLruIdeal.main_arg0) = m ((c.tc : Thread Cert.KernelAdamLruIdeal.nD Cert.KernelAdamLruIdeal.τ).loc Cert.KernelAdamLruIdeal.main_arg0)
      ∧ r.2.mem ((c.tc : Thread Cert.KernelAdamLruIdeal.nD Cert.KernelAdamLruIdeal.τ).loc Cert.KernelAdamLruIdeal.main_arg1) = m ((c.tc : Thread Cert.KernelAdamLruIdeal.nD Cert.KernelAdamLruIdeal.τ).loc Cert.KernelAdamLruIdeal.main_arg1)
      ∧ r.2.mem ((c.tc : Thread Cert.KernelAdamLruIdeal.nD Cert.KernelAdamLruIdeal.τ).loc Cert.KernelAdamLruIdeal.main_arg2) = m ((c.tc : Thread Cert.KernelAdamLruIdeal.nD Cert.KernelAdamLruIdeal.τ).loc Cert.KernelAdamLruIdeal.main_arg2)
      ∧ r.2.mem ((c.tc : Thread Cert.KernelAdamLruIdeal.nD Cert.KernelAdamLruIdeal.τ).loc Cert.KernelAdamLruIdeal.main_arg3) = m ((c.tc : Thread Cert.KernelAdamLruIdeal.nD Cert.KernelAdamLruIdeal.τ).loc Cert.KernelAdamLruIdeal.main_arg3))
      ∧ r.2.sem = fun _ => 0)

def quiescent_ReferenceAdamLruIdeal [hReferenceAdamLruIdeal : Cert.ReferenceAdamLruIdeal.Facts] : Prop :=
  ∀ (m : (ℓ : Loc Cert.ReferenceAdamLruIdeal.nD Cert.ReferenceAdamLruIdeal.τ Cert.ReferenceAdamLruIdeal.sig) → Buf (Elt Ideal) ℓ) (g : Dev Cert.ReferenceAdamLruIdeal.nD → PrngReg), Pre_ReferenceAdamLruIdeal m →
    θ_run (Cert.ReferenceAdamLruIdeal.defs (F := Ideal)) (onTc (τ := Cert.ReferenceAdamLruIdeal.τ) (Cert.ReferenceAdamLruIdeal.main (F := Ideal))) ⟨m, fun _ => 0, g⟩ (fun r => (∀ c : Dev Cert.ReferenceAdamLruIdeal.nD,
      r.2.mem ((c.tc : Thread Cert.ReferenceAdamLruIdeal.nD Cert.ReferenceAdamLruIdeal.τ).loc Cert.ReferenceAdamLruIdeal.main_arg0) = m ((c.tc : Thread Cert.ReferenceAdamLruIdeal.nD Cert.ReferenceAdamLruIdeal.τ).loc Cert.ReferenceAdamLruIdeal.main_arg0)
      ∧ r.2.mem ((c.tc : Thread Cert.ReferenceAdamLruIdeal.nD Cert.ReferenceAdamLruIdeal.τ).loc Cert.ReferenceAdamLruIdeal.main_arg1) = m ((c.tc : Thread Cert.ReferenceAdamLruIdeal.nD Cert.ReferenceAdamLruIdeal.τ).loc Cert.ReferenceAdamLruIdeal.main_arg1)
      ∧ r.2.mem ((c.tc : Thread Cert.ReferenceAdamLruIdeal.nD Cert.ReferenceAdamLruIdeal.τ).loc Cert.ReferenceAdamLruIdeal.main_arg2) = m ((c.tc : Thread Cert.ReferenceAdamLruIdeal.nD Cert.ReferenceAdamLruIdeal.τ).loc Cert.ReferenceAdamLruIdeal.main_arg2)
      ∧ r.2.mem ((c.tc : Thread Cert.ReferenceAdamLruIdeal.nD Cert.ReferenceAdamLruIdeal.τ).loc Cert.ReferenceAdamLruIdeal.main_arg3) = m ((c.tc : Thread Cert.ReferenceAdamLruIdeal.nD Cert.ReferenceAdamLruIdeal.τ).loc Cert.ReferenceAdamLruIdeal.main_arg3))
      ∧ r.2.sem = fun _ => 0)

def quiescent_KernelAdamConv [hKernelAdamConv : Cert.KernelAdamConv.Facts] : Prop :=
  ∀ (m : (ℓ : Loc Cert.KernelAdamConv.nD Cert.KernelAdamConv.τ Cert.KernelAdamConv.sig) → Buf (Elt Bits) ℓ) (g : Dev Cert.KernelAdamConv.nD → PrngReg), Pre_KernelAdamConv m →
    θ_run (Cert.KernelAdamConv.defs (F := Bits)) (onTc (τ := Cert.KernelAdamConv.τ) (Cert.KernelAdamConv.main (F := Bits))) ⟨m, fun _ => 0, g⟩ (fun r => (∀ c : Dev Cert.KernelAdamConv.nD,
      r.2.mem ((c.tc : Thread Cert.KernelAdamConv.nD Cert.KernelAdamConv.τ).loc Cert.KernelAdamConv.main_arg0) = m ((c.tc : Thread Cert.KernelAdamConv.nD Cert.KernelAdamConv.τ).loc Cert.KernelAdamConv.main_arg0)
      ∧ r.2.mem ((c.tc : Thread Cert.KernelAdamConv.nD Cert.KernelAdamConv.τ).loc Cert.KernelAdamConv.main_arg1) = m ((c.tc : Thread Cert.KernelAdamConv.nD Cert.KernelAdamConv.τ).loc Cert.KernelAdamConv.main_arg1)
      ∧ r.2.mem ((c.tc : Thread Cert.KernelAdamConv.nD Cert.KernelAdamConv.τ).loc Cert.KernelAdamConv.main_arg2) = m ((c.tc : Thread Cert.KernelAdamConv.nD Cert.KernelAdamConv.τ).loc Cert.KernelAdamConv.main_arg2)
      ∧ r.2.mem ((c.tc : Thread Cert.KernelAdamConv.nD Cert.KernelAdamConv.τ).loc Cert.KernelAdamConv.main_arg3) = m ((c.tc : Thread Cert.KernelAdamConv.nD Cert.KernelAdamConv.τ).loc Cert.KernelAdamConv.main_arg3))
      ∧ r.2.sem = fun _ => 0)

def quiescent_KernelAdamConvIdeal [hKernelAdamConvIdeal : Cert.KernelAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg), Pre_KernelAdamConvIdeal m →
    θ_run (Cert.KernelAdamConvIdeal.defs (F := Ideal)) (onTc (τ := Cert.KernelAdamConvIdeal.τ) (Cert.KernelAdamConvIdeal.main (F := Ideal))) ⟨m, fun _ => 0, g⟩ (fun r => (∀ c : Dev Cert.KernelAdamConvIdeal.nD,
      r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
      ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
      ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
      ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ r.2.sem = fun _ => 0)

def quiescent_ReferenceAdamConvIdeal [hReferenceAdamConvIdeal : Cert.ReferenceAdamConvIdeal.Facts] : Prop :=
  ∀ (m : (ℓ : Loc Cert.ReferenceAdamConvIdeal.nD Cert.ReferenceAdamConvIdeal.τ Cert.ReferenceAdamConvIdeal.sig) → Buf (Elt Ideal) ℓ) (g : Dev Cert.ReferenceAdamConvIdeal.nD → PrngReg), Pre_ReferenceAdamConvIdeal m →
    θ_run (Cert.ReferenceAdamConvIdeal.defs (F := Ideal)) (onTc (τ := Cert.ReferenceAdamConvIdeal.τ) (Cert.ReferenceAdamConvIdeal.main (F := Ideal))) ⟨m, fun _ => 0, g⟩ (fun r => (∀ c : Dev Cert.ReferenceAdamConvIdeal.nD,
      r.2.mem ((c.tc : Thread Cert.ReferenceAdamConvIdeal.nD Cert.ReferenceAdamConvIdeal.τ).loc Cert.ReferenceAdamConvIdeal.main_arg0) = m ((c.tc : Thread Cert.ReferenceAdamConvIdeal.nD Cert.ReferenceAdamConvIdeal.τ).loc Cert.ReferenceAdamConvIdeal.main_arg0)
      ∧ r.2.mem ((c.tc : Thread Cert.ReferenceAdamConvIdeal.nD Cert.ReferenceAdamConvIdeal.τ).loc Cert.ReferenceAdamConvIdeal.main_arg1) = m ((c.tc : Thread Cert.ReferenceAdamConvIdeal.nD Cert.ReferenceAdamConvIdeal.τ).loc Cert.ReferenceAdamConvIdeal.main_arg1)
      ∧ r.2.mem ((c.tc : Thread Cert.ReferenceAdamConvIdeal.nD Cert.ReferenceAdamConvIdeal.τ).loc Cert.ReferenceAdamConvIdeal.main_arg2) = m ((c.tc : Thread Cert.ReferenceAdamConvIdeal.nD Cert.ReferenceAdamConvIdeal.τ).loc Cert.ReferenceAdamConvIdeal.main_arg2)
      ∧ r.2.mem ((c.tc : Thread Cert.ReferenceAdamConvIdeal.nD Cert.ReferenceAdamConvIdeal.τ).loc Cert.ReferenceAdamConvIdeal.main_arg3) = m ((c.tc : Thread Cert.ReferenceAdamConvIdeal.nD Cert.ReferenceAdamConvIdeal.τ).loc Cert.ReferenceAdamConvIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3)
      ∧ r.2.mem ((c.tc : Thread Cert.KernelAdamSmall.nD Cert.KernelAdamSmall.τ).loc Cert.KernelAdamSmall.main_arg4) = m ((c.tc : Thread Cert.KernelAdamSmall.nD Cert.KernelAdamSmall.τ).loc Cert.KernelAdamSmall.main_arg4)
      ∧ r.2.mem ((c.tc : Thread Cert.KernelAdamSmall.nD Cert.KernelAdamSmall.τ).loc Cert.KernelAdamSmall.main_arg5) = m ((c.tc : Thread Cert.KernelAdamSmall.nD Cert.KernelAdamSmall.τ).loc Cert.KernelAdamSmall.main_arg5)
      ∧ r.2.mem ((c.tc : Thread Cert.KernelAdamSmall.nD Cert.KernelAdamSmall.τ).loc Cert.KernelAdamSmall.main_arg6) = m ((c.tc : Thread Cert.KernelAdamSmall.nD Cert.KernelAdamSmall.τ).loc Cert.KernelAdamSmall.main_arg6)
      ∧ r.2.mem ((c.tc : Thread Cert.KernelAdamSmall.nD Cert.KernelAdamSmall.τ).loc Cert.KernelAdamSmall.main_arg7) = m ((c.tc : Thread Cert.KernelAdamSmall.nD Cert.KernelAdamSmall.τ).loc Cert.KernelAdamSmall.main_arg7)
      ∧ r.2.mem ((c.tc : Thread Cert.KernelAdamSmall.nD Cert.KernelAdamSmall.τ).loc Cert.KernelAdamSmall.main_arg8) = m ((c.tc : Thread Cert.KernelAdamSmall.nD Cert.KernelAdamSmall.τ).loc Cert.KernelAdamSmall.main_arg8)
      ∧ r.2.mem ((c.tc : Thread Cert.KernelAdamSmall.nD Cert.KernelAdamSmall.τ).loc Cert.KernelAdamSmall.main_arg9) = m ((c.tc : Thread Cert.KernelAdamSmall.nD Cert.KernelAdamSmall.τ).loc Cert.KernelAdamSmall.main_arg9)
      ∧ r.2.mem ((c.tc : Thread Cert.KernelAdamSmall.nD Cert.KernelAdamSmall.τ).loc Cert.KernelAdamSmall.main_arg10) = m ((c.tc : Thread Cert.KernelAdamSmall.nD Cert.KernelAdamSmall.τ).loc Cert.KernelAdamSmall.main_arg10)
      ∧ r.2.mem ((c.tc : Thread Cert.KernelAdamSmall.nD Cert.KernelAdamSmall.τ).loc Cert.KernelAdamSmall.main_arg11) = m ((c.tc : Thread Cert.KernelAdamSmall.nD Cert.KernelAdamSmall.τ).loc Cert.KernelAdamSmall.main_arg11)
      ∧ r.2.mem ((c.tc : Thread Cert.KernelAdamSmall.nD Cert.KernelAdamSmall.τ).loc Cert.KernelAdamSmall.main_arg12) = m ((c.tc : Thread Cert.KernelAdamSmall.nD Cert.KernelAdamSmall.τ).loc Cert.KernelAdamSmall.main_arg12)
      ∧ r.2.mem ((c.tc : Thread Cert.KernelAdamSmall.nD Cert.KernelAdamSmall.τ).loc Cert.KernelAdamSmall.main_arg13) = m ((c.tc : Thread Cert.KernelAdamSmall.nD Cert.KernelAdamSmall.τ).loc Cert.KernelAdamSmall.main_arg13)
      ∧ r.2.mem ((c.tc : Thread Cert.KernelAdamSmall.nD Cert.KernelAdamSmall.τ).loc Cert.KernelAdamSmall.main_arg14) = m ((c.tc : Thread Cert.KernelAdamSmall.nD Cert.KernelAdamSmall.τ).loc Cert.KernelAdamSmall.main_arg14)
      ∧ r.2.mem ((c.tc : Thread Cert.KernelAdamSmall.nD Cert.KernelAdamSmall.τ).loc Cert.KernelAdamSmall.main_arg15) = m ((c.tc : Thread Cert.KernelAdamSmall.nD Cert.KernelAdamSmall.τ).loc Cert.KernelAdamSmall.main_arg15)
      ∧ r.2.mem ((c.tc : Thread Cert.KernelAdamSmall.nD Cert.KernelAdamSmall.τ).loc Cert.KernelAdamSmall.main_arg16) = m ((c.tc : Thread Cert.KernelAdamSmall.nD Cert.KernelAdamSmall.τ).loc Cert.KernelAdamSmall.main_arg16)
      ∧ r.2.mem ((c.tc : Thread Cert.KernelAdamSmall.nD Cert.KernelAdamSmall.τ).loc Cert.KernelAdamSmall.main_arg17) = m ((c.tc : Thread Cert.KernelAdamSmall.nD Cert.KernelAdamSmall.τ).loc Cert.KernelAdamSmall.main_arg17)
      ∧ r.2.mem ((c.tc : Thread Cert.KernelAdamSmall.nD Cert.KernelAdamSmall.τ).loc Cert.KernelAdamSmall.main_arg18) = m ((c.tc : Thread Cert.KernelAdamSmall.nD Cert.KernelAdamSmall.τ).loc Cert.KernelAdamSmall.main_arg18)
      ∧ r.2.mem ((c.tc : Thread Cert.KernelAdamSmall.nD Cert.KernelAdamSmall.τ).loc Cert.KernelAdamSmall.main_arg19) = m ((c.tc : Thread Cert.KernelAdamSmall.nD Cert.KernelAdamSmall.τ).loc Cert.KernelAdamSmall.main_arg19)
      ∧ r.2.mem ((c.tc : Thread Cert.KernelAdamSmall.nD Cert.KernelAdamSmall.τ).loc Cert.KernelAdamSmall.main_arg20) = m ((c.tc : Thread Cert.KernelAdamSmall.nD Cert.KernelAdamSmall.τ).loc Cert.KernelAdamSmall.main_arg20)
      ∧ r.2.mem ((c.tc : Thread Cert.KernelAdamSmall.nD Cert.KernelAdamSmall.τ).loc Cert.KernelAdamSmall.main_arg21) = m ((c.tc : Thread Cert.KernelAdamSmall.nD Cert.KernelAdamSmall.τ).loc Cert.KernelAdamSmall.main_arg21)
      ∧ r.2.mem ((c.tc : Thread Cert.KernelAdamSmall.nD Cert.KernelAdamSmall.τ).loc Cert.KernelAdamSmall.main_arg22) = m ((c.tc : Thread Cert.KernelAdamSmall.nD Cert.KernelAdamSmall.τ).loc Cert.KernelAdamSmall.main_arg22)
      ∧ r.2.mem ((c.tc : Thread Cert.KernelAdamSmall.nD Cert.KernelAdamSmall.τ).loc Cert.KernelAdamSmall.main_arg23) = m ((c.tc : Thread Cert.KernelAdamSmall.nD Cert.KernelAdamSmall.τ).loc Cert.KernelAdamSmall.main_arg23)
      ∧ r.2.mem ((c.tc : Thread Cert.KernelAdamSmall.nD Cert.KernelAdamSmall.τ).loc Cert.KernelAdamSmall.main_arg24) = m ((c.tc : Thread Cert.KernelAdamSmall.nD Cert.KernelAdamSmall.τ).loc Cert.KernelAdamSmall.main_arg24)
      ∧ r.2.mem ((c.tc : Thread Cert.KernelAdamSmall.nD Cert.KernelAdamSmall.τ).loc Cert.KernelAdamSmall.main_arg25) = m ((c.tc : Thread Cert.KernelAdamSmall.nD Cert.KernelAdamSmall.τ).loc Cert.KernelAdamSmall.main_arg25)
      ∧ r.2.mem ((c.tc : Thread Cert.KernelAdamSmall.nD Cert.KernelAdamSmall.τ).loc Cert.KernelAdamSmall.main_arg26) = m ((c.tc : Thread Cert.KernelAdamSmall.nD Cert.KernelAdamSmall.τ).loc Cert.KernelAdamSmall.main_arg26)
      ∧ r.2.mem ((c.tc : Thread Cert.KernelAdamSmall.nD Cert.KernelAdamSmall.τ).loc Cert.KernelAdamSmall.main_arg27) = m ((c.tc : Thread Cert.KernelAdamSmall.nD Cert.KernelAdamSmall.τ).loc Cert.KernelAdamSmall.main_arg27)
      ∧ r.2.mem ((c.tc : Thread Cert.KernelAdamSmall.nD Cert.KernelAdamSmall.τ).loc Cert.KernelAdamSmall.main_arg28) = m ((c.tc : Thread Cert.KernelAdamSmall.nD Cert.KernelAdamSmall.τ).loc Cert.KernelAdamSmall.main_arg28)
      ∧ r.2.mem ((c.tc : Thread Cert.KernelAdamSmall.nD Cert.KernelAdamSmall.τ).loc Cert.KernelAdamSmall.main_arg29) = m ((c.tc : Thread Cert.KernelAdamSmall.nD Cert.KernelAdamSmall.τ).loc Cert.KernelAdamSmall.main_arg29)
      ∧ r.2.mem ((c.tc : Thread Cert.KernelAdamSmall.nD Cert.KernelAdamSmall.τ).loc Cert.KernelAdamSmall.main_arg30) = m ((c.tc : Thread Cert.KernelAdamSmall.nD Cert.KernelAdamSmall.τ).loc Cert.KernelAdamSmall.main_arg30)
      ∧ r.2.mem ((c.tc : Thread Cert.KernelAdamSmall.nD Cert.KernelAdamSmall.τ).loc Cert.KernelAdamSmall.main_arg31) = m ((c.tc : Thread Cert.KernelAdamSmall.nD Cert.KernelAdamSmall.τ).loc Cert.KernelAdamSmall.main_arg31)
      ∧ r.2.mem ((c.tc : Thread Cert.KernelAdamSmall.nD Cert.KernelAdamSmall.τ).loc Cert.KernelAdamSmall.main_arg32) = m ((c.tc : Thread Cert.KernelAdamSmall.nD Cert.KernelAdamSmall.τ).loc Cert.KernelAdamSmall.main_arg32)
      ∧ r.2.mem ((c.tc : Thread Cert.KernelAdamSmall.nD Cert.KernelAdamSmall.τ).loc Cert.KernelAdamSmall.main_arg33) = m ((c.tc : Thread Cert.KernelAdamSmall.nD Cert.KernelAdamSmall.τ).loc Cert.KernelAdamSmall.main_arg33)
      ∧ r.2.mem ((c.tc : Thread Cert.KernelAdamSmall.nD Cert.KernelAdamSmall.τ).loc Cert.KernelAdamSmall.main_arg34) = m ((c.tc : Thread Cert.KernelAdamSmall.nD Cert.KernelAdamSmall.τ).loc Cert.KernelAdamSmall.main_arg34)
      ∧ r.2.mem ((c.tc : Thread Cert.KernelAdamSmall.nD Cert.KernelAdamSmall.τ).loc Cert.KernelAdamSmall.main_arg35) = m ((c.tc : Thread Cert.KernelAdamSmall.nD Cert.KernelAdamSmall.τ).loc Cert.KernelAdamSmall.main_arg35)
      ∧ r.2.mem ((c.tc : Thread Cert.KernelAdamSmall.nD Cert.KernelAdamSmall.τ).loc Cert.KernelAdamSmall.main_arg36) = m ((c.tc : Thread Cert.KernelAdamSmall.nD Cert.KernelAdamSmall.τ).loc Cert.KernelAdamSmall.main_arg36)
      ∧ r.2.mem ((c.tc : Thread Cert.KernelAdamSmall.nD Cert.KernelAdamSmall.τ).loc Cert.KernelAdamSmall.main_arg37) = m ((c.tc : Thread Cert.KernelAdamSmall.nD Cert.KernelAdamSmall.τ).loc Cert.KernelAdamSmall.main_arg37)
      ∧ r.2.mem ((c.tc : Thread Cert.KernelAdamSmall.nD Cert.KernelAdamSmall.τ).loc Cert.KernelAdamSmall.main_arg38) = m ((c.tc : Thread Cert.KernelAdamSmall.nD Cert.KernelAdamSmall.τ).loc Cert.KernelAdamSmall.main_arg38)
      ∧ r.2.mem ((c.tc : Thread Cert.KernelAdamSmall.nD Cert.KernelAdamSmall.τ).loc Cert.KernelAdamSmall.main_arg39) = m ((c.tc : Thread Cert.KernelAdamSmall.nD Cert.KernelAdamSmall.τ).loc Cert.KernelAdamSmall.main_arg39)
      ∧ r.2.mem ((c.tc : Thread Cert.KernelAdamSmall.nD Cert.KernelAdamSmall.τ).loc Cert.KernelAdamSmall.main_arg40) = m ((c.tc : Thread Cert.KernelAdamSmall.nD Cert.KernelAdamSmall.τ).loc Cert.KernelAdamSmall.main_arg40)
      ∧ r.2.mem ((c.tc : Thread Cert.KernelAdamSmall.nD Cert.KernelAdamSmall.τ).loc Cert.KernelAdamSmall.main_arg41) = m ((c.tc : Thread Cert.KernelAdamSmall.nD Cert.KernelAdamSmall.τ).loc Cert.KernelAdamSmall.main_arg41)
      ∧ r.2.mem ((c.tc : Thread Cert.KernelAdamSmall.nD Cert.KernelAdamSmall.τ).loc Cert.KernelAdamSmall.main_arg42) = m ((c.tc : Thread Cert.KernelAdamSmall.nD Cert.KernelAdamSmall.τ).loc Cert.KernelAdamSmall.main_arg42)
      ∧ r.2.mem ((c.tc : Thread Cert.KernelAdamSmall.nD Cert.KernelAdamSmall.τ).loc Cert.KernelAdamSmall.main_arg43) = m ((c.tc : Thread Cert.KernelAdamSmall.nD Cert.KernelAdamSmall.τ).loc Cert.KernelAdamSmall.main_arg43)
      ∧ r.2.mem ((c.tc : Thread Cert.KernelAdamSmall.nD Cert.KernelAdamSmall.τ).loc Cert.KernelAdamSmall.main_arg44) = m ((c.tc : Thread Cert.KernelAdamSmall.nD Cert.KernelAdamSmall.τ).loc Cert.KernelAdamSmall.main_arg44)
      ∧ r.2.mem ((c.tc : Thread Cert.KernelAdamSmall.nD Cert.KernelAdamSmall.τ).loc Cert.KernelAdamSmall.main_arg45) = m ((c.tc : Thread Cert.KernelAdamSmall.nD Cert.KernelAdamSmall.τ).loc Cert.KernelAdamSmall.main_arg45)
      ∧ r.2.mem ((c.tc : Thread Cert.KernelAdamSmall.nD Cert.KernelAdamSmall.τ).loc Cert.KernelAdamSmall.main_arg46) = m ((c.tc : Thread Cert.KernelAdamSmall.nD Cert.KernelAdamSmall.τ).loc Cert.KernelAdamSmall.main_arg46)
      ∧ r.2.mem ((c.tc : Thread Cert.KernelAdamSmall.nD Cert.KernelAdamSmall.τ).loc Cert.KernelAdamSmall.main_arg47) = m ((c.tc : Thread Cert.KernelAdamSmall.nD Cert.KernelAdamSmall.τ).loc Cert.KernelAdamSmall.main_arg47)
      ∧ r.2.mem ((c.tc : Thread Cert.KernelAdamSmall.nD Cert.KernelAdamSmall.τ).loc Cert.KernelAdamSmall.main_arg48) = m ((c.tc : Thread Cert.KernelAdamSmall.nD Cert.KernelAdamSmall.τ).loc Cert.KernelAdamSmall.main_arg48)
      ∧ r.2.mem ((c.tc : Thread Cert.KernelAdamSmall.nD Cert.KernelAdamSmall.τ).loc Cert.KernelAdamSmall.main_arg49) = m ((c.tc : Thread Cert.KernelAdamSmall.nD Cert.KernelAdamSmall.τ).loc Cert.KernelAdamSmall.main_arg49)
      ∧ r.2.mem ((c.tc : Thread Cert.KernelAdamSmall.nD Cert.KernelAdamSmall.τ).loc Cert.KernelAdamSmall.main_arg50) = m ((c.tc : Thread Cert.KernelAdamSmall.nD Cert.KernelAdamSmall.τ).loc Cert.KernelAdamSmall.main_arg50)
      ∧ r.2.mem ((c.tc : Thread Cert.KernelAdamSmall.nD Cert.KernelAdamSmall.τ).loc Cert.KernelAdamSmall.main_arg51) = m ((c.tc : Thread Cert.KernelAdamSmall.nD Cert.KernelAdamSmall.τ).loc Cert.KernelAdamSmall.main_arg51)
      ∧ r.2.mem ((c.tc : Thread Cert.KernelAdamSmall.nD Cert.KernelAdamSmall.τ).loc Cert.KernelAdamSmall.main_arg52) = m ((c.tc : Thread Cert.KernelAdamSmall.nD Cert.KernelAdamSmall.τ).loc Cert.KernelAdamSmall.main_arg52)
      ∧ r.2.mem ((c.tc : Thread Cert.KernelAdamSmall.nD Cert.KernelAdamSmall.τ).loc Cert.KernelAdamSmall.main_arg53) = m ((c.tc : Thread Cert.KernelAdamSmall.nD Cert.KernelAdamSmall.τ).loc Cert.KernelAdamSmall.main_arg53)
      ∧ r.2.mem ((c.tc : Thread Cert.KernelAdamSmall.nD Cert.KernelAdamSmall.τ).loc Cert.KernelAdamSmall.main_arg54) = m ((c.tc : Thread Cert.KernelAdamSmall.nD Cert.KernelAdamSmall.τ).loc Cert.KernelAdamSmall.main_arg54)
      ∧ r.2.mem ((c.tc : Thread Cert.KernelAdamSmall.nD Cert.KernelAdamSmall.τ).loc Cert.KernelAdamSmall.main_arg55) = m ((c.tc : Thread Cert.KernelAdamSmall.nD Cert.KernelAdamSmall.τ).loc Cert.KernelAdamSmall.main_arg55)
      ∧ r.2.mem ((c.tc : Thread Cert.KernelAdamSmall.nD Cert.KernelAdamSmall.τ).loc Cert.KernelAdamSmall.main_arg56) = m ((c.tc : Thread Cert.KernelAdamSmall.nD Cert.KernelAdamSmall.τ).loc Cert.KernelAdamSmall.main_arg56)
      ∧ r.2.mem ((c.tc : Thread Cert.KernelAdamSmall.nD Cert.KernelAdamSmall.τ).loc Cert.KernelAdamSmall.main_arg57) = m ((c.tc : Thread Cert.KernelAdamSmall.nD Cert.KernelAdamSmall.τ).loc Cert.KernelAdamSmall.main_arg57)
      ∧ r.2.mem ((c.tc : Thread Cert.KernelAdamSmall.nD Cert.KernelAdamSmall.τ).loc Cert.KernelAdamSmall.main_arg58) = m ((c.tc : Thread Cert.KernelAdamSmall.nD Cert.KernelAdamSmall.τ).loc Cert.KernelAdamSmall.main_arg58)
      ∧ r.2.mem ((c.tc : Thread Cert.KernelAdamSmall.nD Cert.KernelAdamSmall.τ).loc Cert.KernelAdamSmall.main_arg59) = m ((c.tc : Thread Cert.KernelAdamSmall.nD Cert.KernelAdamSmall.τ).loc Cert.KernelAdamSmall.main_arg59)
      ∧ r.2.mem ((c.tc : Thread Cert.KernelAdamSmall.nD Cert.KernelAdamSmall.τ).loc Cert.KernelAdamSmall.main_arg60) = m ((c.tc : Thread Cert.KernelAdamSmall.nD Cert.KernelAdamSmall.τ).loc Cert.KernelAdamSmall.main_arg60)
      ∧ r.2.mem ((c.tc : Thread Cert.KernelAdamSmall.nD Cert.KernelAdamSmall.τ).loc Cert.KernelAdamSmall.main_arg61) = m ((c.tc : Thread Cert.KernelAdamSmall.nD Cert.KernelAdamSmall.τ).loc Cert.KernelAdamSmall.main_arg61)
      ∧ r.2.mem ((c.tc : Thread Cert.KernelAdamSmall.nD Cert.KernelAdamSmall.τ).loc Cert.KernelAdamSmall.main_arg62) = m ((c.tc : Thread Cert.KernelAdamSmall.nD Cert.KernelAdamSmall.τ).loc Cert.KernelAdamSmall.main_arg62)
      ∧ r.2.mem ((c.tc : Thread Cert.KernelAdamSmall.nD Cert.KernelAdamSmall.τ).loc Cert.KernelAdamSmall.main_arg63) = m ((c.tc : Thread Cert.KernelAdamSmall.nD Cert.KernelAdamSmall.τ).loc Cert.KernelAdamSmall.main_arg63)
      ∧ r.2.mem ((c.tc : Thread Cert.KernelAdamSmall.nD Cert.KernelAdamSmall.τ).loc Cert.KernelAdamSmall.main_arg64) = m ((c.tc : Thread Cert.KernelAdamSmall.nD Cert.KernelAdamSmall.τ).loc Cert.KernelAdamSmall.main_arg64)
      ∧ r.2.mem ((c.tc : Thread Cert.KernelAdamSmall.nD Cert.KernelAdamSmall.τ).loc Cert.KernelAdamSmall.main_arg65) = m ((c.tc : Thread Cert.KernelAdamSmall.nD Cert.KernelAdamSmall.τ).loc Cert.KernelAdamSmall.main_arg65))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3)
      ∧ r.2.mem ((c.tc : Thread Cert.KernelAdamSmallIdeal.nD Cert.KernelAdamSmallIdeal.τ).loc Cert.KernelAdamSmallIdeal.main_arg4) = m ((c.tc : Thread Cert.KernelAdamSmallIdeal.nD Cert.KernelAdamSmallIdeal.τ).loc Cert.KernelAdamSmallIdeal.main_arg4)
      ∧ r.2.mem ((c.tc : Thread Cert.KernelAdamSmallIdeal.nD Cert.KernelAdamSmallIdeal.τ).loc Cert.KernelAdamSmallIdeal.main_arg5) = m ((c.tc : Thread Cert.KernelAdamSmallIdeal.nD Cert.KernelAdamSmallIdeal.τ).loc Cert.KernelAdamSmallIdeal.main_arg5)
      ∧ r.2.mem ((c.tc : Thread Cert.KernelAdamSmallIdeal.nD Cert.KernelAdamSmallIdeal.τ).loc Cert.KernelAdamSmallIdeal.main_arg6) = m ((c.tc : Thread Cert.KernelAdamSmallIdeal.nD Cert.KernelAdamSmallIdeal.τ).loc Cert.KernelAdamSmallIdeal.main_arg6)
      ∧ r.2.mem ((c.tc : Thread Cert.KernelAdamSmallIdeal.nD Cert.KernelAdamSmallIdeal.τ).loc Cert.KernelAdamSmallIdeal.main_arg7) = m ((c.tc : Thread Cert.KernelAdamSmallIdeal.nD Cert.KernelAdamSmallIdeal.τ).loc Cert.KernelAdamSmallIdeal.main_arg7)
      ∧ r.2.mem ((c.tc : Thread Cert.KernelAdamSmallIdeal.nD Cert.KernelAdamSmallIdeal.τ).loc Cert.KernelAdamSmallIdeal.main_arg8) = m ((c.tc : Thread Cert.KernelAdamSmallIdeal.nD Cert.KernelAdamSmallIdeal.τ).loc Cert.KernelAdamSmallIdeal.main_arg8)
      ∧ r.2.mem ((c.tc : Thread Cert.KernelAdamSmallIdeal.nD Cert.KernelAdamSmallIdeal.τ).loc Cert.KernelAdamSmallIdeal.main_arg9) = m ((c.tc : Thread Cert.KernelAdamSmallIdeal.nD Cert.KernelAdamSmallIdeal.τ).loc Cert.KernelAdamSmallIdeal.main_arg9)
      ∧ r.2.mem ((c.tc : Thread Cert.KernelAdamSmallIdeal.nD Cert.KernelAdamSmallIdeal.τ).loc Cert.KernelAdamSmallIdeal.main_arg10) = m ((c.tc : Thread Cert.KernelAdamSmallIdeal.nD Cert.KernelAdamSmallIdeal.τ).loc Cert.KernelAdamSmallIdeal.main_arg10)
      ∧ r.2.mem ((c.tc : Thread Cert.KernelAdamSmallIdeal.nD Cert.KernelAdamSmallIdeal.τ).loc Cert.KernelAdamSmallIdeal.main_arg11) = m ((c.tc : Thread Cert.KernelAdamSmallIdeal.nD Cert.KernelAdamSmallIdeal.τ).loc Cert.KernelAdamSmallIdeal.main_arg11)
      ∧ r.2.mem ((c.tc : Thread Cert.KernelAdamSmallIdeal.nD Cert.KernelAdamSmallIdeal.τ).loc Cert.KernelAdamSmallIdeal.main_arg12) = m ((c.tc : Thread Cert.KernelAdamSmallIdeal.nD Cert.KernelAdamSmallIdeal.τ).loc Cert.KernelAdamSmallIdeal.main_arg12)
      ∧ r.2.mem ((c.tc : Thread Cert.KernelAdamSmallIdeal.nD Cert.KernelAdamSmallIdeal.τ).loc Cert.KernelAdamSmallIdeal.main_arg13) = m ((c.tc : Thread Cert.KernelAdamSmallIdeal.nD Cert.KernelAdamSmallIdeal.τ).loc Cert.KernelAdamSmallIdeal.main_arg13)
      ∧ r.2.mem ((c.tc : Thread Cert.KernelAdamSmallIdeal.nD Cert.KernelAdamSmallIdeal.τ).loc Cert.KernelAdamSmallIdeal.main_arg14) = m ((c.tc : Thread Cert.KernelAdamSmallIdeal.nD Cert.KernelAdamSmallIdeal.τ).loc Cert.KernelAdamSmallIdeal.main_arg14)
      ∧ r.2.mem ((c.tc : Thread Cert.KernelAdamSmallIdeal.nD Cert.KernelAdamSmallIdeal.τ).loc Cert.KernelAdamSmallIdeal.main_arg15) = m ((c.tc : Thread Cert.KernelAdamSmallIdeal.nD Cert.KernelAdamSmallIdeal.τ).loc Cert.KernelAdamSmallIdeal.main_arg15)
      ∧ r.2.mem ((c.tc : Thread Cert.KernelAdamSmallIdeal.nD Cert.KernelAdamSmallIdeal.τ).loc Cert.KernelAdamSmallIdeal.main_arg16) = m ((c.tc : Thread Cert.KernelAdamSmallIdeal.nD Cert.KernelAdamSmallIdeal.τ).loc Cert.KernelAdamSmallIdeal.main_arg16)
      ∧ r.2.mem ((c.tc : Thread Cert.KernelAdamSmallIdeal.nD Cert.KernelAdamSmallIdeal.τ).loc Cert.KernelAdamSmallIdeal.main_arg17) = m ((c.tc : Thread Cert.KernelAdamSmallIdeal.nD Cert.KernelAdamSmallIdeal.τ).loc Cert.KernelAdamSmallIdeal.main_arg17)
      ∧ r.2.mem ((c.tc : Thread Cert.KernelAdamSmallIdeal.nD Cert.KernelAdamSmallIdeal.τ).loc Cert.KernelAdamSmallIdeal.main_arg18) = m ((c.tc : Thread Cert.KernelAdamSmallIdeal.nD Cert.KernelAdamSmallIdeal.τ).loc Cert.KernelAdamSmallIdeal.main_arg18)
      ∧ r.2.mem ((c.tc : Thread Cert.KernelAdamSmallIdeal.nD Cert.KernelAdamSmallIdeal.τ).loc Cert.KernelAdamSmallIdeal.main_arg19) = m ((c.tc : Thread Cert.KernelAdamSmallIdeal.nD Cert.KernelAdamSmallIdeal.τ).loc Cert.KernelAdamSmallIdeal.main_arg19)
      ∧ r.2.mem ((c.tc : Thread Cert.KernelAdamSmallIdeal.nD Cert.KernelAdamSmallIdeal.τ).loc Cert.KernelAdamSmallIdeal.main_arg20) = m ((c.tc : Thread Cert.KernelAdamSmallIdeal.nD Cert.KernelAdamSmallIdeal.τ).loc Cert.KernelAdamSmallIdeal.main_arg20)
      ∧ r.2.mem ((c.tc : Thread Cert.KernelAdamSmallIdeal.nD Cert.KernelAdamSmallIdeal.τ).loc Cert.KernelAdamSmallIdeal.main_arg21) = m ((c.tc : Thread Cert.KernelAdamSmallIdeal.nD Cert.KernelAdamSmallIdeal.τ).loc Cert.KernelAdamSmallIdeal.main_arg21)
      ∧ r.2.mem ((c.tc : Thread Cert.KernelAdamSmallIdeal.nD Cert.KernelAdamSmallIdeal.τ).loc Cert.KernelAdamSmallIdeal.main_arg22) = m ((c.tc : Thread Cert.KernelAdamSmallIdeal.nD Cert.KernelAdamSmallIdeal.τ).loc Cert.KernelAdamSmallIdeal.main_arg22)
      ∧ r.2.mem ((c.tc : Thread Cert.KernelAdamSmallIdeal.nD Cert.KernelAdamSmallIdeal.τ).loc Cert.KernelAdamSmallIdeal.main_arg23) = m ((c.tc : Thread Cert.KernelAdamSmallIdeal.nD Cert.KernelAdamSmallIdeal.τ).loc Cert.KernelAdamSmallIdeal.main_arg23)
      ∧ r.2.mem ((c.tc : Thread Cert.KernelAdamSmallIdeal.nD Cert.KernelAdamSmallIdeal.τ).loc Cert.KernelAdamSmallIdeal.main_arg24) = m ((c.tc : Thread Cert.KernelAdamSmallIdeal.nD Cert.KernelAdamSmallIdeal.τ).loc Cert.KernelAdamSmallIdeal.main_arg24)
      ∧ r.2.mem ((c.tc : Thread Cert.KernelAdamSmallIdeal.nD Cert.KernelAdamSmallIdeal.τ).loc Cert.KernelAdamSmallIdeal.main_arg25) = m ((c.tc : Thread Cert.KernelAdamSmallIdeal.nD Cert.KernelAdamSmallIdeal.τ).loc Cert.KernelAdamSmallIdeal.main_arg25)
      ∧ r.2.mem ((c.tc : Thread Cert.KernelAdamSmallIdeal.nD Cert.KernelAdamSmallIdeal.τ).loc Cert.KernelAdamSmallIdeal.main_arg26) = m ((c.tc : Thread Cert.KernelAdamSmallIdeal.nD Cert.KernelAdamSmallIdeal.τ).loc Cert.KernelAdamSmallIdeal.main_arg26)
      ∧ r.2.mem ((c.tc : Thread Cert.KernelAdamSmallIdeal.nD Cert.KernelAdamSmallIdeal.τ).loc Cert.KernelAdamSmallIdeal.main_arg27) = m ((c.tc : Thread Cert.KernelAdamSmallIdeal.nD Cert.KernelAdamSmallIdeal.τ).loc Cert.KernelAdamSmallIdeal.main_arg27)
      ∧ r.2.mem ((c.tc : Thread Cert.KernelAdamSmallIdeal.nD Cert.KernelAdamSmallIdeal.τ).loc Cert.KernelAdamSmallIdeal.main_arg28) = m ((c.tc : Thread Cert.KernelAdamSmallIdeal.nD Cert.KernelAdamSmallIdeal.τ).loc Cert.KernelAdamSmallIdeal.main_arg28)
      ∧ r.2.mem ((c.tc : Thread Cert.KernelAdamSmallIdeal.nD Cert.KernelAdamSmallIdeal.τ).loc Cert.KernelAdamSmallIdeal.main_arg29) = m ((c.tc : Thread Cert.KernelAdamSmallIdeal.nD Cert.KernelAdamSmallIdeal.τ).loc Cert.KernelAdamSmallIdeal.main_arg29)
      ∧ r.2.mem ((c.tc : Thread Cert.KernelAdamSmallIdeal.nD Cert.KernelAdamSmallIdeal.τ).loc Cert.KernelAdamSmallIdeal.main_arg30) = m ((c.tc : Thread Cert.KernelAdamSmallIdeal.nD Cert.KernelAdamSmallIdeal.τ).loc Cert.KernelAdamSmallIdeal.main_arg30)
      ∧ r.2.mem ((c.tc : Thread Cert.KernelAdamSmallIdeal.nD Cert.KernelAdamSmallIdeal.τ).loc Cert.KernelAdamSmallIdeal.main_arg31) = m ((c.tc : Thread Cert.KernelAdamSmallIdeal.nD Cert.KernelAdamSmallIdeal.τ).loc Cert.KernelAdamSmallIdeal.main_arg31)
      ∧ r.2.mem ((c.tc : Thread Cert.KernelAdamSmallIdeal.nD Cert.KernelAdamSmallIdeal.τ).loc Cert.KernelAdamSmallIdeal.main_arg32) = m ((c.tc : Thread Cert.KernelAdamSmallIdeal.nD Cert.KernelAdamSmallIdeal.τ).loc Cert.KernelAdamSmallIdeal.main_arg32)
      ∧ r.2.mem ((c.tc : Thread Cert.KernelAdamSmallIdeal.nD Cert.KernelAdamSmallIdeal.τ).loc Cert.KernelAdamSmallIdeal.main_arg33) = m ((c.tc : Thread Cert.KernelAdamSmallIdeal.nD Cert.KernelAdamSmallIdeal.τ).loc Cert.KernelAdamSmallIdeal.main_arg33)
      ∧ r.2.mem ((c.tc : Thread Cert.KernelAdamSmallIdeal.nD Cert.KernelAdamSmallIdeal.τ).loc Cert.KernelAdamSmallIdeal.main_arg34) = m ((c.tc : Thread Cert.KernelAdamSmallIdeal.nD Cert.KernelAdamSmallIdeal.τ).loc Cert.KernelAdamSmallIdeal.main_arg34)
      ∧ r.2.mem ((c.tc : Thread Cert.KernelAdamSmallIdeal.nD Cert.KernelAdamSmallIdeal.τ).loc Cert.KernelAdamSmallIdeal.main_arg35) = m ((c.tc : Thread Cert.KernelAdamSmallIdeal.nD Cert.KernelAdamSmallIdeal.τ).loc Cert.KernelAdamSmallIdeal.main_arg35)
      ∧ r.2.mem ((c.tc : Thread Cert.KernelAdamSmallIdeal.nD Cert.KernelAdamSmallIdeal.τ).loc Cert.KernelAdamSmallIdeal.main_arg36) = m ((c.tc : Thread Cert.KernelAdamSmallIdeal.nD Cert.KernelAdamSmallIdeal.τ).loc Cert.KernelAdamSmallIdeal.main_arg36)
      ∧ r.2.mem ((c.tc : Thread Cert.KernelAdamSmallIdeal.nD Cert.KernelAdamSmallIdeal.τ).loc Cert.KernelAdamSmallIdeal.main_arg37) = m ((c.tc : Thread Cert.KernelAdamSmallIdeal.nD Cert.KernelAdamSmallIdeal.τ).loc Cert.KernelAdamSmallIdeal.main_arg37)
      ∧ r.2.mem ((c.tc : Thread Cert.KernelAdamSmallIdeal.nD Cert.KernelAdamSmallIdeal.τ).loc Cert.KernelAdamSmallIdeal.main_arg38) = m ((c.tc : Thread Cert.KernelAdamSmallIdeal.nD Cert.KernelAdamSmallIdeal.τ).loc Cert.KernelAdamSmallIdeal.main_arg38)
      ∧ r.2.mem ((c.tc : Thread Cert.KernelAdamSmallIdeal.nD Cert.KernelAdamSmallIdeal.τ).loc Cert.KernelAdamSmallIdeal.main_arg39) = m ((c.tc : Thread Cert.KernelAdamSmallIdeal.nD Cert.KernelAdamSmallIdeal.τ).loc Cert.KernelAdamSmallIdeal.main_arg39)
      ∧ r.2.mem ((c.tc : Thread Cert.KernelAdamSmallIdeal.nD Cert.KernelAdamSmallIdeal.τ).loc Cert.KernelAdamSmallIdeal.main_arg40) = m ((c.tc : Thread Cert.KernelAdamSmallIdeal.nD Cert.KernelAdamSmallIdeal.τ).loc Cert.KernelAdamSmallIdeal.main_arg40)
      ∧ r.2.mem ((c.tc : Thread Cert.KernelAdamSmallIdeal.nD Cert.KernelAdamSmallIdeal.τ).loc Cert.KernelAdamSmallIdeal.main_arg41) = m ((c.tc : Thread Cert.KernelAdamSmallIdeal.nD Cert.KernelAdamSmallIdeal.τ).loc Cert.KernelAdamSmallIdeal.main_arg41)
      ∧ r.2.mem ((c.tc : Thread Cert.KernelAdamSmallIdeal.nD Cert.KernelAdamSmallIdeal.τ).loc Cert.KernelAdamSmallIdeal.main_arg42) = m ((c.tc : Thread Cert.KernelAdamSmallIdeal.nD Cert.KernelAdamSmallIdeal.τ).loc Cert.KernelAdamSmallIdeal.main_arg42)
      ∧ r.2.mem ((c.tc : Thread Cert.KernelAdamSmallIdeal.nD Cert.KernelAdamSmallIdeal.τ).loc Cert.KernelAdamSmallIdeal.main_arg43) = m ((c.tc : Thread Cert.KernelAdamSmallIdeal.nD Cert.KernelAdamSmallIdeal.τ).loc Cert.KernelAdamSmallIdeal.main_arg43)
      ∧ r.2.mem ((c.tc : Thread Cert.KernelAdamSmallIdeal.nD Cert.KernelAdamSmallIdeal.τ).loc Cert.KernelAdamSmallIdeal.main_arg44) = m ((c.tc : Thread Cert.KernelAdamSmallIdeal.nD Cert.KernelAdamSmallIdeal.τ).loc Cert.KernelAdamSmallIdeal.main_arg44)
      ∧ r.2.mem ((c.tc : Thread Cert.KernelAdamSmallIdeal.nD Cert.KernelAdamSmallIdeal.τ).loc Cert.KernelAdamSmallIdeal.main_arg45) = m ((c.tc : Thread Cert.KernelAdamSmallIdeal.nD Cert.KernelAdamSmallIdeal.τ).loc Cert.KernelAdamSmallIdeal.main_arg45)
      ∧ r.2.mem ((c.tc : Thread Cert.KernelAdamSmallIdeal.nD Cert.KernelAdamSmallIdeal.τ).loc Cert.KernelAdamSmallIdeal.main_arg46) = m ((c.tc : Thread Cert.KernelAdamSmallIdeal.nD Cert.KernelAdamSmallIdeal.τ).loc Cert.KernelAdamSmallIdeal.main_arg46)
      ∧ r.2.mem ((c.tc : Thread Cert.KernelAdamSmallIdeal.nD Cert.KernelAdamSmallIdeal.τ).loc Cert.KernelAdamSmallIdeal.main_arg47) = m ((c.tc : Thread Cert.KernelAdamSmallIdeal.nD Cert.KernelAdamSmallIdeal.τ).loc Cert.KernelAdamSmallIdeal.main_arg47)
      ∧ r.2.mem ((c.tc : Thread Cert.KernelAdamSmallIdeal.nD Cert.KernelAdamSmallIdeal.τ).loc Cert.KernelAdamSmallIdeal.main_arg48) = m ((c.tc : Thread Cert.KernelAdamSmallIdeal.nD Cert.KernelAdamSmallIdeal.τ).loc Cert.KernelAdamSmallIdeal.main_arg48)
      ∧ r.2.mem ((c.tc : Thread Cert.KernelAdamSmallIdeal.nD Cert.KernelAdamSmallIdeal.τ).loc Cert.KernelAdamSmallIdeal.main_arg49) = m ((c.tc : Thread Cert.KernelAdamSmallIdeal.nD Cert.KernelAdamSmallIdeal.τ).loc Cert.KernelAdamSmallIdeal.main_arg49)
      ∧ r.2.mem ((c.tc : Thread Cert.KernelAdamSmallIdeal.nD Cert.KernelAdamSmallIdeal.τ).loc Cert.KernelAdamSmallIdeal.main_arg50) = m ((c.tc : Thread Cert.KernelAdamSmallIdeal.nD Cert.KernelAdamSmallIdeal.τ).loc Cert.KernelAdamSmallIdeal.main_arg50)
      ∧ r.2.mem ((c.tc : Thread Cert.KernelAdamSmallIdeal.nD Cert.KernelAdamSmallIdeal.τ).loc Cert.KernelAdamSmallIdeal.main_arg51) = m ((c.tc : Thread Cert.KernelAdamSmallIdeal.nD Cert.KernelAdamSmallIdeal.τ).loc Cert.KernelAdamSmallIdeal.main_arg51)
      ∧ r.2.mem ((c.tc : Thread Cert.KernelAdamSmallIdeal.nD Cert.KernelAdamSmallIdeal.τ).loc Cert.KernelAdamSmallIdeal.main_arg52) = m ((c.tc : Thread Cert.KernelAdamSmallIdeal.nD Cert.KernelAdamSmallIdeal.τ).loc Cert.KernelAdamSmallIdeal.main_arg52)
      ∧ r.2.mem ((c.tc : Thread Cert.KernelAdamSmallIdeal.nD Cert.KernelAdamSmallIdeal.τ).loc Cert.KernelAdamSmallIdeal.main_arg53) = m ((c.tc : Thread Cert.KernelAdamSmallIdeal.nD Cert.KernelAdamSmallIdeal.τ).loc Cert.KernelAdamSmallIdeal.main_arg53)
      ∧ r.2.mem ((c.tc : Thread Cert.KernelAdamSmallIdeal.nD Cert.KernelAdamSmallIdeal.τ).loc Cert.KernelAdamSmallIdeal.main_arg54) = m ((c.tc : Thread Cert.KernelAdamSmallIdeal.nD Cert.KernelAdamSmallIdeal.τ).loc Cert.KernelAdamSmallIdeal.main_arg54)
      ∧ r.2.mem ((c.tc : Thread Cert.KernelAdamSmallIdeal.nD Cert.KernelAdamSmallIdeal.τ).loc Cert.KernelAdamSmallIdeal.main_arg55) = m ((c.tc : Thread Cert.KernelAdamSmallIdeal.nD Cert.KernelAdamSmallIdeal.τ).loc Cert.KernelAdamSmallIdeal.main_arg55)
      ∧ r.2.mem ((c.tc : Thread Cert.KernelAdamSmallIdeal.nD Cert.KernelAdamSmallIdeal.τ).loc Cert.KernelAdamSmallIdeal.main_arg56) = m ((c.tc : Thread Cert.KernelAdamSmallIdeal.nD Cert.KernelAdamSmallIdeal.τ).loc Cert.KernelAdamSmallIdeal.main_arg56)
      ∧ r.2.mem ((c.tc : Thread Cert.KernelAdamSmallIdeal.nD Cert.KernelAdamSmallIdeal.τ).loc Cert.KernelAdamSmallIdeal.main_arg57) = m ((c.tc : Thread Cert.KernelAdamSmallIdeal.nD Cert.KernelAdamSmallIdeal.τ).loc Cert.KernelAdamSmallIdeal.main_arg57)
      ∧ r.2.mem ((c.tc : Thread Cert.KernelAdamSmallIdeal.nD Cert.KernelAdamSmallIdeal.τ).loc Cert.KernelAdamSmallIdeal.main_arg58) = m ((c.tc : Thread Cert.KernelAdamSmallIdeal.nD Cert.KernelAdamSmallIdeal.τ).loc Cert.KernelAdamSmallIdeal.main_arg58)
      ∧ r.2.mem ((c.tc : Thread Cert.KernelAdamSmallIdeal.nD Cert.KernelAdamSmallIdeal.τ).loc Cert.KernelAdamSmallIdeal.main_arg59) = m ((c.tc : Thread Cert.KernelAdamSmallIdeal.nD Cert.KernelAdamSmallIdeal.τ).loc Cert.KernelAdamSmallIdeal.main_arg59)
      ∧ r.2.mem ((c.tc : Thread Cert.KernelAdamSmallIdeal.nD Cert.KernelAdamSmallIdeal.τ).loc Cert.KernelAdamSmallIdeal.main_arg60) = m ((c.tc : Thread Cert.KernelAdamSmallIdeal.nD Cert.KernelAdamSmallIdeal.τ).loc Cert.KernelAdamSmallIdeal.main_arg60)
      ∧ r.2.mem ((c.tc : Thread Cert.KernelAdamSmallIdeal.nD Cert.KernelAdamSmallIdeal.τ).loc Cert.KernelAdamSmallIdeal.main_arg61) = m ((c.tc : Thread Cert.KernelAdamSmallIdeal.nD Cert.KernelAdamSmallIdeal.τ).loc Cert.KernelAdamSmallIdeal.main_arg61)
      ∧ r.2.mem ((c.tc : Thread Cert.KernelAdamSmallIdeal.nD Cert.KernelAdamSmallIdeal.τ).loc Cert.KernelAdamSmallIdeal.main_arg62) = m ((c.tc : Thread Cert.KernelAdamSmallIdeal.nD Cert.KernelAdamSmallIdeal.τ).loc Cert.KernelAdamSmallIdeal.main_arg62)
      ∧ r.2.mem ((c.tc : Thread Cert.KernelAdamSmallIdeal.nD Cert.KernelAdamSmallIdeal.τ).loc Cert.KernelAdamSmallIdeal.main_arg63) = m ((c.tc : Thread Cert.KernelAdamSmallIdeal.nD Cert.KernelAdamSmallIdeal.τ).loc Cert.KernelAdamSmallIdeal.main_arg63)
      ∧ r.2.mem ((c.tc : Thread Cert.KernelAdamSmallIdeal.nD Cert.KernelAdamSmallIdeal.τ).loc Cert.KernelAdamSmallIdeal.main_arg64) = m ((c.tc : Thread Cert.KernelAdamSmallIdeal.nD Cert.KernelAdamSmallIdeal.τ).loc Cert.KernelAdamSmallIdeal.main_arg64)
      ∧ r.2.mem ((c.tc : Thread Cert.KernelAdamSmallIdeal.nD Cert.KernelAdamSmallIdeal.τ).loc Cert.KernelAdamSmallIdeal.main_arg65) = m ((c.tc : Thread Cert.KernelAdamSmallIdeal.nD Cert.KernelAdamSmallIdeal.τ).loc Cert.KernelAdamSmallIdeal.main_arg65))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3)
      ∧ r.2.mem ((c.tc : Thread Cert.ReferenceAdamSmallIdeal.nD Cert.ReferenceAdamSmallIdeal.τ).loc Cert.ReferenceAdamSmallIdeal.main_arg4) = m ((c.tc : Thread Cert.ReferenceAdamSmallIdeal.nD Cert.ReferenceAdamSmallIdeal.τ).loc Cert.ReferenceAdamSmallIdeal.main_arg4)
      ∧ r.2.mem ((c.tc : Thread Cert.ReferenceAdamSmallIdeal.nD Cert.ReferenceAdamSmallIdeal.τ).loc Cert.ReferenceAdamSmallIdeal.main_arg5) = m ((c.tc : Thread Cert.ReferenceAdamSmallIdeal.nD Cert.ReferenceAdamSmallIdeal.τ).loc Cert.ReferenceAdamSmallIdeal.main_arg5)
      ∧ r.2.mem ((c.tc : Thread Cert.ReferenceAdamSmallIdeal.nD Cert.ReferenceAdamSmallIdeal.τ).loc Cert.ReferenceAdamSmallIdeal.main_arg6) = m ((c.tc : Thread Cert.ReferenceAdamSmallIdeal.nD Cert.ReferenceAdamSmallIdeal.τ).loc Cert.ReferenceAdamSmallIdeal.main_arg6)
      ∧ r.2.mem ((c.tc : Thread Cert.ReferenceAdamSmallIdeal.nD Cert.ReferenceAdamSmallIdeal.τ).loc Cert.ReferenceAdamSmallIdeal.main_arg7) = m ((c.tc : Thread Cert.ReferenceAdamSmallIdeal.nD Cert.ReferenceAdamSmallIdeal.τ).loc Cert.ReferenceAdamSmallIdeal.main_arg7)
      ∧ r.2.mem ((c.tc : Thread Cert.ReferenceAdamSmallIdeal.nD Cert.ReferenceAdamSmallIdeal.τ).loc Cert.ReferenceAdamSmallIdeal.main_arg8) = m ((c.tc : Thread Cert.ReferenceAdamSmallIdeal.nD Cert.ReferenceAdamSmallIdeal.τ).loc Cert.ReferenceAdamSmallIdeal.main_arg8)
      ∧ r.2.mem ((c.tc : Thread Cert.ReferenceAdamSmallIdeal.nD Cert.ReferenceAdamSmallIdeal.τ).loc Cert.ReferenceAdamSmallIdeal.main_arg9) = m ((c.tc : Thread Cert.ReferenceAdamSmallIdeal.nD Cert.ReferenceAdamSmallIdeal.τ).loc Cert.ReferenceAdamSmallIdeal.main_arg9)
      ∧ r.2.mem ((c.tc : Thread Cert.ReferenceAdamSmallIdeal.nD Cert.ReferenceAdamSmallIdeal.τ).loc Cert.ReferenceAdamSmallIdeal.main_arg10) = m ((c.tc : Thread Cert.ReferenceAdamSmallIdeal.nD Cert.ReferenceAdamSmallIdeal.τ).loc Cert.ReferenceAdamSmallIdeal.main_arg10)
      ∧ r.2.mem ((c.tc : Thread Cert.ReferenceAdamSmallIdeal.nD Cert.ReferenceAdamSmallIdeal.τ).loc Cert.ReferenceAdamSmallIdeal.main_arg11) = m ((c.tc : Thread Cert.ReferenceAdamSmallIdeal.nD Cert.ReferenceAdamSmallIdeal.τ).loc Cert.ReferenceAdamSmallIdeal.main_arg11)
      ∧ r.2.mem ((c.tc : Thread Cert.ReferenceAdamSmallIdeal.nD Cert.ReferenceAdamSmallIdeal.τ).loc Cert.ReferenceAdamSmallIdeal.main_arg12) = m ((c.tc : Thread Cert.ReferenceAdamSmallIdeal.nD Cert.ReferenceAdamSmallIdeal.τ).loc Cert.ReferenceAdamSmallIdeal.main_arg12)
      ∧ r.2.mem ((c.tc : Thread Cert.ReferenceAdamSmallIdeal.nD Cert.ReferenceAdamSmallIdeal.τ).loc Cert.ReferenceAdamSmallIdeal.main_arg13) = m ((c.tc : Thread Cert.ReferenceAdamSmallIdeal.nD Cert.ReferenceAdamSmallIdeal.τ).loc Cert.ReferenceAdamSmallIdeal.main_arg13)
      ∧ r.2.mem ((c.tc : Thread Cert.ReferenceAdamSmallIdeal.nD Cert.ReferenceAdamSmallIdeal.τ).loc Cert.ReferenceAdamSmallIdeal.main_arg14) = m ((c.tc : Thread Cert.ReferenceAdamSmallIdeal.nD Cert.ReferenceAdamSmallIdeal.τ).loc Cert.ReferenceAdamSmallIdeal.main_arg14)
      ∧ r.2.mem ((c.tc : Thread Cert.ReferenceAdamSmallIdeal.nD Cert.ReferenceAdamSmallIdeal.τ).loc Cert.ReferenceAdamSmallIdeal.main_arg15) = m ((c.tc : Thread Cert.ReferenceAdamSmallIdeal.nD Cert.ReferenceAdamSmallIdeal.τ).loc Cert.ReferenceAdamSmallIdeal.main_arg15)
      ∧ r.2.mem ((c.tc : Thread Cert.ReferenceAdamSmallIdeal.nD Cert.ReferenceAdamSmallIdeal.τ).loc Cert.ReferenceAdamSmallIdeal.main_arg16) = m ((c.tc : Thread Cert.ReferenceAdamSmallIdeal.nD Cert.ReferenceAdamSmallIdeal.τ).loc Cert.ReferenceAdamSmallIdeal.main_arg16)
      ∧ r.2.mem ((c.tc : Thread Cert.ReferenceAdamSmallIdeal.nD Cert.ReferenceAdamSmallIdeal.τ).loc Cert.ReferenceAdamSmallIdeal.main_arg17) = m ((c.tc : Thread Cert.ReferenceAdamSmallIdeal.nD Cert.ReferenceAdamSmallIdeal.τ).loc Cert.ReferenceAdamSmallIdeal.main_arg17)
      ∧ r.2.mem ((c.tc : Thread Cert.ReferenceAdamSmallIdeal.nD Cert.ReferenceAdamSmallIdeal.τ).loc Cert.ReferenceAdamSmallIdeal.main_arg18) = m ((c.tc : Thread Cert.ReferenceAdamSmallIdeal.nD Cert.ReferenceAdamSmallIdeal.τ).loc Cert.ReferenceAdamSmallIdeal.main_arg18)
      ∧ r.2.mem ((c.tc : Thread Cert.ReferenceAdamSmallIdeal.nD Cert.ReferenceAdamSmallIdeal.τ).loc Cert.ReferenceAdamSmallIdeal.main_arg19) = m ((c.tc : Thread Cert.ReferenceAdamSmallIdeal.nD Cert.ReferenceAdamSmallIdeal.τ).loc Cert.ReferenceAdamSmallIdeal.main_arg19)
      ∧ r.2.mem ((c.tc : Thread Cert.ReferenceAdamSmallIdeal.nD Cert.ReferenceAdamSmallIdeal.τ).loc Cert.ReferenceAdamSmallIdeal.main_arg20) = m ((c.tc : Thread Cert.ReferenceAdamSmallIdeal.nD Cert.ReferenceAdamSmallIdeal.τ).loc Cert.ReferenceAdamSmallIdeal.main_arg20)
      ∧ r.2.mem ((c.tc : Thread Cert.ReferenceAdamSmallIdeal.nD Cert.ReferenceAdamSmallIdeal.τ).loc Cert.ReferenceAdamSmallIdeal.main_arg21) = m ((c.tc : Thread Cert.ReferenceAdamSmallIdeal.nD Cert.ReferenceAdamSmallIdeal.τ).loc Cert.ReferenceAdamSmallIdeal.main_arg21)
      ∧ r.2.mem ((c.tc : Thread Cert.ReferenceAdamSmallIdeal.nD Cert.ReferenceAdamSmallIdeal.τ).loc Cert.ReferenceAdamSmallIdeal.main_arg22) = m ((c.tc : Thread Cert.ReferenceAdamSmallIdeal.nD Cert.ReferenceAdamSmallIdeal.τ).loc Cert.ReferenceAdamSmallIdeal.main_arg22)
      ∧ r.2.mem ((c.tc : Thread Cert.ReferenceAdamSmallIdeal.nD Cert.ReferenceAdamSmallIdeal.τ).loc Cert.ReferenceAdamSmallIdeal.main_arg23) = m ((c.tc : Thread Cert.ReferenceAdamSmallIdeal.nD Cert.ReferenceAdamSmallIdeal.τ).loc Cert.ReferenceAdamSmallIdeal.main_arg23)
      ∧ r.2.mem ((c.tc : Thread Cert.ReferenceAdamSmallIdeal.nD Cert.ReferenceAdamSmallIdeal.τ).loc Cert.ReferenceAdamSmallIdeal.main_arg24) = m ((c.tc : Thread Cert.ReferenceAdamSmallIdeal.nD Cert.ReferenceAdamSmallIdeal.τ).loc Cert.ReferenceAdamSmallIdeal.main_arg24)
      ∧ r.2.mem ((c.tc : Thread Cert.ReferenceAdamSmallIdeal.nD Cert.ReferenceAdamSmallIdeal.τ).loc Cert.ReferenceAdamSmallIdeal.main_arg25) = m ((c.tc : Thread Cert.ReferenceAdamSmallIdeal.nD Cert.ReferenceAdamSmallIdeal.τ).loc Cert.ReferenceAdamSmallIdeal.main_arg25)
      ∧ r.2.mem ((c.tc : Thread Cert.ReferenceAdamSmallIdeal.nD Cert.ReferenceAdamSmallIdeal.τ).loc Cert.ReferenceAdamSmallIdeal.main_arg26) = m ((c.tc : Thread Cert.ReferenceAdamSmallIdeal.nD Cert.ReferenceAdamSmallIdeal.τ).loc Cert.ReferenceAdamSmallIdeal.main_arg26)
      ∧ r.2.mem ((c.tc : Thread Cert.ReferenceAdamSmallIdeal.nD Cert.ReferenceAdamSmallIdeal.τ).loc Cert.ReferenceAdamSmallIdeal.main_arg27) = m ((c.tc : Thread Cert.ReferenceAdamSmallIdeal.nD Cert.ReferenceAdamSmallIdeal.τ).loc Cert.ReferenceAdamSmallIdeal.main_arg27)
      ∧ r.2.mem ((c.tc : Thread Cert.ReferenceAdamSmallIdeal.nD Cert.ReferenceAdamSmallIdeal.τ).loc Cert.ReferenceAdamSmallIdeal.main_arg28) = m ((c.tc : Thread Cert.ReferenceAdamSmallIdeal.nD Cert.ReferenceAdamSmallIdeal.τ).loc Cert.ReferenceAdamSmallIdeal.main_arg28)
      ∧ r.2.mem ((c.tc : Thread Cert.ReferenceAdamSmallIdeal.nD Cert.ReferenceAdamSmallIdeal.τ).loc Cert.ReferenceAdamSmallIdeal.main_arg29) = m ((c.tc : Thread Cert.ReferenceAdamSmallIdeal.nD Cert.ReferenceAdamSmallIdeal.τ).loc Cert.ReferenceAdamSmallIdeal.main_arg29)
      ∧ r.2.mem ((c.tc : Thread Cert.ReferenceAdamSmallIdeal.nD Cert.ReferenceAdamSmallIdeal.τ).loc Cert.ReferenceAdamSmallIdeal.main_arg30) = m ((c.tc : Thread Cert.ReferenceAdamSmallIdeal.nD Cert.ReferenceAdamSmallIdeal.τ).loc Cert.ReferenceAdamSmallIdeal.main_arg30)
      ∧ r.2.mem ((c.tc : Thread Cert.ReferenceAdamSmallIdeal.nD Cert.ReferenceAdamSmallIdeal.τ).loc Cert.ReferenceAdamSmallIdeal.main_arg31) = m ((c.tc : Thread Cert.ReferenceAdamSmallIdeal.nD Cert.ReferenceAdamSmallIdeal.τ).loc Cert.ReferenceAdamSmallIdeal.main_arg31)
      ∧ r.2.mem ((c.tc : Thread Cert.ReferenceAdamSmallIdeal.nD Cert.ReferenceAdamSmallIdeal.τ).loc Cert.ReferenceAdamSmallIdeal.main_arg32) = m ((c.tc : Thread Cert.ReferenceAdamSmallIdeal.nD Cert.ReferenceAdamSmallIdeal.τ).loc Cert.ReferenceAdamSmallIdeal.main_arg32)
      ∧ r.2.mem ((c.tc : Thread Cert.ReferenceAdamSmallIdeal.nD Cert.ReferenceAdamSmallIdeal.τ).loc Cert.ReferenceAdamSmallIdeal.main_arg33) = m ((c.tc : Thread Cert.ReferenceAdamSmallIdeal.nD Cert.ReferenceAdamSmallIdeal.τ).loc Cert.ReferenceAdamSmallIdeal.main_arg33)
      ∧ r.2.mem ((c.tc : Thread Cert.ReferenceAdamSmallIdeal.nD Cert.ReferenceAdamSmallIdeal.τ).loc Cert.ReferenceAdamSmallIdeal.main_arg34) = m ((c.tc : Thread Cert.ReferenceAdamSmallIdeal.nD Cert.ReferenceAdamSmallIdeal.τ).loc Cert.ReferenceAdamSmallIdeal.main_arg34)
      ∧ r.2.mem ((c.tc : Thread Cert.ReferenceAdamSmallIdeal.nD Cert.ReferenceAdamSmallIdeal.τ).loc Cert.ReferenceAdamSmallIdeal.main_arg35) = m ((c.tc : Thread Cert.ReferenceAdamSmallIdeal.nD Cert.ReferenceAdamSmallIdeal.τ).loc Cert.ReferenceAdamSmallIdeal.main_arg35)
      ∧ r.2.mem ((c.tc : Thread Cert.ReferenceAdamSmallIdeal.nD Cert.ReferenceAdamSmallIdeal.τ).loc Cert.ReferenceAdamSmallIdeal.main_arg36) = m ((c.tc : Thread Cert.ReferenceAdamSmallIdeal.nD Cert.ReferenceAdamSmallIdeal.τ).loc Cert.ReferenceAdamSmallIdeal.main_arg36)
      ∧ r.2.mem ((c.tc : Thread Cert.ReferenceAdamSmallIdeal.nD Cert.ReferenceAdamSmallIdeal.τ).loc Cert.ReferenceAdamSmallIdeal.main_arg37) = m ((c.tc : Thread Cert.ReferenceAdamSmallIdeal.nD Cert.ReferenceAdamSmallIdeal.τ).loc Cert.ReferenceAdamSmallIdeal.main_arg37)
      ∧ r.2.mem ((c.tc : Thread Cert.ReferenceAdamSmallIdeal.nD Cert.ReferenceAdamSmallIdeal.τ).loc Cert.ReferenceAdamSmallIdeal.main_arg38) = m ((c.tc : Thread Cert.ReferenceAdamSmallIdeal.nD Cert.ReferenceAdamSmallIdeal.τ).loc Cert.ReferenceAdamSmallIdeal.main_arg38)
      ∧ r.2.mem ((c.tc : Thread Cert.ReferenceAdamSmallIdeal.nD Cert.ReferenceAdamSmallIdeal.τ).loc Cert.ReferenceAdamSmallIdeal.main_arg39) = m ((c.tc : Thread Cert.ReferenceAdamSmallIdeal.nD Cert.ReferenceAdamSmallIdeal.τ).loc Cert.ReferenceAdamSmallIdeal.main_arg39)
      ∧ r.2.mem ((c.tc : Thread Cert.ReferenceAdamSmallIdeal.nD Cert.ReferenceAdamSmallIdeal.τ).loc Cert.ReferenceAdamSmallIdeal.main_arg40) = m ((c.tc : Thread Cert.ReferenceAdamSmallIdeal.nD Cert.ReferenceAdamSmallIdeal.τ).loc Cert.ReferenceAdamSmallIdeal.main_arg40)
      ∧ r.2.mem ((c.tc : Thread Cert.ReferenceAdamSmallIdeal.nD Cert.ReferenceAdamSmallIdeal.τ).loc Cert.ReferenceAdamSmallIdeal.main_arg41) = m ((c.tc : Thread Cert.ReferenceAdamSmallIdeal.nD Cert.ReferenceAdamSmallIdeal.τ).loc Cert.ReferenceAdamSmallIdeal.main_arg41)
      ∧ r.2.mem ((c.tc : Thread Cert.ReferenceAdamSmallIdeal.nD Cert.ReferenceAdamSmallIdeal.τ).loc Cert.ReferenceAdamSmallIdeal.main_arg42) = m ((c.tc : Thread Cert.ReferenceAdamSmallIdeal.nD Cert.ReferenceAdamSmallIdeal.τ).loc Cert.ReferenceAdamSmallIdeal.main_arg42)
      ∧ r.2.mem ((c.tc : Thread Cert.ReferenceAdamSmallIdeal.nD Cert.ReferenceAdamSmallIdeal.τ).loc Cert.ReferenceAdamSmallIdeal.main_arg43) = m ((c.tc : Thread Cert.ReferenceAdamSmallIdeal.nD Cert.ReferenceAdamSmallIdeal.τ).loc Cert.ReferenceAdamSmallIdeal.main_arg43)
      ∧ r.2.mem ((c.tc : Thread Cert.ReferenceAdamSmallIdeal.nD Cert.ReferenceAdamSmallIdeal.τ).loc Cert.ReferenceAdamSmallIdeal.main_arg44) = m ((c.tc : Thread Cert.ReferenceAdamSmallIdeal.nD Cert.ReferenceAdamSmallIdeal.τ).loc Cert.ReferenceAdamSmallIdeal.main_arg44)
      ∧ r.2.mem ((c.tc : Thread Cert.ReferenceAdamSmallIdeal.nD Cert.ReferenceAdamSmallIdeal.τ).loc Cert.ReferenceAdamSmallIdeal.main_arg45) = m ((c.tc : Thread Cert.ReferenceAdamSmallIdeal.nD Cert.ReferenceAdamSmallIdeal.τ).loc Cert.ReferenceAdamSmallIdeal.main_arg45)
      ∧ r.2.mem ((c.tc : Thread Cert.ReferenceAdamSmallIdeal.nD Cert.ReferenceAdamSmallIdeal.τ).loc Cert.ReferenceAdamSmallIdeal.main_arg46) = m ((c.tc : Thread Cert.ReferenceAdamSmallIdeal.nD Cert.ReferenceAdamSmallIdeal.τ).loc Cert.ReferenceAdamSmallIdeal.main_arg46)
      ∧ r.2.mem ((c.tc : Thread Cert.ReferenceAdamSmallIdeal.nD Cert.ReferenceAdamSmallIdeal.τ).loc Cert.ReferenceAdamSmallIdeal.main_arg47) = m ((c.tc : Thread Cert.ReferenceAdamSmallIdeal.nD Cert.ReferenceAdamSmallIdeal.τ).loc Cert.ReferenceAdamSmallIdeal.main_arg47)
      ∧ r.2.mem ((c.tc : Thread Cert.ReferenceAdamSmallIdeal.nD Cert.ReferenceAdamSmallIdeal.τ).loc Cert.ReferenceAdamSmallIdeal.main_arg48) = m ((c.tc : Thread Cert.ReferenceAdamSmallIdeal.nD Cert.ReferenceAdamSmallIdeal.τ).loc Cert.ReferenceAdamSmallIdeal.main_arg48)
      ∧ r.2.mem ((c.tc : Thread Cert.ReferenceAdamSmallIdeal.nD Cert.ReferenceAdamSmallIdeal.τ).loc Cert.ReferenceAdamSmallIdeal.main_arg49) = m ((c.tc : Thread Cert.ReferenceAdamSmallIdeal.nD Cert.ReferenceAdamSmallIdeal.τ).loc Cert.ReferenceAdamSmallIdeal.main_arg49)
      ∧ r.2.mem ((c.tc : Thread Cert.ReferenceAdamSmallIdeal.nD Cert.ReferenceAdamSmallIdeal.τ).loc Cert.ReferenceAdamSmallIdeal.main_arg50) = m ((c.tc : Thread Cert.ReferenceAdamSmallIdeal.nD Cert.ReferenceAdamSmallIdeal.τ).loc Cert.ReferenceAdamSmallIdeal.main_arg50)
      ∧ r.2.mem ((c.tc : Thread Cert.ReferenceAdamSmallIdeal.nD Cert.ReferenceAdamSmallIdeal.τ).loc Cert.ReferenceAdamSmallIdeal.main_arg51) = m ((c.tc : Thread Cert.ReferenceAdamSmallIdeal.nD Cert.ReferenceAdamSmallIdeal.τ).loc Cert.ReferenceAdamSmallIdeal.main_arg51)
      ∧ r.2.mem ((c.tc : Thread Cert.ReferenceAdamSmallIdeal.nD Cert.ReferenceAdamSmallIdeal.τ).loc Cert.ReferenceAdamSmallIdeal.main_arg52) = m ((c.tc : Thread Cert.ReferenceAdamSmallIdeal.nD Cert.ReferenceAdamSmallIdeal.τ).loc Cert.ReferenceAdamSmallIdeal.main_arg52)
      ∧ r.2.mem ((c.tc : Thread Cert.ReferenceAdamSmallIdeal.nD Cert.ReferenceAdamSmallIdeal.τ).loc Cert.ReferenceAdamSmallIdeal.main_arg53) = m ((c.tc : Thread Cert.ReferenceAdamSmallIdeal.nD Cert.ReferenceAdamSmallIdeal.τ).loc Cert.ReferenceAdamSmallIdeal.main_arg53)
      ∧ r.2.mem ((c.tc : Thread Cert.ReferenceAdamSmallIdeal.nD Cert.ReferenceAdamSmallIdeal.τ).loc Cert.ReferenceAdamSmallIdeal.main_arg54) = m ((c.tc : Thread Cert.ReferenceAdamSmallIdeal.nD Cert.ReferenceAdamSmallIdeal.τ).loc Cert.ReferenceAdamSmallIdeal.main_arg54)
      ∧ r.2.mem ((c.tc : Thread Cert.ReferenceAdamSmallIdeal.nD Cert.ReferenceAdamSmallIdeal.τ).loc Cert.ReferenceAdamSmallIdeal.main_arg55) = m ((c.tc : Thread Cert.ReferenceAdamSmallIdeal.nD Cert.ReferenceAdamSmallIdeal.τ).loc Cert.ReferenceAdamSmallIdeal.main_arg55)
      ∧ r.2.mem ((c.tc : Thread Cert.ReferenceAdamSmallIdeal.nD Cert.ReferenceAdamSmallIdeal.τ).loc Cert.ReferenceAdamSmallIdeal.main_arg56) = m ((c.tc : Thread Cert.ReferenceAdamSmallIdeal.nD Cert.ReferenceAdamSmallIdeal.τ).loc Cert.ReferenceAdamSmallIdeal.main_arg56)
      ∧ r.2.mem ((c.tc : Thread Cert.ReferenceAdamSmallIdeal.nD Cert.ReferenceAdamSmallIdeal.τ).loc Cert.ReferenceAdamSmallIdeal.main_arg57) = m ((c.tc : Thread Cert.ReferenceAdamSmallIdeal.nD Cert.ReferenceAdamSmallIdeal.τ).loc Cert.ReferenceAdamSmallIdeal.main_arg57)
      ∧ r.2.mem ((c.tc : Thread Cert.ReferenceAdamSmallIdeal.nD Cert.ReferenceAdamSmallIdeal.τ).loc Cert.ReferenceAdamSmallIdeal.main_arg58) = m ((c.tc : Thread Cert.ReferenceAdamSmallIdeal.nD Cert.ReferenceAdamSmallIdeal.τ).loc Cert.ReferenceAdamSmallIdeal.main_arg58)
      ∧ r.2.mem ((c.tc : Thread Cert.ReferenceAdamSmallIdeal.nD Cert.ReferenceAdamSmallIdeal.τ).loc Cert.ReferenceAdamSmallIdeal.main_arg59) = m ((c.tc : Thread Cert.ReferenceAdamSmallIdeal.nD Cert.ReferenceAdamSmallIdeal.τ).loc Cert.ReferenceAdamSmallIdeal.main_arg59)
      ∧ r.2.mem ((c.tc : Thread Cert.ReferenceAdamSmallIdeal.nD Cert.ReferenceAdamSmallIdeal.τ).loc Cert.ReferenceAdamSmallIdeal.main_arg60) = m ((c.tc : Thread Cert.ReferenceAdamSmallIdeal.nD Cert.ReferenceAdamSmallIdeal.τ).loc Cert.ReferenceAdamSmallIdeal.main_arg60)
      ∧ r.2.mem ((c.tc : Thread Cert.ReferenceAdamSmallIdeal.nD Cert.ReferenceAdamSmallIdeal.τ).loc Cert.ReferenceAdamSmallIdeal.main_arg61) = m ((c.tc : Thread Cert.ReferenceAdamSmallIdeal.nD Cert.ReferenceAdamSmallIdeal.τ).loc Cert.ReferenceAdamSmallIdeal.main_arg61)
      ∧ r.2.mem ((c.tc : Thread Cert.ReferenceAdamSmallIdeal.nD Cert.ReferenceAdamSmallIdeal.τ).loc Cert.ReferenceAdamSmallIdeal.main_arg62) = m ((c.tc : Thread Cert.ReferenceAdamSmallIdeal.nD Cert.ReferenceAdamSmallIdeal.τ).loc Cert.ReferenceAdamSmallIdeal.main_arg62)
      ∧ r.2.mem ((c.tc : Thread Cert.ReferenceAdamSmallIdeal.nD Cert.ReferenceAdamSmallIdeal.τ).loc Cert.ReferenceAdamSmallIdeal.main_arg63) = m ((c.tc : Thread Cert.ReferenceAdamSmallIdeal.nD Cert.ReferenceAdamSmallIdeal.τ).loc Cert.ReferenceAdamSmallIdeal.main_arg63)
      ∧ r.2.mem ((c.tc : Thread Cert.ReferenceAdamSmallIdeal.nD Cert.ReferenceAdamSmallIdeal.τ).loc Cert.ReferenceAdamSmallIdeal.main_arg64) = m ((c.tc : Thread Cert.ReferenceAdamSmallIdeal.nD Cert.ReferenceAdamSmallIdeal.τ).loc Cert.ReferenceAdamSmallIdeal.main_arg64)
      ∧ r.2.mem ((c.tc : Thread Cert.ReferenceAdamSmallIdeal.nD Cert.ReferenceAdamSmallIdeal.τ).loc Cert.ReferenceAdamSmallIdeal.main_arg65) = m ((c.tc : Thread Cert.ReferenceAdamSmallIdeal.nD Cert.ReferenceAdamSmallIdeal.τ).loc Cert.ReferenceAdamSmallIdeal.main_arg65))
      ∧ r.2.sem = fun _ => 0)

def quiescent_KernelSum [hKernelSum : Cert.KernelSum.Facts] : Prop :=
  ∀ (m : (ℓ : Loc Cert.KernelSum.nD Cert.KernelSum.τ Cert.KernelSum.sig) → Buf (Elt Bits) ℓ) (g : Dev Cert.KernelSum.nD → PrngReg), Pre_KernelSum m →
    θ_run (Cert.KernelSum.defs (F := Bits)) (onTc (τ := Cert.KernelSum.τ) (Cert.KernelSum.main (F := Bits))) ⟨m, fun _ => 0, g⟩ (fun r => (∀ c : Dev Cert.KernelSum.nD,
      r.2.mem ((c.tc : Thread Cert.KernelSum.nD Cert.KernelSum.τ).loc Cert.KernelSum.main_arg0) = m ((c.tc : Thread Cert.KernelSum.nD Cert.KernelSum.τ).loc Cert.KernelSum.main_arg0)
      ∧ r.2.mem ((c.tc : Thread Cert.KernelSum.nD Cert.KernelSum.τ).loc Cert.KernelSum.main_arg1) = m ((c.tc : Thread Cert.KernelSum.nD Cert.KernelSum.τ).loc Cert.KernelSum.main_arg1)
      ∧ r.2.mem ((c.tc : Thread Cert.KernelSum.nD Cert.KernelSum.τ).loc Cert.KernelSum.main_arg2) = m ((c.tc : Thread Cert.KernelSum.nD Cert.KernelSum.τ).loc Cert.KernelSum.main_arg2))
      ∧ r.2.sem = fun _ => 0)

def quiescent_KernelSumIdeal [hKernelSumIdeal : Cert.KernelSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg), Pre_KernelSumIdeal m →
    θ_run (Cert.KernelSumIdeal.defs (F := Ideal)) (onTc (τ := Cert.KernelSumIdeal.τ) (Cert.KernelSumIdeal.main (F := Ideal))) ⟨m, fun _ => 0, g⟩ (fun r => (∀ c : Dev Cert.KernelSumIdeal.nD,
      r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0)
      ∧ r.2.mem ((c.tc : Thread Cert.KernelSumIdeal.nD Cert.KernelSumIdeal.τ).loc Cert.KernelSumIdeal.main_arg1) = m ((c.tc : Thread Cert.KernelSumIdeal.nD Cert.KernelSumIdeal.τ).loc Cert.KernelSumIdeal.main_arg1)
      ∧ r.2.mem ((c.tc : Thread Cert.KernelSumIdeal.nD Cert.KernelSumIdeal.τ).loc Cert.KernelSumIdeal.main_arg2) = m ((c.tc : Thread Cert.KernelSumIdeal.nD Cert.KernelSumIdeal.τ).loc Cert.KernelSumIdeal.main_arg2))
      ∧ r.2.sem = fun _ => 0)

def quiescent_ReferenceSumIdeal [hReferenceSumIdeal : Cert.ReferenceSumIdeal.Facts] : Prop :=
  ∀ (m : (ℓ : Loc Cert.ReferenceSumIdeal.nD Cert.ReferenceSumIdeal.τ Cert.ReferenceSumIdeal.sig) → Buf (Elt Ideal) ℓ) (g : Dev Cert.ReferenceSumIdeal.nD → PrngReg), Pre_ReferenceSumIdeal m →
    θ_run (Cert.ReferenceSumIdeal.defs (F := Ideal)) (onTc (τ := Cert.ReferenceSumIdeal.τ) (Cert.ReferenceSumIdeal.main (F := Ideal))) ⟨m, fun _ => 0, g⟩ (fun r => (∀ c : Dev Cert.ReferenceSumIdeal.nD,
      r.2.mem ((c.tc : Thread Cert.ReferenceSumIdeal.nD Cert.ReferenceSumIdeal.τ).loc Cert.ReferenceSumIdeal.main_arg0) = m ((c.tc : Thread Cert.ReferenceSumIdeal.nD Cert.ReferenceSumIdeal.τ).loc Cert.ReferenceSumIdeal.main_arg0)
      ∧ r.2.mem ((c.tc : Thread Cert.ReferenceSumIdeal.nD Cert.ReferenceSumIdeal.τ).loc Cert.ReferenceSumIdeal.main_arg1) = m ((c.tc : Thread Cert.ReferenceSumIdeal.nD Cert.ReferenceSumIdeal.τ).loc Cert.ReferenceSumIdeal.main_arg1)
      ∧ r.2.mem ((c.tc : Thread Cert.ReferenceSumIdeal.nD Cert.ReferenceSumIdeal.τ).loc Cert.ReferenceSumIdeal.main_arg2) = m ((c.tc : Thread Cert.ReferenceSumIdeal.nD Cert.ReferenceSumIdeal.τ).loc Cert.ReferenceSumIdeal.main_arg2))
      ∧ r.2.sem = fun _ => 0)

def preserves_Kernel_KernelIdeal : Prop :=
  IdealRules.named_const.Statement Cert.KernelIdeal.κ "gelu_ca" .f32 0x3D122279#32 ((80338380498831 / 2251799813685248 : ℝ) : EReal)
  ∧ IdealRules.named_const.Statement Cert.KernelIdeal.κ "gelu_6ca" .f32 0x3E5B33B6#32 ((241015141496493 / 1125899906842624 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)) (v3 : (c : Dev Cert.KernelIdeal.nD) → Buf (Elt Ideal) ((c.tc : Thread Cert.KernelIdeal.nD Cert.KernelIdeal.τ).loc Cert.KernelIdeal.main_v34_3)) (v4 : (c : Dev Cert.KernelIdeal.nD) → Buf (Elt Ideal) ((c.tc : Thread Cert.KernelIdeal.nD Cert.KernelIdeal.τ).loc Cert.KernelIdeal.main_v34_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_v34_3) = v3 c
          ∧ r.2.mem ((c.tc : Thread Cert.KernelIdeal.nD Cert.KernelIdeal.τ).loc Cert.KernelIdeal.main_v34_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)) →
    ∃ (v0 : (c : Dev Cert.KernelUpDwIdeal.nD) → Buf (Elt Ideal) ((c.tc : Thread Cert.KernelUpDwIdeal.nD Cert.KernelUpDwIdeal.τ).loc Cert.KernelUpDwIdeal.main_v5)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v5) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v5) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v3)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v3) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v5) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)) →
    ∃ (v0 : (c : Dev Cert.KernelDownDwIdeal.nD) → Buf (Elt Ideal) ((c.tc : Thread Cert.KernelDownDwIdeal.nD Cert.KernelDownDwIdeal.τ).loc Cert.KernelDownDwIdeal.main_v4)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v4) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v3) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v4)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v4) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v3) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelOutDx_KernelOutDxIdeal : Prop :=
  True

def algebraic_KernelOutDxIdeal_ReferenceOutDxIdeal [hKernelOutDxIdeal : Cert.KernelOutDxIdeal.Facts] [hReferenceOutDxIdeal : Cert.ReferenceOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg)
    (m' : (ℓ : Loc Cert.ReferenceOutDxIdeal.nD Cert.ReferenceOutDxIdeal.τ Cert.ReferenceOutDxIdeal.sig) → Buf (Elt Ideal) ℓ) (g' : Dev Cert.ReferenceOutDxIdeal.nD → PrngReg), Pre_KernelOutDxIdeal m →
    (∀ c : Dev Cert.KernelOutDxIdeal.nD,
      m' ((c.tc : Thread Cert.ReferenceOutDxIdeal.nD Cert.ReferenceOutDxIdeal.τ).loc Cert.ReferenceOutDxIdeal.main_arg0) = m ((c.tc : Thread Cert.KernelOutDxIdeal.nD Cert.KernelOutDxIdeal.τ).loc Cert.KernelOutDxIdeal.main_arg0)
      ∧ m' ((c.tc : Thread Cert.ReferenceOutDxIdeal.nD Cert.ReferenceOutDxIdeal.τ).loc Cert.ReferenceOutDxIdeal.main_arg1) = m ((c.tc : Thread Cert.KernelOutDxIdeal.nD Cert.KernelOutDxIdeal.τ).loc Cert.KernelOutDxIdeal.main_arg1)) →
    ∃ (v0 : (c : Dev Cert.KernelOutDxIdeal.nD) → Buf (Elt Ideal) ((c.tc : Thread Cert.KernelOutDxIdeal.nD Cert.KernelOutDxIdeal.τ).loc Cert.KernelOutDxIdeal.main_v3)),
      θ_run (Cert.KernelOutDxIdeal.defs (F := Ideal)) (onTc (τ := Cert.KernelOutDxIdeal.τ) (Cert.KernelOutDxIdeal.main (F := Ideal))) ⟨m, fun _ => 0, g⟩ (fun r => ∀ c : Dev Cert.KernelOutDxIdeal.nD,
          r.2.mem ((c.tc : Thread Cert.KernelOutDxIdeal.nD Cert.KernelOutDxIdeal.τ).loc Cert.KernelOutDxIdeal.main_v3) = v0 c
          ∧ r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
          ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ θ_run (Cert.ReferenceOutDxIdeal.defs (F := Ideal)) (onTc (τ := Cert.ReferenceOutDxIdeal.τ) (Cert.ReferenceOutDxIdeal.main (F := Ideal))) ⟨m', fun _ => 0, g'⟩ (fun r => ∀ c : Dev Cert.ReferenceOutDxIdeal.nD,
          r.2.mem ((c.tc : Thread Cert.ReferenceOutDxIdeal.nD Cert.ReferenceOutDxIdeal.τ).loc Cert.ReferenceOutDxIdeal.main_v3) = v0 c
          ∧ r.2.mem ((c.tc : Thread Cert.ReferenceOutDxIdeal.nD Cert.ReferenceOutDxIdeal.τ).loc Cert.ReferenceOutDxIdeal.main_arg0) = m' ((c.tc : Thread Cert.ReferenceOutDxIdeal.nD Cert.ReferenceOutDxIdeal.τ).loc Cert.ReferenceOutDxIdeal.main_arg0)
          ∧ r.2.mem ((c.tc : Thread Cert.ReferenceOutDxIdeal.nD Cert.ReferenceOutDxIdeal.τ).loc Cert.ReferenceOutDxIdeal.main_arg1) = m' ((c.tc : Thread Cert.ReferenceOutDxIdeal.nD Cert.ReferenceOutDxIdeal.τ).loc Cert.ReferenceOutDxIdeal.main_arg1))

def preserves_KernelUpDx_KernelUpDxIdeal : Prop :=
  True

def algebraic_KernelUpDxIdeal_ReferenceUpDxIdeal_pre_finite_up_dx [hKernelUpDxIdeal : Cert.KernelUpDxIdeal.Facts] [hReferenceUpDxIdeal : Cert.ReferenceUpDxIdeal.Facts] [hPre_finite_up_dx : Cert.Pre_finite_up_dx.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg)
    (m' : (ℓ : Loc Cert.ReferenceUpDxIdeal.nD Cert.ReferenceUpDxIdeal.τ Cert.ReferenceUpDxIdeal.sig) → Buf (Elt Ideal) ℓ) (g' : Dev Cert.ReferenceUpDxIdeal.nD → PrngReg), Pre_KernelUpDxIdeal_finite_up_dx m →
    (∀ c : Dev Cert.KernelUpDxIdeal.nD,
      m' ((c.tc : Thread Cert.ReferenceUpDxIdeal.nD Cert.ReferenceUpDxIdeal.τ).loc Cert.ReferenceUpDxIdeal.main_arg0) = m ((c.tc : Thread Cert.KernelUpDxIdeal.nD Cert.KernelUpDxIdeal.τ).loc Cert.KernelUpDxIdeal.main_arg0)
      ∧ m' ((c.tc : Thread Cert.ReferenceUpDxIdeal.nD Cert.ReferenceUpDxIdeal.τ).loc Cert.ReferenceUpDxIdeal.main_arg1) = m ((c.tc : Thread Cert.KernelUpDxIdeal.nD Cert.KernelUpDxIdeal.τ).loc Cert.KernelUpDxIdeal.main_arg1)
      ∧ m' ((c.tc : Thread Cert.ReferenceUpDxIdeal.nD Cert.ReferenceUpDxIdeal.τ).loc Cert.ReferenceUpDxIdeal.main_arg2) = m ((c.tc : Thread Cert.KernelUpDxIdeal.nD Cert.KernelUpDxIdeal.τ).loc Cert.KernelUpDxIdeal.main_arg2)
      ∧ m' ((c.tc : Thread Cert.ReferenceUpDxIdeal.nD Cert.ReferenceUpDxIdeal.τ).loc Cert.ReferenceUpDxIdeal.main_arg3) = m ((c.tc : Thread Cert.KernelUpDxIdeal.nD Cert.KernelUpDxIdeal.τ).loc Cert.KernelUpDxIdeal.main_arg3)
      ∧ m' ((c.tc : Thread Cert.ReferenceUpDxIdeal.nD Cert.ReferenceUpDxIdeal.τ).loc Cert.ReferenceUpDxIdeal.main_arg4) = m ((c.tc : Thread Cert.KernelUpDxIdeal.nD Cert.KernelUpDxIdeal.τ).loc Cert.KernelUpDxIdeal.main_arg4)) →
    ∃ (v0 : (c : Dev Cert.KernelUpDxIdeal.nD) → Buf (Elt Ideal) ((c.tc : Thread Cert.KernelUpDxIdeal.nD Cert.KernelUpDxIdeal.τ).loc Cert.KernelUpDxIdeal.main_v8_0)) (v1 : (c : Dev Cert.KernelUpDxIdeal.nD) → Buf (Elt Ideal) ((c.tc : Thread Cert.KernelUpDxIdeal.nD Cert.KernelUpDxIdeal.τ).loc Cert.KernelUpDxIdeal.main_v8_1)) (v2 : (c : Dev Cert.KernelUpDxIdeal.nD) → Buf (Elt Ideal) ((c.tc : Thread Cert.KernelUpDxIdeal.nD Cert.KernelUpDxIdeal.τ).loc Cert.KernelUpDxIdeal.main_v8_2)),
      θ_run (Cert.KernelUpDxIdeal.defs (F := Ideal)) (onTc (τ := Cert.KernelUpDxIdeal.τ) (Cert.KernelUpDxIdeal.main (F := Ideal))) ⟨m, fun _ => 0, g⟩ (fun r => ∀ c : Dev Cert.KernelUpDxIdeal.nD,
          r.2.mem ((c.tc : Thread Cert.KernelUpDxIdeal.nD Cert.KernelUpDxIdeal.τ).loc Cert.KernelUpDxIdeal.main_v8_0) = v0 c
          ∧ r.2.mem ((c.tc : Thread Cert.KernelUpDxIdeal.nD Cert.KernelUpDxIdeal.τ).loc Cert.KernelUpDxIdeal.main_v8_1) = v1 c
          ∧ r.2.mem ((c.tc : Thread Cert.KernelUpDxIdeal.nD Cert.KernelUpDxIdeal.τ).loc Cert.KernelUpDxIdeal.main_v8_2) = v2 c
          ∧ r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
          ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1)
          ∧ r.2.mem ((c.tc : Thread Cert.KernelUpDxIdeal.nD Cert.KernelUpDxIdeal.τ).loc Cert.KernelUpDxIdeal.main_arg2) = m ((c.tc : Thread Cert.KernelUpDxIdeal.nD Cert.KernelUpDxIdeal.τ).loc Cert.KernelUpDxIdeal.main_arg2)
          ∧ r.2.mem ((c.tc : Thread Cert.KernelUpDxIdeal.nD Cert.KernelUpDxIdeal.τ).loc Cert.KernelUpDxIdeal.main_arg3) = m ((c.tc : Thread Cert.KernelUpDxIdeal.nD Cert.KernelUpDxIdeal.τ).loc Cert.KernelUpDxIdeal.main_arg3)
          ∧ r.2.mem ((c.tc : Thread Cert.KernelUpDxIdeal.nD Cert.KernelUpDxIdeal.τ).loc Cert.KernelUpDxIdeal.main_arg4) = m ((c.tc : Thread Cert.KernelUpDxIdeal.nD Cert.KernelUpDxIdeal.τ).loc Cert.KernelUpDxIdeal.main_arg4))
      ∧ θ_run (Cert.ReferenceUpDxIdeal.defs (F := Ideal)) (onTc (τ := Cert.ReferenceUpDxIdeal.τ) (Cert.ReferenceUpDxIdeal.main (F := Ideal))) ⟨m', fun _ => 0, g'⟩ (fun r => ∀ c : Dev Cert.ReferenceUpDxIdeal.nD,
          r.2.mem ((c.tc : Thread Cert.ReferenceUpDxIdeal.nD Cert.ReferenceUpDxIdeal.τ).loc Cert.ReferenceUpDxIdeal.main_v42) = v0 c
          ∧ r.2.mem ((c.tc : Thread Cert.ReferenceUpDxIdeal.nD Cert.ReferenceUpDxIdeal.τ).loc Cert.ReferenceUpDxIdeal.main_v44) = v1 c
          ∧ r.2.mem ((c.tc : Thread Cert.ReferenceUpDxIdeal.nD Cert.ReferenceUpDxIdeal.τ).loc Cert.ReferenceUpDxIdeal.main_v41) = v2 c
          ∧ r.2.mem ((c.tc : Thread Cert.ReferenceUpDxIdeal.nD Cert.ReferenceUpDxIdeal.τ).loc Cert.ReferenceUpDxIdeal.main_arg0) = m' ((c.tc : Thread Cert.ReferenceUpDxIdeal.nD Cert.ReferenceUpDxIdeal.τ).loc Cert.ReferenceUpDxIdeal.main_arg0)
          ∧ r.2.mem ((c.tc : Thread Cert.ReferenceUpDxIdeal.nD Cert.ReferenceUpDxIdeal.τ).loc Cert.ReferenceUpDxIdeal.main_arg1) = m' ((c.tc : Thread Cert.ReferenceUpDxIdeal.nD Cert.ReferenceUpDxIdeal.τ).loc Cert.ReferenceUpDxIdeal.main_arg1)
          ∧ r.2.mem ((c.tc : Thread Cert.ReferenceUpDxIdeal.nD Cert.ReferenceUpDxIdeal.τ).loc Cert.ReferenceUpDxIdeal.main_arg2) = m' ((c.tc : Thread Cert.ReferenceUpDxIdeal.nD Cert.ReferenceUpDxIdeal.τ).loc Cert.ReferenceUpDxIdeal.main_arg2)
          ∧ r.2.mem ((c.tc : Thread Cert.ReferenceUpDxIdeal.nD Cert.ReferenceUpDxIdeal.τ).loc Cert.ReferenceUpDxIdeal.main_arg3) = m' ((c.tc : Thread Cert.ReferenceUpDxIdeal.nD Cert.ReferenceUpDxIdeal.τ).loc Cert.ReferenceUpDxIdeal.main_arg3)
          ∧ r.2.mem ((c.tc : Thread Cert.ReferenceUpDxIdeal.nD Cert.ReferenceUpDxIdeal.τ).loc Cert.ReferenceUpDxIdeal.main_arg4) = m' ((c.tc : Thread Cert.ReferenceUpDxIdeal.nD Cert.ReferenceUpDxIdeal.τ).loc Cert.ReferenceUpDxIdeal.main_arg4))

def preserves_KernelUp_KernelUpIdeal : Prop :=
  IdealRules.named_const.Statement Cert.KernelUpIdeal.κ "gelu_ca" .f32 0x3D122279#32 ((80338380498831 / 2251799813685248 : ℝ) : EReal)

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)) →
    ∃ (v0 : (c : Dev Cert.KernelUpIdeal.nD) → Buf (Elt Ideal) ((c.tc : Thread Cert.KernelUpIdeal.nD Cert.KernelUpIdeal.τ).loc Cert.KernelUpIdeal.main_v6_0)) (v1 : (c : Dev Cert.KernelUpIdeal.nD) → Buf (Elt Ideal) ((c.tc : Thread Cert.KernelUpIdeal.nD Cert.KernelUpIdeal.τ).loc Cert.KernelUpIdeal.main_v6_1)) (v2 : (c : Dev Cert.KernelUpIdeal.nD) → Buf (Elt Ideal) ((c.tc : Thread Cert.KernelUpIdeal.nD Cert.KernelUpIdeal.τ).loc Cert.KernelUpIdeal.main_v6_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v6_0) = v0 c
          ∧ r.2.mem ((c.tc : Thread Cert.KernelUpIdeal.nD Cert.KernelUpIdeal.τ).loc Cert.KernelUpIdeal.main_v6_1) = v1 c
          ∧ r.2.mem ((c.tc : Thread Cert.KernelUpIdeal.nD Cert.KernelUpIdeal.τ).loc Cert.KernelUpIdeal.main_v6_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v31) = v0 c
          ∧ r.2.mem ((c.tc : Thread Cert.ReferenceUpIdeal.nD Cert.ReferenceUpIdeal.τ).loc Cert.ReferenceUpIdeal.main_v33) = v1 c
          ∧ r.2.mem ((c.tc : Thread Cert.ReferenceUpIdeal.nD Cert.ReferenceUpIdeal.τ).loc Cert.ReferenceUpIdeal.main_v49) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)) →
    ∃ (v0 : (c : Dev Cert.KernelLossIdeal.nD) → Buf (Elt Ideal) ((c.tc : Thread Cert.KernelLossIdeal.nD Cert.KernelLossIdeal.τ).loc Cert.KernelLossIdeal.main_v6_0)) (v1 : (c : Dev Cert.KernelLossIdeal.nD) → Buf (Elt Ideal) ((c.tc : Thread Cert.KernelLossIdeal.nD Cert.KernelLossIdeal.τ).loc Cert.KernelLossIdeal.main_v6_1)) (v2 : (c : Dev Cert.KernelLossIdeal.nD) → Buf (Elt Ideal) ((c.tc : Thread Cert.KernelLossIdeal.nD Cert.KernelLossIdeal.τ).loc Cert.KernelLossIdeal.main_v6_2)) (v3 : (c : Dev Cert.KernelLossIdeal.nD) → Buf (Elt Ideal) ((c.tc : Thread Cert.KernelLossIdeal.nD Cert.KernelLossIdeal.τ).loc Cert.KernelLossIdeal.main_v6_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v6_0) = v0 c
          ∧ r.2.mem ((c.tc : Thread Cert.KernelLossIdeal.nD Cert.KernelLossIdeal.τ).loc Cert.KernelLossIdeal.main_v6_1) = v1 c
          ∧ r.2.mem ((c.tc : Thread Cert.KernelLossIdeal.nD Cert.KernelLossIdeal.τ).loc Cert.KernelLossIdeal.main_v6_2) = v2 c
          ∧ r.2.mem ((c.tc : Thread Cert.KernelLossIdeal.nD Cert.KernelLossIdeal.τ).loc Cert.KernelLossIdeal.main_v6_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v54) = v0 c
          ∧ r.2.mem ((c.tc : Thread Cert.ReferenceLossIdeal.nD Cert.ReferenceLossIdeal.τ).loc Cert.ReferenceLossIdeal.main_v56) = v1 c
          ∧ r.2.mem ((c.tc : Thread Cert.ReferenceLossIdeal.nD Cert.ReferenceLossIdeal.τ).loc Cert.ReferenceLossIdeal.main_v57) = v2 c
          ∧ r.2.mem ((c.tc : Thread Cert.ReferenceLossIdeal.nD Cert.ReferenceLossIdeal.τ).loc Cert.ReferenceLossIdeal.main_v58) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v4)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v4) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v15) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelInOwn_KernelInOwnIdeal : Prop :=
  True

def algebraic_KernelInOwnIdeal_ReferenceInOwnIdeal [hKernelInOwnIdeal : Cert.KernelInOwnIdeal.Facts] [hReferenceInOwnIdeal : Cert.ReferenceInOwnIdeal.Facts] : Prop :=
  ∀ (m : (ℓ : Loc Cert.KernelInOwnIdeal.nD Cert.KernelInOwnIdeal.τ Cert.KernelInOwnIdeal.sig) → Buf (Elt Ideal) ℓ) (g : Dev Cert.KernelInOwnIdeal.nD → PrngReg)
    (m' : (ℓ : Loc Cert.ReferenceInOwnIdeal.nD Cert.ReferenceInOwnIdeal.τ Cert.ReferenceInOwnIdeal.sig) → Buf (Elt Ideal) ℓ) (g' : Dev Cert.ReferenceInOwnIdeal.nD → PrngReg), Pre_KernelInOwnIdeal m →
    (∀ c : Dev Cert.KernelInOwnIdeal.nD,
      m' ((c.tc : Thread Cert.ReferenceInOwnIdeal.nD Cert.ReferenceInOwnIdeal.τ).loc Cert.ReferenceInOwnIdeal.main_arg0) = m ((c.tc : Thread Cert.KernelInOwnIdeal.nD Cert.KernelInOwnIdeal.τ).loc Cert.KernelInOwnIdeal.main_arg0)
      ∧ m' ((c.tc : Thread Cert.ReferenceInOwnIdeal.nD Cert.ReferenceInOwnIdeal.τ).loc Cert.ReferenceInOwnIdeal.main_arg1) = m ((c.tc : Thread Cert.KernelInOwnIdeal.nD Cert.KernelInOwnIdeal.τ).loc Cert.KernelInOwnIdeal.main_arg1)) →
    ∃ (v0 : (c : Dev Cert.KernelInOwnIdeal.nD) → Buf (Elt Ideal) ((c.tc : Thread Cert.KernelInOwnIdeal.nD Cert.KernelInOwnIdeal.τ).loc Cert.KernelInOwnIdeal.main_v7)),
      θ_run (Cert.KernelInOwnIdeal.defs (F := Ideal)) (onTc (τ := Cert.KernelInOwnIdeal.τ) (Cert.KernelInOwnIdeal.main (F := Ideal))) ⟨m, fun _ => 0, g⟩ (fun r => ∀ c : Dev Cert.KernelInOwnIdeal.nD,
          r.2.mem ((c.tc : Thread Cert.KernelInOwnIdeal.nD Cert.KernelInOwnIdeal.τ).loc Cert.KernelInOwnIdeal.main_v7) = v0 c
          ∧ r.2.mem ((c.tc : Thread Cert.KernelInOwnIdeal.nD Cert.KernelInOwnIdeal.τ).loc Cert.KernelInOwnIdeal.main_arg0) = m ((c.tc : Thread Cert.KernelInOwnIdeal.nD Cert.KernelInOwnIdeal.τ).loc Cert.KernelInOwnIdeal.main_arg0)
          ∧ r.2.mem ((c.tc : Thread Cert.KernelInOwnIdeal.nD Cert.KernelInOwnIdeal.τ).loc Cert.KernelInOwnIdeal.main_arg1) = m ((c.tc : Thread Cert.KernelInOwnIdeal.nD Cert.KernelInOwnIdeal.τ).loc Cert.KernelInOwnIdeal.main_arg1))
      ∧ θ_run (Cert.ReferenceInOwnIdeal.defs (F := Ideal)) (onTc (τ := Cert.ReferenceInOwnIdeal.τ) (Cert.ReferenceInOwnIdeal.main (F := Ideal))) ⟨m', fun _ => 0, g'⟩ (fun r => ∀ c : Dev Cert.ReferenceInOwnIdeal.nD,
          r.2.mem ((c.tc : Thread Cert.ReferenceInOwnIdeal.nD Cert.ReferenceInOwnIdeal.τ).loc Cert.ReferenceInOwnIdeal.main_v2) = v0 c
          ∧ r.2.mem ((c.tc : Thread Cert.ReferenceInOwnIdeal.nD Cert.ReferenceInOwnIdeal.τ).loc Cert.ReferenceInOwnIdeal.main_arg0) = m' ((c.tc : Thread Cert.ReferenceInOwnIdeal.nD Cert.ReferenceInOwnIdeal.τ).loc Cert.ReferenceInOwnIdeal.main_arg0)
          ∧ r.2.mem ((c.tc : Thread Cert.ReferenceInOwnIdeal.nD Cert.ReferenceInOwnIdeal.τ).loc Cert.ReferenceInOwnIdeal.main_arg1) = m' ((c.tc : Thread Cert.ReferenceInOwnIdeal.nD Cert.ReferenceInOwnIdeal.τ).loc Cert.ReferenceInOwnIdeal.main_arg1))

def preserves_KernelInRest_KernelInRestIdeal : Prop :=
  True

def algebraic_KernelInRestIdeal_ReferenceInRestIdeal [hKernelInRestIdeal : Cert.KernelInRestIdeal.Facts] [hReferenceInRestIdeal : Cert.ReferenceInRestIdeal.Facts] : Prop :=
  ∀ (m : (ℓ : Loc Cert.KernelInRestIdeal.nD Cert.KernelInRestIdeal.τ Cert.KernelInRestIdeal.sig) → Buf (Elt Ideal) ℓ) (g : Dev Cert.KernelInRestIdeal.nD → PrngReg)
    (m' : (ℓ : Loc Cert.ReferenceInRestIdeal.nD Cert.ReferenceInRestIdeal.τ Cert.ReferenceInRestIdeal.sig) → Buf (Elt Ideal) ℓ) (g' : Dev Cert.ReferenceInRestIdeal.nD → PrngReg), Pre_KernelInRestIdeal m →
    (∀ c : Dev Cert.KernelInRestIdeal.nD,
      m' ((c.tc : Thread Cert.ReferenceInRestIdeal.nD Cert.ReferenceInRestIdeal.τ).loc Cert.ReferenceInRestIdeal.main_arg0) = m ((c.tc : Thread Cert.KernelInRestIdeal.nD Cert.KernelInRestIdeal.τ).loc Cert.KernelInRestIdeal.main_arg0)
      ∧ m' ((c.tc : Thread Cert.ReferenceInRestIdeal.nD Cert.ReferenceInRestIdeal.τ).loc Cert.ReferenceInRestIdeal.main_arg1) = m ((c.tc : Thread Cert.KernelInRestIdeal.nD Cert.KernelInRestIdeal.τ).loc Cert.KernelInRestIdeal.main_arg1)
      ∧ m' ((c.tc : Thread Cert.ReferenceInRestIdeal.nD Cert.ReferenceInRestIdeal.τ).loc Cert.ReferenceInRestIdeal.main_arg2) = m ((c.tc : Thread Cert.KernelInRestIdeal.nD Cert.KernelInRestIdeal.τ).loc Cert.KernelInRestIdeal.main_arg2)) →
    ∃ (v0 : (c : Dev Cert.KernelInRestIdeal.nD) → Buf (Elt Ideal) ((c.tc : Thread Cert.KernelInRestIdeal.nD Cert.KernelInRestIdeal.τ).loc Cert.KernelInRestIdeal.main_v8)),
      θ_run (Cert.KernelInRestIdeal.defs (F := Ideal)) (onTc (τ := Cert.KernelInRestIdeal.τ) (Cert.KernelInRestIdeal.main (F := Ideal))) ⟨m, fun _ => 0, g⟩ (fun r => ∀ c : Dev Cert.KernelInRestIdeal.nD,
          r.2.mem ((c.tc : Thread Cert.KernelInRestIdeal.nD Cert.KernelInRestIdeal.τ).loc Cert.KernelInRestIdeal.main_v8) = v0 c
          ∧ r.2.mem ((c.tc : Thread Cert.KernelInRestIdeal.nD Cert.KernelInRestIdeal.τ).loc Cert.KernelInRestIdeal.main_arg0) = m ((c.tc : Thread Cert.KernelInRestIdeal.nD Cert.KernelInRestIdeal.τ).loc Cert.KernelInRestIdeal.main_arg0)
          ∧ r.2.mem ((c.tc : Thread Cert.KernelInRestIdeal.nD Cert.KernelInRestIdeal.τ).loc Cert.KernelInRestIdeal.main_arg1) = m ((c.tc : Thread Cert.KernelInRestIdeal.nD Cert.KernelInRestIdeal.τ).loc Cert.KernelInRestIdeal.main_arg1)
          ∧ r.2.mem ((c.tc : Thread Cert.KernelInRestIdeal.nD Cert.KernelInRestIdeal.τ).loc Cert.KernelInRestIdeal.main_arg2) = m ((c.tc : Thread Cert.KernelInRestIdeal.nD Cert.KernelInRestIdeal.τ).loc Cert.KernelInRestIdeal.main_arg2))
      ∧ θ_run (Cert.ReferenceInRestIdeal.defs (F := Ideal)) (onTc (τ := Cert.ReferenceInRestIdeal.τ) (Cert.ReferenceInRestIdeal.main (F := Ideal))) ⟨m', fun _ => 0, g'⟩ (fun r => ∀ c : Dev Cert.ReferenceInRestIdeal.nD,
          r.2.mem ((c.tc : Thread Cert.ReferenceInRestIdeal.nD Cert.ReferenceInRestIdeal.τ).loc Cert.ReferenceInRestIdeal.main_v4) = v0 c
          ∧ r.2.mem ((c.tc : Thread Cert.ReferenceInRestIdeal.nD Cert.ReferenceInRestIdeal.τ).loc Cert.ReferenceInRestIdeal.main_arg0) = m' ((c.tc : Thread Cert.ReferenceInRestIdeal.nD Cert.ReferenceInRestIdeal.τ).loc Cert.ReferenceInRestIdeal.main_arg0)
          ∧ r.2.mem ((c.tc : Thread Cert.ReferenceInRestIdeal.nD Cert.ReferenceInRestIdeal.τ).loc Cert.ReferenceInRestIdeal.main_arg1) = m' ((c.tc : Thread Cert.ReferenceInRestIdeal.nD Cert.ReferenceInRestIdeal.τ).loc Cert.ReferenceInRestIdeal.main_arg1)
          ∧ r.2.mem ((c.tc : Thread Cert.ReferenceInRestIdeal.nD Cert.ReferenceInRestIdeal.τ).loc Cert.ReferenceInRestIdeal.main_arg2) = m' ((c.tc : Thread Cert.ReferenceInRestIdeal.nD Cert.ReferenceInRestIdeal.τ).loc Cert.ReferenceInRestIdeal.main_arg2))

def preserves_KernelWRows_KernelWRowsIdeal : Prop :=
  True

def algebraic_KernelWRowsIdeal_ReferenceWRowsIdeal [hKernelWRowsIdeal : Cert.KernelWRowsIdeal.Facts] [hReferenceWRowsIdeal : Cert.ReferenceWRowsIdeal.Facts] : Prop :=
  ∀ (m : (ℓ : Loc Cert.KernelWRowsIdeal.nD Cert.KernelWRowsIdeal.τ Cert.KernelWRowsIdeal.sig) → Buf (Elt Ideal) ℓ) (g : Dev Cert.KernelWRowsIdeal.nD → PrngReg)
    (m' : (ℓ : Loc Cert.ReferenceWRowsIdeal.nD Cert.ReferenceWRowsIdeal.τ Cert.ReferenceWRowsIdeal.sig) → Buf (Elt Ideal) ℓ) (g' : Dev Cert.ReferenceWRowsIdeal.nD → PrngReg), Pre_KernelWRowsIdeal m →
    (∀ c : Dev Cert.KernelWRowsIdeal.nD,
      m' ((c.tc : Thread Cert.ReferenceWRowsIdeal.nD Cert.ReferenceWRowsIdeal.τ).loc Cert.ReferenceWRowsIdeal.main_arg0) = m ((c.tc : Thread Cert.KernelWRowsIdeal.nD Cert.KernelWRowsIdeal.τ).loc Cert.KernelWRowsIdeal.main_arg0)) →
    ∃ (v0 : (c : Dev Cert.KernelWRowsIdeal.nD) → Buf (Elt Ideal) ((c.tc : Thread Cert.KernelWRowsIdeal.nD Cert.KernelWRowsIdeal.τ).loc Cert.KernelWRowsIdeal.main_v0)),
      θ_run (Cert.KernelWRowsIdeal.defs (F := Ideal)) (onTc (τ := Cert.KernelWRowsIdeal.τ) (Cert.KernelWRowsIdeal.main (F := Ideal))) ⟨m, fun _ => 0, g⟩ (fun r => ∀ c : Dev Cert.KernelWRowsIdeal.nD,
          r.2.mem ((c.tc : Thread Cert.KernelWRowsIdeal.nD Cert.KernelWRowsIdeal.τ).loc Cert.KernelWRowsIdeal.main_v0) = v0 c
          ∧ r.2.mem ((c.tc : Thread Cert.KernelWRowsIdeal.nD Cert.KernelWRowsIdeal.τ).loc Cert.KernelWRowsIdeal.main_arg0) = m ((c.tc : Thread Cert.KernelWRowsIdeal.nD Cert.KernelWRowsIdeal.τ).loc Cert.KernelWRowsIdeal.main_arg0))
      ∧ θ_run (Cert.ReferenceWRowsIdeal.defs (F := Ideal)) (onTc (τ := Cert.ReferenceWRowsIdeal.τ) (Cert.ReferenceWRowsIdeal.main (F := Ideal))) ⟨m', fun _ => 0, g'⟩ (fun r => ∀ c : Dev Cert.ReferenceWRowsIdeal.nD,
          r.2.mem ((c.tc : Thread Cert.ReferenceWRowsIdeal.nD Cert.ReferenceWRowsIdeal.τ).loc Cert.ReferenceWRowsIdeal.main_v1) = v0 c
          ∧ r.2.mem ((c.tc : Thread Cert.ReferenceWRowsIdeal.nD Cert.ReferenceWRowsIdeal.τ).loc Cert.ReferenceWRowsIdeal.main_arg0) = m' ((c.tc : Thread Cert.ReferenceWRowsIdeal.nD Cert.ReferenceWRowsIdeal.τ).loc Cert.ReferenceWRowsIdeal.main_arg0))

def preserves_KernelInDx_KernelInDxIdeal : Prop :=
  True

def algebraic_KernelInDxIdeal_ReferenceInDxIdeal_pre_finite_in_dx [hKernelInDxIdeal : Cert.KernelInDxIdeal.Facts] [hReferenceInDxIdeal : Cert.ReferenceInDxIdeal.Facts] [hPre_finite_in_dx : Cert.Pre_finite_in_dx.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal_finite_in_dx m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)
      ∧ m' ((c.tc : Thread Cert.ReferenceInDxIdeal.nD Cert.ReferenceInDxIdeal.τ).loc Cert.ReferenceInDxIdeal.main_arg2) = m ((c.tc : Thread Cert.KernelInDxIdeal.nD Cert.KernelInDxIdeal.τ).loc Cert.KernelInDxIdeal.main_arg2)
      ∧ m' ((c.tc : Thread Cert.ReferenceInDxIdeal.nD Cert.ReferenceInDxIdeal.τ).loc Cert.ReferenceInDxIdeal.main_arg3) = m ((c.tc : Thread Cert.KernelInDxIdeal.nD Cert.KernelInDxIdeal.τ).loc Cert.KernelInDxIdeal.main_arg3)
      ∧ m' ((c.tc : Thread Cert.ReferenceInDxIdeal.nD Cert.ReferenceInDxIdeal.τ).loc Cert.ReferenceInDxIdeal.main_arg4) = m ((c.tc : Thread Cert.KernelInDxIdeal.nD Cert.KernelInDxIdeal.τ).loc Cert.KernelInDxIdeal.main_arg4)) →
    ∃ (v0 : (c : Dev Cert.KernelInDxIdeal.nD) → Buf (Elt Ideal) ((c.tc : Thread Cert.KernelInDxIdeal.nD Cert.KernelInDxIdeal.τ).loc Cert.KernelInDxIdeal.main_v6_0)) (v1 : (c : Dev Cert.KernelInDxIdeal.nD) → Buf (Elt Ideal) ((c.tc : Thread Cert.KernelInDxIdeal.nD Cert.KernelInDxIdeal.τ).loc Cert.KernelInDxIdeal.main_v7)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v6_0) = v0 c
          ∧ r.2.mem ((c.tc : Thread Cert.KernelInDxIdeal.nD Cert.KernelInDxIdeal.τ).loc Cert.KernelInDxIdeal.main_v7) = v1 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1)
          ∧ r.2.mem ((c.tc : Thread Cert.KernelInDxIdeal.nD Cert.KernelInDxIdeal.τ).loc Cert.KernelInDxIdeal.main_arg2) = m ((c.tc : Thread Cert.KernelInDxIdeal.nD Cert.KernelInDxIdeal.τ).loc Cert.KernelInDxIdeal.main_arg2)
          ∧ r.2.mem ((c.tc : Thread Cert.KernelInDxIdeal.nD Cert.KernelInDxIdeal.τ).loc Cert.KernelInDxIdeal.main_arg3) = m ((c.tc : Thread Cert.KernelInDxIdeal.nD Cert.KernelInDxIdeal.τ).loc Cert.KernelInDxIdeal.main_arg3)
          ∧ r.2.mem ((c.tc : Thread Cert.KernelInDxIdeal.nD Cert.KernelInDxIdeal.τ).loc Cert.KernelInDxIdeal.main_arg4) = m ((c.tc : Thread Cert.KernelInDxIdeal.nD Cert.KernelInDxIdeal.τ).loc Cert.KernelInDxIdeal.main_arg4))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v42) = v0 c
          ∧ r.2.mem ((c.tc : Thread Cert.ReferenceInDxIdeal.nD Cert.ReferenceInDxIdeal.τ).loc Cert.ReferenceInDxIdeal.main_v41) = v1 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1)
          ∧ r.2.mem ((c.tc : Thread Cert.ReferenceInDxIdeal.nD Cert.ReferenceInDxIdeal.τ).loc Cert.ReferenceInDxIdeal.main_arg2) = m' ((c.tc : Thread Cert.ReferenceInDxIdeal.nD Cert.ReferenceInDxIdeal.τ).loc Cert.ReferenceInDxIdeal.main_arg2)
          ∧ r.2.mem ((c.tc : Thread Cert.ReferenceInDxIdeal.nD Cert.ReferenceInDxIdeal.τ).loc Cert.ReferenceInDxIdeal.main_arg3) = m' ((c.tc : Thread Cert.ReferenceInDxIdeal.nD Cert.ReferenceInDxIdeal.τ).loc Cert.ReferenceInDxIdeal.main_arg3)
          ∧ r.2.mem ((c.tc : Thread Cert.ReferenceInDxIdeal.nD Cert.ReferenceInDxIdeal.τ).loc Cert.ReferenceInDxIdeal.main_arg4) = m' ((c.tc : Thread Cert.ReferenceInDxIdeal.nD Cert.ReferenceInDxIdeal.τ).loc Cert.ReferenceInDxIdeal.main_arg4))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)
      ∧ m' ((c.tc : Thread Cert.ReferenceAdamDownIdeal.nD Cert.ReferenceAdamDownIdeal.τ).loc Cert.ReferenceAdamDownIdeal.main_arg4) = m ((c.tc : Thread Cert.KernelAdamDownIdeal.nD Cert.KernelAdamDownIdeal.τ).loc Cert.KernelAdamDownIdeal.main_arg4)) →
    ∃ (v0 : (c : Dev Cert.KernelAdamDownIdeal.nD) → Buf (Elt Ideal) ((c.tc : Thread Cert.KernelAdamDownIdeal.nD Cert.KernelAdamDownIdeal.τ).loc Cert.KernelAdamDownIdeal.main_v4_0)) (v1 : (c : Dev Cert.KernelAdamDownIdeal.nD) → Buf (Elt Ideal) ((c.tc : Thread Cert.KernelAdamDownIdeal.nD Cert.KernelAdamDownIdeal.τ).loc Cert.KernelAdamDownIdeal.main_v4_1)) (v2 : (c : Dev Cert.KernelAdamDownIdeal.nD) → Buf (Elt Ideal) ((c.tc : Thread Cert.KernelAdamDownIdeal.nD Cert.KernelAdamDownIdeal.τ).loc Cert.KernelAdamDownIdeal.main_v4_2)) (v3 : (c : Dev Cert.KernelAdamDownIdeal.nD) → Buf (Elt Ideal) ((c.tc : Thread Cert.KernelAdamDownIdeal.nD Cert.KernelAdamDownIdeal.τ).loc Cert.KernelAdamDownIdeal.main_v4_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v4_0) = v0 c
          ∧ r.2.mem ((c.tc : Thread Cert.KernelAdamDownIdeal.nD Cert.KernelAdamDownIdeal.τ).loc Cert.KernelAdamDownIdeal.main_v4_1) = v1 c
          ∧ r.2.mem ((c.tc : Thread Cert.KernelAdamDownIdeal.nD Cert.KernelAdamDownIdeal.τ).loc Cert.KernelAdamDownIdeal.main_v4_2) = v2 c
          ∧ r.2.mem ((c.tc : Thread Cert.KernelAdamDownIdeal.nD Cert.KernelAdamDownIdeal.τ).loc Cert.KernelAdamDownIdeal.main_v4_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
          ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v1) = v0 c
          ∧ r.2.mem ((c.tc : Thread Cert.ReferenceAdamDownIdeal.nD Cert.ReferenceAdamDownIdeal.τ).loc Cert.ReferenceAdamDownIdeal.main_v28) = v1 c
          ∧ r.2.mem ((c.tc : Thread Cert.ReferenceAdamDownIdeal.nD Cert.ReferenceAdamDownIdeal.τ).loc Cert.ReferenceAdamDownIdeal.main_v9) = v2 c
          ∧ r.2.mem ((c.tc : Thread Cert.ReferenceAdamDownIdeal.nD Cert.ReferenceAdamDownIdeal.τ).loc Cert.ReferenceAdamDownIdeal.main_v15) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3)
          ∧ r.2.mem ((c.tc : Thread Cert.ReferenceAdamDownIdeal.nD Cert.ReferenceAdamDownIdeal.τ).loc Cert.ReferenceAdamDownIdeal.main_arg4) = m' ((c.tc : Thread Cert.ReferenceAdamDownIdeal.nD Cert.ReferenceAdamDownIdeal.τ).loc Cert.ReferenceAdamDownIdeal.main_arg4))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)
      ∧ m' ((c.tc : Thread Cert.ReferenceAdamUpIdeal.nD Cert.ReferenceAdamUpIdeal.τ).loc Cert.ReferenceAdamUpIdeal.main_arg4) = m ((c.tc : Thread Cert.KernelAdamUpIdeal.nD Cert.KernelAdamUpIdeal.τ).loc Cert.KernelAdamUpIdeal.main_arg4)) →
    ∃ (v0 : (c : Dev Cert.KernelAdamUpIdeal.nD) → Buf (Elt Ideal) ((c.tc : Thread Cert.KernelAdamUpIdeal.nD Cert.KernelAdamUpIdeal.τ).loc Cert.KernelAdamUpIdeal.main_v4_0)) (v1 : (c : Dev Cert.KernelAdamUpIdeal.nD) → Buf (Elt Ideal) ((c.tc : Thread Cert.KernelAdamUpIdeal.nD Cert.KernelAdamUpIdeal.τ).loc Cert.KernelAdamUpIdeal.main_v4_1)) (v2 : (c : Dev Cert.KernelAdamUpIdeal.nD) → Buf (Elt Ideal) ((c.tc : Thread Cert.KernelAdamUpIdeal.nD Cert.KernelAdamUpIdeal.τ).loc Cert.KernelAdamUpIdeal.main_v4_2)) (v3 : (c : Dev Cert.KernelAdamUpIdeal.nD) → Buf (Elt Ideal) ((c.tc : Thread Cert.KernelAdamUpIdeal.nD Cert.KernelAdamUpIdeal.τ).loc Cert.KernelAdamUpIdeal.main_v4_3)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v4_0) = v0 c
          ∧ r.2.mem ((c.tc : Thread Cert.KernelAdamUpIdeal.nD Cert.KernelAdamUpIdeal.τ).loc Cert.KernelAdamUpIdeal.main_v4_1) = v1 c
          ∧ r.2.mem ((c.tc : Thread Cert.KernelAdamUpIdeal.nD Cert.KernelAdamUpIdeal.τ).loc Cert.KernelAdamUpIdeal.main_v4_2) = v2 c
          ∧ r.2.mem ((c.tc : Thread Cert.KernelAdamUpIdeal.nD Cert.KernelAdamUpIdeal.τ).loc Cert.KernelAdamUpIdeal.main_v4_3) = v3 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
          ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v1) = v0 c
          ∧ r.2.mem ((c.tc : Thread Cert.ReferenceAdamUpIdeal.nD Cert.ReferenceAdamUpIdeal.τ).loc Cert.ReferenceAdamUpIdeal.main_v28) = v1 c
          ∧ r.2.mem ((c.tc : Thread Cert.ReferenceAdamUpIdeal.nD Cert.ReferenceAdamUpIdeal.τ).loc Cert.ReferenceAdamUpIdeal.main_v9) = v2 c
          ∧ r.2.mem ((c.tc : Thread Cert.ReferenceAdamUpIdeal.nD Cert.ReferenceAdamUpIdeal.τ).loc Cert.ReferenceAdamUpIdeal.main_v15) = v3 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3)
          ∧ r.2.mem ((c.tc : Thread Cert.ReferenceAdamUpIdeal.nD Cert.ReferenceAdamUpIdeal.τ).loc Cert.ReferenceAdamUpIdeal.main_arg4) = m' ((c.tc : Thread Cert.ReferenceAdamUpIdeal.nD Cert.ReferenceAdamUpIdeal.τ).loc Cert.ReferenceAdamUpIdeal.main_arg4))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)
      ∧ m' ((c.tc : Thread Cert.ReferenceAdamOutIdeal.nD Cert.ReferenceAdamOutIdeal.τ).loc Cert.ReferenceAdamOutIdeal.main_arg4) = m ((c.tc : Thread Cert.KernelAdamOutIdeal.nD Cert.KernelAdamOutIdeal.τ).loc Cert.KernelAdamOutIdeal.main_arg4)) →
    ∃ (v0 : (c : Dev Cert.KernelAdamOutIdeal.nD) → Buf (Elt Ideal) ((c.tc : Thread Cert.KernelAdamOutIdeal.nD Cert.KernelAdamOutIdeal.τ).loc Cert.KernelAdamOutIdeal.main_v4_0)) (v1 : (c : Dev Cert.KernelAdamOutIdeal.nD) → Buf (Elt Ideal) ((c.tc : Thread Cert.KernelAdamOutIdeal.nD Cert.KernelAdamOutIdeal.τ).loc Cert.KernelAdamOutIdeal.main_v4_1)) (v2 : (c : Dev Cert.KernelAdamOutIdeal.nD) → Buf (Elt Ideal) ((c.tc : Thread Cert.KernelAdamOutIdeal.nD Cert.KernelAdamOutIdeal.τ).loc Cert.KernelAdamOutIdeal.main_v4_2)) (v3 : (c : Dev Cert.KernelAdamOutIdeal.nD) → Buf (Elt Ideal) ((c.tc : Thread Cert.KernelAdamOutIdeal.nD Cert.KernelAdamOutIdeal.τ).loc Cert.KernelAdamOutIdeal.main_v4_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v4_0) = v0 c
          ∧ r.2.mem ((c.tc : Thread Cert.KernelAdamOutIdeal.nD Cert.KernelAdamOutIdeal.τ).loc Cert.KernelAdamOutIdeal.main_v4_1) = v1 c
          ∧ r.2.mem ((c.tc : Thread Cert.KernelAdamOutIdeal.nD Cert.KernelAdamOutIdeal.τ).loc Cert.KernelAdamOutIdeal.main_v4_2) = v2 c
          ∧ r.2.mem ((c.tc : Thread Cert.KernelAdamOutIdeal.nD Cert.KernelAdamOutIdeal.τ).loc Cert.KernelAdamOutIdeal.main_v4_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
          ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v1) = v0 c
          ∧ r.2.mem ((c.tc : Thread Cert.ReferenceAdamOutIdeal.nD Cert.ReferenceAdamOutIdeal.τ).loc Cert.ReferenceAdamOutIdeal.main_v28) = v1 c
          ∧ r.2.mem ((c.tc : Thread Cert.ReferenceAdamOutIdeal.nD Cert.ReferenceAdamOutIdeal.τ).loc Cert.ReferenceAdamOutIdeal.main_v9) = v2 c
          ∧ r.2.mem ((c.tc : Thread Cert.ReferenceAdamOutIdeal.nD Cert.ReferenceAdamOutIdeal.τ).loc Cert.ReferenceAdamOutIdeal.main_v15) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3)
          ∧ r.2.mem ((c.tc : Thread Cert.ReferenceAdamOutIdeal.nD Cert.ReferenceAdamOutIdeal.τ).loc Cert.ReferenceAdamOutIdeal.main_arg4) = m' ((c.tc : Thread Cert.ReferenceAdamOutIdeal.nD Cert.ReferenceAdamOutIdeal.τ).loc Cert.ReferenceAdamOutIdeal.main_arg4))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)
      ∧ m' ((c.tc : Thread Cert.ReferenceAdamInIdeal.nD Cert.ReferenceAdamInIdeal.τ).loc Cert.ReferenceAdamInIdeal.main_arg4) = m ((c.tc : Thread Cert.KernelAdamInIdeal.nD Cert.KernelAdamInIdeal.τ).loc Cert.KernelAdamInIdeal.main_arg4)) →
    ∃ (v0 : (c : Dev Cert.KernelAdamInIdeal.nD) → Buf (Elt Ideal) ((c.tc : Thread Cert.KernelAdamInIdeal.nD Cert.KernelAdamInIdeal.τ).loc Cert.KernelAdamInIdeal.main_v4_0)) (v1 : (c : Dev Cert.KernelAdamInIdeal.nD) → Buf (Elt Ideal) ((c.tc : Thread Cert.KernelAdamInIdeal.nD Cert.KernelAdamInIdeal.τ).loc Cert.KernelAdamInIdeal.main_v4_1)) (v2 : (c : Dev Cert.KernelAdamInIdeal.nD) → Buf (Elt Ideal) ((c.tc : Thread Cert.KernelAdamInIdeal.nD Cert.KernelAdamInIdeal.τ).loc Cert.KernelAdamInIdeal.main_v4_2)) (v3 : (c : Dev Cert.KernelAdamInIdeal.nD) → Buf (Elt Ideal) ((c.tc : Thread Cert.KernelAdamInIdeal.nD Cert.KernelAdamInIdeal.τ).loc Cert.KernelAdamInIdeal.main_v4_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v4_0) = v0 c
          ∧ r.2.mem ((c.tc : Thread Cert.KernelAdamInIdeal.nD Cert.KernelAdamInIdeal.τ).loc Cert.KernelAdamInIdeal.main_v4_1) = v1 c
          ∧ r.2.mem ((c.tc : Thread Cert.KernelAdamInIdeal.nD Cert.KernelAdamInIdeal.τ).loc Cert.KernelAdamInIdeal.main_v4_2) = v2 c
          ∧ r.2.mem ((c.tc : Thread Cert.KernelAdamInIdeal.nD Cert.KernelAdamInIdeal.τ).loc Cert.KernelAdamInIdeal.main_v4_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
          ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v1) = v0 c
          ∧ r.2.mem ((c.tc : Thread Cert.ReferenceAdamInIdeal.nD Cert.ReferenceAdamInIdeal.τ).loc Cert.ReferenceAdamInIdeal.main_v28) = v1 c
          ∧ r.2.mem ((c.tc : Thread Cert.ReferenceAdamInIdeal.nD Cert.ReferenceAdamInIdeal.τ).loc Cert.ReferenceAdamInIdeal.main_v9) = v2 c
          ∧ r.2.mem ((c.tc : Thread Cert.ReferenceAdamInIdeal.nD Cert.ReferenceAdamInIdeal.τ).loc Cert.ReferenceAdamInIdeal.main_v15) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3)
          ∧ r.2.mem ((c.tc : Thread Cert.ReferenceAdamInIdeal.nD Cert.ReferenceAdamInIdeal.τ).loc Cert.ReferenceAdamInIdeal.main_arg4) = m' ((c.tc : Thread Cert.ReferenceAdamInIdeal.nD Cert.ReferenceAdamInIdeal.τ).loc Cert.ReferenceAdamInIdeal.main_arg4))

def preserves_KernelAdamLru_KernelAdamLruIdeal : Prop :=
  True

def algebraic_KernelAdamLruIdeal_ReferenceAdamLruIdeal [hKernelAdamLruIdeal : Cert.KernelAdamLruIdeal.Facts] [hReferenceAdamLruIdeal : Cert.ReferenceAdamLruIdeal.Facts] : Prop :=
  ∀ (m : (ℓ : Loc Cert.KernelAdamLruIdeal.nD Cert.KernelAdamLruIdeal.τ Cert.KernelAdamLruIdeal.sig) → Buf (Elt Ideal) ℓ) (g : Dev Cert.KernelAdamLruIdeal.nD → PrngReg)
    (m' : (ℓ : Loc Cert.ReferenceAdamLruIdeal.nD Cert.ReferenceAdamLruIdeal.τ Cert.ReferenceAdamLruIdeal.sig) → Buf (Elt Ideal) ℓ) (g' : Dev Cert.ReferenceAdamLruIdeal.nD → PrngReg), Pre_KernelAdamLruIdeal m →
    (∀ c : Dev Cert.KernelAdamLruIdeal.nD,
      m' ((c.tc : Thread Cert.ReferenceAdamLruIdeal.nD Cert.ReferenceAdamLruIdeal.τ).loc Cert.ReferenceAdamLruIdeal.main_arg0) = m ((c.tc : Thread Cert.KernelAdamLruIdeal.nD Cert.KernelAdamLruIdeal.τ).loc Cert.KernelAdamLruIdeal.main_arg0)
      ∧ m' ((c.tc : Thread Cert.ReferenceAdamLruIdeal.nD Cert.ReferenceAdamLruIdeal.τ).loc Cert.ReferenceAdamLruIdeal.main_arg1) = m ((c.tc : Thread Cert.KernelAdamLruIdeal.nD Cert.KernelAdamLruIdeal.τ).loc Cert.KernelAdamLruIdeal.main_arg1)
      ∧ m' ((c.tc : Thread Cert.ReferenceAdamLruIdeal.nD Cert.ReferenceAdamLruIdeal.τ).loc Cert.ReferenceAdamLruIdeal.main_arg2) = m ((c.tc : Thread Cert.KernelAdamLruIdeal.nD Cert.KernelAdamLruIdeal.τ).loc Cert.KernelAdamLruIdeal.main_arg2)
      ∧ m' ((c.tc : Thread Cert.ReferenceAdamLruIdeal.nD Cert.ReferenceAdamLruIdeal.τ).loc Cert.ReferenceAdamLruIdeal.main_arg3) = m ((c.tc : Thread Cert.KernelAdamLruIdeal.nD Cert.KernelAdamLruIdeal.τ).loc Cert.KernelAdamLruIdeal.main_arg3)) →
    ∃ (v0 : (c : Dev Cert.KernelAdamLruIdeal.nD) → Buf (Elt Ideal) ((c.tc : Thread Cert.KernelAdamLruIdeal.nD Cert.KernelAdamLruIdeal.τ).loc Cert.KernelAdamLruIdeal.main_v3_0)) (v1 : (c : Dev Cert.KernelAdamLruIdeal.nD) → Buf (Elt Ideal) ((c.tc : Thread Cert.KernelAdamLruIdeal.nD Cert.KernelAdamLruIdeal.τ).loc Cert.KernelAdamLruIdeal.main_v3_1)) (v2 : (c : Dev Cert.KernelAdamLruIdeal.nD) → Buf (Elt Ideal) ((c.tc : Thread Cert.KernelAdamLruIdeal.nD Cert.KernelAdamLruIdeal.τ).loc Cert.KernelAdamLruIdeal.main_v3_2)) (v3 : (c : Dev Cert.KernelAdamLruIdeal.nD) → Buf (Elt Ideal) ((c.tc : Thread Cert.KernelAdamLruIdeal.nD Cert.KernelAdamLruIdeal.τ).loc Cert.KernelAdamLruIdeal.main_v3_3)),
      θ_run (Cert.KernelAdamLruIdeal.defs (F := Ideal)) (onTc (τ := Cert.KernelAdamLruIdeal.τ) (Cert.KernelAdamLruIdeal.main (F := Ideal))) ⟨m, fun _ => 0, g⟩ (fun r => ∀ c : Dev Cert.KernelAdamLruIdeal.nD,
          r.2.mem ((c.tc : Thread Cert.KernelAdamLruIdeal.nD Cert.KernelAdamLruIdeal.τ).loc Cert.KernelAdamLruIdeal.main_v3_0) = v0 c
          ∧ r.2.mem ((c.tc : Thread Cert.KernelAdamLruIdeal.nD Cert.KernelAdamLruIdeal.τ).loc Cert.KernelAdamLruIdeal.main_v3_1) = v1 c
          ∧ r.2.mem ((c.tc : Thread Cert.KernelAdamLruIdeal.nD Cert.KernelAdamLruIdeal.τ).loc Cert.KernelAdamLruIdeal.main_v3_2) = v2 c
          ∧ r.2.mem ((c.tc : Thread Cert.KernelAdamLruIdeal.nD Cert.KernelAdamLruIdeal.τ).loc Cert.KernelAdamLruIdeal.main_v3_3) = v3 c
          ∧ r.2.mem ((c.tc : Thread Cert.KernelAdamLruIdeal.nD Cert.KernelAdamLruIdeal.τ).loc Cert.KernelAdamLruIdeal.main_arg0) = m ((c.tc : Thread Cert.KernelAdamLruIdeal.nD Cert.KernelAdamLruIdeal.τ).loc Cert.KernelAdamLruIdeal.main_arg0)
          ∧ r.2.mem ((c.tc : Thread Cert.KernelAdamLruIdeal.nD Cert.KernelAdamLruIdeal.τ).loc Cert.KernelAdamLruIdeal.main_arg1) = m ((c.tc : Thread Cert.KernelAdamLruIdeal.nD Cert.KernelAdamLruIdeal.τ).loc Cert.KernelAdamLruIdeal.main_arg1)
          ∧ r.2.mem ((c.tc : Thread Cert.KernelAdamLruIdeal.nD Cert.KernelAdamLruIdeal.τ).loc Cert.KernelAdamLruIdeal.main_arg2) = m ((c.tc : Thread Cert.KernelAdamLruIdeal.nD Cert.KernelAdamLruIdeal.τ).loc Cert.KernelAdamLruIdeal.main_arg2)
          ∧ r.2.mem ((c.tc : Thread Cert.KernelAdamLruIdeal.nD Cert.KernelAdamLruIdeal.τ).loc Cert.KernelAdamLruIdeal.main_arg3) = m ((c.tc : Thread Cert.KernelAdamLruIdeal.nD Cert.KernelAdamLruIdeal.τ).loc Cert.KernelAdamLruIdeal.main_arg3))
      ∧ θ_run (Cert.ReferenceAdamLruIdeal.defs (F := Ideal)) (onTc (τ := Cert.ReferenceAdamLruIdeal.τ) (Cert.ReferenceAdamLruIdeal.main (F := Ideal))) ⟨m', fun _ => 0, g'⟩ (fun r => ∀ c : Dev Cert.ReferenceAdamLruIdeal.nD,
          r.2.mem ((c.tc : Thread Cert.ReferenceAdamLruIdeal.nD Cert.ReferenceAdamLruIdeal.τ).loc Cert.ReferenceAdamLruIdeal.main_arg3) = v0 c
          ∧ r.2.mem ((c.tc : Thread Cert.ReferenceAdamLruIdeal.nD Cert.ReferenceAdamLruIdeal.τ).loc Cert.ReferenceAdamLruIdeal.main_v26) = v1 c
          ∧ r.2.mem ((c.tc : Thread Cert.ReferenceAdamLruIdeal.nD Cert.ReferenceAdamLruIdeal.τ).loc Cert.ReferenceAdamLruIdeal.main_v7) = v2 c
          ∧ r.2.mem ((c.tc : Thread Cert.ReferenceAdamLruIdeal.nD Cert.ReferenceAdamLruIdeal.τ).loc Cert.ReferenceAdamLruIdeal.main_v13) = v3 c
          ∧ r.2.mem ((c.tc : Thread Cert.ReferenceAdamLruIdeal.nD Cert.ReferenceAdamLruIdeal.τ).loc Cert.ReferenceAdamLruIdeal.main_arg0) = m' ((c.tc : Thread Cert.ReferenceAdamLruIdeal.nD Cert.ReferenceAdamLruIdeal.τ).loc Cert.ReferenceAdamLruIdeal.main_arg0)
          ∧ r.2.mem ((c.tc : Thread Cert.ReferenceAdamLruIdeal.nD Cert.ReferenceAdamLruIdeal.τ).loc Cert.ReferenceAdamLruIdeal.main_arg1) = m' ((c.tc : Thread Cert.ReferenceAdamLruIdeal.nD Cert.ReferenceAdamLruIdeal.τ).loc Cert.ReferenceAdamLruIdeal.main_arg1)
          ∧ r.2.mem ((c.tc : Thread Cert.ReferenceAdamLruIdeal.nD Cert.ReferenceAdamLruIdeal.τ).loc Cert.ReferenceAdamLruIdeal.main_arg2) = m' ((c.tc : Thread Cert.ReferenceAdamLruIdeal.nD Cert.ReferenceAdamLruIdeal.τ).loc Cert.ReferenceAdamLruIdeal.main_arg2)
          ∧ r.2.mem ((c.tc : Thread Cert.ReferenceAdamLruIdeal.nD Cert.ReferenceAdamLruIdeal.τ).loc Cert.ReferenceAdamLruIdeal.main_arg3) = m' ((c.tc : Thread Cert.ReferenceAdamLruIdeal.nD Cert.ReferenceAdamLruIdeal.τ).loc Cert.ReferenceAdamLruIdeal.main_arg3))

def preserves_KernelAdamConv_KernelAdamConvIdeal : Prop :=
  True

def algebraic_KernelAdamConvIdeal_ReferenceAdamConvIdeal [hKernelAdamConvIdeal : Cert.KernelAdamConvIdeal.Facts] [hReferenceAdamConvIdeal : Cert.ReferenceAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg)
    (m' : (ℓ : Loc Cert.ReferenceAdamConvIdeal.nD Cert.ReferenceAdamConvIdeal.τ Cert.ReferenceAdamConvIdeal.sig) → Buf (Elt Ideal) ℓ) (g' : Dev Cert.ReferenceAdamConvIdeal.nD → PrngReg), Pre_KernelAdamConvIdeal m →
    (∀ c : Dev Cert.KernelAdamConvIdeal.nD,
      m' ((c.tc : Thread Cert.ReferenceAdamConvIdeal.nD Cert.ReferenceAdamConvIdeal.τ).loc Cert.ReferenceAdamConvIdeal.main_arg0) = m ((c.tc : Thread Cert.KernelAdamConvIdeal.nD Cert.KernelAdamConvIdeal.τ).loc Cert.KernelAdamConvIdeal.main_arg0)
      ∧ m' ((c.tc : Thread Cert.ReferenceAdamConvIdeal.nD Cert.ReferenceAdamConvIdeal.τ).loc Cert.ReferenceAdamConvIdeal.main_arg1) = m ((c.tc : Thread Cert.KernelAdamConvIdeal.nD Cert.KernelAdamConvIdeal.τ).loc Cert.KernelAdamConvIdeal.main_arg1)
      ∧ m' ((c.tc : Thread Cert.ReferenceAdamConvIdeal.nD Cert.ReferenceAdamConvIdeal.τ).loc Cert.ReferenceAdamConvIdeal.main_arg2) = m ((c.tc : Thread Cert.KernelAdamConvIdeal.nD Cert.KernelAdamConvIdeal.τ).loc Cert.KernelAdamConvIdeal.main_arg2)
      ∧ m' ((c.tc : Thread Cert.ReferenceAdamConvIdeal.nD Cert.ReferenceAdamConvIdeal.τ).loc Cert.ReferenceAdamConvIdeal.main_arg3) = m ((c.tc : Thread Cert.KernelAdamConvIdeal.nD Cert.KernelAdamConvIdeal.τ).loc Cert.KernelAdamConvIdeal.main_arg3)) →
    ∃ (v0 : (c : Dev Cert.KernelAdamConvIdeal.nD) → Buf (Elt Ideal) ((c.tc : Thread Cert.KernelAdamConvIdeal.nD Cert.KernelAdamConvIdeal.τ).loc Cert.KernelAdamConvIdeal.main_v3_0)) (v1 : (c : Dev Cert.KernelAdamConvIdeal.nD) → Buf (Elt Ideal) ((c.tc : Thread Cert.KernelAdamConvIdeal.nD Cert.KernelAdamConvIdeal.τ).loc Cert.KernelAdamConvIdeal.main_v3_1)) (v2 : (c : Dev Cert.KernelAdamConvIdeal.nD) → Buf (Elt Ideal) ((c.tc : Thread Cert.KernelAdamConvIdeal.nD Cert.KernelAdamConvIdeal.τ).loc Cert.KernelAdamConvIdeal.main_v3_2)) (v3 : (c : Dev Cert.KernelAdamConvIdeal.nD) → Buf (Elt Ideal) ((c.tc : Thread Cert.KernelAdamConvIdeal.nD Cert.KernelAdamConvIdeal.τ).loc Cert.KernelAdamConvIdeal.main_v3_3)),
      θ_run (Cert.KernelAdamConvIdeal.defs (F := Ideal)) (onTc (τ := Cert.KernelAdamConvIdeal.τ) (Cert.KernelAdamConvIdeal.main (F := Ideal))) ⟨m, fun _ => 0, g⟩ (fun r => ∀ c : Dev Cert.KernelAdamConvIdeal.nD,
          r.2.mem ((c.tc : Thread Cert.KernelAdamConvIdeal.nD Cert.KernelAdamConvIdeal.τ).loc Cert.KernelAdamConvIdeal.main_v3_0) = v0 c
          ∧ r.2.mem ((c.tc : Thread Cert.KernelAdamConvIdeal.nD Cert.KernelAdamConvIdeal.τ).loc Cert.KernelAdamConvIdeal.main_v3_1) = v1 c
          ∧ r.2.mem ((c.tc : Thread Cert.KernelAdamConvIdeal.nD Cert.KernelAdamConvIdeal.τ).loc Cert.KernelAdamConvIdeal.main_v3_2) = v2 c
          ∧ r.2.mem ((c.tc : Thread Cert.KernelAdamConvIdeal.nD Cert.KernelAdamConvIdeal.τ).loc Cert.KernelAdamConvIdeal.main_v3_3) = v3 c
          ∧ r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
          ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
          ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
          ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ θ_run (Cert.ReferenceAdamConvIdeal.defs (F := Ideal)) (onTc (τ := Cert.ReferenceAdamConvIdeal.τ) (Cert.ReferenceAdamConvIdeal.main (F := Ideal))) ⟨m', fun _ => 0, g'⟩ (fun r => ∀ c : Dev Cert.ReferenceAdamConvIdeal.nD,
          r.2.mem ((c.tc : Thread Cert.ReferenceAdamConvIdeal.nD Cert.ReferenceAdamConvIdeal.τ).loc Cert.ReferenceAdamConvIdeal.main_arg3) = v0 c
          ∧ r.2.mem ((c.tc : Thread Cert.ReferenceAdamConvIdeal.nD Cert.ReferenceAdamConvIdeal.τ).loc Cert.ReferenceAdamConvIdeal.main_v26) = v1 c
          ∧ r.2.mem ((c.tc : Thread Cert.ReferenceAdamConvIdeal.nD Cert.ReferenceAdamConvIdeal.τ).loc Cert.ReferenceAdamConvIdeal.main_v7) = v2 c
          ∧ r.2.mem ((c.tc : Thread Cert.ReferenceAdamConvIdeal.nD Cert.ReferenceAdamConvIdeal.τ).loc Cert.ReferenceAdamConvIdeal.main_v13) = v3 c
          ∧ r.2.mem ((c.tc : Thread Cert.ReferenceAdamConvIdeal.nD Cert.ReferenceAdamConvIdeal.τ).loc Cert.ReferenceAdamConvIdeal.main_arg0) = m' ((c.tc : Thread Cert.ReferenceAdamConvIdeal.nD Cert.ReferenceAdamConvIdeal.τ).loc Cert.ReferenceAdamConvIdeal.main_arg0)
          ∧ r.2.mem ((c.tc : Thread Cert.ReferenceAdamConvIdeal.nD Cert.ReferenceAdamConvIdeal.τ).loc Cert.ReferenceAdamConvIdeal.main_arg1) = m' ((c.tc : Thread Cert.ReferenceAdamConvIdeal.nD Cert.ReferenceAdamConvIdeal.τ).loc Cert.ReferenceAdamConvIdeal.main_arg1)
          ∧ r.2.mem ((c.tc : Thread Cert.ReferenceAdamConvIdeal.nD Cert.ReferenceAdamConvIdeal.τ).loc Cert.ReferenceAdamConvIdeal.main_arg2) = m' ((c.tc : Thread Cert.ReferenceAdamConvIdeal.nD Cert.ReferenceAdamConvIdeal.τ).loc Cert.ReferenceAdamConvIdeal.main_arg2)
          ∧ r.2.mem ((c.tc : Thread Cert.ReferenceAdamConvIdeal.nD Cert.ReferenceAdamConvIdeal.τ).loc Cert.ReferenceAdamConvIdeal.main_arg3) = m' ((c.tc : Thread Cert.ReferenceAdamConvIdeal.nD Cert.ReferenceAdamConvIdeal.τ).loc Cert.ReferenceAdamConvIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)
      ∧ m' ((c.tc : Thread Cert.ReferenceAdamSmallIdeal.nD Cert.ReferenceAdamSmallIdeal.τ).loc Cert.ReferenceAdamSmallIdeal.main_arg4) = m ((c.tc : Thread Cert.KernelAdamSmallIdeal.nD Cert.KernelAdamSmallIdeal.τ).loc Cert.KernelAdamSmallIdeal.main_arg4)
      ∧ m' ((c.tc : Thread Cert.ReferenceAdamSmallIdeal.nD Cert.ReferenceAdamSmallIdeal.τ).loc Cert.ReferenceAdamSmallIdeal.main_arg5) = m ((c.tc : Thread Cert.KernelAdamSmallIdeal.nD Cert.KernelAdamSmallIdeal.τ).loc Cert.KernelAdamSmallIdeal.main_arg5)
      ∧ m' ((c.tc : Thread Cert.ReferenceAdamSmallIdeal.nD Cert.ReferenceAdamSmallIdeal.τ).loc Cert.ReferenceAdamSmallIdeal.main_arg6) = m ((c.tc : Thread Cert.KernelAdamSmallIdeal.nD Cert.KernelAdamSmallIdeal.τ).loc Cert.KernelAdamSmallIdeal.main_arg6)
      ∧ m' ((c.tc : Thread Cert.ReferenceAdamSmallIdeal.nD Cert.ReferenceAdamSmallIdeal.τ).loc Cert.ReferenceAdamSmallIdeal.main_arg7) = m ((c.tc : Thread Cert.KernelAdamSmallIdeal.nD Cert.KernelAdamSmallIdeal.τ).loc Cert.KernelAdamSmallIdeal.main_arg7)
      ∧ m' ((c.tc : Thread Cert.ReferenceAdamSmallIdeal.nD Cert.ReferenceAdamSmallIdeal.τ).loc Cert.ReferenceAdamSmallIdeal.main_arg8) = m ((c.tc : Thread Cert.KernelAdamSmallIdeal.nD Cert.KernelAdamSmallIdeal.τ).loc Cert.KernelAdamSmallIdeal.main_arg8)
      ∧ m' ((c.tc : Thread Cert.ReferenceAdamSmallIdeal.nD Cert.ReferenceAdamSmallIdeal.τ).loc Cert.ReferenceAdamSmallIdeal.main_arg9) = m ((c.tc : Thread Cert.KernelAdamSmallIdeal.nD Cert.KernelAdamSmallIdeal.τ).loc Cert.KernelAdamSmallIdeal.main_arg9)
      ∧ m' ((c.tc : Thread Cert.ReferenceAdamSmallIdeal.nD Cert.ReferenceAdamSmallIdeal.τ).loc Cert.ReferenceAdamSmallIdeal.main_arg10) = m ((c.tc : Thread Cert.KernelAdamSmallIdeal.nD Cert.KernelAdamSmallIdeal.τ).loc Cert.KernelAdamSmallIdeal.main_arg10)
      ∧ m' ((c.tc : Thread Cert.ReferenceAdamSmallIdeal.nD Cert.ReferenceAdamSmallIdeal.τ).loc Cert.ReferenceAdamSmallIdeal.main_arg11) = m ((c.tc : Thread Cert.KernelAdamSmallIdeal.nD Cert.KernelAdamSmallIdeal.τ).loc Cert.KernelAdamSmallIdeal.main_arg11)
      ∧ m' ((c.tc : Thread Cert.ReferenceAdamSmallIdeal.nD Cert.ReferenceAdamSmallIdeal.τ).loc Cert.ReferenceAdamSmallIdeal.main_arg12) = m ((c.tc : Thread Cert.KernelAdamSmallIdeal.nD Cert.KernelAdamSmallIdeal.τ).loc Cert.KernelAdamSmallIdeal.main_arg12)
      ∧ m' ((c.tc : Thread Cert.ReferenceAdamSmallIdeal.nD Cert.ReferenceAdamSmallIdeal.τ).loc Cert.ReferenceAdamSmallIdeal.main_arg13) = m ((c.tc : Thread Cert.KernelAdamSmallIdeal.nD Cert.KernelAdamSmallIdeal.τ).loc Cert.KernelAdamSmallIdeal.main_arg13)
      ∧ m' ((c.tc : Thread Cert.ReferenceAdamSmallIdeal.nD Cert.ReferenceAdamSmallIdeal.τ).loc Cert.ReferenceAdamSmallIdeal.main_arg14) = m ((c.tc : Thread Cert.KernelAdamSmallIdeal.nD Cert.KernelAdamSmallIdeal.τ).loc Cert.KernelAdamSmallIdeal.main_arg14)
      ∧ m' ((c.tc : Thread Cert.ReferenceAdamSmallIdeal.nD Cert.ReferenceAdamSmallIdeal.τ).loc Cert.ReferenceAdamSmallIdeal.main_arg15) = m ((c.tc : Thread Cert.KernelAdamSmallIdeal.nD Cert.KernelAdamSmallIdeal.τ).loc Cert.KernelAdamSmallIdeal.main_arg15)
      ∧ m' ((c.tc : Thread Cert.ReferenceAdamSmallIdeal.nD Cert.ReferenceAdamSmallIdeal.τ).loc Cert.ReferenceAdamSmallIdeal.main_arg16) = m ((c.tc : Thread Cert.KernelAdamSmallIdeal.nD Cert.KernelAdamSmallIdeal.τ).loc Cert.KernelAdamSmallIdeal.main_arg16)
      ∧ m' ((c.tc : Thread Cert.ReferenceAdamSmallIdeal.nD Cert.ReferenceAdamSmallIdeal.τ).loc Cert.ReferenceAdamSmallIdeal.main_arg17) = m ((c.tc : Thread Cert.KernelAdamSmallIdeal.nD Cert.KernelAdamSmallIdeal.τ).loc Cert.KernelAdamSmallIdeal.main_arg17)
      ∧ m' ((c.tc : Thread Cert.ReferenceAdamSmallIdeal.nD Cert.ReferenceAdamSmallIdeal.τ).loc Cert.ReferenceAdamSmallIdeal.main_arg18) = m ((c.tc : Thread Cert.KernelAdamSmallIdeal.nD Cert.KernelAdamSmallIdeal.τ).loc Cert.KernelAdamSmallIdeal.main_arg18)
      ∧ m' ((c.tc : Thread Cert.ReferenceAdamSmallIdeal.nD Cert.ReferenceAdamSmallIdeal.τ).loc Cert.ReferenceAdamSmallIdeal.main_arg19) = m ((c.tc : Thread Cert.KernelAdamSmallIdeal.nD Cert.KernelAdamSmallIdeal.τ).loc Cert.KernelAdamSmallIdeal.main_arg19)
      ∧ m' ((c.tc : Thread Cert.ReferenceAdamSmallIdeal.nD Cert.ReferenceAdamSmallIdeal.τ).loc Cert.ReferenceAdamSmallIdeal.main_arg20) = m ((c.tc : Thread Cert.KernelAdamSmallIdeal.nD Cert.KernelAdamSmallIdeal.τ).loc Cert.KernelAdamSmallIdeal.main_arg20)
      ∧ m' ((c.tc : Thread Cert.ReferenceAdamSmallIdeal.nD Cert.ReferenceAdamSmallIdeal.τ).loc Cert.ReferenceAdamSmallIdeal.main_arg21) = m ((c.tc : Thread Cert.KernelAdamSmallIdeal.nD Cert.KernelAdamSmallIdeal.τ).loc Cert.KernelAdamSmallIdeal.main_arg21)
      ∧ m' ((c.tc : Thread Cert.ReferenceAdamSmallIdeal.nD Cert.ReferenceAdamSmallIdeal.τ).loc Cert.ReferenceAdamSmallIdeal.main_arg22) = m ((c.tc : Thread Cert.KernelAdamSmallIdeal.nD Cert.KernelAdamSmallIdeal.τ).loc Cert.KernelAdamSmallIdeal.main_arg22)
      ∧ m' ((c.tc : Thread Cert.ReferenceAdamSmallIdeal.nD Cert.ReferenceAdamSmallIdeal.τ).loc Cert.ReferenceAdamSmallIdeal.main_arg23) = m ((c.tc : Thread Cert.KernelAdamSmallIdeal.nD Cert.KernelAdamSmallIdeal.τ).loc Cert.KernelAdamSmallIdeal.main_arg23)
      ∧ m' ((c.tc : Thread Cert.ReferenceAdamSmallIdeal.nD Cert.ReferenceAdamSmallIdeal.τ).loc Cert.ReferenceAdamSmallIdeal.main_arg24) = m ((c.tc : Thread Cert.KernelAdamSmallIdeal.nD Cert.KernelAdamSmallIdeal.τ).loc Cert.KernelAdamSmallIdeal.main_arg24)
      ∧ m' ((c.tc : Thread Cert.ReferenceAdamSmallIdeal.nD Cert.ReferenceAdamSmallIdeal.τ).loc Cert.ReferenceAdamSmallIdeal.main_arg25) = m ((c.tc : Thread Cert.KernelAdamSmallIdeal.nD Cert.KernelAdamSmallIdeal.τ).loc Cert.KernelAdamSmallIdeal.main_arg25)
      ∧ m' ((c.tc : Thread Cert.ReferenceAdamSmallIdeal.nD Cert.ReferenceAdamSmallIdeal.τ).loc Cert.ReferenceAdamSmallIdeal.main_arg26) = m ((c.tc : Thread Cert.KernelAdamSmallIdeal.nD Cert.KernelAdamSmallIdeal.τ).loc Cert.KernelAdamSmallIdeal.main_arg26)
      ∧ m' ((c.tc : Thread Cert.ReferenceAdamSmallIdeal.nD Cert.ReferenceAdamSmallIdeal.τ).loc Cert.ReferenceAdamSmallIdeal.main_arg27) = m ((c.tc : Thread Cert.KernelAdamSmallIdeal.nD Cert.KernelAdamSmallIdeal.τ).loc Cert.KernelAdamSmallIdeal.main_arg27)
      ∧ m' ((c.tc : Thread Cert.ReferenceAdamSmallIdeal.nD Cert.ReferenceAdamSmallIdeal.τ).loc Cert.ReferenceAdamSmallIdeal.main_arg28) = m ((c.tc : Thread Cert.KernelAdamSmallIdeal.nD Cert.KernelAdamSmallIdeal.τ).loc Cert.KernelAdamSmallIdeal.main_arg28)
      ∧ m' ((c.tc : Thread Cert.ReferenceAdamSmallIdeal.nD Cert.ReferenceAdamSmallIdeal.τ).loc Cert.ReferenceAdamSmallIdeal.main_arg29) = m ((c.tc : Thread Cert.KernelAdamSmallIdeal.nD Cert.KernelAdamSmallIdeal.τ).loc Cert.KernelAdamSmallIdeal.main_arg29)
      ∧ m' ((c.tc : Thread Cert.ReferenceAdamSmallIdeal.nD Cert.ReferenceAdamSmallIdeal.τ).loc Cert.ReferenceAdamSmallIdeal.main_arg30) = m ((c.tc : Thread Cert.KernelAdamSmallIdeal.nD Cert.KernelAdamSmallIdeal.τ).loc Cert.KernelAdamSmallIdeal.main_arg30)
      ∧ m' ((c.tc : Thread Cert.ReferenceAdamSmallIdeal.nD Cert.ReferenceAdamSmallIdeal.τ).loc Cert.ReferenceAdamSmallIdeal.main_arg31) = m ((c.tc : Thread Cert.KernelAdamSmallIdeal.nD Cert.KernelAdamSmallIdeal.τ).loc Cert.KernelAdamSmallIdeal.main_arg31)
      ∧ m' ((c.tc : Thread Cert.ReferenceAdamSmallIdeal.nD Cert.ReferenceAdamSmallIdeal.τ).loc Cert.ReferenceAdamSmallIdeal.main_arg32) = m ((c.tc : Thread Cert.KernelAdamSmallIdeal.nD Cert.KernelAdamSmallIdeal.τ).loc Cert.KernelAdamSmallIdeal.main_arg32)
      ∧ m' ((c.tc : Thread Cert.ReferenceAdamSmallIdeal.nD Cert.ReferenceAdamSmallIdeal.τ).loc Cert.ReferenceAdamSmallIdeal.main_arg33) = m ((c.tc : Thread Cert.KernelAdamSmallIdeal.nD Cert.KernelAdamSmallIdeal.τ).loc Cert.KernelAdamSmallIdeal.main_arg33)
      ∧ m' ((c.tc : Thread Cert.ReferenceAdamSmallIdeal.nD Cert.ReferenceAdamSmallIdeal.τ).loc Cert.ReferenceAdamSmallIdeal.main_arg34) = m ((c.tc : Thread Cert.KernelAdamSmallIdeal.nD Cert.KernelAdamSmallIdeal.τ).loc Cert.KernelAdamSmallIdeal.main_arg34)
      ∧ m' ((c.tc : Thread Cert.ReferenceAdamSmallIdeal.nD Cert.ReferenceAdamSmallIdeal.τ).loc Cert.ReferenceAdamSmallIdeal.main_arg35) = m ((c.tc : Thread Cert.KernelAdamSmallIdeal.nD Cert.KernelAdamSmallIdeal.τ).loc Cert.KernelAdamSmallIdeal.main_arg35)
      ∧ m' ((c.tc : Thread Cert.ReferenceAdamSmallIdeal.nD Cert.ReferenceAdamSmallIdeal.τ).loc Cert.ReferenceAdamSmallIdeal.main_arg36) = m ((c.tc : Thread Cert.KernelAdamSmallIdeal.nD Cert.KernelAdamSmallIdeal.τ).loc Cert.KernelAdamSmallIdeal.main_arg36)
      ∧ m' ((c.tc : Thread Cert.ReferenceAdamSmallIdeal.nD Cert.ReferenceAdamSmallIdeal.τ).loc Cert.ReferenceAdamSmallIdeal.main_arg37) = m ((c.tc : Thread Cert.KernelAdamSmallIdeal.nD Cert.KernelAdamSmallIdeal.τ).loc Cert.KernelAdamSmallIdeal.main_arg37)
      ∧ m' ((c.tc : Thread Cert.ReferenceAdamSmallIdeal.nD Cert.ReferenceAdamSmallIdeal.τ).loc Cert.ReferenceAdamSmallIdeal.main_arg38) = m ((c.tc : Thread Cert.KernelAdamSmallIdeal.nD Cert.KernelAdamSmallIdeal.τ).loc Cert.KernelAdamSmallIdeal.main_arg38)
      ∧ m' ((c.tc : Thread Cert.ReferenceAdamSmallIdeal.nD Cert.ReferenceAdamSmallIdeal.τ).loc Cert.ReferenceAdamSmallIdeal.main_arg39) = m ((c.tc : Thread Cert.KernelAdamSmallIdeal.nD Cert.KernelAdamSmallIdeal.τ).loc Cert.KernelAdamSmallIdeal.main_arg39)
      ∧ m' ((c.tc : Thread Cert.ReferenceAdamSmallIdeal.nD Cert.ReferenceAdamSmallIdeal.τ).loc Cert.ReferenceAdamSmallIdeal.main_arg40) = m ((c.tc : Thread Cert.KernelAdamSmallIdeal.nD Cert.KernelAdamSmallIdeal.τ).loc Cert.KernelAdamSmallIdeal.main_arg40)
      ∧ m' ((c.tc : Thread Cert.ReferenceAdamSmallIdeal.nD Cert.ReferenceAdamSmallIdeal.τ).loc Cert.ReferenceAdamSmallIdeal.main_arg41) = m ((c.tc : Thread Cert.KernelAdamSmallIdeal.nD Cert.KernelAdamSmallIdeal.τ).loc Cert.KernelAdamSmallIdeal.main_arg41)
      ∧ m' ((c.tc : Thread Cert.ReferenceAdamSmallIdeal.nD Cert.ReferenceAdamSmallIdeal.τ).loc Cert.ReferenceAdamSmallIdeal.main_arg42) = m ((c.tc : Thread Cert.KernelAdamSmallIdeal.nD Cert.KernelAdamSmallIdeal.τ).loc Cert.KernelAdamSmallIdeal.main_arg42)
      ∧ m' ((c.tc : Thread Cert.ReferenceAdamSmallIdeal.nD Cert.ReferenceAdamSmallIdeal.τ).loc Cert.ReferenceAdamSmallIdeal.main_arg43) = m ((c.tc : Thread Cert.KernelAdamSmallIdeal.nD Cert.KernelAdamSmallIdeal.τ).loc Cert.KernelAdamSmallIdeal.main_arg43)
      ∧ m' ((c.tc : Thread Cert.ReferenceAdamSmallIdeal.nD Cert.ReferenceAdamSmallIdeal.τ).loc Cert.ReferenceAdamSmallIdeal.main_arg44) = m ((c.tc : Thread Cert.KernelAdamSmallIdeal.nD Cert.KernelAdamSmallIdeal.τ).loc Cert.KernelAdamSmallIdeal.main_arg44)
      ∧ m' ((c.tc : Thread Cert.ReferenceAdamSmallIdeal.nD Cert.ReferenceAdamSmallIdeal.τ).loc Cert.ReferenceAdamSmallIdeal.main_arg45) = m ((c.tc : Thread Cert.KernelAdamSmallIdeal.nD Cert.KernelAdamSmallIdeal.τ).loc Cert.KernelAdamSmallIdeal.main_arg45)
      ∧ m' ((c.tc : Thread Cert.ReferenceAdamSmallIdeal.nD Cert.ReferenceAdamSmallIdeal.τ).loc Cert.ReferenceAdamSmallIdeal.main_arg46) = m ((c.tc : Thread Cert.KernelAdamSmallIdeal.nD Cert.KernelAdamSmallIdeal.τ).loc Cert.KernelAdamSmallIdeal.main_arg46)
      ∧ m' ((c.tc : Thread Cert.ReferenceAdamSmallIdeal.nD Cert.ReferenceAdamSmallIdeal.τ).loc Cert.ReferenceAdamSmallIdeal.main_arg47) = m ((c.tc : Thread Cert.KernelAdamSmallIdeal.nD Cert.KernelAdamSmallIdeal.τ).loc Cert.KernelAdamSmallIdeal.main_arg47)
      ∧ m' ((c.tc : Thread Cert.ReferenceAdamSmallIdeal.nD Cert.ReferenceAdamSmallIdeal.τ).loc Cert.ReferenceAdamSmallIdeal.main_arg48) = m ((c.tc : Thread Cert.KernelAdamSmallIdeal.nD Cert.KernelAdamSmallIdeal.τ).loc Cert.KernelAdamSmallIdeal.main_arg48)
      ∧ m' ((c.tc : Thread Cert.ReferenceAdamSmallIdeal.nD Cert.ReferenceAdamSmallIdeal.τ).loc Cert.ReferenceAdamSmallIdeal.main_arg49) = m ((c.tc : Thread Cert.KernelAdamSmallIdeal.nD Cert.KernelAdamSmallIdeal.τ).loc Cert.KernelAdamSmallIdeal.main_arg49)
      ∧ m' ((c.tc : Thread Cert.ReferenceAdamSmallIdeal.nD Cert.ReferenceAdamSmallIdeal.τ).loc Cert.ReferenceAdamSmallIdeal.main_arg50) = m ((c.tc : Thread Cert.KernelAdamSmallIdeal.nD Cert.KernelAdamSmallIdeal.τ).loc Cert.KernelAdamSmallIdeal.main_arg50)
      ∧ m' ((c.tc : Thread Cert.ReferenceAdamSmallIdeal.nD Cert.ReferenceAdamSmallIdeal.τ).loc Cert.ReferenceAdamSmallIdeal.main_arg51) = m ((c.tc : Thread Cert.KernelAdamSmallIdeal.nD Cert.KernelAdamSmallIdeal.τ).loc Cert.KernelAdamSmallIdeal.main_arg51)
      ∧ m' ((c.tc : Thread Cert.ReferenceAdamSmallIdeal.nD Cert.ReferenceAdamSmallIdeal.τ).loc Cert.ReferenceAdamSmallIdeal.main_arg52) = m ((c.tc : Thread Cert.KernelAdamSmallIdeal.nD Cert.KernelAdamSmallIdeal.τ).loc Cert.KernelAdamSmallIdeal.main_arg52)
      ∧ m' ((c.tc : Thread Cert.ReferenceAdamSmallIdeal.nD Cert.ReferenceAdamSmallIdeal.τ).loc Cert.ReferenceAdamSmallIdeal.main_arg53) = m ((c.tc : Thread Cert.KernelAdamSmallIdeal.nD Cert.KernelAdamSmallIdeal.τ).loc Cert.KernelAdamSmallIdeal.main_arg53)
      ∧ m' ((c.tc : Thread Cert.ReferenceAdamSmallIdeal.nD Cert.ReferenceAdamSmallIdeal.τ).loc Cert.ReferenceAdamSmallIdeal.main_arg54) = m ((c.tc : Thread Cert.KernelAdamSmallIdeal.nD Cert.KernelAdamSmallIdeal.τ).loc Cert.KernelAdamSmallIdeal.main_arg54)
      ∧ m' ((c.tc : Thread Cert.ReferenceAdamSmallIdeal.nD Cert.ReferenceAdamSmallIdeal.τ).loc Cert.ReferenceAdamSmallIdeal.main_arg55) = m ((c.tc : Thread Cert.KernelAdamSmallIdeal.nD Cert.KernelAdamSmallIdeal.τ).loc Cert.KernelAdamSmallIdeal.main_arg55)
      ∧ m' ((c.tc : Thread Cert.ReferenceAdamSmallIdeal.nD Cert.ReferenceAdamSmallIdeal.τ).loc Cert.ReferenceAdamSmallIdeal.main_arg56) = m ((c.tc : Thread Cert.KernelAdamSmallIdeal.nD Cert.KernelAdamSmallIdeal.τ).loc Cert.KernelAdamSmallIdeal.main_arg56)
      ∧ m' ((c.tc : Thread Cert.ReferenceAdamSmallIdeal.nD Cert.ReferenceAdamSmallIdeal.τ).loc Cert.ReferenceAdamSmallIdeal.main_arg57) = m ((c.tc : Thread Cert.KernelAdamSmallIdeal.nD Cert.KernelAdamSmallIdeal.τ).loc Cert.KernelAdamSmallIdeal.main_arg57)
      ∧ m' ((c.tc : Thread Cert.ReferenceAdamSmallIdeal.nD Cert.ReferenceAdamSmallIdeal.τ).loc Cert.ReferenceAdamSmallIdeal.main_arg58) = m ((c.tc : Thread Cert.KernelAdamSmallIdeal.nD Cert.KernelAdamSmallIdeal.τ).loc Cert.KernelAdamSmallIdeal.main_arg58)
      ∧ m' ((c.tc : Thread Cert.ReferenceAdamSmallIdeal.nD Cert.ReferenceAdamSmallIdeal.τ).loc Cert.ReferenceAdamSmallIdeal.main_arg59) = m ((c.tc : Thread Cert.KernelAdamSmallIdeal.nD Cert.KernelAdamSmallIdeal.τ).loc Cert.KernelAdamSmallIdeal.main_arg59)
      ∧ m' ((c.tc : Thread Cert.ReferenceAdamSmallIdeal.nD Cert.ReferenceAdamSmallIdeal.τ).loc Cert.ReferenceAdamSmallIdeal.main_arg60) = m ((c.tc : Thread Cert.KernelAdamSmallIdeal.nD Cert.KernelAdamSmallIdeal.τ).loc Cert.KernelAdamSmallIdeal.main_arg60)
      ∧ m' ((c.tc : Thread Cert.ReferenceAdamSmallIdeal.nD Cert.ReferenceAdamSmallIdeal.τ).loc Cert.ReferenceAdamSmallIdeal.main_arg61) = m ((c.tc : Thread Cert.KernelAdamSmallIdeal.nD Cert.KernelAdamSmallIdeal.τ).loc Cert.KernelAdamSmallIdeal.main_arg61)
      ∧ m' ((c.tc : Thread Cert.ReferenceAdamSmallIdeal.nD Cert.ReferenceAdamSmallIdeal.τ).loc Cert.ReferenceAdamSmallIdeal.main_arg62) = m ((c.tc : Thread Cert.KernelAdamSmallIdeal.nD Cert.KernelAdamSmallIdeal.τ).loc Cert.KernelAdamSmallIdeal.main_arg62)
      ∧ m' ((c.tc : Thread Cert.ReferenceAdamSmallIdeal.nD Cert.ReferenceAdamSmallIdeal.τ).loc Cert.ReferenceAdamSmallIdeal.main_arg63) = m ((c.tc : Thread Cert.KernelAdamSmallIdeal.nD Cert.KernelAdamSmallIdeal.τ).loc Cert.KernelAdamSmallIdeal.main_arg63)
      ∧ m' ((c.tc : Thread Cert.ReferenceAdamSmallIdeal.nD Cert.ReferenceAdamSmallIdeal.τ).loc Cert.ReferenceAdamSmallIdeal.main_arg64) = m ((c.tc : Thread Cert.KernelAdamSmallIdeal.nD Cert.KernelAdamSmallIdeal.τ).loc Cert.KernelAdamSmallIdeal.main_arg64)
      ∧ m' ((c.tc : Thread Cert.ReferenceAdamSmallIdeal.nD Cert.ReferenceAdamSmallIdeal.τ).loc Cert.ReferenceAdamSmallIdeal.main_arg65) = m ((c.tc : Thread Cert.KernelAdamSmallIdeal.nD Cert.KernelAdamSmallIdeal.τ).loc Cert.KernelAdamSmallIdeal.main_arg65)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v80)) (v1 : (c : Dev Cert.KernelAdamSmallIdeal.nD) → Buf (Elt Ideal) ((c.tc : Thread Cert.KernelAdamSmallIdeal.nD Cert.KernelAdamSmallIdeal.τ).loc Cert.KernelAdamSmallIdeal.main_v82)) (v2 : (c : Dev Cert.KernelAdamSmallIdeal.nD) → Buf (Elt Ideal) ((c.tc : Thread Cert.KernelAdamSmallIdeal.nD Cert.KernelAdamSmallIdeal.τ).loc Cert.KernelAdamSmallIdeal.main_v84)) (v3 : (c : Dev Cert.KernelAdamSmallIdeal.nD) → Buf (Elt Ideal) ((c.tc : Thread Cert.KernelAdamSmallIdeal.nD Cert.KernelAdamSmallIdeal.τ).loc Cert.KernelAdamSmallIdeal.main_v86)) (v4 : (c : Dev Cert.KernelAdamSmallIdeal.nD) → Buf (Elt Ideal) ((c.tc : Thread Cert.KernelAdamSmallIdeal.nD Cert.KernelAdamSmallIdeal.τ).loc Cert.KernelAdamSmallIdeal.main_v88)) (v5 : (c : Dev Cert.KernelAdamSmallIdeal.nD) → Buf (Elt Ideal) ((c.tc : Thread Cert.KernelAdamSmallIdeal.nD Cert.KernelAdamSmallIdeal.τ).loc Cert.KernelAdamSmallIdeal.main_v90)) (v6 : (c : Dev Cert.KernelAdamSmallIdeal.nD) → Buf (Elt Ideal) ((c.tc : Thread Cert.KernelAdamSmallIdeal.nD Cert.KernelAdamSmallIdeal.τ).loc Cert.KernelAdamSmallIdeal.main_v92)) (v7 : (c : Dev Cert.KernelAdamSmallIdeal.nD) → Buf (Elt Ideal) ((c.tc : Thread Cert.KernelAdamSmallIdeal.nD Cert.KernelAdamSmallIdeal.τ).loc Cert.KernelAdamSmallIdeal.main_v94)) (v8 : (c : Dev Cert.KernelAdamSmallIdeal.nD) → Buf (Elt Ideal) ((c.tc : Thread Cert.KernelAdamSmallIdeal.nD Cert.KernelAdamSmallIdeal.τ).loc Cert.KernelAdamSmallIdeal.main_v96)) (v9 : (c : Dev Cert.KernelAdamSmallIdeal.nD) → Buf (Elt Ideal) ((c.tc : Thread Cert.KernelAdamSmallIdeal.nD Cert.KernelAdamSmallIdeal.τ).loc Cert.KernelAdamSmallIdeal.main_v98)) (v10 : (c : Dev Cert.KernelAdamSmallIdeal.nD) → Buf (Elt Ideal) ((c.tc : Thread Cert.KernelAdamSmallIdeal.nD Cert.KernelAdamSmallIdeal.τ).loc Cert.KernelAdamSmallIdeal.main_v100)) (v11 : (c : Dev Cert.KernelAdamSmallIdeal.nD) → Buf (Elt Ideal) ((c.tc : Thread Cert.KernelAdamSmallIdeal.nD Cert.KernelAdamSmallIdeal.τ).loc Cert.KernelAdamSmallIdeal.main_v102)) (v12 : (c : Dev Cert.KernelAdamSmallIdeal.nD) → Buf (Elt Ideal) ((c.tc : Thread Cert.KernelAdamSmallIdeal.nD Cert.KernelAdamSmallIdeal.τ).loc Cert.KernelAdamSmallIdeal.main_v104)) (v13 : (c : Dev Cert.KernelAdamSmallIdeal.nD) → Buf (Elt Ideal) ((c.tc : Thread Cert.KernelAdamSmallIdeal.nD Cert.KernelAdamSmallIdeal.τ).loc Cert.KernelAdamSmallIdeal.main_v106)) (v14 : (c : Dev Cert.KernelAdamSmallIdeal.nD) → Buf (Elt Ideal) ((c.tc : Thread Cert.KernelAdamSmallIdeal.nD Cert.KernelAdamSmallIdeal.τ).loc Cert.KernelAdamSmallIdeal.main_v108)) (v15 : (c : Dev Cert.KernelAdamSmallIdeal.nD) → Buf (Elt Ideal) ((c.tc : Thread Cert.KernelAdamSmallIdeal.nD Cert.KernelAdamSmallIdeal.τ).loc Cert.KernelAdamSmallIdeal.main_v110)) (v16 : (c : Dev Cert.KernelAdamSmallIdeal.nD) → Buf (Elt Ideal) ((c.tc : Thread Cert.KernelAdamSmallIdeal.nD Cert.KernelAdamSmallIdeal.τ).loc Cert.KernelAdamSmallIdeal.main_v112)) (v17 : (c : Dev Cert.KernelAdamSmallIdeal.nD) → Buf (Elt Ideal) ((c.tc : Thread Cert.KernelAdamSmallIdeal.nD Cert.KernelAdamSmallIdeal.τ).loc Cert.KernelAdamSmallIdeal.main_v114)) (v18 : (c : Dev Cert.KernelAdamSmallIdeal.nD) → Buf (Elt Ideal) ((c.tc : Thread Cert.KernelAdamSmallIdeal.nD Cert.KernelAdamSmallIdeal.τ).loc Cert.KernelAdamSmallIdeal.main_v116)) (v19 : (c : Dev Cert.KernelAdamSmallIdeal.nD) → Buf (Elt Ideal) ((c.tc : Thread Cert.KernelAdamSmallIdeal.nD Cert.KernelAdamSmallIdeal.τ).loc Cert.KernelAdamSmallIdeal.main_v118)) (v20 : (c : Dev Cert.KernelAdamSmallIdeal.nD) → Buf (Elt Ideal) ((c.tc : Thread Cert.KernelAdamSmallIdeal.nD Cert.KernelAdamSmallIdeal.τ).loc Cert.KernelAdamSmallIdeal.main_v120)) (v21 : (c : Dev Cert.KernelAdamSmallIdeal.nD) → Buf (Elt Ideal) ((c.tc : Thread Cert.KernelAdamSmallIdeal.nD Cert.KernelAdamSmallIdeal.τ).loc Cert.KernelAdamSmallIdeal.main_v122)) (v22 : (c : Dev Cert.KernelAdamSmallIdeal.nD) → Buf (Elt Ideal) ((c.tc : Thread Cert.KernelAdamSmallIdeal.nD Cert.KernelAdamSmallIdeal.τ).loc Cert.KernelAdamSmallIdeal.main_v124)) (v23 : (c : Dev Cert.KernelAdamSmallIdeal.nD) → Buf (Elt Ideal) ((c.tc : Thread Cert.KernelAdamSmallIdeal.nD Cert.KernelAdamSmallIdeal.τ).loc Cert.KernelAdamSmallIdeal.main_v126)) (v24 : (c : Dev Cert.KernelAdamSmallIdeal.nD) → Buf (Elt Ideal) ((c.tc : Thread Cert.KernelAdamSmallIdeal.nD Cert.KernelAdamSmallIdeal.τ).loc Cert.KernelAdamSmallIdeal.main_v128)) (v25 : (c : Dev Cert.KernelAdamSmallIdeal.nD) → Buf (Elt Ideal) ((c.tc : Thread Cert.KernelAdamSmallIdeal.nD Cert.KernelAdamSmallIdeal.τ).loc Cert.KernelAdamSmallIdeal.main_v130)) (v26 : (c : Dev Cert.KernelAdamSmallIdeal.nD) → Buf (Elt Ideal) ((c.tc : Thread Cert.KernelAdamSmallIdeal.nD Cert.KernelAdamSmallIdeal.τ).loc Cert.KernelAdamSmallIdeal.main_v132)) (v27 : (c : Dev Cert.KernelAdamSmallIdeal.nD) → Buf (Elt Ideal) ((c.tc : Thread Cert.KernelAdamSmallIdeal.nD Cert.KernelAdamSmallIdeal.τ).loc Cert.KernelAdamSmallIdeal.main_v134)) (v28 : (c : Dev Cert.KernelAdamSmallIdeal.nD) → Buf (Elt Ideal) ((c.tc : Thread Cert.KernelAdamSmallIdeal.nD Cert.KernelAdamSmallIdeal.τ).loc Cert.KernelAdamSmallIdeal.main_v136)) (v29 : (c : Dev Cert.KernelAdamSmallIdeal.nD) → Buf (Elt Ideal) ((c.tc : Thread Cert.KernelAdamSmallIdeal.nD Cert.KernelAdamSmallIdeal.τ).loc Cert.KernelAdamSmallIdeal.main_v138)) (v30 : (c : Dev Cert.KernelAdamSmallIdeal.nD) → Buf (Elt Ideal) ((c.tc : Thread Cert.KernelAdamSmallIdeal.nD Cert.KernelAdamSmallIdeal.τ).loc Cert.KernelAdamSmallIdeal.main_v140)) (v31 : (c : Dev Cert.KernelAdamSmallIdeal.nD) → Buf (Elt Ideal) ((c.tc : Thread Cert.KernelAdamSmallIdeal.nD Cert.KernelAdamSmallIdeal.τ).loc Cert.KernelAdamSmallIdeal.main_v142)) (v32 : (c : Dev Cert.KernelAdamSmallIdeal.nD) → Buf (Elt Ideal) ((c.tc : Thread Cert.KernelAdamSmallIdeal.nD Cert.KernelAdamSmallIdeal.τ).loc Cert.KernelAdamSmallIdeal.main_v144)) (v33 : (c : Dev Cert.KernelAdamSmallIdeal.nD) → Buf (Elt Ideal) ((c.tc : Thread Cert.KernelAdamSmallIdeal.nD Cert.KernelAdamSmallIdeal.τ).loc Cert.KernelAdamSmallIdeal.main_v146)) (v34 : (c : Dev Cert.KernelAdamSmallIdeal.nD) → Buf (Elt Ideal) ((c.tc : Thread Cert.KernelAdamSmallIdeal.nD Cert.KernelAdamSmallIdeal.τ).loc Cert.KernelAdamSmallIdeal.main_v148)) (v35 : (c : Dev Cert.KernelAdamSmallIdeal.nD) → Buf (Elt Ideal) ((c.tc : Thread Cert.KernelAdamSmallIdeal.nD Cert.KernelAdamSmallIdeal.τ).loc Cert.KernelAdamSmallIdeal.main_v150)) (v36 : (c : Dev Cert.KernelAdamSmallIdeal.nD) → Buf (Elt Ideal) ((c.tc : Thread Cert.KernelAdamSmallIdeal.nD Cert.KernelAdamSmallIdeal.τ).loc Cert.KernelAdamSmallIdeal.main_v152)) (v37 : (c : Dev Cert.KernelAdamSmallIdeal.nD) → Buf (Elt Ideal) ((c.tc : Thread Cert.KernelAdamSmallIdeal.nD Cert.KernelAdamSmallIdeal.τ).loc Cert.KernelAdamSmallIdeal.main_v154)) (v38 : (c : Dev Cert.KernelAdamSmallIdeal.nD) → Buf (Elt Ideal) ((c.tc : Thread Cert.KernelAdamSmallIdeal.nD Cert.KernelAdamSmallIdeal.τ).loc Cert.KernelAdamSmallIdeal.main_v156)) (v39 : (c : Dev Cert.KernelAdamSmallIdeal.nD) → Buf (Elt Ideal) ((c.tc : Thread Cert.KernelAdamSmallIdeal.nD Cert.KernelAdamSmallIdeal.τ).loc Cert.KernelAdamSmallIdeal.main_v158)) (v40 : (c : Dev Cert.KernelAdamSmallIdeal.nD) → Buf (Elt Ideal) ((c.tc : Thread Cert.KernelAdamSmallIdeal.nD Cert.KernelAdamSmallIdeal.τ).loc Cert.KernelAdamSmallIdeal.main_v160)) (v41 : (c : Dev Cert.KernelAdamSmallIdeal.nD) → Buf (Elt Ideal) ((c.tc : Thread Cert.KernelAdamSmallIdeal.nD Cert.KernelAdamSmallIdeal.τ).loc Cert.KernelAdamSmallIdeal.main_v162)) (v42 : (c : Dev Cert.KernelAdamSmallIdeal.nD) → Buf (Elt Ideal) ((c.tc : Thread Cert.KernelAdamSmallIdeal.nD Cert.KernelAdamSmallIdeal.τ).loc Cert.KernelAdamSmallIdeal.main_v164)) (v43 : (c : Dev Cert.KernelAdamSmallIdeal.nD) → Buf (Elt Ideal) ((c.tc : Thread Cert.KernelAdamSmallIdeal.nD Cert.KernelAdamSmallIdeal.τ).loc Cert.KernelAdamSmallIdeal.main_v166)) (v44 : (c : Dev Cert.KernelAdamSmallIdeal.nD) → Buf (Elt Ideal) ((c.tc : Thread Cert.KernelAdamSmallIdeal.nD Cert.KernelAdamSmallIdeal.τ).loc Cert.KernelAdamSmallIdeal.main_v168)) (v45 : (c : Dev Cert.KernelAdamSmallIdeal.nD) → Buf (Elt Ideal) ((c.tc : Thread Cert.KernelAdamSmallIdeal.nD Cert.KernelAdamSmallIdeal.τ).loc Cert.KernelAdamSmallIdeal.main_v170)) (v46 : (c : Dev Cert.KernelAdamSmallIdeal.nD) → Buf (Elt Ideal) ((c.tc : Thread Cert.KernelAdamSmallIdeal.nD Cert.KernelAdamSmallIdeal.τ).loc Cert.KernelAdamSmallIdeal.main_v172)) (v47 : (c : Dev Cert.KernelAdamSmallIdeal.nD) → Buf (Elt Ideal) ((c.tc : Thread Cert.KernelAdamSmallIdeal.nD Cert.KernelAdamSmallIdeal.τ).loc Cert.KernelAdamSmallIdeal.main_v174)) (v48 : (c : Dev Cert.KernelAdamSmallIdeal.nD) → Buf (Elt Ideal) ((c.tc : Thread Cert.KernelAdamSmallIdeal.nD Cert.KernelAdamSmallIdeal.τ).loc Cert.KernelAdamSmallIdeal.main_v176)) (v49 : (c : Dev Cert.KernelAdamSmallIdeal.nD) → Buf (Elt Ideal) ((c.tc : Thread Cert.KernelAdamSmallIdeal.nD Cert.KernelAdamSmallIdeal.τ).loc Cert.KernelAdamSmallIdeal.main_v178)) (v50 : (c : Dev Cert.KernelAdamSmallIdeal.nD) → Buf (Elt Ideal) ((c.tc : Thread Cert.KernelAdamSmallIdeal.nD Cert.KernelAdamSmallIdeal.τ).loc Cert.KernelAdamSmallIdeal.main_v180)) (v51 : (c : Dev Cert.KernelAdamSmallIdeal.nD) → Buf (Elt Ideal) ((c.tc : Thread Cert.KernelAdamSmallIdeal.nD Cert.KernelAdamSmallIdeal.τ).loc Cert.KernelAdamSmallIdeal.main_v182)) (v52 : (c : Dev Cert.KernelAdamSmallIdeal.nD) → Buf (Elt Ideal) ((c.tc : Thread Cert.KernelAdamSmallIdeal.nD Cert.KernelAdamSmallIdeal.τ).loc Cert.KernelAdamSmallIdeal.main_v184)) (v53 : (c : Dev Cert.KernelAdamSmallIdeal.nD) → Buf (Elt Ideal) ((c.tc : Thread Cert.KernelAdamSmallIdeal.nD Cert.KernelAdamSmallIdeal.τ).loc Cert.KernelAdamSmallIdeal.main_v186)) (v54 : (c : Dev Cert.KernelAdamSmallIdeal.nD) → Buf (Elt Ideal) ((c.tc : Thread Cert.KernelAdamSmallIdeal.nD Cert.KernelAdamSmallIdeal.τ).loc Cert.KernelAdamSmallIdeal.main_v188)) (v55 : (c : Dev Cert.KernelAdamSmallIdeal.nD) → Buf (Elt Ideal) ((c.tc : Thread Cert.KernelAdamSmallIdeal.nD Cert.KernelAdamSmallIdeal.τ).loc Cert.KernelAdamSmallIdeal.main_v190)) (v56 : (c : Dev Cert.KernelAdamSmallIdeal.nD) → Buf (Elt Ideal) ((c.tc : Thread Cert.KernelAdamSmallIdeal.nD Cert.KernelAdamSmallIdeal.τ).loc Cert.KernelAdamSmallIdeal.main_v192)) (v57 : (c : Dev Cert.KernelAdamSmallIdeal.nD) → Buf (Elt Ideal) ((c.tc : Thread Cert.KernelAdamSmallIdeal.nD Cert.KernelAdamSmallIdeal.τ).loc Cert.KernelAdamSmallIdeal.main_v194)) (v58 : (c : Dev Cert.KernelAdamSmallIdeal.nD) → Buf (Elt Ideal) ((c.tc : Thread Cert.KernelAdamSmallIdeal.nD Cert.KernelAdamSmallIdeal.τ).loc Cert.KernelAdamSmallIdeal.main_v196)) (v59 : (c : Dev Cert.KernelAdamSmallIdeal.nD) → Buf (Elt Ideal) ((c.tc : Thread Cert.KernelAdamSmallIdeal.nD Cert.KernelAdamSmallIdeal.τ).loc Cert.KernelAdamSmallIdeal.main_v198)) (v60 : (c : Dev Cert.KernelAdamSmallIdeal.nD) → Buf (Elt Ideal) ((c.tc : Thread Cert.KernelAdamSmallIdeal.nD Cert.KernelAdamSmallIdeal.τ).loc Cert.KernelAdamSmallIdeal.main_v200)) (v61 : (c : Dev Cert.KernelAdamSmallIdeal.nD) → Buf (Elt Ideal) ((c.tc : Thread Cert.KernelAdamSmallIdeal.nD Cert.KernelAdamSmallIdeal.τ).loc Cert.KernelAdamSmallIdeal.main_v202)) (v62 : (c : Dev Cert.KernelAdamSmallIdeal.nD) → Buf (Elt Ideal) ((c.tc : Thread Cert.KernelAdamSmallIdeal.nD Cert.KernelAdamSmallIdeal.τ).loc Cert.KernelAdamSmallIdeal.main_v204)) (v63 : (c : Dev Cert.KernelAdamSmallIdeal.nD) → Buf (Elt Ideal) ((c.tc : Thread Cert.KernelAdamSmallIdeal.nD Cert.KernelAdamSmallIdeal.τ).loc Cert.KernelAdamSmallIdeal.main_v206)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v80) = v0 c
          ∧ r.2.mem ((c.tc : Thread Cert.KernelAdamSmallIdeal.nD Cert.KernelAdamSmallIdeal.τ).loc Cert.KernelAdamSmallIdeal.main_v82) = v1 c
          ∧ r.2.mem ((c.tc : Thread Cert.KernelAdamSmallIdeal.nD Cert.KernelAdamSmallIdeal.τ).loc Cert.KernelAdamSmallIdeal.main_v84) = v2 c
          ∧ r.2.mem ((c.tc : Thread Cert.KernelAdamSmallIdeal.nD Cert.KernelAdamSmallIdeal.τ).loc Cert.KernelAdamSmallIdeal.main_v86) = v3 c
          ∧ r.2.mem ((c.tc : Thread Cert.KernelAdamSmallIdeal.nD Cert.KernelAdamSmallIdeal.τ).loc Cert.KernelAdamSmallIdeal.main_v88) = v4 c
          ∧ r.2.mem ((c.tc : Thread Cert.KernelAdamSmallIdeal.nD Cert.KernelAdamSmallIdeal.τ).loc Cert.KernelAdamSmallIdeal.main_v90) = v5 c
          ∧ r.2.mem ((c.tc : Thread Cert.KernelAdamSmallIdeal.nD Cert.KernelAdamSmallIdeal.τ).loc Cert.KernelAdamSmallIdeal.main_v92) = v6 c
          ∧ r.2.mem ((c.tc : Thread Cert.KernelAdamSmallIdeal.nD Cert.KernelAdamSmallIdeal.τ).loc Cert.KernelAdamSmallIdeal.main_v94) = v7 c
          ∧ r.2.mem ((c.tc : Thread Cert.KernelAdamSmallIdeal.nD Cert.KernelAdamSmallIdeal.τ).loc Cert.KernelAdamSmallIdeal.main_v96) = v8 c
          ∧ r.2.mem ((c.tc : Thread Cert.KernelAdamSmallIdeal.nD Cert.KernelAdamSmallIdeal.τ).loc Cert.KernelAdamSmallIdeal.main_v98) = v9 c
          ∧ r.2.mem ((c.tc : Thread Cert.KernelAdamSmallIdeal.nD Cert.KernelAdamSmallIdeal.τ).loc Cert.KernelAdamSmallIdeal.main_v100) = v10 c
          ∧ r.2.mem ((c.tc : Thread Cert.KernelAdamSmallIdeal.nD Cert.KernelAdamSmallIdeal.τ).loc Cert.KernelAdamSmallIdeal.main_v102) = v11 c
          ∧ r.2.mem ((c.tc : Thread Cert.KernelAdamSmallIdeal.nD Cert.KernelAdamSmallIdeal.τ).loc Cert.KernelAdamSmallIdeal.main_v104) = v12 c
          ∧ r.2.mem ((c.tc : Thread Cert.KernelAdamSmallIdeal.nD Cert.KernelAdamSmallIdeal.τ).loc Cert.KernelAdamSmallIdeal.main_v106) = v13 c
          ∧ r.2.mem ((c.tc : Thread Cert.KernelAdamSmallIdeal.nD Cert.KernelAdamSmallIdeal.τ).loc Cert.KernelAdamSmallIdeal.main_v108) = v14 c
          ∧ r.2.mem ((c.tc : Thread Cert.KernelAdamSmallIdeal.nD Cert.KernelAdamSmallIdeal.τ).loc Cert.KernelAdamSmallIdeal.main_v110) = v15 c
          ∧ r.2.mem ((c.tc : Thread Cert.KernelAdamSmallIdeal.nD Cert.KernelAdamSmallIdeal.τ).loc Cert.KernelAdamSmallIdeal.main_v112) = v16 c
          ∧ r.2.mem ((c.tc : Thread Cert.KernelAdamSmallIdeal.nD Cert.KernelAdamSmallIdeal.τ).loc Cert.KernelAdamSmallIdeal.main_v114) = v17 c
          ∧ r.2.mem ((c.tc : Thread Cert.KernelAdamSmallIdeal.nD Cert.KernelAdamSmallIdeal.τ).loc Cert.KernelAdamSmallIdeal.main_v116) = v18 c
          ∧ r.2.mem ((c.tc : Thread Cert.KernelAdamSmallIdeal.nD Cert.KernelAdamSmallIdeal.τ).loc Cert.KernelAdamSmallIdeal.main_v118) = v19 c
          ∧ r.2.mem ((c.tc : Thread Cert.KernelAdamSmallIdeal.nD Cert.KernelAdamSmallIdeal.τ).loc Cert.KernelAdamSmallIdeal.main_v120) = v20 c
          ∧ r.2.mem ((c.tc : Thread Cert.KernelAdamSmallIdeal.nD Cert.KernelAdamSmallIdeal.τ).loc Cert.KernelAdamSmallIdeal.main_v122) = v21 c
          ∧ r.2.mem ((c.tc : Thread Cert.KernelAdamSmallIdeal.nD Cert.KernelAdamSmallIdeal.τ).loc Cert.KernelAdamSmallIdeal.main_v124) = v22 c
          ∧ r.2.mem ((c.tc : Thread Cert.KernelAdamSmallIdeal.nD Cert.KernelAdamSmallIdeal.τ).loc Cert.KernelAdamSmallIdeal.main_v126) = v23 c
          ∧ r.2.mem ((c.tc : Thread Cert.KernelAdamSmallIdeal.nD Cert.KernelAdamSmallIdeal.τ).loc Cert.KernelAdamSmallIdeal.main_v128) = v24 c
          ∧ r.2.mem ((c.tc : Thread Cert.KernelAdamSmallIdeal.nD Cert.KernelAdamSmallIdeal.τ).loc Cert.KernelAdamSmallIdeal.main_v130) = v25 c
          ∧ r.2.mem ((c.tc : Thread Cert.KernelAdamSmallIdeal.nD Cert.KernelAdamSmallIdeal.τ).loc Cert.KernelAdamSmallIdeal.main_v132) = v26 c
          ∧ r.2.mem ((c.tc : Thread Cert.KernelAdamSmallIdeal.nD Cert.KernelAdamSmallIdeal.τ).loc Cert.KernelAdamSmallIdeal.main_v134) = v27 c
          ∧ r.2.mem ((c.tc : Thread Cert.KernelAdamSmallIdeal.nD Cert.KernelAdamSmallIdeal.τ).loc Cert.KernelAdamSmallIdeal.main_v136) = v28 c
          ∧ r.2.mem ((c.tc : Thread Cert.KernelAdamSmallIdeal.nD Cert.KernelAdamSmallIdeal.τ).loc Cert.KernelAdamSmallIdeal.main_v138) = v29 c
          ∧ r.2.mem ((c.tc : Thread Cert.KernelAdamSmallIdeal.nD Cert.KernelAdamSmallIdeal.τ).loc Cert.KernelAdamSmallIdeal.main_v140) = v30 c
          ∧ r.2.mem ((c.tc : Thread Cert.KernelAdamSmallIdeal.nD Cert.KernelAdamSmallIdeal.τ).loc Cert.KernelAdamSmallIdeal.main_v142) = v31 c
          ∧ r.2.mem ((c.tc : Thread Cert.KernelAdamSmallIdeal.nD Cert.KernelAdamSmallIdeal.τ).loc Cert.KernelAdamSmallIdeal.main_v144) = v32 c
          ∧ r.2.mem ((c.tc : Thread Cert.KernelAdamSmallIdeal.nD Cert.KernelAdamSmallIdeal.τ).loc Cert.KernelAdamSmallIdeal.main_v146) = v33 c
          ∧ r.2.mem ((c.tc : Thread Cert.KernelAdamSmallIdeal.nD Cert.KernelAdamSmallIdeal.τ).loc Cert.KernelAdamSmallIdeal.main_v148) = v34 c
          ∧ r.2.mem ((c.tc : Thread Cert.KernelAdamSmallIdeal.nD Cert.KernelAdamSmallIdeal.τ).loc Cert.KernelAdamSmallIdeal.main_v150) = v35 c
          ∧ r.2.mem ((c.tc : Thread Cert.KernelAdamSmallIdeal.nD Cert.KernelAdamSmallIdeal.τ).loc Cert.KernelAdamSmallIdeal.main_v152) = v36 c
          ∧ r.2.mem ((c.tc : Thread Cert.KernelAdamSmallIdeal.nD Cert.KernelAdamSmallIdeal.τ).loc Cert.KernelAdamSmallIdeal.main_v154) = v37 c
          ∧ r.2.mem ((c.tc : Thread Cert.KernelAdamSmallIdeal.nD Cert.KernelAdamSmallIdeal.τ).loc Cert.KernelAdamSmallIdeal.main_v156) = v38 c
          ∧ r.2.mem ((c.tc : Thread Cert.KernelAdamSmallIdeal.nD Cert.KernelAdamSmallIdeal.τ).loc Cert.KernelAdamSmallIdeal.main_v158) = v39 c
          ∧ r.2.mem ((c.tc : Thread Cert.KernelAdamSmallIdeal.nD Cert.KernelAdamSmallIdeal.τ).loc Cert.KernelAdamSmallIdeal.main_v160) = v40 c
          ∧ r.2.mem ((c.tc : Thread Cert.KernelAdamSmallIdeal.nD Cert.KernelAdamSmallIdeal.τ).loc Cert.KernelAdamSmallIdeal.main_v162) = v41 c
          ∧ r.2.mem ((c.tc : Thread Cert.KernelAdamSmallIdeal.nD Cert.KernelAdamSmallIdeal.τ).loc Cert.KernelAdamSmallIdeal.main_v164) = v42 c
          ∧ r.2.mem ((c.tc : Thread Cert.KernelAdamSmallIdeal.nD Cert.KernelAdamSmallIdeal.τ).loc Cert.KernelAdamSmallIdeal.main_v166) = v43 c
          ∧ r.2.mem ((c.tc : Thread Cert.KernelAdamSmallIdeal.nD Cert.KernelAdamSmallIdeal.τ).loc Cert.KernelAdamSmallIdeal.main_v168) = v44 c
          ∧ r.2.mem ((c.tc : Thread Cert.KernelAdamSmallIdeal.nD Cert.KernelAdamSmallIdeal.τ).loc Cert.KernelAdamSmallIdeal.main_v170) = v45 c
          ∧ r.2.mem ((c.tc : Thread Cert.KernelAdamSmallIdeal.nD Cert.KernelAdamSmallIdeal.τ).loc Cert.KernelAdamSmallIdeal.main_v172) = v46 c
          ∧ r.2.mem ((c.tc : Thread Cert.KernelAdamSmallIdeal.nD Cert.KernelAdamSmallIdeal.τ).loc Cert.KernelAdamSmallIdeal.main_v174) = v47 c
          ∧ r.2.mem ((c.tc : Thread Cert.KernelAdamSmallIdeal.nD Cert.KernelAdamSmallIdeal.τ).loc Cert.KernelAdamSmallIdeal.main_v176) = v48 c
          ∧ r.2.mem ((c.tc : Thread Cert.KernelAdamSmallIdeal.nD Cert.KernelAdamSmallIdeal.τ).loc Cert.KernelAdamSmallIdeal.main_v178) = v49 c
          ∧ r.2.mem ((c.tc : Thread Cert.KernelAdamSmallIdeal.nD Cert.KernelAdamSmallIdeal.τ).loc Cert.KernelAdamSmallIdeal.main_v180) = v50 c
          ∧ r.2.mem ((c.tc : Thread Cert.KernelAdamSmallIdeal.nD Cert.KernelAdamSmallIdeal.τ).loc Cert.KernelAdamSmallIdeal.main_v182) = v51 c
          ∧ r.2.mem ((c.tc : Thread Cert.KernelAdamSmallIdeal.nD Cert.KernelAdamSmallIdeal.τ).loc Cert.KernelAdamSmallIdeal.main_v184) = v52 c
          ∧ r.2.mem ((c.tc : Thread Cert.KernelAdamSmallIdeal.nD Cert.KernelAdamSmallIdeal.τ).loc Cert.KernelAdamSmallIdeal.main_v186) = v53 c
          ∧ r.2.mem ((c.tc : Thread Cert.KernelAdamSmallIdeal.nD Cert.KernelAdamSmallIdeal.τ).loc Cert.KernelAdamSmallIdeal.main_v188) = v54 c
          ∧ r.2.mem ((c.tc : Thread Cert.KernelAdamSmallIdeal.nD Cert.KernelAdamSmallIdeal.τ).loc Cert.KernelAdamSmallIdeal.main_v190) = v55 c
          ∧ r.2.mem ((c.tc : Thread Cert.KernelAdamSmallIdeal.nD Cert.KernelAdamSmallIdeal.τ).loc Cert.KernelAdamSmallIdeal.main_v192) = v56 c
          ∧ r.2.mem ((c.tc : Thread Cert.KernelAdamSmallIdeal.nD Cert.KernelAdamSmallIdeal.τ).loc Cert.KernelAdamSmallIdeal.main_v194) = v57 c
          ∧ r.2.mem ((c.tc : Thread Cert.KernelAdamSmallIdeal.nD Cert.KernelAdamSmallIdeal.τ).loc Cert.KernelAdamSmallIdeal.main_v196) = v58 c
          ∧ r.2.mem ((c.tc : Thread Cert.KernelAdamSmallIdeal.nD Cert.KernelAdamSmallIdeal.τ).loc Cert.KernelAdamSmallIdeal.main_v198) = v59 c
          ∧ r.2.mem ((c.tc : Thread Cert.KernelAdamSmallIdeal.nD Cert.KernelAdamSmallIdeal.τ).loc Cert.KernelAdamSmallIdeal.main_v200) = v60 c
          ∧ r.2.mem ((c.tc : Thread Cert.KernelAdamSmallIdeal.nD Cert.KernelAdamSmallIdeal.τ).loc Cert.KernelAdamSmallIdeal.main_v202) = v61 c
          ∧ r.2.mem ((c.tc : Thread Cert.KernelAdamSmallIdeal.nD Cert.KernelAdamSmallIdeal.τ).loc Cert.KernelAdamSmallIdeal.main_v204) = v62 c
          ∧ r.2.mem ((c.tc : Thread Cert.KernelAdamSmallIdeal.nD Cert.KernelAdamSmallIdeal.τ).loc Cert.KernelAdamSmallIdeal.main_v206) = v63 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3)
          ∧ r.2.mem ((c.tc : Thread Cert.KernelAdamSmallIdeal.nD Cert.KernelAdamSmallIdeal.τ).loc Cert.KernelAdamSmallIdeal.main_arg4) = m ((c.tc : Thread Cert.KernelAdamSmallIdeal.nD Cert.KernelAdamSmallIdeal.τ).loc Cert.KernelAdamSmallIdeal.main_arg4)
          ∧ r.2.mem ((c.tc : Thread Cert.KernelAdamSmallIdeal.nD Cert.KernelAdamSmallIdeal.τ).loc Cert.KernelAdamSmallIdeal.main_arg5) = m ((c.tc : Thread Cert.KernelAdamSmallIdeal.nD Cert.KernelAdamSmallIdeal.τ).loc Cert.KernelAdamSmallIdeal.main_arg5)
          ∧ r.2.mem ((c.tc : Thread Cert.KernelAdamSmallIdeal.nD Cert.KernelAdamSmallIdeal.τ).loc Cert.KernelAdamSmallIdeal.main_arg6) = m ((c.tc : Thread Cert.KernelAdamSmallIdeal.nD Cert.KernelAdamSmallIdeal.τ).loc Cert.KernelAdamSmallIdeal.main_arg6)
          ∧ r.2.mem ((c.tc : Thread Cert.KernelAdamSmallIdeal.nD Cert.KernelAdamSmallIdeal.τ).loc Cert.KernelAdamSmallIdeal.main_arg7) = m ((c.tc : Thread Cert.KernelAdamSmallIdeal.nD Cert.KernelAdamSmallIdeal.τ).loc Cert.KernelAdamSmallIdeal.main_arg7)
          ∧ r.2.mem ((c.tc : Thread Cert.KernelAdamSmallIdeal.nD Cert.KernelAdamSmallIdeal.τ).loc Cert.KernelAdamSmallIdeal.main_arg8) = m ((c.tc : Thread Cert.KernelAdamSmallIdeal.nD Cert.KernelAdamSmallIdeal.τ).loc Cert.KernelAdamSmallIdeal.main_arg8)
          ∧ r.2.mem ((c.tc : Thread Cert.KernelAdamSmallIdeal.nD Cert.KernelAdamSmallIdeal.τ).loc Cert.KernelAdamSmallIdeal.main_arg9) = m ((c.tc : Thread Cert.KernelAdamSmallIdeal.nD Cert.KernelAdamSmallIdeal.τ).loc Cert.KernelAdamSmallIdeal.main_arg9)
          ∧ r.2.mem ((c.tc : Thread Cert.KernelAdamSmallIdeal.nD Cert.KernelAdamSmallIdeal.τ).loc Cert.KernelAdamSmallIdeal.main_arg10) = m ((c.tc : Thread Cert.KernelAdamSmallIdeal.nD Cert.KernelAdamSmallIdeal.τ).loc Cert.KernelAdamSmallIdeal.main_arg10)
          ∧ r.2.mem ((c.tc : Thread Cert.KernelAdamSmallIdeal.nD Cert.KernelAdamSmallIdeal.τ).loc Cert.KernelAdamSmallIdeal.main_arg11) = m ((c.tc : Thread Cert.KernelAdamSmallIdeal.nD Cert.KernelAdamSmallIdeal.τ).loc Cert.KernelAdamSmallIdeal.main_arg11)
          ∧ r.2.mem ((c.tc : Thread Cert.KernelAdamSmallIdeal.nD Cert.KernelAdamSmallIdeal.τ).loc Cert.KernelAdamSmallIdeal.main_arg12) = m ((c.tc : Thread Cert.KernelAdamSmallIdeal.nD Cert.KernelAdamSmallIdeal.τ).loc Cert.KernelAdamSmallIdeal.main_arg12)
          ∧ r.2.mem ((c.tc : Thread Cert.KernelAdamSmallIdeal.nD Cert.KernelAdamSmallIdeal.τ).loc Cert.KernelAdamSmallIdeal.main_arg13) = m ((c.tc : Thread Cert.KernelAdamSmallIdeal.nD Cert.KernelAdamSmallIdeal.τ).loc Cert.KernelAdamSmallIdeal.main_arg13)
          ∧ r.2.mem ((c.tc : Thread Cert.KernelAdamSmallIdeal.nD Cert.KernelAdamSmallIdeal.τ).loc Cert.KernelAdamSmallIdeal.main_arg14) = m ((c.tc : Thread Cert.KernelAdamSmallIdeal.nD Cert.KernelAdamSmallIdeal.τ).loc Cert.KernelAdamSmallIdeal.main_arg14)
          ∧ r.2.mem ((c.tc : Thread Cert.KernelAdamSmallIdeal.nD Cert.KernelAdamSmallIdeal.τ).loc Cert.KernelAdamSmallIdeal.main_arg15) = m ((c.tc : Thread Cert.KernelAdamSmallIdeal.nD Cert.KernelAdamSmallIdeal.τ).loc Cert.KernelAdamSmallIdeal.main_arg15)
          ∧ r.2.mem ((c.tc : Thread Cert.KernelAdamSmallIdeal.nD Cert.KernelAdamSmallIdeal.τ).loc Cert.KernelAdamSmallIdeal.main_arg16) = m ((c.tc : Thread Cert.KernelAdamSmallIdeal.nD Cert.KernelAdamSmallIdeal.τ).loc Cert.KernelAdamSmallIdeal.main_arg16)
          ∧ r.2.mem ((c.tc : Thread Cert.KernelAdamSmallIdeal.nD Cert.KernelAdamSmallIdeal.τ).loc Cert.KernelAdamSmallIdeal.main_arg17) = m ((c.tc : Thread Cert.KernelAdamSmallIdeal.nD Cert.KernelAdamSmallIdeal.τ).loc Cert.KernelAdamSmallIdeal.main_arg17)
          ∧ r.2.mem ((c.tc : Thread Cert.KernelAdamSmallIdeal.nD Cert.KernelAdamSmallIdeal.τ).loc Cert.KernelAdamSmallIdeal.main_arg18) = m ((c.tc : Thread Cert.KernelAdamSmallIdeal.nD Cert.KernelAdamSmallIdeal.τ).loc Cert.KernelAdamSmallIdeal.main_arg18)
          ∧ r.2.mem ((c.tc : Thread Cert.KernelAdamSmallIdeal.nD Cert.KernelAdamSmallIdeal.τ).loc Cert.KernelAdamSmallIdeal.main_arg19) = m ((c.tc : Thread Cert.KernelAdamSmallIdeal.nD Cert.KernelAdamSmallIdeal.τ).loc Cert.KernelAdamSmallIdeal.main_arg19)
          ∧ r.2.mem ((c.tc : Thread Cert.KernelAdamSmallIdeal.nD Cert.KernelAdamSmallIdeal.τ).loc Cert.KernelAdamSmallIdeal.main_arg20) = m ((c.tc : Thread Cert.KernelAdamSmallIdeal.nD Cert.KernelAdamSmallIdeal.τ).loc Cert.KernelAdamSmallIdeal.main_arg20)
          ∧ r.2.mem ((c.tc : Thread Cert.KernelAdamSmallIdeal.nD Cert.KernelAdamSmallIdeal.τ).loc Cert.KernelAdamSmallIdeal.main_arg21) = m ((c.tc : Thread Cert.KernelAdamSmallIdeal.nD Cert.KernelAdamSmallIdeal.τ).loc Cert.KernelAdamSmallIdeal.main_arg21)
          ∧ r.2.mem ((c.tc : Thread Cert.KernelAdamSmallIdeal.nD Cert.KernelAdamSmallIdeal.τ).loc Cert.KernelAdamSmallIdeal.main_arg22) = m ((c.tc : Thread Cert.KernelAdamSmallIdeal.nD Cert.KernelAdamSmallIdeal.τ).loc Cert.KernelAdamSmallIdeal.main_arg22)
          ∧ r.2.mem ((c.tc : Thread Cert.KernelAdamSmallIdeal.nD Cert.KernelAdamSmallIdeal.τ).loc Cert.KernelAdamSmallIdeal.main_arg23) = m ((c.tc : Thread Cert.KernelAdamSmallIdeal.nD Cert.KernelAdamSmallIdeal.τ).loc Cert.KernelAdamSmallIdeal.main_arg23)
          ∧ r.2.mem ((c.tc : Thread Cert.KernelAdamSmallIdeal.nD Cert.KernelAdamSmallIdeal.τ).loc Cert.KernelAdamSmallIdeal.main_arg24) = m ((c.tc : Thread Cert.KernelAdamSmallIdeal.nD Cert.KernelAdamSmallIdeal.τ).loc Cert.KernelAdamSmallIdeal.main_arg24)
          ∧ r.2.mem ((c.tc : Thread Cert.KernelAdamSmallIdeal.nD Cert.KernelAdamSmallIdeal.τ).loc Cert.KernelAdamSmallIdeal.main_arg25) = m ((c.tc : Thread Cert.KernelAdamSmallIdeal.nD Cert.KernelAdamSmallIdeal.τ).loc Cert.KernelAdamSmallIdeal.main_arg25)
          ∧ r.2.mem ((c.tc : Thread Cert.KernelAdamSmallIdeal.nD Cert.KernelAdamSmallIdeal.τ).loc Cert.KernelAdamSmallIdeal.main_arg26) = m ((c.tc : Thread Cert.KernelAdamSmallIdeal.nD Cert.KernelAdamSmallIdeal.τ).loc Cert.KernelAdamSmallIdeal.main_arg26)
          ∧ r.2.mem ((c.tc : Thread Cert.KernelAdamSmallIdeal.nD Cert.KernelAdamSmallIdeal.τ).loc Cert.KernelAdamSmallIdeal.main_arg27) = m ((c.tc : Thread Cert.KernelAdamSmallIdeal.nD Cert.KernelAdamSmallIdeal.τ).loc Cert.KernelAdamSmallIdeal.main_arg27)
          ∧ r.2.mem ((c.tc : Thread Cert.KernelAdamSmallIdeal.nD Cert.KernelAdamSmallIdeal.τ).loc Cert.KernelAdamSmallIdeal.main_arg28) = m ((c.tc : Thread Cert.KernelAdamSmallIdeal.nD Cert.KernelAdamSmallIdeal.τ).loc Cert.KernelAdamSmallIdeal.main_arg28)
          ∧ r.2.mem ((c.tc : Thread Cert.KernelAdamSmallIdeal.nD Cert.KernelAdamSmallIdeal.τ).loc Cert.KernelAdamSmallIdeal.main_arg29) = m ((c.tc : Thread Cert.KernelAdamSmallIdeal.nD Cert.KernelAdamSmallIdeal.τ).loc Cert.KernelAdamSmallIdeal.main_arg29)
          ∧ r.2.mem ((c.tc : Thread Cert.KernelAdamSmallIdeal.nD Cert.KernelAdamSmallIdeal.τ).loc Cert.KernelAdamSmallIdeal.main_arg30) = m ((c.tc : Thread Cert.KernelAdamSmallIdeal.nD Cert.KernelAdamSmallIdeal.τ).loc Cert.KernelAdamSmallIdeal.main_arg30)
          ∧ r.2.mem ((c.tc : Thread Cert.KernelAdamSmallIdeal.nD Cert.KernelAdamSmallIdeal.τ).loc Cert.KernelAdamSmallIdeal.main_arg31) = m ((c.tc : Thread Cert.KernelAdamSmallIdeal.nD Cert.KernelAdamSmallIdeal.τ).loc Cert.KernelAdamSmallIdeal.main_arg31)
          ∧ r.2.mem ((c.tc : Thread Cert.KernelAdamSmallIdeal.nD Cert.KernelAdamSmallIdeal.τ).loc Cert.KernelAdamSmallIdeal.main_arg32) = m ((c.tc : Thread Cert.KernelAdamSmallIdeal.nD Cert.KernelAdamSmallIdeal.τ).loc Cert.KernelAdamSmallIdeal.main_arg32)
          ∧ r.2.mem ((c.tc : Thread Cert.KernelAdamSmallIdeal.nD Cert.KernelAdamSmallIdeal.τ).loc Cert.KernelAdamSmallIdeal.main_arg33) = m ((c.tc : Thread Cert.KernelAdamSmallIdeal.nD Cert.KernelAdamSmallIdeal.τ).loc Cert.KernelAdamSmallIdeal.main_arg33)
          ∧ r.2.mem ((c.tc : Thread Cert.KernelAdamSmallIdeal.nD Cert.KernelAdamSmallIdeal.τ).loc Cert.KernelAdamSmallIdeal.main_arg34) = m ((c.tc : Thread Cert.KernelAdamSmallIdeal.nD Cert.KernelAdamSmallIdeal.τ).loc Cert.KernelAdamSmallIdeal.main_arg34)
          ∧ r.2.mem ((c.tc : Thread Cert.KernelAdamSmallIdeal.nD Cert.KernelAdamSmallIdeal.τ).loc Cert.KernelAdamSmallIdeal.main_arg35) = m ((c.tc : Thread Cert.KernelAdamSmallIdeal.nD Cert.KernelAdamSmallIdeal.τ).loc Cert.KernelAdamSmallIdeal.main_arg35)
          ∧ r.2.mem ((c.tc : Thread Cert.KernelAdamSmallIdeal.nD Cert.KernelAdamSmallIdeal.τ).loc Cert.KernelAdamSmallIdeal.main_arg36) = m ((c.tc : Thread Cert.KernelAdamSmallIdeal.nD Cert.KernelAdamSmallIdeal.τ).loc Cert.KernelAdamSmallIdeal.main_arg36)
          ∧ r.2.mem ((c.tc : Thread Cert.KernelAdamSmallIdeal.nD Cert.KernelAdamSmallIdeal.τ).loc Cert.KernelAdamSmallIdeal.main_arg37) = m ((c.tc : Thread Cert.KernelAdamSmallIdeal.nD Cert.KernelAdamSmallIdeal.τ).loc Cert.KernelAdamSmallIdeal.main_arg37)
          ∧ r.2.mem ((c.tc : Thread Cert.KernelAdamSmallIdeal.nD Cert.KernelAdamSmallIdeal.τ).loc Cert.KernelAdamSmallIdeal.main_arg38) = m ((c.tc : Thread Cert.KernelAdamSmallIdeal.nD Cert.KernelAdamSmallIdeal.τ).loc Cert.KernelAdamSmallIdeal.main_arg38)
          ∧ r.2.mem ((c.tc : Thread Cert.KernelAdamSmallIdeal.nD Cert.KernelAdamSmallIdeal.τ).loc Cert.KernelAdamSmallIdeal.main_arg39) = m ((c.tc : Thread Cert.KernelAdamSmallIdeal.nD Cert.KernelAdamSmallIdeal.τ).loc Cert.KernelAdamSmallIdeal.main_arg39)
          ∧ r.2.mem ((c.tc : Thread Cert.KernelAdamSmallIdeal.nD Cert.KernelAdamSmallIdeal.τ).loc Cert.KernelAdamSmallIdeal.main_arg40) = m ((c.tc : Thread Cert.KernelAdamSmallIdeal.nD Cert.KernelAdamSmallIdeal.τ).loc Cert.KernelAdamSmallIdeal.main_arg40)
          ∧ r.2.mem ((c.tc : Thread Cert.KernelAdamSmallIdeal.nD Cert.KernelAdamSmallIdeal.τ).loc Cert.KernelAdamSmallIdeal.main_arg41) = m ((c.tc : Thread Cert.KernelAdamSmallIdeal.nD Cert.KernelAdamSmallIdeal.τ).loc Cert.KernelAdamSmallIdeal.main_arg41)
          ∧ r.2.mem ((c.tc : Thread Cert.KernelAdamSmallIdeal.nD Cert.KernelAdamSmallIdeal.τ).loc Cert.KernelAdamSmallIdeal.main_arg42) = m ((c.tc : Thread Cert.KernelAdamSmallIdeal.nD Cert.KernelAdamSmallIdeal.τ).loc Cert.KernelAdamSmallIdeal.main_arg42)
          ∧ r.2.mem ((c.tc : Thread Cert.KernelAdamSmallIdeal.nD Cert.KernelAdamSmallIdeal.τ).loc Cert.KernelAdamSmallIdeal.main_arg43) = m ((c.tc : Thread Cert.KernelAdamSmallIdeal.nD Cert.KernelAdamSmallIdeal.τ).loc Cert.KernelAdamSmallIdeal.main_arg43)
          ∧ r.2.mem ((c.tc : Thread Cert.KernelAdamSmallIdeal.nD Cert.KernelAdamSmallIdeal.τ).loc Cert.KernelAdamSmallIdeal.main_arg44) = m ((c.tc : Thread Cert.KernelAdamSmallIdeal.nD Cert.KernelAdamSmallIdeal.τ).loc Cert.KernelAdamSmallIdeal.main_arg44)
          ∧ r.2.mem ((c.tc : Thread Cert.KernelAdamSmallIdeal.nD Cert.KernelAdamSmallIdeal.τ).loc Cert.KernelAdamSmallIdeal.main_arg45) = m ((c.tc : Thread Cert.KernelAdamSmallIdeal.nD Cert.KernelAdamSmallIdeal.τ).loc Cert.KernelAdamSmallIdeal.main_arg45)
          ∧ r.2.mem ((c.tc : Thread Cert.KernelAdamSmallIdeal.nD Cert.KernelAdamSmallIdeal.τ).loc Cert.KernelAdamSmallIdeal.main_arg46) = m ((c.tc : Thread Cert.KernelAdamSmallIdeal.nD Cert.KernelAdamSmallIdeal.τ).loc Cert.KernelAdamSmallIdeal.main_arg46)
          ∧ r.2.mem ((c.tc : Thread Cert.KernelAdamSmallIdeal.nD Cert.KernelAdamSmallIdeal.τ).loc Cert.KernelAdamSmallIdeal.main_arg47) = m ((c.tc : Thread Cert.KernelAdamSmallIdeal.nD Cert.KernelAdamSmallIdeal.τ).loc Cert.KernelAdamSmallIdeal.main_arg47)
          ∧ r.2.mem ((c.tc : Thread Cert.KernelAdamSmallIdeal.nD Cert.KernelAdamSmallIdeal.τ).loc Cert.KernelAdamSmallIdeal.main_arg48) = m ((c.tc : Thread Cert.KernelAdamSmallIdeal.nD Cert.KernelAdamSmallIdeal.τ).loc Cert.KernelAdamSmallIdeal.main_arg48)
          ∧ r.2.mem ((c.tc : Thread Cert.KernelAdamSmallIdeal.nD Cert.KernelAdamSmallIdeal.τ).loc Cert.KernelAdamSmallIdeal.main_arg49) = m ((c.tc : Thread Cert.KernelAdamSmallIdeal.nD Cert.KernelAdamSmallIdeal.τ).loc Cert.KernelAdamSmallIdeal.main_arg49)
          ∧ r.2.mem ((c.tc : Thread Cert.KernelAdamSmallIdeal.nD Cert.KernelAdamSmallIdeal.τ).loc Cert.KernelAdamSmallIdeal.main_arg50) = m ((c.tc : Thread Cert.KernelAdamSmallIdeal.nD Cert.KernelAdamSmallIdeal.τ).loc Cert.KernelAdamSmallIdeal.main_arg50)
          ∧ r.2.mem ((c.tc : Thread Cert.KernelAdamSmallIdeal.nD Cert.KernelAdamSmallIdeal.τ).loc Cert.KernelAdamSmallIdeal.main_arg51) = m ((c.tc : Thread Cert.KernelAdamSmallIdeal.nD Cert.KernelAdamSmallIdeal.τ).loc Cert.KernelAdamSmallIdeal.main_arg51)
          ∧ r.2.mem ((c.tc : Thread Cert.KernelAdamSmallIdeal.nD Cert.KernelAdamSmallIdeal.τ).loc Cert.KernelAdamSmallIdeal.main_arg52) = m ((c.tc : Thread Cert.KernelAdamSmallIdeal.nD Cert.KernelAdamSmallIdeal.τ).loc Cert.KernelAdamSmallIdeal.main_arg52)
          ∧ r.2.mem ((c.tc : Thread Cert.KernelAdamSmallIdeal.nD Cert.KernelAdamSmallIdeal.τ).loc Cert.KernelAdamSmallIdeal.main_arg53) = m ((c.tc : Thread Cert.KernelAdamSmallIdeal.nD Cert.KernelAdamSmallIdeal.τ).loc Cert.KernelAdamSmallIdeal.main_arg53)
          ∧ r.2.mem ((c.tc : Thread Cert.KernelAdamSmallIdeal.nD Cert.KernelAdamSmallIdeal.τ).loc Cert.KernelAdamSmallIdeal.main_arg54) = m ((c.tc : Thread Cert.KernelAdamSmallIdeal.nD Cert.KernelAdamSmallIdeal.τ).loc Cert.KernelAdamSmallIdeal.main_arg54)
          ∧ r.2.mem ((c.tc : Thread Cert.KernelAdamSmallIdeal.nD Cert.KernelAdamSmallIdeal.τ).loc Cert.KernelAdamSmallIdeal.main_arg55) = m ((c.tc : Thread Cert.KernelAdamSmallIdeal.nD Cert.KernelAdamSmallIdeal.τ).loc Cert.KernelAdamSmallIdeal.main_arg55)
          ∧ r.2.mem ((c.tc : Thread Cert.KernelAdamSmallIdeal.nD Cert.KernelAdamSmallIdeal.τ).loc Cert.KernelAdamSmallIdeal.main_arg56) = m ((c.tc : Thread Cert.KernelAdamSmallIdeal.nD Cert.KernelAdamSmallIdeal.τ).loc Cert.KernelAdamSmallIdeal.main_arg56)
          ∧ r.2.mem ((c.tc : Thread Cert.KernelAdamSmallIdeal.nD Cert.KernelAdamSmallIdeal.τ).loc Cert.KernelAdamSmallIdeal.main_arg57) = m ((c.tc : Thread Cert.KernelAdamSmallIdeal.nD Cert.KernelAdamSmallIdeal.τ).loc Cert.KernelAdamSmallIdeal.main_arg57)
          ∧ r.2.mem ((c.tc : Thread Cert.KernelAdamSmallIdeal.nD Cert.KernelAdamSmallIdeal.τ).loc Cert.KernelAdamSmallIdeal.main_arg58) = m ((c.tc : Thread Cert.KernelAdamSmallIdeal.nD Cert.KernelAdamSmallIdeal.τ).loc Cert.KernelAdamSmallIdeal.main_arg58)
          ∧ r.2.mem ((c.tc : Thread Cert.KernelAdamSmallIdeal.nD Cert.KernelAdamSmallIdeal.τ).loc Cert.KernelAdamSmallIdeal.main_arg59) = m ((c.tc : Thread Cert.KernelAdamSmallIdeal.nD Cert.KernelAdamSmallIdeal.τ).loc Cert.KernelAdamSmallIdeal.main_arg59)
          ∧ r.2.mem ((c.tc : Thread Cert.KernelAdamSmallIdeal.nD Cert.KernelAdamSmallIdeal.τ).loc Cert.KernelAdamSmallIdeal.main_arg60) = m ((c.tc : Thread Cert.KernelAdamSmallIdeal.nD Cert.KernelAdamSmallIdeal.τ).loc Cert.KernelAdamSmallIdeal.main_arg60)
          ∧ r.2.mem ((c.tc : Thread Cert.KernelAdamSmallIdeal.nD Cert.KernelAdamSmallIdeal.τ).loc Cert.KernelAdamSmallIdeal.main_arg61) = m ((c.tc : Thread Cert.KernelAdamSmallIdeal.nD Cert.KernelAdamSmallIdeal.τ).loc Cert.KernelAdamSmallIdeal.main_arg61)
          ∧ r.2.mem ((c.tc : Thread Cert.KernelAdamSmallIdeal.nD Cert.KernelAdamSmallIdeal.τ).loc Cert.KernelAdamSmallIdeal.main_arg62) = m ((c.tc : Thread Cert.KernelAdamSmallIdeal.nD Cert.KernelAdamSmallIdeal.τ).loc Cert.KernelAdamSmallIdeal.main_arg62)
          ∧ r.2.mem ((c.tc : Thread Cert.KernelAdamSmallIdeal.nD Cert.KernelAdamSmallIdeal.τ).loc Cert.KernelAdamSmallIdeal.main_arg63) = m ((c.tc : Thread Cert.KernelAdamSmallIdeal.nD Cert.KernelAdamSmallIdeal.τ).loc Cert.KernelAdamSmallIdeal.main_arg63)
          ∧ r.2.mem ((c.tc : Thread Cert.KernelAdamSmallIdeal.nD Cert.KernelAdamSmallIdeal.τ).loc Cert.KernelAdamSmallIdeal.main_arg64) = m ((c.tc : Thread Cert.KernelAdamSmallIdeal.nD Cert.KernelAdamSmallIdeal.τ).loc Cert.KernelAdamSmallIdeal.main_arg64)
          ∧ r.2.mem ((c.tc : Thread Cert.KernelAdamSmallIdeal.nD Cert.KernelAdamSmallIdeal.τ).loc Cert.KernelAdamSmallIdeal.main_arg65) = m ((c.tc : Thread Cert.KernelAdamSmallIdeal.nD Cert.KernelAdamSmallIdeal.τ).loc Cert.KernelAdamSmallIdeal.main_arg65))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v0) = v0 c
          ∧ r.2.mem ((c.tc : Thread Cert.ReferenceAdamSmallIdeal.nD Cert.ReferenceAdamSmallIdeal.τ).loc Cert.ReferenceAdamSmallIdeal.main_v1) = v1 c
          ∧ r.2.mem ((c.tc : Thread Cert.ReferenceAdamSmallIdeal.nD Cert.ReferenceAdamSmallIdeal.τ).loc Cert.ReferenceAdamSmallIdeal.main_v2) = v2 c
          ∧ r.2.mem ((c.tc : Thread Cert.ReferenceAdamSmallIdeal.nD Cert.ReferenceAdamSmallIdeal.τ).loc Cert.ReferenceAdamSmallIdeal.main_v3) = v3 c
          ∧ r.2.mem ((c.tc : Thread Cert.ReferenceAdamSmallIdeal.nD Cert.ReferenceAdamSmallIdeal.τ).loc Cert.ReferenceAdamSmallIdeal.main_v4) = v4 c
          ∧ r.2.mem ((c.tc : Thread Cert.ReferenceAdamSmallIdeal.nD Cert.ReferenceAdamSmallIdeal.τ).loc Cert.ReferenceAdamSmallIdeal.main_v5) = v5 c
          ∧ r.2.mem ((c.tc : Thread Cert.ReferenceAdamSmallIdeal.nD Cert.ReferenceAdamSmallIdeal.τ).loc Cert.ReferenceAdamSmallIdeal.main_v6) = v6 c
          ∧ r.2.mem ((c.tc : Thread Cert.ReferenceAdamSmallIdeal.nD Cert.ReferenceAdamSmallIdeal.τ).loc Cert.ReferenceAdamSmallIdeal.main_v7) = v7 c
          ∧ r.2.mem ((c.tc : Thread Cert.ReferenceAdamSmallIdeal.nD Cert.ReferenceAdamSmallIdeal.τ).loc Cert.ReferenceAdamSmallIdeal.main_v8) = v8 c
          ∧ r.2.mem ((c.tc : Thread Cert.ReferenceAdamSmallIdeal.nD Cert.ReferenceAdamSmallIdeal.τ).loc Cert.ReferenceAdamSmallIdeal.main_v9) = v9 c
          ∧ r.2.mem ((c.tc : Thread Cert.ReferenceAdamSmallIdeal.nD Cert.ReferenceAdamSmallIdeal.τ).loc Cert.ReferenceAdamSmallIdeal.main_v10) = v10 c
          ∧ r.2.mem ((c.tc : Thread Cert.ReferenceAdamSmallIdeal.nD Cert.ReferenceAdamSmallIdeal.τ).loc Cert.ReferenceAdamSmallIdeal.main_v11) = v11 c
          ∧ r.2.mem ((c.tc : Thread Cert.ReferenceAdamSmallIdeal.nD Cert.ReferenceAdamSmallIdeal.τ).loc Cert.ReferenceAdamSmallIdeal.main_v12) = v12 c
          ∧ r.2.mem ((c.tc : Thread Cert.ReferenceAdamSmallIdeal.nD Cert.ReferenceAdamSmallIdeal.τ).loc Cert.ReferenceAdamSmallIdeal.main_v13) = v13 c
          ∧ r.2.mem ((c.tc : Thread Cert.ReferenceAdamSmallIdeal.nD Cert.ReferenceAdamSmallIdeal.τ).loc Cert.ReferenceAdamSmallIdeal.main_v14) = v14 c
          ∧ r.2.mem ((c.tc : Thread Cert.ReferenceAdamSmallIdeal.nD Cert.ReferenceAdamSmallIdeal.τ).loc Cert.ReferenceAdamSmallIdeal.main_v15) = v15 c
          ∧ r.2.mem ((c.tc : Thread Cert.ReferenceAdamSmallIdeal.nD Cert.ReferenceAdamSmallIdeal.τ).loc Cert.ReferenceAdamSmallIdeal.main_v39) = v16 c
          ∧ r.2.mem ((c.tc : Thread Cert.ReferenceAdamSmallIdeal.nD Cert.ReferenceAdamSmallIdeal.τ).loc Cert.ReferenceAdamSmallIdeal.main_v63) = v17 c
          ∧ r.2.mem ((c.tc : Thread Cert.ReferenceAdamSmallIdeal.nD Cert.ReferenceAdamSmallIdeal.τ).loc Cert.ReferenceAdamSmallIdeal.main_v87) = v18 c
          ∧ r.2.mem ((c.tc : Thread Cert.ReferenceAdamSmallIdeal.nD Cert.ReferenceAdamSmallIdeal.τ).loc Cert.ReferenceAdamSmallIdeal.main_v111) = v19 c
          ∧ r.2.mem ((c.tc : Thread Cert.ReferenceAdamSmallIdeal.nD Cert.ReferenceAdamSmallIdeal.τ).loc Cert.ReferenceAdamSmallIdeal.main_v135) = v20 c
          ∧ r.2.mem ((c.tc : Thread Cert.ReferenceAdamSmallIdeal.nD Cert.ReferenceAdamSmallIdeal.τ).loc Cert.ReferenceAdamSmallIdeal.main_v159) = v21 c
          ∧ r.2.mem ((c.tc : Thread Cert.ReferenceAdamSmallIdeal.nD Cert.ReferenceAdamSmallIdeal.τ).loc Cert.ReferenceAdamSmallIdeal.main_v183) = v22 c
          ∧ r.2.mem ((c.tc : Thread Cert.ReferenceAdamSmallIdeal.nD Cert.ReferenceAdamSmallIdeal.τ).loc Cert.ReferenceAdamSmallIdeal.main_v207) = v23 c
          ∧ r.2.mem ((c.tc : Thread Cert.ReferenceAdamSmallIdeal.nD Cert.ReferenceAdamSmallIdeal.τ).loc Cert.ReferenceAdamSmallIdeal.main_v231) = v24 c
          ∧ r.2.mem ((c.tc : Thread Cert.ReferenceAdamSmallIdeal.nD Cert.ReferenceAdamSmallIdeal.τ).loc Cert.ReferenceAdamSmallIdeal.main_v255) = v25 c
          ∧ r.2.mem ((c.tc : Thread Cert.ReferenceAdamSmallIdeal.nD Cert.ReferenceAdamSmallIdeal.τ).loc Cert.ReferenceAdamSmallIdeal.main_v279) = v26 c
          ∧ r.2.mem ((c.tc : Thread Cert.ReferenceAdamSmallIdeal.nD Cert.ReferenceAdamSmallIdeal.τ).loc Cert.ReferenceAdamSmallIdeal.main_v303) = v27 c
          ∧ r.2.mem ((c.tc : Thread Cert.ReferenceAdamSmallIdeal.nD Cert.ReferenceAdamSmallIdeal.τ).loc Cert.ReferenceAdamSmallIdeal.main_v327) = v28 c
          ∧ r.2.mem ((c.tc : Thread Cert.ReferenceAdamSmallIdeal.nD Cert.ReferenceAdamSmallIdeal.τ).loc Cert.ReferenceAdamSmallIdeal.main_v351) = v29 c
          ∧ r.2.mem ((c.tc : Thread Cert.ReferenceAdamSmallIdeal.nD Cert.ReferenceAdamSmallIdeal.τ).loc Cert.ReferenceAdamSmallIdeal.main_v375) = v30 c
          ∧ r.2.mem ((c.tc : Thread Cert.ReferenceAdamSmallIdeal.nD Cert.ReferenceAdamSmallIdeal.τ).loc Cert.ReferenceAdamSmallIdeal.main_v399) = v31 c
          ∧ r.2.mem ((c.tc : Thread Cert.ReferenceAdamSmallIdeal.nD Cert.ReferenceAdamSmallIdeal.τ).loc Cert.ReferenceAdamSmallIdeal.main_v20) = v32 c
          ∧ r.2.mem ((c.tc : Thread Cert.ReferenceAdamSmallIdeal.nD Cert.ReferenceAdamSmallIdeal.τ).loc Cert.ReferenceAdamSmallIdeal.main_v44) = v33 c
          ∧ r.2.mem ((c.tc : Thread Cert.ReferenceAdamSmallIdeal.nD Cert.ReferenceAdamSmallIdeal.τ).loc Cert.ReferenceAdamSmallIdeal.main_v68) = v34 c
          ∧ r.2.mem ((c.tc : Thread Cert.ReferenceAdamSmallIdeal.nD Cert.ReferenceAdamSmallIdeal.τ).loc Cert.ReferenceAdamSmallIdeal.main_v92) = v35 c
          ∧ r.2.mem ((c.tc : Thread Cert.ReferenceAdamSmallIdeal.nD Cert.ReferenceAdamSmallIdeal.τ).loc Cert.ReferenceAdamSmallIdeal.main_v116) = v36 c
          ∧ r.2.mem ((c.tc : Thread Cert.ReferenceAdamSmallIdeal.nD Cert.ReferenceAdamSmallIdeal.τ).loc Cert.ReferenceAdamSmallIdeal.main_v140) = v37 c
          ∧ r.2.mem ((c.tc : Thread Cert.ReferenceAdamSmallIdeal.nD Cert.ReferenceAdamSmallIdeal.τ).loc Cert.ReferenceAdamSmallIdeal.main_v164) = v38 c
          ∧ r.2.mem ((c.tc : Thread Cert.ReferenceAdamSmallIdeal.nD Cert.ReferenceAdamSmallIdeal.τ).loc Cert.ReferenceAdamSmallIdeal.main_v188) = v39 c
          ∧ r.2.mem ((c.tc : Thread Cert.ReferenceAdamSmallIdeal.nD Cert.ReferenceAdamSmallIdeal.τ).loc Cert.ReferenceAdamSmallIdeal.main_v212) = v40 c
          ∧ r.2.mem ((c.tc : Thread Cert.ReferenceAdamSmallIdeal.nD Cert.ReferenceAdamSmallIdeal.τ).loc Cert.ReferenceAdamSmallIdeal.main_v236) = v41 c
          ∧ r.2.mem ((c.tc : Thread Cert.ReferenceAdamSmallIdeal.nD Cert.ReferenceAdamSmallIdeal.τ).loc Cert.ReferenceAdamSmallIdeal.main_v260) = v42 c
          ∧ r.2.mem ((c.tc : Thread Cert.ReferenceAdamSmallIdeal.nD Cert.ReferenceAdamSmallIdeal.τ).loc Cert.ReferenceAdamSmallIdeal.main_v284) = v43 c
          ∧ r.2.mem ((c.tc : Thread Cert.ReferenceAdamSmallIdeal.nD Cert.ReferenceAdamSmallIdeal.τ).loc Cert.ReferenceAdamSmallIdeal.main_v308) = v44 c
          ∧ r.2.mem ((c.tc : Thread Cert.ReferenceAdamSmallIdeal.nD Cert.ReferenceAdamSmallIdeal.τ).loc Cert.ReferenceAdamSmallIdeal.main_v332) = v45 c
          ∧ r.2.mem ((c.tc : Thread Cert.ReferenceAdamSmallIdeal.nD Cert.ReferenceAdamSmallIdeal.τ).loc Cert.ReferenceAdamSmallIdeal.main_v356) = v46 c
          ∧ r.2.mem ((c.tc : Thread Cert.ReferenceAdamSmallIdeal.nD Cert.ReferenceAdamSmallIdeal.τ).loc Cert.ReferenceAdamSmallIdeal.main_v380) = v47 c
          ∧ r.2.mem ((c.tc : Thread Cert.ReferenceAdamSmallIdeal.nD Cert.ReferenceAdamSmallIdeal.τ).loc Cert.ReferenceAdamSmallIdeal.main_v26) = v48 c
          ∧ r.2.mem ((c.tc : Thread Cert.ReferenceAdamSmallIdeal.nD Cert.ReferenceAdamSmallIdeal.τ).loc Cert.ReferenceAdamSmallIdeal.main_v50) = v49 c
          ∧ r.2.mem ((c.tc : Thread Cert.ReferenceAdamSmallIdeal.nD Cert.ReferenceAdamSmallIdeal.τ).loc Cert.ReferenceAdamSmallIdeal.main_v74) = v50 c
          ∧ r.2.mem ((c.tc : Thread Cert.ReferenceAdamSmallIdeal.nD Cert.ReferenceAdamSmallIdeal.τ).loc Cert.ReferenceAdamSmallIdeal.main_v98) = v51 c
          ∧ r.2.mem ((c.tc : Thread Cert.ReferenceAdamSmallIdeal.nD Cert.ReferenceAdamSmallIdeal.τ).loc Cert.ReferenceAdamSmallIdeal.main_v122) = v52 c
          ∧ r.2.mem ((c.tc : Thread Cert.ReferenceAdamSmallIdeal.nD Cert.ReferenceAdamSmallIdeal.τ).loc Cert.ReferenceAdamSmallIdeal.main_v146) = v53 c
          ∧ r.2.mem ((c.tc : Thread Cert.ReferenceAdamSmallIdeal.nD Cert.ReferenceAdamSmallIdeal.τ).loc Cert.ReferenceAdamSmallIdeal.main_v170) = v54 c
          ∧ r.2.mem ((c.tc : Thread Cert.ReferenceAdamSmallIdeal.nD Cert.ReferenceAdamSmallIdeal.τ).loc Cert.ReferenceAdamSmallIdeal.main_v194) = v55 c
          ∧ r.2.mem ((c.tc : Thread Cert.ReferenceAdamSmallIdeal.nD Cert.ReferenceAdamSmallIdeal.τ).loc Cert.ReferenceAdamSmallIdeal.main_v218) = v56 c
          ∧ r.2.mem ((c.tc : Thread Cert.ReferenceAdamSmallIdeal.nD Cert.ReferenceAdamSmallIdeal.τ).loc Cert.ReferenceAdamSmallIdeal.main_v242) = v57 c
          ∧ r.2.mem ((c.tc : Thread Cert.ReferenceAdamSmallIdeal.nD Cert.ReferenceAdamSmallIdeal.τ).loc Cert.ReferenceAdamSmallIdeal.main_v266) = v58 c
          ∧ r.2.mem ((c.tc : Thread Cert.ReferenceAdamSmallIdeal.nD Cert.ReferenceAdamSmallIdeal.τ).loc Cert.ReferenceAdamSmallIdeal.main_v290) = v59 c
          ∧ r.2.mem ((c.tc : Thread Cert.ReferenceAdamSmallIdeal.nD Cert.ReferenceAdamSmallIdeal.τ).loc Cert.ReferenceAdamSmallIdeal.main_v314) = v60 c
          ∧ r.2.mem ((c.tc : Thread Cert.ReferenceAdamSmallIdeal.nD Cert.ReferenceAdamSmallIdeal.τ).loc Cert.ReferenceAdamSmallIdeal.main_v338) = v61 c
          ∧ r.2.mem ((c.tc : Thread Cert.ReferenceAdamSmallIdeal.nD Cert.ReferenceAdamSmallIdeal.τ).loc Cert.ReferenceAdamSmallIdeal.main_v362) = v62 c
          ∧ r.2.mem ((c.tc : Thread Cert.ReferenceAdamSmallIdeal.nD Cert.ReferenceAdamSmallIdeal.τ).loc Cert.ReferenceAdamSmallIdeal.main_v386) = v63 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3)
          ∧ r.2.mem ((c.tc : Thread Cert.ReferenceAdamSmallIdeal.nD Cert.ReferenceAdamSmallIdeal.τ).loc Cert.ReferenceAdamSmallIdeal.main_arg4) = m' ((c.tc : Thread Cert.ReferenceAdamSmallIdeal.nD Cert.ReferenceAdamSmallIdeal.τ).loc Cert.ReferenceAdamSmallIdeal.main_arg4)
          ∧ r.2.mem ((c.tc : Thread Cert.ReferenceAdamSmallIdeal.nD Cert.ReferenceAdamSmallIdeal.τ).loc Cert.ReferenceAdamSmallIdeal.main_arg5) = m' ((c.tc : Thread Cert.ReferenceAdamSmallIdeal.nD Cert.ReferenceAdamSmallIdeal.τ).loc Cert.ReferenceAdamSmallIdeal.main_arg5)
          ∧ r.2.mem ((c.tc : Thread Cert.ReferenceAdamSmallIdeal.nD Cert.ReferenceAdamSmallIdeal.τ).loc Cert.ReferenceAdamSmallIdeal.main_arg6) = m' ((c.tc : Thread Cert.ReferenceAdamSmallIdeal.nD Cert.ReferenceAdamSmallIdeal.τ).loc Cert.ReferenceAdamSmallIdeal.main_arg6)
          ∧ r.2.mem ((c.tc : Thread Cert.ReferenceAdamSmallIdeal.nD Cert.ReferenceAdamSmallIdeal.τ).loc Cert.ReferenceAdamSmallIdeal.main_arg7) = m' ((c.tc : Thread Cert.ReferenceAdamSmallIdeal.nD Cert.ReferenceAdamSmallIdeal.τ).loc Cert.ReferenceAdamSmallIdeal.main_arg7)
          ∧ r.2.mem ((c.tc : Thread Cert.ReferenceAdamSmallIdeal.nD Cert.ReferenceAdamSmallIdeal.τ).loc Cert.ReferenceAdamSmallIdeal.main_arg8) = m' ((c.tc : Thread Cert.ReferenceAdamSmallIdeal.nD Cert.ReferenceAdamSmallIdeal.τ).loc Cert.ReferenceAdamSmallIdeal.main_arg8)
          ∧ r.2.mem ((c.tc : Thread Cert.ReferenceAdamSmallIdeal.nD Cert.ReferenceAdamSmallIdeal.τ).loc Cert.ReferenceAdamSmallIdeal.main_arg9) = m' ((c.tc : Thread Cert.ReferenceAdamSmallIdeal.nD Cert.ReferenceAdamSmallIdeal.τ).loc Cert.ReferenceAdamSmallIdeal.main_arg9)
          ∧ r.2.mem ((c.tc : Thread Cert.ReferenceAdamSmallIdeal.nD Cert.ReferenceAdamSmallIdeal.τ).loc Cert.ReferenceAdamSmallIdeal.main_arg10) = m' ((c.tc : Thread Cert.ReferenceAdamSmallIdeal.nD Cert.ReferenceAdamSmallIdeal.τ).loc Cert.ReferenceAdamSmallIdeal.main_arg10)
          ∧ r.2.mem ((c.tc : Thread Cert.ReferenceAdamSmallIdeal.nD Cert.ReferenceAdamSmallIdeal.τ).loc Cert.ReferenceAdamSmallIdeal.main_arg11) = m' ((c.tc : Thread Cert.ReferenceAdamSmallIdeal.nD Cert.ReferenceAdamSmallIdeal.τ).loc Cert.ReferenceAdamSmallIdeal.main_arg11)
          ∧ r.2.mem ((c.tc : Thread Cert.ReferenceAdamSmallIdeal.nD Cert.ReferenceAdamSmallIdeal.τ).loc Cert.ReferenceAdamSmallIdeal.main_arg12) = m' ((c.tc : Thread Cert.ReferenceAdamSmallIdeal.nD Cert.ReferenceAdamSmallIdeal.τ).loc Cert.ReferenceAdamSmallIdeal.main_arg12)
          ∧ r.2.mem ((c.tc : Thread Cert.ReferenceAdamSmallIdeal.nD Cert.ReferenceAdamSmallIdeal.τ).loc Cert.ReferenceAdamSmallIdeal.main_arg13) = m' ((c.tc : Thread Cert.ReferenceAdamSmallIdeal.nD Cert.ReferenceAdamSmallIdeal.τ).loc Cert.ReferenceAdamSmallIdeal.main_arg13)
          ∧ r.2.mem ((c.tc : Thread Cert.ReferenceAdamSmallIdeal.nD Cert.ReferenceAdamSmallIdeal.τ).loc Cert.ReferenceAdamSmallIdeal.main_arg14) = m' ((c.tc : Thread Cert.ReferenceAdamSmallIdeal.nD Cert.ReferenceAdamSmallIdeal.τ).loc Cert.ReferenceAdamSmallIdeal.main_arg14)
          ∧ r.2.mem ((c.tc : Thread Cert.ReferenceAdamSmallIdeal.nD Cert.ReferenceAdamSmallIdeal.τ).loc Cert.ReferenceAdamSmallIdeal.main_arg15) = m' ((c.tc : Thread Cert.ReferenceAdamSmallIdeal.nD Cert.ReferenceAdamSmallIdeal.τ).loc Cert.ReferenceAdamSmallIdeal.main_arg15)
          ∧ r.2.mem ((c.tc : Thread Cert.ReferenceAdamSmallIdeal.nD Cert.ReferenceAdamSmallIdeal.τ).loc Cert.ReferenceAdamSmallIdeal.main_arg16) = m' ((c.tc : Thread Cert.ReferenceAdamSmallIdeal.nD Cert.ReferenceAdamSmallIdeal.τ).loc Cert.ReferenceAdamSmallIdeal.main_arg16)
          ∧ r.2.mem ((c.tc : Thread Cert.ReferenceAdamSmallIdeal.nD Cert.ReferenceAdamSmallIdeal.τ).loc Cert.ReferenceAdamSmallIdeal.main_arg17) = m' ((c.tc : Thread Cert.ReferenceAdamSmallIdeal.nD Cert.ReferenceAdamSmallIdeal.τ).loc Cert.ReferenceAdamSmallIdeal.main_arg17)
          ∧ r.2.mem ((c.tc : Thread Cert.ReferenceAdamSmallIdeal.nD Cert.ReferenceAdamSmallIdeal.τ).loc Cert.ReferenceAdamSmallIdeal.main_arg18) = m' ((c.tc : Thread Cert.ReferenceAdamSmallIdeal.nD Cert.ReferenceAdamSmallIdeal.τ).loc Cert.ReferenceAdamSmallIdeal.main_arg18)
          ∧ r.2.mem ((c.tc : Thread Cert.ReferenceAdamSmallIdeal.nD Cert.ReferenceAdamSmallIdeal.τ).loc Cert.ReferenceAdamSmallIdeal.main_arg19) = m' ((c.tc : Thread Cert.ReferenceAdamSmallIdeal.nD Cert.ReferenceAdamSmallIdeal.τ).loc Cert.ReferenceAdamSmallIdeal.main_arg19)
          ∧ r.2.mem ((c.tc : Thread Cert.ReferenceAdamSmallIdeal.nD Cert.ReferenceAdamSmallIdeal.τ).loc Cert.ReferenceAdamSmallIdeal.main_arg20) = m' ((c.tc : Thread Cert.ReferenceAdamSmallIdeal.nD Cert.ReferenceAdamSmallIdeal.τ).loc Cert.ReferenceAdamSmallIdeal.main_arg20)
          ∧ r.2.mem ((c.tc : Thread Cert.ReferenceAdamSmallIdeal.nD Cert.ReferenceAdamSmallIdeal.τ).loc Cert.ReferenceAdamSmallIdeal.main_arg21) = m' ((c.tc : Thread Cert.ReferenceAdamSmallIdeal.nD Cert.ReferenceAdamSmallIdeal.τ).loc Cert.ReferenceAdamSmallIdeal.main_arg21)
          ∧ r.2.mem ((c.tc : Thread Cert.ReferenceAdamSmallIdeal.nD Cert.ReferenceAdamSmallIdeal.τ).loc Cert.ReferenceAdamSmallIdeal.main_arg22) = m' ((c.tc : Thread Cert.ReferenceAdamSmallIdeal.nD Cert.ReferenceAdamSmallIdeal.τ).loc Cert.ReferenceAdamSmallIdeal.main_arg22)
          ∧ r.2.mem ((c.tc : Thread Cert.ReferenceAdamSmallIdeal.nD Cert.ReferenceAdamSmallIdeal.τ).loc Cert.ReferenceAdamSmallIdeal.main_arg23) = m' ((c.tc : Thread Cert.ReferenceAdamSmallIdeal.nD Cert.ReferenceAdamSmallIdeal.τ).loc Cert.ReferenceAdamSmallIdeal.main_arg23)
          ∧ r.2.mem ((c.tc : Thread Cert.ReferenceAdamSmallIdeal.nD Cert.ReferenceAdamSmallIdeal.τ).loc Cert.ReferenceAdamSmallIdeal.main_arg24) = m' ((c.tc : Thread Cert.ReferenceAdamSmallIdeal.nD Cert.ReferenceAdamSmallIdeal.τ).loc Cert.ReferenceAdamSmallIdeal.main_arg24)
          ∧ r.2.mem ((c.tc : Thread Cert.ReferenceAdamSmallIdeal.nD Cert.ReferenceAdamSmallIdeal.τ).loc Cert.ReferenceAdamSmallIdeal.main_arg25) = m' ((c.tc : Thread Cert.ReferenceAdamSmallIdeal.nD Cert.ReferenceAdamSmallIdeal.τ).loc Cert.ReferenceAdamSmallIdeal.main_arg25)
          ∧ r.2.mem ((c.tc : Thread Cert.ReferenceAdamSmallIdeal.nD Cert.ReferenceAdamSmallIdeal.τ).loc Cert.ReferenceAdamSmallIdeal.main_arg26) = m' ((c.tc : Thread Cert.ReferenceAdamSmallIdeal.nD Cert.ReferenceAdamSmallIdeal.τ).loc Cert.ReferenceAdamSmallIdeal.main_arg26)
          ∧ r.2.mem ((c.tc : Thread Cert.ReferenceAdamSmallIdeal.nD Cert.ReferenceAdamSmallIdeal.τ).loc Cert.ReferenceAdamSmallIdeal.main_arg27) = m' ((c.tc : Thread Cert.ReferenceAdamSmallIdeal.nD Cert.ReferenceAdamSmallIdeal.τ).loc Cert.ReferenceAdamSmallIdeal.main_arg27)
          ∧ r.2.mem ((c.tc : Thread Cert.ReferenceAdamSmallIdeal.nD Cert.ReferenceAdamSmallIdeal.τ).loc Cert.ReferenceAdamSmallIdeal.main_arg28) = m' ((c.tc : Thread Cert.ReferenceAdamSmallIdeal.nD Cert.ReferenceAdamSmallIdeal.τ).loc Cert.ReferenceAdamSmallIdeal.main_arg28)
          ∧ r.2.mem ((c.tc : Thread Cert.ReferenceAdamSmallIdeal.nD Cert.ReferenceAdamSmallIdeal.τ).loc Cert.ReferenceAdamSmallIdeal.main_arg29) = m' ((c.tc : Thread Cert.ReferenceAdamSmallIdeal.nD Cert.ReferenceAdamSmallIdeal.τ).loc Cert.ReferenceAdamSmallIdeal.main_arg29)
          ∧ r.2.mem ((c.tc : Thread Cert.ReferenceAdamSmallIdeal.nD Cert.ReferenceAdamSmallIdeal.τ).loc Cert.ReferenceAdamSmallIdeal.main_arg30) = m' ((c.tc : Thread Cert.ReferenceAdamSmallIdeal.nD Cert.ReferenceAdamSmallIdeal.τ).loc Cert.ReferenceAdamSmallIdeal.main_arg30)
          ∧ r.2.mem ((c.tc : Thread Cert.ReferenceAdamSmallIdeal.nD Cert.ReferenceAdamSmallIdeal.τ).loc Cert.ReferenceAdamSmallIdeal.main_arg31) = m' ((c.tc : Thread Cert.ReferenceAdamSmallIdeal.nD Cert.ReferenceAdamSmallIdeal.τ).loc Cert.ReferenceAdamSmallIdeal.main_arg31)
          ∧ r.2.mem ((c.tc : Thread Cert.ReferenceAdamSmallIdeal.nD Cert.ReferenceAdamSmallIdeal.τ).loc Cert.ReferenceAdamSmallIdeal.main_arg32) = m' ((c.tc : Thread Cert.ReferenceAdamSmallIdeal.nD Cert.ReferenceAdamSmallIdeal.τ).loc Cert.ReferenceAdamSmallIdeal.main_arg32)
          ∧ r.2.mem ((c.tc : Thread Cert.ReferenceAdamSmallIdeal.nD Cert.ReferenceAdamSmallIdeal.τ).loc Cert.ReferenceAdamSmallIdeal.main_arg33) = m' ((c.tc : Thread Cert.ReferenceAdamSmallIdeal.nD Cert.ReferenceAdamSmallIdeal.τ).loc Cert.ReferenceAdamSmallIdeal.main_arg33)
          ∧ r.2.mem ((c.tc : Thread Cert.ReferenceAdamSmallIdeal.nD Cert.ReferenceAdamSmallIdeal.τ).loc Cert.ReferenceAdamSmallIdeal.main_arg34) = m' ((c.tc : Thread Cert.ReferenceAdamSmallIdeal.nD Cert.ReferenceAdamSmallIdeal.τ).loc Cert.ReferenceAdamSmallIdeal.main_arg34)
          ∧ r.2.mem ((c.tc : Thread Cert.ReferenceAdamSmallIdeal.nD Cert.ReferenceAdamSmallIdeal.τ).loc Cert.ReferenceAdamSmallIdeal.main_arg35) = m' ((c.tc : Thread Cert.ReferenceAdamSmallIdeal.nD Cert.ReferenceAdamSmallIdeal.τ).loc Cert.ReferenceAdamSmallIdeal.main_arg35)
          ∧ r.2.mem ((c.tc : Thread Cert.ReferenceAdamSmallIdeal.nD Cert.ReferenceAdamSmallIdeal.τ).loc Cert.ReferenceAdamSmallIdeal.main_arg36) = m' ((c.tc : Thread Cert.ReferenceAdamSmallIdeal.nD Cert.ReferenceAdamSmallIdeal.τ).loc Cert.ReferenceAdamSmallIdeal.main_arg36)
          ∧ r.2.mem ((c.tc : Thread Cert.ReferenceAdamSmallIdeal.nD Cert.ReferenceAdamSmallIdeal.τ).loc Cert.ReferenceAdamSmallIdeal.main_arg37) = m' ((c.tc : Thread Cert.ReferenceAdamSmallIdeal.nD Cert.ReferenceAdamSmallIdeal.τ).loc Cert.ReferenceAdamSmallIdeal.main_arg37)
          ∧ r.2.mem ((c.tc : Thread Cert.ReferenceAdamSmallIdeal.nD Cert.ReferenceAdamSmallIdeal.τ).loc Cert.ReferenceAdamSmallIdeal.main_arg38) = m' ((c.tc : Thread Cert.ReferenceAdamSmallIdeal.nD Cert.ReferenceAdamSmallIdeal.τ).loc Cert.ReferenceAdamSmallIdeal.main_arg38)
          ∧ r.2.mem ((c.tc : Thread Cert.ReferenceAdamSmallIdeal.nD Cert.ReferenceAdamSmallIdeal.τ).loc Cert.ReferenceAdamSmallIdeal.main_arg39) = m' ((c.tc : Thread Cert.ReferenceAdamSmallIdeal.nD Cert.ReferenceAdamSmallIdeal.τ).loc Cert.ReferenceAdamSmallIdeal.main_arg39)
          ∧ r.2.mem ((c.tc : Thread Cert.ReferenceAdamSmallIdeal.nD Cert.ReferenceAdamSmallIdeal.τ).loc Cert.ReferenceAdamSmallIdeal.main_arg40) = m' ((c.tc : Thread Cert.ReferenceAdamSmallIdeal.nD Cert.ReferenceAdamSmallIdeal.τ).loc Cert.ReferenceAdamSmallIdeal.main_arg40)
          ∧ r.2.mem ((c.tc : Thread Cert.ReferenceAdamSmallIdeal.nD Cert.ReferenceAdamSmallIdeal.τ).loc Cert.ReferenceAdamSmallIdeal.main_arg41) = m' ((c.tc : Thread Cert.ReferenceAdamSmallIdeal.nD Cert.ReferenceAdamSmallIdeal.τ).loc Cert.ReferenceAdamSmallIdeal.main_arg41)
          ∧ r.2.mem ((c.tc : Thread Cert.ReferenceAdamSmallIdeal.nD Cert.ReferenceAdamSmallIdeal.τ).loc Cert.ReferenceAdamSmallIdeal.main_arg42) = m' ((c.tc : Thread Cert.ReferenceAdamSmallIdeal.nD Cert.ReferenceAdamSmallIdeal.τ).loc Cert.ReferenceAdamSmallIdeal.main_arg42)
          ∧ r.2.mem ((c.tc : Thread Cert.ReferenceAdamSmallIdeal.nD Cert.ReferenceAdamSmallIdeal.τ).loc Cert.ReferenceAdamSmallIdeal.main_arg43) = m' ((c.tc : Thread Cert.ReferenceAdamSmallIdeal.nD Cert.ReferenceAdamSmallIdeal.τ).loc Cert.ReferenceAdamSmallIdeal.main_arg43)
          ∧ r.2.mem ((c.tc : Thread Cert.ReferenceAdamSmallIdeal.nD Cert.ReferenceAdamSmallIdeal.τ).loc Cert.ReferenceAdamSmallIdeal.main_arg44) = m' ((c.tc : Thread Cert.ReferenceAdamSmallIdeal.nD Cert.ReferenceAdamSmallIdeal.τ).loc Cert.ReferenceAdamSmallIdeal.main_arg44)
          ∧ r.2.mem ((c.tc : Thread Cert.ReferenceAdamSmallIdeal.nD Cert.ReferenceAdamSmallIdeal.τ).loc Cert.ReferenceAdamSmallIdeal.main_arg45) = m' ((c.tc : Thread Cert.ReferenceAdamSmallIdeal.nD Cert.ReferenceAdamSmallIdeal.τ).loc Cert.ReferenceAdamSmallIdeal.main_arg45)
          ∧ r.2.mem ((c.tc : Thread Cert.ReferenceAdamSmallIdeal.nD Cert.ReferenceAdamSmallIdeal.τ).loc Cert.ReferenceAdamSmallIdeal.main_arg46) = m' ((c.tc : Thread Cert.ReferenceAdamSmallIdeal.nD Cert.ReferenceAdamSmallIdeal.τ).loc Cert.ReferenceAdamSmallIdeal.main_arg46)
          ∧ r.2.mem ((c.tc : Thread Cert.ReferenceAdamSmallIdeal.nD Cert.ReferenceAdamSmallIdeal.τ).loc Cert.ReferenceAdamSmallIdeal.main_arg47) = m' ((c.tc : Thread Cert.ReferenceAdamSmallIdeal.nD Cert.ReferenceAdamSmallIdeal.τ).loc Cert.ReferenceAdamSmallIdeal.main_arg47)
          ∧ r.2.mem ((c.tc : Thread Cert.ReferenceAdamSmallIdeal.nD Cert.ReferenceAdamSmallIdeal.τ).loc Cert.ReferenceAdamSmallIdeal.main_arg48) = m' ((c.tc : Thread Cert.ReferenceAdamSmallIdeal.nD Cert.ReferenceAdamSmallIdeal.τ).loc Cert.ReferenceAdamSmallIdeal.main_arg48)
          ∧ r.2.mem ((c.tc : Thread Cert.ReferenceAdamSmallIdeal.nD Cert.ReferenceAdamSmallIdeal.τ).loc Cert.ReferenceAdamSmallIdeal.main_arg49) = m' ((c.tc : Thread Cert.ReferenceAdamSmallIdeal.nD Cert.ReferenceAdamSmallIdeal.τ).loc Cert.ReferenceAdamSmallIdeal.main_arg49)
          ∧ r.2.mem ((c.tc : Thread Cert.ReferenceAdamSmallIdeal.nD Cert.ReferenceAdamSmallIdeal.τ).loc Cert.ReferenceAdamSmallIdeal.main_arg50) = m' ((c.tc : Thread Cert.ReferenceAdamSmallIdeal.nD Cert.ReferenceAdamSmallIdeal.τ).loc Cert.ReferenceAdamSmallIdeal.main_arg50)
          ∧ r.2.mem ((c.tc : Thread Cert.ReferenceAdamSmallIdeal.nD Cert.ReferenceAdamSmallIdeal.τ).loc Cert.ReferenceAdamSmallIdeal.main_arg51) = m' ((c.tc : Thread Cert.ReferenceAdamSmallIdeal.nD Cert.ReferenceAdamSmallIdeal.τ).loc Cert.ReferenceAdamSmallIdeal.main_arg51)
          ∧ r.2.mem ((c.tc : Thread Cert.ReferenceAdamSmallIdeal.nD Cert.ReferenceAdamSmallIdeal.τ).loc Cert.ReferenceAdamSmallIdeal.main_arg52) = m' ((c.tc : Thread Cert.ReferenceAdamSmallIdeal.nD Cert.ReferenceAdamSmallIdeal.τ).loc Cert.ReferenceAdamSmallIdeal.main_arg52)
          ∧ r.2.mem ((c.tc : Thread Cert.ReferenceAdamSmallIdeal.nD Cert.ReferenceAdamSmallIdeal.τ).loc Cert.ReferenceAdamSmallIdeal.main_arg53) = m' ((c.tc : Thread Cert.ReferenceAdamSmallIdeal.nD Cert.ReferenceAdamSmallIdeal.τ).loc Cert.ReferenceAdamSmallIdeal.main_arg53)
          ∧ r.2.mem ((c.tc : Thread Cert.ReferenceAdamSmallIdeal.nD Cert.ReferenceAdamSmallIdeal.τ).loc Cert.ReferenceAdamSmallIdeal.main_arg54) = m' ((c.tc : Thread Cert.ReferenceAdamSmallIdeal.nD Cert.ReferenceAdamSmallIdeal.τ).loc Cert.ReferenceAdamSmallIdeal.main_arg54)
          ∧ r.2.mem ((c.tc : Thread Cert.ReferenceAdamSmallIdeal.nD Cert.ReferenceAdamSmallIdeal.τ).loc Cert.ReferenceAdamSmallIdeal.main_arg55) = m' ((c.tc : Thread Cert.ReferenceAdamSmallIdeal.nD Cert.ReferenceAdamSmallIdeal.τ).loc Cert.ReferenceAdamSmallIdeal.main_arg55)
          ∧ r.2.mem ((c.tc : Thread Cert.ReferenceAdamSmallIdeal.nD Cert.ReferenceAdamSmallIdeal.τ).loc Cert.ReferenceAdamSmallIdeal.main_arg56) = m' ((c.tc : Thread Cert.ReferenceAdamSmallIdeal.nD Cert.ReferenceAdamSmallIdeal.τ).loc Cert.ReferenceAdamSmallIdeal.main_arg56)
          ∧ r.2.mem ((c.tc : Thread Cert.ReferenceAdamSmallIdeal.nD Cert.ReferenceAdamSmallIdeal.τ).loc Cert.ReferenceAdamSmallIdeal.main_arg57) = m' ((c.tc : Thread Cert.ReferenceAdamSmallIdeal.nD Cert.ReferenceAdamSmallIdeal.τ).loc Cert.ReferenceAdamSmallIdeal.main_arg57)
          ∧ r.2.mem ((c.tc : Thread Cert.ReferenceAdamSmallIdeal.nD Cert.ReferenceAdamSmallIdeal.τ).loc Cert.ReferenceAdamSmallIdeal.main_arg58) = m' ((c.tc : Thread Cert.ReferenceAdamSmallIdeal.nD Cert.ReferenceAdamSmallIdeal.τ).loc Cert.ReferenceAdamSmallIdeal.main_arg58)
          ∧ r.2.mem ((c.tc : Thread Cert.ReferenceAdamSmallIdeal.nD Cert.ReferenceAdamSmallIdeal.τ).loc Cert.ReferenceAdamSmallIdeal.main_arg59) = m' ((c.tc : Thread Cert.ReferenceAdamSmallIdeal.nD Cert.ReferenceAdamSmallIdeal.τ).loc Cert.ReferenceAdamSmallIdeal.main_arg59)
          ∧ r.2.mem ((c.tc : Thread Cert.ReferenceAdamSmallIdeal.nD Cert.ReferenceAdamSmallIdeal.τ).loc Cert.ReferenceAdamSmallIdeal.main_arg60) = m' ((c.tc : Thread Cert.ReferenceAdamSmallIdeal.nD Cert.ReferenceAdamSmallIdeal.τ).loc Cert.ReferenceAdamSmallIdeal.main_arg60)
          ∧ r.2.mem ((c.tc : Thread Cert.ReferenceAdamSmallIdeal.nD Cert.ReferenceAdamSmallIdeal.τ).loc Cert.ReferenceAdamSmallIdeal.main_arg61) = m' ((c.tc : Thread Cert.ReferenceAdamSmallIdeal.nD Cert.ReferenceAdamSmallIdeal.τ).loc Cert.ReferenceAdamSmallIdeal.main_arg61)
          ∧ r.2.mem ((c.tc : Thread Cert.ReferenceAdamSmallIdeal.nD Cert.ReferenceAdamSmallIdeal.τ).loc Cert.ReferenceAdamSmallIdeal.main_arg62) = m' ((c.tc : Thread Cert.ReferenceAdamSmallIdeal.nD Cert.ReferenceAdamSmallIdeal.τ).loc Cert.ReferenceAdamSmallIdeal.main_arg62)
          ∧ r.2.mem ((c.tc : Thread Cert.ReferenceAdamSmallIdeal.nD Cert.ReferenceAdamSmallIdeal.τ).loc Cert.ReferenceAdamSmallIdeal.main_arg63) = m' ((c.tc : Thread Cert.ReferenceAdamSmallIdeal.nD Cert.ReferenceAdamSmallIdeal.τ).loc Cert.ReferenceAdamSmallIdeal.main_arg63)
          ∧ r.2.mem ((c.tc : Thread Cert.ReferenceAdamSmallIdeal.nD Cert.ReferenceAdamSmallIdeal.τ).loc Cert.ReferenceAdamSmallIdeal.main_arg64) = m' ((c.tc : Thread Cert.ReferenceAdamSmallIdeal.nD Cert.ReferenceAdamSmallIdeal.τ).loc Cert.ReferenceAdamSmallIdeal.main_arg64)
          ∧ r.2.mem ((c.tc : Thread Cert.ReferenceAdamSmallIdeal.nD Cert.ReferenceAdamSmallIdeal.τ).loc Cert.ReferenceAdamSmallIdeal.main_arg65) = m' ((c.tc : Thread Cert.ReferenceAdamSmallIdeal.nD Cert.ReferenceAdamSmallIdeal.τ).loc Cert.ReferenceAdamSmallIdeal.main_arg65))

def preserves_KernelSum_KernelSumIdeal : Prop :=
  True

def algebraic_KernelSumIdeal_ReferenceSumIdeal [hKernelSumIdeal : Cert.KernelSumIdeal.Facts] [hReferenceSumIdeal : Cert.ReferenceSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg)
    (m' : (ℓ : Loc Cert.ReferenceSumIdeal.nD Cert.ReferenceSumIdeal.τ Cert.ReferenceSumIdeal.sig) → Buf (Elt Ideal) ℓ) (g' : Dev Cert.ReferenceSumIdeal.nD → PrngReg), Pre_KernelSumIdeal m →
    (∀ c : Dev Cert.KernelSumIdeal.nD,
      m' ((c.tc : Thread Cert.ReferenceSumIdeal.nD Cert.ReferenceSumIdeal.τ).loc Cert.ReferenceSumIdeal.main_arg0) = m ((c.tc : Thread Cert.KernelSumIdeal.nD Cert.KernelSumIdeal.τ).loc Cert.KernelSumIdeal.main_arg0)
      ∧ m' ((c.tc : Thread Cert.ReferenceSumIdeal.nD Cert.ReferenceSumIdeal.τ).loc Cert.ReferenceSumIdeal.main_arg1) = m ((c.tc : Thread Cert.KernelSumIdeal.nD Cert.KernelSumIdeal.τ).loc Cert.KernelSumIdeal.main_arg1)
      ∧ m' ((c.tc : Thread Cert.ReferenceSumIdeal.nD Cert.ReferenceSumIdeal.τ).loc Cert.ReferenceSumIdeal.main_arg2) = m ((c.tc : Thread Cert.KernelSumIdeal.nD Cert.KernelSumIdeal.τ).loc Cert.KernelSumIdeal.main_arg2)) →
    ∃ (v0 : (c : Dev Cert.KernelSumIdeal.nD) → Buf (Elt Ideal) ((c.tc : Thread Cert.KernelSumIdeal.nD Cert.KernelSumIdeal.τ).loc Cert.KernelSumIdeal.main_v5)) (v1 : (c : Dev Cert.KernelSumIdeal.nD) → Buf (Elt Ideal) ((c.tc : Thread Cert.KernelSumIdeal.nD Cert.KernelSumIdeal.τ).loc Cert.KernelSumIdeal.main_v7)),
      θ_run (Cert.KernelSumIdeal.defs (F := Ideal)) (onTc (τ := Cert.KernelSumIdeal.τ) (Cert.KernelSumIdeal.main (F := Ideal))) ⟨m, fun _ => 0, g⟩ (fun r => ∀ c : Dev Cert.KernelSumIdeal.nD,
          r.2.mem ((c.tc : Thread Cert.KernelSumIdeal.nD Cert.KernelSumIdeal.τ).loc Cert.KernelSumIdeal.main_v5) = v0 c
          ∧ r.2.mem ((c.tc : Thread Cert.KernelSumIdeal.nD Cert.KernelSumIdeal.τ).loc Cert.KernelSumIdeal.main_v7) = v1 c
          ∧ r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0)
          ∧ r.2.mem ((c.tc : Thread Cert.KernelSumIdeal.nD Cert.KernelSumIdeal.τ).loc Cert.KernelSumIdeal.main_arg1) = m ((c.tc : Thread Cert.KernelSumIdeal.nD Cert.KernelSumIdeal.τ).loc Cert.KernelSumIdeal.main_arg1)
          ∧ r.2.mem ((c.tc : Thread Cert.KernelSumIdeal.nD Cert.KernelSumIdeal.τ).loc Cert.KernelSumIdeal.main_arg2) = m ((c.tc : Thread Cert.KernelSumIdeal.nD Cert.KernelSumIdeal.τ).loc Cert.KernelSumIdeal.main_arg2))
      ∧ θ_run (Cert.ReferenceSumIdeal.defs (F := Ideal)) (onTc (τ := Cert.ReferenceSumIdeal.τ) (Cert.ReferenceSumIdeal.main (F := Ideal))) ⟨m', fun _ => 0, g'⟩ (fun r => ∀ c : Dev Cert.ReferenceSumIdeal.nD,
          r.2.mem ((c.tc : Thread Cert.ReferenceSumIdeal.nD Cert.ReferenceSumIdeal.τ).loc Cert.ReferenceSumIdeal.main_v0) = v0 c
          ∧ r.2.mem ((c.tc : Thread Cert.ReferenceSumIdeal.nD Cert.ReferenceSumIdeal.τ).loc Cert.ReferenceSumIdeal.main_v1) = v1 c
          ∧ r.2.mem ((c.tc : Thread Cert.ReferenceSumIdeal.nD Cert.ReferenceSumIdeal.τ).loc Cert.ReferenceSumIdeal.main_arg0) = m' ((c.tc : Thread Cert.ReferenceSumIdeal.nD Cert.ReferenceSumIdeal.τ).loc Cert.ReferenceSumIdeal.main_arg0)
          ∧ r.2.mem ((c.tc : Thread Cert.ReferenceSumIdeal.nD Cert.ReferenceSumIdeal.τ).loc Cert.ReferenceSumIdeal.main_arg1) = m' ((c.tc : Thread Cert.ReferenceSumIdeal.nD Cert.ReferenceSumIdeal.τ).loc Cert.ReferenceSumIdeal.main_arg1)
          ∧ r.2.mem ((c.tc : Thread Cert.ReferenceSumIdeal.nD Cert.ReferenceSumIdeal.τ).loc Cert.ReferenceSumIdeal.main_arg2) = m' ((c.tc : Thread Cert.ReferenceSumIdeal.nD Cert.ReferenceSumIdeal.τ).loc Cert.ReferenceSumIdeal.main_arg2))

def Claim : Prop :=
  ∃ (hKernel : Cert.Kernel.Facts) (hKernelIdeal : Cert.KernelIdeal.Facts) (hReferenceIdeal : Cert.ReferenceIdeal.Facts) (hKernelUpDw : Cert.KernelUpDw.Facts) (hKernelUpDwIdeal : Cert.KernelUpDwIdeal.Facts) (hReferenceUpDwIdeal : Cert.ReferenceUpDwIdeal.Facts) (hKernelInDw : Cert.KernelInDw.Facts) (hKernelInDwIdeal : Cert.KernelInDwIdeal.Facts) (hReferenceInDwIdeal : Cert.ReferenceInDwIdeal.Facts) (hKernelDownDw : Cert.KernelDownDw.Facts) (hKernelDownDwIdeal : Cert.KernelDownDwIdeal.Facts) (hReferenceDownDwIdeal : Cert.ReferenceDownDwIdeal.Facts) (hKernelOutDw : Cert.KernelOutDw.Facts) (hKernelOutDwIdeal : Cert.KernelOutDwIdeal.Facts) (hReferenceOutDwIdeal : Cert.ReferenceOutDwIdeal.Facts) (hKernelOutDx : Cert.KernelOutDx.Facts) (hKernelOutDxIdeal : Cert.KernelOutDxIdeal.Facts) (hReferenceOutDxIdeal : Cert.ReferenceOutDxIdeal.Facts) (hKernelUpDx : Cert.KernelUpDx.Facts) (hKernelUpDxIdeal : Cert.KernelUpDxIdeal.Facts) (hReferenceUpDxIdeal : Cert.ReferenceUpDxIdeal.Facts) (hKernelUp : Cert.KernelUp.Facts) (hKernelUpIdeal : Cert.KernelUpIdeal.Facts) (hReferenceUpIdeal : Cert.ReferenceUpIdeal.Facts) (hKernelLoss : Cert.KernelLoss.Facts) (hKernelLossIdeal : Cert.KernelLossIdeal.Facts) (hReferenceLossIdeal : Cert.ReferenceLossIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelInOwn : Cert.KernelInOwn.Facts) (hKernelInOwnIdeal : Cert.KernelInOwnIdeal.Facts) (hReferenceInOwnIdeal : Cert.ReferenceInOwnIdeal.Facts) (hKernelInRest : Cert.KernelInRest.Facts) (hKernelInRestIdeal : Cert.KernelInRestIdeal.Facts) (hReferenceInRestIdeal : Cert.ReferenceInRestIdeal.Facts) (hKernelWRows : Cert.KernelWRows.Facts) (hKernelWRowsIdeal : Cert.KernelWRowsIdeal.Facts) (hReferenceWRowsIdeal : Cert.ReferenceWRowsIdeal.Facts) (hKernelInDx : Cert.KernelInDx.Facts) (hKernelInDxIdeal : Cert.KernelInDxIdeal.Facts) (hReferenceInDxIdeal : Cert.ReferenceInDxIdeal.Facts) (hKernelAdamDown : Cert.KernelAdamDown.Facts) (hKernelAdamDownIdeal : Cert.KernelAdamDownIdeal.Facts) (hReferenceAdamDownIdeal : Cert.ReferenceAdamDownIdeal.Facts) (hKernelAdamUp : Cert.KernelAdamUp.Facts) (hKernelAdamUpIdeal : Cert.KernelAdamUpIdeal.Facts) (hReferenceAdamUpIdeal : Cert.ReferenceAdamUpIdeal.Facts) (hKernelAdamOut : Cert.KernelAdamOut.Facts) (hKernelAdamOutIdeal : Cert.KernelAdamOutIdeal.Facts) (hReferenceAdamOutIdeal : Cert.ReferenceAdamOutIdeal.Facts) (hKernelAdamIn : Cert.KernelAdamIn.Facts) (hKernelAdamInIdeal : Cert.KernelAdamInIdeal.Facts) (hReferenceAdamInIdeal : Cert.ReferenceAdamInIdeal.Facts) (hKernelAdamLru : Cert.KernelAdamLru.Facts) (hKernelAdamLruIdeal : Cert.KernelAdamLruIdeal.Facts) (hReferenceAdamLruIdeal : Cert.ReferenceAdamLruIdeal.Facts) (hKernelAdamConv : Cert.KernelAdamConv.Facts) (hKernelAdamConvIdeal : Cert.KernelAdamConvIdeal.Facts) (hReferenceAdamConvIdeal : Cert.ReferenceAdamConvIdeal.Facts) (hKernelAdamSmall : Cert.KernelAdamSmall.Facts) (hKernelAdamSmallIdeal : Cert.KernelAdamSmallIdeal.Facts) (hReferenceAdamSmallIdeal : Cert.ReferenceAdamSmallIdeal.Facts) (hKernelSum : Cert.KernelSum.Facts) (hKernelSumIdeal : Cert.KernelSumIdeal.Facts) (hReferenceSumIdeal : Cert.ReferenceSumIdeal.Facts) (hPre_finite : Cert.Pre_finite.Facts) (hPre_finite_up_dx : Cert.Pre_finite_up_dx.Facts) (hPre_finite_loss : Cert.Pre_finite_loss.Facts) (hPre_finite_in_dx : Cert.Pre_finite_in_dx.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelOutDx (hKernelOutDx := hKernelOutDx)
    ∧ quiescent_KernelOutDxIdeal (hKernelOutDxIdeal := hKernelOutDxIdeal)
    ∧ quiescent_ReferenceOutDxIdeal (hReferenceOutDxIdeal := hReferenceOutDxIdeal)
    ∧ quiescent_KernelUpDx (hKernelUpDx := hKernelUpDx)
    ∧ quiescent_KernelUpDxIdeal (hKernelUpDxIdeal := hKernelUpDxIdeal)
    ∧ quiescent_KernelUpDxIdeal_pre_finite_up_dx (hKernelUpDxIdeal := hKernelUpDxIdeal) (hPre_finite_up_dx := hPre_finite_up_dx)
    ∧ quiescent_ReferenceUpDxIdeal (hReferenceUpDxIdeal := hReferenceUpDxIdeal)
    ∧ quiescent_ReferenceUpDxIdeal_pre_finite_up_dx (hReferenceUpDxIdeal := hReferenceUpDxIdeal) (hPre_finite_up_dx := hPre_finite_up_dx)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelInOwn (hKernelInOwn := hKernelInOwn)
    ∧ quiescent_KernelInOwnIdeal (hKernelInOwnIdeal := hKernelInOwnIdeal)
    ∧ quiescent_ReferenceInOwnIdeal (hReferenceInOwnIdeal := hReferenceInOwnIdeal)
    ∧ quiescent_KernelInRest (hKernelInRest := hKernelInRest)
    ∧ quiescent_KernelInRestIdeal (hKernelInRestIdeal := hKernelInRestIdeal)
    ∧ quiescent_ReferenceInRestIdeal (hReferenceInRestIdeal := hReferenceInRestIdeal)
    ∧ quiescent_KernelWRows (hKernelWRows := hKernelWRows)
    ∧ quiescent_KernelWRowsIdeal (hKernelWRowsIdeal := hKernelWRowsIdeal)
    ∧ quiescent_ReferenceWRowsIdeal (hReferenceWRowsIdeal := hReferenceWRowsIdeal)
    ∧ quiescent_KernelInDx (hKernelInDx := hKernelInDx)
    ∧ quiescent_KernelInDxIdeal (hKernelInDxIdeal := hKernelInDxIdeal)
    ∧ quiescent_KernelInDxIdeal_pre_finite_in_dx (hKernelInDxIdeal := hKernelInDxIdeal) (hPre_finite_in_dx := hPre_finite_in_dx)
    ∧ quiescent_ReferenceInDxIdeal (hReferenceInDxIdeal := hReferenceInDxIdeal)
    ∧ quiescent_ReferenceInDxIdeal_pre_finite_in_dx (hReferenceInDxIdeal := hReferenceInDxIdeal) (hPre_finite_in_dx := hPre_finite_in_dx)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamLru (hKernelAdamLru := hKernelAdamLru)
    ∧ quiescent_KernelAdamLruIdeal (hKernelAdamLruIdeal := hKernelAdamLruIdeal)
    ∧ quiescent_ReferenceAdamLruIdeal (hReferenceAdamLruIdeal := hReferenceAdamLruIdeal)
    ∧ quiescent_KernelAdamConv (hKernelAdamConv := hKernelAdamConv)
    ∧ quiescent_KernelAdamConvIdeal (hKernelAdamConvIdeal := hKernelAdamConvIdeal)
    ∧ quiescent_ReferenceAdamConvIdeal (hReferenceAdamConvIdeal := hReferenceAdamConvIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelSum (hKernelSum := hKernelSum)
    ∧ quiescent_KernelSumIdeal (hKernelSumIdeal := hKernelSumIdeal)
    ∧ quiescent_ReferenceSumIdeal (hReferenceSumIdeal := hReferenceSumIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelOutDx_KernelOutDxIdeal
    ∧ algebraic_KernelOutDxIdeal_ReferenceOutDxIdeal (hKernelOutDxIdeal := hKernelOutDxIdeal) (hReferenceOutDxIdeal := hReferenceOutDxIdeal)
    ∧ preserves_KernelUpDx_KernelUpDxIdeal
    ∧ algebraic_KernelUpDxIdeal_ReferenceUpDxIdeal_pre_finite_up_dx (hKernelUpDxIdeal := hKernelUpDxIdeal) (hReferenceUpDxIdeal := hReferenceUpDxIdeal) (hPre_finite_up_dx := hPre_finite_up_dx)
    ∧ preserves_KernelUp_KernelUpIdeal
    ∧ algebraic_KernelUpIdeal_ReferenceUpIdeal (hKernelUpIdeal := hKernelUpIdeal) (hReferenceUpIdeal := hReferenceUpIdeal)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelInOwn_KernelInOwnIdeal
    ∧ algebraic_KernelInOwnIdeal_ReferenceInOwnIdeal (hKernelInOwnIdeal := hKernelInOwnIdeal) (hReferenceInOwnIdeal := hReferenceInOwnIdeal)
    ∧ preserves_KernelInRest_KernelInRestIdeal
    ∧ algebraic_KernelInRestIdeal_ReferenceInRestIdeal (hKernelInRestIdeal := hKernelInRestIdeal) (hReferenceInRestIdeal := hReferenceInRestIdeal)
    ∧ preserves_KernelWRows_KernelWRowsIdeal
    ∧ algebraic_KernelWRowsIdeal_ReferenceWRowsIdeal (hKernelWRowsIdeal := hKernelWRowsIdeal) (hReferenceWRowsIdeal := hReferenceWRowsIdeal)
    ∧ preserves_KernelInDx_KernelInDxIdeal
    ∧ algebraic_KernelInDxIdeal_ReferenceInDxIdeal_pre_finite_in_dx (hKernelInDxIdeal := hKernelInDxIdeal) (hReferenceInDxIdeal := hReferenceInDxIdeal) (hPre_finite_in_dx := hPre_finite_in_dx)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamLru_KernelAdamLruIdeal
    ∧ algebraic_KernelAdamLruIdeal_ReferenceAdamLruIdeal (hKernelAdamLruIdeal := hKernelAdamLruIdeal) (hReferenceAdamLruIdeal := hReferenceAdamLruIdeal)
    ∧ preserves_KernelAdamConv_KernelAdamConvIdeal
    ∧ algebraic_KernelAdamConvIdeal_ReferenceAdamConvIdeal (hKernelAdamConvIdeal := hKernelAdamConvIdeal) (hReferenceAdamConvIdeal := hReferenceAdamConvIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelSum_KernelSumIdeal
    ∧ algebraic_KernelSumIdeal_ReferenceSumIdeal (hKernelSumIdeal := hKernelSumIdeal) (hReferenceSumIdeal := hReferenceSumIdeal)
-- ==== Pre_finite.lean ====
abbrev S1x8192x12288 : Shape := ⟨3, ![1, 8192, 12288]⟩
abbrev S3x12288 : Shape := ⟨2, ![3, 12288]⟩
abbrev S12288 : Shape := ⟨1, ![12288]⟩
abbrev S6144x2048 : Shape := ⟨2, ![6144, 2048]⟩
abbrev S1x8192x2048 : Shape := ⟨3, ![1, 8192, 2048]⟩
abbrev S_ : Shape := ⟨0, ![]⟩

class Facts : Prop where
  bcast_S_S1x8192x12288 : S_.BroadcastsInDim S1x8192x12288 (![] : Fin 0 → Fin S1x8192x12288.rank)
  reducesTo_S1x8192x12288_S_d0_1_2 : S1x8192x12288.ReducesTo [0, 1, 2] S_
  h_S_ : 0 < S_.numel
  bcast_S_S3x12288 : S_.BroadcastsInDim S3x12288 (![] : Fin 0 → Fin S3x12288.rank)
  reducesTo_S3x12288_S_d0_1 : S3x12288.ReducesTo [0, 1] S_
  bcast_S_S12288 : S_.BroadcastsInDim S12288 (![] : Fin 0 → Fin S12288.rank)
  reducesTo_S12288_S_d0 : S12288.ReducesTo [0] S_
  bcast_S_S6144x2048 : S_.BroadcastsInDim S6144x2048 (![] : Fin 0 → Fin S6144x2048.rank)
  reducesTo_S6144x2048_S_d0_1 : S6144x2048.ReducesTo [0, 1] S_
  bcast_S_S1x8192x2048 : S_.BroadcastsInDim S1x8192x2048 (![] : Fin 0 → Fin S1x8192x2048.rank)
  reducesTo_S1x8192x2048_S_d0_1_2 : S1x8192x2048.ReducesTo [0, 1, 2] S_

variable [Facts]

def fn_part1 {F : FTy → Type} [FloatOps F] (main_arg4 : FVec F S1x8192x2048 .f32) (main_v3 : IVec S_ 1) (main_v7 : IVec S_ 1) (main_v11 : IVec S_ 1) (main_v15 : IVec S_ 1) : IVec S_ 1 :=
  let main_v16 : FVec F S1x8192x2048 .f32 := Host.absf main_arg4
  let main_cst_6 : FVec F S_ .f32 := constant S_ .f32 0x7F800000#32
  let main_v17 : FVec F S1x8192x2048 .f32 := broadcastInDim S1x8192x2048 ![] bcast_S_S1x8192x2048 main_cst_6
  let main_v18 : IVec S1x8192x2048 1 := cmpf .olt main_v16 main_v17
  let main_c_7 : IVec S_ 1 := constantI S_ 1 1#1
  let main_v19 : IVec S_ 1 := (fun x v => Host.reduce IntOp.andi x v reducesTo_S1x8192x2048_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S1x8192x12288 .f32) (main_arg1 : FVec F S3x12288 .f32) (main_arg2 : FVec F S12288 .f32) (main_arg3 : FVec F S6144x2048 .f32) (main_arg4 : FVec F S1x8192x2048 .f32) : IVec S_ 1 :=
  let main_v0 : FVec F S1x8192x12288 .f32 := Host.absf main_arg0
  let main_cst : FVec F S_ .f32 := constant S_ .f32 0x7F800000#32
  let main_v1 : FVec F S1x8192x12288 .f32 := broadcastInDim S1x8192x12288 ![] bcast_S_S1x8192x12288 main_cst
  let main_v2 : IVec S1x8192x12288 1 := cmpf .olt main_v0 main_v1
  let main_c : IVec S_ 1 := constantI S_ 1 1#1
  let main_v3 : IVec S_ 1 := (fun x v => Host.reduce IntOp.andi x v reducesTo_S1x8192x12288_S_d0_1_2 h_S_) main_v2 main_c
  let main_v4 : FVec F S3x12288 .f32 := Host.absf main_arg1
  let main_cst_0 : FVec F S_ .f32 := constant S_ .f32 0x7F800000#32
  let main_v5 : FVec F S3x12288 .f32 := broadcastInDim S3x12288 ![] bcast_S_S3x12288 main_cst_0
  let main_v6 : IVec S3x12288 1 := cmpf .olt main_v4 main_v5
  let main_c_1 : IVec S_ 1 := constantI S_ 1 1#1
  let main_v7 : IVec S_ 1 := (fun x v => Host.reduce IntOp.andi x v reducesTo_S3x12288_S_d0_1 h_S_) main_v6 main_c_1
  let main_v8 : FVec F S12288 .f32 := Host.absf main_arg2
  let main_cst_2 : FVec F S_ .f32 := constant S_ .f32 0x7F800000#32
  let main_v9 : FVec F S12288 .f32 := broadcastInDim S12288 ![] bcast_S_S12288 main_cst_2
  let main_v10 : IVec S12288 1 := cmpf .olt main_v8 main_v9
  let main_c_3 : IVec S_ 1 := constantI S_ 1 1#1
  let main_v11 : IVec S_ 1 := (fun x v => Host.reduce IntOp.andi x v reducesTo_S12288_S_d0 h_S_) main_v10 main_c_3
  let main_v12 : FVec F S6144x2048 .f32 := Host.absf main_arg3
  let main_cst_4 : FVec F S_ .f32 := constant S_ .f32 0x7F800000#32
  let main_v13 : FVec F S6144x2048 .f32 := broadcastInDim S6144x2048 ![] bcast_S_S6144x2048 main_cst_4
  let main_v14 : IVec S6144x2048 1 := cmpf .olt main_v12 main_v13
  let main_c_5 : IVec S_ 1 := constantI S_ 1 1#1
  let main_v15 : IVec S_ 1 := (fun x v => Host.reduce IntOp.andi x v reducesTo_S6144x2048_S_d0_1 h_S_) main_v14 main_c_5
  fn_part1 (F := F) main_arg4 main_v3 main_v7 main_v11 main_v15
-- ==== Pre_finite_in_dx.lean ====
abbrev S1x8192x2048 : Shape := ⟨3, ![1, 8192, 2048]⟩
abbrev S1x2048 : Shape := ⟨2, ![1, 2048]⟩
abbrev S2048x4096 : Shape := ⟨2, ![2048, 4096]⟩
abbrev S1x8192x4096 : Shape := ⟨3, ![1, 8192, 4096]⟩
abbrev S_ : Shape := ⟨0, ![]⟩

class Facts : Prop where
  bcast_S_S1x8192x2048 : S_.BroadcastsInDim S1x8192x2048 (![] : Fin 0 → Fin S1x8192x2048.rank)
  reducesTo_S1x8192x2048_S_d0_1_2 : S1x8192x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S1x8192x4096 : S_.BroadcastsInDim S1x8192x4096 (![] : Fin 0 → Fin S1x8192x4096.rank)
  reducesTo_S1x8192x4096_S_d0_1_2 : S1x8192x4096.ReducesTo [0, 1, 2] S_

variable [Facts]

def fn_part1 {F : FTy → Type} [FloatOps F] (main_arg4 : FVec F S1x8192x2048 .f32) (main_v3 : IVec S_ 1) (main_v7 : IVec S_ 1) (main_v11 : IVec S_ 1) (main_v15 : IVec S_ 1) : IVec S_ 1 :=
  let main_v16 : FVec F S1x8192x2048 .f32 := Host.absf main_arg4
  let main_cst_6 : FVec F S_ .f32 := constant S_ .f32 0x7F800000#32
  let main_v17 : FVec F S1x8192x2048 .f32 := broadcastInDim S1x8192x2048 ![] bcast_S_S1x8192x2048 main_cst_6
  let main_v18 : IVec S1x8192x2048 1 := cmpf .olt main_v16 main_v17
  let main_c_7 : IVec S_ 1 := constantI S_ 1 1#1
  let main_v19 : IVec S_ 1 := (fun x v => Host.reduce IntOp.andi x v reducesTo_S1x8192x2048_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S1x8192x2048 .f32) (main_arg1 : FVec F S1x2048 .f32) (main_arg2 : FVec F S2048x4096 .f32) (main_arg3 : FVec F S1x8192x4096 .f32) (main_arg4 : FVec F S1x8192x2048 .f32) : IVec S_ 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_c : IVec S_ 1 := constantI S_ 1 1#1
  let main_v3 : IVec S_ 1 := (fun x v => Host.reduce IntOp.andi x v reducesTo_S1x8192x2048_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : FVec F S2048x4096 .f32 := Host.absf main_arg2
  let main_cst_2 : FVec F S_ .f32 := constant S_ .f32 0x7F800000#32
  let main_v9 : FVec F S2048x4096 .f32 := broadcastInDim S2048x4096 ![] bcast_S_S2048x4096 main_cst_2
  let main_v10 : IVec S2048x4096 1 := cmpf .olt main_v8 main_v9
  let main_c_3 : IVec S_ 1 := constantI S_ 1 1#1
  let main_v11 : IVec S_ 1 := (fun x v => Host.reduce IntOp.andi x v reducesTo_S2048x4096_S_d0_1 h_S_) main_v10 main_c_3
  let main_v12 : FVec F S1x8192x4096 .f32 := Host.absf main_arg3
  let main_cst_4 : FVec F S_ .f32 := constant S_ .f32 0x7F800000#32
  let main_v13 : FVec F S1x8192x4096 .f32 := broadcastInDim S1x8192x4096 ![] bcast_S_S1x8192x4096 main_cst_4
  let main_v14 : IVec S1x8192x4096 1 := cmpf .olt main_v12 main_v13
  let main_c_5 : IVec S_ 1 := constantI S_ 1 1#1
  let main_v15 : IVec S_ 1 := (fun x v => Host.reduce IntOp.andi x v reducesTo_S1x8192x4096_S_d0_1_2 h_S_) main_v14 main_c_5
  fn_part1 (F := F) main_arg4 main_v3 main_v7 main_v11 main_v15
-- ==== Pre_finite_loss.lean ====
abbrev S1x8192x2048 : Shape := ⟨3, ![1, 8192, 2048]⟩
abbrev S1x8192x6144 : Shape := ⟨3, ![1, 8192, 6144]⟩
abbrev S6144x2048 : Shape := ⟨2, ![6144, 2048]⟩
abbrev S2048 : Shape := ⟨1, ![2048]⟩
abbrev S_ : Shape := ⟨0, ![]⟩

class Facts : Prop where
  bcast_S_S1x8192x2048 : S_.BroadcastsInDim S1x8192x2048 (![] : Fin 0 → Fin S1x8192x2048.rank)
  reducesTo_S1x8192x2048_S_d0_1_2 : S1x8192x2048.ReducesTo [0, 1, 2] S_
  h_S_ : 0 < S_.numel
  bcast_S_S1x8192x6144 : S_.BroadcastsInDim S1x8192x6144 (![] : Fin 0 → Fin S1x8192x6144.rank)
  reducesTo_S1x8192x6144_S_d0_1_2 : S1x8192x6144.ReducesTo [0, 1, 2] S_
  bcast_S_S6144x2048 : S_.BroadcastsInDim S6144x2048 (![] : Fin 0 → Fin S6144x2048.rank)
  reducesTo_S6144x2048_S_d0_1 : S6144x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S1x8192x2048 .f32) (main_v3 : IVec S_ 1) (main_v7 : IVec S_ 1) (main_v11 : IVec S_ 1) (main_v15 : IVec S_ 1) : IVec S_ 1 :=
  let main_v16 : FVec F S1x8192x2048 .f32 := Host.absf main_arg4
  let main_cst_6 : FVec F S_ .f32 := constant S_ .f32 0x7F800000#32
  let main_v17 : FVec F S1x8192x2048 .f32 := broadcastInDim S1x8192x2048 ![] bcast_S_S1x8192x2048 main_cst_6
  let main_v18 : IVec S1x8192x2048 1 := cmpf .olt main_v16 main_v17
  let main_c_7 : IVec S_ 1 := constantI S_ 1 1#1
  let main_v19 : IVec S_ 1 := (fun x v => Host.reduce IntOp.andi x v reducesTo_S1x8192x2048_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S1x8192x2048 .f32) (main_arg1 : FVec F S1x8192x6144 .f32) (main_arg2 : FVec F S6144x2048 .f32) (main_arg3 : FVec F S2048 .f32) (main_arg4 : FVec F S1x8192x2048 .f32) : IVec S_ 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_c : IVec S_ 1 := constantI S_ 1 1#1
  let main_v3 : IVec S_ 1 := (fun x v => Host.reduce IntOp.andi x v reducesTo_S1x8192x2048_S_d0_1_2 h_S_) main_v2 main_c
  let main_v4 : FVec F S1x8192x6144 .f32 := Host.absf main_arg1
  let main_cst_0 : FVec F S_ .f32 := constant S_ .f32 0x7F800000#32
  let main_v5 : FVec F S1x8192x6144 .f32 := broadcastInDim S1x8192x6144 ![] bcast_S_S1x8192x6144 main_cst_0
  let main_v6 : IVec S1x8192x6144 1 := cmpf .olt main_v4 main_v5
  let main_c_1 : IVec S_ 1 := constantI S_ 1 1#1
  let main_v7 : IVec S_ 1 := (fun x v => Host.reduce IntOp.andi x v reducesTo_S1x8192x6144_S_d0_1_2 h_S_) main_v6 main_c_1
  let main_v8 : FVec F S6144x2048 .f32 := Host.absf main_arg2
  let main_cst_2 : FVec F S_ .f32 := constant S_ .f32 0x7F800000#32
  let main_v9 : FVec F S6144x2048 .f32 := broadcastInDim S6144x2048 ![] bcast_S_S6144x2048 main_cst_2
  let main_v10 : IVec S6144x2048 1 := cmpf .olt main_v8 main_v9
  let main_c_3 : IVec S_ 1 := constantI S_ 1 1#1
  let main_v11 : IVec S_ 1 := (fun x v => Host.reduce IntOp.andi x v reducesTo_S6144x2048_S_d0_1 h_S_) main_v10 main_c_3
  let main_v12 : FVec F S2048 .f32 := Host.absf main_arg3
  let main_cst_4 : FVec F S_ .f32 := constant S_ .f32 0x7F800000#32
  let main_v13 : FVec F S2048 .f32 := broadcastInDim S2048 ![] bcast_S_S2048 main_cst_4
  let main_v14 : IVec S2048 1 := cmpf .olt main_v12 main_v13
  let main_c_5 : IVec S_ 1 := constantI S_ 1 1#1
  let main_v15 : IVec S_ 1 := (fun x v => Host.reduce IntOp.andi x v reducesTo_S2048_S_d0 h_S_) main_v14 main_c_5
  fn_part1 (F := F) main_arg4 main_v3 main_v7 main_v11 main_v15
-- ==== Pre_finite_up_dx.lean ====
abbrev S1x8192x2048 : Shape := ⟨3, ![1, 8192, 2048]⟩
abbrev S1x2048 : Shape := ⟨2, ![1, 2048]⟩
abbrev S2048x12288 : Shape := ⟨2, ![2048, 12288]⟩
abbrev S1x8192x12288 : Shape := ⟨3, ![1, 8192, 12288]⟩
abbrev S_ : Shape := ⟨0, ![]⟩

class Facts : Prop where
  bcast_S_S1x8192x2048 : S_.BroadcastsInDim S1x8192x2048 (![] : Fin 0 → Fin S1x8192x2048.rank)
  reducesTo_S1x8192x2048_S_d0_1_2 : S1x8192x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x12288 : S_.BroadcastsInDim S2048x12288 (![] : Fin 0 → Fin S2048x12288.rank)
  reducesTo_S2048x12288_S_d0_1 : S2048x12288.ReducesTo [0, 1] S_
  bcast_S_S1x8192x12288 : S_.BroadcastsInDim S1x8192x12288 (![] : Fin 0 → Fin S1x8192x12288.rank)
  reducesTo_S1x8192x12288_S_d0_1_2 : S1x8192x12288.ReducesTo [0, 1, 2] S_

variable [Facts]

def fn_part1 {F : FTy → Type} [FloatOps F] (main_arg4 : FVec F S1x8192x2048 .f32) (main_v3 : IVec S_ 1) (main_v7 : IVec S_ 1) (main_v11 : IVec S_ 1) (main_v15 : IVec S_ 1) : IVec S_ 1 :=
  let main_v16 : FVec F S1x8192x2048 .f32 := Host.absf main_arg4
  let main_cst_6 : FVec F S_ .f32 := constant S_ .f32 0x7F800000#32
  let main_v17 : FVec F S1x8192x2048 .f32 := broadcastInDim S1x8192x2048 ![] bcast_S_S1x8192x2048 main_cst_6
  let main_v18 : IVec S1x8192x2048 1 := cmpf .olt main_v16 main_v17
  let main_c_7 : IVec S_ 1 := constantI S_ 1 1#1
  let main_v19 : IVec S_ 1 := (fun x v => Host.reduce IntOp.andi x v reducesTo_S1x8192x2048_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S1x8192x2048 .f32) (main_arg1 : FVec F S1x2048 .f32) (main_arg2 : FVec F S2048x12288 .f32) (main_arg3 : FVec F S1x8192x12288 .f32) (main_arg4 : FVec F S1x8192x2048 .f32) : IVec S_ 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_c : IVec S_ 1 := constantI S_ 1 1#1
  let main_v3 : IVec S_ 1 := (fun x v => Host.reduce IntOp.andi x v reducesTo_S1x8192x2048_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : FVec F S2048x12288 .f32 := Host.absf main_arg2
  let main_cst_2 : FVec F S_ .f32 := constant S_ .f32 0x7F800000#32
  let main_v9 : FVec F S2048x12288 .f32 := broadcastInDim S2048x12288 ![] bcast_S_S2048x12288 main_cst_2
  let main_v10 : IVec S2048x12288 1 := cmpf .olt main_v8 main_v9
  let main_c_3 : IVec S_ 1 := constantI S_ 1 1#1
  let main_v11 : IVec S_ 1 := (fun x v => Host.reduce IntOp.andi x v reducesTo_S2048x12288_S_d0_1 h_S_) main_v10 main_c_3
  let main_v12 : FVec F S1x8192x12288 .f32 := Host.absf main_arg3
  let main_cst_4 : FVec F S_ .f32 := constant S_ .f32 0x7F800000#32
  let main_v13 : FVec F S1x8192x12288 .f32 := broadcastInDim S1x8192x12288 ![] bcast_S_S1x8192x12288 main_cst_4
  let main_v14 : IVec S1x8192x12288 1 := cmpf .olt main_v12 main_v13
  let main_c_5 : IVec S_ 1 := constantI S_ 1 1#1
  let main_v15 : IVec S_ 1 := (fun x v => Host.reduce IntOp.andi x v reducesTo_S1x8192x12288_S_d0_1_2 h_S_) main_v14 main_c_5
  fn_part1 (F := F) main_arg4 main_v3 main_v7 main_v11 main_v15
-- ==== Kernel.lean ====
abbrev S1x8192x12288 : Shape := ⟨3, ![1, 8192, 12288]⟩
abbrev S3x12288 : Shape := ⟨2, ![3, 12288]⟩
abbrev S12288 : Shape := ⟨1, ![12288]⟩
abbrev S6144x2048 : Shape := ⟨2, ![6144, 2048]⟩
abbrev S1x8192x2048 : Shape := ⟨3, ![1, 8192, 2048]⟩
abbrev S_ : Shape := ⟨0, ![]⟩
abbrev S1x2x12288 : Shape := ⟨3, ![1, 2, 12288]⟩
abbrev S1x8194x12288 : Shape := ⟨3, ![1, 8194, 12288]⟩
abbrev S1x12288 : Shape := ⟨2, ![1, 12288]⟩
abbrev S1x1x12288 : Shape := ⟨3, ![1, 1, 12288]⟩
abbrev S8192x2x6144 : Shape := ⟨3, ![8192, 2, 6144]⟩
abbrev S2x8192x6144 : Shape := ⟨3, ![2, 8192, 6144]⟩
abbrev S8192x2048 : Shape := ⟨2, ![8192, 2048]⟩
abbrev S3x6144 : Shape := ⟨2, ![3, 6144]⟩
abbrev S1x6144 : Shape := ⟨2, ![1, 6144]⟩
abbrev S512x2048 : Shape := ⟨2, ![512, 2048]⟩
abbrev S16x2048 : Shape := ⟨2, ![16, 2048]⟩
abbrev S1536x2048 : Shape := ⟨2, ![1536, 2048]⟩
abbrev S1x512x1536 : Shape := ⟨3, ![1, 512, 1536]⟩
abbrev S1x16x1536 : Shape := ⟨3, ![1, 16, 1536]⟩
abbrev S3x1536 : Shape := ⟨2, ![3, 1536]⟩
abbrev S2x512x1536 : Shape := ⟨3, ![2, 512, 1536]⟩
abbrev S1x1536 : Shape := ⟨2, ![1, 1536]⟩
abbrev S528x2048 : Shape := ⟨2, ![528, 2048]⟩
abbrev S528x1536 : Shape := ⟨2, ![528, 1536]⟩
abbrev S520x1536 : Shape := ⟨2, ![520, 1536]⟩
abbrev S512x1536 : Shape := ⟨2, ![512, 1536]⟩
abbrev S16x1536 : Shape := ⟨2, ![16, 1536]⟩
abbrev S8x1536 : Shape := ⟨2, ![8, 1536]⟩
abbrev S1536 : Shape := ⟨1, ![1536]⟩

abbrev nBuf : Space → Nat
  | .hbm => 45
  | .vmem => 32
  | .smem => 0
  | _ => 0

abbrev bufTy : (tb : Table) → Fin (tcTables nBuf tb) → BufTy
  | .hbm, ⟨0, _⟩ => ⟨S1x8192x12288, .f32⟩
  | .hbm, ⟨1, _⟩ => ⟨S3x12288, .f32⟩
  | .hbm, ⟨2, _⟩ => ⟨S12288, .f32⟩
  | .hbm, ⟨3, _⟩ => ⟨S6144x2048, .f32⟩
  | .hbm, ⟨4, _⟩ => ⟨S1x8192x2048, .f32⟩
  | .hbm, ⟨5, _⟩ => ⟨S_, .f32⟩
  | .hbm, ⟨6, _⟩ => ⟨S1x2x12288, .f32⟩
  | .hbm, ⟨7, _⟩ => ⟨S1x8194x12288, .f32⟩
  | .hbm, ⟨8, _⟩ => ⟨S1x8192x12288, .f32⟩
  | .hbm, ⟨9, _⟩ => ⟨S1x12288, .f32⟩
  | .hbm, ⟨10, _⟩ => ⟨S12288, .f32⟩
  | .hbm, ⟨11, _⟩ => ⟨S1x1x12288, .f32⟩
  | .hbm, ⟨12, _⟩ => ⟨S1x8192x12288, .f32⟩
  | .hbm, ⟨13, _⟩ => ⟨S1x8192x12288, .f32⟩
  | .hbm, ⟨14, _⟩ => ⟨S1x1x12288, .f32⟩
  | .hbm, ⟨15, _⟩ => ⟨S1x8192x12288, .f32⟩
  | .hbm, ⟨16, _⟩ => ⟨S1x8192x12288, .f32⟩
  | .hbm, ⟨17, _⟩ => ⟨S1x8192x12288, .f32⟩
  | .hbm, ⟨18, _⟩ => ⟨S1x12288, .f32⟩
  | .hbm, ⟨19, _⟩ => ⟨S12288, .f32⟩
  | .hbm, ⟨20, _⟩ => ⟨S1x1x12288, .f32⟩
  | .hbm, ⟨21, _⟩ => ⟨S1x8192x12288, .f32⟩
  | .hbm, ⟨22, _⟩ => ⟨S1x8192x12288, .f32⟩
  | .hbm, ⟨23, _⟩ => ⟨S1x8192x12288, .f32⟩
  | .hbm, ⟨24, _⟩ => ⟨S1x8192x12288, .f32⟩
  | .hbm, ⟨25, _⟩ => ⟨S1x12288, .f32⟩
  | .hbm, ⟨26, _⟩ => ⟨S12288, .f32⟩
  | .hbm, ⟨27, _⟩ => ⟨S1x1x12288, .f32⟩
  | .hbm, ⟨28, _⟩ => ⟨S1x8192x12288, .f32⟩
  | .hbm, ⟨29, _⟩ => ⟨S1x8192x12288, .f32⟩
  | .hbm, ⟨30, _⟩ => ⟨S1x8192x12288, .f32⟩
  | .hbm, ⟨31, _⟩ => ⟨S8192x2x6144, .f32⟩
  | .hbm, ⟨32, _⟩ => ⟨S2x8192x6144, .f32⟩
  | .hbm, ⟨33, _⟩ => ⟨S2x8192x6144, .bf16⟩
  | .hbm, ⟨34, _⟩ => ⟨S8192x2x6144, .f32⟩
  | .hbm, ⟨35, _⟩ => ⟨S2x8192x6144, .f32⟩
  | .hbm, ⟨36, _⟩ => ⟨S2x8192x6144, .bf16⟩
  | .hbm, ⟨37, _⟩ => ⟨S8192x2048, .f32⟩
  | .hbm, ⟨38, _⟩ => ⟨S8192x2048, .bf16⟩
  | .hbm, ⟨39, _⟩ => ⟨S6144x2048, .bf16⟩
  | .hbm, ⟨40, _⟩ => ⟨S2x8192x6144, .bf16⟩
  | .hbm, ⟨41, _⟩ => ⟨S3x6144, .f32⟩
  | .hbm, ⟨42, _⟩ => ⟨S3x6144, .f32⟩
  | .hbm, ⟨43, _⟩ => ⟨S1x6144, .f32⟩
  | .hbm, ⟨44, _⟩ => ⟨S1x6144, .f32⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S1536x2048, .bf16⟩
  | .local _ .vmem, ⟨5, _⟩ => ⟨S1536x2048, .bf16⟩
  | .local _ .vmem, ⟨6, _⟩ => ⟨S1x512x1536, .bf16⟩
  | .local _ .vmem, ⟨7, _⟩ => ⟨S1x512x1536, .bf16⟩
  | .local _ .vmem, ⟨8, _⟩ => ⟨S1x512x1536, .bf16⟩
  | .local _ .vmem, ⟨9, _⟩ => ⟨S1x512x1536, .bf16⟩
  | .local _ .vmem, ⟨10, _⟩ => ⟨S1x512x1536, .bf16⟩
  | .local _ .vmem, ⟨11, _⟩ => ⟨S1x512x1536, .bf16⟩
  | .local _ .vmem, ⟨12, _⟩ => ⟨S1x512x1536, .bf16⟩
  | .local _ .vmem, ⟨13, _⟩ => ⟨S1x512x1536, .bf16⟩
  | .local _ .vmem, ⟨14, _⟩ => ⟨S1x16x1536, .bf16⟩
  | .local _ .vmem, ⟨15, _⟩ => ⟨S1x16x1536, .bf16⟩
  | .local _ .vmem, ⟨16, _⟩ => ⟨S1x16x1536, .bf16⟩
  | .local _ .vmem, ⟨17, _⟩ => ⟨S1x16x1536, .bf16⟩
  | .local _ .vmem, ⟨18, _⟩ => ⟨S3x1536, .f32⟩
  | .local _ .vmem, ⟨19, _⟩ => ⟨S3x1536, .f32⟩
  | .local _ .vmem, ⟨20, _⟩ => ⟨S3x1536, .f32⟩
  | .local _ .vmem, ⟨21, _⟩ => ⟨S3x1536, .f32⟩
  | .local _ .vmem, ⟨22, _⟩ => ⟨S2x512x1536, .bf16⟩
  | .local _ .vmem, ⟨23, _⟩ => ⟨S2x512x1536, .bf16⟩
  | .local _ .vmem, ⟨24, _⟩ => ⟨S3x1536, .f32⟩
  | .local _ .vmem, ⟨25, _⟩ => ⟨S3x1536, .f32⟩
  | .local _ .vmem, ⟨26, _⟩ => ⟨S3x1536, .f32⟩
  | .local _ .vmem, ⟨27, _⟩ => ⟨S3x1536, .f32⟩
  | .local _ .vmem, ⟨28, _⟩ => ⟨S1x1536, .f32⟩
  | .local _ .vmem, ⟨29, _⟩ => ⟨S1x1536, .f32⟩
  | .local _ .vmem, ⟨30, _⟩ => ⟨S1x1536, .f32⟩
  | .local _ .vmem, ⟨31, _⟩ => ⟨S1x1536, .f32⟩
  | _, _ => ⟨S1x8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34_0 : Ref sig .tc := ⟨.hbm, 40, rfl⟩
abbrev main_v34_1 : Ref sig .tc := ⟨.hbm, 41, rfl⟩
abbrev main_v34_2 : Ref sig .tc := ⟨.hbm, 42, rfl⟩
abbrev main_v34_3 : Ref sig .tc := ⟨.hbm, 43, rfl⟩
abbrev main_v34_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![c0_i32.toNat, v2.toNat, arg0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![c1_i32_0.toNat, v2.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S3x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== KernelIdeal.lean ====
variable {F : FTy → Type} [FloatOps F] [Named F]
def κ : String → Option EReal := fun
  | "gelu_6ca" => some ((241015141496493 / 1125899906842624 : ℝ) : EReal)
  | "gelu_ca" => some ((80338380498831 / 2251799813685248 : ℝ) : EReal)
  | _ => none
-- ==== ReferenceIdeal.lean ====
abbrev S1x8192x12288 : Shape := ⟨3, ![1, 8192, 12288]⟩
abbrev S3x12288 : Shape := ⟨2, ![3, 12288]⟩
abbrev S12288 : Shape := ⟨1, ![12288]⟩
abbrev S6144x2048 : Shape := ⟨2, ![6144, 2048]⟩
abbrev S1x8192x2048 : Shape := ⟨3, ![1, 8192, 2048]⟩
abbrev S_ : Shape := ⟨0, ![]⟩
abbrev S1x2x12288 : Shape := ⟨3, ![1, 2, 12288]⟩
abbrev S1x8194x12288 : Shape := ⟨3, ![1, 8194, 12288]⟩
abbrev S1x12288 : Shape := ⟨2, ![1, 12288]⟩
abbrev S1x1x12288 : Shape := ⟨3, ![1, 1, 12288]⟩
abbrev S1x8192x6144 : Shape := ⟨3, ![1, 8192, 6144]⟩
abbrev S8192x12288 : Shape := ⟨2, ![8192, 12288]⟩
abbrev S8192x6144 : Shape := ⟨2, ![8192, 6144]⟩
abbrev S3x6144 : Shape := ⟨2, ![3, 6144]⟩
abbrev S1x6144 : Shape := ⟨2, ![1, 6144]⟩
abbrev S2x8192x6144 : Shape := ⟨3, ![2, 8192, 6144]⟩

abbrev nBuf : Space → Nat
  | .hbm => 146
  | .vmem => 0
  | .smem => 0
  | _ => 0

abbrev hbmTy0_0 (i : Nat) : BufTy := match i % 128 with
  | 0 => ⟨S1x8192x12288, .f32⟩
  | 1 => ⟨S3x12288, .f32⟩
  | 2 => ⟨S12288, .f32⟩
  | 3 => ⟨S6144x2048, .f32⟩
  | 4 => ⟨S1x8192x2048, .f32⟩
  | 5 => ⟨S_, .f32⟩
  | 6 => ⟨S1x2x12288, .f32⟩
  | 7 => ⟨S1x8194x12288, .f32⟩
  | 8 => ⟨S_, .f32⟩
  | 9 => ⟨S1x2x12288, .f32⟩
  | 10 => ⟨S1x8192x12288, .f32⟩
  | 11 => ⟨S1x12288, .f32⟩
  | 12 => ⟨S12288, .f32⟩
  | 13 => ⟨S1x1x12288, .f32⟩
  | 14 => ⟨S1x8192x12288, .f32⟩
  | 15 => ⟨S1x8192x12288, .f32⟩
  | 16 => ⟨S1x1x12288, .f32⟩
  | 17 => ⟨S1x8192x12288, .f32⟩
  | 18 => ⟨S1x8192x12288, .f32⟩
  | 19 => ⟨S1x8192x12288, .f32⟩
  | 20 => ⟨S1x12288, .f32⟩
  | 21 => ⟨S12288, .f32⟩
  | 22 => ⟨S1x1x12288, .f32⟩
  | 23 => ⟨S1x8192x12288, .f32⟩
  | 24 => ⟨S1x8192x12288, .f32⟩
  | 25 => ⟨S1x8192x12288, .f32⟩
  | 26 => ⟨S1x8192x12288, .f32⟩
  | 27 => ⟨S1x12288, .f32⟩
  | 28 => ⟨S12288, .f32⟩
  | 29 => ⟨S1x1x12288, .f32⟩
  | 30 => ⟨S1x8192x12288, .f32⟩
  | 31 => ⟨S1x8192x12288, .f32⟩
  | 32 => ⟨S1x8192x12288, .f32⟩
  | 33 => ⟨S1x8192x6144, .f32⟩
  | 34 => ⟨S1x8192x6144, .f32⟩
  | 35 => ⟨S1x8192x6144, .f32⟩
  | 36 => ⟨S1x8192x6144, .f32⟩
  | 37 => ⟨S1x8192x6144, .f32⟩
  | 38 => ⟨S_, .f32⟩
  | 39 => ⟨S1x8192x6144, .f32⟩
  | 40 => ⟨S1x8192x6144, .f32⟩
  | 41 => ⟨S_, .f32⟩
  | 42 => ⟨S1x8192x6144, .f32⟩
  | 43 => ⟨S1x8192x6144, .f32⟩
  | 44 => ⟨S1x8192x6144, .f32⟩
  | 45 => ⟨S_, .f32⟩
  | 46 => ⟨S1x8192x6144, .f32⟩
  | 47 => ⟨S1x8192x6144, .f32⟩
  | 48 => ⟨S1x8192x6144, .f32⟩
  | 49 => ⟨S_, .f32⟩
  | 50 => ⟨S1x8192x6144, .f32⟩
  | 51 => ⟨S1x8192x6144, .f32⟩
  | 52 => ⟨S_, .f32⟩
  | 53 => ⟨S1x8192x6144, .f32⟩
  | 54 => ⟨S1x8192x6144, .f32⟩
  | 55 => ⟨S1x8192x6144, .f32⟩
  | 56 => ⟨S_, .f32⟩
  | 57 => ⟨S1x8192x6144, .f32⟩
  | 58 => ⟨S1x8192x6144, .f32⟩
  | 59 => ⟨S_, .f32⟩
  | 60 => ⟨S1x8192x6144, .f32⟩
  | 61 => ⟨S1x8192x6144, .f32⟩
  | 62 => ⟨S1x8192x6144, .f32⟩
  | 63 => ⟨S1x8192x6144, .f32⟩
  | 64 => ⟨S1x8192x2048, .f32⟩
  | 65 => ⟨S1x8192x6144, .f32⟩
  | 66 => ⟨S1x8192x6144, .f32⟩
  | 67 => ⟨S1x8192x6144, .f32⟩
  | 68 => ⟨S1x8192x6144, .f32⟩
  | 69 => ⟨S1x8192x6144, .f32⟩
  | 70 => ⟨S_, .f32⟩
  | 71 => ⟨S1x8192x6144, .f32⟩
  | 72 => ⟨S1x8192x6144, .f32⟩
  | 73 => ⟨S1x8192x6144, .f32⟩
  | 74 => ⟨S_, .f32⟩
  | 75 => ⟨S1x8192x6144, .f32⟩
  | 76 => ⟨S1x8192x6144, .f32⟩
  | 77 => ⟨S1x8192x6144, .f32⟩
  | 78 => ⟨S_, .f32⟩
  | 79 => ⟨S1x8192x6144, .f32⟩
  | 80 => ⟨S1x8192x6144, .f32⟩
  | 81 => ⟨S1x8192x6144, .f32⟩
  | 82 => ⟨S1x8192x6144, .f32⟩
  | 83 => ⟨S1x8192x12288, .f32⟩
  | 84 => ⟨S1x8192x12288, .f32⟩
  | 85 => ⟨S_, .f32⟩
  | 86 => ⟨S1x12288, .f32⟩
  | 87 => ⟨S1x1x12288, .f32⟩
  | 88 => ⟨S1x8192x12288, .f32⟩
  | 89 => ⟨S1x8192x12288, .f32⟩
  | 90 => ⟨S_, .f32⟩
  | 91 => ⟨S12288, .f32⟩
  | 92 => ⟨S1x12288, .f32⟩
  | 93 => ⟨S_, .f32⟩
  | 94 => ⟨S3x12288, .f32⟩
  | 95 => ⟨S_, .f32⟩
  | 96 => ⟨S1x8194x12288, .f32⟩
  | 97 => ⟨S1x8192x12288, .f32⟩
  | 98 => ⟨S_, .f32⟩
  | 99 => ⟨S1x12288, .f32⟩
  | 100 => ⟨S1x1x12288, .f32⟩
  | 101 => ⟨S1x8192x12288, .f32⟩
  | 102 => ⟨S1x8192x12288, .f32⟩
  | 103 => ⟨S_, .f32⟩
  | 104 => ⟨S12288, .f32⟩
  | 105 => ⟨S1x12288, .f32⟩
  | 106 => ⟨S_, .f32⟩
  | 107 => ⟨S3x12288, .f32⟩
  | 108 => ⟨S3x12288, .f32⟩
  | 109 => ⟨S_, .f32⟩
  | 110 => ⟨S1x8194x12288, .f32⟩
  | 111 => ⟨S1x8194x12288, .f32⟩
  | 112 => ⟨S_, .f32⟩
  | 113 => ⟨S1x12288, .f32⟩
  | 114 => ⟨S1x1x12288, .f32⟩
  | 115 => ⟨S_, .f32⟩
  | 116 => ⟨S12288, .f32⟩
  | 117 => ⟨S1x8192x12288, .f32⟩
  | 118 => ⟨S_, .f32⟩
  | 119 => ⟨S1x12288, .f32⟩
  | 120 => ⟨S1x1x12288, .f32⟩
  | 121 => ⟨S1x8192x12288, .f32⟩
  | 122 => ⟨S1x8192x12288, .f32⟩
  | 123 => ⟨S_, .f32⟩
  | 124 => ⟨S12288, .f32⟩
  | 125 => ⟨S1x12288, .f32⟩
  | 126 => ⟨S_, .f32⟩
  | 127 => ⟨S3x12288, .f32⟩
  | _ => ⟨S1x8192x12288, .f32⟩

abbrev hbmTy0_1 (i : Nat) : BufTy := match i % 128 with
  | 0 => ⟨S3x12288, .f32⟩
  | 1 => ⟨S_, .f32⟩
  | 2 => ⟨S1x8194x12288, .f32⟩
  | 3 => ⟨S1x8194x12288, .f32⟩
  | 4 => ⟨S1x2x12288, .f32⟩
  | 5 => ⟨S1x8192x12288, .f32⟩
  | 6 => ⟨S8192x12288, .f32⟩
  | 7 => ⟨S8192x6144, .f32⟩
  | 8 => ⟨S8192x6144, .f32⟩
  | 9 => ⟨S3x6144, .f32⟩
  | 10 => ⟨S3x6144, .f32⟩
  | 11 => ⟨S1x12288, .f32⟩
  | 12 => ⟨S1x6144, .f32⟩
  | 13 => ⟨S1x6144, .f32⟩
  | 14 => ⟨S1x8192x6144, .f32⟩
  | 15 => ⟨S1x8192x6144, .f32⟩
  | 16 => ⟨S2x8192x6144, .f32⟩
  | 17 => ⟨S2x8192x6144, .bf16⟩
  | _ => ⟨S1x8192x12288, .f32⟩

abbrev hbmTy (i : Nat) : BufTy := match i / 128 with
  | 0 => hbmTy0_0 i
  | 1 => hbmTy0_1 i
  | _ => ⟨S1x8192x12288, .f32⟩

abbrev bufTy : (tb : Table) → Fin (tcTables nBuf tb) → BufTy
  | .hbm, ⟨i, _⟩ => hbmTy i
  | _, _ => ⟨S1x8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_12 : Ref sig .tc := ⟨.hbm, 90, rfl⟩
abbrev main_v72 : Ref sig .tc := ⟨.hbm, 91, rfl⟩
abbrev main_v73 : Ref sig .tc := ⟨.hbm, 92, rfl⟩
abbrev main_cst_13 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_v76 : Ref sig .tc := ⟨.hbm, 97, rfl⟩
abbrev main_cst_15 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_16 : Ref sig .tc := ⟨.hbm, 103, rfl⟩
abbrev main_v81 : Ref sig .tc := ⟨.hbm, 104, rfl⟩
abbrev main_v82 : Ref sig .tc := ⟨.hbm, 105, rfl⟩
abbrev main_cst_17 : Ref sig .tc := ⟨.hbm, 106, rfl⟩
abbrev main_v83 : Ref sig .tc := ⟨.hbm, 107, rfl⟩
abbrev main_v84 : Ref sig .tc := ⟨.hbm, 108, rfl⟩
abbrev main_cst_18 : Ref sig .tc := ⟨.hbm, 109, rfl⟩
abbrev main_v85 : Ref sig .tc := ⟨.hbm, 110, rfl⟩
abbrev main_v86 : Ref sig .tc := ⟨.hbm, 111, rfl⟩
abbrev main_cst_19 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_cst_21 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_22 : Ref sig .tc := ⟨.hbm, 123, rfl⟩
abbrev main_v95 : Ref sig .tc := ⟨.hbm, 124, rfl⟩
abbrev main_v96 : Ref sig .tc := ⟨.hbm, 125, rfl⟩
abbrev main_cst_23 : Ref sig .tc := ⟨.hbm, 126, rfl⟩
abbrev main_v97 : Ref sig .tc := ⟨.hbm, 127, rfl⟩
abbrev main_v98 : Ref sig .tc := ⟨.hbm, 128, rfl⟩
abbrev main_cst_24 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩

abbrev nD : Nat := 1
abbrev τ : Topo := Topo.v7x

variable {F : FTy → Type} [FloatOps F]
-- ==== KernelUpDw.lean ====
abbrev S1x8192x2048 : Shape := ⟨3, ![1, 8192, 2048]⟩
abbrev S1x8192x12288 : Shape := ⟨3, ![1, 8192, 12288]⟩
abbrev S8192x2x6144 : Shape := ⟨3, ![8192, 2, 6144]⟩
abbrev S2x8192x6144 : Shape := ⟨3, ![2, 8192, 6144]⟩
abbrev S8192x2048 : Shape := ⟨2, ![8192, 2048]⟩
abbrev S8x2048x1536 : Shape := ⟨3, ![8, 2048, 1536]⟩
abbrev S2048x2048 : Shape := ⟨2, ![2048, 2048]⟩
abbrev S1x2048x768 : Shape := ⟨3, ![1, 2048, 768]⟩
abbrev S2048x768 : Shape := ⟨2, ![2048, 768]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S1x8192x12288, .f32⟩
  | .hbm, ⟨2, _⟩ => ⟨S8192x2x6144, .f32⟩
  | .hbm, ⟨3, _⟩ => ⟨S2x8192x6144, .f32⟩
  | .hbm, ⟨4, _⟩ => ⟨S2x8192x6144, .bf16⟩
  | .hbm, ⟨5, _⟩ => ⟨S8192x2048, .f32⟩
  | .hbm, ⟨6, _⟩ => ⟨S8192x2048, .bf16⟩
  | .hbm, ⟨7, _⟩ => ⟨S8x2048x1536, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x2048x768, .f32⟩
  | .local _ .vmem, ⟨5, _⟩ => ⟨S1x2048x768, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceUpDwIdeal.lean ====
abbrev S1x8192x2048 : Shape := ⟨3, ![1, 8192, 2048]⟩
abbrev S1x8192x12288 : Shape := ⟨3, ![1, 8192, 12288]⟩
abbrev S_ : Shape := ⟨0, ![]⟩
abbrev S2048x12288 : Shape := ⟨2, ![2048, 12288]⟩
abbrev S12288x2048 : Shape := ⟨2, ![12288, 2048]⟩
abbrev S2048x8x1536 : Shape := ⟨3, ![2048, 8, 1536]⟩
abbrev S8x2048x1536 : Shape := ⟨3, ![8, 2048, 1536]⟩

abbrev nBuf : Space → Nat
  | .hbm => 9
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x12288, .f32⟩
  | .hbm, ⟨2, _⟩ => ⟨S_, .f32⟩
  | .hbm, ⟨3, _⟩ => ⟨S2048x12288, .f32⟩
  | .hbm, ⟨4, _⟩ => ⟨S1x8192x12288, .f32⟩
  | .hbm, ⟨5, _⟩ => ⟨S12288x2048, .f32⟩
  | .hbm, ⟨6, _⟩ => ⟨S2048x12288, .f32⟩
  | .hbm, ⟨7, _⟩ => ⟨S2048x8x1536, .f32⟩
  | .hbm, ⟨8, _⟩ => ⟨S8x2048x1536, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelInDw.lean ====
abbrev S1x8192x2048 : Shape := ⟨3, ![1, 8192, 2048]⟩
abbrev S1x8192x4096 : Shape := ⟨3, ![1, 8192, 4096]⟩
abbrev S8192x2048 : Shape := ⟨2, ![8192, 2048]⟩
abbrev S8x2048x512 : Shape := ⟨3, ![8, 2048, 512]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S1x8192x4096, .f32⟩
  | .hbm, ⟨2, _⟩ => ⟨S8192x2048, .f32⟩
  | .hbm, ⟨3, _⟩ => ⟨S8192x2048, .bf16⟩
  | .hbm, ⟨4, _⟩ => ⟨S1x8192x4096, .bf16⟩
  | .hbm, ⟨5, _⟩ => ⟨S8x2048x512, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .f32⟩
  | .local _ .vmem, ⟨5, _⟩ => ⟨S1x2048x512, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceInDwIdeal.lean ====
abbrev S1x8192x2048 : Shape := ⟨3, ![1, 8192, 2048]⟩
abbrev S1x8192x4096 : Shape := ⟨3, ![1, 8192, 4096]⟩
abbrev S_ : Shape := ⟨0, ![]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x4096, .f32⟩
  | .hbm, ⟨2, _⟩ => ⟨S_, .f32⟩
  | .hbm, ⟨3, _⟩ => ⟨S2048x4096, .f32⟩
  | .hbm, ⟨4, _⟩ => ⟨S1x8192x4096, .f32⟩
  | .hbm, ⟨5, _⟩ => ⟨S4096x2048, .f32⟩
  | .hbm, ⟨6, _⟩ => ⟨S2048x4096, .f32⟩
  | .hbm, ⟨7, _⟩ => ⟨S2048x8x512, .f32⟩
  | .hbm, ⟨8, _⟩ => ⟨S8x2048x512, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDownDw.lean ====
abbrev S1x8192x6144 : Shape := ⟨3, ![1, 8192, 6144]⟩
abbrev S1x8192x2048 : Shape := ⟨3, ![1, 8192, 2048]⟩
abbrev S8192x6144 : Shape := ⟨2, ![8192, 6144]⟩
abbrev S8192x2048 : Shape := ⟨2, ![8192, 2048]⟩
abbrev S6144x2048 : Shape := ⟨2, ![6144, 2048]⟩
abbrev S2048x768 : Shape := ⟨2, ![2048, 768]⟩
abbrev S2048x2048 : Shape := ⟨2, ![2048, 2048]⟩
abbrev S768x2048 : Shape := ⟨2, ![768, 2048]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x6144, .f32⟩
  | .hbm, ⟨1, _⟩ => ⟨S1x8192x2048, .f32⟩
  | .hbm, ⟨2, _⟩ => ⟨S8192x6144, .f32⟩
  | .hbm, ⟨3, _⟩ => ⟨S8192x6144, .bf16⟩
  | .hbm, ⟨4, _⟩ => ⟨S8192x2048, .f32⟩
  | .hbm, ⟨5, _⟩ => ⟨S8192x2048, .bf16⟩
  | .hbm, ⟨6, _⟩ => ⟨S6144x2048, .f32⟩
  | .local _ .vmem, ⟨0, _⟩ => ⟨S2048x768, .bf16⟩
  | .local _ .vmem, ⟨1, _⟩ => ⟨S2048x768, .bf16⟩
  | .local _ .vmem, ⟨2, _⟩ => ⟨S2048x2048, .bf16⟩
  | .local _ .vmem, ⟨3, _⟩ => ⟨S2048x2048, .bf16⟩
  | .local _ .vmem, ⟨4, _⟩ => ⟨S768x2048, .f32⟩
  | .local _ .vmem, ⟨5, _⟩ => ⟨S768x2048, .f32⟩
  | _, _ => ⟨S1x8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDownDwIdeal.lean ====
abbrev S1x8192x6144 : Shape := ⟨3, ![1, 8192, 6144]⟩
abbrev S1x8192x2048 : Shape := ⟨3, ![1, 8192, 2048]⟩
abbrev S_ : Shape := ⟨0, ![]⟩
abbrev S6144x2048 : Shape := ⟨2, ![6144, 2048]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x6144, .f32⟩
  | .hbm, ⟨1, _⟩ => ⟨S1x8192x2048, .f32⟩
  | .hbm, ⟨2, _⟩ => ⟨S_, .f32⟩
  | .hbm, ⟨3, _⟩ => ⟨S6144x2048, .f32⟩
  | .hbm, ⟨4, _⟩ => ⟨S1x8192x2048, .f32⟩
  | .hbm, ⟨5, _⟩ => ⟨S2048x6144, .f32⟩
  | .hbm, ⟨6, _⟩ => ⟨S6144x2048, .f32⟩
  | _, _ => ⟨S1x8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOutDw.lean ====
abbrev S1x8192x2048 : Shape := ⟨3, ![1, 8192, 2048]⟩
abbrev S8192x2048 : Shape := ⟨2, ![8192, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S8192x2048, .bf16⟩
  | .hbm, ⟨6, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceOutDwIdeal.lean ====
abbrev S1x8192x2048 : Shape := ⟨3, ![1, 8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S_, .f32⟩
  | .hbm, ⟨3, _⟩ => ⟨S2048x2048, .f32⟩
  | .hbm, ⟨4, _⟩ => ⟨S1x8192x2048, .f32⟩
  | .hbm, ⟨5, _⟩ => ⟨S2048x2048, .f32⟩
  | .hbm, ⟨6, _⟩ => ⟨S2048x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOutDx.lean ====
abbrev S2048x2048 : Shape := ⟨2, ![2048, 2048]⟩
abbrev S1x8192x2048 : Shape := ⟨3, ![1, 8192, 2048]⟩
abbrev S8192x2048 : Shape := ⟨2, ![8192, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x8192x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutDxIdeal.lean ====
abbrev S2048x2048 : Shape := ⟨2, ![2048, 2048]⟩
abbrev S1x8192x2048 : Shape := ⟨3, ![1, 8192, 2048]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x8192x2048, .f32⟩
  | .hbm, ⟨2, _⟩ => ⟨S_, .f32⟩
  | .hbm, ⟨3, _⟩ => ⟨S1x8192x2048, .f32⟩
  | .hbm, ⟨4, _⟩ => ⟨S1x8192x2048, .f32⟩
  | .hbm, ⟨5, _⟩ => ⟨S1x8192x2048, .f32⟩
  | .hbm, ⟨6, _⟩ => ⟨S8192x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelUpDx.lean ====
abbrev S1x8192x2048 : Shape := ⟨3, ![1, 8192, 2048]⟩
abbrev S1x2048 : Shape := ⟨2, ![1, 2048]⟩
abbrev S2048x12288 : Shape := ⟨2, ![2048, 12288]⟩
abbrev S1x8192x12288 : Shape := ⟨3, ![1, 8192, 12288]⟩
abbrev S8192x2x6144 : Shape := ⟨3, ![8192, 2, 6144]⟩
abbrev S2x8192x6144 : Shape := ⟨3, ![2, 8192, 6144]⟩
abbrev S2048x8x1536 : Shape := ⟨3, ![2048, 8, 1536]⟩
abbrev S8x2048x1536 : Shape := ⟨3, ![8, 2048, 1536]⟩
abbrev S8192x2048 : Shape := ⟨2, ![8192, 2048]⟩
abbrev S1x512x1536 : Shape := ⟨3, ![1, 512, 1536]⟩
abbrev S1x2048x1536 : Shape := ⟨3, ![1, 2048, 1536]⟩
abbrev S512x2048 : Shape := ⟨2, ![512, 2048]⟩
abbrev S512x1536 : Shape := ⟨2, ![512, 1536]⟩
abbrev S2048x1536 : Shape := ⟨2, ![2048, 1536]⟩
abbrev S512 : Shape := ⟨1, ![512]⟩
abbrev S512x1 : Shape := ⟨2, ![512, 1]⟩
abbrev S2048 : Shape := ⟨1, ![2048]⟩

abbrev nBuf : Space → Nat
  | .hbm => 16
  | .vmem => 13
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S2048x12288, .f32⟩
  | .hbm, ⟨3, _⟩ => ⟨S1x8192x12288, .f32⟩
  | .hbm, ⟨4, _⟩ => ⟨S1x8192x2048, .f32⟩
  | .hbm, ⟨5, _⟩ => ⟨S8192x2x6144, .f32⟩
  | .hbm, ⟨6, _⟩ => ⟨S2x8192x6144, .f32⟩
  | .hbm, ⟨7, _⟩ => ⟨S2x8192x6144, .bf16⟩
  | .hbm, ⟨8, _⟩ => ⟨S2048x8x1536, .f32⟩
  | .hbm, ⟨9, _⟩ => ⟨S8x2048x1536, .f32⟩
  | .hbm, ⟨10, _⟩ => ⟨S8x2048x1536, .bf16⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .bf16⟩
  | .hbm, ⟨15, _⟩ => ⟨S1x2048, .f32⟩
  | .local _ .vmem, ⟨0, _⟩ => ⟨S1x512x1536, .bf16⟩
  | .local _ .vmem, ⟨1, _⟩ => ⟨S1x512x1536, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_13 : BitVec 32 := 0#32
  let v20 : BitVec 1 := Scalar.cmpi .ne v19 c0_i32_13
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceUpDxIdeal.lean ====
abbrev S1x8192x2048 : Shape := ⟨3, ![1, 8192, 2048]⟩
abbrev S1x2048 : Shape := ⟨2, ![1, 2048]⟩
abbrev S2048x12288 : Shape := ⟨2, ![2048, 12288]⟩
abbrev S1x8192x12288 : Shape := ⟨3, ![1, 8192, 12288]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S8192 : Shape := ⟨1, ![8192]⟩
abbrev S8192x2048 : Shape := ⟨2, ![8192, 2048]⟩

abbrev nBuf : Space → Nat
  | .hbm => 59
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S2048x12288, .f32⟩
  | .hbm, ⟨3, _⟩ => ⟨S1x8192x12288, .f32⟩
  | .hbm, ⟨4, _⟩ => ⟨S1x8192x2048, .f32⟩
  | .hbm, ⟨5, _⟩ => ⟨S2048, .f32⟩
  | .hbm, ⟨6, _⟩ => ⟨S1x8192x2048, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x2048, .f32⟩
  | .hbm, ⟨22, _⟩ => ⟨S1x8192x2048, .f32⟩
  | .hbm, ⟨23, _⟩ => ⟨S1x1x2048, .f32⟩
  | .hbm, ⟨24, _⟩ => ⟨S1x8192x2048, .f32⟩
  | .hbm, ⟨25, _⟩ => ⟨S1x8192x2048, .f32⟩
  | .hbm, ⟨26, _⟩ => ⟨S1x8192x12288, .f32⟩
  | .hbm, ⟨27, _⟩ => ⟨S1x8192x2048, .f32⟩
  | .hbm, ⟨28, _⟩ => ⟨S1x8192x2048, .f32⟩
  | .hbm, ⟨29, _⟩ => ⟨S_, .f32⟩
  | .hbm, ⟨30, _⟩ => ⟨S1x2048, .f32⟩
  | .hbm, ⟨31, _⟩ => ⟨S1x1x2048, .f32⟩
  | .hbm, ⟨32, _⟩ => ⟨S1x8192x2048, .f32⟩
  | .hbm, ⟨33, _⟩ => ⟨S1x8192x2048, .f32⟩
  | .hbm, ⟨34, _⟩ => ⟨S_, .f32⟩
  | .hbm, ⟨35, _⟩ => ⟨S2048, .f32⟩
  | .hbm, ⟨36, _⟩ => ⟨S1x8192x2048, .f32⟩
  | .hbm, ⟨37, _⟩ => ⟨S_, .f32⟩
  | .hbm, ⟨38, _⟩ => ⟨S1x8192, .f32⟩
  | .hbm, ⟨39, _⟩ => ⟨S1x8192x1, .f32⟩
  | .hbm, ⟨40, _⟩ => ⟨S1x8192x2048, .f32⟩
  | .hbm, ⟨41, _⟩ => ⟨S1x8192x2048, .f32⟩
  | .hbm, ⟨42, _⟩ => ⟨S1x8192x2048, .f32⟩
  | .hbm, ⟨43, _⟩ => ⟨S1x8192x1, .f32⟩
  | .hbm, ⟨44, _⟩ => ⟨S_, .f32⟩
  | .hbm, ⟨45, _⟩ => ⟨S1x8192x1, .f32⟩
  | .hbm, ⟨46, _⟩ => ⟨S1x8192x1, .f32⟩
  | .hbm, ⟨47, _⟩ => ⟨S_, .f32⟩
  | .hbm, ⟨48, _⟩ => ⟨S8192, .f32⟩
  | .hbm, ⟨49, _⟩ => ⟨S1x8192, .f32⟩
  | .hbm, ⟨50, _⟩ => ⟨S1x8192x2048, .f32⟩
  | .hbm, ⟨51, _⟩ => ⟨S1x8192x2048, .f32⟩
  | .hbm, ⟨52, _⟩ => ⟨S1x8192x2048, .f32⟩
  | .hbm, ⟨53, _⟩ => ⟨S1x8192x2048, .f32⟩
  | .hbm, ⟨54, _⟩ => ⟨S1x8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== KernelUp.lean ====
abbrev S1x8192x2048 : Shape := ⟨3, ![1, 8192, 2048]⟩
abbrev S2048x12288 : Shape := ⟨2, ![2048, 12288]⟩
abbrev S3x12288 : Shape := ⟨2, ![3, 12288]⟩
abbrev S12288 : Shape := ⟨1, ![12288]⟩
abbrev S2048x8x1536 : Shape := ⟨3, ![2048, 8, 1536]⟩
abbrev S8x2048x1536 : Shape := ⟨3, ![8, 2048, 1536]⟩
abbrev S8192x2048 : Shape := ⟨2, ![8192, 2048]⟩
abbrev S1x12288 : Shape := ⟨2, ![1, 12288]⟩
abbrev S2x8192x6144 : Shape := ⟨3, ![2, 8192, 6144]⟩
abbrev S8192x6144 : Shape := ⟨2, ![8192, 6144]⟩
abbrev S512x2048 : Shape := ⟨2, ![512, 2048]⟩
abbrev S16x2048 : Shape := ⟨2, ![16, 2048]⟩
abbrev S1x2048x1536 : Shape := ⟨3, ![1, 2048, 1536]⟩
abbrev S3x1536 : Shape := ⟨2, ![3, 1536]⟩
abbrev S1x1536 : Shape := ⟨2, ![1, 1536]⟩
abbrev S2x512x1536 : Shape := ⟨3, ![2, 512, 1536]⟩
abbrev S512x1536 : Shape := ⟨2, ![512, 1536]⟩
abbrev S528x2048 : Shape := ⟨2, ![528, 2048]⟩
abbrev S2048x1536 : Shape := ⟨2, ![2048, 1536]⟩
abbrev S528x1536 : Shape := ⟨2, ![528, 1536]⟩
abbrev S1x512x1536 : Shape := ⟨3, ![1, 512, 1536]⟩
abbrev S8x1536 : Shape := ⟨2, ![8, 1536]⟩
abbrev S520x1536 : Shape := ⟨2, ![520, 1536]⟩

abbrev nBuf : Space → Nat
  | .hbm => 13
  | .vmem => 22
  | .smem => 0
  | _ => 0

abbrev bufTy : (tb : Table) → Fin (tcTables nBuf tb) → BufTy
  | .hbm, ⟨0, _⟩ => ⟨S1x8192x2048, .f32⟩
  | .hbm, ⟨1, _⟩ => ⟨S2048x12288, .f32⟩
  | .hbm, ⟨2, _⟩ => ⟨S3x12288, .f32⟩
  | .hbm, ⟨3, _⟩ => ⟨S12288, .f32⟩
  | .hbm, ⟨4, _⟩ => ⟨S2048x8x1536, .f32⟩
  | .hbm, ⟨5, _⟩ => ⟨S8x2048x1536, .f32⟩
  | .hbm, ⟨6, _⟩ => ⟨S8x2048x1536, .bf16⟩
  | .hbm, ⟨7, _⟩ => ⟨S8192x2048, .f32⟩
  | .hbm, ⟨8, _⟩ => ⟨S8192x2048, .bf16⟩
  | .hbm, ⟨9, _⟩ => ⟨S1x12288, .f32⟩
  | .hbm, ⟨10, _⟩ => ⟨S2x8192x6144, .bf16⟩
  | .hbm, ⟨11, _⟩ => ⟨S2x8192x6144, .bf16⟩
  | .hbm, ⟨12, _⟩ => ⟨S8192x6144, .bf16⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x1536, .bf16⟩
  | .local _ .vmem, ⟨5, _⟩ => ⟨S1x2048x1536, .bf16⟩
  | .local _ .vmem, ⟨6, _⟩ => ⟨S1x2048x1536, .bf16⟩
  | .local _ .vmem, ⟨7, _⟩ => ⟨S1x2048x1536, .bf16⟩
  | .local _ .vmem, ⟨8, _⟩ => ⟨S3x1536, .f32⟩
  | .local _ .vmem, ⟨9, _⟩ => ⟨S3x1536, .f32⟩
  | .local _ .vmem, ⟨10, _⟩ => ⟨S3x1536, .f32⟩
  | .local _ .vmem, ⟨11, _⟩ => ⟨S3x1536, .f32⟩
  | .local _ .vmem, ⟨12, _⟩ => ⟨S1x1536, .f32⟩
  | .local _ .vmem, ⟨13, _⟩ => ⟨S1x1536, .f32⟩
  | .local _ .vmem, ⟨14, _⟩ => ⟨S1x1536, .f32⟩
  | .local _ .vmem, ⟨15, _⟩ => ⟨S1x1536, .f32⟩
  | .local _ .vmem, ⟨16, _⟩ => ⟨S2x512x1536, .bf16⟩
  | .local _ .vmem, ⟨17, _⟩ => ⟨S2x512x1536, .bf16⟩
  | .local _ .vmem, ⟨18, _⟩ => ⟨S2x512x1536, .bf16⟩
  | .local _ .vmem, ⟨19, _⟩ => ⟨S2x512x1536, .bf16⟩
  | .local _ .vmem, ⟨20, _⟩ => ⟨S512x1536, .bf16⟩
  | .local _ .vmem, ⟨21, _⟩ => ⟨S512x1536, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelUpIdeal.lean ====
variable {F : FTy → Type} [FloatOps F] [Named F]
def κ : String → Option EReal := fun
  | "gelu_ca" => some ((80338380498831 / 2251799813685248 : ℝ) : EReal)
  | _ => none
-- ==== ReferenceUpIdeal.lean ====
abbrev S1x8192x2048 : Shape := ⟨3, ![1, 8192, 2048]⟩
abbrev S2048x12288 : Shape := ⟨2, ![2048, 12288]⟩
abbrev S3x12288 : Shape := ⟨2, ![3, 12288]⟩
abbrev S12288 : Shape := ⟨1, ![12288]⟩
abbrev S1x8192x12288 : Shape := ⟨3, ![1, 8192, 12288]⟩
abbrev S_ : Shape := ⟨0, ![]⟩
abbrev S1x2x12288 : Shape := ⟨3, ![1, 2, 12288]⟩
abbrev S1x8194x12288 : Shape := ⟨3, ![1, 8194, 12288]⟩
abbrev S1x12288 : Shape := ⟨2, ![1, 12288]⟩
abbrev S1x1x12288 : Shape := ⟨3, ![1, 1, 12288]⟩
abbrev S1x8192x6144 : Shape := ⟨3, ![1, 8192, 6144]⟩
abbrev S2x8192x6144 : Shape := ⟨3, ![2, 8192, 6144]⟩
abbrev S8192x6144 : Shape := ⟨2, ![8192, 6144]⟩

abbrev nBuf : Space → Nat
  | .hbm => 59
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x12288, .f32⟩
  | .hbm, ⟨2, _⟩ => ⟨S3x12288, .f32⟩
  | .hbm, ⟨3, _⟩ => ⟨S12288, .f32⟩
  | .hbm, ⟨4, _⟩ => ⟨S1x8192x12288, .f32⟩
  | .hbm, ⟨5, _⟩ => ⟨S_, .f32⟩
  | .hbm, ⟨6, _⟩ => ⟨S1x2x12288, .f32⟩
  | .hbm, ⟨7, _⟩ => ⟨S1x8194x12288, .f32⟩
  | .hbm, ⟨8, _⟩ => ⟨S1x8192x12288, .f32⟩
  | .hbm, ⟨9, _⟩ => ⟨S1x12288, .f32⟩
  | .hbm, ⟨10, _⟩ => ⟨S12288, .f32⟩
  | .hbm, ⟨11, _⟩ => ⟨S1x1x12288, .f32⟩
  | .hbm, ⟨12, _⟩ => ⟨S1x8192x12288, .f32⟩
  | .hbm, ⟨13, _⟩ => ⟨S1x8192x12288, .f32⟩
  | .hbm, ⟨14, _⟩ => ⟨S1x1x12288, .f32⟩
  | .hbm, ⟨15, _⟩ => ⟨S1x8192x12288, .f32⟩
  | .hbm, ⟨16, _⟩ => ⟨S1x8192x12288, .f32⟩
  | .hbm, ⟨17, _⟩ => ⟨S1x8192x12288, .f32⟩
  | .hbm, ⟨18, _⟩ => ⟨S1x12288, .f32⟩
  | .hbm, ⟨19, _⟩ => ⟨S12288, .f32⟩
  | .hbm, ⟨20, _⟩ => ⟨S1x1x12288, .f32⟩
  | .hbm, ⟨21, _⟩ => ⟨S1x8192x12288, .f32⟩
  | .hbm, ⟨22, _⟩ => ⟨S1x8192x12288, .f32⟩
  | .hbm, ⟨23, _⟩ => ⟨S1x8192x12288, .f32⟩
  | .hbm, ⟨24, _⟩ => ⟨S1x8192x12288, .f32⟩
  | .hbm, ⟨25, _⟩ => ⟨S1x12288, .f32⟩
  | .hbm, ⟨26, _⟩ => ⟨S12288, .f32⟩
  | .hbm, ⟨27, _⟩ => ⟨S1x1x12288, .f32⟩
  | .hbm, ⟨28, _⟩ => ⟨S1x8192x12288, .f32⟩
  | .hbm, ⟨29, _⟩ => ⟨S1x8192x12288, .f32⟩
  | .hbm, ⟨30, _⟩ => ⟨S1x8192x12288, .f32⟩
  | .hbm, ⟨31, _⟩ => ⟨S1x8192x6144, .f32⟩
  | .hbm, ⟨32, _⟩ => ⟨S1x8192x6144, .f32⟩
  | .hbm, ⟨33, _⟩ => ⟨S1x8192x6144, .f32⟩
  | .hbm, ⟨34, _⟩ => ⟨S1x8192x6144, .f32⟩
  | .hbm, ⟨35, _⟩ => ⟨S2x8192x6144, .f32⟩
  | .hbm, ⟨36, _⟩ => ⟨S2x8192x6144, .bf16⟩
  | .hbm, ⟨37, _⟩ => ⟨S2x8192x6144, .f32⟩
  | .hbm, ⟨38, _⟩ => ⟨S2x8192x6144, .bf16⟩
  | .hbm, ⟨39, _⟩ => ⟨S1x8192x6144, .f32⟩
  | .hbm, ⟨40, _⟩ => ⟨S1x8192x6144, .f32⟩
  | .hbm, ⟨41, _⟩ => ⟨S_, .f32⟩
  | .hbm, ⟨42, _⟩ => ⟨S1x8192x6144, .f32⟩
  | .hbm, ⟨43, _⟩ => ⟨S1x8192x6144, .f32⟩
  | .hbm, ⟨44, _⟩ => ⟨S1x8192x6144, .f32⟩
  | .hbm, ⟨45, _⟩ => ⟨S_, .f32⟩
  | .hbm, ⟨46, _⟩ => ⟨S1x8192x6144, .f32⟩
  | .hbm, ⟨47, _⟩ => ⟨S1x8192x6144, .f32⟩
  | .hbm, ⟨48, _⟩ => ⟨S1x8192x6144, .f32⟩
  | .hbm, ⟨49, _⟩ => ⟨S_, .f32⟩
  | .hbm, ⟨50, _⟩ => ⟨S1x8192x6144, .f32⟩
  | .hbm, ⟨51, _⟩ => ⟨S1x8192x6144, .f32⟩
  | .hbm, ⟨52, _⟩ => ⟨S_, .f32⟩
  | .hbm, ⟨53, _⟩ => ⟨S1x8192x6144, .f32⟩
  | .hbm, ⟨54, _⟩ => ⟨S1x8192x6144, .f32⟩
  | .hbm, ⟨55, _⟩ => ⟨S1x8192x6144, .f32⟩
  | .hbm, ⟨56, _⟩ => ⟨S1x8192x6144, .f32⟩
  | .hbm, ⟨57, _⟩ => ⟨S8192x6144, .f32⟩
  | .hbm, ⟨58, _⟩ => ⟨S8192x6144, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_0 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_1 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== KernelLoss.lean ====
abbrev S1x8192x2048 : Shape := ⟨3, ![1, 8192, 2048]⟩
abbrev S1x8192x6144 : Shape := ⟨3, ![1, 8192, 6144]⟩
abbrev S6144x2048 : Shape := ⟨2, ![6144, 2048]⟩
abbrev S2048 : Shape := ⟨1, ![2048]⟩
abbrev S8192x2048 : Shape := ⟨2, ![8192, 2048]⟩
abbrev S8192x6144 : Shape := ⟨2, ![8192, 6144]⟩
abbrev S1x2048 : Shape := ⟨2, ![1, 2048]⟩
abbrev S8x128 : Shape := ⟨2, ![8, 128]⟩
abbrev S512x2048 : Shape := ⟨2, ![512, 2048]⟩
abbrev S512x768 : Shape := ⟨2, ![512, 768]⟩
abbrev S768x2048 : Shape := ⟨2, ![768, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 15
  | .vmem => 16
  | .smem => 0
  | _ => 0

abbrev bufTy : (tb : Table) → Fin (tcTables nBuf tb) → BufTy
  | .hbm, ⟨0, _⟩ => ⟨S1x8192x2048, .f32⟩
  | .hbm, ⟨1, _⟩ => ⟨S1x8192x6144, .f32⟩
  | .hbm, ⟨2, _⟩ => ⟨S6144x2048, .f32⟩
  | .hbm, ⟨3, _⟩ => ⟨S2048, .f32⟩
  | .hbm, ⟨4, _⟩ => ⟨S1x8192x2048, .f32⟩
  | .hbm, ⟨5, _⟩ => ⟨S8192x2048, .f32⟩
  | .hbm, ⟨6, _⟩ => ⟨S8192x6144, .f32⟩
  | .hbm, ⟨7, _⟩ => ⟨S8192x6144, .bf16⟩
  | .hbm, ⟨8, _⟩ => ⟨S6144x2048, .bf16⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .bf16⟩
  | .hbm, ⟨13, _⟩ => ⟨S8x128, .f32⟩
  | .hbm, ⟨14, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x768, .bf16⟩
  | .local _ .vmem, ⟨3, _⟩ => ⟨S512x768, .bf16⟩
  | .local _ .vmem, ⟨4, _⟩ => ⟨S768x2048, .bf16⟩
  | .local _ .vmem, ⟨5, _⟩ => ⟨S768x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S8x128, .f32⟩
  | .local _ .vmem, ⟨14, _⟩ => ⟨S1x2048, .f32⟩
  | .local _ .vmem, ⟨15, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceLossIdeal.lean ====
abbrev S1x8192x2048 : Shape := ⟨3, ![1, 8192, 2048]⟩
abbrev S1x8192x6144 : Shape := ⟨3, ![1, 8192, 6144]⟩
abbrev S6144x2048 : Shape := ⟨2, ![6144, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x2048 : Shape := ⟨2, ![1, 2048]⟩
abbrev S8192 : Shape := ⟨1, ![8192]⟩
abbrev S8192x2048 : Shape := ⟨2, ![8192, 2048]⟩
abbrev S8x128 : Shape := ⟨2, ![8, 128]⟩

abbrev nBuf : Space → Nat
  | .hbm => 81
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x6144, .f32⟩
  | .hbm, ⟨2, _⟩ => ⟨S6144x2048, .f32⟩
  | .hbm, ⟨3, _⟩ => ⟨S2048, .f32⟩
  | .hbm, ⟨4, _⟩ => ⟨S1x8192x2048, .f32⟩
  | .hbm, ⟨5, _⟩ => ⟨S1x8192x2048, .f32⟩
  | .hbm, ⟨6, _⟩ => ⟨S1x8192x2048, .f32⟩
  | .hbm, ⟨7, _⟩ => ⟨S1x8192x2048, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S1x8192x2048, .f32⟩
  | .hbm, ⟨23, _⟩ => ⟨S1x8192x2048, .f32⟩
  | .hbm, ⟨24, _⟩ => ⟨S1x1x2048, .f32⟩
  | .hbm, ⟨25, _⟩ => ⟨S1x8192x2048, .f32⟩
  | .hbm, ⟨26, _⟩ => ⟨S1x8192x2048, .f32⟩
  | .hbm, ⟨27, _⟩ => ⟨S1x8192x2048, .f32⟩
  | .hbm, ⟨28, _⟩ => ⟨S1x8192x2048, .f32⟩
  | .hbm, ⟨29, _⟩ => ⟨S_, .f32⟩
  | .hbm, ⟨30, _⟩ => ⟨S1x8192x2048, .f32⟩
  | .hbm, ⟨31, _⟩ => ⟨S1x8192x2048, .f32⟩
  | .hbm, ⟨32, _⟩ => ⟨S_, .f32⟩
  | .hbm, ⟨33, _⟩ => ⟨S1x8192, .f32⟩
  | .hbm, ⟨34, _⟩ => ⟨S_, .f32⟩
  | .hbm, ⟨35, _⟩ => ⟨S1x8192, .f32⟩
  | .hbm, ⟨36, _⟩ => ⟨S1x8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x8192, .f32⟩
  | .hbm, ⟨45, _⟩ => ⟨S_, .f32⟩
  | .hbm, ⟨46, _⟩ => ⟨S1x8192, .f32⟩
  | .hbm, ⟨47, _⟩ => ⟨S1x8192, .f32⟩
  | .hbm, ⟨48, _⟩ => ⟨S1x8192x2048, .f32⟩
  | .hbm, ⟨49, _⟩ => ⟨S1x8192x2048, .f32⟩
  | .hbm, ⟨50, _⟩ => ⟨S1x8192x2048, .f32⟩
  | .hbm, ⟨51, _⟩ => ⟨S_, .f32⟩
  | .hbm, ⟨52, _⟩ => ⟨S1x2048, .f32⟩
  | .hbm, ⟨53, _⟩ => ⟨S1x1x2048, .f32⟩
  | .hbm, ⟨54, _⟩ => ⟨S1x8192x2048, .f32⟩
  | .hbm, ⟨55, _⟩ => ⟨S1x8192x2048, .f32⟩
  | .hbm, ⟨56, _⟩ => ⟨S_, .f32⟩
  | .hbm, ⟨57, _⟩ => ⟨S2048, .f32⟩
  | .hbm, ⟨58, _⟩ => ⟨S1x8192x2048, .f32⟩
  | .hbm, ⟨59, _⟩ => ⟨S_, .f32⟩
  | .hbm, ⟨60, _⟩ => ⟨S1x8192, .f32⟩
  | .hbm, ⟨61, _⟩ => ⟨S1x8192x1, .f32⟩
  | .hbm, ⟨62, _⟩ => ⟨S1x8192x2048, .f32⟩
  | .hbm, ⟨63, _⟩ => ⟨S1x8192x2048, .f32⟩
  | .hbm, ⟨64, _⟩ => ⟨S1x8192x1, .f32⟩
  | .hbm, ⟨65, _⟩ => ⟨S_, .f32⟩
  | .hbm, ⟨66, _⟩ => ⟨S1x8192x1, .f32⟩
  | .hbm, ⟨67, _⟩ => ⟨S1x8192x1, .f32⟩
  | .hbm, ⟨68, _⟩ => ⟨S_, .f32⟩
  | .hbm, ⟨69, _⟩ => ⟨S8192, .f32⟩
  | .hbm, ⟨70, _⟩ => ⟨S1x8192, .f32⟩
  | .hbm, ⟨71, _⟩ => ⟨S1x8192x2048, .f32⟩
  | .hbm, ⟨72, _⟩ => ⟨S1x8192x2048, .f32⟩
  | .hbm, ⟨73, _⟩ => ⟨S1x8192x2048, .f32⟩
  | .hbm, ⟨74, _⟩ => ⟨S1x8192x2048, .f32⟩
  | .hbm, ⟨75, _⟩ => ⟨S1x8192x2048, .f32⟩
  | .hbm, ⟨76, _⟩ => ⟨S8192x2048, .f32⟩
  | .hbm, ⟨77, _⟩ => ⟨S8192x2048, .f32⟩
  | .hbm, ⟨78, _⟩ => ⟨S8192x2048, .bf16⟩
  | .hbm, ⟨79, _⟩ => ⟨S8x128, .f32⟩
  | .hbm, ⟨80, _⟩ => ⟨S1x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== KernelOut.lean ====
abbrev S1x8192x2048 : Shape := ⟨3, ![1, 8192, 2048]⟩
abbrev S2048x2048 : Shape := ⟨2, ![2048, 2048]⟩
abbrev S8192x2048 : Shape := ⟨2, ![8192, 2048]⟩
abbrev S512x2048 : Shape := ⟨2, ![512, 2048]⟩

abbrev nBuf : Space → Nat
  | .hbm => 8
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S2048x2048, .bf16⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceOutIdeal.lean ====
abbrev S1x8192x2048 : Shape := ⟨3, ![1, 8192, 2048]⟩
abbrev S2048x2048 : Shape := ⟨2, ![2048, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S2048x2048, .f32⟩
  | .hbm, ⟨3, _⟩ => ⟨S1x8192x2048, .f32⟩
  | .hbm, ⟨4, _⟩ => ⟨S1x8192x2048, .f32⟩
  | .hbm, ⟨5, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelNorm.lean ====
abbrev S1x8192x2048 : Shape := ⟨3, ![1, 8192, 2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S8192x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S1x8192x2048 : Shape := ⟨3, ![1, 8192, 2048]⟩
abbrev S1x2048 : Shape := ⟨2, ![1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S8192x2048 : Shape := ⟨2, ![8192, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S2048, .f32⟩
  | .hbm, ⟨3, _⟩ => ⟨S1x8192x2048, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x2048, .f32⟩
  | .hbm, ⟨15, _⟩ => ⟨S1x8192x2048, .f32⟩
  | .hbm, ⟨16, _⟩ => ⟨S1x1x2048, .f32⟩
  | .hbm, ⟨17, _⟩ => ⟨S1x8192x2048, .f32⟩
  | .hbm, ⟨18, _⟩ => ⟨S1x8192x2048, .f32⟩
  | .hbm, ⟨19, _⟩ => ⟨S8192x2048, .f32⟩
  | .hbm, ⟨20, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelInOwn.lean ====
abbrev S1x8192x2048 : Shape := ⟨3, ![1, 8192, 2048]⟩
abbrev S2048x4096 : Shape := ⟨2, ![2048, 4096]⟩
abbrev S2 : Shape := ⟨1, ![2]⟩
abbrev S8192x2048 : Shape := ⟨2, ![8192, 2048]⟩
abbrev S2048x8x512 : Shape := ⟨3, ![2048, 8, 512]⟩
abbrev S8x2048x512 : Shape := ⟨3, ![8, 2048, 512]⟩
abbrev S8192x4096 : Shape := ⟨2, ![8192, 4096]⟩
abbrev S1024x2048 : Shape := ⟨2, ![1024, 2048]⟩
abbrev S1x2048x512 : Shape := ⟨3, ![1, 2048, 512]⟩
abbrev S1 : Shape := ⟨1, ![1]⟩
abbrev S1024x512 : Shape := ⟨2, ![1024, 512]⟩
abbrev S2048x512 : Shape := ⟨2, ![2048, 512]⟩
abbrev S8192x1024 : Shape := ⟨2, ![8192, 1024]⟩

abbrev nBuf : Space → Nat
  | .hbm => 9
  | .vmem => 6
  | .smem => 1
  | _ => 0

abbrev bufTy : (tb : Table) → Fin (tcTables nBuf tb) → BufTy
  | .hbm, ⟨0, _⟩ => ⟨S1x8192x2048, .f32⟩
  | .hbm, ⟨1, _⟩ => ⟨S2048x4096, .f32⟩
  | .hbm, ⟨2, _⟩ => ⟨S8192x2048, .f32⟩
  | .hbm, ⟨3, _⟩ => ⟨S8192x2048, .bf16⟩
  | .hbm, ⟨4, _⟩ => ⟨S2048x8x512, .f32⟩
  | .hbm, ⟨5, _⟩ => ⟨S8x2048x512, .f32⟩
  | .hbm, ⟨6, _⟩ => ⟨S8x2048x512, .bf16⟩
  | .hbm, ⟨7, _⟩ => ⟨S8192x4096, .f32⟩
  | .hbm, ⟨8, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .smem, ⟨0, _⟩ => ⟨S2, .i32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S2) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S2) ![v0.toNat] S1.size (k0_off1_inb i)) numel1_S1
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInOwnIdeal.lean ====
abbrev S1x8192x2048 : Shape := ⟨3, ![1, 8192, 2048]⟩
abbrev S2048x4096 : Shape := ⟨2, ![2048, 4096]⟩
abbrev S1x8192x4096 : Shape := ⟨3, ![1, 8192, 4096]⟩
abbrev S1x8192x1024 : Shape := ⟨3, ![1, 8192, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x4096, .f32⟩
  | .hbm, ⟨2, _⟩ => ⟨S1x8192x4096, .f32⟩
  | .hbm, ⟨3, _⟩ => ⟨S1x8192x1024, .f32⟩
  | .hbm, ⟨4, _⟩ => ⟨S8192x1024, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelInRest.lean ====
abbrev S1x8192x2048 : Shape := ⟨3, ![1, 8192, 2048]⟩
abbrev S2048x4096 : Shape := ⟨2, ![2048, 4096]⟩
abbrev S8192x4096 : Shape := ⟨2, ![8192, 4096]⟩
abbrev S6 : Shape := ⟨1, ![6]⟩
abbrev S_ : Shape := ⟨0, ![]⟩
abbrev S8192x2048 : Shape := ⟨2, ![8192, 2048]⟩
abbrev S2048x8x512 : Shape := ⟨3, ![2048, 8, 512]⟩
abbrev S8x2048x512 : Shape := ⟨3, ![8, 2048, 512]⟩
abbrev S1024x2048 : Shape := ⟨2, ![1024, 2048]⟩
abbrev S1x2048x512 : Shape := ⟨3, ![1, 2048, 512]⟩
abbrev S1 : Shape := ⟨1, ![1]⟩
abbrev S1024x512 : Shape := ⟨2, ![1024, 512]⟩
abbrev S2048x512 : Shape := ⟨2, ![2048, 512]⟩

abbrev nBuf : Space → Nat
  | .hbm => 12
  | .vmem => 6
  | .smem => 1
  | _ => 0

abbrev bufTy : (tb : Table) → Fin (tcTables nBuf tb) → BufTy
  | .hbm, ⟨0, _⟩ => ⟨S1x8192x2048, .f32⟩
  | .hbm, ⟨1, _⟩ => ⟨S2048x4096, .f32⟩
  | .hbm, ⟨2, _⟩ => ⟨S8192x4096, .f32⟩
  | .hbm, ⟨3, _⟩ => ⟨S6, .i32⟩
  | .hbm, ⟨4, _⟩ => ⟨S_, .i32⟩
  | .hbm, ⟨5, _⟩ => ⟨S6, .i32⟩
  | .hbm, ⟨6, _⟩ => ⟨S8192x2048, .f32⟩
  | .hbm, ⟨7, _⟩ => ⟨S8192x2048, .bf16⟩
  | .hbm, ⟨8, _⟩ => ⟨S2048x8x512, .f32⟩
  | .hbm, ⟨9, _⟩ => ⟨S8x2048x512, .f32⟩
  | .hbm, ⟨10, _⟩ => ⟨S8x2048x512, .bf16⟩
  | .hbm, ⟨11, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .smem, ⟨0, _⟩ => ⟨S6, .i32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S6.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k0_off1_inb i)) numel1_S1
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInRestIdeal.lean ====
abbrev S1x8192x2048 : Shape := ⟨3, ![1, 8192, 2048]⟩
abbrev S2048x4096 : Shape := ⟨2, ![2048, 4096]⟩
abbrev S8192x4096 : Shape := ⟨2, ![8192, 4096]⟩
abbrev S8192x1024 : Shape := ⟨2, ![8192, 1024]⟩
abbrev S1x8192x4096 : Shape := ⟨3, ![1, 8192, 4096]⟩
abbrev S1x8192x3072 : Shape := ⟨3, ![1, 8192, 3072]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x4096, .f32⟩
  | .hbm, ⟨2, _⟩ => ⟨S8192x4096, .f32⟩
  | .hbm, ⟨3, _⟩ => ⟨S8192x1024, .f32⟩
  | .hbm, ⟨4, _⟩ => ⟨S1x8192x4096, .f32⟩
  | .hbm, ⟨5, _⟩ => ⟨S1x8192x3072, .f32⟩
  | .hbm, ⟨6, _⟩ => ⟨S8192x3072, .f32⟩
  | .hbm, ⟨7, _⟩ => ⟨S8192x4096, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWRows.lean ====
abbrev S8x2048x512 : Shape := ⟨3, ![8, 2048, 512]⟩
abbrev S2048x4096 : Shape := ⟨2, ![2048, 4096]⟩
abbrev S1x2048x512 : Shape := ⟨3, ![1, 2048, 512]⟩
abbrev S2048x512 : Shape := ⟨2, ![2048, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x512, .bf16⟩
  | .hbm, ⟨1, _⟩ => ⟨S2048x4096, .bf16⟩
  | .local _ .vmem, ⟨0, _⟩ => ⟨S1x2048x512, .bf16⟩
  | .local _ .vmem, ⟨1, _⟩ => ⟨S1x2048x512, .bf16⟩
  | .local _ .vmem, ⟨2, _⟩ => ⟨S2048x512, .bf16⟩
  | .local _ .vmem, ⟨3, _⟩ => ⟨S2048x512, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceWRowsIdeal.lean ====
abbrev S8x2048x512 : Shape := ⟨3, ![8, 2048, 512]⟩
abbrev S2048x8x512 : Shape := ⟨3, ![2048, 8, 512]⟩
abbrev S2048x4096 : Shape := ⟨2, ![2048, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S2048x8x512, .bf16⟩
  | .hbm, ⟨2, _⟩ => ⟨S2048x4096, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== KernelInDx.lean ====
abbrev S1x8192x2048 : Shape := ⟨3, ![1, 8192, 2048]⟩
abbrev S1x2048 : Shape := ⟨2, ![1, 2048]⟩
abbrev S2048x4096 : Shape := ⟨2, ![2048, 4096]⟩
abbrev S1x8192x4096 : Shape := ⟨3, ![1, 8192, 4096]⟩
abbrev S8192x4096 : Shape := ⟨2, ![8192, 4096]⟩
abbrev S8192x2048 : Shape := ⟨2, ![8192, 2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 15
  | .vmem => 22
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S2048x4096, .f32⟩
  | .hbm, ⟨3, _⟩ => ⟨S1x8192x4096, .f32⟩
  | .hbm, ⟨4, _⟩ => ⟨S1x8192x2048, .f32⟩
  | .hbm, ⟨5, _⟩ => ⟨S8192x4096, .f32⟩
  | .hbm, ⟨6, _⟩ => ⟨S8192x4096, .bf16⟩
  | .hbm, ⟨7, _⟩ => ⟨S2048x4096, .bf16⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S1x2048, .f32⟩
  | .hbm, ⟨14, _⟩ => ⟨S1x2048, .f32⟩
  | .local _ .vmem, ⟨0, _⟩ => ⟨S256x4096, .bf16⟩
  | .local _ .vmem, ⟨1, _⟩ => ⟨S256x4096, .bf16⟩
  | .local _ .vmem, ⟨2, _⟩ => ⟨S2048x4096, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x4096, .bf16⟩
  | .local _ .vmem, ⟨12, _⟩ => ⟨S256x4096, .bf16⟩
  | .local _ .vmem, ⟨13, _⟩ => ⟨S2048x4096, .bf16⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | .local _ .vmem, ⟨21, _⟩ => ⟨S1x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20
abbrev cc1_sem6_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceInDxIdeal.lean ====
abbrev S1x8192x2048 : Shape := ⟨3, ![1, 8192, 2048]⟩
abbrev S1x2048 : Shape := ⟨2, ![1, 2048]⟩
abbrev S2048x4096 : Shape := ⟨2, ![2048, 4096]⟩
abbrev S1x8192x4096 : Shape := ⟨3, ![1, 8192, 4096]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S8192 : Shape := ⟨1, ![8192]⟩
abbrev S8192x2048 : Shape := ⟨2, ![8192, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S2048x4096, .f32⟩
  | .hbm, ⟨3, _⟩ => ⟨S1x8192x4096, .f32⟩
  | .hbm, ⟨4, _⟩ => ⟨S1x8192x2048, .f32⟩
  | .hbm, ⟨5, _⟩ => ⟨S2048, .f32⟩
  | .hbm, ⟨6, _⟩ => ⟨S1x8192x2048, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x2048, .f32⟩
  | .hbm, ⟨22, _⟩ => ⟨S1x8192x2048, .f32⟩
  | .hbm, ⟨23, _⟩ => ⟨S1x1x2048, .f32⟩
  | .hbm, ⟨24, _⟩ => ⟨S1x8192x2048, .f32⟩
  | .hbm, ⟨25, _⟩ => ⟨S1x8192x2048, .f32⟩
  | .hbm, ⟨26, _⟩ => ⟨S1x8192x4096, .f32⟩
  | .hbm, ⟨27, _⟩ => ⟨S1x8192x2048, .f32⟩
  | .hbm, ⟨28, _⟩ => ⟨S1x8192x2048, .f32⟩
  | .hbm, ⟨29, _⟩ => ⟨S_, .f32⟩
  | .hbm, ⟨30, _⟩ => ⟨S1x2048, .f32⟩
  | .hbm, ⟨31, _⟩ => ⟨S1x1x2048, .f32⟩
  | .hbm, ⟨32, _⟩ => ⟨S1x8192x2048, .f32⟩
  | .hbm, ⟨33, _⟩ => ⟨S1x8192x2048, .f32⟩
  | .hbm, ⟨34, _⟩ => ⟨S_, .f32⟩
  | .hbm, ⟨35, _⟩ => ⟨S2048, .f32⟩
  | .hbm, ⟨36, _⟩ => ⟨S1x8192x2048, .f32⟩
  | .hbm, ⟨37, _⟩ => ⟨S_, .f32⟩
  | .hbm, ⟨38, _⟩ => ⟨S1x8192, .f32⟩
  | .hbm, ⟨39, _⟩ => ⟨S1x8192x1, .f32⟩
  | .hbm, ⟨40, _⟩ => ⟨S1x8192x2048, .f32⟩
  | .hbm, ⟨41, _⟩ => ⟨S1x8192x2048, .f32⟩
  | .hbm, ⟨42, _⟩ => ⟨S1x8192x2048, .f32⟩
  | .hbm, ⟨43, _⟩ => ⟨S1x8192x1, .f32⟩
  | .hbm, ⟨44, _⟩ => ⟨S_, .f32⟩
  | .hbm, ⟨45, _⟩ => ⟨S1x8192x1, .f32⟩
  | .hbm, ⟨46, _⟩ => ⟨S1x8192x1, .f32⟩
  | .hbm, ⟨47, _⟩ => ⟨S_, .f32⟩
  | .hbm, ⟨48, _⟩ => ⟨S8192, .f32⟩
  | .hbm, ⟨49, _⟩ => ⟨S1x8192, .f32⟩
  | .hbm, ⟨50, _⟩ => ⟨S1x8192x2048, .f32⟩
  | .hbm, ⟨51, _⟩ => ⟨S1x8192x2048, .f32⟩
  | .hbm, ⟨52, _⟩ => ⟨S1x8192x2048, .f32⟩
  | .hbm, ⟨53, _⟩ => ⟨S1x8192x2048, .f32⟩
  | .hbm, ⟨54, _⟩ => ⟨S1x8192x2048, .f32⟩
  | .hbm, ⟨55, _⟩ => ⟨S1x2048, .f32⟩
  | .hbm, ⟨56, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== KernelAdamDown.lean ====
abbrev S1x768x2048 : Shape := ⟨3, ![1, 768, 2048]⟩
abbrev S768x2048 : Shape := ⟨2, ![768, 2048]⟩
abbrev S3x768x2048 : Shape := ⟨3, ![3, 768, 2048]⟩
abbrev S64x2048 : Shape := ⟨2, ![64, 2048]⟩
abbrev S1x64x2048 : Shape := ⟨3, ![1, 64, 2048]⟩

abbrev nBuf : Space → Nat
  | .hbm => 13
  | .vmem => 22
  | .smem => 0
  | _ => 0

abbrev bufTy : (tb : Table) → Fin (tcTables nBuf tb) → BufTy
  | .hbm, ⟨0, _⟩ => ⟨S1x768x2048, .f32⟩
  | .hbm, ⟨1, _⟩ => ⟨S1x768x2048, .f32⟩
  | .hbm, ⟨2, _⟩ => ⟨S1x768x2048, .f32⟩
  | .hbm, ⟨3, _⟩ => ⟨S768x2048, .f32⟩
  | .hbm, ⟨4, _⟩ => ⟨S3x768x2048, .f32⟩
  | .hbm, ⟨5, _⟩ => ⟨S3x768x2048, .bf16⟩
  | .hbm, ⟨6, _⟩ => ⟨S768x2048, .f32⟩
  | .hbm, ⟨7, _⟩ => ⟨S768x2048, .f32⟩
  | .hbm, ⟨8, _⟩ => ⟨S768x2048, .f32⟩
  | .hbm, ⟨9, _⟩ => ⟨S768x2048, .f32⟩
  | .hbm, ⟨10, _⟩ => ⟨S768x2048, .f32⟩
  | .hbm, ⟨11, _⟩ => ⟨S768x2048, .f32⟩
  | .hbm, ⟨12, _⟩ => ⟨S768x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S1x64x2048, .bf16⟩
  | .local _ .vmem, ⟨9, _⟩ => ⟨S1x64x2048, .bf16⟩
  | .local _ .vmem, ⟨10, _⟩ => ⟨S1x64x2048, .bf16⟩
  | .local _ .vmem, ⟨11, _⟩ => ⟨S1x64x2048, .bf16⟩
  | .local _ .vmem, ⟨12, _⟩ => ⟨S1x64x2048, .bf16⟩
  | .local _ .vmem, ⟨13, _⟩ => ⟨S1x64x2048, .bf16⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | _, _ => ⟨S1x768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelAdamDownIdeal.lean ====
abbrev S1x768x2048 : Shape := ⟨3, ![1, 768, 2048]⟩
abbrev S768x2048 : Shape := ⟨2, ![768, 2048]⟩
abbrev S3x768x2048 : Shape := ⟨3, ![3, 768, 2048]⟩
abbrev S64x2048 : Shape := ⟨2, ![64, 2048]⟩
abbrev S1x64x2048 : Shape := ⟨3, ![1, 64, 2048]⟩

abbrev nBuf : Space → Nat
  | .hbm => 13
  | .vmem => 22
  | .smem => 0
  | _ => 0

abbrev bufTy : (tb : Table) → Fin (tcTables nBuf tb) → BufTy
  | .hbm, ⟨0, _⟩ => ⟨S1x768x2048, .f32⟩
  | .hbm, ⟨1, _⟩ => ⟨S1x768x2048, .f32⟩
  | .hbm, ⟨2, _⟩ => ⟨S1x768x2048, .f32⟩
  | .hbm, ⟨3, _⟩ => ⟨S768x2048, .f32⟩
  | .hbm, ⟨4, _⟩ => ⟨S3x768x2048, .f32⟩
  | .hbm, ⟨5, _⟩ => ⟨S3x768x2048, .bf16⟩
  | .hbm, ⟨6, _⟩ => ⟨S768x2048, .f32⟩
  | .hbm, ⟨7, _⟩ => ⟨S768x2048, .f32⟩
  | .hbm, ⟨8, _⟩ => ⟨S768x2048, .f32⟩
  | .hbm, ⟨9, _⟩ => ⟨S768x2048, .f32⟩
  | .hbm, ⟨10, _⟩ => ⟨S768x2048, .f32⟩
  | .hbm, ⟨11, _⟩ => ⟨S768x2048, .f32⟩
  | .hbm, ⟨12, _⟩ => ⟨S768x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S1x64x2048, .bf16⟩
  | .local _ .vmem, ⟨9, _⟩ => ⟨S1x64x2048, .bf16⟩
  | .local _ .vmem, ⟨10, _⟩ => ⟨S1x64x2048, .bf16⟩
  | .local _ .vmem, ⟨11, _⟩ => ⟨S1x64x2048, .bf16⟩
  | .local _ .vmem, ⟨12, _⟩ => ⟨S1x64x2048, .bf16⟩
  | .local _ .vmem, ⟨13, _⟩ => ⟨S1x64x2048, .bf16⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | _, _ => ⟨S1x768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceAdamDownIdeal.lean ====
abbrev S1x768x2048 : Shape := ⟨3, ![1, 768, 2048]⟩
abbrev S768x2048 : Shape := ⟨2, ![768, 2048]⟩
abbrev S3x768x2048 : Shape := ⟨3, ![3, 768, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x768x2048, .f32⟩
  | .hbm, ⟨1, _⟩ => ⟨S1x768x2048, .f32⟩
  | .hbm, ⟨2, _⟩ => ⟨S1x768x2048, .f32⟩
  | .hbm, ⟨3, _⟩ => ⟨S768x2048, .f32⟩
  | .hbm, ⟨4, _⟩ => ⟨S3x768x2048, .f32⟩
  | .hbm, ⟨5, _⟩ => ⟨S_, .f32⟩
  | .hbm, ⟨6, _⟩ => ⟨S768x2048, .f32⟩
  | .hbm, ⟨7, _⟩ => ⟨S768x2048, .f32⟩
  | .hbm, ⟨8, _⟩ => ⟨S768x2048, .f32⟩
  | .hbm, ⟨9, _⟩ => ⟨S768x2048, .f32⟩
  | .hbm, ⟨10, _⟩ => ⟨S768x2048, .f32⟩
  | .hbm, ⟨11, _⟩ => ⟨S_, .f32⟩
  | .hbm, ⟨12, _⟩ => ⟨S768x2048, .f32⟩
  | .hbm, ⟨13, _⟩ => ⟨S768x2048, .f32⟩
  | .hbm, ⟨14, _⟩ => ⟨S_, .f32⟩
  | .hbm, ⟨15, _⟩ => ⟨S768x2048, .f32⟩
  | .hbm, ⟨16, _⟩ => ⟨S768x2048, .f32⟩
  | .hbm, ⟨17, _⟩ => ⟨S768x2048, .f32⟩
  | .hbm, ⟨18, _⟩ => ⟨S_, .f32⟩
  | .hbm, ⟨19, _⟩ => ⟨S768x2048, .f32⟩
  | .hbm, ⟨20, _⟩ => ⟨S768x2048, .f32⟩
  | .hbm, ⟨21, _⟩ => ⟨S768x2048, .f32⟩
  | .hbm, ⟨22, _⟩ => ⟨S_, .f32⟩
  | .hbm, ⟨23, _⟩ => ⟨S768x2048, .f32⟩
  | .hbm, ⟨24, _⟩ => ⟨S768x2048, .f32⟩
  | .hbm, ⟨25, _⟩ => ⟨S768x2048, .f32⟩
  | .hbm, ⟨26, _⟩ => ⟨S_, .f32⟩
  | .hbm, ⟨27, _⟩ => ⟨S768x2048, .f32⟩
  | .hbm, ⟨28, _⟩ => ⟨S768x2048, .f32⟩
  | .hbm, ⟨29, _⟩ => ⟨S_, .f32⟩
  | .hbm, ⟨30, _⟩ => ⟨S768x2048, .f32⟩
  | .hbm, ⟨31, _⟩ => ⟨S768x2048, .f32⟩
  | .hbm, ⟨32, _⟩ => ⟨S768x2048, .f32⟩
  | .hbm, ⟨33, _⟩ => ⟨S_, .f32⟩
  | .hbm, ⟨34, _⟩ => ⟨S768x2048, .f32⟩
  | .hbm, ⟨35, _⟩ => ⟨S768x2048, .f32⟩
  | .hbm, ⟨36, _⟩ => ⟨S768x2048, .f32⟩
  | .hbm, ⟨37, _⟩ => ⟨S_, .f32⟩
  | .hbm, ⟨38, _⟩ => ⟨S768x2048, .f32⟩
  | .hbm, ⟨39, _⟩ => ⟨S768x2048, .f32⟩
  | .hbm, ⟨40, _⟩ => ⟨S768x2048, .f32⟩
  | .hbm, ⟨41, _⟩ => ⟨S_, .f32⟩
  | .hbm, ⟨42, _⟩ => ⟨S768x2048, .f32⟩
  | .hbm, ⟨43, _⟩ => ⟨S768x2048, .f32⟩
  | _, _ => ⟨S1x768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== KernelAdamUp.lean ====
abbrev S1x2048x1536 : Shape := ⟨3, ![1, 2048, 1536]⟩
abbrev S2048x1536 : Shape := ⟨2, ![2048, 1536]⟩
abbrev S3x2048x1536 : Shape := ⟨3, ![3, 2048, 1536]⟩
abbrev S64x1536 : Shape := ⟨2, ![64, 1536]⟩
abbrev S1x64x1536 : Shape := ⟨3, ![1, 64, 1536]⟩

abbrev nBuf : Space → Nat
  | .hbm => 13
  | .vmem => 22
  | .smem => 0
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S1x2048x1536, .f32⟩
  | .hbm, ⟨3, _⟩ => ⟨S2048x1536, .f32⟩
  | .hbm, ⟨4, _⟩ => ⟨S3x2048x1536, .f32⟩
  | .hbm, ⟨5, _⟩ => ⟨S3x2048x1536, .bf16⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S2048x1536, .f32⟩
  | .hbm, ⟨12, _⟩ => ⟨S2048x1536, .f32⟩
  | .local _ .vmem, ⟨0, _⟩ => ⟨S64x1536, .f32⟩
  | .local _ .vmem, ⟨1, _⟩ => ⟨S64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S64x1536, .f32⟩
  | .local _ .vmem, ⟨7, _⟩ => ⟨S64x1536, .f32⟩
  | .local _ .vmem, ⟨8, _⟩ => ⟨S1x64x1536, .bf16⟩
  | .local _ .vmem, ⟨9, _⟩ => ⟨S1x64x1536, .bf16⟩
  | .local _ .vmem, ⟨10, _⟩ => ⟨S1x64x1536, .bf16⟩
  | .local _ .vmem, ⟨11, _⟩ => ⟨S1x64x1536, .bf16⟩
  | .local _ .vmem, ⟨12, _⟩ => ⟨S1x64x1536, .bf16⟩
  | .local _ .vmem, ⟨13, _⟩ => ⟨S1x64x1536, .bf16⟩
  | .local _ .vmem, ⟨14, _⟩ => ⟨S64x1536, .f32⟩
  | .local _ .vmem, ⟨15, _⟩ => ⟨S64x1536, .f32⟩
  | .local _ .vmem, ⟨16, _⟩ => ⟨S64x1536, .f32⟩
  | .local _ .vmem, ⟨17, _⟩ => ⟨S64x1536, .f32⟩
  | .local _ .vmem, ⟨18, _⟩ => ⟨S64x1536, .f32⟩
  | .local _ .vmem, ⟨19, _⟩ => ⟨S64x1536, .f32⟩
  | .local _ .vmem, ⟨20, _⟩ => ⟨S64x1536, .f32⟩
  | .local _ .vmem, ⟨21, _⟩ => ⟨S64x1536, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelAdamUpIdeal.lean ====
abbrev S1x2048x1536 : Shape := ⟨3, ![1, 2048, 1536]⟩
abbrev S2048x1536 : Shape := ⟨2, ![2048, 1536]⟩
abbrev S3x2048x1536 : Shape := ⟨3, ![3, 2048, 1536]⟩
abbrev S64x1536 : Shape := ⟨2, ![64, 1536]⟩
abbrev S1x64x1536 : Shape := ⟨3, ![1, 64, 1536]⟩

abbrev nBuf : Space → Nat
  | .hbm => 13
  | .vmem => 22
  | .smem => 0
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S1x2048x1536, .f32⟩
  | .hbm, ⟨3, _⟩ => ⟨S2048x1536, .f32⟩
  | .hbm, ⟨4, _⟩ => ⟨S3x2048x1536, .f32⟩
  | .hbm, ⟨5, _⟩ => ⟨S3x2048x1536, .bf16⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S2048x1536, .f32⟩
  | .hbm, ⟨12, _⟩ => ⟨S2048x1536, .f32⟩
  | .local _ .vmem, ⟨0, _⟩ => ⟨S64x1536, .f32⟩
  | .local _ .vmem, ⟨1, _⟩ => ⟨S64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S64x1536, .f32⟩
  | .local _ .vmem, ⟨7, _⟩ => ⟨S64x1536, .f32⟩
  | .local _ .vmem, ⟨8, _⟩ => ⟨S1x64x1536, .bf16⟩
  | .local _ .vmem, ⟨9, _⟩ => ⟨S1x64x1536, .bf16⟩
  | .local _ .vmem, ⟨10, _⟩ => ⟨S1x64x1536, .bf16⟩
  | .local _ .vmem, ⟨11, _⟩ => ⟨S1x64x1536, .bf16⟩
  | .local _ .vmem, ⟨12, _⟩ => ⟨S1x64x1536, .bf16⟩
  | .local _ .vmem, ⟨13, _⟩ => ⟨S1x64x1536, .bf16⟩
  | .local _ .vmem, ⟨14, _⟩ => ⟨S64x1536, .f32⟩
  | .local _ .vmem, ⟨15, _⟩ => ⟨S64x1536, .f32⟩
  | .local _ .vmem, ⟨16, _⟩ => ⟨S64x1536, .f32⟩
  | .local _ .vmem, ⟨17, _⟩ => ⟨S64x1536, .f32⟩
  | .local _ .vmem, ⟨18, _⟩ => ⟨S64x1536, .f32⟩
  | .local _ .vmem, ⟨19, _⟩ => ⟨S64x1536, .f32⟩
  | .local _ .vmem, ⟨20, _⟩ => ⟨S64x1536, .f32⟩
  | .local _ .vmem, ⟨21, _⟩ => ⟨S64x1536, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceAdamUpIdeal.lean ====
abbrev S1x2048x1536 : Shape := ⟨3, ![1, 2048, 1536]⟩
abbrev S2048x1536 : Shape := ⟨2, ![2048, 1536]⟩
abbrev S3x2048x1536 : Shape := ⟨3, ![3, 2048, 1536]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S1x2048x1536, .f32⟩
  | .hbm, ⟨3, _⟩ => ⟨S2048x1536, .f32⟩
  | .hbm, ⟨4, _⟩ => ⟨S3x2048x1536, .f32⟩
  | .hbm, ⟨5, _⟩ => ⟨S_, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S_, .f32⟩
  | .hbm, ⟨15, _⟩ => ⟨S2048x1536, .f32⟩
  | .hbm, ⟨16, _⟩ => ⟨S2048x1536, .f32⟩
  | .hbm, ⟨17, _⟩ => ⟨S2048x1536, .f32⟩
  | .hbm, ⟨18, _⟩ => ⟨S_, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S_, .f32⟩
  | .hbm, ⟨30, _⟩ => ⟨S2048x1536, .f32⟩
  | .hbm, ⟨31, _⟩ => ⟨S2048x1536, .f32⟩
  | .hbm, ⟨32, _⟩ => ⟨S2048x1536, .f32⟩
  | .hbm, ⟨33, _⟩ => ⟨S_, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S_, .f32⟩
  | .hbm, ⟨38, _⟩ => ⟨S2048x1536, .f32⟩
  | .hbm, ⟨39, _⟩ => ⟨S2048x1536, .f32⟩
  | .hbm, ⟨40, _⟩ => ⟨S2048x1536, .f32⟩
  | .hbm, ⟨41, _⟩ => ⟨S_, .f32⟩
  | .hbm, ⟨42, _⟩ => ⟨S2048x1536, .f32⟩
  | .hbm, ⟨43, _⟩ => ⟨S2048x1536, .f32⟩
  | _, _ => ⟨S1x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== KernelAdamOut.lean ====
abbrev S1x256x2048 : Shape := ⟨3, ![1, 256, 2048]⟩
abbrev S256x2048 : Shape := ⟨2, ![256, 2048]⟩
abbrev S3x256x2048 : Shape := ⟨3, ![3, 256, 2048]⟩
abbrev S64x2048 : Shape := ⟨2, ![64, 2048]⟩
abbrev S1x64x2048 : Shape := ⟨3, ![1, 64, 2048]⟩

abbrev nBuf : Space → Nat
  | .hbm => 13
  | .vmem => 22
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S256x2048, .f32⟩
  | .hbm, ⟨4, _⟩ => ⟨S3x256x2048, .f32⟩
  | .hbm, ⟨5, _⟩ => ⟨S3x256x2048, .bf16⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S256x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S1x64x2048, .bf16⟩
  | .local _ .vmem, ⟨9, _⟩ => ⟨S1x64x2048, .bf16⟩
  | .local _ .vmem, ⟨10, _⟩ => ⟨S1x64x2048, .bf16⟩
  | .local _ .vmem, ⟨11, _⟩ => ⟨S1x64x2048, .bf16⟩
  | .local _ .vmem, ⟨12, _⟩ => ⟨S1x64x2048, .bf16⟩
  | .local _ .vmem, ⟨13, _⟩ => ⟨S1x64x2048, .bf16⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelAdamOutIdeal.lean ====
abbrev S1x256x2048 : Shape := ⟨3, ![1, 256, 2048]⟩
abbrev S256x2048 : Shape := ⟨2, ![256, 2048]⟩
abbrev S3x256x2048 : Shape := ⟨3, ![3, 256, 2048]⟩
abbrev S64x2048 : Shape := ⟨2, ![64, 2048]⟩
abbrev S1x64x2048 : Shape := ⟨3, ![1, 64, 2048]⟩

abbrev nBuf : Space → Nat
  | .hbm => 13
  | .vmem => 22
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S256x2048, .f32⟩
  | .hbm, ⟨4, _⟩ => ⟨S3x256x2048, .f32⟩
  | .hbm, ⟨5, _⟩ => ⟨S3x256x2048, .bf16⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S256x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S1x64x2048, .bf16⟩
  | .local _ .vmem, ⟨9, _⟩ => ⟨S1x64x2048, .bf16⟩
  | .local _ .vmem, ⟨10, _⟩ => ⟨S1x64x2048, .bf16⟩
  | .local _ .vmem, ⟨11, _⟩ => ⟨S1x64x2048, .bf16⟩
  | .local _ .vmem, ⟨12, _⟩ => ⟨S1x64x2048, .bf16⟩
  | .local _ .vmem, ⟨13, _⟩ => ⟨S1x64x2048, .bf16⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceAdamOutIdeal.lean ====
abbrev S1x256x2048 : Shape := ⟨3, ![1, 256, 2048]⟩
abbrev S256x2048 : Shape := ⟨2, ![256, 2048]⟩
abbrev S3x256x2048 : Shape := ⟨3, ![3, 256, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S256x2048, .f32⟩
  | .hbm, ⟨4, _⟩ => ⟨S3x256x2048, .f32⟩
  | .hbm, ⟨5, _⟩ => ⟨S_, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== KernelAdamIn.lean ====
abbrev S1x2048x512 : Shape := ⟨3, ![1, 2048, 512]⟩
abbrev S2048x512 : Shape := ⟨2, ![2048, 512]⟩
abbrev S3x2048x512 : Shape := ⟨3, ![3, 2048, 512]⟩
abbrev S256x512 : Shape := ⟨2, ![256, 512]⟩
abbrev S1x256x512 : Shape := ⟨3, ![1, 256, 512]⟩

abbrev nBuf : Space → Nat
  | .hbm => 13
  | .vmem => 22
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S2048x512, .f32⟩
  | .hbm, ⟨4, _⟩ => ⟨S3x2048x512, .f32⟩
  | .hbm, ⟨5, _⟩ => ⟨S3x2048x512, .bf16⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceAdamInIdeal.lean ====
abbrev S1x2048x512 : Shape := ⟨3, ![1, 2048, 512]⟩
abbrev S2048x512 : Shape := ⟨2, ![2048, 512]⟩
abbrev S3x2048x512 : Shape := ⟨3, ![3, 2048, 512]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S2048x512, .f32⟩
  | .hbm, ⟨4, _⟩ => ⟨S3x2048x512, .f32⟩
  | .hbm, ⟨5, _⟩ => ⟨S_, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== KernelAdamLru.lean ====
abbrev S1x4x128 : Shape := ⟨3, ![1, 4, 128]⟩
abbrev S4x128 : Shape := ⟨2, ![4, 128]⟩

abbrev nBuf : Space → Nat
  | .hbm => 11
  | .vmem => 8
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128, .f32⟩
  | .hbm, ⟨10, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S1x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelAdamLruIdeal.lean ====
abbrev S1x4x128 : Shape := ⟨3, ![1, 4, 128]⟩
abbrev S4x128 : Shape := ⟨2, ![4, 128]⟩

abbrev nBuf : Space → Nat
  | .hbm => 11
  | .vmem => 8
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128, .f32⟩
  | .hbm, ⟨10, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S1x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamLruIdeal.lean ====
abbrev S1x4x128 : Shape := ⟨3, ![1, 4, 128]⟩
abbrev S4x128 : Shape := ⟨2, ![4, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S_, .f32⟩
  | .hbm, ⟨11, _⟩ => ⟨S4x128, .f32⟩
  | .hbm, ⟨12, _⟩ => ⟨S4x128, .f32⟩
  | .hbm, ⟨13, _⟩ => ⟨S4x128, .f32⟩
  | .hbm, ⟨14, _⟩ => ⟨S_, .f32⟩
  | .hbm, ⟨15, _⟩ => ⟨S4x128, .f32⟩
  | .hbm, ⟨16, _⟩ => ⟨S4x128, .f32⟩
  | .hbm, ⟨17, _⟩ => ⟨S4x128, .f32⟩
  | .hbm, ⟨18, _⟩ => ⟨S_, .f32⟩
  | .hbm, ⟨19, _⟩ => ⟨S4x128, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S_, .f32⟩
  | .hbm, ⟨26, _⟩ => ⟨S4x128, .f32⟩
  | .hbm, ⟨27, _⟩ => ⟨S4x128, .f32⟩
  | .hbm, ⟨28, _⟩ => ⟨S4x128, .f32⟩
  | .hbm, ⟨29, _⟩ => ⟨S_, .f32⟩
  | .hbm, ⟨30, _⟩ => ⟨S4x128, .f32⟩
  | .hbm, ⟨31, _⟩ => ⟨S4x128, .f32⟩
  | .hbm, ⟨32, _⟩ => ⟨S4x128, .f32⟩
  | .hbm, ⟨33, _⟩ => ⟨S_, .f32⟩
  | .hbm, ⟨34, _⟩ => ⟨S4x128, .f32⟩
  | .hbm, ⟨35, _⟩ => ⟨S4x128, .f32⟩
  | .hbm, ⟨36, _⟩ => ⟨S4x128, .f32⟩
  | .hbm, ⟨37, _⟩ => ⟨S_, .f32⟩
  | .hbm, ⟨38, _⟩ => ⟨S4x128, .f32⟩
  | .hbm, ⟨39, _⟩ => ⟨S4x128, .f32⟩
  | _, _ => ⟨S1x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamConv.lean ====
abbrev S1x3x1536 : Shape := ⟨3, ![1, 3, 1536]⟩
abbrev S3x1536 : Shape := ⟨2, ![3, 1536]⟩

abbrev nBuf : Space → Nat
  | .hbm => 11
  | .vmem => 8
  | .smem => 0
  | _ => 0

abbrev bufTy : (tb : Table) → Fin (tcTables nBuf tb) → BufTy
  | .hbm, ⟨0, _⟩ => ⟨S1x3x1536, .f32⟩
  | .hbm, ⟨1, _⟩ => ⟨S1x3x1536, .f32⟩
  | .hbm, ⟨2, _⟩ => ⟨S1x3x1536, .f32⟩
  | .hbm, ⟨3, _⟩ => ⟨S3x1536, .f32⟩
  | .hbm, ⟨4, _⟩ => ⟨S3x1536, .f32⟩
  | .hbm, ⟨5, _⟩ => ⟨S3x1536, .f32⟩
  | .hbm, ⟨6, _⟩ => ⟨S3x1536, .f32⟩
  | .hbm, ⟨7, _⟩ => ⟨S3x1536, .f32⟩
  | .hbm, ⟨8, _⟩ => ⟨S3x1536, .f32⟩
  | .hbm, ⟨9, _⟩ => ⟨S3x1536, .f32⟩
  | .hbm, ⟨10, _⟩ => ⟨S3x1536, .f32⟩
  | .local _ .vmem, ⟨0, _⟩ => ⟨S3x1536, .f32⟩
  | .local _ .vmem, ⟨1, _⟩ => ⟨S3x1536, .f32⟩
  | .local _ .vmem, ⟨2, _⟩ => ⟨S3x1536, .f32⟩
  | .local _ .vmem, ⟨3, _⟩ => ⟨S3x1536, .f32⟩
  | .local _ .vmem, ⟨4, _⟩ => ⟨S3x1536, .f32⟩
  | .local _ .vmem, ⟨5, _⟩ => ⟨S3x1536, .f32⟩
  | .local _ .vmem, ⟨6, _⟩ => ⟨S3x1536, .f32⟩
  | .local _ .vmem, ⟨7, _⟩ => ⟨S3x1536, .f32⟩
  | _, _ => ⟨S1x3x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamConvIdeal.lean ====
abbrev S1x3x1536 : Shape := ⟨3, ![1, 3, 1536]⟩
abbrev S3x1536 : Shape := ⟨2, ![3, 1536]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x3x1536, .f32⟩
  | .hbm, ⟨1, _⟩ => ⟨S1x3x1536, .f32⟩
  | .hbm, ⟨2, _⟩ => ⟨S1x3x1536, .f32⟩
  | .hbm, ⟨3, _⟩ => ⟨S3x1536, .f32⟩
  | .hbm, ⟨4, _⟩ => ⟨S3x1536, .f32⟩
  | .hbm, ⟨5, _⟩ => ⟨S3x1536, .f32⟩
  | .hbm, ⟨6, _⟩ => ⟨S3x1536, .f32⟩
  | .hbm, ⟨7, _⟩ => ⟨S_, .f32⟩
  | .hbm, ⟨8, _⟩ => ⟨S3x1536, .f32⟩
  | .hbm, ⟨9, _⟩ => ⟨S3x1536, .f32⟩
  | .hbm, ⟨10, _⟩ => ⟨S_, .f32⟩
  | .hbm, ⟨11, _⟩ => ⟨S3x1536, .f32⟩
  | .hbm, ⟨12, _⟩ => ⟨S3x1536, .f32⟩
  | .hbm, ⟨13, _⟩ => ⟨S3x1536, .f32⟩
  | .hbm, ⟨14, _⟩ => ⟨S_, .f32⟩
  | .hbm, ⟨15, _⟩ => ⟨S3x1536, .f32⟩
  | .hbm, ⟨16, _⟩ => ⟨S3x1536, .f32⟩
  | .hbm, ⟨17, _⟩ => ⟨S3x1536, .f32⟩
  | .hbm, ⟨18, _⟩ => ⟨S_, .f32⟩
  | .hbm, ⟨19, _⟩ => ⟨S3x1536, .f32⟩
  | .hbm, ⟨20, _⟩ => ⟨S3x1536, .f32⟩
  | .hbm, ⟨21, _⟩ => ⟨S3x1536, .f32⟩
  | .hbm, ⟨22, _⟩ => ⟨S_, .f32⟩
  | .hbm, ⟨23, _⟩ => ⟨S3x1536, .f32⟩
  | .hbm, ⟨24, _⟩ => ⟨S3x1536, .f32⟩
  | .hbm, ⟨25, _⟩ => ⟨S_, .f32⟩
  | .hbm, ⟨26, _⟩ => ⟨S3x1536, .f32⟩
  | .hbm, ⟨27, _⟩ => ⟨S3x1536, .f32⟩
  | .hbm, ⟨28, _⟩ => ⟨S3x1536, .f32⟩
  | .hbm, ⟨29, _⟩ => ⟨S_, .f32⟩
  | .hbm, ⟨30, _⟩ => ⟨S3x1536, .f32⟩
  | .hbm, ⟨31, _⟩ => ⟨S3x1536, .f32⟩
  | .hbm, ⟨32, _⟩ => ⟨S3x1536, .f32⟩
  | .hbm, ⟨33, _⟩ => ⟨S_, .f32⟩
  | .hbm, ⟨34, _⟩ => ⟨S3x1536, .f32⟩
  | .hbm, ⟨35, _⟩ => ⟨S3x1536, .f32⟩
  | .hbm, ⟨36, _⟩ => ⟨S3x1536, .f32⟩
  | .hbm, ⟨37, _⟩ => ⟨S_, .f32⟩
  | .hbm, ⟨38, _⟩ => ⟨S3x1536, .f32⟩
  | .hbm, ⟨39, _⟩ => ⟨S3x1536, .f32⟩
  | _, _ => ⟨S1x3x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamSmall.lean ====
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x12288 : Shape := ⟨2, ![1, 12288]⟩
abbrev S2048 : Shape := ⟨1, ![2048]⟩
abbrev S8x1x2048 : Shape := ⟨3, ![8, 1, 2048]⟩
abbrev S8x1x1024 : Shape := ⟨3, ![8, 1, 1024]⟩
abbrev S8x1x8x128x128 : Shape := ⟨5, ![8, 1, 8, 128, 128]⟩
abbrev S8x1x8x128 : Shape := ⟨4, ![8, 1, 8, 128]⟩
abbrev S8x1x12288 : Shape := ⟨3, ![8, 1, 12288]⟩
abbrev S8x2048 : Shape := ⟨2, ![8, 2048]⟩
abbrev S8x4x1024 : Shape := ⟨3, ![8, 4, 1024]⟩
abbrev S8x3x12288 : Shape := ⟨3, ![8, 3, 12288]⟩
abbrev S8x16x128 : Shape := ⟨3, ![8, 16, 128]⟩
abbrev S8x8x128 : Shape := ⟨3, ![8, 8, 128]⟩
abbrev S8x1024x128 : Shape := ⟨3, ![8, 1024, 128]⟩
abbrev S8x96x128 : Shape := ⟨3, ![8, 96, 128]⟩
abbrev S8x3288x128 : Shape := ⟨3, ![8, 3288, 128]⟩
abbrev S_ : Shape := ⟨0, ![]⟩
abbrev S8x40x128 : Shape := ⟨3, ![8, 40, 128]⟩
abbrev S8x32x128 : Shape := ⟨3, ![8, 32, 128]⟩
abbrev S8x288x128 : Shape := ⟨3, ![8, 288, 128]⟩
abbrev S8x3648x128 : Shape := ⟨3, ![8, 3648, 128]⟩
abbrev S16x128 : Shape := ⟨2, ![16, 128]⟩
abbrev S8x128 : Shape := ⟨2, ![8, 128]⟩
abbrev S1024x128 : Shape := ⟨2, ![1024, 128]⟩
abbrev S96x128 : Shape := ⟨2, ![96, 128]⟩
abbrev S3288x128 : Shape := ⟨2, ![3288, 128]⟩
abbrev S40x128 : Shape := ⟨2, ![40, 128]⟩
abbrev S3328x128 : Shape := ⟨2, ![3328, 128]⟩
abbrev S832x128 : Shape := ⟨2, ![832, 128]⟩
abbrev S1x832x128 : Shape := ⟨3, ![1, 832, 128]⟩

abbrev nBuf : Space → Nat
  | .hbm => 280
  | .vmem => 30
  | .smem => 0
  | _ => 0

abbrev hbmTy0_0 (i : Nat) : BufTy := match i % 128 with
  | 0 => ⟨S1x2048, .f32⟩
  | 1 => ⟨S1x1024, .f32⟩
  | 2 => ⟨S1x1024, .f32⟩
  | 3 => ⟨S1x8x128x128, .f32⟩
  | 4 => ⟨S1x8x128, .f32⟩
  | 5 => ⟨S1x1024, .f32⟩
  | 6 => ⟨S1x8x128x128, .f32⟩
  | 7 => ⟨S1x8x128, .f32⟩
  | 8 => ⟨S1x8x128x128, .f32⟩
  | 9 => ⟨S1x8x128, .f32⟩
  | 10 => ⟨S1x1024, .f32⟩
  | 11 => ⟨S1x1024, .f32⟩
  | 12 => ⟨S1x1024, .f32⟩
  | 13 => ⟨S1x2048, .f32⟩
  | 14 => ⟨S1x12288, .f32⟩
  | 15 => ⟨S2048, .f32⟩
  | 16 => ⟨S1x2048, .f32⟩
  | 17 => ⟨S1x1024, .f32⟩
  | 18 => ⟨S1x1024, .f32⟩
  | 19 => ⟨S1x8x128x128, .f32⟩
  | 20 => ⟨S1x8x128, .f32⟩
  | 21 => ⟨S1x1024, .f32⟩
  | 22 => ⟨S1x8x128x128, .f32⟩
  | 23 => ⟨S1x8x128, .f32⟩
  | 24 => ⟨S1x8x128x128, .f32⟩
  | 25 => ⟨S1x8x128, .f32⟩
  | 26 => ⟨S1x1024, .f32⟩
  | 27 => ⟨S1x1024, .f32⟩
  | 28 => ⟨S1x1024, .f32⟩
  | 29 => ⟨S1x2048, .f32⟩
  | 30 => ⟨S1x12288, .f32⟩
  | 31 => ⟨S2048, .f32⟩
  | 32 => ⟨S1x2048, .f32⟩
  | 33 => ⟨S1x1024, .f32⟩
  | 34 => ⟨S1x1024, .f32⟩
  | 35 => ⟨S1x8x128x128, .f32⟩
  | 36 => ⟨S1x8x128, .f32⟩
  | 37 => ⟨S1x1024, .f32⟩
  | 38 => ⟨S1x8x128x128, .f32⟩
  | 39 => ⟨S1x8x128, .f32⟩
  | 40 => ⟨S1x8x128x128, .f32⟩
  | 41 => ⟨S1x8x128, .f32⟩
  | 42 => ⟨S1x1024, .f32⟩
  | 43 => ⟨S1x1024, .f32⟩
  | 44 => ⟨S1x1024, .f32⟩
  | 45 => ⟨S1x2048, .f32⟩
  | 46 => ⟨S1x12288, .f32⟩
  | 47 => ⟨S2048, .f32⟩
  | 48 => ⟨S8x1x2048, .f32⟩
  | 49 => ⟨S8x1x1024, .f32⟩
  | 50 => ⟨S8x1x1024, .f32⟩
  | 51 => ⟨S8x1x8x128x128, .f32⟩
  | 52 => ⟨S8x1x8x128, .f32⟩
  | 53 => ⟨S8x1x1024, .f32⟩
  | 54 => ⟨S8x1x8x128x128, .f32⟩
  | 55 => ⟨S8x1x8x128, .f32⟩
  | 56 => ⟨S8x1x8x128x128, .f32⟩
  | 57 => ⟨S8x1x8x128, .f32⟩
  | 58 => ⟨S8x1x1024, .f32⟩
  | 59 => ⟨S8x1x1024, .f32⟩
  | 60 => ⟨S8x1x1024, .f32⟩
  | 61 => ⟨S8x1x2048, .f32⟩
  | 62 => ⟨S8x1x12288, .f32⟩
  | 63 => ⟨S8x2048, .f32⟩
  | 64 => ⟨S8x4x1024, .f32⟩
  | 65 => ⟨S8x3x12288, .f32⟩
  | 66 => ⟨S8x16x128, .f32⟩
  | 67 => ⟨S8x8x128, .f32⟩
  | 68 => ⟨S8x8x128, .f32⟩
  | 69 => ⟨S8x1024x128, .f32⟩
  | 70 => ⟨S8x8x128, .f32⟩
  | 71 => ⟨S8x8x128, .f32⟩
  | 72 => ⟨S8x1024x128, .f32⟩
  | 73 => ⟨S8x8x128, .f32⟩
  | 74 => ⟨S8x1024x128, .f32⟩
  | 75 => ⟨S8x8x128, .f32⟩
  | 76 => ⟨S8x8x128, .f32⟩
  | 77 => ⟨S8x8x128, .f32⟩
  | 78 => ⟨S8x8x128, .f32⟩
  | 79 => ⟨S8x16x128, .f32⟩
  | 80 => ⟨S8x96x128, .f32⟩
  | 81 => ⟨S8x16x128, .f32⟩
  | 82 => ⟨S8x3288x128, .f32⟩
  | 83 => ⟨S_, .f32⟩
  | 84 => ⟨S8x40x128, .f32⟩
  | 85 => ⟨S8x32x128, .f32⟩
  | 86 => ⟨S8x288x128, .f32⟩
  | 87 => ⟨S8x3648x128, .f32⟩
  | 88 => ⟨S16x128, .f32⟩
  | 89 => ⟨S8x128, .f32⟩
  | 90 => ⟨S8x128, .f32⟩
  | 91 => ⟨S1024x128, .f32⟩
  | 92 => ⟨S8x128, .f32⟩
  | 93 => ⟨S8x128, .f32⟩
  | 94 => ⟨S1024x128, .f32⟩
  | 95 => ⟨S8x128, .f32⟩
  | 96 => ⟨S1024x128, .f32⟩
  | 97 => ⟨S8x128, .f32⟩
  | 98 => ⟨S8x128, .f32⟩
  | 99 => ⟨S8x128, .f32⟩
  | 100 => ⟨S8x128, .f32⟩
  | 101 => ⟨S16x128, .f32⟩
  | 102 => ⟨S96x128, .f32⟩
  | 103 => ⟨S16x128, .f32⟩
  | 104 => ⟨S3288x128, .f32⟩
  | 105 => ⟨S_, .f32⟩
  | 106 => ⟨S40x128, .f32⟩
  | 107 => ⟨S3328x128, .f32⟩
  | 108 => ⟨S16x128, .f32⟩
  | 109 => ⟨S8x128, .f32⟩
  | 110 => ⟨S8x128, .f32⟩
  | 111 => ⟨S1024x128, .f32⟩
  | 112 => ⟨S8x128, .f32⟩
  | 113 => ⟨S8x128, .f32⟩
  | 114 => ⟨S1024x128, .f32⟩
  | 115 => ⟨S8x128, .f32⟩
  | 116 => ⟨S1024x128, .f32⟩
  | 117 => ⟨S8x128, .f32⟩
  | 118 => ⟨S8x128, .f32⟩
  | 119 => ⟨S8x128, .f32⟩
  | 120 => ⟨S8x128, .f32⟩
  | 121 => ⟨S16x128, .f32⟩
  | 122 => ⟨S96x128, .f32⟩
  | 123 => ⟨S16x128, .f32⟩
  | 124 => ⟨S3288x128, .f32⟩
  | 125 => ⟨S_, .f32⟩
  | 126 => ⟨S40x128, .f32⟩
  | 127 => ⟨S3328x128, .f32⟩
  | _ => ⟨S1x2048, .f32⟩

abbrev hbmTy0_1 (i : Nat) : BufTy := match i % 128 with
  | 0 => ⟨S16x128, .f32⟩
  | 1 => ⟨S8x128, .f32⟩
  | 2 => ⟨S8x128, .f32⟩
  | 3 => ⟨S1024x128, .f32⟩
  | 4 => ⟨S8x128, .f32⟩
  | 5 => ⟨S8x128, .f32⟩
  | 6 => ⟨S1024x128, .f32⟩
  | 7 => ⟨S8x128, .f32⟩
  | 8 => ⟨S1024x128, .f32⟩
  | 9 => ⟨S8x128, .f32⟩
  | 10 => ⟨S8x128, .f32⟩
  | 11 => ⟨S8x128, .f32⟩
  | 12 => ⟨S8x128, .f32⟩
  | 13 => ⟨S16x128, .f32⟩
  | 14 => ⟨S96x128, .f32⟩
  | 15 => ⟨S16x128, .f32⟩
  | 16 => ⟨S3288x128, .f32⟩
  | 17 => ⟨S_, .f32⟩
  | 18 => ⟨S40x128, .f32⟩
  | 19 => ⟨S3328x128, .f32⟩
  | 20 => ⟨S3328x128, .f32⟩
  | 21 => ⟨S3328x128, .f32⟩
  | 22 => ⟨S3328x128, .f32⟩
  | 23 => ⟨S3328x128, .f32⟩
  | 24 => ⟨S16x128, .f32⟩
  | 25 => ⟨S1x2048, .f32⟩
  | 26 => ⟨S8x128, .f32⟩
  | 27 => ⟨S1x1024, .f32⟩
  | 28 => ⟨S8x128, .f32⟩
  | 29 => ⟨S1x1024, .f32⟩
  | 30 => ⟨S1024x128, .f32⟩
  | 31 => ⟨S1x8x128x128, .f32⟩
  | 32 => ⟨S8x128, .f32⟩
  | 33 => ⟨S1x8x128, .f32⟩
  | 34 => ⟨S8x128, .f32⟩
  | 35 => ⟨S1x1024, .f32⟩
  | 36 => ⟨S1024x128, .f32⟩
  | 37 => ⟨S1x8x128x128, .f32⟩
  | 38 => ⟨S8x128, .f32⟩
  | 39 => ⟨S1x8x128, .f32⟩
  | 40 => ⟨S1024x128, .f32⟩
  | 41 => ⟨S1x8x128x128, .f32⟩
  | 42 => ⟨S8x128, .f32⟩
  | 43 => ⟨S1x8x128, .f32⟩
  | 44 => ⟨S8x128, .f32⟩
  | 45 => ⟨S1x1024, .f32⟩
  | 46 => ⟨S8x128, .f32⟩
  | 47 => ⟨S1x1024, .f32⟩
  | 48 => ⟨S8x128, .f32⟩
  | 49 => ⟨S1x1024, .f32⟩
  | 50 => ⟨S16x128, .f32⟩
  | 51 => ⟨S1x2048, .f32⟩
  | 52 => ⟨S96x128, .f32⟩
  | 53 => ⟨S1x12288, .f32⟩
  | 54 => ⟨S16x128, .f32⟩
  | 55 => ⟨S2048, .f32⟩
  | 56 => ⟨S16x128, .f32⟩
  | 57 => ⟨S1x2048, .f32⟩
  | 58 => ⟨S8x128, .f32⟩
  | 59 => ⟨S1x1024, .f32⟩
  | 60 => ⟨S8x128, .f32⟩
  | 61 => ⟨S1x1024, .f32⟩
  | 62 => ⟨S1024x128, .f32⟩
  | 63 => ⟨S1x8x128x128, .f32⟩
  | 64 => ⟨S8x128, .f32⟩
  | 65 => ⟨S1x8x128, .f32⟩
  | 66 => ⟨S8x128, .f32⟩
  | 67 => ⟨S1x1024, .f32⟩
  | 68 => ⟨S1024x128, .f32⟩
  | 69 => ⟨S1x8x128x128, .f32⟩
  | 70 => ⟨S8x128, .f32⟩
  | 71 => ⟨S1x8x128, .f32⟩
  | 72 => ⟨S1024x128, .f32⟩
  | 73 => ⟨S1x8x128x128, .f32⟩
  | 74 => ⟨S8x128, .f32⟩
  | 75 => ⟨S1x8x128, .f32⟩
  | 76 => ⟨S8x128, .f32⟩
  | 77 => ⟨S1x1024, .f32⟩
  | 78 => ⟨S8x128, .f32⟩
  | 79 => ⟨S1x1024, .f32⟩
  | 80 => ⟨S8x128, .f32⟩
  | 81 => ⟨S1x1024, .f32⟩
  | 82 => ⟨S16x128, .f32⟩
  | 83 => ⟨S1x2048, .f32⟩
  | 84 => ⟨S96x128, .f32⟩
  | 85 => ⟨S1x12288, .f32⟩
  | 86 => ⟨S16x128, .f32⟩
  | 87 => ⟨S2048, .f32⟩
  | 88 => ⟨S16x128, .f32⟩
  | 89 => ⟨S1x2048, .f32⟩
  | 90 => ⟨S8x128, .f32⟩
  | 91 => ⟨S1x1024, .f32⟩
  | 92 => ⟨S8x128, .f32⟩
  | 93 => ⟨S1x1024, .f32⟩
  | 94 => ⟨S1024x128, .f32⟩
  | 95 => ⟨S1x8x128x128, .f32⟩
  | 96 => ⟨S8x128, .f32⟩
  | 97 => ⟨S1x8x128, .f32⟩
  | 98 => ⟨S8x128, .f32⟩
  | 99 => ⟨S1x1024, .f32⟩
  | 100 => ⟨S1024x128, .f32⟩
  | 101 => ⟨S1x8x128x128, .f32⟩
  | 102 => ⟨S8x128, .f32⟩
  | 103 => ⟨S1x8x128, .f32⟩
  | 104 => ⟨S1024x128, .f32⟩
  | 105 => ⟨S1x8x128x128, .f32⟩
  | 106 => ⟨S8x128, .f32⟩
  | 107 => ⟨S1x8x128, .f32⟩
  | 108 => ⟨S8x128, .f32⟩
  | 109 => ⟨S1x1024, .f32⟩
  | 110 => ⟨S8x128, .f32⟩
  | 111 => ⟨S1x1024, .f32⟩
  | 112 => ⟨S8x128, .f32⟩
  | 113 => ⟨S1x1024, .f32⟩
  | 114 => ⟨S16x128, .f32⟩
  | 115 => ⟨S1x2048, .f32⟩
  | 116 => ⟨S96x128, .f32⟩
  | 117 => ⟨S1x12288, .f32⟩
  | 118 => ⟨S16x128, .f32⟩
  | 119 => ⟨S2048, .f32⟩
  | 120 => ⟨S16x128, .f32⟩
  | 121 => ⟨S1x2048, .f32⟩
  | 122 => ⟨S8x128, .f32⟩
  | 123 => ⟨S1x1024, .f32⟩
  | 124 => ⟨S8x128, .f32⟩
  | 125 => ⟨S1x1024, .f32⟩
  | 126 => ⟨S1024x128, .f32⟩
  | 127 => ⟨S1x8x128x128, .f32⟩
  | _ => ⟨S1x2048, .f32⟩

abbrev hbmTy0_2 (i : Nat) : BufTy := match i % 128 with
  | 0 => ⟨S8x128, .f32⟩
  | 1 => ⟨S1x8x128, .f32⟩
  | 2 => ⟨S8x128, .f32⟩
  | 3 => ⟨S1x1024, .f32⟩
  | 4 => ⟨S1024x128, .f32⟩
  | 5 => ⟨S1x8x128x128, .f32⟩
  | 6 => ⟨S8x128, .f32⟩
  | 7 => ⟨S1x8x128, .f32⟩
  | 8 => ⟨S1024x128, .f32⟩
  | 9 => ⟨S1x8x128x128, .f32⟩
  | 10 => ⟨S8x128, .f32⟩
  | 11 => ⟨S1x8x128, .f32⟩
  | 12 => ⟨S8x128, .f32⟩
  | 13 => ⟨S1x1024, .f32⟩
  | 14 => ⟨S8x128, .f32⟩
  | 15 => ⟨S1x1024, .f32⟩
  | 16 => ⟨S8x128, .f32⟩
  | 17 => ⟨S1x1024, .f32⟩
  | 18 => ⟨S16x128, .f32⟩
  | 19 => ⟨S1x2048, .f32⟩
  | 20 => ⟨S96x128, .f32⟩
  | 21 => ⟨S1x12288, .f32⟩
  | 22 => ⟨S16x128, .f32⟩
  | 23 => ⟨S2048, .f32⟩
  | _ => ⟨S1x2048, .f32⟩

abbrev hbmTy (i : Nat) : BufTy := match i / 128 with
  | 0 => hbmTy0_0 i
  | 1 => hbmTy0_1 i
  | 2 => hbmTy0_2 i
  | _ => ⟨S1x2048, .f32⟩

abbrev bufTy : (tb : Table) → Fin (tcTables nBuf tb) → BufTy
  | .hbm, ⟨i, _⟩ => hbmTy i
  | .local _ .vmem, ⟨0, _⟩ => ⟨S832x128, .f32⟩
  | .local _ .vmem, ⟨1, _⟩ => ⟨S832x128, .f32⟩
  | .local _ .vmem, ⟨2, _⟩ => ⟨S832x128, .f32⟩
  | .local _ .vmem, ⟨3, _⟩ => ⟨S832x128, .f32⟩
  | .local _ .vmem, ⟨4, _⟩ => ⟨S832x128, .f32⟩
  | .local _ .vmem, ⟨5, _⟩ => ⟨S832x128, .f32⟩
  | .local _ .vmem, ⟨6, _⟩ => ⟨S1x832x128, .f32⟩
  | .local _ .vmem, ⟨7, _⟩ => ⟨S1x832x128, .f32⟩
  | .local _ .vmem, ⟨8, _⟩ => ⟨S1x832x128, .f32⟩
  | .local _ .vmem, ⟨9, _⟩ => ⟨S1x832x128, .f32⟩
  | .local _ .vmem, ⟨10, _⟩ => ⟨S1x832x128, .f32⟩
  | .local _ .vmem, ⟨11, _⟩ => ⟨S1x832x128, .f32⟩
  | .local _ .vmem, ⟨12, _⟩ => ⟨S1x832x128, .f32⟩
  | .local _ .vmem, ⟨13, _⟩ => ⟨S1x832x128, .f32⟩
  | .local _ .vmem, ⟨14, _⟩ => ⟨S1x832x128, .f32⟩
  | .local _ .vmem, ⟨15, _⟩ => ⟨S1x832x128, .f32⟩
  | .local _ .vmem, ⟨16, _⟩ => ⟨S1x832x128, .f32⟩
  | .local _ .vmem, ⟨17, _⟩ => ⟨S1x832x128, .f32⟩
  | .local _ .vmem, ⟨18, _⟩ => ⟨S1x832x128, .f32⟩
  | .local _ .vmem, ⟨19, _⟩ => ⟨S1x832x128, .f32⟩
  | .local _ .vmem, ⟨20, _⟩ => ⟨S1x832x128, .f32⟩
  | .local _ .vmem, ⟨21, _⟩ => ⟨S1x832x128, .f32⟩
  | .local _ .vmem, ⟨22, _⟩ => ⟨S832x128, .f32⟩
  | .local _ .vmem, ⟨23, _⟩ => ⟨S832x128, .f32⟩
  | .local _ .vmem, ⟨24, _⟩ => ⟨S832x128, .f32⟩
  | .local _ .vmem, ⟨25, _⟩ => ⟨S832x128, .f32⟩
  | .local _ .vmem, ⟨26, _⟩ => ⟨S832x128, .f32⟩
  | .local _ .vmem, ⟨27, _⟩ => ⟨S832x128, .f32⟩
  | .local _ .vmem, ⟨28, _⟩ => ⟨S832x128, .f32⟩
  | .local _ .vmem, ⟨29, _⟩ => ⟨S832x128, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_v0 : Ref sig .tc := ⟨.hbm, 66, rfl⟩
abbrev main_v1 : Ref sig .tc := ⟨.hbm, 67, rfl⟩
abbrev main_v2 : Ref sig .tc := ⟨.hbm, 68, rfl⟩
abbrev main_v3 : Ref sig .tc := ⟨.hbm, 69, rfl⟩
abbrev main_v4 : Ref sig .tc := ⟨.hbm, 70, rfl⟩
abbrev main_v5 : Ref sig .tc := ⟨.hbm, 71, rfl⟩
abbrev main_v6 : Ref sig .tc := ⟨.hbm, 72, rfl⟩
abbrev main_v7 : Ref sig .tc := ⟨.hbm, 73, rfl⟩
abbrev main_v8 : Ref sig .tc := ⟨.hbm, 74, rfl⟩
abbrev main_v9 : Ref sig .tc := ⟨.hbm, 75, rfl⟩
abbrev main_v10 : Ref sig .tc := ⟨.hbm, 76, rfl⟩
abbrev main_v11 : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_cst : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_cst_0 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_cst_1 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_cst_2 : Ref sig .tc := ⟨.hbm, 145, rfl⟩
abbrev main_v76 : Ref sig .tc := ⟨.hbm, 146, rfl⟩
abbrev main_v77 : Ref sig .tc := ⟨.hbm, 147, rfl⟩
abbrev main_v78_0 : Ref sig .tc := ⟨.hbm, 148, rfl⟩
abbrev main_v78_1 : Ref sig .tc := ⟨.hbm, 149, rfl⟩
abbrev main_v78_2 : Ref sig .tc := ⟨.hbm, 150, rfl⟩
abbrev main_v78_3 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S832x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x832x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x832x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x832x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x832x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x832x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x832x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x832x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x832x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S832x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S832x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S832x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S832x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceAdamSmallIdeal.lean ====
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x12288 : Shape := ⟨2, ![1, 12288]⟩
abbrev S2048 : Shape := ⟨1, ![2048]⟩
abbrev S8x1x2048 : Shape := ⟨3, ![8, 1, 2048]⟩
abbrev S8x1x1024 : Shape := ⟨3, ![8, 1, 1024]⟩
abbrev S8x1x8x128x128 : Shape := ⟨5, ![8, 1, 8, 128, 128]⟩
abbrev S8x1x8x128 : Shape := ⟨4, ![8, 1, 8, 128]⟩
abbrev S8x1x12288 : Shape := ⟨3, ![8, 1, 12288]⟩
abbrev S8x2048 : Shape := ⟨2, ![8, 2048]⟩
abbrev S8x4x1024 : Shape := ⟨3, ![8, 4, 1024]⟩
abbrev S8x3x12288 : Shape := ⟨3, ![8, 3, 12288]⟩
abbrev S_ : Shape := ⟨0, ![]⟩

abbrev nBuf : Space → Nat
  | .hbm => 626
  | .vmem => 0
  | .smem => 0
  | _ => 0

abbrev hbmTy0_0 (i : Nat) : BufTy := match i % 128 with
  | 0 => ⟨S1x2048, .f32⟩
  | 1 => ⟨S1x1024, .f32⟩
  | 2 => ⟨S1x1024, .f32⟩
  | 3 => ⟨S1x8x128x128, .f32⟩
  | 4 => ⟨S1x8x128, .f32⟩
  | 5 => ⟨S1x1024, .f32⟩
  | 6 => ⟨S1x8x128x128, .f32⟩
  | 7 => ⟨S1x8x128, .f32⟩
  | 8 => ⟨S1x8x128x128, .f32⟩
  | 9 => ⟨S1x8x128, .f32⟩
  | 10 => ⟨S1x1024, .f32⟩
  | 11 => ⟨S1x1024, .f32⟩
  | 12 => ⟨S1x1024, .f32⟩
  | 13 => ⟨S1x2048, .f32⟩
  | 14 => ⟨S1x12288, .f32⟩
  | 15 => ⟨S2048, .f32⟩
  | 16 => ⟨S1x2048, .f32⟩
  | 17 => ⟨S1x1024, .f32⟩
  | 18 => ⟨S1x1024, .f32⟩
  | 19 => ⟨S1x8x128x128, .f32⟩
  | 20 => ⟨S1x8x128, .f32⟩
  | 21 => ⟨S1x1024, .f32⟩
  | 22 => ⟨S1x8x128x128, .f32⟩
  | 23 => ⟨S1x8x128, .f32⟩
  | 24 => ⟨S1x8x128x128, .f32⟩
  | 25 => ⟨S1x8x128, .f32⟩
  | 26 => ⟨S1x1024, .f32⟩
  | 27 => ⟨S1x1024, .f32⟩
  | 28 => ⟨S1x1024, .f32⟩
  | 29 => ⟨S1x2048, .f32⟩
  | 30 => ⟨S1x12288, .f32⟩
  | 31 => ⟨S2048, .f32⟩
  | 32 => ⟨S1x2048, .f32⟩
  | 33 => ⟨S1x1024, .f32⟩
  | 34 => ⟨S1x1024, .f32⟩
  | 35 => ⟨S1x8x128x128, .f32⟩
  | 36 => ⟨S1x8x128, .f32⟩
  | 37 => ⟨S1x1024, .f32⟩
  | 38 => ⟨S1x8x128x128, .f32⟩
  | 39 => ⟨S1x8x128, .f32⟩
  | 40 => ⟨S1x8x128x128, .f32⟩
  | 41 => ⟨S1x8x128, .f32⟩
  | 42 => ⟨S1x1024, .f32⟩
  | 43 => ⟨S1x1024, .f32⟩
  | 44 => ⟨S1x1024, .f32⟩
  | 45 => ⟨S1x2048, .f32⟩
  | 46 => ⟨S1x12288, .f32⟩
  | 47 => ⟨S2048, .f32⟩
  | 48 => ⟨S8x1x2048, .f32⟩
  | 49 => ⟨S8x1x1024, .f32⟩
  | 50 => ⟨S8x1x1024, .f32⟩
  | 51 => ⟨S8x1x8x128x128, .f32⟩
  | 52 => ⟨S8x1x8x128, .f32⟩
  | 53 => ⟨S8x1x1024, .f32⟩
  | 54 => ⟨S8x1x8x128x128, .f32⟩
  | 55 => ⟨S8x1x8x128, .f32⟩
  | 56 => ⟨S8x1x8x128x128, .f32⟩
  | 57 => ⟨S8x1x8x128, .f32⟩
  | 58 => ⟨S8x1x1024, .f32⟩
  | 59 => ⟨S8x1x1024, .f32⟩
  | 60 => ⟨S8x1x1024, .f32⟩
  | 61 => ⟨S8x1x2048, .f32⟩
  | 62 => ⟨S8x1x12288, .f32⟩
  | 63 => ⟨S8x2048, .f32⟩
  | 64 => ⟨S8x4x1024, .f32⟩
  | 65 => ⟨S8x3x12288, .f32⟩
  | 66 => ⟨S_, .f32⟩
  | 67 => ⟨S1x2048, .f32⟩
  | 68 => ⟨S_, .f32⟩
  | 69 => ⟨S1x1024, .f32⟩
  | 70 => ⟨S_, .f32⟩
  | 71 => ⟨S1x1024, .f32⟩
  | 72 => ⟨S_, .f32⟩
  | 73 => ⟨S1x8x128x128, .f32⟩
  | 74 => ⟨S_, .f32⟩
  | 75 => ⟨S1x8x128, .f32⟩
  | 76 => ⟨S_, .f32⟩
  | 77 => ⟨S1x1024, .f32⟩
  | 78 => ⟨S_, .f32⟩
  | 79 => ⟨S1x8x128x128, .f32⟩
  | 80 => ⟨S_, .f32⟩
  | 81 => ⟨S1x8x128, .f32⟩
  | 82 => ⟨S_, .f32⟩
  | 83 => ⟨S1x8x128x128, .f32⟩
  | 84 => ⟨S_, .f32⟩
  | 85 => ⟨S1x8x128, .f32⟩
  | 86 => ⟨S_, .f32⟩
  | 87 => ⟨S1x1024, .f32⟩
  | 88 => ⟨S_, .f32⟩
  | 89 => ⟨S1x1024, .f32⟩
  | 90 => ⟨S_, .f32⟩
  | 91 => ⟨S1x1024, .f32⟩
  | 92 => ⟨S_, .f32⟩
  | 93 => ⟨S1x2048, .f32⟩
  | 94 => ⟨S_, .f32⟩
  | 95 => ⟨S1x12288, .f32⟩
  | 96 => ⟨S_, .f32⟩
  | 97 => ⟨S2048, .f32⟩
  | 98 => ⟨S_, .f32⟩
  | 99 => ⟨S1x2048, .f32⟩
  | 100 => ⟨S1x2048, .f32⟩
  | 101 => ⟨S_, .f32⟩
  | 102 => ⟨S1x2048, .f32⟩
  | 103 => ⟨S1x2048, .f32⟩
  | 104 => ⟨S1x2048, .f32⟩
  | 105 => ⟨S_, .f32⟩
  | 106 => ⟨S1x2048, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S_, .f32⟩
  | 117 => ⟨S1x2048, .f32⟩
  | 118 => ⟨S1x2048, .f32⟩
  | 119 => ⟨S1x2048, .f32⟩
  | 120 => ⟨S_, .f32⟩
  | 121 => ⟨S1x2048, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S1x2048, .f32⟩
  | _ => ⟨S1x2048, .f32⟩

abbrev hbmTy0_1 (i : Nat) : BufTy := match i % 128 with
  | 0 => ⟨S_, .f32⟩
  | 1 => ⟨S1x2048, .f32⟩
  | 2 => ⟨S1x2048, .f32⟩
  | 3 => ⟨S_, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x8x128x128, .f32⟩
  | 71 => ⟨S1x8x128x128, .f32⟩
  | 72 => ⟨S_, .f32⟩
  | 73 => ⟨S1x8x128x128, .f32⟩
  | 74 => ⟨S1x8x128x128, .f32⟩
  | 75 => ⟨S1x8x128x128, .f32⟩
  | 76 => ⟨S_, .f32⟩
  | 77 => ⟨S1x8x128x128, .f32⟩
  | 78 => ⟨S1x8x128x128, .f32⟩
  | 79 => ⟨S1x8x128x128, .f32⟩
  | 80 => ⟨S_, .f32⟩
  | 81 => ⟨S1x8x128x128, .f32⟩
  | 82 => ⟨S1x8x128x128, .f32⟩
  | 83 => ⟨S1x8x128x128, .f32⟩
  | 84 => ⟨S_, .f32⟩
  | 85 => ⟨S1x8x128x128, .f32⟩
  | 86 => ⟨S1x8x128x128, .f32⟩
  | 87 => ⟨S_, .f32⟩
  | 88 => ⟨S1x8x128x128, .f32⟩
  | 89 => ⟨S1x8x128x128, .f32⟩
  | 90 => ⟨S1x8x128x128, .f32⟩
  | 91 => ⟨S_, .f32⟩
  | 92 => ⟨S1x8x128x128, .f32⟩
  | 93 => ⟨S1x8x128x128, .f32⟩
  | 94 => ⟨S1x8x128x128, .f32⟩
  | 95 => ⟨S_, .f32⟩
  | 96 => ⟨S1x8x128x128, .f32⟩
  | 97 => ⟨S1x8x128x128, .f32⟩
  | 98 => ⟨S1x8x128x128, .f32⟩
  | 99 => ⟨S_, .f32⟩
  | 100 => ⟨S1x8x128x128, .f32⟩
  | 101 => ⟨S1x8x128x128, .f32⟩
  | 102 => ⟨S_, .f32⟩
  | 103 => ⟨S1x8x128, .f32⟩
  | 104 => ⟨S1x8x128, .f32⟩
  | 105 => ⟨S_, .f32⟩
  | 106 => ⟨S1x8x128, .f32⟩
  | 107 => ⟨S1x8x128, .f32⟩
  | 108 => ⟨S1x8x128, .f32⟩
  | 109 => ⟨S_, .f32⟩
  | 110 => ⟨S1x8x128, .f32⟩
  | 111 => ⟨S1x8x128, .f32⟩
  | 112 => ⟨S1x8x128, .f32⟩
  | 113 => ⟨S_, .f32⟩
  | 114 => ⟨S1x8x128, .f32⟩
  | 115 => ⟨S1x8x128, .f32⟩
  | 116 => ⟨S1x8x128, .f32⟩
  | 117 => ⟨S_, .f32⟩
  | 118 => ⟨S1x8x128, .f32⟩
  | 119 => ⟨S1x8x128, .f32⟩
  | 120 => ⟨S_, .f32⟩
  | 121 => ⟨S1x8x128, .f32⟩
  | 122 => ⟨S1x8x128, .f32⟩
  | 123 => ⟨S1x8x128, .f32⟩
  | 124 => ⟨S_, .f32⟩
  | 125 => ⟨S1x8x128, .f32⟩
  | 126 => ⟨S1x8x128, .f32⟩
  | 127 => ⟨S1x8x128, .f32⟩
  | _ => ⟨S1x2048, .f32⟩

abbrev hbmTy0_2 (i : Nat) : BufTy := match i % 128 with
  | 0 => ⟨S_, .f32⟩
  | 1 => ⟨S1x8x128, .f32⟩
  | 2 => ⟨S1x8x128, .f32⟩
  | 3 => ⟨S1x8x128, .f32⟩
  | 4 => ⟨S_, .f32⟩
  | 5 => ⟨S1x8x128, .f32⟩
  | 6 => ⟨S1x8x128, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S_, .f32⟩
  | 41 => ⟨S1x8x128x128, .f32⟩
  | 42 => ⟨S1x8x128x128, .f32⟩
  | 43 => ⟨S_, .f32⟩
  | 44 => ⟨S1x8x128x128, .f32⟩
  | 45 => ⟨S1x8x128x128, .f32⟩
  | 46 => ⟨S1x8x128x128, .f32⟩
  | 47 => ⟨S_, .f32⟩
  | 48 => ⟨S1x8x128x128, .f32⟩
  | 49 => ⟨S1x8x128x128, .f32⟩
  | 50 => ⟨S1x8x128x128, .f32⟩
  | 51 => ⟨S_, .f32⟩
  | 52 => ⟨S1x8x128x128, .f32⟩
  | 53 => ⟨S1x8x128x128, .f32⟩
  | 54 => ⟨S1x8x128x128, .f32⟩
  | 55 => ⟨S_, .f32⟩
  | 56 => ⟨S1x8x128x128, .f32⟩
  | 57 => ⟨S1x8x128x128, .f32⟩
  | 58 => ⟨S_, .f32⟩
  | 59 => ⟨S1x8x128x128, .f32⟩
  | 60 => ⟨S1x8x128x128, .f32⟩
  | 61 => ⟨S1x8x128x128, .f32⟩
  | 62 => ⟨S_, .f32⟩
  | 63 => ⟨S1x8x128x128, .f32⟩
  | 64 => ⟨S1x8x128x128, .f32⟩
  | 65 => ⟨S1x8x128x128, .f32⟩
  | 66 => ⟨S_, .f32⟩
  | 67 => ⟨S1x8x128x128, .f32⟩
  | 68 => ⟨S1x8x128x128, .f32⟩
  | 69 => ⟨S1x8x128x128, .f32⟩
  | 70 => ⟨S_, .f32⟩
  | 71 => ⟨S1x8x128x128, .f32⟩
  | 72 => ⟨S1x8x128x128, .f32⟩
  | 73 => ⟨S_, .f32⟩
  | 74 => ⟨S1x8x128, .f32⟩
  | 75 => ⟨S1x8x128, .f32⟩
  | 76 => ⟨S_, .f32⟩
  | 77 => ⟨S1x8x128, .f32⟩
  | 78 => ⟨S1x8x128, .f32⟩
  | 79 => ⟨S1x8x128, .f32⟩
  | 80 => ⟨S_, .f32⟩
  | 81 => ⟨S1x8x128, .f32⟩
  | 82 => ⟨S1x8x128, .f32⟩
  | 83 => ⟨S1x8x128, .f32⟩
  | 84 => ⟨S_, .f32⟩
  | 85 => ⟨S1x8x128, .f32⟩
  | 86 => ⟨S1x8x128, .f32⟩
  | 87 => ⟨S1x8x128, .f32⟩
  | 88 => ⟨S_, .f32⟩
  | 89 => ⟨S1x8x128, .f32⟩
  | 90 => ⟨S1x8x128, .f32⟩
  | 91 => ⟨S_, .f32⟩
  | 92 => ⟨S1x8x128, .f32⟩
  | 93 => ⟨S1x8x128, .f32⟩
  | 94 => ⟨S1x8x128, .f32⟩
  | 95 => ⟨S_, .f32⟩
  | 96 => ⟨S1x8x128, .f32⟩
  | 97 => ⟨S1x8x128, .f32⟩
  | 98 => ⟨S1x8x128, .f32⟩
  | 99 => ⟨S_, .f32⟩
  | 100 => ⟨S1x8x128, .f32⟩
  | 101 => ⟨S1x8x128, .f32⟩
  | 102 => ⟨S1x8x128, .f32⟩
  | 103 => ⟨S_, .f32⟩
  | 104 => ⟨S1x8x128, .f32⟩
  | 105 => ⟨S1x8x128, .f32⟩
  | 106 => ⟨S_, .f32⟩
  | 107 => ⟨S1x8x128x128, .f32⟩
  | 108 => ⟨S1x8x128x128, .f32⟩
  | 109 => ⟨S_, .f32⟩
  | 110 => ⟨S1x8x128x128, .f32⟩
  | 111 => ⟨S1x8x128x128, .f32⟩
  | 112 => ⟨S1x8x128x128, .f32⟩
  | 113 => ⟨S_, .f32⟩
  | 114 => ⟨S1x8x128x128, .f32⟩
  | 115 => ⟨S1x8x128x128, .f32⟩
  | 116 => ⟨S1x8x128x128, .f32⟩
  | 117 => ⟨S_, .f32⟩
  | 118 => ⟨S1x8x128x128, .f32⟩
  | 119 => ⟨S1x8x128x128, .f32⟩
  | 120 => ⟨S1x8x128x128, .f32⟩
  | 121 => ⟨S_, .f32⟩
  | 122 => ⟨S1x8x128x128, .f32⟩
  | 123 => ⟨S1x8x128x128, .f32⟩
  | 124 => ⟨S_, .f32⟩
  | 125 => ⟨S1x8x128x128, .f32⟩
  | 126 => ⟨S1x8x128x128, .f32⟩
  | 127 => ⟨S1x8x128x128, .f32⟩
  | _ => ⟨S1x2048, .f32⟩

abbrev hbmTy0_3 (i : Nat) : BufTy := match i % 128 with
  | 0 => ⟨S_, .f32⟩
  | 1 => ⟨S1x8x128x128, .f32⟩
  | 2 => ⟨S1x8x128x128, .f32⟩
  | 3 => ⟨S1x8x128x128, .f32⟩
  | 4 => ⟨S_, .f32⟩
  | 5 => ⟨S1x8x128x128, .f32⟩
  | 6 => ⟨S1x8x128x128, .f32⟩
  | 7 => ⟨S1x8x128x128, .f32⟩
  | 8 => ⟨S_, .f32⟩
  | 9 => ⟨S1x8x128x128, .f32⟩
  | 10 => ⟨S1x8x128x128, .f32⟩
  | 11 => ⟨S_, .f32⟩
  | 12 => ⟨S1x8x128, .f32⟩
  | 13 => ⟨S1x8x128, .f32⟩
  | 14 => ⟨S_, .f32⟩
  | 15 => ⟨S1x8x128, .f32⟩
  | 16 => ⟨S1x8x128, .f32⟩
  | 17 => ⟨S1x8x128, .f32⟩
  | 18 => ⟨S_, .f32⟩
  | 19 => ⟨S1x8x128, .f32⟩
  | 20 => ⟨S1x8x128, .f32⟩
  | 21 => ⟨S1x8x128, .f32⟩
  | 22 => ⟨S_, .f32⟩
  | 23 => ⟨S1x8x128, .f32⟩
  | 24 => ⟨S1x8x128, .f32⟩
  | 25 => ⟨S1x8x128, .f32⟩
  | 26 => ⟨S_, .f32⟩
  | 27 => ⟨S1x8x128, .f32⟩
  | 28 => ⟨S1x8x128, .f32⟩
  | 29 => ⟨S_, .f32⟩
  | 30 => ⟨S1x8x128, .f32⟩
  | 31 => ⟨S1x8x128, .f32⟩
  | 32 => ⟨S1x8x128, .f32⟩
  | 33 => ⟨S_, .f32⟩
  | 34 => ⟨S1x8x128, .f32⟩
  | 35 => ⟨S1x8x128, .f32⟩
  | 36 => ⟨S1x8x128, .f32⟩
  | 37 => ⟨S_, .f32⟩
  | 38 => ⟨S1x8x128, .f32⟩
  | 39 => ⟨S1x8x128, .f32⟩
  | 40 => ⟨S1x8x128, .f32⟩
  | 41 => ⟨S_, .f32⟩
  | 42 => ⟨S1x8x128, .f32⟩
  | 43 => ⟨S1x8x128, .f32⟩
  | 44 => ⟨S_, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x2048, .f32⟩

abbrev hbmTy0_4 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S_, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S1x2048, .f32⟩
  | 30 => ⟨S_, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S1x2048, .f32⟩
  | 45 => ⟨S_, .f32⟩
  | 46 => ⟨S1x2048, .f32⟩
  | 47 => ⟨S1x2048, .f32⟩
  | 48 => ⟨S_, .f32⟩
  | 49 => ⟨S1x12288, .f32⟩
  | 50 => ⟨S1x12288, .f32⟩
  | 51 => ⟨S_, .f32⟩
  | 52 => ⟨S1x12288, .f32⟩
  | 53 => ⟨S1x12288, .f32⟩
  | 54 => ⟨S1x12288, .f32⟩
  | 55 => ⟨S_, .f32⟩
  | 56 => ⟨S1x12288, .f32⟩
  | 57 => ⟨S1x12288, .f32⟩
  | 58 => ⟨S1x12288, .f32⟩
  | 59 => ⟨S_, .f32⟩
  | 60 => ⟨S1x12288, .f32⟩
  | 61 => ⟨S1x12288, .f32⟩
  | 62 => ⟨S1x12288, .f32⟩
  | 63 => ⟨S_, .f32⟩
  | 64 => ⟨S1x12288, .f32⟩
  | 65 => ⟨S1x12288, .f32⟩
  | 66 => ⟨S_, .f32⟩
  | 67 => ⟨S1x12288, .f32⟩
  | 68 => ⟨S1x12288, .f32⟩
  | 69 => ⟨S1x12288, .f32⟩
  | 70 => ⟨S_, .f32⟩
  | 71 => ⟨S1x12288, .f32⟩
  | 72 => ⟨S1x12288, .f32⟩
  | 73 => ⟨S1x12288, .f32⟩
  | 74 => ⟨S_, .f32⟩
  | 75 => ⟨S1x12288, .f32⟩
  | 76 => ⟨S1x12288, .f32⟩
  | 77 => ⟨S1x12288, .f32⟩
  | 78 => ⟨S_, .f32⟩
  | 79 => ⟨S1x12288, .f32⟩
  | 80 => ⟨S1x12288, .f32⟩
  | 81 => ⟨S_, .f32⟩
  | 82 => ⟨S2048, .f32⟩
  | 83 => ⟨S2048, .f32⟩
  | 84 => ⟨S_, .f32⟩
  | 85 => ⟨S2048, .f32⟩
  | 86 => ⟨S2048, .f32⟩
  | 87 => ⟨S2048, .f32⟩
  | 88 => ⟨S_, .f32⟩
  | 89 => ⟨S2048, .f32⟩
  | 90 => ⟨S2048, .f32⟩
  | 91 => ⟨S2048, .f32⟩
  | 92 => ⟨S_, .f32⟩
  | 93 => ⟨S2048, .f32⟩
  | 94 => ⟨S2048, .f32⟩
  | 95 => ⟨S2048, .f32⟩
  | 96 => ⟨S_, .f32⟩
  | 97 => ⟨S2048, .f32⟩
  | 98 => ⟨S2048, .f32⟩
  | 99 => ⟨S_, .f32⟩
  | 100 => ⟨S2048, .f32⟩
  | 101 => ⟨S2048, .f32⟩
  | 102 => ⟨S2048, .f32⟩
  | 103 => ⟨S_, .f32⟩
  | 104 => ⟨S2048, .f32⟩
  | 105 => ⟨S2048, .f32⟩
  | 106 => ⟨S2048, .f32⟩
  | 107 => ⟨S_, .f32⟩
  | 108 => ⟨S2048, .f32⟩
  | 109 => ⟨S2048, .f32⟩
  | 110 => ⟨S2048, .f32⟩
  | 111 => ⟨S_, .f32⟩
  | 112 => ⟨S2048, .f32⟩
  | 113 => ⟨S2048, .f32⟩
  | _ => ⟨S1x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_cst : Ref sig .tc := ⟨.hbm, 66, rfl⟩
abbrev main_v0 : Ref sig .tc := ⟨.hbm, 67, rfl⟩
abbrev main_cst_0 : Ref sig .tc := ⟨.hbm, 68, rfl⟩
abbrev main_v1 : Ref sig .tc := ⟨.hbm, 69, rfl⟩
abbrev main_cst_1 : Ref sig .tc := ⟨.hbm, 70, rfl⟩
abbrev main_v2 : Ref sig .tc := ⟨.hbm, 71, rfl⟩
abbrev main_cst_2 : Ref sig .tc := ⟨.hbm, 72, rfl⟩
abbrev main_v3 : Ref sig .tc := ⟨.hbm, 73, rfl⟩
abbrev main_cst_3 : Ref sig .tc := ⟨.hbm, 74, rfl⟩
abbrev main_v4 : Ref sig .tc := ⟨.hbm, 75, rfl⟩
abbrev main_cst_4 : Ref sig .tc := ⟨.hbm, 76, rfl⟩
abbrev main_v5 : Ref sig .tc := ⟨.hbm, 77, rfl⟩
abbrev main_cst_5 : Ref sig .tc := ⟨.hbm, 78, rfl⟩
abbrev main_v6 : Ref sig .tc := ⟨.hbm, 79, rfl⟩
abbrev main_cst_6 : Ref sig .tc := ⟨.hbm, 80, rfl⟩
abbrev main_v7 : Ref sig .tc := ⟨.hbm, 81, rfl⟩
abbrev main_cst_7 : Ref sig .tc := ⟨.hbm, 82, rfl⟩
abbrev main_v8 : Ref sig .tc := ⟨.hbm, 83, rfl⟩
abbrev main_cst_8 : Ref sig .tc := ⟨.hbm, 84, rfl⟩
abbrev main_v9 : Ref sig .tc := ⟨.hbm, 85, rfl⟩
abbrev main_cst_9 : Ref sig .tc := ⟨.hbm, 86, rfl⟩
abbrev main_v10 : Ref sig .tc := ⟨.hbm, 87, rfl⟩
abbrev main_cst_10 : Ref sig .tc := ⟨.hbm, 88, rfl⟩
abbrev main_v11 : Ref sig .tc := ⟨.hbm, 89, rfl⟩
abbrev main_cst_11 : Ref sig .tc := ⟨.hbm, 90, rfl⟩
abbrev main_v12 : Ref sig .tc := ⟨.hbm, 91, rfl⟩
abbrev main_cst_12 : Ref sig .tc := ⟨.hbm, 92, rfl⟩
abbrev main_v13 : Ref sig .tc := ⟨.hbm, 93, rfl⟩
abbrev main_cst_13 : Ref sig .tc := ⟨.hbm, 94, rfl⟩
abbrev main_v14 : Ref sig .tc := ⟨.hbm, 95, rfl⟩
abbrev main_cst_14 : Ref sig .tc := ⟨.hbm, 96, rfl⟩
abbrev main_v15 : Ref sig .tc := ⟨.hbm, 97, rfl⟩
abbrev main_cst_15 : Ref sig .tc := ⟨.hbm, 98, rfl⟩
abbrev main_v16 : Ref sig .tc := ⟨.hbm, 99, rfl⟩
abbrev main_v17 : Ref sig .tc := ⟨.hbm, 100, rfl⟩
abbrev main_cst_16 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_cst_17 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_cst_18 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_cst_19 : Ref sig .tc := ⟨.hbm, 113, rfl⟩
abbrev main_v27 : Ref sig .tc := ⟨.hbm, 114, rfl⟩
abbrev main_v28 : Ref sig .tc := ⟨.hbm, 115, rfl⟩
abbrev main_cst_20 : Ref sig .tc := ⟨.hbm, 116, rfl⟩
abbrev main_v29 : Ref sig .tc := ⟨.hbm, 117, rfl⟩
abbrev main_v30 : Ref sig .tc := ⟨.hbm, 118, rfl⟩
abbrev main_v31 : Ref sig .tc := ⟨.hbm, 119, rfl⟩
abbrev main_cst_21 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_cst_22 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_cst_23 : Ref sig .tc := ⟨.hbm, 128, rfl⟩
abbrev main_v38 : Ref sig .tc := ⟨.hbm, 129, rfl⟩
abbrev main_v39 : Ref sig .tc := ⟨.hbm, 130, rfl⟩
abbrev main_cst_24 : Ref sig .tc := ⟨.hbm, 131, rfl⟩
abbrev main_v40 : Ref sig .tc := ⟨.hbm, 132, rfl⟩
abbrev main_v41 : Ref sig .tc := ⟨.hbm, 133, rfl⟩
abbrev main_cst_25 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_cst_26 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_cst_27 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_cst_28 : Ref sig .tc := ⟨.hbm, 146, rfl⟩
abbrev main_v51 : Ref sig .tc := ⟨.hbm, 147, rfl⟩
abbrev main_v52 : Ref sig .tc := ⟨.hbm, 148, rfl⟩
abbrev main_cst_29 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_cst_30 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_cst_31 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_cst_32 : Ref sig .tc := ⟨.hbm, 161, rfl⟩
abbrev main_v62 : Ref sig .tc := ⟨.hbm, 162, rfl⟩
abbrev main_v63 : Ref sig .tc := ⟨.hbm, 163, rfl⟩
abbrev main_cst_33 : Ref sig .tc := ⟨.hbm, 164, rfl⟩
abbrev main_v64 : Ref sig .tc := ⟨.hbm, 165, rfl⟩
abbrev main_v65 : Ref sig .tc := ⟨.hbm, 166, rfl⟩
abbrev main_cst_34 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_cst_35 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_cst_36 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_cst_37 : Ref sig .tc := ⟨.hbm, 179, rfl⟩
abbrev main_v75 : Ref sig .tc := ⟨.hbm, 180, rfl⟩
abbrev main_v76 : Ref sig .tc := ⟨.hbm, 181, rfl⟩
abbrev main_cst_38 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_cst_39 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_cst_40 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_cst_41 : Ref sig .tc := ⟨.hbm, 194, rfl⟩
abbrev main_v86 : Ref sig .tc := ⟨.hbm, 195, rfl⟩
abbrev main_v87 : Ref sig .tc := ⟨.hbm, 196, rfl⟩
abbrev main_cst_42 : Ref sig .tc := ⟨.hbm, 197, rfl⟩
abbrev main_v88 : Ref sig .tc := ⟨.hbm, 198, rfl⟩
abbrev main_v89 : Ref sig .tc := ⟨.hbm, 199, rfl⟩
abbrev main_cst_43 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_cst_44 : Ref sig .tc := ⟨.hbm, 204, rfl⟩
abbrev main_v93 : Ref sig .tc := ⟨.hbm, 205, rfl⟩
abbrev main_v94 : Ref sig .tc := ⟨.hbm, 206, rfl⟩
abbrev main_v95 : Ref sig .tc := ⟨.hbm, 207, rfl⟩
abbrev main_cst_45 : Ref sig .tc := ⟨.hbm, 208, rfl⟩
abbrev main_v96 : Ref sig .tc := ⟨.hbm, 209, rfl⟩
abbrev main_v97 : Ref sig .tc := ⟨.hbm, 210, rfl⟩
abbrev main_v98 : Ref sig .tc := ⟨.hbm, 211, rfl⟩
abbrev main_cst_46 : Ref sig .tc := ⟨.hbm, 212, rfl⟩
abbrev main_v99 : Ref sig .tc := ⟨.hbm, 213, rfl⟩
abbrev main_v100 : Ref sig .tc := ⟨.hbm, 214, rfl⟩
abbrev main_cst_47 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_cst_48 : Ref sig .tc := ⟨.hbm, 219, rfl⟩
abbrev main_v104 : Ref sig .tc := ⟨.hbm, 220, rfl⟩
abbrev main_v105 : Ref sig .tc := ⟨.hbm, 221, rfl⟩
abbrev main_v106 : Ref sig .tc := ⟨.hbm, 222, rfl⟩
abbrev main_cst_49 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_cst_50 : Ref sig .tc := ⟨.hbm, 227, rfl⟩
abbrev main_v110 : Ref sig .tc := ⟨.hbm, 228, rfl⟩
abbrev main_v111 : Ref sig .tc := ⟨.hbm, 229, rfl⟩
abbrev main_cst_51 : Ref sig .tc := ⟨.hbm, 230, rfl⟩
abbrev main_v112 : Ref sig .tc := ⟨.hbm, 231, rfl⟩
abbrev main_v113 : Ref sig .tc := ⟨.hbm, 232, rfl⟩
abbrev main_cst_52 : Ref sig .tc := ⟨.hbm, 233, rfl⟩
abbrev main_v114 : Ref sig .tc := ⟨.hbm, 234, rfl⟩
abbrev main_v115 : Ref sig .tc := ⟨.hbm, 235, rfl⟩
abbrev main_v116 : Ref sig .tc := ⟨.hbm, 236, rfl⟩
abbrev main_cst_53 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_cst_54 : Ref sig .tc := ⟨.hbm, 241, rfl⟩
abbrev main_v120 : Ref sig .tc := ⟨.hbm, 242, rfl⟩
abbrev main_v121 : Ref sig .tc := ⟨.hbm, 243, rfl⟩
abbrev main_v122 : Ref sig .tc := ⟨.hbm, 244, rfl⟩
abbrev main_cst_55 : Ref sig .tc := ⟨.hbm, 245, rfl⟩
abbrev main_v123 : Ref sig .tc := ⟨.hbm, 246, rfl⟩
abbrev main_v124 : Ref sig .tc := ⟨.hbm, 247, rfl⟩
abbrev main_cst_56 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_cst_57 : Ref sig .tc := ⟨.hbm, 252, rfl⟩
abbrev main_v128 : Ref sig .tc := ⟨.hbm, 253, rfl⟩
abbrev main_v129 : Ref sig .tc := ⟨.hbm, 254, rfl⟩
abbrev main_v130 : Ref sig .tc := ⟨.hbm, 255, rfl⟩
abbrev main_cst_58 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_cst_59 : Ref sig .tc := ⟨.hbm, 260, rfl⟩
abbrev main_v134 : Ref sig .tc := ⟨.hbm, 261, rfl⟩
abbrev main_v135 : Ref sig .tc := ⟨.hbm, 262, rfl⟩
abbrev main_cst_60 : Ref sig .tc := ⟨.hbm, 263, rfl⟩
abbrev main_v136 : Ref sig .tc := ⟨.hbm, 264, rfl⟩
abbrev main_v137 : Ref sig .tc := ⟨.hbm, 265, rfl⟩
abbrev main_cst_61 : Ref sig .tc := ⟨.hbm, 266, rfl⟩
abbrev main_v138 : Ref sig .tc := ⟨.hbm, 267, rfl⟩
abbrev main_v139 : Ref sig .tc := ⟨.hbm, 268, rfl⟩
abbrev main_v140 : Ref sig .tc := ⟨.hbm, 269, rfl⟩
abbrev main_cst_62 : Ref sig .tc := ⟨.hbm, 270, rfl⟩
abbrev main_v141 : Ref sig .tc := ⟨.hbm, 271, rfl⟩
abbrev main_v142 : Ref sig .tc := ⟨.hbm, 272, rfl⟩
abbrev main_v143 : Ref sig .tc := ⟨.hbm, 273, rfl⟩
abbrev main_cst_63 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_cst_64 : Ref sig .tc := ⟨.hbm, 278, rfl⟩
abbrev main_v147 : Ref sig .tc := ⟨.hbm, 279, rfl⟩
abbrev main_v148 : Ref sig .tc := ⟨.hbm, 280, rfl⟩
abbrev main_cst_65 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_cst_66 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_cst_67 : Ref sig .tc := ⟨.hbm, 289, rfl⟩
abbrev main_v155 : Ref sig .tc := ⟨.hbm, 290, rfl⟩
abbrev main_v156 : Ref sig .tc := ⟨.hbm, 291, rfl⟩
abbrev main_v157 : Ref sig .tc := ⟨.hbm, 292, rfl⟩
abbrev main_cst_68 : Ref sig .tc := ⟨.hbm, 293, rfl⟩
abbrev main_v158 : Ref sig .tc := ⟨.hbm, 294, rfl⟩
abbrev main_v159 : Ref sig .tc := ⟨.hbm, 295, rfl⟩
abbrev main_cst_69 : Ref sig .tc := ⟨.hbm, 296, rfl⟩
abbrev main_v160 : Ref sig .tc := ⟨.hbm, 297, rfl⟩
abbrev main_v161 : Ref sig .tc := ⟨.hbm, 298, rfl⟩
abbrev main_cst_70 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_cst_71 : Ref sig .tc := ⟨.hbm, 303, rfl⟩
abbrev main_v165 : Ref sig .tc := ⟨.hbm, 304, rfl⟩
abbrev main_v166 : Ref sig .tc := ⟨.hbm, 305, rfl⟩
abbrev main_v167 : Ref sig .tc := ⟨.hbm, 306, rfl⟩
abbrev main_cst_72 : Ref sig .tc := ⟨.hbm, 307, rfl⟩
abbrev main_v168 : Ref sig .tc := ⟨.hbm, 308, rfl⟩
abbrev main_v169 : Ref sig .tc := ⟨.hbm, 309, rfl⟩
abbrev main_v170 : Ref sig .tc := ⟨.hbm, 310, rfl⟩
abbrev main_cst_73 : Ref sig .tc := ⟨.hbm, 311, rfl⟩
abbrev main_v171 : Ref sig .tc := ⟨.hbm, 312, rfl⟩
abbrev main_v172 : Ref sig .tc := ⟨.hbm, 313, rfl⟩
abbrev main_cst_74 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_cst_75 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_cst_76 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_cst_77 : Ref sig .tc := ⟨.hbm, 326, rfl⟩
abbrev main_v182 : Ref sig .tc := ⟨.hbm, 327, rfl⟩
abbrev main_v183 : Ref sig .tc := ⟨.hbm, 328, rfl⟩
abbrev main_cst_78 : Ref sig .tc := ⟨.hbm, 329, rfl⟩
abbrev main_v184 : Ref sig .tc := ⟨.hbm, 330, rfl⟩
abbrev main_v185 : Ref sig .tc := ⟨.hbm, 331, rfl⟩
abbrev main_cst_79 : Ref sig .tc := ⟨.hbm, 332, rfl⟩
abbrev main_v186 : Ref sig .tc := ⟨.hbm, 333, rfl⟩
abbrev main_v187 : Ref sig .tc := ⟨.hbm, 334, rfl⟩
abbrev main_v188 : Ref sig .tc := ⟨.hbm, 335, rfl⟩
abbrev main_cst_80 : Ref sig .tc := ⟨.hbm, 336, rfl⟩
abbrev main_v189 : Ref sig .tc := ⟨.hbm, 337, rfl⟩
abbrev main_v190 : Ref sig .tc := ⟨.hbm, 338, rfl⟩
abbrev main_v191 : Ref sig .tc := ⟨.hbm, 339, rfl⟩
abbrev main_cst_81 : Ref sig .tc := ⟨.hbm, 340, rfl⟩
abbrev main_v192 : Ref sig .tc := ⟨.hbm, 341, rfl⟩
abbrev main_v193 : Ref sig .tc := ⟨.hbm, 342, rfl⟩
abbrev main_v194 : Ref sig .tc := ⟨.hbm, 343, rfl⟩
abbrev main_cst_82 : Ref sig .tc := ⟨.hbm, 344, rfl⟩
abbrev main_v195 : Ref sig .tc := ⟨.hbm, 345, rfl⟩
abbrev main_v196 : Ref sig .tc := ⟨.hbm, 346, rfl⟩
abbrev main_cst_83 : Ref sig .tc := ⟨.hbm, 347, rfl⟩
abbrev main_v197 : Ref sig .tc := ⟨.hbm, 348, rfl⟩
abbrev main_v198 : Ref sig .tc := ⟨.hbm, 349, rfl⟩
abbrev main_v199 : Ref sig .tc := ⟨.hbm, 350, rfl⟩
abbrev main_cst_84 : Ref sig .tc := ⟨.hbm, 351, rfl⟩
abbrev main_v200 : Ref sig .tc := ⟨.hbm, 352, rfl⟩
abbrev main_v201 : Ref sig .tc := ⟨.hbm, 353, rfl⟩
abbrev main_v202 : Ref sig .tc := ⟨.hbm, 354, rfl⟩
abbrev main_cst_85 : Ref sig .tc := ⟨.hbm, 355, rfl⟩
abbrev main_v203 : Ref sig .tc := ⟨.hbm, 356, rfl⟩
abbrev main_v204 : Ref sig .tc := ⟨.hbm, 357, rfl⟩
abbrev main_v205 : Ref sig .tc := ⟨.hbm, 358, rfl⟩
abbrev main_cst_86 : Ref sig .tc := ⟨.hbm, 359, rfl⟩
abbrev main_v206 : Ref sig .tc := ⟨.hbm, 360, rfl⟩
abbrev main_v207 : Ref sig .tc := ⟨.hbm, 361, rfl⟩
abbrev main_cst_87 : Ref sig .tc := ⟨.hbm, 362, rfl⟩
abbrev main_v208 : Ref sig .tc := ⟨.hbm, 363, rfl⟩
abbrev main_v209 : Ref sig .tc := ⟨.hbm, 364, rfl⟩
abbrev main_cst_88 : Ref sig .tc := ⟨.hbm, 365, rfl⟩
abbrev main_v210 : Ref sig .tc := ⟨.hbm, 366, rfl⟩
abbrev main_v211 : Ref sig .tc := ⟨.hbm, 367, rfl⟩
abbrev main_v212 : Ref sig .tc := ⟨.hbm, 368, rfl⟩
abbrev main_cst_89 : Ref sig .tc := ⟨.hbm, 369, rfl⟩
abbrev main_v213 : Ref sig .tc := ⟨.hbm, 370, rfl⟩
abbrev main_v214 : Ref sig .tc := ⟨.hbm, 371, rfl⟩
abbrev main_v215 : Ref sig .tc := ⟨.hbm, 372, rfl⟩
abbrev main_cst_90 : Ref sig .tc := ⟨.hbm, 373, rfl⟩
abbrev main_v216 : Ref sig .tc := ⟨.hbm, 374, rfl⟩
abbrev main_v217 : Ref sig .tc := ⟨.hbm, 375, rfl⟩
abbrev main_v218 : Ref sig .tc := ⟨.hbm, 376, rfl⟩
abbrev main_cst_91 : Ref sig .tc := ⟨.hbm, 377, rfl⟩
abbrev main_v219 : Ref sig .tc := ⟨.hbm, 378, rfl⟩
abbrev main_v220 : Ref sig .tc := ⟨.hbm, 379, rfl⟩
abbrev main_cst_92 : Ref sig .tc := ⟨.hbm, 380, rfl⟩
abbrev main_v221 : Ref sig .tc := ⟨.hbm, 381, rfl⟩
abbrev main_v222 : Ref sig .tc := ⟨.hbm, 382, rfl⟩
abbrev main_v223 : Ref sig .tc := ⟨.hbm, 383, rfl⟩
abbrev main_cst_93 : Ref sig .tc := ⟨.hbm, 384, rfl⟩
abbrev main_v224 : Ref sig .tc := ⟨.hbm, 385, rfl⟩
abbrev main_v225 : Ref sig .tc := ⟨.hbm, 386, rfl⟩
abbrev main_v226 : Ref sig .tc := ⟨.hbm, 387, rfl⟩
abbrev main_cst_94 : Ref sig .tc := ⟨.hbm, 388, rfl⟩
abbrev main_v227 : Ref sig .tc := ⟨.hbm, 389, rfl⟩
abbrev main_v228 : Ref sig .tc := ⟨.hbm, 390, rfl⟩
abbrev main_v229 : Ref sig .tc := ⟨.hbm, 391, rfl⟩
abbrev main_cst_95 : Ref sig .tc := ⟨.hbm, 392, rfl⟩
abbrev main_v230 : Ref sig .tc := ⟨.hbm, 393, rfl⟩
abbrev main_v231 : Ref sig .tc := ⟨.hbm, 394, rfl⟩
abbrev main_cst_96 : Ref sig .tc := ⟨.hbm, 395, rfl⟩
abbrev main_v232 : Ref sig .tc := ⟨.hbm, 396, rfl⟩
abbrev main_v233 : Ref sig .tc := ⟨.hbm, 397, rfl⟩
abbrev main_cst_97 : Ref sig .tc := ⟨.hbm, 398, rfl⟩
abbrev main_v234 : Ref sig .tc := ⟨.hbm, 399, rfl⟩
abbrev main_v235 : Ref sig .tc := ⟨.hbm, 400, rfl⟩
abbrev main_v236 : Ref sig .tc := ⟨.hbm, 401, rfl⟩
abbrev main_cst_98 : Ref sig .tc := ⟨.hbm, 402, rfl⟩
abbrev main_v237 : Ref sig .tc := ⟨.hbm, 403, rfl⟩
abbrev main_v238 : Ref sig .tc := ⟨.hbm, 404, rfl⟩
abbrev main_v239 : Ref sig .tc := ⟨.hbm, 405, rfl⟩
abbrev main_cst_99 : Ref sig .tc := ⟨.hbm, 406, rfl⟩
abbrev main_v240 : Ref sig .tc := ⟨.hbm, 407, rfl⟩
abbrev main_v241 : Ref sig .tc := ⟨.hbm, 408, rfl⟩
abbrev main_v242 : Ref sig .tc := ⟨.hbm, 409, rfl⟩
abbrev main_cst_100 : Ref sig .tc := ⟨.hbm, 410, rfl⟩
abbrev main_v243 : Ref sig .tc := ⟨.hbm, 411, rfl⟩
abbrev main_v244 : Ref sig .tc := ⟨.hbm, 412, rfl⟩
abbrev main_cst_101 : Ref sig .tc := ⟨.hbm, 413, rfl⟩
abbrev main_v245 : Ref sig .tc := ⟨.hbm, 414, rfl⟩
abbrev main_v246 : Ref sig .tc := ⟨.hbm, 415, rfl⟩
abbrev main_v247 : Ref sig .tc := ⟨.hbm, 416, rfl⟩
abbrev main_cst_102 : Ref sig .tc := ⟨.hbm, 417, rfl⟩
abbrev main_v248 : Ref sig .tc := ⟨.hbm, 418, rfl⟩
abbrev main_v249 : Ref sig .tc := ⟨.hbm, 419, rfl⟩
abbrev main_v250 : Ref sig .tc := ⟨.hbm, 420, rfl⟩
abbrev main_cst_103 : Ref sig .tc := ⟨.hbm, 421, rfl⟩
abbrev main_v251 : Ref sig .tc := ⟨.hbm, 422, rfl⟩
abbrev main_v252 : Ref sig .tc := ⟨.hbm, 423, rfl⟩
abbrev main_v253 : Ref sig .tc := ⟨.hbm, 424, rfl⟩
abbrev main_cst_104 : Ref sig .tc := ⟨.hbm, 425, rfl⟩
abbrev main_v254 : Ref sig .tc := ⟨.hbm, 426, rfl⟩
abbrev main_v255 : Ref sig .tc := ⟨.hbm, 427, rfl⟩
abbrev main_cst_105 : Ref sig .tc := ⟨.hbm, 428, rfl⟩
abbrev main_v256 : Ref sig .tc := ⟨.hbm, 429, rfl⟩
abbrev main_v257 : Ref sig .tc := ⟨.hbm, 430, rfl⟩
abbrev main_cst_106 : Ref sig .tc := ⟨.hbm, 431, rfl⟩
abbrev main_v258 : Ref sig .tc := ⟨.hbm, 432, rfl⟩
abbrev main_v259 : Ref sig .tc := ⟨.hbm, 433, rfl⟩
abbrev main_v260 : Ref sig .tc := ⟨.hbm, 434, rfl⟩
abbrev main_cst_107 : Ref sig .tc := ⟨.hbm, 435, rfl⟩
abbrev main_v261 : Ref sig .tc := ⟨.hbm, 436, rfl⟩
abbrev main_v262 : Ref sig .tc := ⟨.hbm, 437, rfl⟩
abbrev main_v263 : Ref sig .tc := ⟨.hbm, 438, rfl⟩
abbrev main_cst_108 : Ref sig .tc := ⟨.hbm, 439, rfl⟩
abbrev main_v264 : Ref sig .tc := ⟨.hbm, 440, rfl⟩
abbrev main_v265 : Ref sig .tc := ⟨.hbm, 441, rfl⟩
abbrev main_v266 : Ref sig .tc := ⟨.hbm, 442, rfl⟩
abbrev main_cst_109 : Ref sig .tc := ⟨.hbm, 443, rfl⟩
abbrev main_v267 : Ref sig .tc := ⟨.hbm, 444, rfl⟩
abbrev main_v268 : Ref sig .tc := ⟨.hbm, 445, rfl⟩
abbrev main_cst_110 : Ref sig .tc := ⟨.hbm, 446, rfl⟩
abbrev main_v269 : Ref sig .tc := ⟨.hbm, 447, rfl⟩
abbrev main_v270 : Ref sig .tc := ⟨.hbm, 448, rfl⟩
abbrev main_v271 : Ref sig .tc := ⟨.hbm, 449, rfl⟩
abbrev main_cst_111 : Ref sig .tc := ⟨.hbm, 450, rfl⟩
abbrev main_v272 : Ref sig .tc := ⟨.hbm, 451, rfl⟩
abbrev main_v273 : Ref sig .tc := ⟨.hbm, 452, rfl⟩
abbrev main_v274 : Ref sig .tc := ⟨.hbm, 453, rfl⟩
abbrev main_cst_112 : Ref sig .tc := ⟨.hbm, 454, rfl⟩
abbrev main_v275 : Ref sig .tc := ⟨.hbm, 455, rfl⟩
abbrev main_v276 : Ref sig .tc := ⟨.hbm, 456, rfl⟩
abbrev main_v277 : Ref sig .tc := ⟨.hbm, 457, rfl⟩
abbrev main_cst_113 : Ref sig .tc := ⟨.hbm, 458, rfl⟩
abbrev main_v278 : Ref sig .tc := ⟨.hbm, 459, rfl⟩
abbrev main_v279 : Ref sig .tc := ⟨.hbm, 460, rfl⟩
abbrev main_cst_114 : Ref sig .tc := ⟨.hbm, 461, rfl⟩
abbrev main_v280 : Ref sig .tc := ⟨.hbm, 462, rfl⟩
abbrev main_v281 : Ref sig .tc := ⟨.hbm, 463, rfl⟩
abbrev main_cst_115 : Ref sig .tc := ⟨.hbm, 464, rfl⟩
abbrev main_v282 : Ref sig .tc := ⟨.hbm, 465, rfl⟩
abbrev main_v283 : Ref sig .tc := ⟨.hbm, 466, rfl⟩
abbrev main_v284 : Ref sig .tc := ⟨.hbm, 467, rfl⟩
abbrev main_cst_116 : Ref sig .tc := ⟨.hbm, 468, rfl⟩
abbrev main_v285 : Ref sig .tc := ⟨.hbm, 469, rfl⟩
abbrev main_v286 : Ref sig .tc := ⟨.hbm, 470, rfl⟩
abbrev main_v287 : Ref sig .tc := ⟨.hbm, 471, rfl⟩
abbrev main_cst_117 : Ref sig .tc := ⟨.hbm, 472, rfl⟩
abbrev main_v288 : Ref sig .tc := ⟨.hbm, 473, rfl⟩
abbrev main_v289 : Ref sig .tc := ⟨.hbm, 474, rfl⟩
abbrev main_v290 : Ref sig .tc := ⟨.hbm, 475, rfl⟩
abbrev main_cst_118 : Ref sig .tc := ⟨.hbm, 476, rfl⟩
abbrev main_v291 : Ref sig .tc := ⟨.hbm, 477, rfl⟩
abbrev main_v292 : Ref sig .tc := ⟨.hbm, 478, rfl⟩
abbrev main_cst_119 : Ref sig .tc := ⟨.hbm, 479, rfl⟩
abbrev main_v293 : Ref sig .tc := ⟨.hbm, 480, rfl⟩
abbrev main_v294 : Ref sig .tc := ⟨.hbm, 481, rfl⟩
abbrev main_v295 : Ref sig .tc := ⟨.hbm, 482, rfl⟩
abbrev main_cst_120 : Ref sig .tc := ⟨.hbm, 483, rfl⟩
abbrev main_v296 : Ref sig .tc := ⟨.hbm, 484, rfl⟩
abbrev main_v297 : Ref sig .tc := ⟨.hbm, 485, rfl⟩
abbrev main_v298 : Ref sig .tc := ⟨.hbm, 486, rfl⟩
abbrev main_cst_121 : Ref sig .tc := ⟨.hbm, 487, rfl⟩
abbrev main_v299 : Ref sig .tc := ⟨.hbm, 488, rfl⟩
abbrev main_v300 : Ref sig .tc := ⟨.hbm, 489, rfl⟩
abbrev main_v301 : Ref sig .tc := ⟨.hbm, 490, rfl⟩
abbrev main_cst_122 : Ref sig .tc := ⟨.hbm, 491, rfl⟩
abbrev main_v302 : Ref sig .tc := ⟨.hbm, 492, rfl⟩
abbrev main_v303 : Ref sig .tc := ⟨.hbm, 493, rfl⟩
abbrev main_cst_123 : Ref sig .tc := ⟨.hbm, 494, rfl⟩
abbrev main_v304 : Ref sig .tc := ⟨.hbm, 495, rfl⟩
abbrev main_v305 : Ref sig .tc := ⟨.hbm, 496, rfl⟩
abbrev main_cst_124 : Ref sig .tc := ⟨.hbm, 497, rfl⟩
abbrev main_v306 : Ref sig .tc := ⟨.hbm, 498, rfl⟩
abbrev main_v307 : Ref sig .tc := ⟨.hbm, 499, rfl⟩
abbrev main_v308 : Ref sig .tc := ⟨.hbm, 500, rfl⟩
abbrev main_cst_125 : Ref sig .tc := ⟨.hbm, 501, rfl⟩
abbrev main_v309 : Ref sig .tc := ⟨.hbm, 502, rfl⟩
abbrev main_v310 : Ref sig .tc := ⟨.hbm, 503, rfl⟩
abbrev main_v311 : Ref sig .tc := ⟨.hbm, 504, rfl⟩
abbrev main_cst_126 : Ref sig .tc := ⟨.hbm, 505, rfl⟩
abbrev main_v312 : Ref sig .tc := ⟨.hbm, 506, rfl⟩
abbrev main_v313 : Ref sig .tc := ⟨.hbm, 507, rfl⟩
abbrev main_v314 : Ref sig .tc := ⟨.hbm, 508, rfl⟩
abbrev main_cst_127 : Ref sig .tc := ⟨.hbm, 509, rfl⟩
abbrev main_v315 : Ref sig .tc := ⟨.hbm, 510, rfl⟩
abbrev main_v316 : Ref sig .tc := ⟨.hbm, 511, rfl⟩
abbrev main_cst_128 : Ref sig .tc := ⟨.hbm, 512, rfl⟩
abbrev main_v317 : Ref sig .tc := ⟨.hbm, 513, rfl⟩
abbrev main_v318 : Ref sig .tc := ⟨.hbm, 514, rfl⟩
abbrev main_v319 : Ref sig .tc := ⟨.hbm, 515, rfl⟩
abbrev main_cst_129 : Ref sig .tc := ⟨.hbm, 516, rfl⟩
abbrev main_v320 : Ref sig .tc := ⟨.hbm, 517, rfl⟩
abbrev main_v321 : Ref sig .tc := ⟨.hbm, 518, rfl⟩
abbrev main_v322 : Ref sig .tc := ⟨.hbm, 519, rfl⟩
abbrev main_cst_130 : Ref sig .tc := ⟨.hbm, 520, rfl⟩
abbrev main_v323 : Ref sig .tc := ⟨.hbm, 521, rfl⟩
abbrev main_v324 : Ref sig .tc := ⟨.hbm, 522, rfl⟩
abbrev main_v325 : Ref sig .tc := ⟨.hbm, 523, rfl⟩
abbrev main_cst_131 : Ref sig .tc := ⟨.hbm, 524, rfl⟩
abbrev main_v326 : Ref sig .tc := ⟨.hbm, 525, rfl⟩
abbrev main_v327 : Ref sig .tc := ⟨.hbm, 526, rfl⟩
abbrev main_cst_132 : Ref sig .tc := ⟨.hbm, 527, rfl⟩
abbrev main_v328 : Ref sig .tc := ⟨.hbm, 528, rfl⟩
abbrev main_v329 : Ref sig .tc := ⟨.hbm, 529, rfl⟩
abbrev main_cst_133 : Ref sig .tc := ⟨.hbm, 530, rfl⟩
abbrev main_v330 : Ref sig .tc := ⟨.hbm, 531, rfl⟩
abbrev main_v331 : Ref sig .tc := ⟨.hbm, 532, rfl⟩
abbrev main_v332 : Ref sig .tc := ⟨.hbm, 533, rfl⟩
abbrev main_cst_134 : Ref sig .tc := ⟨.hbm, 534, rfl⟩
abbrev main_v333 : Ref sig .tc := ⟨.hbm, 535, rfl⟩
abbrev main_v334 : Ref sig .tc := ⟨.hbm, 536, rfl⟩
abbrev main_v335 : Ref sig .tc := ⟨.hbm, 537, rfl⟩
abbrev main_cst_135 : Ref sig .tc := ⟨.hbm, 538, rfl⟩
abbrev main_v336 : Ref sig .tc := ⟨.hbm, 539, rfl⟩
abbrev main_v337 : Ref sig .tc := ⟨.hbm, 540, rfl⟩
abbrev main_v338 : Ref sig .tc := ⟨.hbm, 541, rfl⟩
abbrev main_cst_136 : Ref sig .tc := ⟨.hbm, 542, rfl⟩
abbrev main_v339 : Ref sig .tc := ⟨.hbm, 543, rfl⟩
abbrev main_v340 : Ref sig .tc := ⟨.hbm, 544, rfl⟩
abbrev main_cst_137 : Ref sig .tc := ⟨.hbm, 545, rfl⟩
abbrev main_v341 : Ref sig .tc := ⟨.hbm, 546, rfl⟩
abbrev main_v342 : Ref sig .tc := ⟨.hbm, 547, rfl⟩
abbrev main_v343 : Ref sig .tc := ⟨.hbm, 548, rfl⟩
abbrev main_cst_138 : Ref sig .tc := ⟨.hbm, 549, rfl⟩
abbrev main_v344 : Ref sig .tc := ⟨.hbm, 550, rfl⟩
abbrev main_v345 : Ref sig .tc := ⟨.hbm, 551, rfl⟩
abbrev main_v346 : Ref sig .tc := ⟨.hbm, 552, rfl⟩
abbrev main_cst_139 : Ref sig .tc := ⟨.hbm, 553, rfl⟩
abbrev main_v347 : Ref sig .tc := ⟨.hbm, 554, rfl⟩
abbrev main_v348 : Ref sig .tc := ⟨.hbm, 555, rfl⟩
abbrev main_v349 : Ref sig .tc := ⟨.hbm, 556, rfl⟩
abbrev main_cst_140 : Ref sig .tc := ⟨.hbm, 557, rfl⟩
abbrev main_v350 : Ref sig .tc := ⟨.hbm, 558, rfl⟩
abbrev main_v351 : Ref sig .tc := ⟨.hbm, 559, rfl⟩
abbrev main_cst_141 : Ref sig .tc := ⟨.hbm, 560, rfl⟩
abbrev main_v352 : Ref sig .tc := ⟨.hbm, 561, rfl⟩
abbrev main_v353 : Ref sig .tc := ⟨.hbm, 562, rfl⟩
abbrev main_cst_142 : Ref sig .tc := ⟨.hbm, 563, rfl⟩
abbrev main_v354 : Ref sig .tc := ⟨.hbm, 564, rfl⟩
abbrev main_v355 : Ref sig .tc := ⟨.hbm, 565, rfl⟩
abbrev main_v356 : Ref sig .tc := ⟨.hbm, 566, rfl⟩
abbrev main_cst_143 : Ref sig .tc := ⟨.hbm, 567, rfl⟩
abbrev main_v357 : Ref sig .tc := ⟨.hbm, 568, rfl⟩
abbrev main_v358 : Ref sig .tc := ⟨.hbm, 569, rfl⟩
abbrev main_v359 : Ref sig .tc := ⟨.hbm, 570, rfl⟩
abbrev main_cst_144 : Ref sig .tc := ⟨.hbm, 571, rfl⟩
abbrev main_v360 : Ref sig .tc := ⟨.hbm, 572, rfl⟩
abbrev main_v361 : Ref sig .tc := ⟨.hbm, 573, rfl⟩
abbrev main_v362 : Ref sig .tc := ⟨.hbm, 574, rfl⟩
abbrev main_cst_145 : Ref sig .tc := ⟨.hbm, 575, rfl⟩
abbrev main_v363 : Ref sig .tc := ⟨.hbm, 576, rfl⟩
abbrev main_v364 : Ref sig .tc := ⟨.hbm, 577, rfl⟩
abbrev main_cst_146 : Ref sig .tc := ⟨.hbm, 578, rfl⟩
abbrev main_v365 : Ref sig .tc := ⟨.hbm, 579, rfl⟩
abbrev main_v366 : Ref sig .tc := ⟨.hbm, 580, rfl⟩
abbrev main_v367 : Ref sig .tc := ⟨.hbm, 581, rfl⟩
abbrev main_cst_147 : Ref sig .tc := ⟨.hbm, 582, rfl⟩
abbrev main_v368 : Ref sig .tc := ⟨.hbm, 583, rfl⟩
abbrev main_v369 : Ref sig .tc := ⟨.hbm, 584, rfl⟩
abbrev main_v370 : Ref sig .tc := ⟨.hbm, 585, rfl⟩
abbrev main_cst_148 : Ref sig .tc := ⟨.hbm, 586, rfl⟩
abbrev main_v371 : Ref sig .tc := ⟨.hbm, 587, rfl⟩
abbrev main_v372 : Ref sig .tc := ⟨.hbm, 588, rfl⟩
abbrev main_v373 : Ref sig .tc := ⟨.hbm, 589, rfl⟩
abbrev main_cst_149 : Ref sig .tc := ⟨.hbm, 590, rfl⟩
abbrev main_v374 : Ref sig .tc := ⟨.hbm, 591, rfl⟩
abbrev main_v375 : Ref sig .tc := ⟨.hbm, 592, rfl⟩
abbrev main_cst_150 : Ref sig .tc := ⟨.hbm, 593, rfl⟩
abbrev main_v376 : Ref sig .tc := ⟨.hbm, 594, rfl⟩
abbrev main_v377 : Ref sig .tc := ⟨.hbm, 595, rfl⟩
abbrev main_cst_151 : Ref sig .tc := ⟨.hbm, 596, rfl⟩
abbrev main_v378 : Ref sig .tc := ⟨.hbm, 597, rfl⟩
abbrev main_v379 : Ref sig .tc := ⟨.hbm, 598, rfl⟩
abbrev main_v380 : Ref sig .tc := ⟨.hbm, 599, rfl⟩
abbrev main_cst_152 : Ref sig .tc := ⟨.hbm, 600, rfl⟩
abbrev main_v381 : Ref sig .tc := ⟨.hbm, 601, rfl⟩
abbrev main_v382 : Ref sig .tc := ⟨.hbm, 602, rfl⟩
abbrev main_v383 : Ref sig .tc := ⟨.hbm, 603, rfl⟩
abbrev main_cst_153 : Ref sig .tc := ⟨.hbm, 604, rfl⟩
abbrev main_v384 : Ref sig .tc := ⟨.hbm, 605, rfl⟩
abbrev main_v385 : Ref sig .tc := ⟨.hbm, 606, rfl⟩
abbrev main_v386 : Ref sig .tc := ⟨.hbm, 607, rfl⟩
abbrev main_cst_154 : Ref sig .tc := ⟨.hbm, 608, rfl⟩
abbrev main_v387 : Ref sig .tc := ⟨.hbm, 609, rfl⟩
abbrev main_v388 : Ref sig .tc := ⟨.hbm, 610, rfl⟩
abbrev main_cst_155 : Ref sig .tc := ⟨.hbm, 611, rfl⟩
abbrev main_v389 : Ref sig .tc := ⟨.hbm, 612, rfl⟩
abbrev main_v390 : Ref sig .tc := ⟨.hbm, 613, rfl⟩
abbrev main_v391 : Ref sig .tc := ⟨.hbm, 614, rfl⟩
abbrev main_cst_156 : Ref sig .tc := ⟨.hbm, 615, rfl⟩
abbrev main_v392 : Ref sig .tc := ⟨.hbm, 616, rfl⟩
abbrev main_v393 : Ref sig .tc := ⟨.hbm, 617, rfl⟩
abbrev main_v394 : Ref sig .tc := ⟨.hbm, 618, rfl⟩
abbrev main_cst_157 : Ref sig .tc := ⟨.hbm, 619, rfl⟩
abbrev main_v395 : Ref sig .tc := ⟨.hbm, 620, rfl⟩
abbrev main_v396 : Ref sig .tc := ⟨.hbm, 621, rfl⟩
abbrev main_v397 : Ref sig .tc := ⟨.hbm, 622, rfl⟩
abbrev main_cst_158 : Ref sig .tc := ⟨.hbm, 623, rfl⟩
abbrev main_v398 : Ref sig .tc := ⟨.hbm, 624, rfl⟩
abbrev main_v399 : Ref sig .tc := ⟨.hbm, 625, rfl⟩

abbrev nD : Nat := 1
abbrev τ : Topo := Topo.v7x

variable {F : FTy → Type} [FloatOps F]
-- ==== KernelSum.lean ====
abbrev S8x3328x128 : Shape := ⟨3, ![8, 3328, 128]⟩
abbrev S8x4x1024 : Shape := ⟨3, ![8, 4, 1024]⟩
abbrev S8x3x12288 : Shape := ⟨3, ![8, 3, 12288]⟩
abbrev S8x32x128 : Shape := ⟨3, ![8, 32, 128]⟩
abbrev S8x288x128 : Shape := ⟨3, ![8, 288, 128]⟩
abbrev S8x3648x128 : Shape := ⟨3, ![8, 3648, 128]⟩
abbrev S320x128 : Shape := ⟨2, ![320, 128]⟩
abbrev S8x64x128 : Shape := ⟨3, ![8, 64, 128]⟩
abbrev S64x128 : Shape := ⟨2, ![64, 128]⟩
abbrev S1x64x128 : Shape := ⟨3, ![1, 64, 128]⟩
abbrev S32x128 : Shape := ⟨2, ![32, 128]⟩
abbrev S4x1024 : Shape := ⟨2, ![4, 1024]⟩
abbrev S288x128 : Shape := ⟨2, ![288, 128]⟩
abbrev S3x12288 : Shape := ⟨2, ![3, 12288]⟩

abbrev nBuf : Space → Nat
  | .hbm => 11
  | .vmem => 4
  | .smem => 0
  | _ => 0

abbrev bufTy : (tb : Table) → Fin (tcTables nBuf tb) → BufTy
  | .hbm, ⟨0, _⟩ => ⟨S8x3328x128, .f32⟩
  | .hbm, ⟨1, _⟩ => ⟨S8x4x1024, .f32⟩
  | .hbm, ⟨2, _⟩ => ⟨S8x3x12288, .f32⟩
  | .hbm, ⟨3, _⟩ => ⟨S8x32x128, .f32⟩
  | .hbm, ⟨4, _⟩ => ⟨S8x288x128, .f32⟩
  | .hbm, ⟨5, _⟩ => ⟨S8x3648x128, .f32⟩
  | .hbm, ⟨6, _⟩ => ⟨S320x128, .f32⟩
  | .hbm, ⟨7, _⟩ => ⟨S32x128, .f32⟩
  | .hbm, ⟨8, _⟩ => ⟨S4x1024, .f32⟩
  | .hbm, ⟨9, _⟩ => ⟨S288x128, .f32⟩
  | .hbm, ⟨10, _⟩ => ⟨S3x12288, .f32⟩
  | .local _ .vmem, ⟨0, _⟩ => ⟨S8x64x128, .f32⟩
  | .local _ .vmem, ⟨1, _⟩ => ⟨S8x64x128, .f32⟩
  | .local _ .vmem, ⟨2, _⟩ => ⟨S64x128, .f32⟩
  | .local _ .vmem, ⟨3, _⟩ => ⟨S64x128, .f32⟩
  | _, _ => ⟨S8x3328x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c52_i32 : BitVec 32 := 52#32
  let v0 : BitVec 32 := Scalar.addi arg0 c52_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceSumIdeal.lean ====
abbrev S8x3328x128 : Shape := ⟨3, ![8, 3328, 128]⟩
abbrev S8x4x1024 : Shape := ⟨3, ![8, 4, 1024]⟩
abbrev S8x3x12288 : Shape := ⟨3, ![8, 3, 12288]⟩
abbrev S_ : Shape := ⟨0, ![]⟩
abbrev S4x1024 : Shape := ⟨2, ![4, 1024]⟩
abbrev S3x12288 : Shape := ⟨2, ![3, 12288]⟩

abbrev nBuf : Space → Nat
  | .hbm => 7
  | .vmem => 0
  | .smem => 0
  | _ => 0

abbrev bufTy : (tb : Table) → Fin (tcTables nBuf tb) → BufTy
  | .hbm, ⟨0, _⟩ => ⟨S8x3328x128, .f32⟩
  | .hbm, ⟨1, _⟩ => ⟨S8x4x1024, .f32⟩
  | .hbm, ⟨2, _⟩ => ⟨S8x3x12288, .f32⟩
  | .hbm, ⟨3, _⟩ => ⟨S_, .f32⟩
  | .hbm, ⟨4, _⟩ => ⟨S4x1024, .f32⟩
  | .hbm, ⟨5, _⟩ => ⟨S_, .f32⟩
  | .hbm, ⟨6, _⟩ => ⟨S3x12288, .f32⟩
  | _, _ => ⟨S8x3328x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== Proof.GatePay.lean ====
/- What the kernel's body computes, read at one place of a block: the product with the down weights, the gradient of
   the gated GELU on the tile and its halo, and the sums over the tile's rows. -/
module
public import proofs.«01_k».proof.Proof.Gen.KernelIdeal.Skeleton
public import Idealize.ShloMosaic.Lib.Pipeline.ValueKit
public import Idealize.ShloMosaic.Lib.WordCmp
@[expose] public section
set_option maxRecDepth 16384
noncomputable section
namespace Cert.KernelIdeal.Val

open Cert.KernelIdeal Cert.KernelIdeal.Gen Idealize.ShloMosaic

/-- The GELU's gate as the kernel spells it: half of `1 + tanh`. -/
def sg (z : EReal) : EReal :=
  Ideal.ofBits .f32 0x3F000000#32 * Ideal.tanh (z * (Named.named (F := Ideal) κ "gelu_ca" (φ := .f32) 0x3D122279#32 * (z * z)
    + Ideal.ofBits .f32 0x3F4C422A#32)) + Ideal.ofBits .f32 0x3F000000#32

/-- The gradient for the gate half, as the kernel factors it. -/
def dgK (df z v : EReal) : EReal :=
  df * v * (sg z + z * sg z * (1 - sg z) * (Named.named (F := Ideal) κ "gelu_6ca" (φ := .f32) 0x3E5B33B6#32 * (z * z)
    + Ideal.ofBits .f32 0x3FCC422A#32))

/-- The gradient for the value half. -/
def dvK (df z : EReal) : EReal := df * (z * sg z)

/-- The halo's factor is zero at the last tile. -/
theorem select_last (n : ℕ) (hn : n < 16) (x : EReal) :
    Scalar.select (Scalar.cmpi .eq (BitVec.ofNat 32 n) 15#32) (0 : EReal) x = if n = 15 then 0 else x := by
  by_cases h : n = 15
  · rw [if_pos h]; exact if_pos ((WordCmp.cmpi_eq_ofNat_eq_one_iff (w := 32) (b := 15) (by omega) (by omega)).mpr h)
  · rw [if_neg h]; exact if_neg fun e => h ((WordCmp.cmpi_eq_ofNat_eq_one_iff (w := 32) (b := 15) (by omega) (by omega)).mp e)

theorem df_apply (i : grid0.Coords) (an : Vec Ideal S16x2048 .bf16) (a : Vec Ideal S512x2048 .bf16)
    (w : Vec Ideal S1536x2048 .bf16) (r : Fin 520) (f : Fin 1536) :
    k0_pay8 (F := Ideal) i an a w (ix2 r f) = ∑ k : Fin 2048, (if h : (r : ℕ) < 512 then a (ix2 ⟨r, h⟩ k) else
      if (i 1 : ℕ) = 15 then 0 else an (ix2 ⟨r - 512, by omega⟩ k)) * w (ix2 f k) := by
  pointwise [k0_pay8]
  refine Finset.sum_congr rfl fun k _ => ?_
  congr 1
  split
  · rfl
  · have hi : ((i 1 : Fin 16) : ℕ) < 16 := (i 1).isLt
    exact select_last _ hi _

theorem z_apply (x : Vec Ideal S1x512x1536 .bf16) (h : Vec Ideal S1x16x1536 .bf16) (r : Fin 520) (f : Fin 1536) :
    k0_pay9 (F := Ideal) x h (ix2 r f) = if hr : (r : ℕ) < 512 then x (ix3 0 ⟨r, hr⟩ f)
      else h (ix3 0 ⟨r - 512, by omega⟩ f) := by
  pointwise [k0_pay9]

theorem dg_apply (df z : FVec Ideal S520x1536 .f32) (x : Vec Ideal S1x512x1536 .bf16) (h : Vec Ideal S1x16x1536 .bf16)
    (r : Fin 520) (f : Fin 1536) :
    k0_pay15 (F := Ideal) df z (k0_pay10 (F := Ideal) x) (k0_pay11 (F := Ideal) h) (ix2 r f)
      = dgK (df (ix2 r f)) (z (ix2 r f)) (if hr : (r : ℕ) < 512 then x (ix3 0 ⟨r, hr⟩ f)
        else h (ix3 0 ⟨r - 512, by omega⟩ f)) := by
  pointwise [k0_pay15, k0_pay14, k0_pay13, k0_pay12, k0_pay10, k0_pay11, dgK, sg]

theorem dv_apply (df z : FVec Ideal S520x1536 .f32) (r : Fin 520) (f : Fin 1536) :
    k0_pay26 (F := Ideal) df (k0_pay14 (F := Ideal) z) (ix2 r f) = dvK (df (ix2 r f)) (z (ix2 r f)) := by
  pointwise [k0_pay26, k0_pay14, k0_pay13, k0_pay12, dvK, sg]
end Cert.KernelIdeal.Val
-- ==== Proof.Spec.lean ====
/- The numbers that both programs compute, as functions of the arguments' elements: the causal convolution, the gradient
   of the gated GELU at a token, and that gradient continued by zero past the last token. -/
module
public import proofs.«01_k».proof.Proof.GatePay
@[expose] public section
set_option maxRecDepth 16384
noncomputable section
namespace Cert.KernelIdeal.Val

open Cert.KernelIdeal Cert.KernelIdeal.Gen Idealize.ShloMosaic

/-- Feature `f` of half `s` (0 the gate, 1 the value) as a column of the joined array. -/
def col (s : Fin 2) (f : Fin 6144) : Fin 12288 := ⟨s * 6144 + f, by omega⟩

variable (UP : FVec Ideal S1x8192x12288 .f32) (CW : FVec Ideal S3x12288 .f32) (CB : FVec Ideal S12288 .f32)
  (WD : FVec Ideal S6144x2048 .f32) (CT : FVec Ideal S1x8192x2048 .f32)

/-- The causal convolution of width three: zeros stand before the first token. -/
def upc (t : Fin 8192) (q : Fin 12288) : EReal :=
  CB (ix1 q) + (if h : (t : ℕ) < 2 then 0 else UP (ix3 0 ⟨t - 2, by omega⟩ q)) * CW (ix2 0 q)
    + (if h : 1 + (t : ℕ) < 2 then 0 else UP (ix3 0 ⟨1 + t - 2, by omega⟩ q)) * CW (ix2 1 q)
    + UP (ix3 0 t q) * CW (ix2 2 q)

/-- The gradient of the gated activation. -/
def df (t : Fin 8192) (f : Fin 6144) : EReal := ∑ k : Fin 2048, CT (ix3 0 t k) * WD (ix2 f k)

/-- The gradient of the convolution's output, half `s`. -/
def dd (s : Fin 2) (t : Fin 8192) (f : Fin 6144) : EReal :=
  if s = 0 then dgK (df WD CT t f) (upc UP CW CB t (col 0 f)) (upc UP CW CB t (col 1 f))
  else dvK (df WD CT t f) (upc UP CW CB t (col 0 f))

/-- The same, zero past the last token. -/
def dn (s : Fin 2) (n : ℕ) (f : Fin 6144) : EReal := if h : n < 8192 then dd UP CW CB WD CT s ⟨n, h⟩ f else 0
end Cert.KernelIdeal.Val
-- ==== Proof.Win.lean ====
/- The blocks that the kernel's windows stage, read as elements of the arguments. -/
module
public import proofs.«01_k».proof.Proof.Gen.KernelIdeal.Value
public import proofs.«01_k».proof.Proof.Spec
@[expose] public section
set_option maxRecDepth 16384
noncomputable section
namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: 16 token tiles within each of 4 feature tiles; the halo windows take the 16 rows
    after the tile, the last tile's own last 16 rows at the end. -/
theorem idx : ∀ t : Fin cfg0.N, win0_0.index t = ![t.val % 16, 0] ∧ win0_1.index t = ![min ((t.val % 16 + 1) * 32) 511, 0]
    ∧ win0_2.index t = ![t.val / 16, 0] ∧ win0_3.index t = ![0, t.val % 16, t.val / 16]
    ∧ win0_4.index t = ![1, t.val % 16, t.val / 16] ∧ win0_5.index t = ![0, t.val % 16, t.val / 16]
    ∧ win0_6.index t = ![1, t.val % 16, t.val / 16] ∧ win0_7.index t = ![0, min ((t.val % 16 + 1) * 32) 511, t.val / 16]
    ∧ win0_8.index t = ![1, min ((t.val % 16 + 1) * 32) 511, t.val / 16] ∧ win0_9.index t = ![0, t.val / 16]
    ∧ win0_10.index t = ![0, t.val / 16 + 4] ∧ win0_11.index t = ![0, t.val % 16, t.val / 16]
    ∧ win0_12.index t = ![0, t.val / 16] ∧ win0_13.index t = ![0, t.val / 16] ∧ win0_14.index t = ![0, t.val / 16]
    ∧ win0_15.index t = ![0, t.val / 16] ∧ (grid0.coords t 1).val = t.val % 16 ∧ t.val / 16 < 4 :=
  (by decide +kernel : ∀ t : Fin grid0.N, _)

abbrev UP (c : Dev nD) : FVec Ideal S1x8192x12288 .f32 := m ((c : Thread nD τ).loc main_arg0)
abbrev CW (c : Dev nD) : FVec Ideal S3x12288 .f32 := m ((c : Thread nD τ).loc main_arg1)
abbrev CB (c : Dev nD) : FVec Ideal S12288 .f32 := m ((c : Thread nD τ).loc main_arg2)
abbrev WD (c : Dev nD) : FVec Ideal S6144x2048 .f32 := m ((c : Thread nD τ).loc main_arg3)
abbrev CT (c : Dev nD) : FVec Ideal S1x8192x2048 .f32 := m ((c : Thread nD τ).loc main_arg4)

theorem v27_apply (c : Dev nD) (s : Fin 2) (t : Fin 8192) (f : Fin 6144) :
    (V m c main_v27 : FVec Ideal S2x8192x6144 .bf16) (ix3 s t f) = UP m c (ix3 0 t (col s f)) := by
  entry_read
  pointwise
  rfl

theorem v30_apply (c : Dev nD) (s : Fin 2) (t : Fin 8192) (f : Fin 6144) :
    (V m c main_v30 : FVec Ideal S2x8192x6144 .bf16) (ix3 s t f) = upc (UP m c) (CW m c) (CB m c) t (col s f) := by
  entry_read
  pointwise
  rfl

theorem v32_apply (c : Dev nD) (t : Fin 8192) (k : Fin 2048) :
    (V m c main_v32 : FVec Ideal S8192x2048 .bf16) (ix2 t k) = CT m c (ix3 0 t k) := by
  entry_read
  pointwise

theorem v33_apply (c : Dev nD) (f : Fin 6144) (k : Fin 2048) :
    (V m c main_v33 : FVec Ideal S6144x2048 .bf16) (ix2 f k) = WD m c (ix2 f k) := by
  entry_read
  pointwise

/-- Row `r` of the tile of point `t`, counted in the whole sequence; column `f` of its feature tile. -/
abbrev row (t : Fin cfg0.N) (r : Fin 512) : Fin 8192 := ⟨t.val % 16 * 512 + r, by omega⟩
abbrev fcol (t : Fin cfg0.N) (f : Fin 1536) : Fin 6144 := ⟨t.val / 16 * 1536 + f, by have := (idx t).2.2.2.2.2.2.2.2.2.2.2.2.2.2.2.2.2; omega⟩

theorem blk0 (c : Dev nD) (t : Fin cfg0.N) (r : Fin 512) (k : Fin 2048) :
    (iblk m c 0 t : Vec Ideal S512x2048 .bf16) (ix2 r k) = CT m c (ix3 0 (row t r) k) := by
  rw [← v32_apply m c]
  blk_ext [iblk, idx t]

theorem blk1 (c : Dev nD) (t : Fin cfg0.N) (r : Fin 16) (k : Fin 2048) (h : (t.val % 16 + 1) * 512 + r < 8192) :
    (iblk m c 1 t : Vec Ideal S16x2048 .bf16) (ix2 r k) = CT m c (ix3 0 ⟨(t.val % 16 + 1) * 512 + r, h⟩ k) := by
  rw [← v32_apply m c]
  blk_ext [iblk, idx t]

theorem blk2 (c : Dev nD) (t : Fin cfg0.N) (f : Fin 1536) (k : Fin 2048) :
    (iblk m c 2 t : Vec Ideal S1536x2048 .bf16) (ix2 f k) = WD m c (ix2 (fcol t f) k) := by
  rw [← v33_apply m c]
  blk_ext [iblk, idx t]

theorem blk3 (c : Dev nD) (t : Fin cfg0.N) (r : Fin 512) (f : Fin 1536) :
    (iblk m c 3 t : Vec Ideal S1x512x1536 .bf16) (ix3 0 r f) = UP m c (ix3 0 (row t r) (col 0 (fcol t f))) := by
  rw [← v27_apply m c]
  blk_ext [iblk, idx t]

theorem blk4 (c : Dev nD) (t : Fin cfg0.N) (r : Fin 512) (f : Fin 1536) :
    (iblk m c 4 t : Vec Ideal S1x512x1536 .bf16) (ix3 0 r f) = UP m c (ix3 0 (row t r) (col 1 (fcol t f))) := by
  rw [← v27_apply m c]
  blk_ext [iblk, idx t]

theorem blk5 (c : Dev nD) (t : Fin cfg0.N) (r : Fin 512) (f : Fin 1536) :
    (iblk m c 5 t : Vec Ideal S1x512x1536 .bf16) (ix3 0 r f)
      = upc (UP m c) (CW m c) (CB m c) (row t r) (col 0 (fcol t f)) := by
  rw [← v30_apply m c]
  blk_ext [iblk, idx t]

theorem blk6 (c : Dev nD) (t : Fin cfg0.N) (r : Fin 512) (f : Fin 1536) :
    (iblk m c 6 t : Vec Ideal S1x512x1536 .bf16) (ix3 0 r f)
      = upc (UP m c) (CW m c) (CB m c) (row t r) (col 1 (fcol t f)) := by
  rw [← v30_apply m c]
  blk_ext [iblk, idx t]

theorem blk7 (c : Dev nD) (t : Fin cfg0.N) (r : Fin 16) (f : Fin 1536) (h : (t.val % 16 + 1) * 512 + r < 8192) :
    (iblk m c 7 t : Vec Ideal S1x16x1536 .bf16) (ix3 0 r f)
      = upc (UP m c) (CW m c) (CB m c) ⟨(t.val % 16 + 1) * 512 + r, h⟩ (col 0 (fcol t f)) := by
  rw [← v30_apply m c]
  blk_ext [iblk, idx t]

theorem blk8 (c : Dev nD) (t : Fin cfg0.N) (r : Fin 16) (f : Fin 1536) (h : (t.val % 16 + 1) * 512 + r < 8192) :
    (iblk m c 8 t : Vec Ideal S1x16x1536 .bf16) (ix3 0 r f)
      = upc (UP m c) (CW m c) (CB m c) ⟨(t.val % 16 + 1) * 512 + r, h⟩ (col 1 (fcol t f)) := by
  rw [← v30_apply m c]
  blk_ext [iblk, idx t]

theorem blk9 (c : Dev nD) (t : Fin cfg0.N) (a : Fin 3) (f : Fin 1536) :
    (iblk m c 9 t : Vec Ideal S3x1536 .f32) (ix2 a f) = CW m c (ix2 a (col 0 (fcol t f))) := by
  blk_ext [iblk, V, idx t, col]

theorem blk10 (c : Dev nD) (t : Fin cfg0.N) (a : Fin 3) (f : Fin 1536) :
    (iblk m c 10 t : Vec Ideal S3x1536 .f32) (ix2 a f) = CW m c (ix2 a (col 1 (fcol t f))) := by
  blk_ext [iblk, V, idx t, col]
end Cert.KernelIdeal.Val
-- ==== Proof.Tile.lean ====
/- The gradient on a tile and its halo, from the kernel's blocks: the gradient of the convolution's output at the tile's
   rows and the eight after them, zero past the last token. -/
module
public import proofs.«01_k».proof.Proof.Win
@[expose] public section
set_option maxRecDepth 16384
noncomputable section
namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The gradient of half `s` at row `n` of device `c`'s arguments, zero past the last token. -/
abbrev DN (c : Dev nD) (s : Fin 2) (n : ℕ) (f : Fin 6144) : EReal := dn (UP m c) (CW m c) (CB m c) (WD m c) (CT m c) s n f

abbrev DF (c : Dev nD) (t : Fin cfg0.N) : FVec Ideal S520x1536 .f32 :=
  k0_pay8 (F := Ideal) (grid0.coords t) (iblk m c 1 t) (iblk m c 0 t) (iblk m c 2 t)
abbrev Z (c : Dev nD) (t : Fin cfg0.N) : FVec Ideal S520x1536 .f32 := k0_pay9 (F := Ideal) (iblk m c 5 t) (iblk m c 7 t)
abbrev DG (c : Dev nD) (t : Fin cfg0.N) : FVec Ideal S520x1536 .f32 :=
  k0_pay15 (F := Ideal) (DF m c t) (Z m c t) (k0_pay10 (F := Ideal) (iblk m c 6 t)) (k0_pay11 (F := Ideal) (iblk m c 8 t))
abbrev DV (c : Dev nD) (t : Fin cfg0.N) : FVec Ideal S520x1536 .f32 :=
  k0_pay26 (F := Ideal) (DF m c t) (k0_pay14 (F := Ideal) (Z m c t))

theorem fifteen (t : Fin cfg0.N) : ((grid0.coords t 1 : Fin 16) : ℕ) = t.val % 16 := (idx t).2.2.2.2.2.2.2.2.2.2.2.2.2.2.2.2.1

/-- On the tile's own rows and on the halo of a tile that is not the last. -/
theorem df_at (c : Dev nD) (t : Fin cfg0.N) (r : Fin 520) (f : Fin 1536) (h : t.val % 16 * 512 + r < 8192) :
    DF m c t (ix2 r f) = df (WD m c) (CT m c) ⟨t.val % 16 * 512 + r, h⟩ (fcol t f) := by
  refine (df_apply _ _ _ _ _ _).trans ?_
  unfold df
  refine Finset.sum_congr rfl fun k _ => ?_
  rw [blk2]
  congr 1
  by_cases hr : (r : ℕ) < 512
  · rw [dif_pos hr, blk0]
  · rw [dif_neg hr, if_neg (by rw [fifteen]; omega), blk1 m c t _ _ (by show _ + ((r : ℕ) - 512) < _; omega)]
    congr 2
    exact Fin.ext (by show (t.val % 16 + 1) * 512 + ((r : ℕ) - 512) = t.val % 16 * 512 + r; omega)

/-- Past the last token the product is of zeros. -/
theorem df_past (c : Dev nD) (t : Fin cfg0.N) (r : Fin 520) (f : Fin 1536) (h : ¬ t.val % 16 * 512 + r < 8192) :
    DF m c t (ix2 r f) = 0 := by
  refine (df_apply _ _ _ _ _ _).trans ?_
  refine Finset.sum_eq_zero fun k _ => ?_
  rw [dif_neg (by omega), if_pos (by rw [fifteen]; omega), zero_mul]

theorem z_at (c : Dev nD) (t : Fin cfg0.N) (r : Fin 520) (f : Fin 1536) (h : t.val % 16 * 512 + r < 8192) :
    Z m c t (ix2 r f) = upc (UP m c) (CW m c) (CB m c) ⟨t.val % 16 * 512 + r, h⟩ (col 0 (fcol t f)) := by
  refine (z_apply _ _ _ _).trans ?_
  by_cases hr : (r : ℕ) < 512
  · rw [dif_pos hr, blk5]
  · rw [dif_neg hr, blk7 m c t _ _ (by show _ + ((r : ℕ) - 512) < _; omega)]
    congr 1
    exact Fin.ext (by show (t.val % 16 + 1) * 512 + ((r : ℕ) - 512) = t.val % 16 * 512 + r; omega)

theorem dg_at (c : Dev nD) (t : Fin cfg0.N) (r : Fin 520) (f : Fin 1536) :
    DG m c t (ix2 r f) = DN m c 0 (t.val % 16 * 512 + r) (fcol t f) := by
  refine (dg_apply _ _ _ _ _ _).trans ?_
  unfold DN dn
  by_cases h : t.val % 16 * 512 + (r : ℕ) < 8192
  · rw [dif_pos h, df_at m c t r f h, z_at m c t r f h]
    unfold dd
    rw [if_pos rfl]
    congr 1
    by_cases hr : (r : ℕ) < 512
    · rw [dif_pos hr, blk6]
    · rw [dif_neg hr, blk8 m c t _ _ (by show _ + ((r : ℕ) - 512) < _; omega)]
      congr 1
      exact Fin.ext (by show (t.val % 16 + 1) * 512 + ((r : ℕ) - 512) = t.val % 16 * 512 + r; omega)
  · rw [dif_neg h, df_past m c t r f h]
    unfold dgK
    rw [zero_mul, zero_mul]

theorem dv_at (c : Dev nD) (t : Fin cfg0.N) (r : Fin 520) (f : Fin 1536) :
    DV m c t (ix2 r f) = DN m c 1 (t.val % 16 * 512 + r) (fcol t f) := by
  refine (dv_apply _ _ _ _).trans ?_
  unfold DN dn
  by_cases h : t.val % 16 * 512 + (r : ℕ) < 8192
  · rw [dif_pos h, df_at m c t r f h, z_at m c t r f h]
    unfold dd
    rw [if_neg (by decide)]
  · rw [dif_neg h, df_past m c t r f h]
    unfold dvK
    rw [zero_mul]

/-! The tile's rows, and the rows one and two further on. -/

theorem g0_at (c : Dev nD) (t : Fin cfg0.N) (r : Fin 512) (f : Fin 1536) :
    k0_pay16 (F := Ideal) (DF m c t) (Z m c t) (k0_pay10 (F := Ideal) (iblk m c 6 t)) (k0_pay11 (F := Ideal) (iblk m c 8 t)) (ix2 r f)
      = DN m c 0 (row t r) (fcol t f) := by
  rw [show DN m c 0 (row t r) (fcol t f) = _ from (dg_at m c t ⟨r, by omega⟩ f).symm]
  unfold k0_pay16 DG
  pointwise

theorem g1_at (c : Dev nD) (t : Fin cfg0.N) (r : Fin 512) (f : Fin 1536) :
    k0_pay17 (F := Ideal) (DF m c t) (Z m c t) (k0_pay10 (F := Ideal) (iblk m c 6 t)) (k0_pay11 (F := Ideal) (iblk m c 8 t)) (ix2 r f)
      = DN m c 0 (row t r + 1) (fcol t f) := by
  rw [show DN m c 0 (row t r + 1) (fcol t f) = _ from (dg_at m c t ⟨r + 1, by omega⟩ f).symm]
  unfold k0_pay17 DG
  generalize k0_pay15 (F := Ideal) _ _ _ _ = d
  pointwise
  congr 2
  exact Fin.ext (by show ((r : ℕ) + 520 - 519) % 520 = r + 1; omega)

theorem g2_at (c : Dev nD) (t : Fin cfg0.N) (r : Fin 512) (f : Fin 1536) :
    k0_pay18 (F := Ideal) (DF m c t) (Z m c t) (k0_pay10 (F := Ideal) (iblk m c 6 t)) (k0_pay11 (F := Ideal) (iblk m c 8 t)) (ix2 r f)
      = DN m c 0 (row t r + 2) (fcol t f) := by
  rw [show DN m c 0 (row t r + 2) (fcol t f) = _ from (dg_at m c t ⟨r + 2, by omega⟩ f).symm]
  unfold k0_pay18 DG
  generalize k0_pay15 (F := Ideal) _ _ _ _ = d
  pointwise
  congr 2
  exact Fin.ext (by show ((r : ℕ) + 520 - 518) % 520 = r + 2; omega)

theorem u0_at (c : Dev nD) (t : Fin cfg0.N) (r : Fin 512) (f : Fin 1536) :
    k0_pay27 (F := Ideal) (DF m c t) (k0_pay14 (F := Ideal) (Z m c t)) (ix2 r f) = DN m c 1 (row t r) (fcol t f) := by
  rw [show DN m c 1 (row t r) (fcol t f) = _ from (dv_at m c t ⟨r, by omega⟩ f).symm]
  unfold k0_pay27 DV
  pointwise

theorem u1_at (c : Dev nD) (t : Fin cfg0.N) (r : Fin 512) (f : Fin 1536) :
    k0_pay28 (F := Ideal) (DF m c t) (k0_pay14 (F := Ideal) (Z m c t)) (ix2 r f) = DN m c 1 (row t r + 1) (fcol t f) := by
  rw [show DN m c 1 (row t r + 1) (fcol t f) = _ from (dv_at m c t ⟨r + 1, by omega⟩ f).symm]
  unfold k0_pay28 DV
  generalize k0_pay26 (F := Ideal) _ _ = d
  pointwise
  congr 2
  exact Fin.ext (by show ((r : ℕ) + 520 - 519) % 520 = r + 1; omega)

theorem u2_at (c : Dev nD) (t : Fin cfg0.N) (r : Fin 512) (f : Fin 1536) :
    k0_pay29 (F := Ideal) (DF m c t) (k0_pay14 (F := Ideal) (Z m c t)) (ix2 r f) = DN m c 1 (row t r + 2) (fcol t f) := by
  rw [show DN m c 1 (row t r + 2) (fcol t f) = _ from (dv_at m c t ⟨r + 2, by omega⟩ f).symm]
  unfold k0_pay29 DV
  generalize k0_pay26 (F := Ideal) _ _ = d
  pointwise
  congr 2
  exact Fin.ext (by show ((r : ℕ) + 520 - 518) % 520 = r + 2; omega)
end Cert.KernelIdeal.Val
-- ==== Proof.Arr.lean ====
/- The kernel's five result arrays after the run. -/
module
public import proofs.«01_k».proof.Proof.Tile
public import Idealize.ShloMosaic.Lib.Pipeline.ReadBack
@[expose] public section
set_option maxRecDepth 16384
noncomputable section
namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem row_hit (r : Rect S3x1536) (p : r.shape.Idx → Elt Ideal .f32) (L : List (View.Piece (Elt Ideal) S3x1536 .f32))
    (i : S3x1536.Idx) (x : r.shape.Idx) (h : i = r.emb x) : View.canon (⟨r, p⟩ :: L) i = p x := by
  rw [h]; exact View.canon_cons_emb r p L x

theorem row_miss (r : Rect S3x1536) (p : r.shape.Idx → Elt Ideal .f32) (L : List (View.Piece (Elt Ideal) S3x1536 .f32))
    (i : S3x1536.Idx) (h : i ∉ r.set) : View.canon (⟨r, p⟩ :: L) i = View.canon L i :=
  View.canon_cons_of_not_mem _ L h

theorem row_emb (o : ℕ) (inb) (a : Fin 3) (f : Fin 1536) (h : o = a) :
    (ix2 a f : S3x1536.Idx) = (Rect.unit ![o, 0] ![1, 1536] inb : Rect S3x1536).emb (ix2 0 f) := by
  funext x
  refine Fin.ext ?_
  fin_cases x
  · show (a : ℕ) = o + 1 * 0; omega
  · show (f : ℕ) = 0 + 1 * f; omega

theorem row_not_mem (o : ℕ) (inb) (a : Fin 3) (f : Fin 1536) (h : o ≠ a) :
    (ix2 a f : S3x1536.Idx) ∉ (Rect.unit ![o, 0] ![1, 1536] inb : Rect S3x1536).set := by
  intro hm
  have h0 := Rect.mem_set_unit.mp hm 0
  have h1 : o ≤ (a : ℕ) := h0.1
  have h2 : (a : ℕ) < o + 1 := h0.2
  omega

/-- Three stores of one row each into a buffer of three rows, whatever was there before, read at an index. -/
theorem rows3 (p0 p1 p2 : FVec Ideal S1x1536 .f32) (L : List (View.Piece (Elt Ideal) S3x1536 .f32)) (v : EReal) (a : Fin 3)
    (f : Fin 1536) (h0 : (a : ℕ) = 0 → p0 (ix2 0 f) = v) (h1 : (a : ℕ) = 1 → p1 (ix2 0 f) = v)
    (h2 : (a : ℕ) = 2 → p2 (ix2 0 f) = v) :
    View.canon (⟨Rect.unit ![0, 0] ![1, 1536] inb_S3x1536_S1x1536_0_0, p0⟩
      :: ⟨Rect.unit ![1, 0] ![1, 1536] inb_S3x1536_S1x1536_1_0, p1⟩
      :: ⟨Rect.unit ![2, 0] ![1, 1536] inb_S3x1536_S1x1536_2_0, p2⟩ :: L) (ix2 a f) = v := by
  by_cases e0 : (a : ℕ) = 0
  · rw [row_hit _ _ _ _ (ix2 0 f) (row_emb 0 inb_S3x1536_S1x1536_0_0 a f e0.symm)]; exact h0 e0
  rw [row_miss _ _ _ _ (row_not_mem 0 inb_S3x1536_S1x1536_0_0 a f (Ne.symm e0))]
  by_cases e1 : (a : ℕ) = 1
  · rw [row_hit _ _ _ _ (ix2 0 f) (row_emb 1 inb_S3x1536_S1x1536_1_0 a f e1.symm)]; exact h1 e1
  rw [row_miss _ _ _ _ (row_not_mem 1 inb_S3x1536_S1x1536_1_0 a f (Ne.symm e1))]
  have e2 : (a : ℕ) = 2 := by omega
  rw [row_hit _ _ _ _ (ix2 0 f) (row_emb 2 inb_S3x1536_S1x1536_2_0 a f e2.symm)]; exact h2 e2

/-- One row of such a buffer, loaded. -/
theorem ld_row (X : FVec Ideal S3x1536 .f32) (o : ℕ) (inb) (a : Fin 3) (f : Fin 1536) (h : o = a) :
    View.ld (Val := Elt Ideal) (e' := .f32) X (Rect.unit (s := S3x1536) ![o, 0] ![1, 1536] inb) (ix2 0 f) = X (ix2 a f) :=
  (congrArg X (row_emb o inb a f h)).symm

/-- What a tile adds to row `a` of the taps' gradient. -/
abbrev part (c : Dev nD) (s : Fin 2) (t : Fin cfg0.N) (j : S3x1536.Idx) : EReal :=
  ∑ y : Fin 512, UP m c (ix3 0 (row t y) (col s (fcol t (j 1)))) * DN m c s (row t y + (2 - (j 0 : ℕ))) (fcol t (j 1))

theorem pay22_at (d : FVec Ideal S512x1536 .f32) (x : Vec Ideal S1x512x1536 .bf16) (acc : Vec Ideal S1x1536 .f32) (f : Fin 1536) :
    k0_pay22 (F := Ideal) d x acc (ix2 0 f) = acc (ix2 0 f) + ∑ y : Fin 512, x (ix3 0 y f) * d (ix2 y f) := by
  pointwise [k0_pay22, k0_pay21]
theorem pay23_at (d : FVec Ideal S512x1536 .f32) (x : Vec Ideal S1x512x1536 .bf16) (acc : Vec Ideal S1x1536 .f32) (f : Fin 1536) :
    k0_pay23 (F := Ideal) d x acc (ix2 0 f) = acc (ix2 0 f) + ∑ y : Fin 512, x (ix3 0 y f) * d (ix2 y f) := by
  pointwise [k0_pay23, k0_pay21]
theorem pay24_at (d : FVec Ideal S512x1536 .f32) (x : Vec Ideal S1x512x1536 .bf16) (acc : Vec Ideal S1x1536 .f32) (f : Fin 1536) :
    k0_pay24 (F := Ideal) d x acc (ix2 0 f) = acc (ix2 0 f) + ∑ y : Fin 512, x (ix3 0 y f) * d (ix2 y f) := by
  pointwise [k0_pay24, k0_pay21]
theorem pay4_at (j) : k0_pay4 (F := Ideal) j = 0 := by pointwise [k0_pay4]
theorem pay5_at (j) : k0_pay5 (F := Ideal) j = 0 := by pointwise [k0_pay5]
theorem pay6_at (j) : k0_pay6 (F := Ideal) j = 0 := by pointwise [k0_pay6]
theorem pay7_at (j) : k0_pay7 (F := Ideal) j = 0 := by pointwise [k0_pay7]

/-- The three rows' stores of the gate half, from the row sums. -/
theorem gate_rows (c : Dev nD) (t : Fin cfg0.N) (X : FVec Ideal S3x1536 .f32) (L : List (View.Piece (Elt Ideal) S3x1536 .f32)) (j : S3x1536.Idx) :
    View.canon
      (⟨Rect.unit ![0, 0] ![1, 1536] inb_S3x1536_S1x1536_0_0,
          k0_pay24
            (k0_pay18 (k0_pay8 (grid0.coords t) (iblk m c 1 t) (iblk m c 0 t) (iblk m c 2 t))
              (k0_pay9 (iblk m c 5 t) (iblk m c 7 t)) (k0_pay10 (iblk m c 6 t)) (k0_pay11 (iblk m c 8 t)))
            (iblk m c 3 t)
            (View.ld (Val := Elt Ideal) (e' := .f32) X (Rect.unit (s := S3x1536) ![0, 0] ![1, 1536] inb_S3x1536_S1x1536_0_0))⟩
        :: ⟨Rect.unit ![1, 0] ![1, 1536] inb_S3x1536_S1x1536_1_0,
          k0_pay23
            (k0_pay17 (k0_pay8 (grid0.coords t) (iblk m c 1 t) (iblk m c 0 t) (iblk m c 2 t))
              (k0_pay9 (iblk m c 5 t) (iblk m c 7 t)) (k0_pay10 (iblk m c 6 t)) (k0_pay11 (iblk m c 8 t)))
            (iblk m c 3 t)
            (View.ld (Val := Elt Ideal) (e' := .f32) X (Rect.unit (s := S3x1536) ![1, 0] ![1, 1536] inb_S3x1536_S1x1536_1_0))⟩
        :: ⟨Rect.unit ![2, 0] ![1, 1536] inb_S3x1536_S1x1536_2_0,
          k0_pay22
            (k0_pay16 (k0_pay8 (grid0.coords t) (iblk m c 1 t) (iblk m c 0 t) (iblk m c 2 t))
              (k0_pay9 (iblk m c 5 t) (iblk m c 7 t)) (k0_pay10 (iblk m c 6 t)) (k0_pay11 (iblk m c 8 t)))
            (iblk m c 3 t)
            (View.ld (Val := Elt Ideal) (e' := .f32) X (Rect.unit (s := S3x1536) ![2, 0] ![1, 1536] inb_S3x1536_S1x1536_2_0))⟩ :: L)
      j = X j + part m c 0 t j := by
  obtain ⟨a, f, rfl⟩ : ∃ a f, j = ix2 a f := ⟨_, _, eq_ix2 j⟩
  refine rows3 _ _ _ L _ a f (fun h => ?_) (fun h => ?_) (fun h => ?_)
  · refine (pay24_at _ _ _ f).trans ?_
    rw [ld_row X 0 _ a f h.symm]
    refine congrArg (X (ix2 a f) + ·) (Finset.sum_congr rfl fun y _ => ?_)
    rw [blk3, g2_at]
    show _ = _ * DN m c 0 (row t y + (2 - (a : ℕ))) _
    rw [h]; rfl
  · refine (pay23_at _ _ _ f).trans ?_
    rw [ld_row X 1 _ a f h.symm]
    refine congrArg (X (ix2 a f) + ·) (Finset.sum_congr rfl fun y _ => ?_)
    rw [blk3, g1_at]
    show _ = _ * DN m c 0 (row t y + (2 - (a : ℕ))) _
    rw [h]; rfl
  · refine (pay22_at _ _ _ f).trans ?_
    rw [ld_row X 2 _ a f h.symm]
    refine congrArg (X (ix2 a f) + ·) (Finset.sum_congr rfl fun y _ => ?_)
    rw [blk3, g0_at]
    show _ = _ * DN m c 0 (row t y + (2 - (a : ℕ))) _
    rw [h]; rfl

theorem step12A (c : Dev nD) (t : Fin cfg0.N) (h : t.val % 16 = 0) (j) :
    (outsAt0 m c t.val t.isLt).2.1 j = (fun _ => (0 : EReal)) j + part m c 0 t j := by
  rw [outsAt0_A m c t h]; frame_open
  simp (disch := decide) only [↓ View.readCov_skip, ↓ View.readCov_cons_toLoadRect, ↓ View.readCov_fill]
  frame_out
  exact (gate_rows m c t _ _ j).trans (congrArg (· + part m c 0 t j) (pay4_at j))

theorem step12B (c : Dev nD) (t : Fin cfg0.N) (h : ¬ t.val % 16 = 0) (j) :
    (outsAt0 m c t.val t.isLt).2.1 j = (outsAt0 m c (t.val - 1) (Nat.lt_of_le_of_lt (Nat.sub_le _ _) t.isLt)).2.1 j + part m c 0 t j := by
  rw [outsAt0_B m c t h]; frame_open
  simp (disch := decide) only [↓ View.readCov_skip, ↓ View.readCov_cons_toLoadRect, ↓ View.readCov_fill]
  frame_out
  exact gate_rows m c t _ _ j

theorem pay32_at (d e : FVec Ideal S520x1536 .f32) (x : Vec Ideal S1x512x1536 .bf16) (acc : Vec Ideal S1x1536 .f32) (f : Fin 1536) :
    k0_pay32 (F := Ideal) d e x acc (ix2 0 f)
      = acc (ix2 0 f) + ∑ y : Fin 512, x (ix3 0 y f) * k0_pay27 (F := Ideal) d e (ix2 y f) := by
  unfold k0_pay32
  generalize k0_pay27 (F := Ideal) d e = g
  pointwise [k0_pay31]
theorem pay1_at (d e : FVec Ideal S520x1536 .f32) (x : Vec Ideal S1x512x1536 .bf16) (acc : Vec Ideal S1x1536 .f32) (f : Fin 1536) :
    k0_pay1 (F := Ideal) (k0_pay33 (F := Ideal) acc) (k0_pay34 (F := Ideal) d e x) (ix2 0 f)
      = acc (ix2 0 f) + ∑ y : Fin 512, x (ix3 0 y f) * k0_pay28 (F := Ideal) d e (ix2 y f) := by
  unfold k0_pay34
  generalize k0_pay28 (F := Ideal) d e = g
  pointwise [k0_pay1, k0_pay33, k0_pay31]
theorem pay2_at (g : FVec Ideal S512x1536 .f32) (x : Vec Ideal S1x512x1536 .bf16) (acc : Vec Ideal S1x1536 .f32) (f : Fin 1536) :
    k0_pay2 (F := Ideal) g (k0_pay31 (F := Ideal) x) acc (ix2 0 f)
      = acc (ix2 0 f) + ∑ y : Fin 512, x (ix3 0 y f) * g (ix2 y f) := by
  pointwise [k0_pay2, k0_pay31]

/-- The three rows' stores of the value half, from the row sums. -/
theorem val_rows (c : Dev nD) (t : Fin cfg0.N) (X : FVec Ideal S3x1536 .f32) (L : List (View.Piece (Elt Ideal) S3x1536 .f32)) (j : S3x1536.Idx) :
    View.canon
      (⟨Rect.unit ![0, 0] ![1, 1536] inb_S3x1536_S1x1536_0_0,
          k0_pay2
            (k0_pay29 (k0_pay8 (grid0.coords t) (iblk m c 1 t) (iblk m c 0 t) (iblk m c 2 t))
              (k0_pay14 (k0_pay9 (iblk m c 5 t) (iblk m c 7 t))))
            (k0_pay31 (iblk m c 4 t))
            (View.ld (Val := Elt Ideal) (e' := .f32) X (Rect.unit (s := S3x1536) ![0, 0] ![1, 1536] inb_S3x1536_S1x1536_0_0))⟩
        :: ⟨Rect.unit ![1, 0] ![1, 1536] inb_S3x1536_S1x1536_1_0,
          k0_pay1
            (k0_pay33 (View.ld (Val := Elt Ideal) (e' := .f32) X (Rect.unit (s := S3x1536) ![1, 0] ![1, 1536] inb_S3x1536_S1x1536_1_0)))
            (k0_pay34 (k0_pay8 (grid0.coords t) (iblk m c 1 t) (iblk m c 0 t) (iblk m c 2 t))
              (k0_pay14 (k0_pay9 (iblk m c 5 t) (iblk m c 7 t))) (iblk m c 4 t))⟩
        :: ⟨Rect.unit ![2, 0] ![1, 1536] inb_S3x1536_S1x1536_2_0,
          k0_pay32
            (k0_pay8 (grid0.coords t) (iblk m c 1 t) (iblk m c 0 t) (iblk m c 2 t))
              (k0_pay14 (k0_pay9 (iblk m c 5 t) (iblk m c 7 t)))
            (iblk m c 4 t)
            (View.ld (Val := Elt Ideal) (e' := .f32) X (Rect.unit (s := S3x1536) ![2, 0] ![1, 1536] inb_S3x1536_S1x1536_2_0))⟩ :: L)
      j = X j + part m c 1 t j := by
  obtain ⟨a, f, rfl⟩ : ∃ a f, j = ix2 a f := ⟨_, _, eq_ix2 j⟩
  refine rows3 _ _ _ L _ a f (fun h => ?_) (fun h => ?_) (fun h => ?_)
  · refine (pay2_at _ _ _ f).trans ?_
    rw [ld_row X 0 _ a f h.symm]
    refine congrArg (X (ix2 a f) + ·) (Finset.sum_congr rfl fun y _ => ?_)
    rw [blk4, u2_at]
    show _ = _ * DN m c 1 (row t y + (2 - (a : ℕ))) _
    rw [h]; rfl
  · refine (pay1_at _ _ _ _ f).trans ?_
    rw [ld_row X 1 _ a f h.symm]
    refine congrArg (X (ix2 a f) + ·) (Finset.sum_congr rfl fun y _ => ?_)
    rw [blk4, u1_at]
    show _ = _ * DN m c 1 (row t y + (2 - (a : ℕ))) _
    rw [h]; rfl
  · refine (pay32_at _ _ _ _ f).trans ?_
    rw [ld_row X 2 _ a f h.symm]
    refine congrArg (X (ix2 a f) + ·) (Finset.sum_congr rfl fun y _ => ?_)
    rw [blk4, u0_at]
    show _ = _ * DN m c 1 (row t y + (2 - (a : ℕ))) _
    rw [h]; rfl

theorem step13A (c : Dev nD) (t : Fin cfg0.N) (h : t.val % 16 = 0) (j) :
    (outsAt0 m c t.val t.isLt).2.2.1 j = (fun _ => (0 : EReal)) j + part m c 1 t j := by
  rw [outsAt0_A m c t h]; frame_open
  simp (disch := decide) only [↓ View.readCov_skip, ↓ View.readCov_cons_toLoadRect, ↓ View.readCov_fill]
  frame_out
  exact (val_rows m c t _ _ j).trans (congrArg (· + part m c 1 t j) (pay5_at j))

theorem step13B (c : Dev nD) (t : Fin cfg0.N) (h : ¬ t.val % 16 = 0) (j) :
    (outsAt0 m c t.val t.isLt).2.2.1 j = (outsAt0 m c (t.val - 1) (Nat.lt_of_le_of_lt (Nat.sub_le _ _) t.isLt)).2.2.1 j + part m c 1 t j := by
  rw [outsAt0_B m c t h]; frame_open
  simp (disch := decide) only [↓ View.readCov_skip, ↓ View.readCov_cons_toLoadRect, ↓ View.readCov_fill]
  frame_out
  exact val_rows m c t _ _ j

/-- What a tile adds to the bias's gradient. -/
abbrev bpart (c : Dev nD) (s : Fin 2) (t : Fin cfg0.N) (j : S1x1536.Idx) : EReal :=
  ∑ y : Fin 512, DN m c s (row t y) (fcol t (j 1))

theorem pay25_at (d : FVec Ideal S512x1536 .f32) (acc : Vec Ideal S1x1536 .f32) (j) :
    k0_pay25 (F := Ideal) d acc j = acc j + ∑ y : Fin 512, d (ix2 y (j 1)) := by pointwise [k0_pay25]
theorem pay3_at (d : FVec Ideal S512x1536 .f32) (acc : Vec Ideal S1x1536 .f32) (j) :
    k0_pay3 (F := Ideal) d acc j = acc j + ∑ y : Fin 512, d (ix2 y (j 1)) := by pointwise [k0_pay3]

theorem step14A (c : Dev nD) (t : Fin cfg0.N) (h : t.val % 16 = 0) (j) :
    (outsAt0 m c t.val t.isLt).2.2.2.1 j = (fun _ => (0 : EReal)) j + bpart m c 0 t j := by
  rw [outsAt0_A m c t h]; frame_out
  refine (pay25_at _ _ j).trans ?_
  rw [pay6_at]
  exact congrArg ((0 : EReal) + ·) (Finset.sum_congr rfl fun y _ => g0_at m c t y _)

theorem step14B (c : Dev nD) (t : Fin cfg0.N) (h : ¬ t.val % 16 = 0) (j) :
    (outsAt0 m c t.val t.isLt).2.2.2.1 j = (outsAt0 m c (t.val - 1) (Nat.lt_of_le_of_lt (Nat.sub_le _ _) t.isLt)).2.2.2.1 j + bpart m c 0 t j := by
  rw [outsAt0_B m c t h]; frame_out
  refine (pay25_at _ _ j).trans ?_
  exact congrArg (_ + ·) (Finset.sum_congr rfl fun y _ => g0_at m c t y _)

theorem step15A (c : Dev nD) (t : Fin cfg0.N) (h : t.val % 16 = 0) (j) :
    (outsAt0 m c t.val t.isLt).2.2.2.2 j = (fun _ => (0 : EReal)) j + bpart m c 1 t j := by
  rw [outsAt0_A m c t h]; frame_out
  refine (pay3_at _ _ j).trans ?_
  rw [pay7_at]
  exact congrArg ((0 : EReal) + ·) (Finset.sum_congr rfl fun y _ => u0_at m c t y _)

theorem step15B (c : Dev nD) (t : Fin cfg0.N) (h : ¬ t.val % 16 = 0) (j) :
    (outsAt0 m c t.val t.isLt).2.2.2.2 j = (outsAt0 m c (t.val - 1) (Nat.lt_of_le_of_lt (Nat.sub_le _ _) t.isLt)).2.2.2.2 j + bpart m c 1 t j := by
  rw [outsAt0_B m c t h]; frame_out
  refine (pay3_at _ _ j).trans ?_
  exact congrArg (_ + ·) (Finset.sum_congr rfl fun y _ => u0_at m c t y _)

/-- The taps' gradient, half `s`: tap `a` takes the input against the gradient `2 - a` rows further on. -/
def dwG (c : Dev nD) (s : Fin 2) : FVec Ideal S3x6144 .f32 := fun j =>
  ∑ t : Fin 8192, UP m c (ix3 0 t (col s (j 1))) * DN m c s (t + (2 - (j 0 : ℕ))) (j 1)

/-- The bias's gradient, half `s`. -/
def dbG (c : Dev nD) (s : Fin 2) : FVec Ideal S1x6144 .f32 := fun j => ∑ t : Fin 8192, DN m c s t (j 1)
end Cert.KernelIdeal.Val
-- ==== Proof.Final.lean ====
/- The kernel's five result arrays after the run, in closed form. -/
module
public import proofs.«01_k».proof.Proof.Arr
@[expose] public section
set_option maxRecDepth 16384
noncomputable section
namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The output array: the three taps against the gradient of the row itself and of the two rows after it. -/
def outG (c : Dev nD) : FVec Ideal S2x8192x6144 .bf16 := fun j =>
  CW m c (ix2 2 (col (j 0) (j 2))) * DN m c (j 0) (j 1) (j 2)
    + CW m c (ix2 1 (col (j 0) (j 2))) * DN m c (j 0) ((j 1 : ℕ) + 1) (j 2)
    + CW m c (ix2 0 (col (j 0) (j 2))) * DN m c (j 0) ((j 1 : ℕ) + 2) (j 2)

theorem pay30_at (d e : FVec Ideal S520x1536 .f32) (w0 w1 w2 : Vec Ideal S1x1536 .f32) (r : Fin 512) (f : Fin 1536) :
    k0_pay30 (F := Ideal) d e w0 w1 w2 (ix3 0 r f)
      = w2 (ix2 0 f) * k0_pay27 (F := Ideal) d e (ix2 r f) + w1 (ix2 0 f) * k0_pay28 (F := Ideal) d e (ix2 r f)
        + w0 (ix2 0 f) * k0_pay29 (F := Ideal) d e (ix2 r f) := by
  unfold k0_pay30
  generalize k0_pay27 (F := Ideal) d e = g
  generalize k0_pay28 (F := Ideal) d e = g
  generalize k0_pay29 (F := Ideal) d e = g
  pointwise

theorem pay20_at (d e : FVec Ideal S520x1536 .f32) (v : FVec Ideal S512x1536 .f32) (h : FVec Ideal S8x1536 .f32)
    (w0 w1 w2 : Vec Ideal S1x1536 .f32) (r : Fin 512) (f : Fin 1536) :
    k0_pay20 (F := Ideal) (k0_pay19 (F := Ideal) d e v h w0 w1 w2) (ix3 0 r f)
      = w2 (ix2 0 f) * k0_pay16 (F := Ideal) d e v h (ix2 r f) + w1 (ix2 0 f) * k0_pay17 (F := Ideal) d e v h (ix2 r f)
        + w0 (ix2 0 f) * k0_pay18 (F := Ideal) d e v h (ix2 r f) := by
  unfold k0_pay19
  generalize k0_pay16 (F := Ideal) d e v h = g
  generalize k0_pay17 (F := Ideal) d e v h = g
  generalize k0_pay18 (F := Ideal) d e v h = g
  pointwise [k0_pay20]

theorem ix2_of {n₀ n₁ : ℕ} (i : (⟨2, ![n₀, n₁]⟩ : Shape).Idx) (a : Fin n₀) (b : Fin n₁) (h0 : ((i 0 : Fin n₀) : ℕ) = a)
    (h1 : ((i 1 : Fin n₁) : ℕ) = b) : i = ix2 a b := by
  rw [eq_ix2 i, show i 0 = a from Fin.ext h0, show i 1 = b from Fin.ext h1]

theorem ix3_of {n₀ n₁ n₂ : ℕ} (i : (⟨3, ![n₀, n₁, n₂]⟩ : Shape).Idx) (a : Fin n₀) (b : Fin n₁) (c : Fin n₂)
    (h0 : ((i 0 : Fin n₀) : ℕ) = a) (h1 : ((i 1 : Fin n₁) : ℕ) = b) (h2 : ((i 2 : Fin n₂) : ℕ) = c) : i = ix3 a b c := by
  rw [eq_ix3 i, show i 0 = a from Fin.ext h0, show i 1 = b from Fin.ext h1, show i 2 = c from Fin.ext h2]

theorem emb11 (t : Fin cfg0.N) (s : Fin 2) (r : Fin 512) (f : Fin 1536) :
    (((cfg0.win 11).blk t).view.emb (ix3 s r f) : S2x8192x6144.Idx) = ix3 s (row t r) (fcol t f) := by
  have e := idx t
  have h0 : ((((cfg0.win 11).blk t).view.emb (ix3 s r f)) 0 : ℕ) = s := by blk_simp [e]
  have h1 : ((((cfg0.win 11).blk t).view.emb (ix3 s r f)) 1 : ℕ) = t.val % 16 * 512 + r := by blk_simp [e]
  have h2 : ((((cfg0.win 11).blk t).view.emb (ix3 s r f)) 2 : ℕ) = t.val / 16 * 1536 + f := by blk_simp [e]
  exact ix3_of _ _ _ _ h0 h1 h2

theorem emb12 (t : Fin cfg0.N) (a : Fin 3) (f : Fin 1536) :
    (((cfg0.win 12).blk t).view.emb (ix2 a f) : S3x6144.Idx) = ix2 a (fcol t f) := by
  have e := idx t
  have h0 : ((((cfg0.win 12).blk t).view.emb (ix2 a f)) 0 : ℕ) = a := by blk_simp [e]
  have h1 : ((((cfg0.win 12).blk t).view.emb (ix2 a f)) 1 : ℕ) = t.val / 16 * 1536 + f := by blk_simp [e]
  exact ix2_of _ _ _ h0 h1

theorem emb13 (t : Fin cfg0.N) (a : Fin 3) (f : Fin 1536) :
    (((cfg0.win 13).blk t).view.emb (ix2 a f) : S3x6144.Idx) = ix2 a (fcol t f) := by
  have e := idx t
  have h0 : ((((cfg0.win 13).blk t).view.emb (ix2 a f)) 0 : ℕ) = a := by blk_simp [e]
  have h1 : ((((cfg0.win 13).blk t).view.emb (ix2 a f)) 1 : ℕ) = t.val / 16 * 1536 + f := by blk_simp [e]
  exact ix2_of _ _ _ h0 h1

theorem emb14 (t : Fin cfg0.N) (a : Fin 1) (f : Fin 1536) :
    (((cfg0.win 14).blk t).view.emb (ix2 a f) : S1x6144.Idx) = ix2 a (fcol t f) := by
  have e := idx t
  have h0 : ((((cfg0.win 14).blk t).view.emb (ix2 a f)) 0 : ℕ) = a := by blk_simp [e]
  have h1 : ((((cfg0.win 14).blk t).view.emb (ix2 a f)) 1 : ℕ) = t.val / 16 * 1536 + f := by blk_simp [e]
  exact ix2_of _ _ _ h0 h1

theorem emb15 (t : Fin cfg0.N) (a : Fin 1) (f : Fin 1536) :
    (((cfg0.win 15).blk t).view.emb (ix2 a f) : S1x6144.Idx) = ix2 a (fcol t f) := by
  have e := idx t
  have h0 : ((((cfg0.win 15).blk t).view.emb (ix2 a f)) 0 : ℕ) = a := by blk_simp [e]
  have h1 : ((((cfg0.win 15).blk t).view.emb (ix2 a f)) 1 : ℕ) = t.val / 16 * 1536 + f := by blk_simp [e]
  exact ix2_of _ _ _ h0 h1

/-- The gate half of a tile of the output. -/
theorem gate_point (c : Dev nD) (t : Fin cfg0.N) (r : Fin 512) (f : Fin 1536) :
    k0_pay20 (F := Ideal)
      (k0_pay19 (DF m c t) (Z m c t) (k0_pay10 (iblk m c 6 t)) (k0_pay11 (iblk m c 8 t))
        (View.ld (Val := Elt Ideal) (e' := .f32) (iblk m c 9 t) (Rect.unit (s := S3x1536) ![0, 0] ![1, 1536] inb_S3x1536_S1x1536_0_0))
        (View.ld (Val := Elt Ideal) (e' := .f32) (iblk m c 9 t) (Rect.unit (s := S3x1536) ![1, 0] ![1, 1536] inb_S3x1536_S1x1536_1_0))
        (View.ld (Val := Elt Ideal) (e' := .f32) (iblk m c 9 t) (Rect.unit (s := S3x1536) ![2, 0] ![1, 1536] inb_S3x1536_S1x1536_2_0)))
      (ix3 0 r f) = outG m c (ix3 0 (row t r) (fcol t f)) := by
  refine (pay20_at _ _ _ _ _ _ _ r f).trans ?_
  rw [ld_row _ 0 _ 0 f rfl, ld_row _ 1 _ 1 f rfl, ld_row _ 2 _ 2 f rfl, blk9, blk9, blk9, g0_at, g1_at, g2_at]
  rfl

/-- The value half. -/
theorem val_point (c : Dev nD) (t : Fin cfg0.N) (r : Fin 512) (f : Fin 1536) :
    k0_pay30 (F := Ideal) (DF m c t) (k0_pay14 (Z m c t))
        (View.ld (Val := Elt Ideal) (e' := .f32) (iblk m c 10 t) (Rect.unit (s := S3x1536) ![0, 0] ![1, 1536] inb_S3x1536_S1x1536_0_0))
        (View.ld (Val := Elt Ideal) (e' := .f32) (iblk m c 10 t) (Rect.unit (s := S3x1536) ![1, 0] ![1, 1536] inb_S3x1536_S1x1536_1_0))
        (View.ld (Val := Elt Ideal) (e' := .f32) (iblk m c 10 t) (Rect.unit (s := S3x1536) ![2, 0] ![1, 1536] inb_S3x1536_S1x1536_2_0))
      (ix3 0 r f) = outG m c (ix3 1 (row t r) (fcol t f)) := by
  refine (pay30_at _ _ _ _ _ r f).trans ?_
  rw [ld_row _ 0 _ 0 f rfl, ld_row _ 1 _ 1 f rfl, ld_row _ 2 _ 2 f rfl, blk10, blk10, blk10, u0_at, u1_at, u2_at]
  rfl

theorem point11 (c : Dev nD) (t : Fin cfg0.N) (s : Fin 2) (r : Fin 512) (f : Fin 1536) :
    (outsAt0 m c t.val t.isLt).1 (ix3 s r f) = outG m c (ix3 s (row t r) (fcol t f)) := by
  by_cases h : t.val % 16 = 0
  · rw [outsAt0_A m c t h]; frame_out
    canon_tiles x h
    · obtain rfl : x = ix3 0 r f := ix3_of _ _ _ _ (by omega) h1.symm h2.symm
      obtain rfl : s = 1 := Fin.ext h0
      exact val_point m c t r f
    · obtain rfl : x = ix3 0 r f := ix3_of _ _ _ _ (by omega) h1.symm h2.symm
      obtain rfl : s = 0 := Fin.ext h0
      exact gate_point m c t r f
  · rw [outsAt0_B m c t h]; frame_out
    canon_tiles x h
    · obtain rfl : x = ix3 0 r f := ix3_of _ _ _ _ (by omega) h1.symm h2.symm
      obtain rfl : s = 1 := Fin.ext h0
      exact val_point m c t r f
    · obtain rfl : x = ix3 0 r f := ix3_of _ _ _ _ (by omega) h1.symm h2.symm
      obtain rfl : s = 0 := Fin.ext h0
      exact gate_point m c t r f

theorem final11 (c : Dev nD) : (dats m 0 c).arrAt 11 (cfgs 0).N = outG m c := by
  refine (dats m 0 c).arrAt_eq_of_covers 11 _ (by decide +kernel) fun t hf y => ?_
  blk_simp
  rw [after0_11]
  obtain ⟨s, r, f, rfl⟩ : ∃ (s : Fin 2) (r : Fin 512) (f : Fin 1536), y = ix3 s r f := ⟨_, _, _, eq_ix3 y⟩
  exact (point11 m c t s r f).trans (congrArg (outG m c) (emb11 t s r f)).symm

/-- The tiles along the tokens, in order, are the rows. -/
theorem row_eq (t : Fin cfg0.N) (s : Fin 16) (k : Fin 512) (h) (hl : s.val * 512 + k.val < 8192) :
    row ⟨16 * (t.val / 16) + s.val, h⟩ k = ⟨s.val * 512 + k.val, hl⟩ :=
  Fin.ext (by show (16 * (t.val / 16) + s.val) % 16 * 512 + k.val = s.val * 512 + k.val; omega)

theorem fcol_eq (t : Fin cfg0.N) (s : Fin 16) (f : Fin 1536) (h) : fcol ⟨16 * (t.val / 16) + s.val, h⟩ f = fcol t f :=
  Fin.ext (by show (16 * (t.val / 16) + s.val) / 16 * 1536 + f.val = t.val / 16 * 1536 + f.val; omega)

theorem final12 (c : Dev nD) : (dats m 0 c).arrAt 12 (cfgs 0).N = dwG m c 0 := by
  refine (dats m 0 c).arrAt_eq_of_covers 12 _ (by decide +kernel) fun t hf y => ?_
  blk_simp
  rw [after0_12, Pipeline.eq_sum_fin_of_reset_step_apply_of_flush (fun n h => (outsAt0 m c n h).2.1) 16 (fun _ => (0 : EReal))
    (part m c 0) (step12A m c) (step12B m c) t ((flush0_12 t).mp hf) y, zero_add]
  obtain ⟨a, f, rfl⟩ : ∃ (a : Fin 3) (f : Fin 1536), y = ix2 a f := ⟨_, _, eq_ix2 y⟩
  refine Eq.trans ?_ (congrArg (dwG m c 0) (emb12 t a f)).symm
  unfold dwG part
  refine Fin.sum_mul_add_congr fun s k hl => ?_
  rw [row_eq t s k _ hl, show fcol ⟨16 * (t.val / 16) + s.val, _⟩ (ix2 a f 1) = fcol t f from fcol_eq t s f _]
  rfl

theorem final13 (c : Dev nD) : (dats m 0 c).arrAt 13 (cfgs 0).N = dwG m c 1 := by
  refine (dats m 0 c).arrAt_eq_of_covers 13 _ (by decide +kernel) fun t hf y => ?_
  blk_simp
  rw [after0_13, Pipeline.eq_sum_fin_of_reset_step_apply_of_flush (fun n h => (outsAt0 m c n h).2.2.1) 16 (fun _ => (0 : EReal))
    (part m c 1) (step13A m c) (step13B m c) t ((flush0_13 t).mp hf) y, zero_add]
  obtain ⟨a, f, rfl⟩ : ∃ (a : Fin 3) (f : Fin 1536), y = ix2 a f := ⟨_, _, eq_ix2 y⟩
  refine Eq.trans ?_ (congrArg (dwG m c 1) (emb13 t a f)).symm
  unfold dwG part
  refine Fin.sum_mul_add_congr fun s k hl => ?_
  rw [row_eq t s k _ hl, show fcol ⟨16 * (t.val / 16) + s.val, _⟩ (ix2 a f 1) = fcol t f from fcol_eq t s f _]
  rfl

theorem final14 (c : Dev nD) : (dats m 0 c).arrAt 14 (cfgs 0).N = dbG m c 0 := by
  refine (dats m 0 c).arrAt_eq_of_covers 14 _ (by decide +kernel) fun t hf y => ?_
  blk_simp
  rw [after0_14, Pipeline.eq_sum_fin_of_reset_step_apply_of_flush (fun n h => (outsAt0 m c n h).2.2.2.1) 16 (fun _ => (0 : EReal))
    (bpart m c 0) (step14A m c) (step14B m c) t ((flush0_14 t).mp hf) y, zero_add]
  obtain ⟨a, f, rfl⟩ : ∃ (a : Fin 1) (f : Fin 1536), y = ix2 a f := ⟨_, _, eq_ix2 y⟩
  refine Eq.trans ?_ (congrArg (dbG m c 0) (emb14 t a f)).symm
  unfold dbG bpart
  refine Fin.sum_mul_add_congr fun s k hl => ?_
  rw [row_eq t s k _ hl, show fcol ⟨16 * (t.val / 16) + s.val, _⟩ (ix2 a f 1) = fcol t f from fcol_eq t s f _]
  rfl

theorem final15 (c : Dev nD) : (dats m 0 c).arrAt 15 (cfgs 0).N = dbG m c 1 := by
  refine (dats m 0 c).arrAt_eq_of_covers 15 _ (by decide +kernel) fun t hf y => ?_
  blk_simp
  rw [after0_15, Pipeline.eq_sum_fin_of_reset_step_apply_of_flush (fun n h => (outsAt0 m c n h).2.2.2.2) 16 (fun _ => (0 : EReal))
    (bpart m c 1) (step15A m c) (step15B m c) t ((flush0_15 t).mp hf) y, zero_add]
  obtain ⟨a, f, rfl⟩ : ∃ (a : Fin 1) (f : Fin 1536), y = ix2 a f := ⟨_, _, eq_ix2 y⟩
  refine Eq.trans ?_ (congrArg (dbG m c 1) (emb15 t a f)).symm
  unfold dbG bpart
  refine Fin.sum_mul_add_congr fun s k hl => ?_
  rw [row_eq t s k _ hl, show fcol ⟨16 * (t.val / 16) + s.val, _⟩ (ix2 a f 1) = fcol t f from fcol_eq t s f _]
  rfl
end Cert.KernelIdeal.Val
-- ==== Proof.Ident.lean ====
/- The gated GELU's gradient at one element: the factored form that the kernel computes and the distributed form that
   differentiation writes are one number where the operands are finite. -/
module
public import proofs.«01_k».proof.Proof.Spec
@[expose] public section
set_option maxRecDepth 16384
noncomputable section
namespace Cert.KernelIdeal.Val

open Cert.KernelIdeal Cert.KernelIdeal.Gen Idealize.ShloMosaic

theorem ca_val : Named.named (F := Ideal) κ "gelu_ca" (φ := .f32) 0x3D122279#32 = ((80338380498831 / 2251799813685248 : ℝ) : EReal) :=
  IdealRules.named_const.ideal_named_scalar _ _ _ _ rfl
theorem ca6_val : Named.named (F := Ideal) κ "gelu_6ca" (φ := .f32) 0x3E5B33B6#32 = ((241015141496493 / 1125899906842624 : ℝ) : EReal) :=
  IdealRules.named_const.ideal_named_scalar _ _ _ _ rfl
theorem c_val : Ideal.ofBits .f32 0x3F4C422A#32 = ((6693141 / 8388608 : ℝ) : EReal) := by
  simp [Ideal.ofBits, Ideal.ieee, -EReal.coe_mul]; norm_num
theorem c2_val : Ideal.ofBits .f32 0x3FCC422A#32 = ((6693141 / 4194304 : ℝ) : EReal) := by
  simp [Ideal.ofBits, Ideal.ieee, -EReal.coe_mul]; norm_num
theorem a_val : Ideal.ofBits .f32 0x3D372713#32 = ((12003091 / 268435456 : ℝ) : EReal) := by
  simp [Ideal.ofBits, Ideal.ieee, -EReal.coe_mul]; norm_num
theorem three_val : Ideal.ofBits .f32 0x40400000#32 = ((3 : ℝ) : EReal) := by
  simp [Ideal.ofBits, Ideal.ieee, -EReal.coe_mul]; norm_num
theorem half_val : Ideal.ofBits .f32 0x3F000000#32 = ((1 / 2 : ℝ) : EReal) := by
  simp [Ideal.ofBits, Ideal.ieee, -EReal.coe_mul]; norm_num

/-- The tanh under the GELU as it is written. -/
def tR (z : EReal) : EReal :=
  Ideal.tanh (Ideal.ofBits .f32 0x3F4C422A#32 * (z + Ideal.ofBits .f32 0x3D372713#32 * (z * z * z)))

/-- The gradient at the gate as differentiation writes it. -/
def dgR (d z v : EReal) : EReal :=
  d * v * (Ideal.ofBits .f32 0x3F000000#32 * (1 + tR z))
    + Ideal.ofBits .f32 0x3F4C422A#32 * (Ideal.ofBits .f32 0x3F000000#32 * (z * (d * v)) * ((1 + tR z) * (1 - tR z)))
    + Ideal.ofBits .f32 0x3D372713#32
        * (Ideal.ofBits .f32 0x3F4C422A#32 * (Ideal.ofBits .f32 0x3F000000#32 * (z * (d * v)) * ((1 + tR z) * (1 - tR z))))
      * (Ideal.ofBits .f32 0x40400000#32 * (z * z))

/-- The gradient at the value. -/
def dvR (d z : EReal) : EReal := z * (Ideal.ofBits .f32 0x3F000000#32 * (1 + tR z)) * d

/-- A finite extended real. -/
def Fin' (x : EReal) : Prop := ∃ r : ℝ, x = (r : EReal)

theorem tR_coe (z : ℝ) : tR (z : EReal)
    = ((Real.tanh (6693141 / 8388608 * (z + 12003091 / 268435456 * (z * z * z))) : ℝ) : EReal) := by
  unfold tR
  rw [c_val, a_val]
  norm_cast

theorem sg_coe (z : ℝ) : sg (z : EReal)
    = ((1 / 2 * Real.tanh (6693141 / 8388608 * (z + 12003091 / 268435456 * (z * z * z))) + 1 / 2 : ℝ) : EReal) := by
  unfold sg
  rw [ca_val, c_val, half_val]
  have e : (6693141 / 8388608 * (z + 12003091 / 268435456 * (z * z * z)) : ℝ)
      = z * (80338380498831 / 2251799813685248 * (z * z) + 6693141 / 8388608) := by ring
  rw [e]
  norm_cast

theorem dg_eq {d z v : EReal} (hd : Fin' d) (hz : Fin' z) (hv : Fin' v) : dgK d z v = dgR d z v := by
  obtain ⟨d, rfl⟩ := hd
  obtain ⟨z, rfl⟩ := hz
  obtain ⟨v, rfl⟩ := hv
  unfold dgK dgR
  rw [sg_coe, tR_coe, ca6_val, c2_val, c_val, a_val, half_val, three_val]
  generalize Real.tanh _ = T
  norm_cast
  ring

theorem dv_eq {d z : EReal} (hd : Fin' d) (hz : Fin' z) : dvK d z = dvR d z := by
  obtain ⟨d, rfl⟩ := hd
  obtain ⟨z, rfl⟩ := hz
  unfold dvK dvR
  rw [sg_coe, tR_coe, half_val]
  generalize Real.tanh _ = T
  norm_cast
  ring

theorem Fin'.add {x y : EReal} (hx : Fin' x) (hy : Fin' y) : Fin' (x + y) := by
  obtain ⟨x, rfl⟩ := hx; obtain ⟨y, rfl⟩ := hy; exact ⟨x + y, (EReal.coe_add x y).symm⟩
theorem Fin'.mul {x y : EReal} (hx : Fin' x) (hy : Fin' y) : Fin' (x * y) := by
  obtain ⟨x, rfl⟩ := hx; obtain ⟨y, rfl⟩ := hy; exact ⟨x * y, (EReal.coe_mul x y).symm⟩
theorem Fin'.zero : Fin' 0 := ⟨0, rfl⟩
theorem Fin'.sum {n : ℕ} (f : Fin n → EReal) (h : ∀ i, Fin' (f i)) : Fin' (∑ i, f i) :=
  Finset.sum_induction f Fin' (fun _ _ => Fin'.add) Fin'.zero fun i _ => h i

/-- A sum against a sequence shifted by `d`: zeros stand before, and the sequence is zero past the end. -/
theorem sum_shift {n : ℕ} (d : ℕ) (u : Fin n → EReal) (g : ℕ → EReal) (hg : ∀ m, n ≤ m → g m = 0) (P : Fin n → EReal)
    (hP : ∀ t : Fin n, P t = if h : (t : ℕ) < d then 0 else u ⟨t - d, by omega⟩) :
    ∑ t : Fin n, P t * g t = ∑ t : Fin n, u t * g (t + d) := by
  let U : ℕ → EReal := fun m => if h : m < n then u ⟨m, h⟩ else 0
  have hl : ∑ t : Fin n, P t * g t = ∑ m ∈ Finset.range n, (if m < d then 0 else U (m - d)) * g m := by
    rw [Finset.sum_range]
    refine Finset.sum_congr rfl fun t _ => ?_
    rw [hP]
    split
    · rfl
    · rw [show U (t - d) = u ⟨t - d, by omega⟩ from dif_pos (by omega)]
  have hr : ∑ t : Fin n, u t * g (t + d) = ∑ m ∈ Finset.range n, U m * g (m + d) := by
    rw [Finset.sum_range]
    refine Finset.sum_congr rfl fun t _ => ?_
    rw [show U t = u t from dif_pos t.isLt]
  rw [hl, hr]
  have e1 : ∑ m ∈ Finset.range n, (if m < d then 0 else U (m - d)) * g m
      = ∑ m ∈ Finset.range (n + d), (if m < d then 0 else U (m - d)) * g m := by
    rw [Finset.sum_range_add, Finset.sum_eq_zero (s := Finset.range d), add_zero]
    exact fun x _ => by rw [hg _ (by omega), mul_zero]
  rw [e1, Nat.add_comm n d, Finset.sum_range_add, Finset.sum_eq_zero (s := Finset.range d), zero_add]
  · refine Finset.sum_congr rfl fun x _ => ?_
    rw [if_neg (by omega), Nat.add_sub_cancel_left, Nat.add_comm d x]
  · intro x hx
    rw [if_pos (Finset.mem_range.mp hx), zero_mul]
end Cert.KernelIdeal.Val
-- ==== Proof.Ref.lean ====
/- The reference's results read at an index. -/
module
public import proofs.«01_k».proof.Proof.Gen.ReferenceIdeal.Read
public import proofs.«01_k».proof.Proof.Ident
@[expose] public section
set_option maxRecDepth 16384
noncomputable section
namespace Cert.ReferenceIdeal.Val

open Cert.ReferenceIdeal Cert.ReferenceIdeal.Read Idealize.ShloMosaic
open Cert.KernelIdeal.Val (col upc df dn dd dgK dvK dgR dvR tR Fin' sum_shift dg_eq dv_eq)

variable (UP : FVec Ideal S1x8192x12288 .f32) (CW : FVec Ideal S3x12288 .f32) (CB : FVec Ideal S12288 .f32)
  (WD : FVec Ideal S6144x2048 .f32) (CT : FVec Ideal S1x8192x2048 .f32)

theorem v25_at (t : Fin 8192) (q : Fin 12288) :
    val_main_v25 (F := Ideal) UP CW CB (ix3 0 t q) = upc UP CW CB t q := by
  pointwise [val_main_cst, val_main_v0, val_main_v1, val_main_cst_0, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  rfl

theorem v51_at (t : Fin 8192) (f : Fin 6144) : val_main_v51 (F := Ideal) WD CT (ix3 0 t f) = df WD CT t f := by
  pointwise [val_main_v51]
  rfl

theorem v26_at (t : Fin 8192) (f : Fin 6144) :
    val_main_v26 (F := Ideal) UP CW CB (ix3 0 t f) = upc UP CW CB t (col 0 f) := by
  rw [← v25_at]
  pointwise [val_main_v26]
  exact congrArg _ (congrArg _ (Fin.ext (by show (f : ℕ) = 0 * 6144 + f; omega)))

theorem v27_at (t : Fin 8192) (f : Fin 6144) :
    val_main_v27 (F := Ideal) UP CW CB (ix3 0 t f) = upc UP CW CB t (col 1 f) := by
  rw [← v25_at]
  pointwise [val_main_v27]
  exact congrArg _ (congrArg _ (Fin.ext (by show 6144 + (f : ℕ) = 1 * 6144 + f; omega)))

theorem v65_at (t : Fin 8192) (f : Fin 6144) :
    val_main_v65 (F := Ideal) UP CW CB WD CT (ix3 0 t f)
      = dgR (df WD CT t f) (upc UP CW CB t (col 0 f)) (upc UP CW CB t (col 1 f)) := by
  rw [← v51_at, ← v26_at, ← v27_at]
  pointwise [val_main_v28, val_main_v29, val_main_v30, val_main_cst_1, val_main_v31, val_main_v32, val_main_cst_2, val_main_v33, val_main_v34, val_main_v35, val_main_cst_3, val_main_v36, val_main_v37, val_main_v38, val_main_cst_4, val_main_v39, val_main_v40, val_main_cst_5, val_main_v41, val_main_v42, val_main_v43, val_main_cst_6, val_main_v44, val_main_v45, val_main_cst_7, val_main_v46, val_main_v47, val_main_v48, val_main_v49, val_main_v52, val_main_v53, val_main_v54, val_main_v55, val_main_cst_8, val_main_v56, val_main_v57, val_main_v58, val_main_cst_9, val_main_v59, val_main_v60, val_main_v61, val_main_cst_10, val_main_v62, val_main_v63, val_main_v64, val_main_v65]
  rfl

theorem v52_at (t : Fin 8192) (f : Fin 6144) :
    val_main_v52 (F := Ideal) UP CW CB WD CT (ix3 0 t f) = dvR (df WD CT t f) (upc UP CW CB t (col 0 f)) := by
  rw [← v51_at, ← v26_at]
  pointwise [val_main_v28, val_main_v29, val_main_v30, val_main_cst_1, val_main_v31, val_main_v32, val_main_cst_2, val_main_v33, val_main_v34, val_main_v35, val_main_cst_3, val_main_v36, val_main_v37, val_main_v38, val_main_cst_4, val_main_v39, val_main_v40, val_main_cst_5, val_main_v41, val_main_v42, val_main_v43, val_main_cst_6, val_main_v44, val_main_v45, val_main_cst_7, val_main_v46, val_main_v47, val_main_v48, val_main_v49, val_main_v52]
  rfl

/-- The gradient of the convolution's output as differentiation writes it. -/
def ddR (s : Fin 2) (t : Fin 8192) (f : Fin 6144) : EReal :=
  if s = 0 then dgR (df WD CT t f) (upc UP CW CB t (col 0 f)) (upc UP CW CB t (col 1 f))
  else dvR (df WD CT t f) (upc UP CW CB t (col 0 f))

theorem v66_at (s : Fin 2) (t : Fin 8192) (f : Fin 6144) :
    val_main_v66 (F := Ideal) UP CW CB WD CT (ix3 0 t (col s f)) = ddR UP CW CB WD CT s t f := by
  unfold ddR
  rw [← v65_at, ← v52_at]
  pointwise [val_main_v66]
  match s with
  | 0 => exact (dif_pos (by show 0 * 6144 + (f : ℕ) < 6144; omega)).trans (congrArg _ (congrArg _ (Fin.ext (by show 0 * 6144 + (f : ℕ) = f; omega))))
  | 1 => exact (dif_neg (by show ¬ 1 * 6144 + (f : ℕ) < 6144; omega)).trans (congrArg _ (congrArg _ (Fin.ext (by show 1 * 6144 + (f : ℕ) - 6144 = f; omega))))

theorem v103_at (t : Fin 8192) (q : Fin 12288) :
    val_main_v103 (F := Ideal) UP CW CB WD CT (ix2 t q) =
      val_main_v66 (F := Ideal) UP CW CB WD CT (ix3 0 t q) * CW (ix2 2 q)
      + (if h : 1 + (t : ℕ) < 8192 then val_main_v66 (F := Ideal) UP CW CB WD CT (ix3 0 ⟨1 + t, h⟩ q) * CW (ix2 1 q) else 0)
      + (if h : 2 + (t : ℕ) < 8192 then val_main_v66 (F := Ideal) UP CW CB WD CT (ix3 0 ⟨2 + t, h⟩ q) * CW (ix2 0 q) else 0) := by
  pointwise [val_main_v67, val_main_cst_11, val_main_v68, val_main_v69, val_main_v70, val_main_v71, val_main_cst_12, val_main_v72, val_main_v73, val_main_cst_13, val_main_v74, val_main_cst_14, val_main_v75, val_main_v76, val_main_cst_15, val_main_v77, val_main_v78, val_main_v79, val_main_v80, val_main_cst_16, val_main_v81, val_main_v82, val_main_cst_17, val_main_v83, val_main_v84, val_main_cst_18, val_main_v85, val_main_v86, val_main_cst_19, val_main_v87, val_main_v88, val_main_cst_20, val_main_v89, val_main_v90, val_main_cst_21, val_main_v91, val_main_v92, val_main_v93, val_main_v94, val_main_cst_22, val_main_v95, val_main_v96, val_main_cst_23, val_main_v97, val_main_v98, val_main_cst_24, val_main_v99, val_main_v100, val_main_v101, val_main_v102, val_main_v103, val_main_v4, val_main_v5, val_main_v6, val_main_v13, val_main_v14, val_main_v15, val_main_v20, val_main_v21, val_main_v22]
  have e : (2 + (t : ℕ) - 1) = 1 + t := by omega
  simp only [e]
  split_ifs <;> first | rfl | (exfalso; omega)

theorem two (x : S1x1x12288.Idx → EReal) (q : Fin 12288) :
    Ideal.hostReduceAdd Gen.reducesTo_S1x1x12288_S12288_d0_1 x 0 (ix1 q) = x (ix3 0 0 q) := by
  unfold Ideal.hostReduceAdd
  rw [zero_add]
  refine (Finset.sum_congr (Finset.ext fun i => ?_) fun _ _ => rfl).trans (Finset.sum_singleton x (ix3 0 0 q))
  rw [Finset.mem_filter, Finset.mem_singleton]
  constructor
  · rintro ⟨-, e⟩
    have h2 : i 2 = q := congrFun e 0
    funext a
    match a with
    | ⟨0, _⟩ => exact Subsingleton.elim (α := Fin 1) _ _
    | ⟨1, _⟩ => exact Subsingleton.elim (α := Fin 1) _ _
    | ⟨2, _⟩ => exact h2
  · rintro rfl
    refine ⟨Finset.mem_univ _, ?_⟩
    funext b
    match b with
    | ⟨0, _⟩ => rfl

theorem v98_at (a : Fin 3) (q : Fin 12288) :
    val_main_v98 (F := Ideal) UP CW CB WD CT (ix2 a q) =
      (if 2 ≤ (a : ℕ) then ∑ t : Fin 8192, UP (ix3 0 t q) * val_main_v66 (F := Ideal) UP CW CB WD CT (ix3 0 t q) else 0)
      + (if 1 ≤ (a : ℕ) ∧ (a : ℕ) < 2 then ∑ t : Fin 8192, (if h : 1 + (t : ℕ) < 2 then 0 else UP (ix3 0 ⟨1 + t - 2, by omega⟩ q)) * val_main_v66 (F := Ideal) UP CW CB WD CT (ix3 0 t q) else 0)
      + (if (a : ℕ) < 1 then ∑ t : Fin 8192, (if h : (t : ℕ) < 2 then 0 else UP (ix3 0 ⟨t - 2, by omega⟩ q)) * val_main_v66 (F := Ideal) UP CW CB WD CT (ix3 0 t q) else 0) := by
  pointwise [val_main_v67, val_main_cst_11, val_main_v68, val_main_v69, val_main_v70, val_main_v71, val_main_cst_12, val_main_v72, val_main_v73, val_main_cst_13, val_main_v74, val_main_cst_14, val_main_v75, val_main_v76, val_main_cst_15, val_main_v77, val_main_v78, val_main_v79, val_main_v80, val_main_cst_16, val_main_v81, val_main_v82, val_main_cst_17, val_main_v83, val_main_v84, val_main_cst_18, val_main_v85, val_main_v86, val_main_cst_19, val_main_v87, val_main_v88, val_main_cst_20, val_main_v89, val_main_v90, val_main_cst_21, val_main_v91, val_main_v92, val_main_v93, val_main_v94, val_main_cst_22, val_main_v95, val_main_v96, val_main_cst_23, val_main_v97, val_main_v98]
  simp only [two]
  pointwise [val_main_cst, val_main_v0, val_main_v1, val_main_cst_0, val_main_v2, val_main_v3, val_main_v12, val_main_v19]
  rcases (by omega : (a : ℕ) = 0 ∨ (a : ℕ) = 1 ∨ (a : ℕ) = 2) with h | h | h
  · rw [dif_neg (by omega), dif_neg (by omega), dif_pos (by omega), if_neg (by omega), if_neg (by omega), if_pos (by omega)]
  · rw [dif_neg (by omega), dif_pos (by omega), dif_neg (by omega), if_neg (by omega), if_pos (by omega), if_neg (by omega)]
  · rw [dif_pos (by omega), dif_neg (by omega), dif_neg (by omega), if_pos (by omega), if_neg (by omega), if_neg (by omega)]
theorem v108_at (a : Fin 1) (q : Fin 12288) :
    val_main_v108 (F := Ideal) UP CW CB WD CT (ix2 a q) = ∑ t : Fin 8192, val_main_v66 (F := Ideal) UP CW CB WD CT (ix3 0 t q) := by
  pointwise [val_main_v67, val_main_cst_11, val_main_v68, val_main_v69, val_main_v70, val_main_v71, val_main_cst_12, val_main_v72, val_main_v73, val_main_cst_13, val_main_v74, val_main_cst_14, val_main_v75, val_main_v76, val_main_cst_15, val_main_v77, val_main_v78, val_main_v79, val_main_v80, val_main_cst_16, val_main_v81, val_main_v82, val_main_cst_17, val_main_v83, val_main_v84, val_main_cst_18, val_main_v85, val_main_v86, val_main_cst_19, val_main_v87, val_main_v88, val_main_cst_20, val_main_v89, val_main_v90, val_main_cst_21, val_main_v91, val_main_v92, val_main_v93, val_main_v94, val_main_cst_22, val_main_v95, val_main_v96, val_main_cst_23, val_main_v97, val_main_v98, val_main_cst_24, val_main_v99, val_main_v100, val_main_v101, val_main_v102, val_main_v103, val_main_v104, val_main_v105, val_main_v106, val_main_v107, val_main_v108]
  rw [two]
  pointwise
end Cert.ReferenceIdeal.Val
-- ==== Proof.RefFin.lean ====
/- The reference's results over finite arguments, in closed form. -/
module
public import proofs.«01_k».proof.Proof.Ref
@[expose] public section
set_option maxRecDepth 16384
noncomputable section
namespace Cert.ReferenceIdeal.Val

open Cert.ReferenceIdeal Cert.ReferenceIdeal.Read Idealize.ShloMosaic
open Cert.KernelIdeal.Val (col upc df dn dd dgK dvK dgR dvR tR Fin' sum_shift dg_eq dv_eq)

variable (UP : FVec Ideal S1x8192x12288 .f32) (CW : FVec Ideal S3x12288 .f32) (CB : FVec Ideal S12288 .f32)
  (WD : FVec Ideal S6144x2048 .f32) (CT : FVec Ideal S1x8192x2048 .f32)

/-- Every element of the arguments is finite. -/
structure Finite : Prop where
  up : ∀ i, Fin' (UP i)
  cw : ∀ i, Fin' (CW i)
  cb : ∀ i, Fin' (CB i)
  wd : ∀ i, Fin' (WD i)
  ct : ∀ i, Fin' (CT i)

variable {UP CW CB WD CT}

theorem upc_fin (H : Finite UP CW CB WD CT) (t : Fin 8192) (q : Fin 12288) : Fin' (upc UP CW CB t q) := by
  unfold upc
  refine (((H.cb _).add (.mul ?_ (H.cw _))).add (.mul ?_ (H.cw _))).add ((H.up _).mul (H.cw _))
  · split
    · exact .zero
    · exact H.up _
  · split
    · exact .zero
    · exact H.up _

theorem df_fin (H : Finite UP CW CB WD CT) (t : Fin 8192) (f : Fin 6144) : Fin' (df WD CT t f) :=
  .sum _ fun _ => (H.ct _).mul (H.wd _)

theorem v66_eq (H : Finite UP CW CB WD CT) (s : Fin 2) (t : Fin 8192) (f : Fin 6144) :
    val_main_v66 (F := Ideal) UP CW CB WD CT (ix3 0 t (col s f)) = dn UP CW CB WD CT s t f := by
  rw [v66_at]
  refine Eq.trans ?_ (dif_pos t.isLt).symm
  unfold ddR dd
  rw [dg_eq (df_fin H t f) (upc_fin H t _) (upc_fin H t _), dv_eq (df_fin H t f) (upc_fin H t _)]

theorem dn_past (s : Fin 2) (n : ℕ) (f : Fin 6144) (h : 8192 ≤ n) : dn UP CW CB WD CT s n f = 0 := dif_neg (by omega)

theorem v114_at (H : Finite UP CW CB WD CT) (s : Fin 2) (t : Fin 8192) (f : Fin 6144) :
    val_main_v114 (F := Ideal) UP CW CB WD CT (ix3 s t f) =
      CW (ix2 2 (col s f)) * dn UP CW CB WD CT s t f + CW (ix2 1 (col s f)) * dn UP CW CB WD CT s ((t : ℕ) + 1) f
        + CW (ix2 0 (col s f)) * dn UP CW CB WD CT s ((t : ℕ) + 2) f := by
  have e : val_main_v114 (F := Ideal) UP CW CB WD CT (ix3 s t f) = val_main_v103 (F := Ideal) UP CW CB WD CT (ix2 t (col s f)) := by
    pointwise [val_main_v104, val_main_v105, val_main_v106, val_main_v107, val_main_v108, val_main_v109, val_main_v110, val_main_v111, val_main_v112, val_main_v113, val_main_v114]
    match s with
    | 0 => exact (dif_pos (by decide)).trans (congrArg _ (congrArg _ (Fin.ext (by show (f : ℕ) = 0 * 6144 + f; omega))))
    | 1 => exact (dif_neg (by decide)).trans (congrArg _ (congrArg _ (Fin.ext (by show 6144 + (f : ℕ) = 1 * 6144 + f; omega))))
  rw [e, v103_at]
  refine congrArg₂ _ (congrArg₂ _ ?_ ?_) ?_
  · rw [v66_eq H, mul_comm]
  · split
    · rename_i h
      rw [v66_eq H, mul_comm, show (((⟨1 + t, h⟩ : Fin 8192) : ℕ)) = t + 1 from Nat.add_comm 1 t]
    · rw [dn_past s _ f (by omega), mul_zero]
  · split
    · rename_i h
      rw [v66_eq H, mul_comm, show (((⟨2 + t, h⟩ : Fin 8192) : ℕ)) = t + 2 from Nat.add_comm 2 t]
    · rw [dn_past s _ f (by omega), mul_zero]

theorem v98_col (H : Finite UP CW CB WD CT) (a : Fin 3) (s : Fin 2) (f : Fin 6144) :
    val_main_v98 (F := Ideal) UP CW CB WD CT (ix2 a (col s f)) =
      ∑ t : Fin 8192, UP (ix3 0 t (col s f)) * dn UP CW CB WD CT s (t + (2 - (a : ℕ))) f := by
  rw [v98_at]
  simp only [v66_eq H]
  rcases (by omega : (a : ℕ) = 0 ∨ (a : ℕ) = 1 ∨ (a : ℕ) = 2) with h | h | h
  · rw [if_neg (by omega), if_neg (by omega), if_pos (by omega), zero_add, zero_add, h]
    exact sum_shift 2 (fun t => UP (ix3 0 t (col s f))) (fun n => dn UP CW CB WD CT s n f) (fun n h => dn_past s n f h) _ fun t => rfl
  · rw [if_neg (by omega), if_pos (by omega), if_neg (by omega), zero_add, add_zero, h]
    refine sum_shift 1 (fun t => UP (ix3 0 t (col s f))) (fun n => dn UP CW CB WD CT s n f) (fun n h => dn_past s n f h) _ fun t => ?_
    by_cases h : (t : ℕ) < 1
    · rw [dif_pos h, dif_pos (by omega)]
    · rw [dif_neg h, dif_neg (by omega)]
      exact congrArg (fun k => UP (ix3 0 k (col s f))) (Fin.ext (by show 1 + (t : ℕ) - 2 = t - 1; omega))
  · rw [if_pos (by omega), if_neg (by omega), if_neg (by omega), add_zero, add_zero, h]
    rfl

theorem v106_at (H : Finite UP CW CB WD CT) (a : Fin 3) (f : Fin 6144) :
    val_main_v106 (F := Ideal) UP CW CB WD CT (ix2 a f) =
      ∑ t : Fin 8192, UP (ix3 0 t (col 0 f)) * dn UP CW CB WD CT 0 (t + (2 - (a : ℕ))) f := by
  rw [← v98_col H]
  pointwise [val_main_v106]
  exact congrArg (fun q => val_main_v98 (F := Ideal) UP CW CB WD CT (ix2 a q)) (Fin.ext (by show (f : ℕ) = 0 * 6144 + f; omega))

theorem v107_at (H : Finite UP CW CB WD CT) (a : Fin 3) (f : Fin 6144) :
    val_main_v107 (F := Ideal) UP CW CB WD CT (ix2 a f) =
      ∑ t : Fin 8192, UP (ix3 0 t (col 1 f)) * dn UP CW CB WD CT 1 (t + (2 - (a : ℕ))) f := by
  rw [← v98_col H]
  pointwise [val_main_v107]
  exact congrArg (fun q => val_main_v98 (F := Ideal) UP CW CB WD CT (ix2 a q)) (Fin.ext (by show 6144 + (f : ℕ) = 1 * 6144 + f; omega))

theorem v109_at (H : Finite UP CW CB WD CT) (a : Fin 1) (f : Fin 6144) :
    val_main_v109 (F := Ideal) UP CW CB WD CT (ix2 a f) = ∑ t : Fin 8192, dn UP CW CB WD CT 0 t f := by
  have e : val_main_v109 (F := Ideal) UP CW CB WD CT (ix2 a f) = val_main_v108 (F := Ideal) UP CW CB WD CT (ix2 a (col 0 f)) := by
    obtain rfl := Subsingleton.elim a 0
    pointwise [val_main_v109]
    exact congrArg (fun q => val_main_v108 (F := Ideal) UP CW CB WD CT (ix2 0 q)) (Fin.ext (by show (f : ℕ) = 0 * 6144 + f; omega))
  rw [e, v108_at]
  exact Finset.sum_congr rfl fun t _ => v66_eq H 0 t f

theorem v110_at (H : Finite UP CW CB WD CT) (a : Fin 1) (f : Fin 6144) :
    val_main_v110 (F := Ideal) UP CW CB WD CT (ix2 a f) = ∑ t : Fin 8192, dn UP CW CB WD CT 1 t f := by
  have e : val_main_v110 (F := Ideal) UP CW CB WD CT (ix2 a f) = val_main_v108 (F := Ideal) UP CW CB WD CT (ix2 a (col 1 f)) := by
    obtain rfl := Subsingleton.elim a 0
    pointwise [val_main_v110]
    exact congrArg (fun q => val_main_v108 (F := Ideal) UP CW CB WD CT (ix2 0 q)) (Fin.ext (by show 6144 + (f : ℕ) = 1 * 6144 + f; omega))
  rw [e, v108_at]
  exact Finset.sum_congr rfl fun t _ => v66_eq H 1 t f
end Cert.ReferenceIdeal.Val
-- ==== Proof.Claims.lean ====
/- The claims: the frames from the generated runs, the named constants from their table, and the equality of the results
   from the closed forms of both programs under the finiteness of the arguments. -/
module
public import proofs.«01_k».proof.Defs
public import proofs.«01_k».proof.Proof.Gen.Kernel
public import proofs.«01_k».proof.Proof.Gen.Kernel.Frame
public import proofs.«01_k».proof.Proof.Final
public import proofs.«01_k».proof.Proof.RefFin
public import Idealize.ShloMosaic.Lib.ReduceAll
public import Idealize.ShloMosaic.Lib.Claim
public import Idealize.ShloMosaic.Lib.QuiescentFlight
@[expose] public section
set_option maxRecDepth 16384
noncomputable section
namespace Cert.Proof.GluBwd

open Idealize.ShloMosaic Idealize.SL.Sem
open Cert.KernelIdeal.Val (Fin' col dn)
open Cert.ReferenceIdeal.Val (Finite)

/-- The side conditions of the precondition's operations. -/
instance facts_pre : Cert.Pre_finite.Facts where
  bcast_S_S1x8192x12288 := by decide
  reducesTo_S1x8192x12288_S_d0_1_2 := by decide
  h_S_ := by decide
  bcast_S_S3x12288 := by decide
  reducesTo_S3x12288_S_d0_1 := by decide
  bcast_S_S12288 := by decide
  reducesTo_S12288_S_d0 := by decide
  bcast_S_S6144x2048 := by decide
  reducesTo_S6144x2048_S_d0_1 := by decide
  bcast_S_S1x8192x2048 := by decide
  reducesTo_S1x8192x2048_S_d0_1_2 := by decide

/-- The comparison `|x| < ∞` came out 1: `x` is finite. -/
theorem fin_of_olt (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

instance : Subsingleton Cert.Pre_finite.S_.Idx := ⟨fun i j => funext fun a => a.elim0⟩

theorem finite_of_pre (x0 : FVec Ideal Cert.Pre_finite.S1x8192x12288 .f32) (x1 : FVec Ideal Cert.Pre_finite.S3x12288 .f32)
    (x2 : FVec Ideal Cert.Pre_finite.S12288 .f32) (x3 : FVec Ideal Cert.Pre_finite.S6144x2048 .f32)
    (x4 : FVec Ideal Cert.Pre_finite.S1x8192x2048 .f32) (h : Cert.Pre_finite.fn (F := Ideal) x0 x1 x2 x3 x4 = fun _ => 1#1) :
    Finite x0 x1 x2 x3 x4 := by
  have h := congrFun h ix0
  unfold Cert.Pre_finite.fn Cert.Pre_finite.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => fin_of_olt _ (Host.reduce_andi_all _ _ _ _ _ h0 i), fun i => fin_of_olt _ (Host.reduce_andi_all _ _ _ _ _ h1 i),
    fun i => fin_of_olt _ (Host.reduce_andi_all _ _ _ _ _ h2 i), fun i => fin_of_olt _ (Host.reduce_andi_all _ _ _ _ _ h3 i),
    fun i => fin_of_olt _ (Host.reduce_andi_all _ _ _ _ _ h4 i)⟩

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)
theorem frame_ri_pre : Cert.quiescent_ReferenceIdeal_pre_finite := fun m ρ _ => frame_ri m ρ trivial

theorem preserves : Cert.preserves_Kernel_KernelIdeal :=
  ⟨IdealRules.named_const.statement Cert.KernelIdeal.κ "gelu_ca" .f32 0x3D122279#32 ((80338380498831 / 2251799813685248 : ℝ) : EReal) rfl,
    IdealRules.named_const.statement Cert.KernelIdeal.κ "gelu_6ca" .f32 0x3E5B33B6#32 ((241015141496493 / 1125899906842624 : ℝ) : EReal) rfl⟩

section
variable (m : (ℓ : Loc Cert.KernelIdeal.nD Cert.KernelIdeal.τ Cert.KernelIdeal.sig) → Buf (Elt Ideal) ℓ) (c : Dev Cert.KernelIdeal.nD)

open Cert.KernelIdeal.Val (UP CW CB WD CT)
open Cert.ReferenceIdeal.Read

theorem eq11 (H : Finite (UP m c) (CW m c) (CB m c) (WD m c) (CT m c)) :
    (val_main_v114 (F := Ideal) (UP m c) (CW m c) (CB m c) (WD m c) (CT m c) : FVec Ideal Cert.KernelIdeal.S2x8192x6144 .bf16)
      = Cert.KernelIdeal.Val.outG m c := by
  funext j
  obtain ⟨s, t, f, rfl⟩ : ∃ (s : Fin 2) (t : Fin 8192) (f : Fin 6144), j = ix3 s t f := ⟨_, _, _, eq_ix3 j⟩
  exact Cert.ReferenceIdeal.Val.v114_at H s t f

theorem eq12 (H : Finite (UP m c) (CW m c) (CB m c) (WD m c) (CT m c)) :
    (val_main_v106 (F := Ideal) (UP m c) (CW m c) (CB m c) (WD m c) (CT m c) : FVec Ideal Cert.KernelIdeal.S3x6144 .f32)
      = Cert.KernelIdeal.Val.dwG m c 0 := by
  funext j
  obtain ⟨a, f, rfl⟩ : ∃ (a : Fin 3) (f : Fin 6144), j = ix2 a f := ⟨_, _, eq_ix2 j⟩
  exact Cert.ReferenceIdeal.Val.v106_at H a f

theorem eq13 (H : Finite (UP m c) (CW m c) (CB m c) (WD m c) (CT m c)) :
    (val_main_v107 (F := Ideal) (UP m c) (CW m c) (CB m c) (WD m c) (CT m c) : FVec Ideal Cert.KernelIdeal.S3x6144 .f32)
      = Cert.KernelIdeal.Val.dwG m c 1 := by
  funext j
  obtain ⟨a, f, rfl⟩ : ∃ (a : Fin 3) (f : Fin 6144), j = ix2 a f := ⟨_, _, eq_ix2 j⟩
  exact Cert.ReferenceIdeal.Val.v107_at H a f

theorem eq14 (H : Finite (UP m c) (CW m c) (CB m c) (WD m c) (CT m c)) :
    (val_main_v109 (F := Ideal) (UP m c) (CW m c) (CB m c) (WD m c) (CT m c) : FVec Ideal Cert.KernelIdeal.S1x6144 .f32)
      = Cert.KernelIdeal.Val.dbG m c 0 := by
  funext j
  obtain ⟨a, f, rfl⟩ : ∃ (a : Fin 1) (f : Fin 6144), j = ix2 a f := ⟨_, _, eq_ix2 j⟩
  exact Cert.ReferenceIdeal.Val.v109_at H a f

theorem eq15 (H : Finite (UP m c) (CW m c) (CB m c) (WD m c) (CT m c)) :
    (val_main_v110 (F := Ideal) (UP m c) (CW m c) (CB m c) (WD m c) (CT m c) : FVec Ideal Cert.KernelIdeal.S1x6144 .f32)
      = Cert.KernelIdeal.Val.dbG m c 1 := by
  funext j
  obtain ⟨a, f, rfl⟩ : ∃ (a : Fin 1) (f : Fin 6144), j = ix2 a f := ⟨_, _, eq_ix2 j⟩
  exact Cert.ReferenceIdeal.Val.v110_at H a f

end

/-- Both programs leave the same five results: the reference's stages are read at the kernel's own arguments. -/
theorem algebraic : Cert.algebraic_KernelIdeal_ReferenceIdeal_pre_finite := by
  intro m ρ m' ρ' hpre hagree
  refine ⟨_, _, _, _, _, Cert.KernelIdeal.Value.run_blocks (F := Ideal) m ρ, ?_⟩
  refine (θ_run Cert.ReferenceIdeal.defs _ _).mono (fun _ h c => ?_) (Cert.ReferenceIdeal.Value.run (F := Ideal) m' ρ')
  have H := finite_of_pre _ _ _ _ _ (hpre c)
  obtain ⟨a0, a1, a2, a3, a4⟩ := hagree c
  obtain ⟨r0, r1, r2, r3, r4, k⟩ := h c
  refine ⟨(r0.trans (Cert.ReferenceIdeal.Read.val_main_v114_eq _)).trans ?_, (r1.trans (Cert.ReferenceIdeal.Read.val_main_v106_eq _)).trans ?_,
    (r2.trans (Cert.ReferenceIdeal.Read.val_main_v107_eq _)).trans ?_, (r3.trans (Cert.ReferenceIdeal.Read.val_main_v109_eq _)).trans ?_,
    (r4.trans (Cert.ReferenceIdeal.Read.val_main_v110_eq _)).trans ?_, k⟩
  all_goals
    rw [show StableHlo.launchContents m' c (Proc.devRef .tc Cert.ReferenceIdeal.main_arg0) = _ from a0,
      show StableHlo.launchContents m' c (Proc.devRef .tc Cert.ReferenceIdeal.main_arg1) = _ from a1,
      show StableHlo.launchContents m' c (Proc.devRef .tc Cert.ReferenceIdeal.main_arg2) = _ from a2,
      show StableHlo.launchContents m' c (Proc.devRef .tc Cert.ReferenceIdeal.main_arg3) = _ from a3,
      show StableHlo.launchContents m' c (Proc.devRef .tc Cert.ReferenceIdeal.main_arg4) = _ from a4]
  · exact (eq11 m c H).trans (Cert.KernelIdeal.Val.final11 m c).symm
  · exact (eq12 m c H).trans (Cert.KernelIdeal.Val.final12 m c).symm
  · exact (eq13 m c H).trans (Cert.KernelIdeal.Val.final13 m c).symm
  · exact (eq14 m c H).trans (Cert.KernelIdeal.Val.final14 m c).symm
  · exact (eq15 m c H).trans (Cert.KernelIdeal.Val.final15 m c).symm
end Cert.Proof.GluBwd
-- ==== Proof.Ix.lean ====
/- Indices of arrays with two and three axes, told apart by their coordinates. -/
module
public import Idealize.ShloMosaic.Lib.Pipeline.ValueKit
@[expose] public section

namespace Cert.Ix

open Idealize.ShloMosaic

theorem of3 {n₀ n₁ n₂ : ℕ} (i : (⟨3, ![n₀, n₁, n₂]⟩ : Shape).Idx) (a : Fin n₀) (b : Fin n₁) (c : Fin n₂)
    (h0 : ((i 0 : Fin n₀) : ℕ) = a) (h1 : ((i 1 : Fin n₁) : ℕ) = b) (h2 : ((i 2 : Fin n₂) : ℕ) = c) : i = ix3 a b c := by
  rw [eq_ix3 i, show i 0 = a from Fin.ext h0, show i 1 = b from Fin.ext h1, show i 2 = c from Fin.ext h2]

theorem of2 {n₀ n₁ : ℕ} (i : (⟨2, ![n₀, n₁]⟩ : Shape).Idx) (a : Fin n₀) (b : Fin n₁)
    (h0 : ((i 0 : Fin n₀) : ℕ) = a) (h1 : ((i 1 : Fin n₁) : ℕ) = b) : i = ix2 a b := by
  rw [eq_ix2 i, show i 0 = a from Fin.ext h0, show i 1 = b from Fin.ext h1]

theorem eq3 {n₀ n₁ n₂ : ℕ} {a a' : Fin n₀} {b b' : Fin n₁} {c c' : Fin n₂} (h0 : (a : ℕ) = a') (h1 : (b : ℕ) = b')
    (h2 : (c : ℕ) = c') : ix3 a b c = ix3 a' b' c' := by
  rw [Fin.ext h0, Fin.ext h1, Fin.ext h2]

theorem eq2 {n₀ n₁ : ℕ} {a a' : Fin n₀} {b b' : Fin n₁} (h0 : (a : ℕ) = a') (h1 : (b : ℕ) = b') : ix2 a b = ix2 a' b' := by
  rw [Fin.ext h0, Fin.ext h1]
end Cert.Ix
-- ==== Proof.UpDw.lean ====
/- The gradient of the up projection's weights: the transposed input times the cotangent, tile by tile. -/
module
public import proofs.«01_k».proof.Defs
public import proofs.«01_k».proof.Proof.Gen.KernelUpDw
public import proofs.«01_k».proof.Proof.Gen.KernelUpDw.Frame
public import proofs.«01_k».proof.Proof.Gen.KernelUpDwIdeal
public import proofs.«01_k».proof.Proof.Gen.KernelUpDwIdeal.Frame
public import proofs.«01_k».proof.Proof.Gen.KernelUpDwIdeal.Value
public import proofs.«01_k».proof.Proof.Gen.ReferenceUpDwIdeal
public import proofs.«01_k».proof.Proof.Gen.ReferenceUpDwIdeal.Run
public import proofs.«01_k».proof.Proof.Gen.ReferenceUpDwIdeal.Read
public import proofs.«01_k».proof.Proof.Ix
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelUpDwIdeal.Val

open Cert.KernelUpDwIdeal Cert.KernelUpDwIdeal.Gen Idealize.ShloMosaic Idealize.ShloMosaic.TcCoe Idealize.SL.Sem
open Idealize.ShloMosaic.Pipeline (Dat)

variable (m : (ℓ : Loc nD τ sig) → Buf (Elt Ideal) ℓ)

/-- The layer's input and the cotangent of its output. -/
abbrev HH (c : Dev nD) : FVec Ideal S1x8192x2048 .f32 := m ((c : Thread nD τ).loc main_arg0)
abbrev CT (c : Dev nD) : FVec Ideal S1x8192x12288 .f32 := m ((c : Thread nD τ).loc main_arg1)

/-- Where each window's block lies: four row tiles within each column tile. -/
theorem idx : ∀ t : Fin cfg0.N, win0_0.index t = ![t.val % 4, 0] ∧ win0_1.index t = ![t.val / 4 / 8, t.val % 4, t.val / 4 % 8]
    ∧ win0_2.index t = ![t.val / 4 / 2, 0, t.val / 4 % 2] ∧ t.val / 4 < 16 :=
  (by decide +kernel : ∀ t : Fin grid0.N, _)

abbrev row (t : Fin cfg0.N) (r : Fin 2048) : Fin 8192 := ⟨t.val % 4 * 2048 + r, by omega⟩
abbrev fcol (t : Fin cfg0.N) (f : Fin 768) : Fin 12288 := ⟨t.val / 4 * 768 + f, by have := (idx t).2.2.2; omega⟩

theorem v4_apply (c : Dev nD) (t : Fin 8192) (k : Fin 2048) :
    (V m c main_v4 : FVec Ideal S8192x2048 .bf16) (ix2 t k) = HH m c (ix3 0 t k) := by
  entry_read
  pointwise

theorem v2_apply (c : Dev nD) (s : Fin 2) (t : Fin 8192) (f : Fin 6144) :
    (V m c main_v2 : FVec Ideal S2x8192x6144 .bf16) (ix3 s t f) = CT m c (ix3 0 t ⟨s * 6144 + f, by omega⟩) := by
  entry_read
  pointwise

theorem blk0 (c : Dev nD) (t : Fin cfg0.N) (r : Fin 2048) (k : Fin 2048) :
    (iblk m c 0 t : Vec Ideal S2048x2048 .bf16) (ix2 r k) = HH m c (ix3 0 (row t r) k) := by
  rw [← v4_apply m c]
  blk_ext [iblk, V, idx t]

theorem blk1 (c : Dev nD) (t : Fin cfg0.N) (u : Fin 1) (r : Fin 2048) (f : Fin 768) :
    (iblk m c 1 t : Vec Ideal S1x2048x768 .bf16) (ix3 u r f) = CT m c (ix3 0 (row t r) (fcol t f)) := by
  have h := (idx t).2.2.2
  have e : CT m c (ix3 0 (row t r) (fcol t f)) = (V m c main_v2 : FVec Ideal S2x8192x6144 .bf16) (ix3 ⟨t.val / 4 / 8, by omega⟩ (row t r) ⟨t.val / 4 % 8 * 768 + f, by omega⟩) :=
    ((v2_apply m c _ _ _).trans (congrArg (CT m c) (Ix.eq3 rfl rfl (by show t.val / 4 / 8 * 6144 + (t.val / 4 % 8 * 768 + f.val) = t.val / 4 * 768 + f.val; omega)))).symm
  rw [e]
  blk_ext [iblk, V, idx t]

/-- One row tile's part of the product. -/
def part (c : Dev nD) (t : Fin cfg0.N) (y : S1x2048x768.Idx) : EReal :=
  ∑ k : Fin 2048, HH m c (ix3 0 (row t k) (y 1)) * CT m c (ix3 0 (row t k) (fcol t (y 2)))

theorem pay2_at (x : FVec Ideal S1x2048x768 .f32) (a : FVec Ideal S2048x2048 .bf16) (b : FVec Ideal S1x2048x768 .bf16) (u : Fin 1) (p : Fin 2048) (q : Fin 768) :
    k0_pay2 (F := Ideal) x a b (ix3 u p q) = x (ix3 u p q) + ∑ k : Fin 2048, a (ix2 k p) * b (ix3 0 k q) := by
  obtain rfl := Subsingleton.elim u 0
  unfold k0_pay2
  pointwise

theorem pay1_at (y : S1x2048x768.Idx) : k0_pay1 (F := Ideal) y = 0 := by
  unfold k0_pay1
  pointwise

theorem part_at (c : Dev nD) (t : Fin cfg0.N) (x : FVec Ideal S1x2048x768 .f32) (y : S1x2048x768.Idx) :
    k0_pay2 (F := Ideal) x (iblk m c 0 t) (iblk m c 1 t) y = x y + part m c t y := by
  obtain ⟨u, p, q, rfl⟩ : ∃ (u : Fin 1) (p : Fin 2048) (q : Fin 768), y = ix3 u p q := ⟨_, _, _, eq_ix3 y⟩
  refine (pay2_at _ _ _ _ _ _).trans ?_
  refine congrArg (_ + ·) (Finset.sum_congr rfl fun k _ => ?_)
  rw [blk0, blk1]
  rfl

theorem stepA (c : Dev nD) (t : Fin cfg0.N) (h : t.val % 4 = 0) (y) :
    outsAt0 m c t.val t.isLt y = (fun _ => (0 : EReal)) y + part m c t y := by
  rw [outsAt0_A m c t h, Value.out_A_2_eq]
  refine (part_at m c t _ y).trans ?_
  rw [pay1_at]

theorem stepB (c : Dev nD) (t : Fin cfg0.N) (h : ¬ t.val % 4 = 0) (y) :
    outsAt0 m c t.val t.isLt y = outsAt0 m c (t.val - 1) (Nat.lt_of_le_of_lt (Nat.sub_le _ _) t.isLt) y + part m c t y := by
  rw [outsAt0_B m c t h, Value.out_B_2_eq]
  exact part_at m c t _ y

/-- The product of the transposed input with the cotangent, its columns in eight blocks. -/
def G (c : Dev nD) (j : S8x2048x1536.Idx) : EReal :=
  ∑ t : Fin 8192, HH m c (ix3 0 t (j 1)) * CT m c (ix3 0 t ⟨(j 0).val * 1536 + (j 2).val, by have h0 : (j 0).val < 8 := (j 0).isLt; have h2 : (j 2).val < 1536 := (j 2).isLt; omega⟩)

theorem emb (t : Fin cfg0.N) (u : Fin 1) (p : Fin 2048) (q : Fin 768) :
    (((cfg0.win 2).blk t).view.emb (ix3 u p q) : S8x2048x1536.Idx)
      = ix3 ⟨t.val / 4 / 2, by have := (idx t).2.2.2; omega⟩ p ⟨t.val / 4 % 2 * 768 + q, by omega⟩ := by
  have e := idx t
  have h0 : ((((cfg0.win 2).blk t).view.emb (ix3 u p q)) 0 : ℕ) = t.val / 4 / 2 := by blk_simp [e]
  have h1 : ((((cfg0.win 2).blk t).view.emb (ix3 u p q)) 1 : ℕ) = p := by blk_simp [e]
  have h2 : ((((cfg0.win 2).blk t).view.emb (ix3 u p q)) 2 : ℕ) = t.val / 4 % 2 * 768 + q := by blk_simp [e]
  exact Ix.of3 _ _ _ _ h0 h1 h2

theorem final2 (c : Dev nD) : (dats m 0 c).arrAt 2 (cfgs 0).N = G m c := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (part m c) (stepA m c) (stepB m c) t ((flush0_2 t).mp hf) y, zero_add]
  obtain ⟨u, p, q, rfl⟩ : ∃ (u : Fin 1) (p : Fin 2048) (q : Fin 768), y = ix3 u p q := ⟨_, _, _, eq_ix3 y⟩
  refine Eq.trans ?_ (congrArg (G m c) (emb t u p q)).symm
  unfold G part
  refine Fin.sum_mul_add_congr fun s k hl => ?_
  refine congr (congrArg _ (congrArg (HH m c) ?_)) (congrArg (CT m c) ?_)
  · exact Ix.eq3 rfl (by show (4 * (t.val / 4) + s.val) % 4 * 2048 + k.val = s.val * 2048 + k.val; omega) rfl
  · exact Ix.eq3 rfl (by show (4 * (t.val / 4) + s.val) % 4 * 2048 + k.val = s.val * 2048 + k.val; omega)
      (by show (4 * (t.val / 4) + s.val) / 4 * 768 + q.val = t.val / 4 / 2 * 1536 + (t.val / 4 % 2 * 768 + q.val); omega)

open Cert.ReferenceUpDwIdeal.Read in
theorem ref_eq (c : Dev nD) :
    (val_main_v5 (F := Ideal) (HH m c) (CT m c) : FVec Ideal S8x2048x1536 .f32) = G m c := by
  funext j
  obtain ⟨o, p, q, rfl⟩ : ∃ (o : Fin 8) (p : Fin 2048) (q : Fin 1536), j = ix3 o p q := ⟨_, _, _, eq_ix3 j⟩
  unfold G
  pointwise [val_main_v5, val_main_v4, val_main_v3, val_main_v2]
  exact (Fin.sum_univ_one _).trans (Finset.sum_congr rfl fun x _ => mul_comm _ _)

theorem frame_p : Cert.quiescent_KernelUpDw := fun m ρ _ => Cert.KernelUpDw.Gen.frame m ρ
theorem frame_pi : Cert.quiescent_KernelUpDwIdeal := fun m ρ _ => Cert.KernelUpDwIdeal.Gen.frame m ρ
theorem frame_ri : Cert.quiescent_ReferenceUpDwIdeal := fun m ρ _ =>
  (θ_run Cert.ReferenceUpDwIdeal.defs _ _).mono (fun r h => ⟨fun c => (h c).2,
      Idealize.ShloMosaic.sem_eq_zero_of_no_sems (by decide) r.2⟩)
    (Cert.ReferenceUpDwIdeal.Value.run (F := Ideal) m ρ)

theorem algebraic : Cert.algebraic_KernelUpDwIdeal_ReferenceUpDwIdeal := by
  intro m ρ m' ρ' hpre hagree
  refine ⟨_, Cert.KernelUpDwIdeal.Value.run_blocks (F := Ideal) m ρ, ?_⟩
  refine (θ_run Cert.ReferenceUpDwIdeal.defs _ _).mono (fun _ h c => ?_) (Cert.ReferenceUpDwIdeal.Value.run (F := Ideal) m' ρ')
  obtain ⟨a0, a1⟩ := hagree c
  obtain ⟨r0, k⟩ := h c
  refine ⟨(r0.trans (Cert.ReferenceUpDwIdeal.Read.val_main_v5_eq _ _)).trans ?_, k⟩
  rw [a0, a1]
  exact (ref_eq m c).trans (final2 m c).symm
end Cert.KernelUpDwIdeal.Val
-- ==== Proof.InDw.lean ====
/- The gradient of the input projection's weights: the transposed input times the cotangent, tile by tile. -/
module
public import proofs.«01_k».proof.Defs
public import proofs.«01_k».proof.Proof.Gen.KernelInDw
public import proofs.«01_k».proof.Proof.Gen.KernelInDw.Frame
public import proofs.«01_k».proof.Proof.Gen.KernelInDwIdeal
public import proofs.«01_k».proof.Proof.Gen.KernelInDwIdeal.Frame
public import proofs.«01_k».proof.Proof.Gen.KernelInDwIdeal.Value
public import proofs.«01_k».proof.Proof.Gen.ReferenceInDwIdeal
public import proofs.«01_k».proof.Proof.Gen.ReferenceInDwIdeal.Run
public import proofs.«01_k».proof.Proof.Gen.ReferenceInDwIdeal.Read
public import proofs.«01_k».proof.Proof.Ix
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelInDwIdeal.Val

open Cert.KernelInDwIdeal Cert.KernelInDwIdeal.Gen Idealize.ShloMosaic Idealize.ShloMosaic.TcCoe Idealize.SL.Sem
open Idealize.ShloMosaic.Pipeline (Dat)

variable (m : (ℓ : Loc nD τ sig) → Buf (Elt Ideal) ℓ)

/-- The layer's input and the cotangent of its output. -/
abbrev HH (c : Dev nD) : FVec Ideal S1x8192x2048 .f32 := m ((c : Thread nD τ).loc main_arg0)
abbrev CT (c : Dev nD) : FVec Ideal S1x8192x4096 .f32 := m ((c : Thread nD τ).loc main_arg1)

/-- Where each window's block lies: four row tiles within each column tile. -/
theorem idx : ∀ t : Fin cfg0.N, win0_0.index t = ![t.val % 4, 0] ∧ win0_1.index t = ![0, t.val % 4, t.val / 4]
    ∧ win0_2.index t = ![t.val / 4 / 1, 0, t.val / 4 % 1] ∧ t.val / 4 < 8 :=
  (by decide +kernel : ∀ t : Fin grid0.N, _)

abbrev row (t : Fin cfg0.N) (r : Fin 2048) : Fin 8192 := ⟨t.val % 4 * 2048 + r, by omega⟩
abbrev fcol (t : Fin cfg0.N) (f : Fin 512) : Fin 4096 := ⟨t.val / 4 * 512 + f, by have := (idx t).2.2.2; omega⟩

theorem v1_apply (c : Dev nD) (t : Fin 8192) (k : Fin 2048) :
    (V m c main_v1 : FVec Ideal S8192x2048 .bf16) (ix2 t k) = HH m c (ix3 0 t k) := by
  entry_read
  pointwise

theorem v2_apply (c : Dev nD) (s : Fin 1) (t : Fin 8192) (f : Fin 4096) :
    (V m c main_v2 : FVec Ideal S1x8192x4096 .bf16) (ix3 s t f) = CT m c (ix3 0 t f) := by
  obtain rfl := Subsingleton.elim s 0
  entry_read
  pointwise

theorem blk0 (c : Dev nD) (t : Fin cfg0.N) (r : Fin 2048) (k : Fin 2048) :
    (iblk m c 0 t : Vec Ideal S2048x2048 .bf16) (ix2 r k) = HH m c (ix3 0 (row t r) k) := by
  rw [← v1_apply m c]
  blk_ext [iblk, V, idx t]

theorem blk1 (c : Dev nD) (t : Fin cfg0.N) (u : Fin 1) (r : Fin 2048) (f : Fin 512) :
    (iblk m c 1 t : Vec Ideal S1x2048x512 .bf16) (ix3 u r f) = CT m c (ix3 0 (row t r) (fcol t f)) := by
  rw [← v2_apply m c u]
  blk_ext [iblk, V, idx t]

/-- One row tile's part of the product. -/
def part (c : Dev nD) (t : Fin cfg0.N) (y : S1x2048x512.Idx) : EReal :=
  ∑ k : Fin 2048, HH m c (ix3 0 (row t k) (y 1)) * CT m c (ix3 0 (row t k) (fcol t (y 2)))

theorem pay2_at (x : FVec Ideal S1x2048x512 .f32) (a : FVec Ideal S2048x2048 .bf16) (b : FVec Ideal S1x2048x512 .bf16) (u : Fin 1) (p : Fin 2048) (q : Fin 512) :
    k0_pay2 (F := Ideal) x a b (ix3 u p q) = x (ix3 u p q) + ∑ k : Fin 2048, a (ix2 k p) * b (ix3 0 k q) := by
  obtain rfl := Subsingleton.elim u 0
  unfold k0_pay2
  pointwise

theorem pay1_at (y : S1x2048x512.Idx) : k0_pay1 (F := Ideal) y = 0 := by
  unfold k0_pay1
  pointwise

theorem part_at (c : Dev nD) (t : Fin cfg0.N) (x : FVec Ideal S1x2048x512 .f32) (y : S1x2048x512.Idx) :
    k0_pay2 (F := Ideal) x (iblk m c 0 t) (iblk m c 1 t) y = x y + part m c t y := by
  obtain ⟨u, p, q, rfl⟩ : ∃ (u : Fin 1) (p : Fin 2048) (q : Fin 512), y = ix3 u p q := ⟨_, _, _, eq_ix3 y⟩
  refine (pay2_at _ _ _ _ _ _).trans ?_
  refine congrArg (_ + ·) (Finset.sum_congr rfl fun k _ => ?_)
  rw [blk0, blk1]
  rfl

theorem stepA (c : Dev nD) (t : Fin cfg0.N) (h : t.val % 4 = 0) (y) :
    outsAt0 m c t.val t.isLt y = (fun _ => (0 : EReal)) y + part m c t y := by
  rw [outsAt0_A m c t h, Value.out_A_2_eq]
  refine (part_at m c t _ y).trans ?_
  rw [pay1_at]

theorem stepB (c : Dev nD) (t : Fin cfg0.N) (h : ¬ t.val % 4 = 0) (y) :
    outsAt0 m c t.val t.isLt y = outsAt0 m c (t.val - 1) (Nat.lt_of_le_of_lt (Nat.sub_le _ _) t.isLt) y + part m c t y := by
  rw [outsAt0_B m c t h, Value.out_B_2_eq]
  exact part_at m c t _ y

/-- The product of the transposed input with the cotangent, its columns in eight blocks. -/
def G (c : Dev nD) (j : S8x2048x512.Idx) : EReal :=
  ∑ t : Fin 8192, HH m c (ix3 0 t (j 1)) * CT m c (ix3 0 t ⟨(j 0).val * 512 + (j 2).val, by have h0 : (j 0).val < 8 := (j 0).isLt; have h2 : (j 2).val < 512 := (j 2).isLt; omega⟩)

theorem emb (t : Fin cfg0.N) (u : Fin 1) (p : Fin 2048) (q : Fin 512) :
    (((cfg0.win 2).blk t).view.emb (ix3 u p q) : S8x2048x512.Idx)
      = ix3 ⟨t.val / 4 / 1, by have := (idx t).2.2.2; omega⟩ p ⟨t.val / 4 % 1 * 512 + q, by omega⟩ := by
  have e := idx t
  have h0 : ((((cfg0.win 2).blk t).view.emb (ix3 u p q)) 0 : ℕ) = t.val / 4 / 1 := by blk_simp [e]
  have h1 : ((((cfg0.win 2).blk t).view.emb (ix3 u p q)) 1 : ℕ) = p := by blk_simp [e]
  have h2 : ((((cfg0.win 2).blk t).view.emb (ix3 u p q)) 2 : ℕ) = t.val / 4 % 1 * 512 + q := by blk_simp [e]
  exact Ix.of3 _ _ _ _ h0 h1 h2

theorem final2 (c : Dev nD) : (dats m 0 c).arrAt 2 (cfgs 0).N = G m c := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (part m c) (stepA m c) (stepB m c) t ((flush0_2 t).mp hf) y, zero_add]
  obtain ⟨u, p, q, rfl⟩ : ∃ (u : Fin 1) (p : Fin 2048) (q : Fin 512), y = ix3 u p q := ⟨_, _, _, eq_ix3 y⟩
  refine Eq.trans ?_ (congrArg (G m c) (emb t u p q)).symm
  unfold G part
  refine Fin.sum_mul_add_congr fun s k hl => ?_
  refine congr (congrArg _ (congrArg (HH m c) ?_)) (congrArg (CT m c) ?_)
  · exact Ix.eq3 rfl (by show (4 * (t.val / 4) + s.val) % 4 * 2048 + k.val = s.val * 2048 + k.val; omega) rfl
  · exact Ix.eq3 rfl (by show (4 * (t.val / 4) + s.val) % 4 * 2048 + k.val = s.val * 2048 + k.val; omega)
      (by show (4 * (t.val / 4) + s.val) / 4 * 512 + q.val = t.val / 4 / 1 * 512 + (t.val / 4 % 1 * 512 + q.val); omega)

open Cert.ReferenceInDwIdeal.Read in
theorem ref_eq (c : Dev nD) :
    (val_main_v5 (F := Ideal) (HH m c) (CT m c) : FVec Ideal S8x2048x512 .f32) = G m c := by
  funext j
  obtain ⟨o, p, q, rfl⟩ : ∃ (o : Fin 8) (p : Fin 2048) (q : Fin 512), j = ix3 o p q := ⟨_, _, _, eq_ix3 j⟩
  unfold G
  pointwise [val_main_v5, val_main_v4, val_main_v3, val_main_v2]
  exact (Fin.sum_univ_one _).trans (Finset.sum_congr rfl fun x _ => mul_comm _ _)

theorem frame_p : Cert.quiescent_KernelInDw := fun m ρ _ => Cert.KernelInDw.Gen.frame m ρ
theorem frame_pi : Cert.quiescent_KernelInDwIdeal := fun m ρ _ => Cert.KernelInDwIdeal.Gen.frame m ρ
theorem frame_ri : Cert.quiescent_ReferenceInDwIdeal := fun m ρ _ =>
  (θ_run Cert.ReferenceInDwIdeal.defs _ _).mono (fun r h => ⟨fun c => (h c).2,
      Idealize.ShloMosaic.sem_eq_zero_of_no_sems (by decide) r.2⟩)
    (Cert.ReferenceInDwIdeal.Value.run (F := Ideal) m ρ)

theorem algebraic : Cert.algebraic_KernelInDwIdeal_ReferenceInDwIdeal := by
  intro m ρ m' ρ' hpre hagree
  refine ⟨_, Cert.KernelInDwIdeal.Value.run_blocks (F := Ideal) m ρ, ?_⟩
  refine (θ_run Cert.ReferenceInDwIdeal.defs _ _).mono (fun _ h c => ?_) (Cert.ReferenceInDwIdeal.Value.run (F := Ideal) m' ρ')
  obtain ⟨a0, a1⟩ := hagree c
  obtain ⟨r0, k⟩ := h c
  refine ⟨(r0.trans (Cert.ReferenceInDwIdeal.Read.val_main_v5_eq _ _)).trans ?_, k⟩
  rw [a0, a1]
  exact (ref_eq m c).trans (final2 m c).symm
end Cert.KernelInDwIdeal.Val
-- ==== Proof.DownDw.lean ====
/- The gradient of the down projection's weights: the transposed activations times the cotangent, tile by tile. -/
module
public import proofs.«01_k».proof.Defs
public import proofs.«01_k».proof.Proof.Gen.KernelDownDw
public import proofs.«01_k».proof.Proof.Gen.KernelDownDw.Frame
public import proofs.«01_k».proof.Proof.Gen.KernelDownDwIdeal
public import proofs.«01_k».proof.Proof.Gen.KernelDownDwIdeal.Frame
public import proofs.«01_k».proof.Proof.Gen.KernelDownDwIdeal.Value
public import proofs.«01_k».proof.Proof.Gen.ReferenceDownDwIdeal
public import proofs.«01_k».proof.Proof.Gen.ReferenceDownDwIdeal.Run
public import proofs.«01_k».proof.Proof.Gen.ReferenceDownDwIdeal.Read
public import proofs.«01_k».proof.Proof.Ix
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelDownDwIdeal.Val

open Cert.KernelDownDwIdeal Cert.KernelDownDwIdeal.Gen Idealize.ShloMosaic Idealize.ShloMosaic.TcCoe Idealize.SL.Sem
open Idealize.ShloMosaic.Pipeline (Dat)

variable (m : (ℓ : Loc nD τ sig) → Buf (Elt Ideal) ℓ)

/-- The layer's input and the cotangent of its output. -/
abbrev HH (c : Dev nD) : FVec Ideal S1x8192x6144 .f32 := m ((c : Thread nD τ).loc main_arg0)
abbrev CT (c : Dev nD) : FVec Ideal S1x8192x2048 .f32 := m ((c : Thread nD τ).loc main_arg1)

/-- Where each window's block lies: four tiles of tokens within each row tile of the result. -/
theorem idx : ∀ t : Fin cfg0.N, win0_0.index t = ![t.val % 4, t.val / 4] ∧ win0_1.index t = ![t.val % 4, 0]
    ∧ win0_2.index t = ![t.val / 4, 0] ∧ t.val / 4 < 8 :=
  (by decide +kernel : ∀ t : Fin grid0.N, _)

abbrev row (t : Fin cfg0.N) (r : Fin 2048) : Fin 8192 := ⟨t.val % 4 * 2048 + r, by omega⟩
abbrev fcol (t : Fin cfg0.N) (f : Fin 768) : Fin 6144 := ⟨t.val / 4 * 768 + f, by have := (idx t).2.2.2; omega⟩

theorem v1_apply (c : Dev nD) (t : Fin 8192) (k : Fin 6144) :
    (V m c main_v1 : FVec Ideal S8192x6144 .bf16) (ix2 t k) = HH m c (ix3 0 t k) := by
  entry_read
  pointwise

theorem v3_apply (c : Dev nD) (t : Fin 8192) (k : Fin 2048) :
    (V m c main_v3 : FVec Ideal S8192x2048 .bf16) (ix2 t k) = CT m c (ix3 0 t k) := by
  entry_read
  pointwise

theorem blk0 (c : Dev nD) (t : Fin cfg0.N) (r : Fin 2048) (k : Fin 768) :
    (iblk m c 0 t : Vec Ideal S2048x768 .bf16) (ix2 r k) = HH m c (ix3 0 (row t r) (fcol t k)) := by
  rw [← v1_apply m c]
  blk_ext [iblk, V, idx t]

theorem blk1 (c : Dev nD) (t : Fin cfg0.N) (r : Fin 2048) (f : Fin 2048) :
    (iblk m c 1 t : Vec Ideal S2048x2048 .bf16) (ix2 r f) = CT m c (ix3 0 (row t r) f) := by
  rw [← v3_apply m c]
  blk_ext [iblk, V, idx t]

/-- One tile of tokens' part of the product. -/
def part (c : Dev nD) (t : Fin cfg0.N) (y : S768x2048.Idx) : EReal :=
  ∑ k : Fin 2048, HH m c (ix3 0 (row t k) (fcol t (y 0))) * CT m c (ix3 0 (row t k) (y 1))

theorem pay2_at (x : FVec Ideal S768x2048 .f32) (a : FVec Ideal S2048x768 .bf16) (b : FVec Ideal S2048x2048 .bf16) (p : Fin 768) (q : Fin 2048) :
    k0_pay2 (F := Ideal) x a b (ix2 p q) = x (ix2 p q) + ∑ k : Fin 2048, a (ix2 k p) * b (ix2 k q) := by
  unfold k0_pay2
  pointwise

theorem pay1_at (y : S768x2048.Idx) : k0_pay1 (F := Ideal) y = 0 := by
  unfold k0_pay1
  pointwise

theorem part_at (c : Dev nD) (t : Fin cfg0.N) (x : FVec Ideal S768x2048 .f32) (y : S768x2048.Idx) :
    k0_pay2 (F := Ideal) x (iblk m c 0 t) (iblk m c 1 t) y = x y + part m c t y := by
  obtain ⟨p, q, rfl⟩ : ∃ (p : Fin 768) (q : Fin 2048), y = ix2 p q := ⟨_, _, eq_ix2 y⟩
  refine (pay2_at _ _ _ _ _).trans ?_
  refine congrArg (_ + ·) (Finset.sum_congr rfl fun k _ => ?_)
  rw [blk0, blk1]
  rfl

theorem stepA (c : Dev nD) (t : Fin cfg0.N) (h : t.val % 4 = 0) (y) :
    outsAt0 m c t.val t.isLt y = (fun _ => (0 : EReal)) y + part m c t y := by
  rw [outsAt0_A m c t h, Value.out_A_2_eq]
  refine (part_at m c t _ y).trans ?_
  rw [pay1_at]

theorem stepB (c : Dev nD) (t : Fin cfg0.N) (h : ¬ t.val % 4 = 0) (y) :
    outsAt0 m c t.val t.isLt y = outsAt0 m c (t.val - 1) (Nat.lt_of_le_of_lt (Nat.sub_le _ _) t.isLt) y + part m c t y := by
  rw [outsAt0_B m c t h, Value.out_B_2_eq]
  exact part_at m c t _ y

/-- The product of the transposed input with the cotangent. -/
def G (c : Dev nD) (j : S6144x2048.Idx) : EReal :=
  ∑ t : Fin 8192, HH m c (ix3 0 t (j 0)) * CT m c (ix3 0 t (j 1))

theorem emb (t : Fin cfg0.N) (p : Fin 768) (q : Fin 2048) :
    (((cfg0.win 2).blk t).view.emb (ix2 p q) : S6144x2048.Idx) = ix2 (fcol t p) q := by
  have e := idx t
  have h0 : ((((cfg0.win 2).blk t).view.emb (ix2 p q)) 0 : ℕ) = t.val / 4 * 768 + p := by blk_simp [e]
  have h1 : ((((cfg0.win 2).blk t).view.emb (ix2 p q)) 1 : ℕ) = q := by blk_simp [e]
  exact Ix.of2 _ _ _ h0 h1

theorem final2 (c : Dev nD) : (dats m 0 c).arrAt 2 (cfgs 0).N = G m c := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (part m c) (stepA m c) (stepB m c) t ((flush0_2 t).mp hf) y, zero_add]
  obtain ⟨p, q, rfl⟩ : ∃ (p : Fin 768) (q : Fin 2048), y = ix2 p q := ⟨_, _, eq_ix2 y⟩
  refine Eq.trans ?_ (congrArg (G m c) (emb t p q)).symm
  unfold G part
  refine Fin.sum_mul_add_congr fun s k hl => ?_
  refine congr (congrArg _ (congrArg (HH m c) ?_)) (congrArg (CT m c) ?_)
  · exact Ix.eq3 rfl (by show (4 * (t.val / 4) + s.val) % 4 * 2048 + k.val = s.val * 2048 + k.val; omega)
      (by show (4 * (t.val / 4) + s.val) / 4 * 768 + p.val = t.val / 4 * 768 + p.val; omega)
  · exact Ix.eq3 rfl (by show (4 * (t.val / 4) + s.val) % 4 * 2048 + k.val = s.val * 2048 + k.val; omega) rfl

open Cert.ReferenceDownDwIdeal.Read in
theorem ref_eq (c : Dev nD) :
    (val_main_v3 (F := Ideal) (HH m c) (CT m c) : FVec Ideal S6144x2048 .f32) = G m c := by
  funext j
  obtain ⟨p, q, rfl⟩ : ∃ (p : Fin 6144) (q : Fin 2048), j = ix2 p q := ⟨_, _, eq_ix2 j⟩
  unfold G
  pointwise [val_main_v3, val_main_v2]
  exact (Fin.sum_univ_one _).trans (Finset.sum_congr rfl fun x _ => mul_comm _ _)

theorem frame_p : Cert.quiescent_KernelDownDw := fun m ρ _ => Cert.KernelDownDw.Gen.frame m ρ
theorem frame_pi : Cert.quiescent_KernelDownDwIdeal := fun m ρ _ => Cert.KernelDownDwIdeal.Gen.frame m ρ
theorem frame_ri : Cert.quiescent_ReferenceDownDwIdeal := fun m ρ _ =>
  (θ_run Cert.ReferenceDownDwIdeal.defs _ _).mono (fun r h => ⟨fun c => (h c).2,
      Idealize.ShloMosaic.sem_eq_zero_of_no_sems (by decide) r.2⟩)
    (Cert.ReferenceDownDwIdeal.Value.run (F := Ideal) m ρ)

theorem algebraic : Cert.algebraic_KernelDownDwIdeal_ReferenceDownDwIdeal := by
  intro m ρ m' ρ' hpre hagree
  refine ⟨_, Cert.KernelDownDwIdeal.Value.run_blocks (F := Ideal) m ρ, ?_⟩
  refine (θ_run Cert.ReferenceDownDwIdeal.defs _ _).mono (fun _ h c => ?_) (Cert.ReferenceDownDwIdeal.Value.run (F := Ideal) m' ρ')
  obtain ⟨a0, a1⟩ := hagree c
  obtain ⟨r0, k⟩ := h c
  refine ⟨(r0.trans (Cert.ReferenceDownDwIdeal.Read.val_main_v3_eq _ _)).trans ?_, k⟩
  rw [a0, a1]
  exact (ref_eq m c).trans (final2 m c).symm
end Cert.KernelDownDwIdeal.Val
-- ==== Proof.OutDw.lean ====
/- The gradient of the output projection's weights: the transposed mixers' output times the cotangent, tile by tile. -/
module
public import proofs.«01_k».proof.Defs
public import proofs.«01_k».proof.Proof.Gen.KernelOutDw
public import proofs.«01_k».proof.Proof.Gen.KernelOutDw.Frame
public import proofs.«01_k».proof.Proof.Gen.KernelOutDwIdeal
public import proofs.«01_k».proof.Proof.Gen.KernelOutDwIdeal.Frame
public import proofs.«01_k».proof.Proof.Gen.KernelOutDwIdeal.Value
public import proofs.«01_k».proof.Proof.Gen.ReferenceOutDwIdeal
public import proofs.«01_k».proof.Proof.Gen.ReferenceOutDwIdeal.Run
public import proofs.«01_k».proof.Proof.Gen.ReferenceOutDwIdeal.Read
public import proofs.«01_k».proof.Proof.Ix
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelOutDwIdeal.Val

open Cert.KernelOutDwIdeal Cert.KernelOutDwIdeal.Gen Idealize.ShloMosaic Idealize.ShloMosaic.TcCoe Idealize.SL.Sem
open Idealize.ShloMosaic.Pipeline (Dat)

variable (m : (ℓ : Loc nD τ sig) → Buf (Elt Ideal) ℓ)

/-- The layer's input and the cotangent of its output. -/
abbrev HH (c : Dev nD) : FVec Ideal S1x8192x2048 .f32 := m ((c : Thread nD τ).loc main_arg0)
abbrev CT (c : Dev nD) : FVec Ideal S1x8192x2048 .f32 := m ((c : Thread nD τ).loc main_arg1)

/-- Where each window's block lies: four tiles of tokens within each row tile of the result. -/
theorem idx : ∀ t : Fin cfg0.N, win0_0.index t = ![t.val % 4, t.val / 4] ∧ win0_1.index t = ![t.val % 4, 0]
    ∧ win0_2.index t = ![t.val / 4, 0] ∧ t.val / 4 < 4 :=
  (by decide +kernel : ∀ t : Fin grid0.N, _)

abbrev row (t : Fin cfg0.N) (r : Fin 2048) : Fin 8192 := ⟨t.val % 4 * 2048 + r, by omega⟩
abbrev fcol (t : Fin cfg0.N) (f : Fin 512) : Fin 2048 := ⟨t.val / 4 * 512 + f, by have := (idx t).2.2.2; omega⟩

theorem v1_apply (c : Dev nD) (t : Fin 8192) (k : Fin 2048) :
    (V m c main_v1 : FVec Ideal S8192x2048 .bf16) (ix2 t k) = HH m c (ix3 0 t k) := by
  entry_read
  pointwise

theorem v3_apply (c : Dev nD) (t : Fin 8192) (k : Fin 2048) :
    (V m c main_v3 : FVec Ideal S8192x2048 .bf16) (ix2 t k) = CT m c (ix3 0 t k) := by
  entry_read
  pointwise

theorem blk0 (c : Dev nD) (t : Fin cfg0.N) (r : Fin 2048) (k : Fin 512) :
    (iblk m c 0 t : Vec Ideal S2048x512 .bf16) (ix2 r k) = HH m c (ix3 0 (row t r) (fcol t k)) := by
  rw [← v1_apply m c]
  blk_ext [iblk, V, idx t]

theorem blk1 (c : Dev nD) (t : Fin cfg0.N) (r : Fin 2048) (f : Fin 2048) :
    (iblk m c 1 t : Vec Ideal S2048x2048 .bf16) (ix2 r f) = CT m c (ix3 0 (row t r) f) := by
  rw [← v3_apply m c]
  blk_ext [iblk, V, idx t]

/-- One tile of tokens' part of the product. -/
def part (c : Dev nD) (t : Fin cfg0.N) (y : S512x2048.Idx) : EReal :=
  ∑ k : Fin 2048, HH m c (ix3 0 (row t k) (fcol t (y 0))) * CT m c (ix3 0 (row t k) (y 1))

theorem pay2_at (x : FVec Ideal S512x2048 .f32) (a : FVec Ideal S2048x512 .bf16) (b : FVec Ideal S2048x2048 .bf16) (p : Fin 512) (q : Fin 2048) :
    k0_pay2 (F := Ideal) x a b (ix2 p q) = x (ix2 p q) + ∑ k : Fin 2048, a (ix2 k p) * b (ix2 k q) := by
  unfold k0_pay2
  pointwise

theorem pay1_at (y : S512x2048.Idx) : k0_pay1 (F := Ideal) y = 0 := by
  unfold k0_pay1
  pointwise

theorem part_at (c : Dev nD) (t : Fin cfg0.N) (x : FVec Ideal S512x2048 .f32) (y : S512x2048.Idx) :
    k0_pay2 (F := Ideal) x (iblk m c 0 t) (iblk m c 1 t) y = x y + part m c t y := by
  obtain ⟨p, q, rfl⟩ : ∃ (p : Fin 512) (q : Fin 2048), y = ix2 p q := ⟨_, _, eq_ix2 y⟩
  refine (pay2_at _ _ _ _ _).trans ?_
  refine congrArg (_ + ·) (Finset.sum_congr rfl fun k _ => ?_)
  rw [blk0, blk1]
  rfl

theorem stepA (c : Dev nD) (t : Fin cfg0.N) (h : t.val % 4 = 0) (y) :
    outsAt0 m c t.val t.isLt y = (fun _ => (0 : EReal)) y + part m c t y := by
  rw [outsAt0_A m c t h, Value.out_A_2_eq]
  refine (part_at m c t _ y).trans ?_
  rw [pay1_at]

theorem stepB (c : Dev nD) (t : Fin cfg0.N) (h : ¬ t.val % 4 = 0) (y) :
    outsAt0 m c t.val t.isLt y = outsAt0 m c (t.val - 1) (Nat.lt_of_le_of_lt (Nat.sub_le _ _) t.isLt) y + part m c t y := by
  rw [outsAt0_B m c t h, Value.out_B_2_eq]
  exact part_at m c t _ y

/-- The product of the transposed input with the cotangent. -/
def G (c : Dev nD) (j : S2048x2048.Idx) : EReal :=
  ∑ t : Fin 8192, HH m c (ix3 0 t (j 0)) * CT m c (ix3 0 t (j 1))

theorem emb (t : Fin cfg0.N) (p : Fin 512) (q : Fin 2048) :
    (((cfg0.win 2).blk t).view.emb (ix2 p q) : S2048x2048.Idx) = ix2 (fcol t p) q := by
  have e := idx t
  have h0 : ((((cfg0.win 2).blk t).view.emb (ix2 p q)) 0 : ℕ) = t.val / 4 * 512 + p := by blk_simp [e]
  have h1 : ((((cfg0.win 2).blk t).view.emb (ix2 p q)) 1 : ℕ) = q := by blk_simp [e]
  exact Ix.of2 _ _ _ h0 h1

theorem final2 (c : Dev nD) : (dats m 0 c).arrAt 2 (cfgs 0).N = G m c := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (part m c) (stepA m c) (stepB m c) t ((flush0_2 t).mp hf) y, zero_add]
  obtain ⟨p, q, rfl⟩ : ∃ (p : Fin 512) (q : Fin 2048), y = ix2 p q := ⟨_, _, eq_ix2 y⟩
  refine Eq.trans ?_ (congrArg (G m c) (emb t p q)).symm
  unfold G part
  refine Fin.sum_mul_add_congr fun s k hl => ?_
  refine congr (congrArg _ (congrArg (HH m c) ?_)) (congrArg (CT m c) ?_)
  · exact Ix.eq3 rfl (by show (4 * (t.val / 4) + s.val) % 4 * 2048 + k.val = s.val * 2048 + k.val; omega)
      (by show (4 * (t.val / 4) + s.val) / 4 * 512 + p.val = t.val / 4 * 512 + p.val; omega)
  · exact Ix.eq3 rfl (by show (4 * (t.val / 4) + s.val) % 4 * 2048 + k.val = s.val * 2048 + k.val; omega) rfl

open Cert.ReferenceOutDwIdeal.Read in
theorem ref_eq (c : Dev nD) :
    (val_main_v3 (F := Ideal) (HH m c) (CT m c) : FVec Ideal S2048x2048 .f32) = G m c := by
  funext j
  obtain ⟨p, q, rfl⟩ : ∃ (p : Fin 2048) (q : Fin 2048), j = ix2 p q := ⟨_, _, eq_ix2 j⟩
  unfold G
  pointwise [val_main_v3, val_main_v2]
  exact (Fin.sum_univ_one _).trans (Finset.sum_congr rfl fun x _ => mul_comm _ _)

theorem frame_p : Cert.quiescent_KernelOutDw := fun m ρ _ => Cert.KernelOutDw.Gen.frame m ρ
theorem frame_pi : Cert.quiescent_KernelOutDwIdeal := fun m ρ _ => Cert.KernelOutDwIdeal.Gen.frame m ρ
theorem frame_ri : Cert.quiescent_ReferenceOutDwIdeal := fun m ρ _ =>
  (θ_run Cert.ReferenceOutDwIdeal.defs _ _).mono (fun r h => ⟨fun c => (h c).2,
      Idealize.ShloMosaic.sem_eq_zero_of_no_sems (by decide) r.2⟩)
    (Cert.ReferenceOutDwIdeal.Value.run (F := Ideal) m ρ)

theorem algebraic : Cert.algebraic_KernelOutDwIdeal_ReferenceOutDwIdeal := by
  intro m ρ m' ρ' hpre hagree
  refine ⟨_, Cert.KernelOutDwIdeal.Value.run_blocks (F := Ideal) m ρ, ?_⟩
  refine (θ_run Cert.ReferenceOutDwIdeal.defs _ _).mono (fun _ h c => ?_) (Cert.ReferenceOutDwIdeal.Value.run (F := Ideal) m' ρ')
  obtain ⟨a0, a1⟩ := hagree c
  obtain ⟨r0, k⟩ := h c
  refine ⟨(r0.trans (Cert.ReferenceOutDwIdeal.Read.val_main_v3_eq _ _)).trans ?_, k⟩
  rw [a0, a1]
  exact (ref_eq m c).trans (final2 m c).symm
end Cert.KernelOutDwIdeal.Val
-- ==== Proof.OutDx.lean ====
/- The cotangent of the mixers' output: the cotangent of the residual stream times the transposed weights. -/
module
public import proofs.«01_k».proof.Defs
public import proofs.«01_k».proof.Proof.Gen.KernelOutDx
public import proofs.«01_k».proof.Proof.Gen.KernelOutDx.Frame
public import proofs.«01_k».proof.Proof.Gen.KernelOutDxIdeal
public import proofs.«01_k».proof.Proof.Gen.KernelOutDxIdeal.Frame
public import proofs.«01_k».proof.Proof.Gen.KernelOutDxIdeal.Value
public import proofs.«01_k».proof.Proof.Gen.ReferenceOutDxIdeal
public import proofs.«01_k».proof.Proof.Gen.ReferenceOutDxIdeal.Run
public import proofs.«01_k».proof.Proof.Gen.ReferenceOutDxIdeal.Read
public import proofs.«01_k».proof.Proof.Ix
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelOutDxIdeal.Val

open Cert.KernelOutDxIdeal Cert.KernelOutDxIdeal.Gen Idealize.ShloMosaic Idealize.ShloMosaic.TcCoe Idealize.SL.Sem
open Idealize.ShloMosaic.Pipeline (Dat)

variable (m : (ℓ : Loc nD τ sig) → Buf (Elt Ideal) ℓ)

/-- The projection's weights and the cotangent of its output. -/
abbrev WO (c : Dev nD) : FVec Ideal S2048x2048 .f32 := m ((c : Thread nD τ).loc main_arg0)
abbrev CT (c : Dev nD) : FVec Ideal S1x8192x2048 .f32 := m ((c : Thread nD τ).loc main_arg1)

/-- Where each window's block lies. -/
theorem idx : ∀ t : Fin cfg0.N, win0_0.index t = ![t.val / 4, 0] ∧ win0_1.index t = ![t.val % 4, 0]
    ∧ win0_2.index t = ![t.val / 4, t.val % 4] ∧ t.val / 4 < 8 :=
  (by decide +kernel : ∀ t : Fin grid0.N, _)

abbrev row (t : Fin cfg0.N) (r : Fin 1024) : Fin 8192 := ⟨t.val / 4 * 1024 + r, by have := (idx t).2.2.2; omega⟩
abbrev fcol (t : Fin cfg0.N) (f : Fin 512) : Fin 2048 := ⟨t.val % 4 * 512 + f, by omega⟩

theorem v1_apply (c : Dev nD) (t : Fin 8192) (k : Fin 2048) :
    (V m c main_v1 : FVec Ideal S8192x2048 .bf16) (ix2 t k) = CT m c (ix3 0 t k) := by
  entry_read
  pointwise

theorem v2_apply (c : Dev nD) (t : Fin 2048) (k : Fin 2048) :
    (V m c main_v2 : FVec Ideal S2048x2048 .bf16) (ix2 t k) = WO m c (ix2 t k) := by
  entry_read
  pointwise

theorem blk0 (c : Dev nD) (t : Fin cfg0.N) (r : Fin 1024) (k : Fin 2048) :
    (iblk m c 0 t : Vec Ideal S1024x2048 .bf16) (ix2 r k) = CT m c (ix3 0 (row t r) k) := by
  rw [← v1_apply m c]
  blk_ext [iblk, V, idx t]

theorem blk1 (c : Dev nD) (t : Fin cfg0.N) (r : Fin 512) (f : Fin 2048) :
    (iblk m c 1 t : Vec Ideal S512x2048 .bf16) (ix2 r f) = WO m c (ix2 (fcol t r) f) := by
  rw [← v2_apply m c]
  blk_ext [iblk, V, idx t]

theorem pay1_at (a : FVec Ideal S1024x2048 .bf16) (b : FVec Ideal S512x2048 .bf16) (p : Fin 1024) (q : Fin 512) :
    k0_pay1 (F := Ideal) a b (ix2 p q) = ∑ k : Fin 2048, a (ix2 p k) * b (ix2 q k) := by
  unfold k0_pay1
  pointwise

/-- The product of the cotangent with the transposed weights. -/
def G (c : Dev nD) (j : S8192x2048.Idx) : EReal :=
  ∑ k : Fin 2048, CT m c (ix3 0 (j 0) k) * WO m c (ix2 (j 1) k)

theorem emb (t : Fin cfg0.N) (p : Fin 1024) (q : Fin 512) :
    (((cfg0.win 2).blk t).view.emb (ix2 p q) : S8192x2048.Idx) = ix2 (row t p) (fcol t q) := by
  have e := idx t
  have h0 : ((((cfg0.win 2).blk t).view.emb (ix2 p q)) 0 : ℕ) = t.val / 4 * 1024 + p := by blk_simp [e]
  have h1 : ((((cfg0.win 2).blk t).view.emb (ix2 p q)) 1 : ℕ) = t.val % 4 * 512 + q := by blk_simp [e]
  exact Ix.of2 _ _ _ h0 h1

theorem final2 (c : Dev nD) : (dats m 0 c).arrAt 2 (cfgs 0).N = G m c := by
  refine (dats m 0 c).arrAt_eq_of_covers 2 _ (by decide +kernel) fun t hf y => ?_
  blk_simp
  rw [after0_2]
  obtain ⟨p, q, rfl⟩ : ∃ (p : Fin 1024) (q : Fin 512), y = ix2 p q := ⟨_, _, eq_ix2 y⟩
  refine Eq.trans ?_ (congrArg (G m c) (emb t p q)).symm
  frame_out
  refine (pay1_at _ _ _ _).trans ?_
  unfold G
  refine Finset.sum_congr rfl fun k _ => ?_
  rw [blk0, blk1]
  rfl

open Cert.ReferenceOutDxIdeal.Read in
theorem ref_eq (c : Dev nD) :
    (val_main_v3 (F := Ideal) (WO m c) (CT m c) : FVec Ideal S8192x2048 .f32) = G m c := by
  funext j
  obtain ⟨p, q, rfl⟩ : ∃ (p : Fin 8192) (q : Fin 2048), j = ix2 p q := ⟨_, _, eq_ix2 j⟩
  unfold G
  pointwise [val_main_v3, val_main_v2]

theorem frame_p : Cert.quiescent_KernelOutDx := fun m ρ _ => Cert.KernelOutDx.Gen.frame m ρ
theorem frame_pi : Cert.quiescent_KernelOutDxIdeal := fun m ρ _ => Cert.KernelOutDxIdeal.Gen.frame m ρ
theorem frame_ri : Cert.quiescent_ReferenceOutDxIdeal := fun m ρ _ =>
  (θ_run Cert.ReferenceOutDxIdeal.defs _ _).mono (fun r h => ⟨fun c => (h c).2,
      Idealize.ShloMosaic.sem_eq_zero_of_no_sems (by decide) r.2⟩)
    (Cert.ReferenceOutDxIdeal.Value.run (F := Ideal) m ρ)

theorem algebraic : Cert.algebraic_KernelOutDxIdeal_ReferenceOutDxIdeal := by
  intro m ρ m' ρ' hpre hagree
  refine ⟨_, Cert.KernelOutDxIdeal.Value.run_blocks (F := Ideal) m ρ, ?_⟩
  refine (θ_run Cert.ReferenceOutDxIdeal.defs _ _).mono (fun _ h c => ?_) (Cert.ReferenceOutDxIdeal.Value.run (F := Ideal) m' ρ')
  obtain ⟨a0, a1⟩ := hagree c
  obtain ⟨r0, k⟩ := h c
  refine ⟨(r0.trans (Cert.ReferenceOutDxIdeal.Read.val_main_v3_eq _ _)).trans ?_, k⟩
  rw [a0, a1]
  exact (ref_eq m c).trans (final2 m c).symm
end Cert.KernelOutDxIdeal.Val
-- ==== Proof.NormBack.lean ====
/- The gradient of the root-mean-square norm at one row: the form that the kernels compute and the form that differentiation
   writes are one number where the operands are finite. -/
module
public import proofs.«01_k».proof.Proof.Ident
@[expose] public section
set_option maxRecDepth 16384
noncomputable section
namespace Cert.RmsNorm

open Idealize.ShloMosaic
open Cert.KernelIdeal.Val (Fin')

/-- The row's length, the norm's epsilon and minus a half, as the programs write them. -/
abbrev DM : EReal := Ideal.ofBits .f32 0x45000000#32
abbrev EPS : EReal := Ideal.ofBits .f32 0x358637BD#32
abbrev NH : EReal := Ideal.ofBits .f32 0xBF000000#32

theorem dm_val : DM = ((2048 : ℝ) : EReal) := by
  simp [Ideal.ofBits, Ideal.ieee, -EReal.coe_mul]; norm_num
theorem eps_val : EPS = ((8796093 / 8796093022208 : ℝ) : EReal) := by
  simp [Ideal.ofBits, Ideal.ieee, -EReal.coe_mul]; norm_num
theorem nh_val : NH = ((-1 / 2 : ℝ) : EReal) := by
  simp [Ideal.ofBits, Ideal.ieee, -EReal.coe_mul]; norm_num

/-- The mean square with the epsilon, and the reciprocal of its root. -/
def ms (x : Fin 2048 → EReal) : EReal := Ideal.div (∑ k, x k * x k) DM + EPS
def rms (x : Fin 2048 → EReal) : EReal := Ideal.rsqrt (ms x)

/-- The gradient at one element: `d` is the cotangent of the normalised row times the gain. -/
def back (x d : Fin 2048 → EReal) (q : Fin 2048) : EReal :=
  rms x * (d q - x q * rms x * Ideal.div (∑ k, d k * (x k * rms x)) DM)

/-- What differentiation adds for the mean square, to be multiplied by the element, twice. -/
def tail (x d : Fin 2048 → EReal) : EReal :=
  Ideal.div ((∑ k, x k * d k) * (NH * Ideal.div (rms x) (ms x))) DM

theorem coe_sum {n : ℕ} (f : Fin n → ℝ) : (∑ k, (f k : EReal)) = ((∑ k, f k : ℝ) : EReal) := by
  induction n with
  | zero => simp
  | succ n ih => rw [Fin.sum_univ_castSucc, Fin.sum_univ_castSucc, ih fun k => f k.castSucc, EReal.coe_add]

theorem ms_coe (x : Fin 2048 → ℝ) : ms (fun k => (x k : EReal)) = (((∑ k, x k * x k) / 2048 + 8796093 / 8796093022208 : ℝ) : EReal) := by
  unfold ms
  rw [dm_val, eps_val, Ideal.div_coe (by norm_num), show (∑ k, (x k : EReal) * (x k : EReal)) = ((∑ k, x k * x k : ℝ) : EReal) from
    (Finset.sum_congr rfl fun k _ => (EReal.coe_mul _ _).symm).trans (coe_sum _)]
  rw [← EReal.coe_mul, ← EReal.coe_add]
  exact congrArg _ (by ring)

theorem ms_pos (x : Fin 2048 → ℝ) : 0 < (∑ k, x k * x k) / 2048 + (8796093 / 8796093022208 : ℝ) := by
  have : 0 ≤ ∑ k, x k * x k := Finset.sum_nonneg fun k _ => mul_self_nonneg _
  positivity

theorem rms_coe (x : Fin 2048 → ℝ) : rms (fun k => (x k : EReal))
    = (((Real.sqrt ((∑ k, x k * x k) / 2048 + 8796093 / 8796093022208))⁻¹ : ℝ) : EReal) := by
  unfold rms
  rw [ms_coe, Ideal.rsqrt_coe, if_neg (ms_pos x).le.not_gt, if_neg (ms_pos x).ne']

/-- A finite row is a row of reals. -/
theorem lift {n : ℕ} {x : Fin n → EReal} (h : ∀ k, Fin' (x k)) : ∃ r : Fin n → ℝ, x = fun k => (r k : EReal) :=
  ⟨fun k => (h k).choose, funext fun k => (h k).choose_spec⟩

theorem rms_fin {x : Fin 2048 → EReal} (hx : ∀ k, Fin' (x k)) : Fin' (rms x) := by
  obtain ⟨x, rfl⟩ := lift hx
  exact ⟨_, rms_coe x⟩

/-- The kernel's gradient with the residual's cotangent `e` is the sum of the terms that differentiation writes. -/
theorem back_eq {x d : Fin 2048 → EReal} {e : EReal} (hx : ∀ k, Fin' (x k)) (hd : ∀ k, Fin' (d k)) (he : Fin' e) (q : Fin 2048) :
    e + back x d q = e + d q * rms x + x q * tail x d + tail x d * x q := by
  obtain ⟨x, rfl⟩ := lift hx
  obtain ⟨d, rfl⟩ := lift hd
  obtain ⟨e, rfl⟩ := he
  unfold back tail
  rw [rms_coe, ms_coe, dm_val, nh_val, Ideal.div_coe (by norm_num), Ideal.div_coe (by norm_num), Ideal.div_coe (ms_pos x).ne']
  have hs := ms_pos x
  generalize (∑ k, x k * x k) / 2048 + (8796093 / 8796093022208 : ℝ) = s at hs
  have hr : (Real.sqrt s)⁻¹ * (Real.sqrt s)⁻¹ = 1 / s := by
    rw [← mul_inv, Real.mul_self_sqrt hs.le, one_div]
  generalize (Real.sqrt s)⁻¹ = r at hr
  rw [show (∑ k, (x k : EReal) * (d k : EReal)) = ((∑ k, x k * d k : ℝ) : EReal) from
      (Finset.sum_congr rfl fun k _ => (EReal.coe_mul _ _).symm).trans (coe_sum _),
    show (∑ k, (d k : EReal) * ((x k : EReal) * (r : EReal))) = ((r * ∑ k, x k * d k : ℝ) : EReal) from
      (Finset.sum_congr rfl fun k _ => by rw [← EReal.coe_mul, ← EReal.coe_mul]).trans ((coe_sum _).trans (congrArg _ (by
        rw [Finset.mul_sum]; exact Finset.sum_congr rfl fun k _ => by ring)))]
  simp only [← EReal.coe_mul, ← EReal.coe_add, ← EReal.coe_sub]
  refine congrArg _ ?_
  rw [← hr]
  ring

theorem back_fin {x d : Fin 2048 → EReal} (hx : ∀ k, Fin' (x k)) (hd : ∀ k, Fin' (d k)) (q : Fin 2048) :
    Fin' (back x d q) := by
  obtain ⟨x, rfl⟩ := lift hx
  obtain ⟨d, rfl⟩ := lift hd
  unfold back
  rw [rms_coe, dm_val, Ideal.div_coe (by norm_num)]
  generalize (Real.sqrt _)⁻¹ = r
  rw [show (∑ k, (d k : EReal) * ((x k : EReal) * (r : EReal))) = ((∑ k, d k * (x k * r) : ℝ) : EReal) from
      (Finset.sum_congr rfl fun k _ => by rw [← EReal.coe_mul, ← EReal.coe_mul]).trans (coe_sum _)]
  simp only [← EReal.coe_mul, ← EReal.coe_add, ← EReal.coe_sub]
  exact ⟨_, rfl⟩

/-- A sum over two axes of extent one reads the one element. -/
theorem red_outer (n : ℕ) (h : (⟨3, ![1, n, 1]⟩ : Shape).ReducesTo [0, 2] ⟨1, ![n]⟩) (x : (⟨3, ![1, n, 1]⟩ : Shape).Idx → EReal) (v : EReal) (q : Fin n) :
    Ideal.hostReduceAdd h x v (ix1 q) = v + x (ix3 0 q 0) := by
  unfold Ideal.hostReduceAdd
  refine congrArg (v + ·) ((Finset.sum_congr (Finset.ext fun i => ?_) fun _ _ => rfl).trans (Finset.sum_singleton x (ix3 0 q 0)))
  rw [Finset.mem_filter, Finset.mem_singleton]
  constructor
  · rintro ⟨-, e⟩
    have h2 : i 1 = q := congrFun e 0
    funext a
    match a with
    | ⟨0, _⟩ => exact Subsingleton.elim (α := Fin 1) _ _
    | ⟨1, _⟩ => exact h2
    | ⟨2, _⟩ => exact Subsingleton.elim (α := Fin 1) _ _
  · rintro rfl
    refine ⟨Finset.mem_univ _, ?_⟩
    funext b
    match b with
    | ⟨0, _⟩ => rfl

theorem red_first (n : ℕ) (h : (⟨3, ![1, 1, n]⟩ : Shape).ReducesTo [0, 1] ⟨1, ![n]⟩) (x : (⟨3, ![1, 1, n]⟩ : Shape).Idx → EReal) (v : EReal) (q : Fin n) :
    Ideal.hostReduceAdd h x v (ix1 q) = v + x (ix3 0 0 q) := by
  unfold Ideal.hostReduceAdd
  refine congrArg (v + ·) ((Finset.sum_congr (Finset.ext fun i => ?_) fun _ _ => rfl).trans (Finset.sum_singleton x (ix3 0 0 q)))
  rw [Finset.mem_filter, Finset.mem_singleton]
  constructor
  · rintro ⟨-, e⟩
    have h2 : i 2 = q := congrFun e 0
    funext a
    match a with
    | ⟨0, _⟩ => exact Subsingleton.elim (α := Fin 1) _ _
    | ⟨1, _⟩ => exact Subsingleton.elim (α := Fin 1) _ _
    | ⟨2, _⟩ => exact h2
  · rintro rfl
    refine ⟨Finset.mem_univ _, ?_⟩
    funext b
    match b with
    | ⟨0, _⟩ => rfl

/-- The comparison `|x| < ∞` came out 1: `x` is finite. -/
theorem fin_of_olt (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩
end Cert.RmsNorm
-- ==== Proof.UpDx.lean ====
/- The cotangent of the feed-forward part's input: the up projection's cotangent times the transposed weights, summed over
   eight column tiles, then the norm's gradient and the residual; the gain's gradient is summed over the row tiles. -/
module
public import proofs.«01_k».proof.Defs
public import proofs.«01_k».proof.Proof.Gen.KernelUpDx
public import proofs.«01_k».proof.Proof.Gen.KernelUpDx.Frame
public import proofs.«01_k».proof.Proof.Gen.KernelUpDxIdeal
public import proofs.«01_k».proof.Proof.Gen.KernelUpDxIdeal.Frame
public import proofs.«01_k».proof.Proof.Gen.KernelUpDxIdeal.Value
public import proofs.«01_k».proof.Proof.Gen.ReferenceUpDxIdeal
public import proofs.«01_k».proof.Proof.Gen.ReferenceUpDxIdeal.Run
public import proofs.«01_k».proof.Proof.Gen.ReferenceUpDxIdeal.Read
public import proofs.«01_k».proof.Proof.NormBack
public import proofs.«01_k».proof.Proof.Ix
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelUpDxIdeal.Val
open Cert.KernelUpDxIdeal Cert.KernelUpDxIdeal.Gen Idealize.ShloMosaic Idealize.ShloMosaic.TcCoe Idealize.SL.Sem
open Idealize.ShloMosaic.Pipeline (Dat)
open Cert.RmsNorm
open Cert.KernelIdeal.Val (Fin')
variable (m : (ℓ : Loc nD τ sig) → Buf (Elt Ideal) ℓ)
/-- The part's input, the norm's gain, the up projection's weights and cotangent, the residual's cotangent. -/
abbrev X (c : Dev nD) : FVec Ideal S1x8192x2048 .f32 := m ((c : Thread nD τ).loc main_arg0)
abbrev NG (c : Dev nD) : FVec Ideal S1x2048 .f32 := m ((c : Thread nD τ).loc main_arg1)
abbrev WU (c : Dev nD) : FVec Ideal S2048x12288 .f32 := m ((c : Thread nD τ).loc main_arg2)
abbrev DU (c : Dev nD) : FVec Ideal S1x8192x12288 .f32 := m ((c : Thread nD τ).loc main_arg3)
abbrev CT (c : Dev nD) : FVec Ideal S1x8192x2048 .f32 := m ((c : Thread nD τ).loc main_arg4)
/-- Where each window's block lies: eight column tiles within each row tile. -/
theorem idx : ∀ t : Fin cfg0.N, win0_0.index t = ![t.val % 8 / 4, t.val / 8, t.val % 4] ∧ win0_1.index t = ![t.val % 8, 0, 0]
    ∧ win0_2.index t = ![0, 0] ∧ win0_3.index t = ![t.val / 8, 0] ∧ win0_4.index t = ![t.val / 8, 0]
    ∧ win0_5.index t = ![t.val / 8, 0] ∧ win0_6.index t = ![t.val / 8, 0] ∧ win0_7.index t = ![0, 0] ∧ t.val / 8 < 16 :=
  (by decide +kernel : ∀ t : Fin grid0.N, _)
theorem lt16 (t : Fin cfg0.N) : t.val / 8 < 16 := (idx t).2.2.2.2.2.2.2.2
abbrev row (t : Fin cfg0.N) (r : Fin 512) : Fin 8192 := ⟨t.val / 8 * 512 + r, by have := lt16 t; omega⟩
abbrev fcol (t : Fin cfg0.N) (f : Fin 1536) : Fin 12288 := ⟨t.val % 8 * 1536 + f, by omega⟩
theorem v2_apply (c : Dev nD) (s : Fin 2) (t : Fin 8192) (f : Fin 6144) :
    (V m c main_v2 : FVec Ideal S2x8192x6144 .bf16) (ix3 s t f) = DU m c (ix3 0 t ⟨s.val * 6144 + f.val, by omega⟩) := by
  entry_read
  pointwise
theorem v5_apply (c : Dev nD) (s : Fin 8) (d : Fin 2048) (f : Fin 1536) :
    (V m c main_v5 : FVec Ideal S8x2048x1536 .bf16) (ix3 s d f) = WU m c (ix2 d ⟨s.val * 1536 + f.val, by omega⟩) := by
  entry_read
  pointwise
theorem v6_apply (c : Dev nD) (t : Fin 8192) (k : Fin 2048) :
    (V m c main_v6 : FVec Ideal S8192x2048 .f32) (ix2 t k) = CT m c (ix3 0 t k) := by
  entry_read
  pointwise
theorem v7_apply (c : Dev nD) (t : Fin 8192) (k : Fin 2048) :
    (V m c main_v7 : FVec Ideal S8192x2048 .f32) (ix2 t k) = X m c (ix3 0 t k) := by
  entry_read
  pointwise
theorem blk0 (c : Dev nD) (t : Fin cfg0.N) (u : Fin 1) (r : Fin 512) (k : Fin 1536) :
    (iblk m c 0 t : Vec Ideal S1x512x1536 .bf16) (ix3 u r k) = DU m c (ix3 0 (row t r) (fcol t k)) := by
  rw [show DU m c (ix3 0 (row t r) (fcol t k)) = DU m c (ix3 0 (row t r) ⟨(⟨t.val % 8 / 4, by omega⟩ : Fin 2).val * 6144
      + (⟨t.val % 4 * 1536 + k, by omega⟩ : Fin 6144).val, by omega⟩) from congrArg (DU m c) (Ix.eq3 rfl rfl (by
        show t.val % 8 * 1536 + k.val = t.val % 8 / 4 * 6144 + (t.val % 4 * 1536 + k.val); omega)), ← v2_apply m c]
  blk_ext [iblk, V, idx t]
theorem blk1 (c : Dev nD) (t : Fin cfg0.N) (u : Fin 1) (d : Fin 2048) (k : Fin 1536) :
    (iblk m c 1 t : Vec Ideal S1x2048x1536 .bf16) (ix3 u d k) = WU m c (ix2 d (fcol t k)) := by
  rw [show WU m c (ix2 d (fcol t k)) = WU m c (ix2 d ⟨(⟨t.val % 8, by omega⟩ : Fin 8).val * 1536 + k.val, by omega⟩) from rfl,
    ← v5_apply m c]
  blk_ext [iblk, V, idx t]
theorem blk2 (c : Dev nD) (t : Fin cfg0.N) (u : Fin 1) (d : Fin 2048) :
    (iblk m c 2 t : Vec Ideal S1x2048 .f32) (ix2 u d) = NG m c (ix2 0 d) := by
  obtain rfl := Subsingleton.elim u 0
  blk_ext [iblk, V, idx t]
theorem blk3 (c : Dev nD) (t : Fin cfg0.N) (r : Fin 512) (d : Fin 2048) :
    (iblk m c 3 t : Vec Ideal S512x2048 .f32) (ix2 r d) = CT m c (ix3 0 (row t r) d) := by
  rw [← v6_apply m c]
  blk_ext [iblk, V, idx t]
theorem blk4 (c : Dev nD) (t : Fin cfg0.N) (r : Fin 512) (d : Fin 2048) :
    (iblk m c 4 t : Vec Ideal S512x2048 .f32) (ix2 r d) = X m c (ix3 0 (row t r) d) := by
  rw [← v7_apply m c]
  blk_ext [iblk, V, idx t]
theorem pay1_at (y : S1x2048.Idx) : k0_pay1 (F := Ideal) y = 0 := by
  unfold k0_pay1
  pointwise
theorem pay2_at (y : S512x2048.Idx) : k0_pay2 (F := Ideal) y = 0 := by
  unfold k0_pay2
  pointwise
theorem pay3_at (x : FVec Ideal S512x2048 .f32) (a : FVec Ideal S1x512x1536 .bf16) (b : FVec Ideal S1x2048x1536 .bf16) (p : Fin 512) (q : Fin 2048) :
    k0_pay3 (F := Ideal) x a b (ix2 p q) = x (ix2 p q) + ∑ k : Fin 1536, a (ix3 0 p k) * b (ix3 0 q k) := by
  unfold k0_pay3
  pointwise
theorem pay5_at (x : FVec Ideal S512x2048 .f32) (p : Fin 512) (u : Fin 1) :
    k0_pay5 (F := Ideal) x (ix2 p u) = rms fun k => x (ix2 p k) := by
  obtain rfl := Subsingleton.elim u 0
  unfold k0_pay5 k0_pay4 rms ms
  pointwise
theorem pay6_at (x : FVec Ideal S512x2048 .f32) (p : Fin 512) (q : Fin 2048) :
    k0_pay6 (F := Ideal) x (ix2 p q) = x (ix2 p q) * rms fun k => x (ix2 p k) := by
  unfold k0_pay6 k0_pay4
  pointwise
  rw [pay5_at]
theorem pay7_at (a x : FVec Ideal S512x2048 .f32) (g : FVec Ideal S1x2048 .f32) (u : Fin 1) (q : Fin 2048) :
    k0_pay7 (F := Ideal) a x g (ix2 u q) = g (ix2 u q) + ∑ r : Fin 512, a (ix2 r q) * (x (ix2 r q) * rms fun k => x (ix2 r k)) := by
  obtain rfl := Subsingleton.elim u 0
  unfold k0_pay7
  pointwise
  refine congrArg (_ + ·) (Finset.sum_congr rfl fun r _ => ?_)
  rw [pay6_at]
theorem pay8_at (a x : FVec Ideal S512x2048 .f32) (g : FVec Ideal S1x2048 .f32) (e : FVec Ideal S512x2048 .f32) (p : Fin 512) (q : Fin 2048) :
    k0_pay8 (F := Ideal) a x g e (ix2 p q)
      = e (ix2 p q) + back (fun k => x (ix2 p k)) (fun k => a (ix2 p k) * g (ix2 0 k)) q := by
  unfold k0_pay8 back
  pointwise
  simp only [pay5_at, pay6_at]
/-- What the scratch and the gain's gradient hold after a point. -/
abbrev acc (c : Dev nD) (n : ℕ) (h : n < cfg0.N) : FVec Ideal S512x2048 .f32 := (outsAt0 m c n h).2.2.2
abbrev dgs (c : Dev nD) (n : ℕ) (h : n < cfg0.N) : FVec Ideal S1x2048 .f32 := (outsAt0 m c n h).2.2.1
theorem accA (c : Dev nD) (t : Fin cfg0.N) (h : t.val % 8 = 0) :
    acc m c t.val t.isLt = k0_pay3 (F := Ideal) (k0_pay2 (F := Ideal)) (iblk m c 0 t) (iblk m c 1 t) := by
  unfold acc
  by_cases h0 : t.val % 128 = 0
  · rw [outsAt0_A m c t h0 h (by omega)]
    dsimp only
    frame_out
  · rw [outsAt0_D m c t h0 h (by omega)]
    dsimp only
    frame_out
theorem accB (c : Dev nD) (t : Fin cfg0.N) (h : ¬ t.val % 8 = 0) :
    acc m c t.val t.isLt = k0_pay3 (F := Ideal) (acc m c (t.val - 1) (Nat.lt_of_le_of_lt (Nat.sub_le _ _) t.isLt)) (iblk m c 0 t) (iblk m c 1 t) := by
  unfold acc
  by_cases h0 : t.val % 8 = 7
  · rw [outsAt0_C m c t (by omega) h h0]
    dsimp only
    frame_out
    rw [read_unread_whole]
  · rw [outsAt0_B m c t (by omega) h h0]
    dsimp only
    frame_out
    rw [read_unread_whole]
theorem dgsA (c : Dev nD) (t : Fin cfg0.N) (h : t.val % 128 = 0) : dgs m c t.val t.isLt = k0_pay1 (F := Ideal) := by
  unfold dgs
  rw [outsAt0_A m c t h (by omega) (by omega)]
  dsimp only
  frame_out
theorem dgsB (c : Dev nD) (t : Fin cfg0.N) (h : ¬ t.val % 128 = 0) (h7 : ¬ t.val % 8 = 7) :
    dgs m c t.val t.isLt = dgs m c (t.val - 1) (Nat.lt_of_le_of_lt (Nat.sub_le _ _) t.isLt) := by
  unfold dgs
  by_cases h0 : t.val % 8 = 0
  · rw [outsAt0_D m c t h h0 h7]
    dsimp only
    unfold out0_D_7
    rfl
  · rw [outsAt0_B m c t h h0 h7]
    dsimp only
    unfold out0_B_7
    rfl
theorem dgsC (c : Dev nD) (t : Fin cfg0.N) (h7 : t.val % 8 = 7) :
    dgs m c t.val t.isLt = k0_pay7 (F := Ideal) (acc m c t.val t.isLt) (iblk m c 4 t)
      (dgs m c (t.val - 1) (Nat.lt_of_le_of_lt (Nat.sub_le _ _) t.isLt)) := by
  rw [accB m c t (by omega)]
  unfold dgs acc
  rw [outsAt0_C m c t (by omega) (by omega) h7]
  dsimp only
  frame_out
  rw [read_unread_whole]
theorem outC (c : Dev nD) (t : Fin cfg0.N) (h7 : t.val % 8 = 7) :
    (outsAt0 m c t.val t.isLt).1 = k0_pay8 (F := Ideal) (acc m c t.val t.isLt) (iblk m c 4 t) (iblk m c 2 t) (iblk m c 3 t) := by
  rw [accB m c t (by omega)]
  unfold acc
  rw [outsAt0_C m c t (by omega) (by omega) h7]
  dsimp only
  frame_out
  rw [read_unread_whole]
theorem outbC (c : Dev nD) (t : Fin cfg0.N) (h7 : t.val % 8 = 7) :
    (outsAt0 m c t.val t.isLt).2.1 = k0_pay9 (F := Ideal) (acc m c t.val t.isLt) (iblk m c 4 t) (iblk m c 2 t) (iblk m c 3 t) := by
  rw [accB m c t (by omega)]
  unfold acc
  rw [outsAt0_C m c t (by omega) (by omega) h7]
  dsimp only
  frame_out
  rw [read_unread_whole]
/-- The gradient of the normed input: the cotangent times the transposed weights. -/
def DH (c : Dev nD) (t : Fin 8192) (q : Fin 2048) : EReal := ∑ f : Fin 12288, DU m c (ix3 0 t f) * WU m c (ix2 q f)
/-- One column tile's part of it. -/
def part (c : Dev nD) (t : Fin cfg0.N) (y : S512x2048.Idx) : EReal :=
  ∑ k : Fin 1536, DU m c (ix3 0 (row t (y 0)) (fcol t k)) * WU m c (ix2 (y 1) (fcol t k))
theorem part_at (c : Dev nD) (t : Fin cfg0.N) (x : FVec Ideal S512x2048 .f32) (y) :
    k0_pay3 (F := Ideal) x (iblk m c 0 t) (iblk m c 1 t) y = x y + part m c t y := by
  obtain ⟨p, q, rfl⟩ : ∃ (p : Fin 512) (q : Fin 2048), y = ix2 p q := ⟨_, _, eq_ix2 y⟩
  refine (pay3_at _ _ _ _ _).trans ?_
  refine congrArg (_ + ·) (Finset.sum_congr rfl fun k _ => ?_)
  rw [blk0, blk1]
  rfl
theorem acc_last (c : Dev nD) (t : Fin cfg0.N) (h7 : t.val % 8 = 7) (p : Fin 512) (q : Fin 2048) :
    acc m c t.val t.isLt (ix2 p q) = DH m c (row t p) q := by
  rw [Pipeline.eq_sum_fin_of_reset_step_apply_of_flush (fun n h => acc m c n h) 8 (fun _ => (0 : EReal))
    (part m c) (fun t h y => by rw [accA m c t h, part_at, pay2_at]) (fun t h y => by rw [accB m c t h, part_at]) t h7 (ix2 p q), zero_add]
  unfold DH part
  refine Fin.sum_mul_add_congr fun s k hl => ?_
  refine congr (congrArg _ (congrArg (DU m c) ?_)) (congrArg (WU m c) ?_)
  · exact Ix.eq3 rfl (by show (8 * (t.val / 8) + s.val) / 8 * 512 + p.val = t.val / 8 * 512 + p.val; omega)
      (by show (8 * (t.val / 8) + s.val) % 8 * 1536 + k.val = s.val * 1536 + k.val; omega)
  · exact Ix.eq2 rfl (by show (8 * (t.val / 8) + s.val) % 8 * 1536 + k.val = s.val * 1536 + k.val; omega)
/-- What a row tile adds to the gain's gradient. -/
def gpart (c : Dev nD) (i : Fin 16) (y : S1x2048.Idx) : EReal :=
  ∑ r : Fin 512, DH m c ⟨i.val * 512 + r.val, by omega⟩ (y 1)
    * (X m c (ix3 0 ⟨i.val * 512 + r.val, by omega⟩ (y 1)) * rms fun k => X m c (ix3 0 ⟨i.val * 512 + r.val, by omega⟩ k))
/-- The same by points: only the last column tile of a row adds anything. -/
def tpart (c : Dev nD) (t : Fin cfg0.N) (y : S1x2048.Idx) : EReal :=
  if t.val % 8 = 7 then gpart m c ⟨t.val / 8, lt16 t⟩ y else 0
theorem dgs_stepA (c : Dev nD) (t : Fin cfg0.N) (h : t.val % 128 = 0) (y) :
    dgs m c t.val t.isLt y = (fun _ => (0 : EReal)) y + tpart m c t y := by
  rw [dgsA m c t h, pay1_at]
  unfold tpart
  rw [if_neg (by omega), zero_add]
theorem dgs_stepB (c : Dev nD) (t : Fin cfg0.N) (h : ¬ t.val % 128 = 0) (y) :
    dgs m c t.val t.isLt y = dgs m c (t.val - 1) (Nat.lt_of_le_of_lt (Nat.sub_le _ _) t.isLt) y + tpart m c t y := by
  unfold tpart
  by_cases h7 : t.val % 8 = 7
  · rw [dgsC m c t h7, if_pos h7]
    obtain ⟨u, q, rfl⟩ : ∃ (u : Fin 1) (q : Fin 2048), y = ix2 u q := ⟨_, _, eq_ix2 y⟩
    refine (pay7_at _ _ _ _ _).trans ?_
    refine congrArg (_ + ·) (Finset.sum_congr rfl fun r _ => ?_)
    rw [acc_last m c t h7, blk4]
    simp only [blk4]
    rfl
  · rw [dgsB m c t h h7, if_neg h7, add_zero]
/-- The two gradients. -/
def G5 (c : Dev nD) (j : S8192x2048.Idx) : EReal :=
  CT m c (ix3 0 (j 0) (j 1)) + back (fun k => X m c (ix3 0 (j 0) k)) (fun k => DH m c (j 0) k * NG m c (ix2 0 k)) (j 1)
def G7 (c : Dev nD) (j : S1x2048.Idx) : EReal :=
  ∑ t : Fin 8192, DH m c t (j 1) * (X m c (ix3 0 t (j 1)) * rms fun k => X m c (ix3 0 t k))
theorem emb5 (t : Fin cfg0.N) (p : Fin 512) (q : Fin 2048) :
    ((cfg0.win 5).blk t).view.emb (ix2 p q) = ix2 (row t p) q := by
  have e := idx t
  have h0 : ((((cfg0.win 5).blk t).view.emb (ix2 p q)) 0 : ℕ) = t.val / 8 * 512 + p := by blk_simp [e]
  have h1 : ((((cfg0.win 5).blk t).view.emb (ix2 p q)) 1 : ℕ) = q := by blk_simp [e]
  exact Ix.of2 _ _ _ h0 h1
theorem emb6 (t : Fin cfg0.N) (p : Fin 512) (q : Fin 2048) :
    ((cfg0.win 6).blk t).view.emb (ix2 p q) = ix2 (row t p) q := by
  have e := idx t
  have h0 : ((((cfg0.win 6).blk t).view.emb (ix2 p q)) 0 : ℕ) = t.val / 8 * 512 + p := by blk_simp [e]
  have h1 : ((((cfg0.win 6).blk t).view.emb (ix2 p q)) 1 : ℕ) = q := by blk_simp [e]
  exact Ix.of2 _ _ _ h0 h1
theorem emb7 (t : Fin cfg0.N) (p : Fin 1) (q : Fin 2048) :
    ((cfg0.win 7).blk t).view.emb (ix2 p q) = ix2 p q := by
  have e := idx t
  have h0 : ((((cfg0.win 7).blk t).view.emb (ix2 p q)) 0 : ℕ) = p := by blk_simp [e]
  have h1 : ((((cfg0.win 7).blk t).view.emb (ix2 p q)) 1 : ℕ) = q := by blk_simp [e]
  exact Ix.of2 _ _ _ h0 h1
theorem pay8_blk (c : Dev nD) (t : Fin cfg0.N) (h7 : t.val % 8 = 7) (p : Fin 512) (q : Fin 2048) :
    k0_pay8 (F := Ideal) (acc m c t.val t.isLt) (iblk m c 4 t) (iblk m c 2 t) (iblk m c 3 t) (ix2 p q) = G5 m c (ix2 (row t p) q) := by
  refine (pay8_at _ _ _ _ _ _).trans ?_
  simp only [acc_last m c t h7, blk2, blk3, blk4]
  rfl
theorem final5 (c : Dev nD) : (dats m 0 c).arrAt 5 (cfgs 0).N = G5 m c := by
  refine (dats m 0 c).arrAt_eq_of_covers 5 _ (by decide +kernel) fun t hf y => ?_
  blk_simp
  obtain ⟨p, q, rfl⟩ : ∃ (p : Fin 512) (q : Fin 2048), y = ix2 p q := ⟨_, _, eq_ix2 y⟩
  refine Eq.trans ?_ (congrArg (G5 m c) (emb5 t p q)).symm
  have h7 := (flush0_5 t).mp hf
  rw [after0_5, outC m c t h7]
  exact pay8_blk m c t h7 p q
theorem final6 (c : Dev nD) : (dats m 0 c).arrAt 6 (cfgs 0).N = G5 m c := by
  refine (dats m 0 c).arrAt_eq_of_covers 6 _ (by decide +kernel) fun t hf y => ?_
  blk_simp
  obtain ⟨p, q, rfl⟩ : ∃ (p : Fin 512) (q : Fin 2048), y = ix2 p q := ⟨_, _, eq_ix2 y⟩
  refine Eq.trans ?_ (congrArg (G5 m c) (emb6 t p q)).symm
  have h7 := (flush0_6 t).mp hf
  rw [after0_6, outbC m c t h7]
  exact pay8_blk m c t h7 p q
theorem final7 (c : Dev nD) : (dats m 0 c).arrAt 7 (cfgs 0).N = G7 m c := by
  refine (dats m 0 c).arrAt_eq_of_covers 7 _ (by decide +kernel) fun t hf y => ?_
  blk_simp
  obtain ⟨p, q, rfl⟩ : ∃ (p : Fin 1) (q : Fin 2048), y = ix2 p q := ⟨_, _, eq_ix2 y⟩
  refine Eq.trans ?_ (congrArg (G7 m c) (emb7 t p q)).symm
  rw [after0_7, show (outsAt0 m c t.val t.isLt).2.2.1 = dgs m c t.val t.isLt from rfl,
    Pipeline.eq_sum_fin_of_reset_step_apply_of_flush (fun n h => dgs m c n h) 128 (fun _ => (0 : EReal))
    (tpart m c) (dgs_stepA m c) (dgs_stepB m c) t ((flush0_7 t).mp hf) (ix2 p q), zero_add]
  have hb : ∀ s : Fin 128, tpart m c ⟨128 * (t.val / 128) + s.val, Pipeline.run_point_lt_of_flush t ((flush0_7 t).mp hf) s⟩ (ix2 p q)
      = if s.val % 8 = 7 then gpart m c ⟨s.val / 8, by omega⟩ (ix2 p q) else 0 := fun s => by
    have ht : t.val < 128 := t.isLt
    have e : (⟨128 * (t.val / 128) + s.val, Pipeline.run_point_lt_of_flush t ((flush0_7 t).mp hf) s⟩ : Fin cfg0.N) = s := Fin.ext (by
      show 128 * (t.val / 128) + s.val = s.val; omega)
    rw [e]
    rfl
  rw [Finset.sum_congr rfl fun s _ => hb s]
  rw [← Fin.sum_mul_add_congr (S := 16) (n := 8) (L := 128) (F := fun i k => if k.val = 7 then gpart m c i (ix2 p q) else 0)
    (fun i k hl => by
      dsimp only
      have e1 : (i.val * 8 + k.val) % 8 = k.val := by omega
      have e2 : (i.val * 8 + k.val) / 8 = i.val := by omega
      simp only [e1, e2])]
  rw [Finset.sum_congr rfl fun (i : Fin 16) _ => show (∑ k : Fin 8, if k.val = 7 then gpart m c i (ix2 p q) else 0) = gpart m c i (ix2 p q) from by
    exact (Finset.sum_eq_single (7 : Fin 8) (fun b _ hb => if_neg fun h => hb (Fin.ext h)) (fun h => absurd (Finset.mem_univ _) h)).trans (if_pos rfl)]
  unfold gpart G7
  exact Fin.sum_mul_add_congr fun s k hl => rfl
open Cert.ReferenceUpDxIdeal.Read in
theorem ref18 (c : Dev nD) (u : Fin 1) (t : Fin 8192) (q : Fin 2048) :
    (val_main_v18 (F := Ideal) (WU m c) (DU m c) : FVec Ideal S1x8192x2048 .f32) (ix3 u t q) = DH m c t q := by
  obtain rfl := Subsingleton.elim u 0
  unfold DH
  pointwise [val_main_v18]
open Cert.ReferenceUpDxIdeal.Read in
theorem ref_dg (c : Dev nD) :
    (val_main_v41 (F := Ideal) (X m c) (WU m c) (DU m c) : FVec Ideal S1x2048 .f32) = G7 m c := by
  funext j
  obtain ⟨u, q, rfl⟩ : ∃ (u : Fin 1) (q : Fin 2048), j = ix2 u q := ⟨_, _, eq_ix2 j⟩
  obtain rfl := Subsingleton.elim u 0
  unfold G7 rms ms
  pointwise [val_main_v41, val_main_v24]
  rw [red_first]
  pointwise [val_main_cst_4, val_main_cst_3, val_main_v21, val_main_v20, val_main_v19, val_main_v13, val_main_v12, val_main_v9, val_main_v8,
    val_main_v7, val_main_v6, val_main_v5, val_main_v4, val_main_v3, val_main_v2, val_main_v1, val_main_cst, val_main_cst_0, val_main_cst_1]
  simp only [ref18]
  exact Finset.sum_congr rfl fun x _ => mul_comm _ _
open Cert.ReferenceUpDxIdeal.Read in
theorem ref_tail (c : Dev nD) (u : Fin 1) (t : Fin 8192) (q : Fin 2048) :
    (val_main_v36 (F := Ideal) (X m c) (NG m c) (WU m c) (DU m c) : FVec Ideal S1x8192x2048 .f32) (ix3 u t q)
      = tail (fun k => X m c (ix3 0 t k)) (fun k => DH m c t k * NG m c (ix2 0 k)) := by
  unfold tail rms ms
  pointwise [val_main_v36, val_main_v35, val_main_v34]
  rw [red_outer]
  pointwise [val_main_cst, val_main_cst_0, val_main_cst_1, val_main_cst_2, val_main_cst_5, val_main_cst_6, val_main_cst_7, val_main_v33, val_main_v32, val_main_v31,
    val_main_v27, val_main_v26, val_main_v25, val_main_v23, val_main_v22, val_main_v14, val_main_v11, val_main_v10, val_main_v9, val_main_v8,
    val_main_v7, val_main_v6, val_main_v5, val_main_v4, val_main_v3, val_main_v2, val_main_v1, val_main_v0]
  simp only [ref18]
open Cert.ReferenceUpDxIdeal.Read in
theorem ref_dx (c : Dev nD) (t : Fin 8192) (q : Fin 2048) :
    (val_main_v42 (F := Ideal) (X m c) (NG m c) (WU m c) (DU m c) (CT m c) : FVec Ideal S8192x2048 .f32) (ix2 t q)
      = CT m c (ix3 0 t q) + (DH m c t q * NG m c (ix2 0 q)) * rms (fun k => X m c (ix3 0 t k))
        + X m c (ix3 0 t q) * tail (fun k => X m c (ix3 0 t k)) (fun k => DH m c t k * NG m c (ix2 0 k))
        + tail (fun k => X m c (ix3 0 t k)) (fun k => DH m c t k * NG m c (ix2 0 k)) * X m c (ix3 0 t q) := by
  pointwise [val_main_v42, val_main_v40, val_main_v39, val_main_v38, val_main_v37, val_main_v30, val_main_v29, val_main_v28,
    val_main_v23, val_main_v22, val_main_v14, val_main_v9, val_main_v8, val_main_cst, val_main_cst_0, val_main_cst_1,
    val_main_v7, val_main_v6, val_main_v5, val_main_v4, val_main_v3, val_main_v2, val_main_v1, val_main_v0]
  simp only [ref18, ref_tail]
  rfl
/-- The side conditions of the precondition's operations. -/
instance facts_pre : Cert.Pre_finite_up_dx.Facts where
  bcast_S_S1x8192x2048 := by decide
  reducesTo_S1x8192x2048_S_d0_1_2 := by decide
  h_S_ := by decide
  bcast_S_S1x2048 := by decide
  reducesTo_S1x2048_S_d0_1 := by decide
  bcast_S_S2048x12288 := by decide
  reducesTo_S2048x12288_S_d0_1 := by decide
  bcast_S_S1x8192x12288 := by decide
  reducesTo_S1x8192x12288_S_d0_1_2 := by decide
instance : Subsingleton Cert.Pre_finite_up_dx.S_.Idx := ⟨fun i j => funext fun a => a.elim0⟩
/-- The precondition says that every argument is finite. -/
theorem finite_of_pre (x0 : FVec Ideal S1x8192x2048 .f32) (x1 : FVec Ideal S1x2048 .f32)
    (x2 : FVec Ideal S2048x12288 .f32) (x3 : FVec Ideal S1x8192x12288 .f32)
    (x4 : FVec Ideal S1x8192x2048 .f32) (h : Cert.Pre_finite_up_dx.fn (F := Ideal) x0 x1 x2 x3 x4 = fun _ => 1#1) :
    (∀ i, Fin' (x0 i)) ∧ (∀ i, Fin' (x1 i)) ∧ (∀ i, Fin' (x2 i)) ∧ (∀ i, Fin' (x3 i)) ∧ (∀ i, Fin' (x4 i)) := by
  have h := congrFun h ix0
  unfold Cert.Pre_finite_up_dx.fn Cert.Pre_finite_up_dx.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => fin_of_olt _ (Host.reduce_andi_all _ _ _ _ _ h0 i), fun i => fin_of_olt _ (Host.reduce_andi_all _ _ _ _ _ h1 i),
    fun i => fin_of_olt _ (Host.reduce_andi_all _ _ _ _ _ h2 i), fun i => fin_of_olt _ (Host.reduce_andi_all _ _ _ _ _ h3 i),
    fun i => fin_of_olt _ (Host.reduce_andi_all _ _ _ _ _ h4 i)⟩
open Cert.ReferenceUpDxIdeal.Read in
theorem ref_eq (c : Dev nD) (H : (∀ i, Fin' (X m c i)) ∧ (∀ i, Fin' (NG m c i)) ∧ (∀ i, Fin' (WU m c i)) ∧ (∀ i, Fin' (DU m c i)) ∧ (∀ i, Fin' (CT m c i))) :
    (val_main_v42 (F := Ideal) (X m c) (NG m c) (WU m c) (DU m c) (CT m c) : FVec Ideal S8192x2048 .f32) = G5 m c := by
  funext j
  obtain ⟨t, q, rfl⟩ : ∃ (t : Fin 8192) (q : Fin 2048), j = ix2 t q := ⟨_, _, eq_ix2 j⟩
  obtain ⟨h0, h1, h2, h3, h4⟩ := H
  have hd : ∀ k, Fin' (DH m c t k * NG m c (ix2 0 k)) := fun k =>
    (Fin'.sum (fun f : Fin 12288 => DU m c (ix3 0 t f) * WU m c (ix2 k f)) fun f => (h3 _).mul (h2 _)).mul (h1 _)
  rw [ref_dx m c t q]
  exact (back_eq (x := fun k => X m c (ix3 0 t k)) (d := fun k => DH m c t k * NG m c (ix2 0 k)) (e := CT m c (ix3 0 t q))
    (fun k => h0 _) hd (h4 _) q).symm
theorem frame_p : Cert.quiescent_KernelUpDx := fun m ρ _ => Cert.KernelUpDx.Gen.frame m ρ
theorem frame_pi : Cert.quiescent_KernelUpDxIdeal := fun m ρ _ => Cert.KernelUpDxIdeal.Gen.frame m ρ
theorem frame_pi_pre : Cert.quiescent_KernelUpDxIdeal_pre_finite_up_dx := fun m ρ _ => Cert.KernelUpDxIdeal.Gen.frame m ρ
theorem frame_ri : Cert.quiescent_ReferenceUpDxIdeal := fun m ρ _ =>
  (θ_run Cert.ReferenceUpDxIdeal.defs _ _).mono (fun r h => ⟨fun c => (h c).2.2.2,
      Idealize.ShloMosaic.sem_eq_zero_of_no_sems (by decide) r.2⟩)
    (Cert.ReferenceUpDxIdeal.Value.run (F := Ideal) m ρ)
theorem frame_ri_pre : Cert.quiescent_ReferenceUpDxIdeal_pre_finite_up_dx := fun m ρ _ => frame_ri m ρ trivial
theorem algebraic : Cert.algebraic_KernelUpDxIdeal_ReferenceUpDxIdeal_pre_finite_up_dx := by
  intro m ρ m' ρ' hpre hagree
  refine ⟨_, _, _, Cert.KernelUpDxIdeal.Value.run_blocks (F := Ideal) m ρ, ?_⟩
  refine (θ_run Cert.ReferenceUpDxIdeal.defs _ _).mono (fun _ h c => ?_) (Cert.ReferenceUpDxIdeal.Value.run (F := Ideal) m' ρ')
  have H := finite_of_pre _ _ _ _ _ (hpre c)
  obtain ⟨a0, a1, a2, a3, a4⟩ := hagree c
  obtain ⟨r0, r1, r2, k⟩ := h c
  refine ⟨(r0.trans (Cert.ReferenceUpDxIdeal.Read.val_main_v42_eq _ _)).trans ?_, (r1.trans (Cert.ReferenceUpDxIdeal.Read.val_main_v44_eq _ _)).trans ?_,
    (r2.trans (Cert.ReferenceUpDxIdeal.Read.val_main_v41_eq _ _ _)).trans ?_, k⟩
  · rw [a0, a1, a2, a3, a4]
    exact (ref_eq m c H).trans (final5 m c).symm
  · rw [a0, a1, a2, a3, a4]
    exact (ref_eq m c H).trans (final6 m c).symm
  · rw [a0, a2, a3]
    exact (ref_dg m c).trans (final7 m c).symm
end Cert.KernelUpDxIdeal.Val
-- ==== Proof.Up.lean ====
/- The feed-forward up projection: each tile's two halves of the product, the depthwise convolution along the rows with the
   two rows before the tile computed again, and the gated GELU of the two halves. -/
module
public import proofs.«01_k».proof.Defs
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Ident
public import proofs.«01_k».proof.Proof.Ix
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelUpIdeal.Val
open Cert.KernelUpIdeal Cert.KernelUpIdeal.Gen Idealize.ShloMosaic Idealize.ShloMosaic.TcCoe Idealize.SL.Sem
open Idealize.ShloMosaic.Pipeline (Dat)
variable (m : (ℓ : Loc nD τ sig) → Buf (Elt Ideal) ℓ)
/-- The normed input, the up projection's weights, the convolution's taps and bias. -/
abbrev H (c : Dev nD) : FVec Ideal S1x8192x2048 .f32 := m ((c : Thread nD τ).loc main_arg0)
abbrev WU (c : Dev nD) : FVec Ideal S2048x12288 .f32 := m ((c : Thread nD τ).loc main_arg1)
abbrev CW (c : Dev nD) : FVec Ideal S3x12288 .f32 := m ((c : Thread nD τ).loc main_arg2)
abbrev CB (c : Dev nD) : FVec Ideal S12288 .f32 := m ((c : Thread nD τ).loc main_arg3)
/-- Where each window's block lies: four column tiles within each row tile; the halo window takes the 16 rows before the tile. -/
theorem idx : ∀ t : Fin cfg0.N, win0_0.index t = ![t.val / 4, 0] ∧ win0_1.index t = ![t.val / 4 * 32 - 1, 0]
    ∧ win0_2.index t = ![t.val % 4, 0, 0] ∧ win0_3.index t = ![t.val % 4 + 4, 0, 0] ∧ win0_4.index t = ![0, t.val % 4]
    ∧ win0_5.index t = ![0, t.val % 4 + 4] ∧ win0_6.index t = ![0, t.val % 4] ∧ win0_7.index t = ![0, t.val % 4 + 4]
    ∧ win0_8.index t = ![0, t.val / 4, t.val % 4] ∧ win0_9.index t = ![0, t.val / 4, t.val % 4]
    ∧ win0_10.index t = ![t.val / 4, t.val % 4] ∧ (grid0.coords t 0).val = t.val / 4 ∧ t.val / 4 < 16 :=
  (by decide +kernel : ∀ t : Fin grid0.N, _)
theorem lt16 (t : Fin cfg0.N) : t.val / 4 < 16 := (idx t).2.2.2.2.2.2.2.2.2.2.2.2
abbrev row (t : Fin cfg0.N) (r : Fin 512) : Fin 8192 := ⟨t.val / 4 * 512 + r, by have := lt16 t; omega⟩
/-- Column `f` of the tile in half `s`. -/
abbrev gcol (s : Fin 2) (t : Fin cfg0.N) (f : Fin 1536) : Fin 12288 := ⟨(s.val * 4 + t.val % 4) * 1536 + f, by omega⟩
theorem v4_apply (c : Dev nD) (t : Fin 8192) (d : Fin 2048) :
    (V m c main_v4 : FVec Ideal S8192x2048 .bf16) (ix2 t d) = H m c (ix3 0 t d) := by
  entry_read
  pointwise
theorem v2_apply (c : Dev nD) (s : Fin 8) (d : Fin 2048) (f : Fin 1536) :
    (V m c main_v2 : FVec Ideal S8x2048x1536 .bf16) (ix3 s d f) = WU m c (ix2 d ⟨s.val * 1536 + f.val, by omega⟩) := by
  entry_read
  pointwise
theorem v5_apply (c : Dev nD) (u : Fin 1) (g : Fin 12288) :
    (V m c main_v5 : FVec Ideal S1x12288 .f32) (ix2 u g) = CB m c (ix1 g) := by
  entry_read
  pointwise
theorem blk0 (c : Dev nD) (t : Fin cfg0.N) (r : Fin 512) (d : Fin 2048) :
    (iblk m c 0 t : Vec Ideal S512x2048 .bf16) (ix2 r d) = H m c (ix3 0 (row t r) d) := by
  rw [← v4_apply m c]
  blk_ext [iblk, V, idx t]
theorem blk1 (c : Dev nD) (t : Fin cfg0.N) (r : Fin 16) (d : Fin 2048) (h : 16 ≤ t.val / 4 * 512 + r.val) :
    (iblk m c 1 t : Vec Ideal S16x2048 .bf16) (ix2 r d) = H m c (ix3 0 ⟨t.val / 4 * 512 + r - 16, by have := lt16 t; omega⟩ d) := by
  rw [← v4_apply m c]
  have e : (⟨t.val / 4 * 512 + r - 16, by have := lt16 t; omega⟩ : Fin 8192) = ⟨(t.val / 4 * 32 - 1) * 16 + r, by have := lt16 t; omega⟩ :=
    Fin.ext (by show t.val / 4 * 512 + r.val - 16 = (t.val / 4 * 32 - 1) * 16 + r.val; omega)
  rw [e]
  blk_ext [iblk, V, idx t]
theorem blk2 (c : Dev nD) (t : Fin cfg0.N) (u : Fin 1) (d : Fin 2048) (f : Fin 1536) :
    (iblk m c 2 t : Vec Ideal S1x2048x1536 .bf16) (ix3 u d f) = WU m c (ix2 d (gcol 0 t f)) := by
  rw [show WU m c (ix2 d (gcol 0 t f)) = WU m c (ix2 d ⟨(⟨t.val % 4, by omega⟩ : Fin 8).val * 1536 + f.val, by omega⟩) from
    congrArg (WU m c) (Ix.eq2 rfl (by show (0 * 4 + t.val % 4) * 1536 + f.val = t.val % 4 * 1536 + f.val; omega)), ← v2_apply m c]
  blk_ext [iblk, V, idx t]
theorem blk3 (c : Dev nD) (t : Fin cfg0.N) (u : Fin 1) (d : Fin 2048) (f : Fin 1536) :
    (iblk m c 3 t : Vec Ideal S1x2048x1536 .bf16) (ix3 u d f) = WU m c (ix2 d (gcol 1 t f)) := by
  rw [show WU m c (ix2 d (gcol 1 t f)) = WU m c (ix2 d ⟨(⟨t.val % 4 + 4, by omega⟩ : Fin 8).val * 1536 + f.val, by omega⟩) from
    congrArg (WU m c) (Ix.eq2 rfl (by show (1 * 4 + t.val % 4) * 1536 + f.val = (t.val % 4 + 4) * 1536 + f.val; omega)), ← v2_apply m c]
  blk_ext [iblk, V, idx t]
theorem blk4 (c : Dev nD) (t : Fin cfg0.N) (a : Fin 3) (f : Fin 1536) :
    (iblk m c 4 t : Vec Ideal S3x1536 .f32) (ix2 a f) = CW m c (ix2 a (gcol 0 t f)) := by
  rw [show gcol 0 t f = ⟨t.val % 4 * 1536 + f.val, by omega⟩ from Fin.ext (by show (0 * 4 + t.val % 4) * 1536 + f.val = t.val % 4 * 1536 + f.val; omega)]
  blk_ext [iblk, V, idx t]
theorem blk5 (c : Dev nD) (t : Fin cfg0.N) (a : Fin 3) (f : Fin 1536) :
    (iblk m c 5 t : Vec Ideal S3x1536 .f32) (ix2 a f) = CW m c (ix2 a (gcol 1 t f)) := by
  rw [show gcol 1 t f = ⟨(t.val % 4 + 4) * 1536 + f.val, by omega⟩ from Fin.ext (by show (1 * 4 + t.val % 4) * 1536 + f.val = (t.val % 4 + 4) * 1536 + f.val; omega)]
  blk_ext [iblk, V, idx t]
theorem blk6 (c : Dev nD) (t : Fin cfg0.N) (u : Fin 1) (f : Fin 1536) :
    (iblk m c 6 t : Vec Ideal S1x1536 .f32) (ix2 u f) = CB m c (ix1 (gcol 0 t f)) := by
  rw [show gcol 0 t f = ⟨t.val % 4 * 1536 + f.val, by omega⟩ from Fin.ext (by show (0 * 4 + t.val % 4) * 1536 + f.val = t.val % 4 * 1536 + f.val; omega),
    ← v5_apply m c 0]
  obtain rfl := Subsingleton.elim u 0
  blk_ext [iblk, V, idx t]
theorem blk7 (c : Dev nD) (t : Fin cfg0.N) (u : Fin 1) (f : Fin 1536) :
    (iblk m c 7 t : Vec Ideal S1x1536 .f32) (ix2 u f) = CB m c (ix1 (gcol 1 t f)) := by
  rw [show gcol 1 t f = ⟨(t.val % 4 + 4) * 1536 + f.val, by omega⟩ from Fin.ext (by show (1 * 4 + t.val % 4) * 1536 + f.val = (t.val % 4 + 4) * 1536 + f.val; omega),
    ← v5_apply m c 0]
  obtain rfl := Subsingleton.elim u 0
  blk_ext [iblk, V, idx t]
theorem select_first (n : ℕ) (hn : n < 16) (x y : EReal) :
    Scalar.select (Scalar.cmpi .eq (BitVec.ofNat 32 n) 0#32) x y = if n = 0 then x else y := by
  by_cases h : n = 0
  · rw [if_pos h]; exact if_pos ((WordCmp.cmpi_eq_ofNat_eq_one_iff (w := 32) (b := 0) (by omega) (by omega)).mpr h)
  · rw [if_neg h]; exact if_neg fun e => h ((WordCmp.cmpi_eq_ofNat_eq_one_iff (w := 32) (b := 0) (by omega) (by omega)).mp e)
/-- The halo's factor: zero at the first row tile. -/
theorem keep_at (t : Fin cfg0.N) (h : t.val / 4 = 0) : (k0_pay4 (F := Ideal) (grid0.coords t) : EReal) = 0 := by
  have hc : (grid0.coords t 0).val = t.val / 4 := (idx t).2.2.2.2.2.2.2.2.2.2.2.1
  unfold k0_pay4
  refine (select_first _ (by rw [hc]; exact lt16 t) _ _).trans ?_
  rw [if_pos (hc.trans h)]
  exact Ideal.ofBits_zero_f32
theorem keep_one (t : Fin cfg0.N) (h : t.val / 4 ≠ 0) : (k0_pay4 (F := Ideal) (grid0.coords t) : EReal) = 1 := by
  have hc : (grid0.coords t 0).val = t.val / 4 := (idx t).2.2.2.2.2.2.2.2.2.2.2.1
  unfold k0_pay4
  refine (select_first _ (by rw [hc]; exact lt16 t) _ _).trans ?_
  rw [if_neg (by rw [hc]; exact h)]
  exact Ideal.ofBits_one_f32
theorem pay6_at (v2 : Vec Ideal S16x2048 .bf16) (v4 : Vec Ideal S512x2048 .bf16) (w : Vec Ideal S1x2048x1536 .bf16) (r : Fin 528) (f : Fin 1536) :
    k0_pay6 (F := Ideal) v2 v4 w (ix2 r f)
      = ∑ d : Fin 2048, (if h : (r : ℕ) < 16 then v2 (ix2 ⟨r, h⟩ d) else v4 (ix2 ⟨r - 16, by omega⟩ d)) * w (ix3 0 d f) := by
  pointwise [k0_pay6, k0_pay5]
/-- Row `q` of the tile with its halo, whose eight halo rows are multiplied by the factor. -/
theorem halo_at (P : FVec Ideal S528x1536 .f32) (k : EReal) (f : Fin 1536) (q q' : ℕ) (e : q' = q) (hq : q < 520)
    (h1 : q' < 8 → 8 + q' < 528) (h2 : ¬ q' < 8 → 16 + (q' - 8) < 528) :
    (if h : q' < 8 then P (ix2 ⟨8 + q', h1 h⟩ f) * k else P (ix2 ⟨16 + (q' - 8), h2 h⟩ f))
      = if q < 8 then P (ix2 ⟨q + 8, by omega⟩ f) * k else P (ix2 ⟨q + 8, by omega⟩ f) := by
  subst e
  by_cases h : q' < 8
  · rw [dif_pos h, if_pos h, show (⟨8 + q', h1 h⟩ : Fin 528) = ⟨q' + 8, by omega⟩ from Fin.ext (by show 8 + q' = q' + 8; omega)]
  · rw [dif_neg h, if_neg h, show (⟨16 + (q' - 8), h2 h⟩ : Fin 528) = ⟨q' + 8, by omega⟩ from Fin.ext (by show 16 + (q' - 8) = q' + 8; omega)]
theorem pay11_at (i : grid0.Coords) (v2 : Vec Ideal S16x2048 .bf16) (v4 : Vec Ideal S512x2048 .bf16) (w : Vec Ideal S1x2048x1536 .bf16) (r : Fin 512) (f : Fin 1536) :
    k0_pay11 (F := Ideal) i v2 v4 w (ix2 r f) = if (r : ℕ) + 7 < 8 then k0_pay6 (F := Ideal) v2 v4 w (ix2 ⟨r + 7 + 8, by omega⟩ f) * k0_pay4 (F := Ideal) i
      else k0_pay6 (F := Ideal) v2 v4 w (ix2 ⟨r + 7 + 8, by omega⟩ f) := by
  unfold k0_pay11 k0_pay9 k0_pay10
  generalize k0_pay6 (F := Ideal) v2 v4 w = P
  generalize k0_pay4 (F := Ideal) i = k
  pointwise
  exact halo_at P k f (r + 7) _ (by omega) (by omega) (fun h => by omega) (fun h => by omega)
theorem pay12_at (i : grid0.Coords) (v2 : Vec Ideal S16x2048 .bf16) (v4 : Vec Ideal S512x2048 .bf16) (w : Vec Ideal S1x2048x1536 .bf16) (r : Fin 512) (f : Fin 1536) :
    k0_pay12 (F := Ideal) i v2 v4 w (ix2 r f) = if (r : ℕ) + 6 < 8 then k0_pay6 (F := Ideal) v2 v4 w (ix2 ⟨r + 6 + 8, by omega⟩ f) * k0_pay4 (F := Ideal) i
      else k0_pay6 (F := Ideal) v2 v4 w (ix2 ⟨r + 6 + 8, by omega⟩ f) := by
  unfold k0_pay12 k0_pay9 k0_pay10
  generalize k0_pay6 (F := Ideal) v2 v4 w = P
  generalize k0_pay4 (F := Ideal) i = k
  pointwise
  exact halo_at P k f (r + 6) _ (by omega) (by omega) (fun h => by omega) (fun h => by omega)
theorem pay16_at (k : EReal) (P : FVec Ideal S528x1536 .f32) (a b e : Vec Ideal S1x1536 .f32) (r : Fin 512) (f : Fin 1536) :
    k0_pay16 (F := Ideal) k P a b e (ix2 r f) = e (ix2 0 f) * P (ix2 ⟨r + 16, by omega⟩ f)
      + b (ix2 0 f) * (if (r : ℕ) + 7 < 8 then P (ix2 ⟨r + 7 + 8, by omega⟩ f) * k else P (ix2 ⟨r + 7 + 8, by omega⟩ f))
      + a (ix2 0 f) * (if (r : ℕ) + 6 < 8 then P (ix2 ⟨r + 6 + 8, by omega⟩ f) * k else P (ix2 ⟨r + 6 + 8, by omega⟩ f)) := by
  unfold k0_pay16
  pointwise
  rw [halo_at P k f (r + 7) ((8 + r + 520 - 1) % 520) (by omega) (by omega) (fun h => by omega) (fun h => by omega),
    halo_at P k f (r + 6) ((8 + r + 520 - 2) % 520) (by omega) (by omega) (fun h => by omega) (fun h => by omega)]
  refine congrArg₂ (· + ·) (congrArg₂ (· + ·) ?_ rfl) rfl
  exact congrArg (fun j => e (ix2 0 f) * P (ix2 j f)) (Fin.ext (by show 16 + (r : ℕ) = r + 16; omega))
theorem pay10_at (v2 : Vec Ideal S16x2048 .bf16) (v4 : Vec Ideal S512x2048 .bf16) (w : Vec Ideal S1x2048x1536 .bf16) (r : Fin 512) (f : Fin 1536) :
    k0_pay10 (F := Ideal) v2 v4 w (ix2 r f) = k0_pay6 (F := Ideal) v2 v4 w (ix2 ⟨r + 16, by omega⟩ f) := by
  unfold k0_pay10
  generalize k0_pay6 (F := Ideal) v2 v4 w = P
  pointwise
  exact congrArg (fun j => P (ix2 j f)) (Fin.ext (by show 16 + (r : ℕ) = r + 16; omega))
theorem pay8_at (v2 : Vec Ideal S16x2048 .bf16) (v4 : Vec Ideal S512x2048 .bf16) (w : Vec Ideal S1x2048x1536 .bf16) (r : Fin 512) (f : Fin 1536) :
    k0_pay8 (F := Ideal) v2 v4 w (ix3 0 r f) = k0_pay6 (F := Ideal) v2 v4 w (ix2 ⟨r + 16, by omega⟩ f) := by
  unfold k0_pay8
  generalize k0_pay6 (F := Ideal) v2 v4 w = P
  pointwise
  exact congrArg (fun j => P (ix2 j f)) (Fin.ext (by show 16 + (r : ℕ) = r + 16; omega))
theorem pay15_at (P : FVec Ideal S528x1536 .f32) (r : Fin 512) (f : Fin 1536) :
    k0_pay15 (F := Ideal) P (ix3 0 r f) = P (ix2 ⟨r + 16, by omega⟩ f) := by
  unfold k0_pay15
  pointwise
  exact congrArg (fun j => P (ix2 j f)) (Fin.ext (by show 16 + (r : ℕ) = r + 16; omega))
theorem pay13_at (x s1 s2 : FVec Ideal S512x1536 .f32) (a b e v : Vec Ideal S1x1536 .f32) (r : Fin 512) (f : Fin 1536) :
    k0_pay13 (F := Ideal) x a b e s1 s2 v (ix2 r f)
      = e (ix2 0 f) * x (ix2 r f) + b (ix2 0 f) * s1 (ix2 r f) + a (ix2 0 f) * s2 (ix2 r f) + v (ix2 0 f) := by
  unfold k0_pay13
  pointwise
theorem pay14_at (x s1 s2 : FVec Ideal S512x1536 .f32) (a b e v : Vec Ideal S1x1536 .f32) (r : Fin 512) (f : Fin 1536) :
    k0_pay14 (F := Ideal) x a b e s1 s2 v (ix3 0 r f) = k0_pay13 (F := Ideal) x a b e s1 s2 v (ix2 r f) := by
  unfold k0_pay14
  generalize k0_pay13 (F := Ideal) x a b e s1 s2 v = y
  pointwise
theorem pay1_at (x : FVec Ideal S512x1536 .f32) (v : Vec Ideal S1x1536 .f32) (r : Fin 512) (f : Fin 1536) :
    k0_pay1 (F := Ideal) x v (ix2 r f) = x (ix2 r f) + v (ix2 0 f) := by
  unfold k0_pay1
  pointwise
theorem pay2_at (x : FVec Ideal S512x1536 .f32) (v : Vec Ideal S1x1536 .f32) (r : Fin 512) (f : Fin 1536) :
    k0_pay2 (F := Ideal) x v (ix3 0 r f) = x (ix2 r f) + v (ix2 0 f) := by
  rw [← pay1_at]
  unfold k0_pay2
  generalize k0_pay1 (F := Ideal) x v = y
  pointwise
/-- The GELU as the kernel computes it. -/
def gK (z : EReal) : EReal :=
  z * (Ideal.ofBits .f32 0x3F000000#32 * Ideal.tanh (z * (Named.named (F := Ideal) κ "gelu_ca" (φ := .f32) 0x3D122279#32 * (z * z)
    + Ideal.ofBits .f32 0x3F4C422A#32)) + Ideal.ofBits .f32 0x3F000000#32)
/-- The GELU as it is written. -/
def gR (z : EReal) : EReal :=
  z * (Ideal.ofBits .f32 0x3F000000#32 * (1 + Ideal.tanh (Ideal.ofBits .f32 0x3F4C422A#32 * (z + Ideal.ofBits .f32 0x3D372713#32 * (z * z * z)))))
theorem pay3_at (z x : FVec Ideal S512x1536 .f32) (v : Vec Ideal S1x1536 .f32) (r : Fin 512) (f : Fin 1536) :
    k0_pay3 (F := Ideal) z x v (ix2 r f) = gK (z (ix2 r f)) * (x (ix2 r f) + v (ix2 0 f)) := by
  rw [← pay1_at]
  unfold k0_pay3 gK
  generalize k0_pay1 (F := Ideal) x v = y
  pointwise
theorem ca_val : Named.named (F := Ideal) κ "gelu_ca" (φ := .f32) 0x3D122279#32 = ((80338380498831 / 2251799813685248 : ℝ) : EReal) :=
  IdealRules.named_const.ideal_named_scalar _ _ _ _ rfl
theorem tanh_fin (x : EReal) : ∃ T : ℝ, Ideal.tanh x = (T : EReal) := by
  induction x using EReal.rec with
  | bot => exact ⟨-1, rfl⟩
  | coe r => exact ⟨Real.tanh r, rfl⟩
  | top => exact ⟨1, rfl⟩
theorem arg_eq (z : EReal) :
    z * (Named.named (F := Ideal) κ "gelu_ca" (φ := .f32) 0x3D122279#32 * (z * z) + Ideal.ofBits .f32 0x3F4C422A#32)
      = Ideal.ofBits .f32 0x3F4C422A#32 * (z + Ideal.ofBits .f32 0x3D372713#32 * (z * z * z)) := by
  rw [ca_val, Cert.KernelIdeal.Val.c_val, Cert.KernelIdeal.Val.a_val]
  induction z using EReal.rec with
  | bot =>
    rw [EReal.bot_mul_bot, EReal.top_mul_bot, EReal.coe_mul_top_of_pos (by norm_num), EReal.top_add_coe, EReal.bot_mul_top,
      EReal.coe_mul_bot_of_pos (by norm_num), EReal.bot_add, EReal.coe_mul_bot_of_pos (by norm_num)]
  | coe z =>
    have e : (6693141 / 8388608 * (z + 12003091 / 268435456 * (z * z * z)) : ℝ)
        = z * (80338380498831 / 2251799813685248 * (z * z) + 6693141 / 8388608) := by ring
    norm_cast
    rw [e]
  | top =>
    rw [EReal.top_mul_top, EReal.top_mul_top, EReal.coe_mul_top_of_pos (by norm_num), EReal.top_add_coe, EReal.top_mul_top,
      EReal.coe_mul_top_of_pos (by norm_num), EReal.top_add_top, EReal.coe_mul_top_of_pos (by norm_num)]
/-- The two are one function. -/
theorem gK_eq (z : EReal) : gK z = gR z := by
  unfold gK gR
  rw [arg_eq]
  obtain ⟨T, hT⟩ := tanh_fin (Ideal.ofBits .f32 0x3F4C422A#32 * (z + Ideal.ofBits .f32 0x3D372713#32 * (z * z * z)))
  rw [hT, Cert.KernelIdeal.Val.half_val]
  congr 1
  have e : (1 / 2 * T + 1 / 2 : ℝ) = 1 / 2 * (1 + T) := by ring
  norm_cast
/-- The product at row `n`; the product `k` rows before, zero before the first row; the convolution. -/
def UP (c : Dev nD) (n : Fin 8192) (g : Fin 12288) : EReal := ∑ d : Fin 2048, H m c (ix3 0 n d) * WU m c (ix2 d g)
def sh (c : Dev nD) (k : ℕ) (n : Fin 8192) (g : Fin 12288) : EReal := if k ≤ n.val then UP m c ⟨n - k, by omega⟩ g else 0
def CV (c : Dev nD) (n : Fin 8192) (g : Fin 12288) : EReal :=
  CW m c (ix2 2 g) * UP m c n g + CW m c (ix2 1 g) * sh m c 1 n g + CW m c (ix2 0 g) * sh m c 2 n g + CB m c (ix1 g)
theorem prod_at (c : Dev nD) (t : Fin cfg0.N) (B : Vec Ideal S1x2048x1536 .bf16) (g : Fin 12288) (f : Fin 1536)
    (hB : ∀ d, B (ix3 0 d f) = WU m c (ix2 d g)) (r : Fin 528) (h : 16 ≤ t.val / 4 * 512 + r.val) :
    k0_pay6 (F := Ideal) (iblk m c 1 t) (iblk m c 0 t) B (ix2 r f) = UP m c ⟨t.val / 4 * 512 + r - 16, by have := lt16 t; omega⟩ g := by
  refine (pay6_at _ _ _ r f).trans ?_
  unfold UP
  refine Finset.sum_congr rfl fun d _ => ?_
  rw [hB]
  congr 1
  by_cases hr : (r : ℕ) < 16
  · rw [dif_pos hr, blk1 m c t ⟨r, hr⟩ d h]
  · rw [dif_neg hr, blk0]
    exact congrArg (H m c) (Ix.eq3 rfl (by show t.val / 4 * 512 + ((r : ℕ) - 16) = t.val / 4 * 512 + r - 16; omega) rfl)
theorem cur_at (c : Dev nD) (t : Fin cfg0.N) (B : Vec Ideal S1x2048x1536 .bf16) (g : Fin 12288) (f : Fin 1536)
    (hB : ∀ d, B (ix3 0 d f) = WU m c (ix2 d g)) (r : Fin 512) :
    k0_pay6 (F := Ideal) (iblk m c 1 t) (iblk m c 0 t) B (ix2 ⟨r + 16, by omega⟩ f) = UP m c (row t r) g := by
  rw [prod_at m c t B g f hB ⟨r + 16, by omega⟩ (by show 16 ≤ t.val / 4 * 512 + (r + 16); omega)]
  exact congrArg (UP m c · g) (Fin.ext (by show t.val / 4 * 512 + (r + 16) - 16 = t.val / 4 * 512 + r; omega))
theorem prev_at (c : Dev nD) (t : Fin cfg0.N) (B : Vec Ideal S1x2048x1536 .bf16) (g : Fin 12288) (f : Fin 1536)
    (hB : ∀ d, B (ix3 0 d f) = WU m c (ix2 d g)) (r : Fin 512) (q k : ℕ) (hk : q + k = 8) (hk0 : 0 < k) :
    (if (r : ℕ) + q < 8 then k0_pay6 (F := Ideal) (iblk m c 1 t) (iblk m c 0 t) B (ix2 ⟨r + q + 8, by omega⟩ f) * k0_pay4 (F := Ideal) (grid0.coords t)
      else k0_pay6 (F := Ideal) (iblk m c 1 t) (iblk m c 0 t) B (ix2 ⟨r + q + 8, by omega⟩ f)) = sh m c k (row t r) g := by
  unfold sh
  by_cases hr : (r : ℕ) + q < 8
  · rw [if_pos hr]
    by_cases ht : t.val / 4 = 0
    · rw [keep_at t ht, mul_zero, if_neg (by show ¬ k ≤ t.val / 4 * 512 + r; omega)]
    · rw [keep_one t ht, mul_one, if_pos (by show k ≤ t.val / 4 * 512 + r; omega),
        prod_at m c t B g f hB ⟨r + q + 8, by omega⟩ (by show 16 ≤ t.val / 4 * 512 + (r + q + 8); omega)]
      exact congrArg (UP m c · g) (Fin.ext (by show t.val / 4 * 512 + (r + q + 8) - 16 = t.val / 4 * 512 + r - k; omega))
  · rw [if_neg hr, if_pos (by show k ≤ t.val / 4 * 512 + r; omega),
      prod_at m c t B g f hB ⟨r + q + 8, by omega⟩ (by show 16 ≤ t.val / 4 * 512 + (r + q + 8); omega)]
    exact congrArg (UP m c · g) (Fin.ext (by show t.val / 4 * 512 + (r + q + 8) - 16 = t.val / 4 * 512 + r - k; omega))
theorem row_emb (o : ℕ) (inb) (a : Fin 3) (f : Fin 1536) (h : o = a) :
    (ix2 a f : S3x1536.Idx) = (Rect.unit ![o, 0] ![1, 1536] inb : Rect S3x1536).emb (ix2 0 f) := by
  funext x
  refine Fin.ext ?_
  fin_cases x
  · show (a : ℕ) = o + 1 * 0; omega
  · show (f : ℕ) = 0 + 1 * f; omega
theorem ld_row (X : FVec Ideal S3x1536 .f32) (o : ℕ) (inb) (a : Fin 3) (f : Fin 1536) (h : o = a) :
    View.ld (Val := Elt Ideal) (e' := .f32) X (Rect.unit (s := S3x1536) ![o, 0] ![1, 1536] inb) (ix2 0 f) = X (ix2 a f) :=
  (congrArg X (row_emb o inb a f h)).symm
abbrev tap0 (X : FVec Ideal S3x1536 .f32) : Vec Ideal S1x1536 .f32 :=
  View.ld (Val := Elt Ideal) (e' := .f32) X (Rect.unit (s := S3x1536) ![0, 0] ![1, 1536] inb_S3x1536_S1x1536_0_0)
abbrev tap1 (X : FVec Ideal S3x1536 .f32) : Vec Ideal S1x1536 .f32 :=
  View.ld (Val := Elt Ideal) (e' := .f32) X (Rect.unit (s := S3x1536) ![1, 0] ![1, 1536] inb_S3x1536_S1x1536_1_0)
abbrev tap2 (X : FVec Ideal S3x1536 .f32) : Vec Ideal S1x1536 .f32 :=
  View.ld (Val := Elt Ideal) (e' := .f32) X (Rect.unit (s := S3x1536) ![2, 0] ![1, 1536] inb_S3x1536_S1x1536_2_0)
theorem tap0_at (X : FVec Ideal S3x1536 .f32) (f : Fin 1536) : tap0 X (ix2 0 f) = X (ix2 0 f) := ld_row X 0 _ 0 f rfl
theorem tap1_at (X : FVec Ideal S3x1536 .f32) (f : Fin 1536) : tap1 X (ix2 0 f) = X (ix2 1 f) := ld_row X 1 _ 1 f rfl
theorem tap2_at (X : FVec Ideal S3x1536 .f32) (f : Fin 1536) : tap2 X (ix2 0 f) = X (ix2 2 f) := ld_row X 2 _ 2 f rfl
/-- The gate half's convolution. -/
theorem gate_at (c : Dev nD) (t : Fin cfg0.N) (r : Fin 512) (f : Fin 1536) :
    k0_pay13 (F := Ideal) (k0_pay10 (F := Ideal) (iblk m c 1 t) (iblk m c 0 t) (iblk m c 2 t)) (tap0 (iblk m c 4 t)) (tap1 (iblk m c 4 t))
        (tap2 (iblk m c 4 t)) (k0_pay11 (F := Ideal) (grid0.coords t) (iblk m c 1 t) (iblk m c 0 t) (iblk m c 2 t))
        (k0_pay12 (F := Ideal) (grid0.coords t) (iblk m c 1 t) (iblk m c 0 t) (iblk m c 2 t)) (iblk m c 6 t) (ix2 r f)
      = CV m c (row t r) (gcol 0 t f) := by
  refine (pay13_at _ _ _ _ _ _ _ r f).trans ?_
  rw [pay10_at, pay11_at, pay12_at]
  unfold CV
  rw [tap0_at, tap1_at, tap2_at, blk4, blk4, blk4, blk6,
    cur_at m c t _ (gcol 0 t f) f (fun d => blk2 m c t 0 d f), prev_at m c t _ (gcol 0 t f) f (fun d => blk2 m c t 0 d f) r 7 1 rfl (by omega),
    prev_at m c t _ (gcol 0 t f) f (fun d => blk2 m c t 0 d f) r 6 2 rfl (by omega)]
/-- The value half's. -/
theorem val_at (c : Dev nD) (t : Fin cfg0.N) (r : Fin 512) (f : Fin 1536) :
    k0_pay16 (F := Ideal) (k0_pay4 (F := Ideal) (grid0.coords t)) (k0_pay7 (F := Ideal) (iblk m c 1 t) (iblk m c 0 t) (iblk m c 3 t))
        (tap0 (iblk m c 5 t)) (tap1 (iblk m c 5 t)) (tap2 (iblk m c 5 t)) (ix2 r f) + (iblk m c 7 t : Vec Ideal S1x1536 .f32) (ix2 0 f)
      = CV m c (row t r) (gcol 1 t f) := by
  rw [pay16_at]
  unfold CV
  rw [show k0_pay7 (F := Ideal) (iblk m c 1 t) (iblk m c 0 t) (iblk m c 3 t) = k0_pay6 (F := Ideal) (iblk m c 1 t) (iblk m c 0 t) (iblk m c 3 t) from rfl,
    tap0_at, tap1_at, tap2_at, blk5, blk5, blk5, blk7,
    cur_at m c t _ (gcol 1 t f) f (fun d => blk3 m c t 0 d f), prev_at m c t _ (gcol 1 t f) f (fun d => blk3 m c t 0 d f) r 7 1 rfl (by omega),
    prev_at m c t _ (gcol 1 t f) f (fun d => blk3 m c t 0 d f) r 6 2 rfl (by omega)]
/-- Column `g` of half `s`. -/
abbrev col (s : Fin 2) (g : Fin 6144) : Fin 12288 := ⟨s.val * 6144 + g, by omega⟩
abbrev fcol (t : Fin cfg0.N) (f : Fin 1536) : Fin 6144 := ⟨t.val % 4 * 1536 + f, by omega⟩
theorem col_eq (s : Fin 2) (t : Fin cfg0.N) (f : Fin 1536) : col s (fcol t f) = gcol s t f :=
  Fin.ext (by show s.val * 6144 + (t.val % 4 * 1536 + f) = (s.val * 4 + t.val % 4) * 1536 + f; omega)
def G8 (c : Dev nD) : FVec Ideal S2x8192x6144 .bf16 := fun j => UP m c (j 1) (col (j 0) (j 2))
def G9 (c : Dev nD) : FVec Ideal S2x8192x6144 .bf16 := fun j => CV m c (j 1) (col (j 0) (j 2))
def G10 (c : Dev nD) : FVec Ideal S8192x6144 .bf16 := fun j => gK (CV m c (j 0) (col 0 (j 1))) * CV m c (j 0) (col 1 (j 1))
theorem emb8 (t : Fin cfg0.N) (s : Fin 2) (r : Fin 512) (f : Fin 1536) :
    (((cfg0.win 8).blk t).view.emb (ix3 s r f) : S2x8192x6144.Idx) = ix3 s (row t r) (fcol t f) := by
  have e := idx t
  have h0 : ((((cfg0.win 8).blk t).view.emb (ix3 s r f)) 0 : ℕ) = s := by blk_simp [e]
  have h1 : ((((cfg0.win 8).blk t).view.emb (ix3 s r f)) 1 : ℕ) = t.val / 4 * 512 + r := by blk_simp [e]
  have h2 : ((((cfg0.win 8).blk t).view.emb (ix3 s r f)) 2 : ℕ) = t.val % 4 * 1536 + f := by blk_simp [e]
  exact Ix.of3 _ _ _ _ h0 h1 h2
theorem emb9 (t : Fin cfg0.N) (s : Fin 2) (r : Fin 512) (f : Fin 1536) :
    (((cfg0.win 9).blk t).view.emb (ix3 s r f) : S2x8192x6144.Idx) = ix3 s (row t r) (fcol t f) := by
  have e := idx t
  have h0 : ((((cfg0.win 9).blk t).view.emb (ix3 s r f)) 0 : ℕ) = s := by blk_simp [e]
  have h1 : ((((cfg0.win 9).blk t).view.emb (ix3 s r f)) 1 : ℕ) = t.val / 4 * 512 + r := by blk_simp [e]
  have h2 : ((((cfg0.win 9).blk t).view.emb (ix3 s r f)) 2 : ℕ) = t.val % 4 * 1536 + f := by blk_simp [e]
  exact Ix.of3 _ _ _ _ h0 h1 h2
theorem emb10 (t : Fin cfg0.N) (r : Fin 512) (f : Fin 1536) :
    (((cfg0.win 10).blk t).view.emb (ix2 r f) : S8192x6144.Idx) = ix2 (row t r) (fcol t f) := by
  have e := idx t
  have h0 : ((((cfg0.win 10).blk t).view.emb (ix2 r f)) 0 : ℕ) = t.val / 4 * 512 + r := by blk_simp [e]
  have h1 : ((((cfg0.win 10).blk t).view.emb (ix2 r f)) 1 : ℕ) = t.val % 4 * 1536 + f := by blk_simp [e]
  exact Ix.of2 _ _ _ h0 h1
theorem final8 (c : Dev nD) : (dats m 0 c).arrAt 8 (cfgs 0).N = G8 m c := by
  refine (dats m 0 c).arrAt_eq_of_covers 8 _ (by decide +kernel) fun t hf y => ?_
  blk_simp
  rw [after0_8]
  obtain ⟨s, r, f, rfl⟩ : ∃ (s : Fin 2) (r : Fin 512) (f : Fin 1536), y = ix3 s r f := ⟨_, _, _, eq_ix3 y⟩
  refine Eq.trans ?_ (congrArg (G8 m c) (emb8 t s r f)).symm
  show _ = UP m c (row t r) (col s (fcol t f))
  rw [col_eq]
  frame_out [k0_pay17]
  canon_tiles x h
  · obtain rfl : x = ix3 0 r f := Ix.of3 _ _ _ _ (by omega) h1.symm h2.symm
    obtain rfl : s = 1 := Fin.ext h0
    refine (pay15_at _ r f).trans ?_
    exact cur_at m c t _ (gcol 1 t f) f (fun d => blk3 m c t 0 d f) r
  · obtain rfl : x = ix3 0 r f := Ix.of3 _ _ _ _ (by omega) h1.symm h2.symm
    obtain rfl : s = 0 := Fin.ext h0
    refine (pay8_at _ _ _ r f).trans ?_
    exact cur_at m c t _ (gcol 0 t f) f (fun d => blk2 m c t 0 d f) r
theorem final9 (c : Dev nD) : (dats m 0 c).arrAt 9 (cfgs 0).N = G9 m c := by
  refine (dats m 0 c).arrAt_eq_of_covers 9 _ (by decide +kernel) fun t hf y => ?_
  blk_simp
  rw [after0_9]
  obtain ⟨s, r, f, rfl⟩ : ∃ (s : Fin 2) (r : Fin 512) (f : Fin 1536), y = ix3 s r f := ⟨_, _, _, eq_ix3 y⟩
  refine Eq.trans ?_ (congrArg (G9 m c) (emb9 t s r f)).symm
  show _ = CV m c (row t r) (col s (fcol t f))
  rw [col_eq]
  frame_out [k0_pay17, k0_pay18, k0_pay19, k0_pay20, k0_pay21]
  canon_tiles x h
  · obtain rfl : x = ix3 0 r f := Ix.of3 _ _ _ _ (by omega) h1.symm h2.symm
    obtain rfl : s = 1 := Fin.ext h0
    refine (pay2_at _ _ r f).trans ?_
    exact val_at m c t r f
  · obtain rfl : x = ix3 0 r f := Ix.of3 _ _ _ _ (by omega) h1.symm h2.symm
    obtain rfl : s = 0 := Fin.ext h0
    refine (pay14_at _ _ _ _ _ _ _ r f).trans ?_
    exact gate_at m c t r f
theorem final10 (c : Dev nD) : (dats m 0 c).arrAt 10 (cfgs 0).N = G10 m c := by
  refine (dats m 0 c).arrAt_eq_of_covers 10 _ (by decide +kernel) fun t hf y => ?_
  blk_simp
  rw [after0_10]
  obtain ⟨r, f, rfl⟩ : ∃ (r : Fin 512) (f : Fin 1536), y = ix2 r f := ⟨_, _, eq_ix2 y⟩
  refine Eq.trans ?_ (congrArg (G10 m c) (emb10 t r f)).symm
  show _ = gK (CV m c (row t r) (col 0 (fcol t f))) * CV m c (row t r) (col 1 (fcol t f))
  rw [col_eq, col_eq]
  frame_out [k0_pay17, k0_pay18, k0_pay19, k0_pay20, k0_pay21]
  refine (pay3_at _ _ _ r f).trans ?_
  exact congrArg₂ (fun a b => gK a * b) (gate_at m c t r f) (val_at m c t r f)
open Cert.ReferenceUpIdeal.Read in
theorem ref0 (c : Dev nD) (u : Fin 1) (t : Fin 8192) (g : Fin 12288) :
    (val_main_v0 (F := Ideal) (H m c) (WU m c) : FVec Ideal Cert.ReferenceUpIdeal.S1x8192x12288 .f32) (ix3 u t g) = UP m c t g := by
  obtain rfl := Subsingleton.elim u 0
  unfold UP
  pointwise [val_main_v0]
open Cert.ReferenceUpIdeal.Read in
theorem ref2 (c : Dev nD) (u : Fin 1) (t : Fin 8194) (g : Fin 12288) :
    (val_main_v2 (F := Ideal) (H m c) (WU m c) : FVec Ideal Cert.ReferenceUpIdeal.S1x8194x12288 .f32) (ix3 u t g)
      = if h : t.val < 2 then 0 else UP m c ⟨t - 2, by omega⟩ g := by
  obtain rfl := Subsingleton.elim u 0
  pointwise [val_main_v2, val_main_v1, val_main_cst]
  by_cases h : t.val < 2
  · rw [dif_pos h, dif_pos h]
  · rw [dif_neg h, dif_neg h, ref0]
open Cert.ReferenceUpIdeal.Read in
theorem ref25 (c : Dev nD) (u : Fin 1) (t : Fin 8192) (g : Fin 12288) :
    (val_main_v25 (F := Ideal) (H m c) (WU m c) (CW m c) (CB m c) : FVec Ideal Cert.ReferenceUpIdeal.S1x8192x12288 .f32) (ix3 u t g) = CV m c t g := by
  obtain rfl := Subsingleton.elim u 0
  pointwise [val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v5, val_main_v4, val_main_v3]
  rw [ref2, ref2, ref2]
  have e0 : (if h : (t : ℕ) < 2 then (0 : EReal) else UP m c ⟨t - 2, by omega⟩ g) = sh m c 2 t g := by
    unfold sh
    by_cases h : (t : ℕ) < 2
    · rw [dif_pos h, if_neg (by omega)]
    · rw [dif_neg h, if_pos (by omega)]
  have e1 : (if h : 1 + (t : ℕ) < 2 then (0 : EReal) else UP m c ⟨1 + t - 2, by omega⟩ g) = sh m c 1 t g := by
    unfold sh
    by_cases h : 1 + (t : ℕ) < 2
    · rw [dif_pos h, if_neg (by omega)]
    · rw [dif_neg h, if_pos (by omega)]
      exact congrArg (UP m c · g) (Fin.ext (by show 1 + (t : ℕ) - 2 = t - 1; omega))
  have e2 : (if h : 2 + (t : ℕ) < 2 then (0 : EReal) else UP m c ⟨2 + t - 2, by omega⟩ g) = UP m c t g := by
    rw [dif_neg (by omega)]
    exact congrArg (UP m c · g) (Fin.ext (by show 2 + (t : ℕ) - 2 = t; omega))
  unfold CV
  rw [e0, e1, e2]
  generalize sh m c 1 t g = p
  generalize sh m c 2 t g = q
  generalize UP m c t g = u
  ac_rfl
open Cert.ReferenceUpIdeal.Read in
theorem ref_up (c : Dev nD) : (val_main_v31 (F := Ideal) (H m c) (WU m c) : FVec Ideal S2x8192x6144 .bf16) = G8 m c := by
  funext j
  obtain ⟨s, t, f, rfl⟩ : ∃ (s : Fin 2) (t : Fin 8192) (f : Fin 6144), j = ix3 s t f := ⟨_, _, _, eq_ix3 j⟩
  show _ = UP m c t (col s f)
  pointwise [val_main_v31, val_main_v30, val_main_v29, val_main_v28]
  by_cases h : (s : ℕ) < 1
  · rw [dif_pos h, ref0]
    exact congrArg (UP m c t) (Fin.ext (by show (f : ℕ) = s * 6144 + f; omega))
  · rw [dif_neg h, ref0]
    exact congrArg (UP m c t) (Fin.ext (by show 6144 + (f : ℕ) = s * 6144 + f; omega))
open Cert.ReferenceUpIdeal.Read in
theorem ref_conv (c : Dev nD) : (val_main_v33 (F := Ideal) (H m c) (WU m c) (CW m c) (CB m c) : FVec Ideal S2x8192x6144 .bf16) = G9 m c := by
  funext j
  obtain ⟨s, t, f, rfl⟩ : ∃ (s : Fin 2) (t : Fin 8192) (f : Fin 6144), j = ix3 s t f := ⟨_, _, _, eq_ix3 j⟩
  show _ = CV m c t (col s f)
  pointwise [val_main_v33, val_main_v32, val_main_v26, val_main_v27]
  by_cases h : (s : ℕ) < 1
  · rw [dif_pos h, ref25]
    exact congrArg (CV m c t) (Fin.ext (by show (f : ℕ) = s * 6144 + f; omega))
  · rw [dif_neg h, ref25]
    exact congrArg (CV m c t) (Fin.ext (by show 6144 + (f : ℕ) = s * 6144 + f; omega))
open Cert.ReferenceUpIdeal.Read in
theorem ref_gate (c : Dev nD) : (val_main_v49 (F := Ideal) (H m c) (WU m c) (CW m c) (CB m c) : FVec Ideal S8192x6144 .bf16) = G10 m c := by
  funext j
  obtain ⟨t, f, rfl⟩ : ∃ (t : Fin 8192) (f : Fin 6144), j = ix2 t f := ⟨_, _, eq_ix2 j⟩
  show _ = gK (CV m c t (col 0 f)) * CV m c t (col 1 f)
  rw [gK_eq]
  unfold gR
  pointwise [val_main_v49, val_main_v48, val_main_v47, val_main_v46, val_main_v45, val_main_v44, val_main_v43, val_main_v42, val_main_v41,
    val_main_v40, val_main_v39, val_main_v38, val_main_v37, val_main_v36, val_main_v35, val_main_v34, val_main_v27, val_main_v26,
    val_main_cst_0, val_main_cst_1, val_main_cst_2, val_main_cst_3]
  rw [ref25, ref25, show (⟨f, by omega⟩ : Fin 12288) = col 0 f from Fin.ext (by show (f : ℕ) = 0 * 6144 + f; omega),
    show (⟨6144 + f, by omega⟩ : Fin 12288) = col 1 f from Fin.ext (by show 6144 + (f : ℕ) = 1 * 6144 + f; omega)]
theorem frame_p : Cert.quiescent_KernelUp := fun m ρ _ => Cert.KernelUp.Gen.frame m ρ
theorem frame_pi : Cert.quiescent_KernelUpIdeal := fun m ρ _ => Cert.KernelUpIdeal.Gen.frame m ρ
theorem frame_ri : Cert.quiescent_ReferenceUpIdeal := fun m ρ _ =>
  (θ_run Cert.ReferenceUpIdeal.defs _ _).mono (fun r h => ⟨fun c => (h c).2.2.2,
      Idealize.ShloMosaic.sem_eq_zero_of_no_sems (by decide) r.2⟩)
    (Cert.ReferenceUpIdeal.Value.run (F := Ideal) m ρ)
theorem algebraic : Cert.algebraic_KernelUpIdeal_ReferenceUpIdeal := by
  intro m ρ m' ρ' _ hagree
  refine ⟨_, _, _, Cert.KernelUpIdeal.Value.run_blocks (F := Ideal) m ρ, ?_⟩
  refine (θ_run Cert.ReferenceUpIdeal.defs _ _).mono (fun _ h c => ?_) (Cert.ReferenceUpIdeal.Value.run (F := Ideal) m' ρ')
  obtain ⟨a0, a1, a2, a3⟩ := hagree c
  obtain ⟨r0, r1, r2, k⟩ := h c
  refine ⟨(r0.trans (Cert.ReferenceUpIdeal.Read.val_main_v31_eq _ _)).trans ?_, (r1.trans (Cert.ReferenceUpIdeal.Read.val_main_v33_eq _ _)).trans ?_,
    (r2.trans (Cert.ReferenceUpIdeal.Read.val_main_v49_eq _ _)).trans ?_, k⟩
  · rw [a0, a1]
    exact (ref_up m c).trans (final8 m c).symm
  · rw [a0, a1, a2, a3]
    exact (ref_conv m c).trans (final9 m c).symm
  · rw [a0, a1, a2, a3]
    exact (ref_gate m c).trans (final10 m c).symm
end Cert.KernelUpIdeal.Val
-- ==== Proof.Loss.lean ====
/- The down projection with the loss: the product is summed over eight tiles of the inner axis, then the row tile's norm, its
   error, the loss and the gradients are formed; the loss and the gain's gradient are summed over the row tiles. -/
module
public import proofs.«01_k».proof.Defs
public import proofs.«01_k».proof.Proof.Gen.KernelLoss
public import proofs.«01_k».proof.Proof.Gen.KernelLoss.Frame
public import proofs.«01_k».proof.Proof.Gen.KernelLossIdeal
public import proofs.«01_k».proof.Proof.Gen.KernelLossIdeal.Frame
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Gen.ReferenceLossIdeal.Read
public import proofs.«01_k».proof.Proof.NormBack
public import proofs.«01_k».proof.Proof.Ix
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelLossIdeal.Val

open Cert.KernelLossIdeal Cert.KernelLossIdeal.Gen Idealize.ShloMosaic Idealize.ShloMosaic.TcCoe Idealize.SL.Sem
open Idealize.ShloMosaic.Pipeline (Dat)
open Cert.RmsNorm
open Cert.KernelIdeal.Val (Fin')

variable (m : (ℓ : Loc nD τ sig) → Buf (Elt Ideal) ℓ)

/-- The residual, the gated units, the down projection's weights, the final gain and the target. -/
abbrev X (c : Dev nD) : FVec Ideal S1x8192x2048 .f32 := m ((c : Thread nD τ).loc main_arg0)
abbrev FF (c : Dev nD) : FVec Ideal S1x8192x6144 .f32 := m ((c : Thread nD τ).loc main_arg1)
abbrev WD (c : Dev nD) : FVec Ideal S6144x2048 .f32 := m ((c : Thread nD τ).loc main_arg2)
abbrev GG (c : Dev nD) : FVec Ideal S2048 .f32 := m ((c : Thread nD τ).loc main_arg3)
abbrev TG (c : Dev nD) : FVec Ideal S1x8192x2048 .f32 := m ((c : Thread nD τ).loc main_arg4)

/-- Where each window's block lies: eight tiles of the inner axis within each row tile. -/
theorem idx : ∀ t : Fin cfg0.N, win0_0.index t = ![t.val / 8, 0] ∧ win0_1.index t = ![t.val / 8, t.val % 8]
    ∧ win0_2.index t = ![t.val % 8, 0] ∧ win0_3.index t = ![0, 0] ∧ win0_4.index t = ![t.val / 8, 0]
    ∧ win0_5.index t = ![t.val / 8, 0] ∧ win0_6.index t = ![t.val / 8, 0] ∧ win0_7.index t = ![0, 0] ∧ win0_8.index t = ![0, 0]
    ∧ t.val / 8 < 16 :=
  (by decide +kernel : ∀ t : Fin grid0.N, _)

theorem lt16 (t : Fin cfg0.N) : t.val / 8 < 16 := (idx t).2.2.2.2.2.2.2.2.2

abbrev row (t : Fin cfg0.N) (r : Fin 512) : Fin 8192 := ⟨t.val / 8 * 512 + r, by have := lt16 t; omega⟩
abbrev fcol (t : Fin cfg0.N) (f : Fin 768) : Fin 6144 := ⟨t.val % 8 * 768 + f, by omega⟩

theorem v0_apply (c : Dev nD) (t : Fin 8192) (k : Fin 2048) :
    (V m c main_v0 : FVec Ideal S8192x2048 .f32) (ix2 t k) = X m c (ix3 0 t k) := by
  entry_read
  pointwise

theorem v2_apply (c : Dev nD) (t : Fin 8192) (f : Fin 6144) :
    (V m c main_v2 : FVec Ideal S8192x6144 .bf16) (ix2 t f) = FF m c (ix3 0 t f) := by
  entry_read
  pointwise

theorem v3_apply (c : Dev nD) (f : Fin 6144) (k : Fin 2048) :
    (V m c main_v3 : FVec Ideal S6144x2048 .bf16) (ix2 f k) = WD m c (ix2 f k) := by
  entry_read
  pointwise

theorem v4_apply (c : Dev nD) (k : Fin 2048) :
    (V m c main_v4 : FVec Ideal S1x2048 .f32) (ix2 0 k) = GG m c (ix1 k) := by
  entry_read
  pointwise

theorem v5_apply (c : Dev nD) (t : Fin 8192) (k : Fin 2048) :
    (V m c main_v5 : FVec Ideal S8192x2048 .f32) (ix2 t k) = TG m c (ix3 0 t k) := by
  entry_read
  pointwise

theorem blk0 (c : Dev nD) (t : Fin cfg0.N) (r : Fin 512) (d : Fin 2048) :
    (iblk m c 0 t : Vec Ideal S512x2048 .f32) (ix2 r d) = X m c (ix3 0 (row t r) d) := by
  rw [← v0_apply m c]
  blk_ext [iblk, V, idx t]

theorem blk1 (c : Dev nD) (t : Fin cfg0.N) (r : Fin 512) (k : Fin 768) :
    (iblk m c 1 t : Vec Ideal S512x768 .bf16) (ix2 r k) = FF m c (ix3 0 (row t r) (fcol t k)) := by
  rw [← v2_apply m c]
  blk_ext [iblk, V, idx t]

theorem blk2 (c : Dev nD) (t : Fin cfg0.N) (k : Fin 768) (d : Fin 2048) :
    (iblk m c 2 t : Vec Ideal S768x2048 .bf16) (ix2 k d) = WD m c (ix2 (fcol t k) d) := by
  rw [← v3_apply m c]
  blk_ext [iblk, V, idx t]

theorem blk3 (c : Dev nD) (t : Fin cfg0.N) (u : Fin 1) (d : Fin 2048) :
    (iblk m c 3 t : Vec Ideal S1x2048 .f32) (ix2 u d) = GG m c (ix1 d) := by
  obtain rfl := Subsingleton.elim u 0
  rw [← v4_apply m c]
  blk_ext [iblk, V, idx t]

theorem blk4 (c : Dev nD) (t : Fin cfg0.N) (r : Fin 512) (d : Fin 2048) :
    (iblk m c 4 t : Vec Ideal S512x2048 .f32) (ix2 r d) = TG m c (ix3 0 (row t r) d) := by
  rw [← v5_apply m c]
  blk_ext [iblk, V, idx t]

/-- A half and the reciprocal of the row's length, as the programs write them. -/
abbrev HALF : EReal := Ideal.ofBits .f32 0x3F000000#32
abbrev RC : EReal := Ideal.ofBits .f32 0x3A000000#32

theorem half_val : HALF = ((1 / 2 : ℝ) : EReal) := by
  simp [Ideal.ofBits, Ideal.ieee, -EReal.coe_mul]; norm_num
theorem rc_val : RC = ((1 / 2048 : ℝ) : EReal) := by
  simp [Ideal.ofBits, Ideal.ieee, -EReal.coe_mul]; norm_num
theorem two_val : Ideal.ofBits .f32 0x40000000#32 = ((2 : ℝ) : EReal) := by
  simp [Ideal.ofBits, Ideal.ieee, -EReal.coe_mul]; norm_num

/-- The error of a row: the normed row times the gain less the target. -/
def err (h g t : Fin 2048 → EReal) (k : Fin 2048) : EReal := h k * rms h * g k - t k

/-- A row's mean square error. -/
def mse (h g t : Fin 2048 → EReal) : EReal := Ideal.div (∑ k, err h g t k * err h g t k) DM

theorem pay1_at (y : S8x128.Idx) : k0_pay1 (F := Ideal) y = 0 := by
  unfold k0_pay1
  pointwise

theorem pay2_at (y : S1x2048.Idx) : k0_pay2 (F := Ideal) y = 0 := by
  unfold k0_pay2
  pointwise

theorem pay3_at (y : S512x2048.Idx) : k0_pay3 (F := Ideal) y = 0 := by
  unfold k0_pay3
  pointwise

theorem pay4_at (x : FVec Ideal S512x2048 .f32) (a : FVec Ideal S512x768 .bf16) (b : FVec Ideal S768x2048 .bf16) (p : Fin 512) (q : Fin 2048) :
    k0_pay4 (F := Ideal) x a b (ix2 p q) = x (ix2 p q) + ∑ k : Fin 768, a (ix2 p k) * b (ix2 k q) := by
  unfold k0_pay4
  pointwise

theorem pay8_at (x a : FVec Ideal S512x2048 .f32) (p : Fin 512) (q : Fin 2048) :
    k0_pay8 (F := Ideal) x a (ix2 p q) = x (ix2 p q) + a (ix2 p q) := by
  unfold k0_pay8
  pointwise

theorem pay9_at (x a : FVec Ideal S512x2048 .f32) (p : Fin 512) (u : Fin 1) :
    k0_pay9 (F := Ideal) x a (ix2 p u) = rms fun k => x (ix2 p k) + a (ix2 p k) := by
  obtain rfl := Subsingleton.elim u 0
  unfold k0_pay9 rms ms
  pointwise
  simp only [pay8_at]

theorem pay11_at (x a : FVec Ideal S512x2048 .f32) (p : Fin 512) (q : Fin 2048) :
    k0_pay11 (F := Ideal) x a (ix2 p q) = (x (ix2 p q) + a (ix2 p q)) * rms fun k => x (ix2 p k) + a (ix2 p k) := by
  unfold k0_pay11
  pointwise
  rw [pay8_at, pay9_at]

theorem pay12_at (x a : FVec Ideal S512x2048 .f32) (g : FVec Ideal S1x2048 .f32) (t : FVec Ideal S512x2048 .f32) (p : Fin 512) (q : Fin 2048) :
    k0_pay12 (F := Ideal) x a g t (ix2 p q) = err (fun k => x (ix2 p k) + a (ix2 p k)) (fun k => g (ix2 0 k)) (fun k => t (ix2 p k)) q := by
  unfold k0_pay12 k0_pay10 err
  pointwise
  rw [pay11_at]

theorem pay13_at (x a : FVec Ideal S512x2048 .f32) (g : FVec Ideal S1x2048 .f32) (t : FVec Ideal S512x2048 .f32) (l : FVec Ideal S8x128 .f32) (p : Fin 8) (q : Fin 128) :
    k0_pay13 (F := Ideal) x a g t l (ix2 p q) = l (ix2 p q)
      + HALF * ∑ r : Fin 512, mse (fun k => x (ix2 r k) + a (ix2 r k)) (fun k => g (ix2 0 k)) (fun k => t (ix2 r k)) := by
  unfold k0_pay13 mse
  pointwise
  simp only [pay12_at, Finset.univ_unique, Finset.sum_singleton]

theorem pay14_at (x a : FVec Ideal S512x2048 .f32) (g : FVec Ideal S1x2048 .f32) (t : FVec Ideal S512x2048 .f32) (p : Fin 512) (q : Fin 2048) :
    k0_pay14 (F := Ideal) x a g t (ix2 p q) = err (fun k => x (ix2 p k) + a (ix2 p k)) (fun k => g (ix2 0 k)) (fun k => t (ix2 p k)) q * RC := by
  unfold k0_pay14
  pointwise
  rw [pay12_at]

theorem pay5_at (x a : FVec Ideal S512x2048 .f32) (g : FVec Ideal S1x2048 .f32) (t : FVec Ideal S512x2048 .f32) (d : FVec Ideal S1x2048 .f32) (u : Fin 1) (q : Fin 2048) :
    k0_pay5 (F := Ideal) (k0_pay11 x a) (k0_pay14 x a g t) d (ix2 u q) = d (ix2 u q)
      + ∑ r : Fin 512, (err (fun k => x (ix2 r k) + a (ix2 r k)) (fun k => g (ix2 0 k)) (fun k => t (ix2 r k)) q * RC)
        * ((x (ix2 r q) + a (ix2 r q)) * rms fun k => x (ix2 r k) + a (ix2 r k)) := by
  obtain rfl := Subsingleton.elim u 0
  unfold k0_pay5
  pointwise
  simp only [pay11_at, pay14_at]

theorem pay6_at (x a : FVec Ideal S512x2048 .f32) (g : FVec Ideal S1x2048 .f32) (t : FVec Ideal S512x2048 .f32) (p : Fin 512) (q : Fin 2048) :
    k0_pay6 (F := Ideal) (k0_pay9 x a) (k0_pay10 g) (k0_pay11 x a) (k0_pay14 x a g t) (ix2 p q)
      = back (fun k => x (ix2 p k) + a (ix2 p k))
        (fun k => err (fun k => x (ix2 p k) + a (ix2 p k)) (fun k => g (ix2 0 k)) (fun k => t (ix2 p k)) k * RC * g (ix2 0 k)) q := by
  unfold k0_pay6 k0_pay10 back
  pointwise
  simp only [pay9_at, pay11_at, pay14_at]

/-- What the scratch, the loss and the gain's gradient hold after a point. -/
abbrev acc (c : Dev nD) (n : ℕ) (h : n < cfg0.N) : FVec Ideal S512x2048 .f32 := (outsAt0 m c n h).2.2.2.2
abbrev dgs (c : Dev nD) (n : ℕ) (h : n < cfg0.N) : FVec Ideal S1x2048 .f32 := (outsAt0 m c n h).2.2.2.1
abbrev lss (c : Dev nD) (n : ℕ) (h : n < cfg0.N) : FVec Ideal S8x128 .f32 := (outsAt0 m c n h).2.2.1

theorem accA (c : Dev nD) (t : Fin cfg0.N) (h : t.val % 8 = 0) :
    acc m c t.val t.isLt = k0_pay4 (F := Ideal) (k0_pay3 (F := Ideal)) (iblk m c 1 t) (iblk m c 2 t) := by
  unfold acc
  by_cases h0 : t.val % 128 = 0
  · rw [outsAt0_A m c t h0 h (by omega)]
    dsimp only
    frame_out
  · rw [outsAt0_D m c t h0 h (by omega)]
    dsimp only
    frame_out

theorem accB (c : Dev nD) (t : Fin cfg0.N) (h : ¬ t.val % 8 = 0) :
    acc m c t.val t.isLt = k0_pay4 (F := Ideal) (acc m c (t.val - 1) (Nat.lt_of_le_of_lt (Nat.sub_le _ _) t.isLt)) (iblk m c 1 t) (iblk m c 2 t) := by
  unfold acc
  by_cases h0 : t.val % 8 = 7
  · rw [outsAt0_C m c t (by omega) h h0]
    dsimp only
    frame_out
    rw [read_unread_whole]
  · rw [outsAt0_B m c t (by omega) h h0]
    dsimp only
    frame_out
    rw [read_unread_whole]

theorem dgsA (c : Dev nD) (t : Fin cfg0.N) (h : t.val % 128 = 0) : dgs m c t.val t.isLt = k0_pay2 (F := Ideal) := by
  unfold dgs
  rw [outsAt0_A m c t h (by omega) (by omega)]
  dsimp only
  frame_out

theorem dgsB (c : Dev nD) (t : Fin cfg0.N) (h : ¬ t.val % 128 = 0) (h7 : ¬ t.val % 8 = 7) :
    dgs m c t.val t.isLt = dgs m c (t.val - 1) (Nat.lt_of_le_of_lt (Nat.sub_le _ _) t.isLt) := by
  unfold dgs
  by_cases h0 : t.val % 8 = 0
  · rw [outsAt0_D m c t h h0 h7]
    dsimp only
    unfold out0_D_8
    rfl
  · rw [outsAt0_B m c t h h0 h7]
    dsimp only
    unfold out0_B_8
    rfl

theorem lssA (c : Dev nD) (t : Fin cfg0.N) (h : t.val % 128 = 0) : lss m c t.val t.isLt = k0_pay1 (F := Ideal) := by
  unfold lss
  rw [outsAt0_A m c t h (by omega) (by omega)]
  dsimp only
  frame_out

theorem lssB (c : Dev nD) (t : Fin cfg0.N) (h : ¬ t.val % 128 = 0) (h7 : ¬ t.val % 8 = 7) :
    lss m c t.val t.isLt = lss m c (t.val - 1) (Nat.lt_of_le_of_lt (Nat.sub_le _ _) t.isLt) := by
  unfold lss
  by_cases h0 : t.val % 8 = 0
  · rw [outsAt0_D m c t h h0 h7]
    dsimp only
    unfold out0_D_7
    rfl
  · rw [outsAt0_B m c t h h0 h7]
    dsimp only
    unfold out0_B_7
    rfl

theorem dgsC (c : Dev nD) (t : Fin cfg0.N) (h7 : t.val % 8 = 7) :
    dgs m c t.val t.isLt = k0_pay5 (F := Ideal) (k0_pay11 (iblk m c 0 t) (acc m c t.val t.isLt)) (k0_pay14 (iblk m c 0 t) (acc m c t.val t.isLt) (iblk m c 3 t) (iblk m c 4 t)) (dgs m c (t.val - 1) (Nat.lt_of_le_of_lt (Nat.sub_le _ _) t.isLt)) := by
  rw [accB m c t (by omega)]
  unfold dgs acc
  rw [outsAt0_C m c t (by omega) (by omega) h7]
  dsimp only
  frame_out
  rw [read_unread_whole]

theorem lssC (c : Dev nD) (t : Fin cfg0.N) (h7 : t.val % 8 = 7) :
    lss m c t.val t.isLt = k0_pay13 (F := Ideal) (iblk m c 0 t) (acc m c t.val t.isLt) (iblk m c 3 t) (iblk m c 4 t) (lss m c (t.val - 1) (Nat.lt_of_le_of_lt (Nat.sub_le _ _) t.isLt)) := by
  rw [accB m c t (by omega)]
  unfold lss acc
  rw [outsAt0_C m c t (by omega) (by omega) h7]
  dsimp only
  frame_out
  rw [read_unread_whole]

theorem outC (c : Dev nD) (t : Fin cfg0.N) (h7 : t.val % 8 = 7) :
    (outsAt0 m c t.val t.isLt).1 = k0_pay6 (F := Ideal) (k0_pay9 (iblk m c 0 t) (acc m c t.val t.isLt)) (k0_pay10 (iblk m c 3 t)) (k0_pay11 (iblk m c 0 t) (acc m c t.val t.isLt)) (k0_pay14 (iblk m c 0 t) (acc m c t.val t.isLt) (iblk m c 3 t) (iblk m c 4 t)) := by
  rw [accB m c t (by omega)]
  unfold acc
  rw [outsAt0_C m c t (by omega) (by omega) h7]
  dsimp only
  frame_out
  rw [read_unread_whole]

theorem outbC (c : Dev nD) (t : Fin cfg0.N) (h7 : t.val % 8 = 7) :
    (outsAt0 m c t.val t.isLt).2.1 = k0_pay7 (F := Ideal) (k0_pay9 (iblk m c 0 t) (acc m c t.val t.isLt)) (k0_pay10 (iblk m c 3 t)) (k0_pay11 (iblk m c 0 t) (acc m c t.val t.isLt)) (k0_pay14 (iblk m c 0 t) (acc m c t.val t.isLt) (iblk m c 3 t) (iblk m c 4 t)) := by
  rw [accB m c t (by omega)]
  unfold acc
  rw [outsAt0_C m c t (by omega) (by omega) h7]
  dsimp only
  frame_out
  rw [read_unread_whole]

/-- The norm's operand: the residual with the gated units times the weights. -/
def H (c : Dev nD) (t : Fin 8192) (q : Fin 2048) : EReal := X m c (ix3 0 t q) + ∑ f : Fin 6144, FF m c (ix3 0 t f) * WD m c (ix2 f q)

/-- A row's error and mean square error. -/
abbrev E (c : Dev nD) (t : Fin 8192) (q : Fin 2048) : EReal := err (H m c t) (fun k => GG m c (ix1 k)) (fun k => TG m c (ix3 0 t k)) q
abbrev M (c : Dev nD) (t : Fin 8192) : EReal := mse (H m c t) (fun k => GG m c (ix1 k)) (fun k => TG m c (ix3 0 t k))

/-- One inner tile's part of the product. -/
def part (c : Dev nD) (t : Fin cfg0.N) (y : S512x2048.Idx) : EReal :=
  ∑ k : Fin 768, FF m c (ix3 0 (row t (y 0)) (fcol t k)) * WD m c (ix2 (fcol t k) (y 1))

theorem part_at (c : Dev nD) (t : Fin cfg0.N) (x : FVec Ideal S512x2048 .f32) (y) :
    k0_pay4 (F := Ideal) x (iblk m c 1 t) (iblk m c 2 t) y = x y + part m c t y := by
  obtain ⟨p, q, rfl⟩ : ∃ (p : Fin 512) (q : Fin 2048), y = ix2 p q := ⟨_, _, eq_ix2 y⟩
  refine (pay4_at _ _ _ _ _).trans ?_
  refine congrArg (_ + ·) (Finset.sum_congr rfl fun k _ => ?_)
  rw [blk1, blk2]
  rfl

theorem acc_last (c : Dev nD) (t : Fin cfg0.N) (h7 : t.val % 8 = 7) (p : Fin 512) (q : Fin 2048) :
    acc m c t.val t.isLt (ix2 p q) = ∑ f : Fin 6144, FF m c (ix3 0 (row t p) f) * WD m c (ix2 f q) := by
  rw [Pipeline.eq_sum_fin_of_reset_step_apply_of_flush (fun n h => acc m c n h) 8 (fun _ => (0 : EReal))
    (part m c) (fun t h y => by rw [accA m c t h, part_at, pay3_at]) (fun t h y => by rw [accB m c t h, part_at]) t h7 (ix2 p q), zero_add]
  unfold part
  refine Fin.sum_mul_add_congr fun s k hl => ?_
  refine congr (congrArg _ (congrArg (FF m c) ?_)) (congrArg (WD m c) ?_)
  · exact Ix.eq3 rfl (by show (8 * (t.val / 8) + s.val) / 8 * 512 + p.val = t.val / 8 * 512 + p.val; omega)
      (by show (8 * (t.val / 8) + s.val) % 8 * 768 + k.val = s.val * 768 + k.val; omega)
  · exact Ix.eq2 (by show (8 * (t.val / 8) + s.val) % 8 * 768 + k.val = s.val * 768 + k.val; omega) rfl

/-- What a row tile adds to the gain's gradient and to the loss. -/
def gpart (c : Dev nD) (i : Fin 16) (y : S1x2048.Idx) : EReal :=
  ∑ r : Fin 512, (E m c ⟨i.val * 512 + r.val, by omega⟩ (y 1) * RC)
    * (H m c ⟨i.val * 512 + r.val, by omega⟩ (y 1) * rms (H m c ⟨i.val * 512 + r.val, by omega⟩))
def lpart (c : Dev nD) (i : Fin 16) (y : S8x128.Idx) : EReal :=
  HALF * ∑ r : Fin 512, M m c ⟨i.val * 512 + r.val, by omega⟩

/-- The same by points: only the last tile of a row adds anything. -/
def tpart (c : Dev nD) (t : Fin cfg0.N) (y : S1x2048.Idx) : EReal :=
  if t.val % 8 = 7 then gpart m c ⟨t.val / 8, lt16 t⟩ y else 0

theorem dgs_stepA (c : Dev nD) (t : Fin cfg0.N) (h : t.val % 128 = 0) (y) :
    dgs m c t.val t.isLt y = (fun _ => (0 : EReal)) y + tpart m c t y := by
  rw [dgsA m c t h, pay2_at]
  unfold tpart
  rw [if_neg (by omega), zero_add]

theorem dgs_stepB (c : Dev nD) (t : Fin cfg0.N) (h : ¬ t.val % 128 = 0) (y) :
    dgs m c t.val t.isLt y = dgs m c (t.val - 1) (Nat.lt_of_le_of_lt (Nat.sub_le _ _) t.isLt) y + tpart m c t y := by
  unfold tpart
  by_cases h7 : t.val % 8 = 7
  · rw [dgsC m c t h7, if_pos h7]
    obtain ⟨u, q, rfl⟩ : ∃ (u : Fin 1) (q : Fin 2048), y = ix2 u q := ⟨_, _, eq_ix2 y⟩
    refine (pay5_at _ _ _ _ _ _ _).trans ?_
    refine congrArg (_ + ·) (Finset.sum_congr rfl fun r _ => ?_)
    simp only [acc_last m c t h7, blk0, blk3, blk4]
    rfl
  · rw [dgsB m c t h h7, if_neg h7, add_zero]

/-- The same by points: only the last tile of a row adds anything. -/
def spart (c : Dev nD) (t : Fin cfg0.N) (y : S8x128.Idx) : EReal :=
  if t.val % 8 = 7 then lpart m c ⟨t.val / 8, lt16 t⟩ y else 0

theorem lss_stepA (c : Dev nD) (t : Fin cfg0.N) (h : t.val % 128 = 0) (y) :
    lss m c t.val t.isLt y = (fun _ => (0 : EReal)) y + spart m c t y := by
  rw [lssA m c t h, pay1_at]
  unfold spart
  rw [if_neg (by omega), zero_add]

theorem lss_stepB (c : Dev nD) (t : Fin cfg0.N) (h : ¬ t.val % 128 = 0) (y) :
    lss m c t.val t.isLt y = lss m c (t.val - 1) (Nat.lt_of_le_of_lt (Nat.sub_le _ _) t.isLt) y + spart m c t y := by
  unfold spart
  by_cases h7 : t.val % 8 = 7
  · rw [lssC m c t h7, if_pos h7]
    obtain ⟨u, q, rfl⟩ : ∃ (u : Fin 8) (q : Fin 128), y = ix2 u q := ⟨_, _, eq_ix2 y⟩
    refine (pay13_at _ _ _ _ _ _ _).trans ?_
    simp only [acc_last m c t h7, blk0, blk3, blk4]
    rfl
  · rw [lssB m c t h h7, if_neg h7, add_zero]

/-- The gradients and the loss; the loss is summed by row tiles. -/
def G5' (c : Dev nD) (j : S8192x2048.Idx) : EReal :=
  back (H m c (j 0)) (fun k => E m c (j 0) k * RC * GG m c (ix1 k)) (j 1)

def G7' (c : Dev nD) (j : S8x128.Idx) : EReal := ∑ i : Fin 16, lpart m c i j

def G8' (c : Dev nD) (j : S1x2048.Idx) : EReal :=
  ∑ t : Fin 8192, (E m c t (j 1) * RC) * (H m c t (j 1) * rms (H m c t))

theorem emb5 (t : Fin cfg0.N) (p : Fin 512) (q : Fin 2048) :
    ((cfg0.win 5).blk t).view.emb (ix2 p q) = ix2 (row t p) q := by
  have e := idx t
  have h0 : ((((cfg0.win 5).blk t).view.emb (ix2 p q)) 0 : ℕ) = t.val / 8 * 512 + p := by blk_simp [e]
  have h1 : ((((cfg0.win 5).blk t).view.emb (ix2 p q)) 1 : ℕ) = q := by blk_simp [e]
  exact Ix.of2 _ _ _ h0 h1

theorem emb6 (t : Fin cfg0.N) (p : Fin 512) (q : Fin 2048) :
    ((cfg0.win 6).blk t).view.emb (ix2 p q) = ix2 (row t p) q := by
  have e := idx t
  have h0 : ((((cfg0.win 6).blk t).view.emb (ix2 p q)) 0 : ℕ) = t.val / 8 * 512 + p := by blk_simp [e]
  have h1 : ((((cfg0.win 6).blk t).view.emb (ix2 p q)) 1 : ℕ) = q := by blk_simp [e]
  exact Ix.of2 _ _ _ h0 h1

theorem emb7 (t : Fin cfg0.N) (p : Fin 8) (q : Fin 128) :
    ((cfg0.win 7).blk t).view.emb (ix2 p q) = ix2 p q := by
  have e := idx t
  have h0 : ((((cfg0.win 7).blk t).view.emb (ix2 p q)) 0 : ℕ) = p := by blk_simp [e]
  have h1 : ((((cfg0.win 7).blk t).view.emb (ix2 p q)) 1 : ℕ) = q := by blk_simp [e]
  exact Ix.of2 _ _ _ h0 h1

theorem emb8 (t : Fin cfg0.N) (p : Fin 1) (q : Fin 2048) :
    ((cfg0.win 8).blk t).view.emb (ix2 p q) = ix2 p q := by
  have e := idx t
  have h0 : ((((cfg0.win 8).blk t).view.emb (ix2 p q)) 0 : ℕ) = p := by blk_simp [e]
  have h1 : ((((cfg0.win 8).blk t).view.emb (ix2 p q)) 1 : ℕ) = q := by blk_simp [e]
  exact Ix.of2 _ _ _ h0 h1

theorem pay6_blk (c : Dev nD) (t : Fin cfg0.N) (h7 : t.val % 8 = 7) (p : Fin 512) (q : Fin 2048) :
    k0_pay6 (F := Ideal) (k0_pay9 (iblk m c 0 t) (acc m c t.val t.isLt)) (k0_pay10 (iblk m c 3 t)) (k0_pay11 (iblk m c 0 t) (acc m c t.val t.isLt)) (k0_pay14 (iblk m c 0 t) (acc m c t.val t.isLt) (iblk m c 3 t) (iblk m c 4 t)) (ix2 p q) = G5' m c (ix2 (row t p) q) := by
  refine (pay6_at _ _ _ _ _ _).trans ?_
  simp only [acc_last m c t h7, blk0, blk3, blk4]
  rfl

theorem fin5 (c : Dev nD) : (dats m 0 c).arrAt 5 (cfgs 0).N = G5' m c := by
  refine (dats m 0 c).arrAt_eq_of_covers 5 _ (by decide +kernel) fun t hf y => ?_
  blk_simp
  obtain ⟨p, q, rfl⟩ : ∃ (p : Fin 512) (q : Fin 2048), y = ix2 p q := ⟨_, _, eq_ix2 y⟩
  refine Eq.trans ?_ (congrArg (G5' m c) (emb5 t p q)).symm
  have h7 := (flush0_5 t).mp hf
  rw [after0_5, outC m c t h7]
  exact pay6_blk m c t h7 p q

theorem fin6 (c : Dev nD) : (dats m 0 c).arrAt 6 (cfgs 0).N = G5' m c := by
  refine (dats m 0 c).arrAt_eq_of_covers 6 _ (by decide +kernel) fun t hf y => ?_
  blk_simp
  obtain ⟨p, q, rfl⟩ : ∃ (p : Fin 512) (q : Fin 2048), y = ix2 p q := ⟨_, _, eq_ix2 y⟩
  refine Eq.trans ?_ (congrArg (G5' m c) (emb6 t p q)).symm
  have h7 := (flush0_6 t).mp hf
  rw [after0_6, outbC m c t h7]
  exact pay6_blk m c t h7 p q

theorem fin7 (c : Dev nD) : (dats m 0 c).arrAt 7 (cfgs 0).N = G7' m c := by
  refine (dats m 0 c).arrAt_eq_of_covers 7 _ (by decide +kernel) fun t hf y => ?_
  blk_simp
  obtain ⟨p, q, rfl⟩ : ∃ (p : Fin 8) (q : Fin 128), y = ix2 p q := ⟨_, _, eq_ix2 y⟩
  refine Eq.trans ?_ (congrArg (G7' m c) (emb7 t p q)).symm
  rw [after0_7, show (outsAt0 m c t.val t.isLt).2.2.1 = lss m c t.val t.isLt from rfl,
    Pipeline.eq_sum_fin_of_reset_step_apply_of_flush (fun n h => lss m c n h) 128 (fun _ => (0 : EReal))
    (spart m c) (lss_stepA m c) (lss_stepB m c) t ((flush0_7 t).mp hf) (ix2 p q), zero_add]
  have hb : ∀ s : Fin 128, spart m c ⟨128 * (t.val / 128) + s.val, Pipeline.run_point_lt_of_flush t ((flush0_7 t).mp hf) s⟩ (ix2 p q)
      = if s.val % 8 = 7 then lpart m c ⟨s.val / 8, by omega⟩ (ix2 p q) else 0 := fun s => by
    have ht : t.val < 128 := t.isLt
    have e : (⟨128 * (t.val / 128) + s.val, Pipeline.run_point_lt_of_flush t ((flush0_7 t).mp hf) s⟩ : Fin cfg0.N) = s := Fin.ext (by
      show 128 * (t.val / 128) + s.val = s.val; omega)
    rw [e]
    rfl
  rw [Finset.sum_congr rfl fun s _ => hb s]
  rw [← Fin.sum_mul_add_congr (S := 16) (n := 8) (L := 128) (F := fun i k => if k.val = 7 then lpart m c i (ix2 p q) else 0)
    (fun i k hl => by
      dsimp only
      have e1 : (i.val * 8 + k.val) % 8 = k.val := by omega
      have e2 : (i.val * 8 + k.val) / 8 = i.val := by omega
      simp only [e1, e2])]
  rw [Finset.sum_congr rfl fun (i : Fin 16) _ => show (∑ k : Fin 8, if k.val = 7 then lpart m c i (ix2 p q) else 0) = lpart m c i (ix2 p q) from by
    exact (Finset.sum_eq_single (7 : Fin 8) (fun b _ hb => if_neg fun h => hb (Fin.ext h)) (fun h => absurd (Finset.mem_univ _) h)).trans (if_pos rfl)]
  rfl

theorem fin8 (c : Dev nD) : (dats m 0 c).arrAt 8 (cfgs 0).N = G8' m c := by
  refine (dats m 0 c).arrAt_eq_of_covers 8 _ (by decide +kernel) fun t hf y => ?_
  blk_simp
  obtain ⟨p, q, rfl⟩ : ∃ (p : Fin 1) (q : Fin 2048), y = ix2 p q := ⟨_, _, eq_ix2 y⟩
  refine Eq.trans ?_ (congrArg (G8' m c) (emb8 t p q)).symm
  rw [after0_8, show (outsAt0 m c t.val t.isLt).2.2.2.1 = dgs m c t.val t.isLt from rfl,
    Pipeline.eq_sum_fin_of_reset_step_apply_of_flush (fun n h => dgs m c n h) 128 (fun _ => (0 : EReal))
    (tpart m c) (dgs_stepA m c) (dgs_stepB m c) t ((flush0_8 t).mp hf) (ix2 p q), zero_add]
  have hb : ∀ s : Fin 128, tpart m c ⟨128 * (t.val / 128) + s.val, Pipeline.run_point_lt_of_flush t ((flush0_8 t).mp hf) s⟩ (ix2 p q)
      = if s.val % 8 = 7 then gpart m c ⟨s.val / 8, by omega⟩ (ix2 p q) else 0 := fun s => by
    have ht : t.val < 128 := t.isLt
    have e : (⟨128 * (t.val / 128) + s.val, Pipeline.run_point_lt_of_flush t ((flush0_8 t).mp hf) s⟩ : Fin cfg0.N) = s := Fin.ext (by
      show 128 * (t.val / 128) + s.val = s.val; omega)
    rw [e]
    rfl
  rw [Finset.sum_congr rfl fun s _ => hb s]
  rw [← Fin.sum_mul_add_congr (S := 16) (n := 8) (L := 128) (F := fun i k => if k.val = 7 then gpart m c i (ix2 p q) else 0)
    (fun i k hl => by
      dsimp only
      have e1 : (i.val * 8 + k.val) % 8 = k.val := by omega
      have e2 : (i.val * 8 + k.val) / 8 = i.val := by omega
      simp only [e1, e2])]
  rw [Finset.sum_congr rfl fun (i : Fin 16) _ => show (∑ k : Fin 8, if k.val = 7 then gpart m c i (ix2 p q) else 0) = gpart m c i (ix2 p q) from by
    exact (Finset.sum_eq_single (7 : Fin 8) (fun b _ hb => if_neg fun h => hb (Fin.ext h)) (fun h => absurd (Finset.mem_univ _) h)).trans (if_pos rfl)]
  unfold gpart G8'
  exact Fin.sum_mul_add_congr fun s k hl => rfl

theorem div_half_two {e : EReal} (he : Fin' e) :
    Ideal.div (HALF * Ideal.ofBits .f32 0x3F800000#32) DM * (Ideal.ofBits .f32 0x40000000#32 * e) = e * RC := by
  obtain ⟨e, rfl⟩ := he
  rw [half_val, two_val, rc_val, dm_val, Ideal.ofBits_one_f32, mul_one, Ideal.div_coe (by norm_num)]
  simp only [← EReal.coe_mul]
  exact congrArg _ (by ring)

open Cert.ReferenceLossIdeal.Read in
theorem ref1 (c : Dev nD) (u : Fin 1) (t : Fin 8192) (q : Fin 2048) :
    (val_main_v1 (F := Ideal) (X m c) (FF m c) (WD m c) : FVec Ideal S1x8192x2048 .f32) (ix3 u t q) = H m c t q := by
  obtain rfl := Subsingleton.elim u 0
  unfold H
  pointwise [val_main_v1, val_main_v0]

open Cert.ReferenceLossIdeal.Read in
theorem ref9 (c : Dev nD) (u : Fin 1) (t : Fin 8192) (v : Fin 1) :
    (val_main_v9 (F := Ideal) (X m c) (FF m c) (WD m c) : FVec Ideal Cert.ReferenceLossIdeal.S1x8192x1 .f32) (ix3 u t v) = rms (H m c t) := by
  obtain rfl := Subsingleton.elim u 0
  obtain rfl := Subsingleton.elim v 0
  unfold rms ms
  pointwise [val_main_v9, val_main_v8, val_main_v7, val_main_v6, val_main_v5, val_main_v4, val_main_v3, val_main_v2,
    val_main_cst, val_main_cst_0, val_main_cst_1]
  simp only [ref1]

open Cert.ReferenceLossIdeal.Read in
theorem ref18 (c : Dev nD) (u : Fin 1) (t : Fin 8192) (q : Fin 2048) :
    (val_main_v18 (F := Ideal) (X m c) (FF m c) (WD m c) (GG m c) (TG m c) : FVec Ideal S1x8192x2048 .f32) (ix3 u t q) = E m c t q := by
  obtain rfl := Subsingleton.elim u 0
  unfold E err
  pointwise [val_main_v18, val_main_v17, val_main_v16, val_main_v15, val_main_v14, val_main_v13]
  rw [ref1, ref9]

open Cert.ReferenceLossIdeal.Read in
theorem ref24 (c : Dev nD) (u : Fin 1) (t : Fin 8192) :
    (val_main_v24 (F := Ideal) (X m c) (FF m c) (WD m c) (GG m c) (TG m c) : FVec Ideal Cert.ReferenceLossIdeal.S1x8192 .f32) (ix2 u t) = M m c t := by
  obtain rfl := Subsingleton.elim u 0
  unfold M mse
  pointwise [val_main_v24, val_main_v23, val_main_v22, val_main_v19, val_main_cst_4, val_main_cst_5]
  simp only [ref18]

open Cert.ReferenceLossIdeal.Read in
theorem ref_loss (c : Dev nD) (p : Fin 8) (q : Fin 128) :
    (val_main_v57 (F := Ideal) (X m c) (FF m c) (WD m c) (GG m c) (TG m c) : FVec Ideal S8x128 .f32) (ix2 p q) = HALF * ∑ t : Fin 8192, M m c t := by
  pointwise [val_main_v57, val_main_v26, val_main_v25, val_main_cst_6, val_main_cst_7]
  simp only [ref24, Finset.univ_unique, Finset.sum_singleton]

open Cert.ReferenceLossIdeal.Read in
theorem ref32 (c : Dev nD) (u : Fin 1) (t : Fin 8192) (q : Fin 2048) :
    (val_main_v32 (F := Ideal) (X m c) (FF m c) (WD m c) (GG m c) (TG m c) : FVec Ideal S1x8192x2048 .f32) (ix3 u t q)
      = Ideal.div (HALF * Ideal.ofBits .f32 0x3F800000#32) DM * (Ideal.ofBits .f32 0x40000000#32 * E m c t q) := by
  obtain rfl := Subsingleton.elim u 0
  pointwise [val_main_v32, val_main_v31, val_main_v30, val_main_v29, val_main_v28, val_main_v27, val_main_v21, val_main_v20,
    val_main_cst_3, val_main_cst_8, val_main_cst_9, val_main_cst_10]
  rw [ref18]

open Cert.ReferenceLossIdeal.Read in
theorem ref_dg (c : Dev nD) (u : Fin 1) (q : Fin 2048) (hE : ∀ t k, Fin' (E m c t k)) :
    (val_main_v58 (F := Ideal) (X m c) (FF m c) (WD m c) (GG m c) (TG m c) : FVec Ideal S1x2048 .f32) (ix2 u q) = G8' m c (ix2 u q) := by
  obtain rfl := Subsingleton.elim u 0
  unfold G8'
  pointwise [val_main_v58, val_main_v38]
  rw [red_first]
  pointwise [val_main_cst_12, val_main_cst_11, val_main_v35, val_main_v34, val_main_v33, val_main_v14, val_main_v13]
  simp only [ref32, ref1, ref9, div_half_two (hE _ _)]
  exact Finset.sum_congr rfl fun x _ => mul_comm _ _

open Cert.ReferenceLossIdeal.Read in
theorem ref37 (c : Dev nD) (u : Fin 1) (t : Fin 8192) (q : Fin 2048) (hE : ∀ t k, Fin' (E m c t k)) :
    (val_main_v37 (F := Ideal) (X m c) (FF m c) (WD m c) (GG m c) (TG m c) : FVec Ideal S1x8192x2048 .f32) (ix3 u t q)
      = E m c t q * RC * GG m c (ix1 q) := by
  obtain rfl := Subsingleton.elim u 0
  pointwise [val_main_v37, val_main_v36, val_main_v15]
  rw [ref32, div_half_two (hE _ _)]

open Cert.ReferenceLossIdeal.Read in
theorem ref_tail (c : Dev nD) (u : Fin 1) (t : Fin 8192) (q : Fin 2048) (hE : ∀ t k, Fin' (E m c t k)) :
    (val_main_v49 (F := Ideal) (X m c) (FF m c) (WD m c) (GG m c) (TG m c) : FVec Ideal S1x8192x2048 .f32) (ix3 u t q)
      = tail (H m c t) (fun k => E m c t k * RC * GG m c (ix1 k)) := by
  obtain rfl := Subsingleton.elim u 0
  unfold tail ms
  pointwise [val_main_v49, val_main_v48, val_main_v47]
  rw [red_outer]
  pointwise [val_main_cst_15, val_main_cst_14, val_main_cst_13, val_main_cst_2, val_main_cst_1, val_main_cst_0, val_main_cst, val_main_v46, val_main_v45, val_main_v44,
    val_main_v41, val_main_v40, val_main_v39, val_main_v12, val_main_v11, val_main_v10, val_main_v8, val_main_v7, val_main_v6, val_main_v5, val_main_v4,
    val_main_v3, val_main_v2]
  simp only [ref1, ref9, ref37 m c _ _ _ hE]

open Cert.ReferenceLossIdeal.Read in
theorem ref_dx (c : Dev nD) (t : Fin 8192) (q : Fin 2048) (hE : ∀ t k, Fin' (E m c t k)) :
    (val_main_v54 (F := Ideal) (X m c) (FF m c) (WD m c) (GG m c) (TG m c) : FVec Ideal S8192x2048 .f32) (ix2 t q)
      = (E m c t q * RC * GG m c (ix1 q)) * rms (H m c t)
        + H m c t q * tail (H m c t) (fun k => E m c t k * RC * GG m c (ix1 k))
        + tail (H m c t) (fun k => E m c t k * RC * GG m c (ix1 k)) * H m c t q := by
  pointwise [val_main_v54, val_main_v53, val_main_v52, val_main_v51, val_main_v50, val_main_v43, val_main_v42]
  simp only [ref1, ref9, ref37 m c _ _ _ hE, ref_tail m c _ _ _ hE]

/-- The side conditions of the precondition's operations. -/
instance facts_pre : Cert.Pre_finite_loss.Facts where
  bcast_S_S1x8192x2048 := by decide
  reducesTo_S1x8192x2048_S_d0_1_2 := by decide
  h_S_ := by decide
  bcast_S_S1x8192x6144 := by decide
  reducesTo_S1x8192x6144_S_d0_1_2 := by decide
  bcast_S_S6144x2048 := by decide
  reducesTo_S6144x2048_S_d0_1 := by decide
  bcast_S_S2048 := by decide
  reducesTo_S2048_S_d0 := by decide

instance : Subsingleton Cert.Pre_finite_loss.S_.Idx := ⟨fun i j => funext fun a => a.elim0⟩

/-- The precondition says that every argument is finite. -/
theorem finite_of_pre (x0 : FVec Ideal S1x8192x2048 .f32) (x1 : FVec Ideal S1x8192x6144 .f32)
    (x2 : FVec Ideal S6144x2048 .f32) (x3 : FVec Ideal S2048 .f32)
    (x4 : FVec Ideal S1x8192x2048 .f32) (h : Cert.Pre_finite_loss.fn (F := Ideal) x0 x1 x2 x3 x4 = fun _ => 1#1) :
    (∀ i, Fin' (x0 i)) ∧ (∀ i, Fin' (x1 i)) ∧ (∀ i, Fin' (x2 i)) ∧ (∀ i, Fin' (x3 i)) ∧ (∀ i, Fin' (x4 i)) := by
  have h := congrFun h ix0
  unfold Cert.Pre_finite_loss.fn Cert.Pre_finite_loss.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => fin_of_olt _ (Host.reduce_andi_all _ _ _ _ _ h0 i), fun i => fin_of_olt _ (Host.reduce_andi_all _ _ _ _ _ h1 i),
    fun i => fin_of_olt _ (Host.reduce_andi_all _ _ _ _ _ h2 i), fun i => fin_of_olt _ (Host.reduce_andi_all _ _ _ _ _ h3 i),
    fun i => fin_of_olt _ (Host.reduce_andi_all _ _ _ _ _ h4 i)⟩

/-- Every argument finite. -/
abbrev AllFin (c : Dev nD) : Prop :=
  (∀ i, Fin' (X m c i)) ∧ (∀ i, Fin' (FF m c i)) ∧ (∀ i, Fin' (WD m c i)) ∧ (∀ i, Fin' (GG m c i)) ∧ (∀ i, Fin' (TG m c i))

theorem Fin'.sub {a b : EReal} (ha : Fin' a) (hb : Fin' b) : Fin' (a - b) := by
  obtain ⟨a, rfl⟩ := ha
  obtain ⟨b, rfl⟩ := hb
  exact ⟨a - b, (EReal.coe_sub a b).symm⟩

theorem H_fin (c : Dev nD) (A : AllFin m c) (t : Fin 8192) (q : Fin 2048) : Fin' (H m c t q) :=
  (A.1 _).add (Fin'.sum (fun f : Fin 6144 => FF m c (ix3 0 t f) * WD m c (ix2 f q)) fun f => (A.2.1 _).mul (A.2.2.1 _))

theorem E_fin (c : Dev nD) (A : AllFin m c) (t : Fin 8192) (q : Fin 2048) : Fin' (E m c t q) :=
  Fin'.sub (((H_fin m c A t q).mul (rms_fin (H_fin m c A t))).mul (A.2.2.2.1 _)) (A.2.2.2.2 _)

theorem M_fin (c : Dev nD) (A : AllFin m c) (t : Fin 8192) : Fin' (M m c t) := by
  obtain ⟨r, hr⟩ := Fin'.sum (fun k : Fin 2048 => E m c t k * E m c t k) fun k => (E_fin m c A t k).mul (E_fin m c A t k)
  unfold M mse
  rw [show (∑ k, err (H m c t) (fun k => GG m c (ix1 k)) (fun k => TG m c (ix3 0 t k)) k
    * err (H m c t) (fun k => GG m c (ix1 k)) (fun k => TG m c (ix3 0 t k)) k) = (r : EReal) from hr, dm_val, Ideal.div_coe (by norm_num), ← EReal.coe_mul]
  exact ⟨_, rfl⟩

theorem G5_eq (c : Dev nD) (A : AllFin m c) :
    (Cert.ReferenceLossIdeal.Read.val_main_v54 (F := Ideal) (X m c) (FF m c) (WD m c) (GG m c) (TG m c) : FVec Ideal S8192x2048 .f32) = G5' m c := by
  funext j
  obtain ⟨t, q, rfl⟩ : ∃ (t : Fin 8192) (q : Fin 2048), j = ix2 t q := ⟨_, _, eq_ix2 j⟩
  rw [ref_dx m c t q (E_fin m c A)]
  have h := back_eq (x := H m c t) (d := fun k => E m c t k * RC * GG m c (ix1 k)) (e := 0) (H_fin m c A t)
    (fun k => ((E_fin m c A t k).mul ⟨_, rc_val⟩).mul (A.2.2.2.1 _)) Fin'.zero q
  rw [zero_add, zero_add] at h
  exact h.symm

theorem G7_eq (c : Dev nD) (A : AllFin m c) :
    (Cert.ReferenceLossIdeal.Read.val_main_v57 (F := Ideal) (X m c) (FF m c) (WD m c) (GG m c) (TG m c) : FVec Ideal S8x128 .f32) = G7' m c := by
  funext j
  obtain ⟨p, q, rfl⟩ : ∃ (p : Fin 8) (q : Fin 128), j = ix2 p q := ⟨_, _, eq_ix2 j⟩
  rw [ref_loss m c p q]
  unfold G7' lpart
  obtain ⟨r, hr⟩ := lift (M_fin m c A)
  have hM : ∀ t, M m c t = (r t : EReal) := fun t => congrFun hr t
  simp only [hM, half_val, coe_sum, ← EReal.coe_mul]
  refine congrArg _ ?_
  rw [← Finset.mul_sum]
  exact congrArg _ (Fin.sum_mul_add_congr fun s k hl => rfl).symm

theorem frame_p : Cert.quiescent_KernelLoss := fun m ρ _ => Cert.KernelLoss.Gen.frame m ρ
theorem frame_pi : Cert.quiescent_KernelLossIdeal := fun m ρ _ => Cert.KernelLossIdeal.Gen.frame m ρ
theorem frame_pi_pre : Cert.quiescent_KernelLossIdeal_pre_finite_loss := fun m ρ _ => Cert.KernelLossIdeal.Gen.frame m ρ
theorem frame_ri : Cert.quiescent_ReferenceLossIdeal := fun m ρ _ =>
  (θ_run Cert.ReferenceLossIdeal.defs _ _).mono (fun r h => ⟨fun c => (h c).2.2.2.2,
      Idealize.ShloMosaic.sem_eq_zero_of_no_sems (by decide) r.2⟩)
    (Cert.ReferenceLossIdeal.Value.run (F := Ideal) m ρ)
theorem frame_ri_pre : Cert.quiescent_ReferenceLossIdeal_pre_finite_loss := fun m ρ _ => frame_ri m ρ trivial

theorem algebraic : Cert.algebraic_KernelLossIdeal_ReferenceLossIdeal_pre_finite_loss := by
  intro m ρ m' ρ' hpre hagree
  refine ⟨_, _, _, _, Cert.KernelLossIdeal.Value.run_blocks (F := Ideal) m ρ, ?_⟩
  refine (θ_run Cert.ReferenceLossIdeal.defs _ _).mono (fun _ h c => ?_) (Cert.ReferenceLossIdeal.Value.run (F := Ideal) m' ρ')
  have A : AllFin m c := finite_of_pre _ _ _ _ _ (hpre c)
  obtain ⟨a0, a1, a2, a3, a4⟩ := hagree c
  obtain ⟨r0, r1, r2, r3, k⟩ := h c
  refine ⟨(r0.trans (Cert.ReferenceLossIdeal.Read.val_main_v54_eq _ _)).trans ?_, (r1.trans (Cert.ReferenceLossIdeal.Read.val_main_v56_eq _ _)).trans ?_,
    (r2.trans (Cert.ReferenceLossIdeal.Read.val_main_v57_eq _ _ _ _ _)).trans ?_, (r3.trans (Cert.ReferenceLossIdeal.Read.val_main_v58_eq _ _ _ _ _)).trans ?_, k⟩
  · rw [a0, a1, a2, a3, a4]
    exact (G5_eq m c A).trans (fin5 m c).symm
  · rw [a0, a1, a2, a3, a4]
    exact (G5_eq m c A).trans (fin6 m c).symm
  · rw [a0, a1, a2, a3, a4]
    exact (G7_eq m c A).trans (fin7 m c).symm
  · rw [a0, a1, a2, a3, a4]
    refine Eq.trans (funext fun j => ?_) (fin8 m c).symm
    obtain ⟨u, q, rfl⟩ : ∃ (u : Fin 1) (q : Fin 2048), j = ix2 u q := ⟨_, _, eq_ix2 j⟩
    exact ref_dg m c u q (E_fin m c A)
end Cert.KernelLossIdeal.Val
-- ==== Proof.Out.lean ====
/- The output projection and the residual: a row tile of the product with the weights is added to the rows it belongs to. -/
module
public import proofs.«01_k».proof.Defs
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Ix
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelOutIdeal.Val

open Cert.KernelOutIdeal Cert.KernelOutIdeal.Gen Idealize.ShloMosaic Idealize.ShloMosaic.TcCoe Idealize.SL.Sem
open Idealize.ShloMosaic.Pipeline (Dat)

variable (m : (ℓ : Loc nD τ sig) → Buf (Elt Ideal) ℓ)

/-- The residual, the projection's input and its weights. -/
abbrev X (c : Dev nD) : FVec Ideal S1x8192x2048 .f32 := m ((c : Thread nD τ).loc main_arg0)
abbrev Y (c : Dev nD) : FVec Ideal S1x8192x2048 .f32 := m ((c : Thread nD τ).loc main_arg1)
abbrev WO (c : Dev nD) : FVec Ideal S2048x2048 .f32 := m ((c : Thread nD τ).loc main_arg2)

/-- Where each window's block lies. -/
theorem idx : ∀ t : Fin cfg0.N, win0_0.index t = ![t.val, 0] ∧ win0_1.index t = ![t.val, 0] ∧ win0_2.index t = ![0, 0]
    ∧ win0_3.index t = ![t.val, 0] ∧ t.val < 16 :=
  (by decide +kernel : ∀ t : Fin grid0.N, _)

abbrev row (t : Fin cfg0.N) (r : Fin 512) : Fin 8192 := ⟨t.val * 512 + r, by have := (idx t).2.2.2.2; omega⟩

theorem v0_apply (c : Dev nD) (t : Fin 8192) (k : Fin 2048) :
    (V m c main_v0 : FVec Ideal S8192x2048 .f32) (ix2 t k) = X m c (ix3 0 t k) := by
  entry_read
  pointwise

theorem v2_apply (c : Dev nD) (t : Fin 8192) (k : Fin 2048) :
    (V m c main_v2 : FVec Ideal S8192x2048 .bf16) (ix2 t k) = Y m c (ix3 0 t k) := by
  entry_read
  pointwise

theorem v3_apply (c : Dev nD) (t : Fin 2048) (k : Fin 2048) :
    (V m c main_v3 : FVec Ideal S2048x2048 .bf16) (ix2 t k) = WO m c (ix2 t k) := by
  entry_read
  pointwise

theorem blk0 (c : Dev nD) (t : Fin cfg0.N) (r : Fin 512) (k : Fin 2048) :
    (iblk m c 0 t : Vec Ideal S512x2048 .f32) (ix2 r k) = X m c (ix3 0 (row t r) k) := by
  rw [← v0_apply m c]
  blk_ext [iblk, V, idx t]

theorem blk1 (c : Dev nD) (t : Fin cfg0.N) (r : Fin 512) (k : Fin 2048) :
    (iblk m c 1 t : Vec Ideal S512x2048 .bf16) (ix2 r k) = Y m c (ix3 0 (row t r) k) := by
  rw [← v2_apply m c]
  blk_ext [iblk, V, idx t]

theorem blk2 (c : Dev nD) (t : Fin cfg0.N) (r : Fin 2048) (k : Fin 2048) :
    (iblk m c 2 t : Vec Ideal S2048x2048 .bf16) (ix2 r k) = WO m c (ix2 r k) := by
  rw [← v3_apply m c]
  blk_ext [iblk, V, idx t]

theorem pay1_at (x : FVec Ideal S512x2048 .f32) (a : FVec Ideal S512x2048 .bf16) (b : FVec Ideal S2048x2048 .bf16) (p : Fin 512) (q : Fin 2048) :
    k0_pay1 (F := Ideal) x a b (ix2 p q) = x (ix2 p q) + ∑ k : Fin 2048, a (ix2 p k) * b (ix2 k q) := by
  unfold k0_pay1
  pointwise

/-- The residual plus the product. -/
def G (c : Dev nD) (j : S8192x2048.Idx) : EReal :=
  X m c (ix3 0 (j 0) (j 1)) + ∑ k : Fin 2048, Y m c (ix3 0 (j 0) k) * WO m c (ix2 k (j 1))

theorem emb (t : Fin cfg0.N) (p : Fin 512) (q : Fin 2048) :
    (((cfg0.win 3).blk t).view.emb (ix2 p q) : S8192x2048.Idx) = ix2 (row t p) q := by
  have e := idx t
  have h0 : ((((cfg0.win 3).blk t).view.emb (ix2 p q)) 0 : ℕ) = t.val * 512 + p := by blk_simp [e]
  have h1 : ((((cfg0.win 3).blk t).view.emb (ix2 p q)) 1 : ℕ) = q := by blk_simp [e]
  exact Ix.of2 _ _ _ h0 h1

theorem final3 (c : Dev nD) : (dats m 0 c).arrAt 3 (cfgs 0).N = G m c := by
  refine (dats m 0 c).arrAt_eq_of_covers 3 _ (by decide +kernel) fun t hf y => ?_
  blk_simp
  rw [after0_3]
  obtain ⟨p, q, rfl⟩ : ∃ (p : Fin 512) (q : Fin 2048), y = ix2 p q := ⟨_, _, eq_ix2 y⟩
  refine Eq.trans ?_ (congrArg (G m c) (emb t p q)).symm
  frame_out
  refine (pay1_at _ _ _ _ _).trans ?_
  simp only [blk0, blk1, blk2]
  rfl

open Cert.ReferenceOutIdeal.Read in
theorem ref_eq (c : Dev nD) :
    (val_main_v2 (F := Ideal) (X m c) (Y m c) (WO m c) : FVec Ideal S8192x2048 .f32) = G m c := by
  funext j
  obtain ⟨p, q, rfl⟩ : ∃ (p : Fin 8192) (q : Fin 2048), j = ix2 p q := ⟨_, _, eq_ix2 j⟩
  unfold G
  pointwise [val_main_v2, val_main_v1, val_main_v0]

theorem frame_p : Cert.quiescent_KernelOut := fun m ρ _ => Cert.KernelOut.Gen.frame m ρ
theorem frame_pi : Cert.quiescent_KernelOutIdeal := fun m ρ _ => Cert.KernelOutIdeal.Gen.frame m ρ
theorem frame_ri : Cert.quiescent_ReferenceOutIdeal := fun m ρ _ =>
  (θ_run Cert.ReferenceOutIdeal.defs _ _).mono (fun r h => ⟨fun c => (h c).2,
      Idealize.ShloMosaic.sem_eq_zero_of_no_sems (by decide) r.2⟩)
    (Cert.ReferenceOutIdeal.Value.run (F := Ideal) m ρ)

theorem algebraic : Cert.algebraic_KernelOutIdeal_ReferenceOutIdeal := by
  intro m ρ m' ρ' hpre hagree
  refine ⟨_, Cert.KernelOutIdeal.Value.run_blocks (F := Ideal) m ρ, ?_⟩
  refine (θ_run Cert.ReferenceOutIdeal.defs _ _).mono (fun _ h c => ?_) (Cert.ReferenceOutIdeal.Value.run (F := Ideal) m' ρ')
  obtain ⟨a0, a1, a2⟩ := hagree c
  obtain ⟨r0, k⟩ := h c
  refine ⟨(r0.trans (Cert.ReferenceOutIdeal.Read.val_main_v2_eq _ _ _)).trans ?_, k⟩
  rw [a0, a1, a2]
  exact (ref_eq m c).trans (final3 m c).symm
end Cert.KernelOutIdeal.Val
-- ==== Proof.Norm.lean ====
/- The norm before each part of the layer: every row over the root of its mean square, times the gain. -/
module
public import proofs.«01_k».proof.Defs
public import proofs.«01_k».proof.Proof.Gen.KernelNorm
public import proofs.«01_k».proof.Proof.Gen.KernelNorm.Frame
public import proofs.«01_k».proof.Proof.Gen.KernelNormIdeal
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.ReferenceNormIdeal.Read
public import proofs.«01_k».proof.Proof.NormBack
public import proofs.«01_k».proof.Proof.Ix
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelNormIdeal.Val

open Cert.KernelNormIdeal Cert.KernelNormIdeal.Gen Idealize.ShloMosaic Idealize.ShloMosaic.TcCoe Idealize.SL.Sem
open Idealize.ShloMosaic.Pipeline (Dat)
open Cert.RmsNorm
open Cert.KernelIdeal.Val (Fin')

variable (m : (ℓ : Loc nD τ sig) → Buf (Elt Ideal) ℓ)

/-- The rows and the gain. -/
abbrev X (c : Dev nD) : FVec Ideal S1x8192x2048 .f32 := m ((c : Thread nD τ).loc main_arg0)
abbrev NG (c : Dev nD) : FVec Ideal S1x2048 .f32 := m ((c : Thread nD τ).loc main_arg1)

/-- Where each window's block lies. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

abbrev row (t : Fin cfg0.N) (r : Fin 512) : Fin 8192 := ⟨t.val * 512 + r, by have := (idx t).2.2.2; omega⟩

theorem v0_apply (c : Dev nD) (t : Fin 8192) (k : Fin 2048) :
    (V m c main_v0 : FVec Ideal S8192x2048 .f32) (ix2 t k) = X m c (ix3 0 t k) := by
  entry_read
  pointwise

theorem blk0 (c : Dev nD) (t : Fin cfg0.N) (r : Fin 512) (k : Fin 2048) :
    (iblk m c 0 t : Vec Ideal S512x2048 .f32) (ix2 r k) = X m c (ix3 0 (row t r) k) := by
  rw [← v0_apply m c]
  blk_ext [iblk, V, idx t]

theorem blk1 (c : Dev nD) (t : Fin cfg0.N) (u : Fin 1) (k : Fin 2048) :
    (iblk m c 1 t : Vec Ideal S1x2048 .f32) (ix2 u k) = NG m c (ix2 0 k) := by
  obtain rfl := Subsingleton.elim u 0
  blk_ext [iblk, V, idx t]

theorem pay1_at (x : FVec Ideal S512x2048 .f32) (g : FVec Ideal S1x2048 .f32) (p : Fin 512) (q : Fin 2048) :
    k0_pay1 (F := Ideal) x g (ix2 p q) = (x (ix2 p q) * rms fun k => x (ix2 p k)) * g (ix2 0 q) := by
  unfold k0_pay1 rms ms
  pointwise

/-- The normed rows. -/
def G (c : Dev nD) (j : S8192x2048.Idx) : EReal :=
  (X m c (ix3 0 (j 0) (j 1)) * rms fun k => X m c (ix3 0 (j 0) k)) * NG m c (ix2 0 (j 1))

theorem emb (t : Fin cfg0.N) (p : Fin 512) (q : Fin 2048) :
    (((cfg0.win 2).blk t).view.emb (ix2 p q) : S8192x2048.Idx) = ix2 (row t p) q := by
  have e := idx t
  have h0 : ((((cfg0.win 2).blk t).view.emb (ix2 p q)) 0 : ℕ) = t.val * 512 + p := by blk_simp [e]
  have h1 : ((((cfg0.win 2).blk t).view.emb (ix2 p q)) 1 : ℕ) = q := by blk_simp [e]
  exact Ix.of2 _ _ _ h0 h1

theorem final2 (c : Dev nD) : (dats m 0 c).arrAt 2 (cfgs 0).N = G m c := by
  refine (dats m 0 c).arrAt_eq_of_covers 2 _ (by decide +kernel) fun t hf y => ?_
  blk_simp
  rw [after0_2]
  obtain ⟨p, q, rfl⟩ : ∃ (p : Fin 512) (q : Fin 2048), y = ix2 p q := ⟨_, _, eq_ix2 y⟩
  refine Eq.trans ?_ (congrArg (G m c) (emb t p q)).symm
  frame_out
  refine (pay1_at _ _ _ _).trans ?_
  simp only [blk0, blk1]
  rfl

open Cert.ReferenceNormIdeal.Read in
theorem ref_eq (c : Dev nD) :
    (val_main_v15 (F := Ideal) (X m c) (NG m c) : FVec Ideal S8192x2048 .bf16) = G m c := by
  funext j
  obtain ⟨p, q, rfl⟩ : ∃ (p : Fin 8192) (q : Fin 2048), j = ix2 p q := ⟨_, _, eq_ix2 j⟩
  unfold G rms ms
  pointwise [val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]

theorem frame_p : Cert.quiescent_KernelNorm := fun m ρ _ => Cert.KernelNorm.Gen.frame m ρ
theorem frame_pi : Cert.quiescent_KernelNormIdeal := fun m ρ _ => Cert.KernelNormIdeal.Gen.frame m ρ
theorem frame_ri : Cert.quiescent_ReferenceNormIdeal := fun m ρ _ =>
  (θ_run Cert.ReferenceNormIdeal.defs _ _).mono (fun r h => ⟨fun c => (h c).2,
      Idealize.ShloMosaic.sem_eq_zero_of_no_sems (by decide) r.2⟩)
    (Cert.ReferenceNormIdeal.Value.run (F := Ideal) m ρ)

theorem algebraic : Cert.algebraic_KernelNormIdeal_ReferenceNormIdeal := by
  intro m ρ m' ρ' hpre hagree
  refine ⟨_, Cert.KernelNormIdeal.Value.run_blocks (F := Ideal) m ρ, ?_⟩
  refine (θ_run Cert.ReferenceNormIdeal.defs _ _).mono (fun _ h c => ?_) (Cert.ReferenceNormIdeal.Value.run (F := Ideal) m' ρ')
  obtain ⟨a0, a1⟩ := hagree c
  obtain ⟨r0, k⟩ := h c
  refine ⟨(r0.trans (Cert.ReferenceNormIdeal.Read.val_main_v15_eq _ _)).trans ?_, k⟩
  rw [a0, a1]
  exact (ref_eq m c).trans (final2 m c).symm
end Cert.KernelNormIdeal.Val
-- ==== Proof.InOwnBlk.lean ====
/- The first two blocks of columns of the input projection. -/
module
public import Idealize.ShloMosaic.Lib.StableHlo.RunRead
public import Idealize.ShloMosaic.Lib.Pipeline.ValueKit.Partial
public import proofs.«01_k».proof.Defs
public import proofs.«01_k».proof.Proof.Gen.KernelInOwn
public import proofs.«01_k».proof.Proof.Gen.KernelInOwn.Frame
public import proofs.«01_k».proof.Proof.Gen.KernelInOwnIdeal
public import proofs.«01_k».proof.Proof.Gen.KernelInOwnIdeal.Frame
public import proofs.«01_k».proof.Proof.Gen.ReferenceInOwnIdeal
public import proofs.«01_k».proof.Proof.Gen.ReferenceInOwnIdeal.Run
public import proofs.«01_k».proof.Proof.Gen.ReferenceInOwnIdeal.Read
public import proofs.«01_k».proof.Proof.Ix
public import Idealize.ShloMosaic.Lib.Pipeline.ValueKit
public import Idealize.ShloMosaic.Lib.Claim
@[expose] public section
set_option maxRecDepth 16384
noncomputable section
namespace Cert.KernelInOwn.Val
open Cert.KernelInOwn Cert.KernelInOwn.Gen Idealize.ShloMosaic Idealize.ShloMosaic.TcCoe Idealize.SL.Sem
variable (m : (ℓ : Loc nD τ sig) → Buf (Elt Bits) ℓ)
/-- The table of blocks. -/
noncomputable def T : pre0.Contents (Elt Bits) := fun j => match j with
  | ⟨0, _⟩ => fun i : S2.Idx => BitVec.ofNat 32 (i 0).val
  | ⟨_ + 1, h⟩ => absurd h (Nat.not_lt.2 (Nat.le_add_left _ _))
theorem table : tbl m = T := by
  funext j
  match j with
  | ⟨0, _⟩ =>
    refine funext fun (i : S2.Idx) => ?_
    show (V m 0 main_v0 : IVec S2 32) i = BitVec.ofNat 32 (i 0).val
    obtain ⟨q, rfl⟩ : ∃ q : Fin 2, i = ix1 q := ⟨_, eq_ix1 i⟩
    after_reads_simp
    fin_cases q <;> rfl
theorem okT : ok0 (F := Bits) T := by decide +kernel
theorem ok : Ok m := by
  show ok0 (tbl m)
  rw [table m]
  exact okT
end Cert.KernelInOwn.Val
namespace Cert.KernelInOwnIdeal.Val
open Cert.KernelInOwnIdeal Cert.KernelInOwnIdeal.Gen Idealize.ShloMosaic Idealize.ShloMosaic.TcCoe Idealize.SL.Sem
open Idealize.ShloMosaic.Pipeline (Dat)
variable (m : (ℓ : Loc nD τ sig) → Buf (Elt Ideal) ℓ)
/-- The table of blocks. -/
noncomputable def T : pre0.Contents (Elt Ideal) := fun j => match j with
  | ⟨0, _⟩ => fun i : S2.Idx => BitVec.ofNat 32 (i 0).val
  | ⟨_ + 1, h⟩ => absurd h (Nat.not_lt.2 (Nat.le_add_left _ _))
theorem table : tbl m = T := by
  funext j
  match j with
  | ⟨0, _⟩ =>
    refine funext fun (i : S2.Idx) => ?_
    show (V m 0 main_v0 : IVec S2 32) i = BitVec.ofNat 32 (i 0).val
    obtain ⟨q, rfl⟩ : ∃ q : Fin 2, i = ix1 q := ⟨_, eq_ix1 i⟩
    after_reads_simp
    fin_cases q <;> rfl
theorem okT : ok0 (F := Ideal) T := by decide +kernel
theorem ok : Ok m := by
  show ok0 (tbl m)
  rw [table m]
  exact okT
/-- The table as the pipeline takes it. -/
@[reducible] noncomputable def K : (pcfg0 (F := Ideal)).Adm := ⟨T, okT⟩
theorem adm_eq : adm m (ok m) = K := Subtype.ext (table m)
theorem idx_of : ∀ a : (pcfg0 (F := Ideal)).Adm, a = K → ∀ t : Fin (cfg0 a).N, (((cfg0 a).win 0).index t : Fin 2 → ℕ) = ![t.val / 2, 0]
    ∧ (((cfg0 a).win 1).index t : Fin 3 → ℕ) = ![t.val % 2, 0, 0]
    ∧ (((cfg0 a).win 2).index t : Fin 2 → ℕ) = ![t.val / 2, t.val % 2] ∧ t.val / 2 < 8 := by
  rintro _ rfl
  exact (by decide +kernel : ∀ t : Fin grid0.N, (((cfg0 K).win 0).index t : Fin 2 → ℕ) = ![t.val / 2, 0]
    ∧ (((cfg0 K).win 1).index t : Fin 3 → ℕ) = ![t.val % 2, 0, 0]
    ∧ (((cfg0 K).win 2).index t : Fin 2 → ℕ) = ![t.val / 2, t.val % 2] ∧ t.val / 2 < 8)
theorem covers_of : ∀ a : (pcfg0 (F := Ideal)).Adm, a = K →
    ((cfg0 a).win 2).CoversWhere (fun β : Fin 2 → ℕ => β 1 < 2) := by
  rintro _ rfl
  decide +kernel
/-- The normed input and the weights. -/
abbrev H (c : Dev nD) : FVec Ideal S1x8192x2048 .f32 := m ((c : Thread nD τ).loc main_arg0)
abbrev WI (c : Dev nD) : FVec Ideal S2048x4096 .f32 := m ((c : Thread nD τ).loc main_arg1)
theorem idx (t : Fin (cfgM m (ok m)).N) : (((cfgM m (ok m)).win 0).index t : Fin 2 → ℕ) = ![t.val / 2, 0]
    ∧ (((cfgM m (ok m)).win 1).index t : Fin 3 → ℕ) = ![t.val % 2, 0, 0]
    ∧ (((cfgM m (ok m)).win 2).index t : Fin 2 → ℕ) = ![t.val / 2, t.val % 2] ∧ t.val / 2 < 8 := idx_of (adm m (ok m)) (adm_eq m) t
abbrev row (t : Fin (cfgM m (ok m)).N) (r : Fin 1024) : Fin 8192 := ⟨t.val / 2 * 1024 + r, by have := (idx m t).2.2.2; omega⟩
abbrev fcol (t : Fin (cfgM m (ok m)).N) (f : Fin 512) : Fin 4096 := ⟨(t.val % 2) * 512 + f, by omega⟩
abbrev bl (t : Fin (cfgM m (ok m)).N) : Fin 8 := ⟨t.val % 2, by omega⟩
theorem v2_apply (c : Dev nD) (t : Fin 8192) (k : Fin 2048) :
    (V m c main_v2 : FVec Ideal S8192x2048 .bf16) (ix2 t k) = H m c (ix3 0 t k) := by
  after_reads_simp
  pointwise
theorem v5_apply (c : Dev nD) (b : Fin 8) (k : Fin 2048) (q : Fin 512) :
    (V m c main_v5 : FVec Ideal S8x2048x512 .bf16) (ix3 b k q) = WI m c (ix2 k ⟨b.val * 512 + q.val, by omega⟩) := by
  after_reads_simp
  pointwise
theorem blk0 (c : Dev nD) (t : Fin (cfgM m (ok m)).N) (r : Fin 1024) (k : Fin 2048) :
    (iblk m (ok m) c 0 t : Vec Ideal S1024x2048 .bf16) (ix2 r k) = H m c (ix3 0 (row m t r) k) := by
  rw [← v2_apply m c]
  blk_ext [iblk, V, idx m t]
theorem blk1 (c : Dev nD) (t : Fin (cfgM m (ok m)).N) (u : Fin 1) (k : Fin 2048) (q : Fin 512) :
    (iblk m (ok m) c 1 t : Vec Ideal S1x2048x512 .bf16) (ix3 u k q) = WI m c (ix2 k (fcol m t q)) := by
  refine Eq.trans ?_ (v5_apply m c (bl m t) k q)
  blk_ext [iblk, V, idx m t]
theorem pay1_at (a : FVec Ideal S1024x2048 .bf16) (b : FVec Ideal S1x2048x512 .bf16) (p : Fin 1024) (q : Fin 512) :
    k0_pay1 (F := Ideal) a b (ix2 p q) = ∑ k : Fin 2048, a (ix2 p k) * b (ix3 0 k q) := by
  unfold k0_pay1
  pointwise
/-- The projection. -/
def G (c : Dev nD) (j : S8192x4096.Idx) : EReal :=
  ∑ k : Fin 2048, H m c (ix3 0 (j 0) k) * WI m c (ix2 k (j 1))
theorem emb (t : Fin (cfgM m (ok m)).N) (p : Fin 1024) (q : Fin 512) :
    ((((cfgM m (ok m)).win 2).blk t).view.emb (ix2 p q) : S8192x4096.Idx) = ix2 (row m t p) (fcol m t q) := by
  have e := idx m t
  have h0 : ((((cfgM m (ok m)).win 2).blk t).view.emb (ix2 p q) (0 : Fin 2) : ℕ) = t.val / 2 * 1024 + p := by blk_simp [e]
  have h1 : ((((cfgM m (ok m)).win 2).blk t).view.emb (ix2 p q) (1 : Fin 2) : ℕ) = (t.val % 2) * 512 + q := by blk_simp [e]
  exact Ix.of2 _ _ _ h0 h1
end Cert.KernelInOwnIdeal.Val
-- ==== Proof.InOwn.lean ====
/- The first two blocks of columns of the input projection: what the call leaves, and what the reference says. -/
module
public import proofs.«01_k».proof.Proof.InOwnBlk
@[expose] public section
set_option maxRecDepth 16384
noncomputable section
namespace Cert.KernelInOwnIdeal.Val
open Cert.KernelInOwnIdeal Cert.KernelInOwnIdeal.Gen Idealize.ShloMosaic Idealize.ShloMosaic.TcCoe Idealize.SL.Sem
open Idealize.ShloMosaic.Pipeline (Dat)
variable (m : (ℓ : Loc nD τ sig) → Buf (Elt Ideal) ℓ)
theorem out_at (c : Dev nD) (t : Fin (cfgM m (ok m)).N) :
    outsAt0 m (ok m) c t = k0_pay1 (F := Ideal) (iblk m (ok m) c 0 t) (iblk m (ok m) c 1 t) := by
  unfold outsAt0
  frame_out
  exact congrArg₂ (k0_pay1 (F := Ideal)) (Memref.IsWhole.read_unread _ _) (Memref.IsWhole.read_unread _ _)
theorem out_G (c : Dev nD) (t : Fin (cfgM m (ok m)).N) (p : Fin 1024) (q : Fin 512) :
    (outsAt0 m (ok m) c t : FVec Ideal S1024x512 .f32) (ix2 p q) = G m c (ix2 (row m t p) (fcol m t q)) := by
  rw [out_at]
  refine (pay1_at _ _ _ _).trans ?_
  unfold G
  refine Finset.sum_congr rfl fun k _ => ?_
  rw [blk0, blk1]
  rfl
set_option maxHeartbeats 2000000 in
theorem final2 (c : Dev nD) : (dats m (ok m) 0 c).arrAt 2 (cfgM m (ok m)).N =
    fun i : S8192x4096.Idx => if (i 1 : ℕ) / 512 < 2 then G m c i else V m c main_v6 i := by
  refine (dats m (ok m) 0 c).arrAt_eq_of_coversWhere 2 _ (fun β : Fin 2 → ℕ => β 1 < 2) (covers_of _ (adm_eq m)) (fun t hf y => ?_) (fun j => Iff.rfl)
  blk_simp
  rw [after0_2]
  obtain ⟨p, q, rfl⟩ : ∃ (p : Fin 1024) (q : Fin 512), y = ix2 p q := ⟨_, _, eq_ix2 y⟩
  exact (out_G m c t p q).trans (congrArg (G m c) (emb m t p q)).symm
/-- The contents when the operation after the region starts. -/
abbrev AW (c : Dev nD) : Valuation τ sig (Elt Ideal) :=
  Pipeline.withArrays (cfgM m (ok m)).spec c (V0 m c) fun w => (dats m (ok m) 0 c).arrAt w (cfgM m (ok m)).N
theorem aw (c : Dev nD) : (AW m c (Proc.devRef .tc main_v6) : FVec Ideal S8192x4096 .f32) =
    fun i : S8192x4096.Idx => if (i 1 : ℕ) / 512 < 2 then G m c i else V m c main_v6 i :=
  (Pipeline.withArrays_arr (cfgM m (ok m)).spec (show Function.Injective (Pipeline.arrRef spec0) by decide) c (V0 m c) (fun w => (dats m (ok m) 0 c).arrAt w (cfgM m (ok m)).N) 2).trans (final2 m c)
theorem res (W : Valuation τ sig (Elt Ideal)) (p : Fin 8192) (q : Fin 1024) :
    (StableHlo.after hostOps1 W (Proc.devRef .tc main_v7) : FVec Ideal S8192x1024 .f32) (ix2 p q) =
      (W (Proc.devRef .tc main_v6) : FVec Ideal S8192x4096 .f32) (ix2 p ⟨q.val, by omega⟩) := by
  after_reads_simp
  pointwise
open Cert.ReferenceInOwnIdeal.Read in
theorem ref_at (x0 : FVec Ideal S1x8192x2048 .f32) (x1 : FVec Ideal S2048x4096 .f32) (p : Fin 8192) (q : Fin 1024) :
    (val_main_v2 (F := Ideal) x0 x1 : FVec Ideal S8192x1024 .f32) (ix2 p q) =
      ∑ k : Fin 2048, x0 (ix3 0 p k) * x1 (ix2 k ⟨q.val, by omega⟩) := by
  pointwise [val_main_v2, val_main_v1, val_main_v0]
open Cert.ReferenceInOwnIdeal.Read in
theorem end_eq (c : Dev nD) : (StableHlo.after hostOps1 (AW m c) (Proc.devRef .tc main_v7) : FVec Ideal S8192x1024 .f32) =
    (val_main_v2 (F := Ideal) (H m c) (WI m c) : FVec Ideal S8192x1024 .f32) := by
  funext j
  obtain ⟨p, q, rfl⟩ : ∃ (p : Fin 8192) (q : Fin 1024), j = ix2 p q := ⟨_, _, eq_ix2 j⟩
  refine (res (AW m c) p q).trans ((congrFun (aw m c) _).trans (Eq.trans ?_ (ref_at _ _ p q).symm))
  exact if_pos (show q.val / 512 < 2 by omega)
theorem rest : main_v7 ∈ Pipeline.restRefs sig (cfgM m (ok m)).spec := Pipeline.mem_restRefs_of _ rfl (show ∀ w, (spec0 w).arr.view.ref ≠ main_v7 by decide)
theorem frame_p : Cert.quiescent_KernelInOwn := fun m ρ _ => Cert.KernelInOwn.Gen.frame m ρ (Cert.KernelInOwn.Val.ok m)
theorem frame_pi : Cert.quiescent_KernelInOwnIdeal := fun m ρ _ => Cert.KernelInOwnIdeal.Gen.frame m ρ (ok m)
theorem frame_ri : Cert.quiescent_ReferenceInOwnIdeal := fun m ρ _ =>
  (θ_run Cert.ReferenceInOwnIdeal.defs _ _).mono (fun r h => ⟨fun c => (h c).2,
      Idealize.ShloMosaic.sem_eq_zero_of_no_sems (by decide) r.2⟩)
    (Cert.ReferenceInOwnIdeal.Value.run (F := Ideal) m ρ)
open Cert.ReferenceInOwnIdeal.Read in
/-- What the kernel leaves in its result. -/
theorem results (ρ : Dev nD → PrngReg) :
    θ_run defs (onTc (τ := τ) (main (F := Ideal))) ⟨m, fun _ => 0, ρ⟩ fun r => ∀ c : Dev nD,
      r.2.mem ((c : Thread nD τ).loc main_v7) = val_main_v2 (F := Ideal) (m ((c : Thread nD τ).loc main_arg0)) (m ((c : Thread nD τ).loc main_arg1)) :=
  (θ_run defs _ _).mono (fun r h c => ((h c).2 main_v7 (rest m)).trans (end_eq m c)) (run_main m ρ (ok m))
theorem algebraic : Cert.algebraic_KernelInOwnIdeal_ReferenceInOwnIdeal := by
  intro m ρ m' ρ' hpre hagree
  refine ⟨_, (θ_run defs _ _).mono (fun r h c => ⟨h.1 c, h.2 c⟩) (θ_run_and (results m ρ) (unchanged m ρ (ok m))), ?_⟩
  refine (θ_run Cert.ReferenceInOwnIdeal.defs _ _).mono (fun _ h c => ?_) (Cert.ReferenceInOwnIdeal.Value.run (F := Ideal) m' ρ')
  obtain ⟨a0, a1⟩ := hagree c
  obtain ⟨r0, k⟩ := h c
  refine ⟨(r0.trans (Cert.ReferenceInOwnIdeal.Read.val_main_v2_eq _ _)).trans ?_, k⟩
  rw [a0, a1]
end Cert.KernelInOwnIdeal.Val
-- ==== Proof.InRestBlk.lean ====
/- The other six blocks of columns of the input projection, in the array that holds the first two. -/
module
public import Idealize.ShloMosaic.Lib.StableHlo.RunRead
public import Idealize.ShloMosaic.Lib.Pipeline.ValueKit.Partial
public import proofs.«01_k».proof.Defs
public import proofs.«01_k».proof.Proof.Gen.KernelInRest
public import proofs.«01_k».proof.Proof.Gen.KernelInRest.Frame
public import proofs.«01_k».proof.Proof.Gen.KernelInRestIdeal
public import proofs.«01_k».proof.Proof.Gen.KernelInRestIdeal.Frame
public import proofs.«01_k».proof.Proof.Gen.ReferenceInRestIdeal
public import proofs.«01_k».proof.Proof.Gen.ReferenceInRestIdeal.Run
public import proofs.«01_k».proof.Proof.Gen.ReferenceInRestIdeal.Read
public import proofs.«01_k».proof.Proof.Ix
public import Idealize.ShloMosaic.Lib.Pipeline.ValueKit
public import Idealize.ShloMosaic.Lib.Claim
@[expose] public section
set_option maxRecDepth 16384
noncomputable section
namespace Cert.KernelInRest.Val
open Cert.KernelInRest Cert.KernelInRest.Gen Idealize.ShloMosaic Idealize.ShloMosaic.TcCoe Idealize.SL.Sem
variable (m : (ℓ : Loc nD τ sig) → Buf (Elt Bits) ℓ)
/-- The table of blocks. -/
noncomputable def T : pre0.Contents (Elt Bits) := fun j => match j with
  | ⟨0, _⟩ => fun i : S6.Idx => BitVec.ofNat 32 ((i 0).val + 2)
  | ⟨_ + 1, h⟩ => absurd h (Nat.not_lt.2 (Nat.le_add_left _ _))
theorem table : tbl m = T := by
  funext j
  match j with
  | ⟨0, _⟩ =>
    refine funext fun (i : S6.Idx) => ?_
    show (V m 0 main_v2 : IVec S6 32) i = BitVec.ofNat 32 ((i 0).val + 2)
    obtain ⟨q, rfl⟩ : ∃ q : Fin 6, i = ix1 q := ⟨_, eq_ix1 i⟩
    after_reads_simp
    fin_cases q <;> rfl
theorem okT : ok0 (F := Bits) T := by decide +kernel
theorem ok : Ok m := by
  show ok0 (tbl m)
  rw [table m]
  exact okT
end Cert.KernelInRest.Val
namespace Cert.KernelInRestIdeal.Val
open Cert.KernelInRestIdeal Cert.KernelInRestIdeal.Gen Idealize.ShloMosaic Idealize.ShloMosaic.TcCoe Idealize.SL.Sem
open Idealize.ShloMosaic.Pipeline (Dat)
variable (m : (ℓ : Loc nD τ sig) → Buf (Elt Ideal) ℓ)
/-- The table of blocks. -/
noncomputable def T : pre0.Contents (Elt Ideal) := fun j => match j with
  | ⟨0, _⟩ => fun i : S6.Idx => BitVec.ofNat 32 ((i 0).val + 2)
  | ⟨_ + 1, h⟩ => absurd h (Nat.not_lt.2 (Nat.le_add_left _ _))
theorem table : tbl m = T := by
  funext j
  match j with
  | ⟨0, _⟩ =>
    refine funext fun (i : S6.Idx) => ?_
    show (V m 0 main_v2 : IVec S6 32) i = BitVec.ofNat 32 ((i 0).val + 2)
    obtain ⟨q, rfl⟩ : ∃ q : Fin 6, i = ix1 q := ⟨_, eq_ix1 i⟩
    after_reads_simp
    fin_cases q <;> rfl
theorem okT : ok0 (F := Ideal) T := by decide +kernel
theorem ok : Ok m := by
  show ok0 (tbl m)
  rw [table m]
  exact okT
/-- The table as the pipeline takes it. -/
@[reducible] noncomputable def K : (pcfg0 (F := Ideal)).Adm := ⟨T, okT⟩
theorem adm_eq : adm m (ok m) = K := Subtype.ext (table m)
theorem idx_of : ∀ a : (pcfg0 (F := Ideal)).Adm, a = K → ∀ t : Fin (cfg0 a).N, (((cfg0 a).win 0).index t : Fin 2 → ℕ) = ![t.val / 6, 0]
    ∧ (((cfg0 a).win 1).index t : Fin 3 → ℕ) = ![t.val % 6 + 2, 0, 0]
    ∧ (((cfg0 a).win 2).index t : Fin 2 → ℕ) = ![t.val / 6, t.val % 6 + 2] ∧ t.val / 6 < 8 := by
  rintro _ rfl
  exact (by decide +kernel : ∀ t : Fin grid0.N, (((cfg0 K).win 0).index t : Fin 2 → ℕ) = ![t.val / 6, 0]
    ∧ (((cfg0 K).win 1).index t : Fin 3 → ℕ) = ![t.val % 6 + 2, 0, 0]
    ∧ (((cfg0 K).win 2).index t : Fin 2 → ℕ) = ![t.val / 6, t.val % 6 + 2] ∧ t.val / 6 < 8)
theorem covers_of : ∀ a : (pcfg0 (F := Ideal)).Adm, a = K →
    ((cfg0 a).win 2).CoversWhere (fun β : Fin 2 → ℕ => 2 ≤ β 1) := by
  rintro _ rfl
  decide +kernel
/-- The normed input, the weights and the array so far. -/
abbrev H (c : Dev nD) : FVec Ideal S1x8192x2048 .f32 := m ((c : Thread nD τ).loc main_arg0)
abbrev WI (c : Dev nD) : FVec Ideal S2048x4096 .f32 := m ((c : Thread nD τ).loc main_arg1)
abbrev SO (c : Dev nD) : FVec Ideal S8192x4096 .f32 := m ((c : Thread nD τ).loc main_arg2)
theorem idx (t : Fin (cfgM m (ok m)).N) : (((cfgM m (ok m)).win 0).index t : Fin 2 → ℕ) = ![t.val / 6, 0]
    ∧ (((cfgM m (ok m)).win 1).index t : Fin 3 → ℕ) = ![t.val % 6 + 2, 0, 0]
    ∧ (((cfgM m (ok m)).win 2).index t : Fin 2 → ℕ) = ![t.val / 6, t.val % 6 + 2] ∧ t.val / 6 < 8 := idx_of (adm m (ok m)) (adm_eq m) t
abbrev row (t : Fin (cfgM m (ok m)).N) (r : Fin 1024) : Fin 8192 := ⟨t.val / 6 * 1024 + r, by have := (idx m t).2.2.2; omega⟩
abbrev fcol (t : Fin (cfgM m (ok m)).N) (f : Fin 512) : Fin 4096 := ⟨(t.val % 6 + 2) * 512 + f, by omega⟩
abbrev bl (t : Fin (cfgM m (ok m)).N) : Fin 8 := ⟨t.val % 6 + 2, by omega⟩
theorem v4_apply (c : Dev nD) (t : Fin 8192) (k : Fin 2048) :
    (V m c main_v4 : FVec Ideal S8192x2048 .bf16) (ix2 t k) = H m c (ix3 0 t k) := by
  entry_read
  pointwise
theorem v7_apply (c : Dev nD) (b : Fin 8) (k : Fin 2048) (q : Fin 512) :
    (V m c main_v7 : FVec Ideal S8x2048x512 .bf16) (ix3 b k q) = WI m c (ix2 k ⟨b.val * 512 + q.val, by omega⟩) := by
  entry_read
  pointwise
theorem v8_eq (c : Dev nD) : V m c main_v8 = SO m c := by
  unfold V
  after_results
  try rfl
theorem blk0 (c : Dev nD) (t : Fin (cfgM m (ok m)).N) (r : Fin 1024) (k : Fin 2048) :
    (iblk m (ok m) c 0 t : Vec Ideal S1024x2048 .bf16) (ix2 r k) = H m c (ix3 0 (row m t r) k) := by
  rw [← v4_apply m c]
  blk_ext [iblk, V, idx m t]
theorem blk1 (c : Dev nD) (t : Fin (cfgM m (ok m)).N) (u : Fin 1) (k : Fin 2048) (q : Fin 512) :
    (iblk m (ok m) c 1 t : Vec Ideal S1x2048x512 .bf16) (ix3 u k q) = WI m c (ix2 k (fcol m t q)) := by
  refine Eq.trans ?_ (v7_apply m c (bl m t) k q)
  blk_ext [iblk, V, idx m t]
theorem pay1_at (a : FVec Ideal S1024x2048 .bf16) (b : FVec Ideal S1x2048x512 .bf16) (p : Fin 1024) (q : Fin 512) :
    k0_pay1 (F := Ideal) a b (ix2 p q) = ∑ k : Fin 2048, a (ix2 p k) * b (ix3 0 k q) := by
  unfold k0_pay1
  pointwise
/-- The projection. -/
def G (c : Dev nD) (j : S8192x4096.Idx) : EReal :=
  ∑ k : Fin 2048, H m c (ix3 0 (j 0) k) * WI m c (ix2 k (j 1))
theorem emb (t : Fin (cfgM m (ok m)).N) (p : Fin 1024) (q : Fin 512) :
    ((((cfgM m (ok m)).win 2).blk t).view.emb (ix2 p q) : S8192x4096.Idx) = ix2 (row m t p) (fcol m t q) := by
  have e := idx m t
  have h0 : ((((cfgM m (ok m)).win 2).blk t).view.emb (ix2 p q) (0 : Fin 2) : ℕ) = t.val / 6 * 1024 + p := by blk_simp [e]
  have h1 : ((((cfgM m (ok m)).win 2).blk t).view.emb (ix2 p q) (1 : Fin 2) : ℕ) = (t.val % 6 + 2) * 512 + q := by blk_simp [e]
  exact Ix.of2 _ _ _ h0 h1
end Cert.KernelInRestIdeal.Val
-- ==== Proof.InRest.lean ====
/- The other six blocks of columns of the input projection: what the call leaves, and what the reference says. -/
module
public import proofs.«01_k».proof.Proof.InRestBlk
@[expose] public section
set_option maxRecDepth 16384
noncomputable section
namespace Cert.KernelInRestIdeal.Val
open Cert.KernelInRestIdeal Cert.KernelInRestIdeal.Gen Idealize.ShloMosaic Idealize.ShloMosaic.TcCoe Idealize.SL.Sem
open Idealize.ShloMosaic.Pipeline (Dat)
variable (m : (ℓ : Loc nD τ sig) → Buf (Elt Ideal) ℓ)
theorem out_at (c : Dev nD) (t : Fin (cfgM m (ok m)).N) :
    outsAt0 m (ok m) c t = k0_pay1 (F := Ideal) (iblk m (ok m) c 0 t) (iblk m (ok m) c 1 t) := by
  unfold outsAt0
  frame_out
  exact congrArg₂ (k0_pay1 (F := Ideal)) (Memref.IsWhole.read_unread _ _) (Memref.IsWhole.read_unread _ _)
theorem out_G (c : Dev nD) (t : Fin (cfgM m (ok m)).N) (p : Fin 1024) (q : Fin 512) :
    (outsAt0 m (ok m) c t : FVec Ideal S1024x512 .f32) (ix2 p q) = G m c (ix2 (row m t p) (fcol m t q)) := by
  rw [out_at]
  refine (pay1_at _ _ _ _).trans ?_
  unfold G
  refine Finset.sum_congr rfl fun k _ => ?_
  rw [blk0, blk1]
  rfl
set_option maxHeartbeats 2000000 in
theorem final2 (c : Dev nD) : (dats m (ok m) 0 c).arrAt 2 (cfgM m (ok m)).N =
    fun i : S8192x4096.Idx => if 2 ≤ (i 1 : ℕ) / 512 then G m c i else V m c main_v8 i := by
  refine (dats m (ok m) 0 c).arrAt_eq_of_coversWhere 2 _ (fun β : Fin 2 → ℕ => 2 ≤ β 1) (covers_of _ (adm_eq m)) (fun t hf y => ?_) (fun j => Iff.rfl)
  blk_simp
  rw [after0_2]
  obtain ⟨p, q, rfl⟩ : ∃ (p : Fin 1024) (q : Fin 512), y = ix2 p q := ⟨_, _, eq_ix2 y⟩
  exact (out_G m c t p q).trans (congrArg (G m c) (emb m t p q)).symm
open Cert.ReferenceInRestIdeal.Read in
theorem ref_l (x0 : FVec Ideal S1x8192x2048 .f32) (x1 : FVec Ideal S2048x4096 .f32) (x2 : FVec Ideal S8192x4096 .f32) (p : Fin 8192) (q : Fin 1024) :
    (val_main_v4 (F := Ideal) x0 x1 x2 : FVec Ideal S8192x4096 .f32) (ix2 p ⟨q.val, by omega⟩) = x2 (ix2 p ⟨q.val, by omega⟩) := by
  unfold val_main_v4
  refine (concatenate_apply_piece (t := Cert.ReferenceInRestIdeal.S8192x4096) 1 _ _ _ 0 (Nat.le_of_ble_eq_true rfl) Cert.ReferenceInRestIdeal.S8192x1024 _ rfl rfl 0 rfl (ix2 p q)
    (by rintro ⟨_ | _ | _ | b, hb⟩ h <;> first | rfl | exact absurd rfl h | exact absurd hb (by simp [Shape.rank])) (by simp)).trans ?_
  pointwise [val_main_v0]
open Cert.ReferenceInRestIdeal.Read in
theorem ref_r (x0 : FVec Ideal S1x8192x2048 .f32) (x1 : FVec Ideal S2048x4096 .f32) (x2 : FVec Ideal S8192x4096 .f32) (p : Fin 8192) (q : Fin 3072) :
    (val_main_v4 (F := Ideal) x0 x1 x2 : FVec Ideal S8192x4096 .f32) (ix2 p ⟨1024 + q.val, by omega⟩) =
      ∑ k : Fin 2048, x0 (ix3 0 p k) * x1 (ix2 k ⟨1024 + q.val, by omega⟩) := by
  unfold val_main_v4
  refine (concatenate_apply_piece (t := Cert.ReferenceInRestIdeal.S8192x4096) 1 _ _ _ 1 (Nat.le_of_ble_eq_true rfl) Cert.ReferenceInRestIdeal.S8192x3072 _ rfl rfl 1024 rfl (ix2 p q)
    (by rintro ⟨_ | _ | _ | b, hb⟩ h <;> first | rfl | exact absurd rfl h | exact absurd hb (by simp [Shape.rank])) (by simp)).trans ?_
  pointwise [val_main_v3, val_main_v2, val_main_v1]
theorem lt_l (r : Fin 1024) : r.val < 4096 := by omega
theorem lt_r (r : Fin 3072) : 1024 + r.val < 4096 := by omega
open Cert.ReferenceInRestIdeal.Read in
theorem ref_eq (c : Dev nD) :
    (val_main_v4 (F := Ideal) (H m c) (WI m c) (SO m c) : FVec Ideal S8192x4096 .f32) =
      fun i : S8192x4096.Idx => if 2 ≤ (i 1 : ℕ) / 512 then G m c i else V m c main_v8 i := by
  funext j
  obtain ⟨p, q, rfl⟩ : ∃ (p : Fin 8192) (q : Fin 4096), j = ix2 p q := ⟨_, _, eq_ix2 j⟩
  show _ = if 2 ≤ q.val / 512 then G m c (ix2 p q) else V m c main_v8 (ix2 p q)
  by_cases h : 2 ≤ q.val / 512
  · rw [if_pos h]
    obtain ⟨r, rfl⟩ : ∃ r : Fin 3072, q = ⟨1024 + r.val, lt_r r⟩ := ⟨⟨q.val - 1024, by omega⟩, Fin.ext (show q.val = 1024 + (q.val - 1024) by omega)⟩
    exact ref_r _ _ _ p r
  · rw [if_neg h, v8_eq]
    obtain ⟨r, rfl⟩ : ∃ r : Fin 1024, q = ⟨r.val, lt_l r⟩ := ⟨⟨q.val, by omega⟩, rfl⟩
    exact ref_l _ _ _ p r
theorem frame_p : Cert.quiescent_KernelInRest := fun m ρ _ => Cert.KernelInRest.Gen.frame m ρ (Cert.KernelInRest.Val.ok m)
theorem frame_pi : Cert.quiescent_KernelInRestIdeal := fun m ρ _ => Cert.KernelInRestIdeal.Gen.frame m ρ (ok m)
theorem frame_ri : Cert.quiescent_ReferenceInRestIdeal := fun m ρ _ =>
  (θ_run Cert.ReferenceInRestIdeal.defs _ _).mono (fun r h => ⟨fun c => (h c).2,
      Idealize.ShloMosaic.sem_eq_zero_of_no_sems (by decide) r.2⟩)
    (Cert.ReferenceInRestIdeal.Value.run (F := Ideal) m ρ)
/-- What the kernel leaves in its result. -/
theorem results (ρ : Dev nD → PrngReg) :
    θ_run defs (onTc (τ := τ) (main (F := Ideal))) ⟨m, fun _ => 0, ρ⟩ fun r => ∀ c : Dev nD,
      r.2.mem ((c : Thread nD τ).loc main_v8) = (dats m (ok m) 0 c).arrAt 2 (cfgM m (ok m)).N :=
  (θ_run defs _ _).mono (fun r h c => (h c).1 2) (run_main m ρ (ok m))
theorem algebraic : Cert.algebraic_KernelInRestIdeal_ReferenceInRestIdeal := by
  intro m ρ m' ρ' hpre hagree
  refine ⟨_, (θ_run defs _ _).mono (fun r h c => ⟨h.1 c, h.2 c⟩) (θ_run_and (results m ρ) (unchanged m ρ (ok m))), ?_⟩
  refine (θ_run Cert.ReferenceInRestIdeal.defs _ _).mono (fun _ h c => ?_) (Cert.ReferenceInRestIdeal.Value.run (F := Ideal) m' ρ')
  obtain ⟨a0, a1, a2⟩ := hagree c
  obtain ⟨r0, k⟩ := h c
  refine ⟨(r0.trans (Cert.ReferenceInRestIdeal.Read.val_main_v4_eq _ _ _)).trans ?_, k⟩
  rw [a0, a1, a2]
  exact (ref_eq m c).trans (final2 m c).symm
end Cert.KernelInRestIdeal.Val
-- ==== Proof.WRows.lean ====
/- The blocks of columns of the input projection's weights, side by side. -/
module
public import proofs.«01_k».proof.Defs
public import proofs.«01_k».proof.Proof.Gen.KernelWRows
public import proofs.«01_k».proof.Proof.Gen.KernelWRows.Frame
public import proofs.«01_k».proof.Proof.Gen.KernelWRowsIdeal
public import proofs.«01_k».proof.Proof.Gen.KernelWRowsIdeal.Frame
public import proofs.«01_k».proof.Proof.Gen.KernelWRowsIdeal.Value
public import proofs.«01_k».proof.Proof.Gen.ReferenceWRowsIdeal
public import proofs.«01_k».proof.Proof.Gen.ReferenceWRowsIdeal.Run
public import proofs.«01_k».proof.Proof.Gen.ReferenceWRowsIdeal.Read
public import proofs.«01_k».proof.Proof.Ix
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelWRowsIdeal.Val

open Cert.KernelWRowsIdeal Cert.KernelWRowsIdeal.Gen Idealize.ShloMosaic Idealize.ShloMosaic.TcCoe Idealize.SL.Sem
open Idealize.ShloMosaic.Pipeline (Dat)

variable (m : (ℓ : Loc nD τ sig) → Buf (Elt Ideal) ℓ)

/-- The blocks. -/
abbrev B (c : Dev nD) : FVec Ideal S8x2048x512 .bf16 := m ((c : Thread nD τ).loc main_arg0)

theorem idx : ∀ t : Fin cfg0.N, win0_0.index t = ![t.val, 0, 0] ∧ win0_1.index t = ![0, t.val] ∧ t.val < 8 :=
  (by decide +kernel : ∀ t : Fin grid0.N, _)

abbrev bl (t : Fin cfg0.N) : Fin 8 := ⟨t.val, (idx t).2.2⟩
abbrev col (t : Fin cfg0.N) (f : Fin 512) : Fin 4096 := ⟨t.val * 512 + f, by have := (idx t).2.2; omega⟩

theorem blk0 (c : Dev nD) (t : Fin cfg0.N) (u : Fin 1) (k : Fin 2048) (q : Fin 512) :
    (iblk m c 0 t : Vec Ideal S1x2048x512 .bf16) (ix3 u k q) = B m c (ix3 (bl t) k q) := by
  blk_ext [iblk, V, idx t]

theorem pay1_at (x : FVec Ideal S1x2048x512 .bf16) (p : Fin 2048) (q : Fin 512) :
    k0_pay1 (F := Ideal) x (ix2 p q) = x (ix3 0 p q) := by
  unfold k0_pay1
  pointwise

/-- The blocks side by side. -/
def G (c : Dev nD) (j : S2048x4096.Idx) : EReal :=
  B m c (ix3 ⟨(j 1).val / 512, by have h : (j 1).val < 4096 := (j 1).isLt; omega⟩ (j 0) ⟨(j 1).val % 512, by omega⟩)

theorem emb (t : Fin cfg0.N) (p : Fin 2048) (q : Fin 512) :
    (((cfg0.win 1).blk t).view.emb (ix2 p q) : S2048x4096.Idx) = ix2 p (col t q) := by
  have e := idx t
  have h0 : ((((cfg0.win 1).blk t).view.emb (ix2 p q)) 0 : ℕ) = p := by blk_simp [e]
  have h1 : ((((cfg0.win 1).blk t).view.emb (ix2 p q)) 1 : ℕ) = t.val * 512 + q := by blk_simp [e]
  exact Ix.of2 _ _ _ h0 h1

theorem final1 (c : Dev nD) : (dats m 0 c).arrAt 1 (cfgs 0).N = G m c := by
  refine (dats m 0 c).arrAt_eq_of_covers 1 _ (by decide +kernel) fun t hf y => ?_
  blk_simp
  rw [after0_1]
  obtain ⟨p, q, rfl⟩ : ∃ (p : Fin 2048) (q : Fin 512), y = ix2 p q := ⟨_, _, eq_ix2 y⟩
  refine Eq.trans ?_ (congrArg (G m c) (emb t p q)).symm
  frame_out
  refine (pay1_at _ _ _).trans ((blk0 m c t 0 p q).trans ?_)
  exact congrArg (B m c) (Ix.eq3 (show t.val = (t.val * 512 + q.val) / 512 by omega) rfl (show q.val = (t.val * 512 + q.val) % 512 by omega))

open Cert.ReferenceWRowsIdeal.Read in
theorem ref_eq (c : Dev nD) :
    (val_main_v1 (F := Ideal) (B m c) : FVec Ideal S2048x4096 .bf16) = G m c := by
  funext j
  obtain ⟨p, q, rfl⟩ : ∃ (p : Fin 2048) (q : Fin 4096), j = ix2 p q := ⟨_, _, eq_ix2 j⟩
  unfold G
  pointwise [val_main_v1, val_main_v0]

theorem frame_p : Cert.quiescent_KernelWRows := fun m ρ _ => Cert.KernelWRows.Gen.frame m ρ
theorem frame_pi : Cert.quiescent_KernelWRowsIdeal := fun m ρ _ => Cert.KernelWRowsIdeal.Gen.frame m ρ
theorem frame_ri : Cert.quiescent_ReferenceWRowsIdeal := fun m ρ _ =>
  (θ_run Cert.ReferenceWRowsIdeal.defs _ _).mono (fun r h => ⟨fun c => (h c).2,
      Idealize.ShloMosaic.sem_eq_zero_of_no_sems (by decide) r.2⟩)
    (Cert.ReferenceWRowsIdeal.Value.run (F := Ideal) m ρ)

theorem algebraic : Cert.algebraic_KernelWRowsIdeal_ReferenceWRowsIdeal := by
  intro m ρ m' ρ' hpre hagree
  refine ⟨_, Cert.KernelWRowsIdeal.Value.run_blocks (F := Ideal) m ρ, ?_⟩
  refine (θ_run Cert.ReferenceWRowsIdeal.defs _ _).mono (fun _ h c => ?_) (Cert.ReferenceWRowsIdeal.Value.run (F := Ideal) m' ρ')
  have a0 := hagree c
  obtain ⟨r0, k⟩ := h c
  refine ⟨(r0.trans (Cert.ReferenceWRowsIdeal.Read.val_main_v1_eq _)).trans ?_, k⟩
  rw [a0]
  exact (ref_eq m c).trans (final1 m c).symm
end Cert.KernelWRowsIdeal.Val
-- ==== Proof.InDx.lean ====
/- The cotangent of the layer's input: the input projection's cotangent times the transposed weights, then the norm's gradient and
   the residual. Two calls fill a half of the rows each; the gain's gradient is the sum of the halves' sums over their row tiles. -/
module
public import proofs.«01_k».proof.Defs
public import proofs.«01_k».proof.Proof.Gen.KernelInDx
public import proofs.«01_k».proof.Proof.Gen.KernelInDx.Frame
public import proofs.«01_k».proof.Proof.Gen.KernelInDxIdeal
public import proofs.«01_k».proof.Proof.Gen.KernelInDxIdeal.Frame
public import proofs.«01_k».proof.Proof.Gen.ReferenceInDxIdeal
public import proofs.«01_k».proof.Proof.Gen.ReferenceInDxIdeal.Run
public import proofs.«01_k».proof.Proof.Gen.ReferenceInDxIdeal.Read
public import proofs.«01_k».proof.Proof.NormBack
public import proofs.«01_k».proof.Proof.Ix
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelInDxIdeal.Val
open Cert.KernelInDxIdeal Cert.KernelInDxIdeal.Gen Idealize.ShloMosaic Idealize.ShloMosaic.TcCoe Idealize.SL.Sem
open Idealize.ShloMosaic.Pipeline (Dat)
open Cert.RmsNorm
open Cert.KernelIdeal.Val (Fin')
variable (m : (ℓ : Loc nD τ sig) → Buf (Elt Ideal) ℓ)
/-- The layer's input, the norm's gain, the input projection's weights and cotangent, the residual's cotangent. -/
abbrev X (c : Dev nD) : FVec Ideal S1x8192x2048 .f32 := m ((c : Thread nD τ).loc main_arg0)
abbrev NG (c : Dev nD) : FVec Ideal S1x2048 .f32 := m ((c : Thread nD τ).loc main_arg1)
abbrev WI (c : Dev nD) : FVec Ideal S2048x4096 .f32 := m ((c : Thread nD τ).loc main_arg2)
abbrev DP (c : Dev nD) : FVec Ideal S1x8192x4096 .f32 := m ((c : Thread nD τ).loc main_arg3)
abbrev CT (c : Dev nD) : FVec Ideal S1x8192x2048 .f32 := m ((c : Thread nD τ).loc main_arg4)
/-- What a call finds in its operands. -/
structure Ent (V : (c : Dev nD) → (b : Ref sig .tc) → Buf (Elt Ideal) ((c : Thread nD τ).loc b)) : Prop where
  d : ∀ (c : Dev nD) (t : Fin 8192) (f : Fin 4096), (V c main_v1 : FVec Ideal S8192x4096 .bf16) (ix2 t f) = DP m c (ix3 0 t f)
  w : ∀ (c : Dev nD) (t : Fin 2048) (f : Fin 4096), (V c main_v2 : FVec Ideal S2048x4096 .bf16) (ix2 t f) = WI m c (ix2 t f)
  e : ∀ (c : Dev nD) (t : Fin 8192) (k : Fin 2048), (V c main_v3 : FVec Ideal S8192x2048 .f32) (ix2 t k) = CT m c (ix3 0 t k)
  x : ∀ (c : Dev nD) (t : Fin 8192) (k : Fin 2048), (V c main_v4 : FVec Ideal S8192x2048 .f32) (ix2 t k) = X m c (ix3 0 t k)
  g : ∀ (c : Dev nD) (k : Fin 2048), (V c main_arg1 : FVec Ideal S1x2048 .f32) (ix2 0 k) = NG m c (ix2 0 k)
/-- The gradient of the normed input: the cotangent times the transposed weights. -/
def DH (c : Dev nD) (t : Fin 8192) (q : Fin 2048) : EReal := ∑ f : Fin 4096, DP m c (ix3 0 t f) * WI m c (ix2 q f)
/-- The two gradients. -/
def G5 (c : Dev nD) (j : S8192x2048.Idx) : EReal :=
  CT m c (ix3 0 (j 0) (j 1)) + back (fun k => X m c (ix3 0 (j 0) k)) (fun k => DH m c (j 0) k * NG m c (ix2 0 k)) (j 1)
/-- What a row adds to the gain's gradient. -/
def term (c : Dev nD) (q : Fin 2048) (t : Fin 8192) : EReal :=
  DH m c t q * (X m c (ix3 0 t q) * rms fun k => X m c (ix3 0 t k))
def G7 (c : Dev nD) (j : S1x2048.Idx) : EReal := ∑ t : Fin 8192, term m c (j 1) t
/-- The sum over a half of the rows, by tiles. -/
def half (c : Dev nD) (o : ℕ) (ho : o ≤ 16) (j : S1x2048.Idx) : EReal :=
  ∑ i : Fin 16, ∑ r : Fin 256, term m c (j 1) ⟨(i.val + o) * 256 + r.val, by omega⟩
theorem halves (c : Dev nD) (j : S1x2048.Idx) : half m c 0 (by omega) j + half m c 16 (by omega) j = G7 m c j := by
  unfold G7
  rw [← Fin.sum_mul_add_congr (S := 32) (n := 256) (L := 8192)
    (F := fun i r => term m c (j 1) ⟨i.val * 256 + r.val, by omega⟩) (fun i r hl => rfl)]
  refine Eq.trans ?_ (Fin.sum_univ_add (a := 16) (b := 16) fun i : Fin 32 => ∑ r : Fin 256, term m c (j 1) ⟨i.val * 256 + r.val, by omega⟩).symm
  unfold half
  refine congrArg₂ (· + ·) (Finset.sum_congr rfl fun i _ => Finset.sum_congr rfl fun r _ => ?_)
    (Finset.sum_congr rfl fun i _ => Finset.sum_congr rfl fun r _ => ?_)
  · exact congrArg (term m c (j 1)) (Fin.ext (by show (i.val + 0) * 256 + r.val = i.val * 256 + r.val; omega))
  · exact congrArg (term m c (j 1)) (Fin.ext (by show (i.val + 16) * 256 + r.val = (16 + i.val) * 256 + r.val; omega))
namespace R0
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] ∧ t.val < 16 :=
  (by decide +kernel : ∀ t : Fin grid0.N, _)
theorem lt16 (t : Fin cfg0.N) : t.val < 16 := (idx t).2.2.2.2.2.2.2
abbrev row (t : Fin cfg0.N) (r : Fin 256) : Fin 8192 := ⟨(t.val + 0) * 256 + r, by have := lt16 t; omega⟩
theorem pay2_at (y : S1x2048.Idx) : k0_pay2 (F := Ideal) y = 0 := by
  unfold k0_pay2
  pointwise
theorem pay3_at (a : FVec Ideal S256x4096 .bf16) (b : FVec Ideal S2048x4096 .bf16) (p : Fin 256) (q : Fin 2048) :
    k0_pay3 (F := Ideal) a b (ix2 p q) = ∑ k : Fin 4096, a (ix2 p k) * b (ix2 q k) := by
  unfold k0_pay3
  pointwise
theorem pay5_at (x : FVec Ideal S256x2048 .f32) (p : Fin 256) (u : Fin 1) :
    k0_pay5 (F := Ideal) x (ix2 p u) = rms fun k => x (ix2 p k) := by
  obtain rfl := Subsingleton.elim u 0
  unfold k0_pay5 k0_pay4 rms ms
  pointwise
theorem pay6_at (x : FVec Ideal S256x2048 .f32) (p : Fin 256) (q : Fin 2048) :
    k0_pay6 (F := Ideal) x (ix2 p q) = x (ix2 p q) * rms fun k => x (ix2 p k) := by
  unfold k0_pay6 k0_pay4
  pointwise
  rw [pay5_at]
theorem pay7_at (a : FVec Ideal S256x4096 .bf16) (b : FVec Ideal S2048x4096 .bf16) (x : FVec Ideal S256x2048 .f32) (g : FVec Ideal S1x2048 .f32)
    (u : Fin 1) (q : Fin 2048) :
    k0_pay7 (F := Ideal) a b x g (ix2 u q)
      = g (ix2 u q) + ∑ r : Fin 256, k0_pay3 (F := Ideal) a b (ix2 r q) * (x (ix2 r q) * rms fun k => x (ix2 r k)) := by
  obtain rfl := Subsingleton.elim u 0
  unfold k0_pay7
  pointwise
  refine congrArg (_ + ·) (Finset.sum_congr rfl fun r _ => ?_)
  rw [pay6_at]
theorem pay8_at (a : FVec Ideal S256x4096 .bf16) (b : FVec Ideal S2048x4096 .bf16) (g : FVec Ideal S1x2048 .f32) (p : Fin 256) (q : Fin 2048) :
    k0_pay8 (F := Ideal) a b g (ix2 p q) = k0_pay3 (F := Ideal) a b (ix2 p q) * g (ix2 0 q) := by
  unfold k0_pay8
  pointwise
theorem pay10_at (a : FVec Ideal S256x4096 .bf16) (b : FVec Ideal S2048x4096 .bf16) (x : FVec Ideal S256x2048 .f32) (g : FVec Ideal S1x2048 .f32)
    (p : Fin 256) (u : Fin 1) :
    k0_pay10 (F := Ideal) a b x g (ix2 p u)
      = ∑ k : Fin 2048, k0_pay8 (F := Ideal) a b g (ix2 p k) * k0_pay6 (F := Ideal) x (ix2 p k) := by
  obtain rfl := Subsingleton.elim u 0
  unfold k0_pay10
  pointwise
theorem pay1_at (r : FVec Ideal S256x1 .f32) (n d e : FVec Ideal S256x2048 .f32) (s : FVec Ideal S256x1 .f32) (p : Fin 256) (q : Fin 2048) :
    k0_pay1 (F := Ideal) r n d e s (ix2 p q)
      = e (ix2 p q) + r (ix2 p 0) * (d (ix2 p q) - n (ix2 p q) * Ideal.div (s (ix2 p 0)) DM) := by
  unfold k0_pay1
  pointwise
/-- A row tile's result. -/
theorem dx_at (a : FVec Ideal S256x4096 .bf16) (b : FVec Ideal S2048x4096 .bf16) (x : FVec Ideal S256x2048 .f32) (g : FVec Ideal S1x2048 .f32)
    (e : FVec Ideal S256x2048 .f32) (p : Fin 256) (q : Fin 2048) :
    k0_pay1 (F := Ideal) (k0_pay5 x) (k0_pay6 x) (k0_pay8 a b g) (k0_pay9 e) (k0_pay10 a b x g) (ix2 p q)
      = e (ix2 p q) + back (fun k => x (ix2 p k)) (fun k => k0_pay3 (F := Ideal) a b (ix2 p k) * g (ix2 0 k)) q := by
  rw [pay1_at, pay5_at, pay10_at]
  simp only [pay6_at, pay8_at]
  unfold back
  refine congrArg (· + _) ?_
  unfold k0_pay9
  pointwise
variable (V : (c : Dev nD) → (b : Ref sig .tc) → Buf (Elt Ideal) ((c : Thread nD τ).loc b))
variable {m V}
variable (hV : Ent m V)
include hV in
theorem blk0 (c : Dev nD) (t : Fin cfg0.N) (r : Fin 256) (k : Fin 4096) :
    (iblk0 V c 0 t : Vec Ideal S256x4096 .bf16) (ix2 r k) = DP m c (ix3 0 (row t r) k) := by
  rw [← hV.d c]
  blk_ext [iblk0, idx t]
include hV in
theorem blk1 (c : Dev nD) (t : Fin cfg0.N) (r : Fin 2048) (k : Fin 4096) :
    (iblk0 V c 1 t : Vec Ideal S2048x4096 .bf16) (ix2 r k) = WI m c (ix2 r k) := by
  rw [← hV.w c]
  blk_ext [iblk0, idx t]
include hV in
theorem blk2 (c : Dev nD) (t : Fin cfg0.N) (r : Fin 256) (k : Fin 2048) :
    (iblk0 V c 2 t : Vec Ideal S256x2048 .f32) (ix2 r k) = CT m c (ix3 0 (row t r) k) := by
  rw [← hV.e c]
  blk_ext [iblk0, idx t]
include hV in
theorem blk3 (c : Dev nD) (t : Fin cfg0.N) (r : Fin 256) (k : Fin 2048) :
    (iblk0 V c 3 t : Vec Ideal S256x2048 .f32) (ix2 r k) = X m c (ix3 0 (row t r) k) := by
  rw [← hV.x c]
  blk_ext [iblk0, idx t]
include hV in
theorem blk4 (c : Dev nD) (t : Fin cfg0.N) (k : Fin 2048) :
    (iblk0 V c 4 t : Vec Ideal S1x2048 .f32) (ix2 0 k) = NG m c (ix2 0 k) := by
  rw [← hV.g c]
  blk_ext [iblk0, idx t]
include hV in
theorem dh_blk (c : Dev nD) (t : Fin cfg0.N) (p : Fin 256) (q : Fin 2048) :
    k0_pay3 (F := Ideal) (iblk0 V c 0 t) (iblk0 V c 1 t) (ix2 p q) = DH m c (row t p) q := by
  refine (pay3_at _ _ _ _).trans ?_
  unfold DH
  refine Finset.sum_congr rfl fun k _ => ?_
  rw [blk0 hV, blk1 hV]
variable (V) in
/-- What the gain's gradient holds after a point. -/
abbrev dgs (c : Dev nD) (n : ℕ) (h : n < cfg0.N) : FVec Ideal S1x2048 .f32 := (outsAt0 V c n h).2
theorem dgsA (c : Dev nD) (t : Fin cfg0.N) (h : t.val % 16 = 0) :
    dgs V c t.val t.isLt = k0_pay7 (F := Ideal) (iblk0 V c 0 t) (iblk0 V c 1 t) (iblk0 V c 3 t) (k0_pay2 (F := Ideal)) := by
  unfold dgs
  rw [outsAt0_A V c t h]
  dsimp only
  frame_out
theorem dgsB (c : Dev nD) (t : Fin cfg0.N) (h : ¬ t.val % 16 = 0) :
    dgs V c t.val t.isLt = k0_pay7 (F := Ideal) (iblk0 V c 0 t) (iblk0 V c 1 t) (iblk0 V c 3 t)
      (dgs V c (t.val - 1) (Nat.lt_of_le_of_lt (Nat.sub_le _ _) t.isLt)) := by
  unfold dgs
  rw [outsAt0_B V c t h]
  dsimp only
  frame_out
theorem outs (c : Dev nD) (t : Fin cfg0.N) :
    (outsAt0 V c t.val t.isLt).1 = k0_pay1 (F := Ideal) (k0_pay5 (iblk0 V c 3 t)) (k0_pay6 (iblk0 V c 3 t))
      (k0_pay8 (iblk0 V c 0 t) (iblk0 V c 1 t) (iblk0 V c 4 t)) (k0_pay9 (iblk0 V c 2 t))
      (k0_pay10 (iblk0 V c 0 t) (iblk0 V c 1 t) (iblk0 V c 3 t) (iblk0 V c 4 t)) := by
  by_cases h : t.val % 16 = 0
  · rw [outsAt0_A V c t h]
    dsimp only
    frame_out
  · rw [outsAt0_B V c t h]
    dsimp only
    frame_out
variable (m) in
/-- What a row tile adds to the gain's gradient. -/
def gpart (c : Dev nD) (t : Fin cfg0.N) (y : S1x2048.Idx) : EReal := ∑ r : Fin 256, term m c (y 1) (row t r)
include hV in
theorem step (c : Dev nD) (t : Fin cfg0.N) (g : FVec Ideal S1x2048 .f32) (y) :
    k0_pay7 (F := Ideal) (iblk0 V c 0 t) (iblk0 V c 1 t) (iblk0 V c 3 t) g y = g y + gpart m c t y := by
  obtain ⟨u, q, rfl⟩ : ∃ (u : Fin 1) (q : Fin 2048), y = ix2 u q := ⟨_, _, eq_ix2 y⟩
  refine (pay7_at _ _ _ _ _ _).trans ?_
  refine congrArg (_ + ·) (Finset.sum_congr rfl fun r _ => ?_)
  rw [dh_blk hV]
  simp only [blk3 hV]
  rfl
theorem emb5 (t : Fin cfg0.N) (p : Fin 256) (q : Fin 2048) :
    (((cfg0.win 5).blk t).view.emb (ix2 p q) : S8192x2048.Idx) = ix2 (row t p) q := by
  have e := idx t
  have h0 : ((((cfg0.win 5).blk t).view.emb (ix2 p q)) 0 : ℕ) = (t.val + 0) * 256 + p := by blk_simp [e]
  have h1 : ((((cfg0.win 5).blk t).view.emb (ix2 p q)) 1 : ℕ) = q := by blk_simp [e]
  exact Ix.of2 _ _ _ h0 h1
theorem emb6 (t : Fin cfg0.N) (p : Fin 1) (q : Fin 2048) :
    (((cfg0.win 6).blk t).view.emb (ix2 p q) : S1x2048.Idx) = ix2 p q := by
  have e := idx t
  have h0 : ((((cfg0.win 6).blk t).view.emb (ix2 p q)) 0 : ℕ) = p := by blk_simp [e]
  have h1 : ((((cfg0.win 6).blk t).view.emb (ix2 p q)) 1 : ℕ) = q := by blk_simp [e]
  exact Ix.of2 _ _ _ h0 h1
include hV in
theorem final6 (c : Dev nD) : (dat0 V c).arrAt 6 cfg0.N = half m c 0 (by omega) := by
  refine (dat0 V c).arrAt_eq_of_covers 6 _ (by decide +kernel) fun t hf y => ?_
  blk_simp
  obtain ⟨p, q, rfl⟩ : ∃ (p : Fin 1) (q : Fin 2048), y = ix2 p q := ⟨_, _, eq_ix2 y⟩
  refine Eq.trans ?_ (congrArg (half m c 0 (by omega)) (emb6 t p q)).symm
  rw [after0_6, show (outsAt0 V c t.val t.isLt).2 = dgs V c t.val t.isLt from rfl,
    Pipeline.eq_sum_fin_of_reset_step_apply_of_flush (fun n h => dgs V c n h) 16 (fun _ => (0 : EReal))
    (gpart m c) (fun t h y => by rw [dgsA c t h, step hV, pay2_at]) (fun t h y => by rw [dgsB c t h, step hV])
    t ((flush0_6 t).mp hf) (ix2 p q), zero_add]
  unfold gpart half
  have ht := lt16 t
  refine (Finset.sum_congr rfl fun (s : Fin 16) _ => Finset.sum_congr rfl fun (r : Fin 256) _ => congrArg (term m c q) (Fin.ext ?_) :
    (∑ s : Fin 16, ∑ r : Fin 256, term m c q ⟨(16 * (t.val / 16) + s.val + 0) * 256 + r.val, by omega⟩)
      = ∑ s : Fin 16, ∑ r : Fin 256, term m c q ⟨(s.val + 0) * 256 + r.val, by omega⟩)
  show (16 * (t.val / 16) + s.val + 0) * 256 + r.val = (s.val + 0) * 256 + r.val
  omega
theorem idx_inj5 : ∀ t t' : Fin cfg0.N, win0_5.index t = win0_5.index t' → t = t' :=
  (by decide +kernel : ∀ t t' : Fin grid0.N, win0_5.index t = win0_5.index t' → t = t')
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)
include hV in
/-- The rows that the call fills. -/
theorem final5 (c : Dev nD) (t : Fin cfg0.N) (p : Fin 256) (q : Fin 2048) :
    ((dat0 V c).arrAt 5 cfg0.N : FVec Ideal S8192x2048 .f32) (ix2 (row t p) q) = G5 m c (ix2 (row t p) q) := by
  have h := congrFun ((dat0 V c).read_blk_arrAt_eq_flushed 5 disjoint5 cfg0.N t t.isLt (flush0_5 t)) (ix2 p q)
  refine (congrArg ((dat0 V c).arrAt 5 cfg0.N : FVec Ideal S8192x2048 .f32) (emb5 t p q)).symm.trans (Eq.trans h ?_)
  show (cfg0.win 5).cut (grid0.coords t) ((dat0 V c).after 5 t) (ix2 p q) = _
  rw [after0_5, outs c t]
  refine (dx_at _ _ _ _ _ p q).trans ?_
  simp only [dh_blk hV, blk2 hV, blk3 hV, blk4 hV]
  rfl
end R0
namespace R1
theorem idx : ∀ t : Fin cfg1.N, win1_0.index t = ![t.val + 16, 0] ∧ win1_1.index t = ![0, 0] ∧ win1_2.index t = ![t.val + 16, 0]
    ∧ win1_3.index t = ![t.val + 16, 0] ∧ win1_4.index t = ![0, 0] ∧ win1_5.index t = ![t.val + 16, 0] ∧ win1_6.index t = ![0, 0] ∧ t.val < 16 :=
  (by decide +kernel : ∀ t : Fin grid1.N, _)
theorem lt16 (t : Fin cfg1.N) : t.val < 16 := (idx t).2.2.2.2.2.2.2
abbrev row (t : Fin cfg1.N) (r : Fin 256) : Fin 8192 := ⟨(t.val + 16) * 256 + r, by have := lt16 t; omega⟩
theorem pay2_at (y : S1x2048.Idx) : k1_pay2 (F := Ideal) y = 0 := by
  unfold k1_pay2
  pointwise
theorem pay3_at (a : FVec Ideal S256x4096 .bf16) (b : FVec Ideal S2048x4096 .bf16) (p : Fin 256) (q : Fin 2048) :
    k1_pay3 (F := Ideal) a b (ix2 p q) = ∑ k : Fin 4096, a (ix2 p k) * b (ix2 q k) := by
  unfold k1_pay3
  pointwise
theorem pay5_at (x : FVec Ideal S256x2048 .f32) (p : Fin 256) (u : Fin 1) :
    k1_pay5 (F := Ideal) x (ix2 p u) = rms fun k => x (ix2 p k) := by
  obtain rfl := Subsingleton.elim u 0
  unfold k1_pay5 k1_pay4 rms ms
  pointwise
theorem pay6_at (x : FVec Ideal S256x2048 .f32) (p : Fin 256) (q : Fin 2048) :
    k1_pay6 (F := Ideal) x (ix2 p q) = x (ix2 p q) * rms fun k => x (ix2 p k) := by
  unfold k1_pay6 k1_pay4
  pointwise
  rw [pay5_at]
theorem pay7_at (a : FVec Ideal S256x4096 .bf16) (b : FVec Ideal S2048x4096 .bf16) (x : FVec Ideal S256x2048 .f32) (g : FVec Ideal S1x2048 .f32)
    (u : Fin 1) (q : Fin 2048) :
    k1_pay7 (F := Ideal) a b x g (ix2 u q)
      = g (ix2 u q) + ∑ r : Fin 256, k1_pay3 (F := Ideal) a b (ix2 r q) * (x (ix2 r q) * rms fun k => x (ix2 r k)) := by
  obtain rfl := Subsingleton.elim u 0
  unfold k1_pay7
  pointwise
  refine congrArg (_ + ·) (Finset.sum_congr rfl fun r _ => ?_)
  rw [pay6_at]
theorem pay8_at (a : FVec Ideal S256x4096 .bf16) (b : FVec Ideal S2048x4096 .bf16) (g : FVec Ideal S1x2048 .f32) (p : Fin 256) (q : Fin 2048) :
    k1_pay8 (F := Ideal) a b g (ix2 p q) = k1_pay3 (F := Ideal) a b (ix2 p q) * g (ix2 0 q) := by
  unfold k1_pay8
  pointwise
theorem pay10_at (a : FVec Ideal S256x4096 .bf16) (b : FVec Ideal S2048x4096 .bf16) (x : FVec Ideal S256x2048 .f32) (g : FVec Ideal S1x2048 .f32)
    (p : Fin 256) (u : Fin 1) :
    k1_pay10 (F := Ideal) a b x g (ix2 p u)
      = ∑ k : Fin 2048, k1_pay8 (F := Ideal) a b g (ix2 p k) * k1_pay6 (F := Ideal) x (ix2 p k) := by
  obtain rfl := Subsingleton.elim u 0
  unfold k1_pay10
  pointwise
theorem pay1_at (r : FVec Ideal S256x1 .f32) (n d e : FVec Ideal S256x2048 .f32) (s : FVec Ideal S256x1 .f32) (p : Fin 256) (q : Fin 2048) :
    k1_pay1 (F := Ideal) r n d e s (ix2 p q)
      = e (ix2 p q) + r (ix2 p 0) * (d (ix2 p q) - n (ix2 p q) * Ideal.div (s (ix2 p 0)) DM) := by
  unfold k1_pay1
  pointwise
/-- A row tile's result. -/
theorem dx_at (a : FVec Ideal S256x4096 .bf16) (b : FVec Ideal S2048x4096 .bf16) (x : FVec Ideal S256x2048 .f32) (g : FVec Ideal S1x2048 .f32)
    (e : FVec Ideal S256x2048 .f32) (p : Fin 256) (q : Fin 2048) :
    k1_pay1 (F := Ideal) (k1_pay5 x) (k1_pay6 x) (k1_pay8 a b g) (k1_pay9 e) (k1_pay10 a b x g) (ix2 p q)
      = e (ix2 p q) + back (fun k => x (ix2 p k)) (fun k => k1_pay3 (F := Ideal) a b (ix2 p k) * g (ix2 0 k)) q := by
  rw [pay1_at, pay5_at, pay10_at]
  simp only [pay6_at, pay8_at]
  unfold back
  refine congrArg (· + _) ?_
  unfold k1_pay9
  pointwise
variable (V : (c : Dev nD) → (b : Ref sig .tc) → Buf (Elt Ideal) ((c : Thread nD τ).loc b))
variable {m V}
variable (hV : Ent m V)
include hV in
theorem blk0 (c : Dev nD) (t : Fin cfg1.N) (r : Fin 256) (k : Fin 4096) :
    (iblk1 V c 0 t : Vec Ideal S256x4096 .bf16) (ix2 r k) = DP m c (ix3 0 (row t r) k) := by
  rw [← hV.d c]
  blk_ext [iblk1, idx t]
include hV in
theorem blk1 (c : Dev nD) (t : Fin cfg1.N) (r : Fin 2048) (k : Fin 4096) :
    (iblk1 V c 1 t : Vec Ideal S2048x4096 .bf16) (ix2 r k) = WI m c (ix2 r k) := by
  rw [← hV.w c]
  blk_ext [iblk1, idx t]
include hV in
theorem blk2 (c : Dev nD) (t : Fin cfg1.N) (r : Fin 256) (k : Fin 2048) :
    (iblk1 V c 2 t : Vec Ideal S256x2048 .f32) (ix2 r k) = CT m c (ix3 0 (row t r) k) := by
  rw [← hV.e c]
  blk_ext [iblk1, idx t]
include hV in
theorem blk3 (c : Dev nD) (t : Fin cfg1.N) (r : Fin 256) (k : Fin 2048) :
    (iblk1 V c 3 t : Vec Ideal S256x2048 .f32) (ix2 r k) = X m c (ix3 0 (row t r) k) := by
  rw [← hV.x c]
  blk_ext [iblk1, idx t]
include hV in
theorem blk4 (c : Dev nD) (t : Fin cfg1.N) (k : Fin 2048) :
    (iblk1 V c 4 t : Vec Ideal S1x2048 .f32) (ix2 0 k) = NG m c (ix2 0 k) := by
  rw [← hV.g c]
  blk_ext [iblk1, idx t]
include hV in
theorem dh_blk (c : Dev nD) (t : Fin cfg1.N) (p : Fin 256) (q : Fin 2048) :
    k1_pay3 (F := Ideal) (iblk1 V c 0 t) (iblk1 V c 1 t) (ix2 p q) = DH m c (row t p) q := by
  refine (pay3_at _ _ _ _).trans ?_
  unfold DH
  refine Finset.sum_congr rfl fun k _ => ?_
  rw [blk0 hV, blk1 hV]
variable (V) in
/-- What the gain's gradient holds after a point. -/
abbrev dgs (c : Dev nD) (n : ℕ) (h : n < cfg1.N) : FVec Ideal S1x2048 .f32 := (outsAt1 V c n h).2
theorem dgsA (c : Dev nD) (t : Fin cfg1.N) (h : t.val % 16 = 0) :
    dgs V c t.val t.isLt = k1_pay7 (F := Ideal) (iblk1 V c 0 t) (iblk1 V c 1 t) (iblk1 V c 3 t) (k1_pay2 (F := Ideal)) := by
  unfold dgs
  rw [outsAt1_A V c t h]
  dsimp only
  frame_out
theorem dgsB (c : Dev nD) (t : Fin cfg1.N) (h : ¬ t.val % 16 = 0) :
    dgs V c t.val t.isLt = k1_pay7 (F := Ideal) (iblk1 V c 0 t) (iblk1 V c 1 t) (iblk1 V c 3 t)
      (dgs V c (t.val - 1) (Nat.lt_of_le_of_lt (Nat.sub_le _ _) t.isLt)) := by
  unfold dgs
  rw [outsAt1_B V c t h]
  dsimp only
  frame_out
theorem outs (c : Dev nD) (t : Fin cfg1.N) :
    (outsAt1 V c t.val t.isLt).1 = k1_pay1 (F := Ideal) (k1_pay5 (iblk1 V c 3 t)) (k1_pay6 (iblk1 V c 3 t))
      (k1_pay8 (iblk1 V c 0 t) (iblk1 V c 1 t) (iblk1 V c 4 t)) (k1_pay9 (iblk1 V c 2 t))
      (k1_pay10 (iblk1 V c 0 t) (iblk1 V c 1 t) (iblk1 V c 3 t) (iblk1 V c 4 t)) := by
  by_cases h : t.val % 16 = 0
  · rw [outsAt1_A V c t h]
    dsimp only
    frame_out
  · rw [outsAt1_B V c t h]
    dsimp only
    frame_out
variable (m) in
/-- What a row tile adds to the gain's gradient. -/
def gpart (c : Dev nD) (t : Fin cfg1.N) (y : S1x2048.Idx) : EReal := ∑ r : Fin 256, term m c (y 1) (row t r)
include hV in
theorem step (c : Dev nD) (t : Fin cfg1.N) (g : FVec Ideal S1x2048 .f32) (y) :
    k1_pay7 (F := Ideal) (iblk1 V c 0 t) (iblk1 V c 1 t) (iblk1 V c 3 t) g y = g y + gpart m c t y := by
  obtain ⟨u, q, rfl⟩ : ∃ (u : Fin 1) (q : Fin 2048), y = ix2 u q := ⟨_, _, eq_ix2 y⟩
  refine (pay7_at _ _ _ _ _ _).trans ?_
  refine congrArg (_ + ·) (Finset.sum_congr rfl fun r _ => ?_)
  rw [dh_blk hV]
  simp only [blk3 hV]
  rfl
theorem emb5 (t : Fin cfg1.N) (p : Fin 256) (q : Fin 2048) :
    (((cfg1.win 5).blk t).view.emb (ix2 p q) : S8192x2048.Idx) = ix2 (row t p) q := by
  have e := idx t
  have h0 : ((((cfg1.win 5).blk t).view.emb (ix2 p q)) 0 : ℕ) = (t.val + 16) * 256 + p := by blk_simp [e]
  have h1 : ((((cfg1.win 5).blk t).view.emb (ix2 p q)) 1 : ℕ) = q := by blk_simp [e]
  exact Ix.of2 _ _ _ h0 h1
theorem emb6 (t : Fin cfg1.N) (p : Fin 1) (q : Fin 2048) :
    (((cfg1.win 6).blk t).view.emb (ix2 p q) : S1x2048.Idx) = ix2 p q := by
  have e := idx t
  have h0 : ((((cfg1.win 6).blk t).view.emb (ix2 p q)) 0 : ℕ) = p := by blk_simp [e]
  have h1 : ((((cfg1.win 6).blk t).view.emb (ix2 p q)) 1 : ℕ) = q := by blk_simp [e]
  exact Ix.of2 _ _ _ h0 h1
include hV in
theorem final6 (c : Dev nD) : (dat1 V c).arrAt 6 cfg1.N = half m c 16 (by omega) := by
  refine (dat1 V c).arrAt_eq_of_covers 6 _ (by decide +kernel) fun t hf y => ?_
  blk_simp
  obtain ⟨p, q, rfl⟩ : ∃ (p : Fin 1) (q : Fin 2048), y = ix2 p q := ⟨_, _, eq_ix2 y⟩
  refine Eq.trans ?_ (congrArg (half m c 16 (by omega)) (emb6 t p q)).symm
  rw [after1_6, show (outsAt1 V c t.val t.isLt).2 = dgs V c t.val t.isLt from rfl,
    Pipeline.eq_sum_fin_of_reset_step_apply_of_flush (fun n h => dgs V c n h) 16 (fun _ => (0 : EReal))
    (gpart m c) (fun t h y => by rw [dgsA c t h, step hV, pay2_at]) (fun t h y => by rw [dgsB c t h, step hV])
    t ((flush1_6 t).mp hf) (ix2 p q), zero_add]
  unfold gpart half
  have ht := lt16 t
  refine (Finset.sum_congr rfl fun (s : Fin 16) _ => Finset.sum_congr rfl fun (r : Fin 256) _ => congrArg (term m c q) (Fin.ext ?_) :
    (∑ s : Fin 16, ∑ r : Fin 256, term m c q ⟨(16 * (t.val / 16) + s.val + 16) * 256 + r.val, by omega⟩)
      = ∑ s : Fin 16, ∑ r : Fin 256, term m c q ⟨(s.val + 16) * 256 + r.val, by omega⟩)
  show (16 * (t.val / 16) + s.val + 16) * 256 + r.val = (s.val + 16) * 256 + r.val
  omega
theorem idx_inj5 : ∀ t t' : Fin cfg1.N, win1_5.index t = win1_5.index t' → t = t' :=
  (by decide +kernel : ∀ t t' : Fin grid1.N, win1_5.index t = win1_5.index t' → t = t')
theorem disjoint5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (idx_inj5 t t' h)
include hV in
/-- The rows that the call fills. -/
theorem final5 (c : Dev nD) (t : Fin cfg1.N) (p : Fin 256) (q : Fin 2048) :
    ((dat1 V c).arrAt 5 cfg1.N : FVec Ideal S8192x2048 .f32) (ix2 (row t p) q) = G5 m c (ix2 (row t p) q) := by
  have h := congrFun ((dat1 V c).read_blk_arrAt_eq_flushed 5 disjoint5 cfg1.N t t.isLt (flush1_5 t)) (ix2 p q)
  refine (congrArg ((dat1 V c).arrAt 5 cfg1.N : FVec Ideal S8192x2048 .f32) (emb5 t p q)).symm.trans (Eq.trans h ?_)
  show (cfg1.win 5).cut (grid1.coords t) ((dat1 V c).after 5 t) (ix2 p q) = _
  rw [after1_5, outs c t]
  refine (dx_at _ _ _ _ _ p q).trans ?_
  simp only [dh_blk hV, blk2 hV, blk3 hV, blk4 hV]
  rfl
end R1
namespace R1
/-- Rows that the second call does not fill stay as it finds them. -/
theorem keep5 (V : (c : Dev nD) → (b : Ref sig .tc) → Buf (Elt Ideal) ((c : Thread nD τ).loc b)) (c : Dev nD) (r : Fin 8192) (hr : r.val < 4096) (q : Fin 2048) :
    ((dat1 V c).arrAt 5 cfg1.N : FVec Ideal S8192x2048 .f32) (ix2 r q) = (V c main_v6_0 : FVec Ideal S8192x2048 .f32) (ix2 r q) := by
  have hn : ∀ t : Fin cfg1.N, (ix2 r q : S8192x2048.Idx) ∉ ((cfg1.win 5).blk t).view.set := fun t hm => by
    obtain ⟨y, -, hy⟩ := Finset.mem_map.1 hm
    obtain ⟨p, k, rfl⟩ : ∃ (p : Fin 256) (k : Fin 2048), y = ix2 p k := ⟨_, _, eq_ix2 y⟩
    have h := congrArg (fun i : S8192x2048.Idx => (i 0).val) (hy.symm.trans (emb5 t p k))
    have h' : r.val = (t.val + 16) * 256 + p.val := h
    omega
  have h1 := (dat1 V c).arrAt_apply_of_forall_not_mem 5 cfg1.N (ix2 r q) fun t _ _ => hn t
  have h2 := congrFun (A_eq1 V c 5) (ix2 r q)
  exact h1.trans h2
end R1
/-! ## The two calls one after the other -/
variable (ρ : Dev nD → PrngReg)
theorem ent1 : Ent m (V1 m ρ) where
  d c t f := by
    show (StableHlo.after hostOps0 (fun b => m (c, b)) (Proc.devRef .tc main_v1) : FVec Ideal S8192x4096 .bf16) (ix2 t f) = _
    entry_read
    pointwise
  w c t f := by
    show (StableHlo.after hostOps0 (fun b => m (c, b)) (Proc.devRef .tc main_v2) : FVec Ideal S2048x4096 .bf16) (ix2 t f) = _
    entry_read
    pointwise
  e c t f := by
    show (StableHlo.after hostOps0 (fun b => m (c, b)) (Proc.devRef .tc main_v3) : FVec Ideal S8192x2048 .f32) (ix2 t f) = _
    entry_read
    pointwise
  x c t f := by
    show (StableHlo.after hostOps0 (fun b => m (c, b)) (Proc.devRef .tc main_v4) : FVec Ideal S8192x2048 .f32) (ix2 t f) = _
    entry_read
    pointwise
  g c k := congrFun (W1_args m ρ c main_arg1 (by decide)) (ix2 0 k)
theorem keep (c : Dev nD) (r : Ref sig .tc) (h1 : r ∉ hostOps1_W) (h0 : ∀ w : Fin cfg0.W, Pipeline.arrRef spec0 w = r → (cfg0.win w).isOut = false) :
    V3 m ρ c r = V1 m ρ c r :=
  (W3_of m ρ c r h1).trans (W2_of m ρ c r h0)
theorem ent3 : Ent m (V3 m ρ) where
  d c t f := (congrFun (keep m ρ c main_v1 (by decide) (by decide)) (ix2 t f)).trans ((ent1 m ρ).d c t f)
  w c t f := (congrFun (keep m ρ c main_v2 (by decide) (by decide)) (ix2 t f)).trans ((ent1 m ρ).w c t f)
  e c t f := (congrFun (keep m ρ c main_v3 (by decide) (by decide)) (ix2 t f)).trans ((ent1 m ρ).e c t f)
  x c t f := (congrFun (keep m ρ c main_v4 (by decide) (by decide)) (ix2 t f)).trans ((ent1 m ρ).x c t f)
  g c k := (congrFun (keep m ρ c main_arg1 (by decide) (by decide)) (ix2 0 k)).trans ((ent1 m ρ).g c k)
/-- The second call begins with the first call's array. -/
theorem v6_0 (c : Dev nD) : V3 m ρ c main_v6_0 = (dat0 (V1 m ρ) c).arrAt 5 cfg0.N := by
  refine Eq.trans ?_ (W2_arr m ρ c 5)
  show StableHlo.after hostOps1 (W2 m ρ c) (Proc.devRef .tc main_v6_0) = _
  entry_read
  rfl
theorem dx (c : Dev nD) : (W5 m ρ c (Proc.devRef .tc main_v6_0) : FVec Ideal S8192x2048 .f32) = G5 m c := by
  refine ((W5_of m ρ c main_v6_0 (by decide)).trans (W4_arr m ρ c 5)).trans ?_
  funext j
  obtain ⟨t, q, rfl⟩ : ∃ (t : Fin 8192) (q : Fin 2048), j = ix2 t q := ⟨_, _, eq_ix2 j⟩
  by_cases h : t.val < 4096
  · refine ((R1.keep5 (V3 m ρ) c t h q).trans (congrFun (v6_0 m ρ c) (ix2 t q))).trans ?_
    have e : t = R0.row ⟨t.val / 256, by show t.val / 256 < 16; omega⟩ ⟨t.val % 256, by omega⟩ := Fin.ext (by
      show t.val = (t.val / 256 + 0) * 256 + t.val % 256; omega)
    rw [e]
    exact R0.final5 (ent1 m ρ) c _ _ q
  · have e : t = R1.row ⟨t.val / 256 - 16, by show t.val / 256 - 16 < 16; omega⟩ ⟨t.val % 256, by omega⟩ := Fin.ext (by
      show t.val = (t.val / 256 - 16 + 16) * 256 + t.val % 256; omega)
    rw [e]
    exact R1.final5 (ent3 m ρ) c _ _ q
theorem dg (c : Dev nD) : (W5 m ρ c (Proc.devRef .tc main_v7) : FVec Ideal S1x2048 .f32) = G7 m c := by
  have h0 : W4 m ρ c (Proc.devRef .tc main_v5_1) = half m c 0 (by omega) :=
    ((W4_of m ρ c main_v5_1 (by decide)).trans ((W3_of m ρ c main_v5_1 (by decide)).trans (W2_arr m ρ c 6))).trans (R0.final6 (ent1 m ρ) c)
  have h1 : W4 m ρ c (Proc.devRef .tc main_v6_1) = half m c 16 (by omega) :=
    (W4_arr m ρ c 6).trans (R1.final6 (ent3 m ρ) c)
  have h2 : ∀ j : S1x2048.Idx, (StableHlo.after hostOps2 (W4 m ρ c) (Proc.devRef .tc main_v7) : FVec Ideal S1x2048 .f32) j
      = half m c 0 (by omega) j + half m c 16 (by omega) j := by
    intro j
    entry_read
    pointwise
    exact congrArg₂ (fun a b : EReal => a + b) (congrFun h0 j) (congrFun h1 j)
  funext j
  exact (h2 j).trans (halves m c j)
section Run
open Idealize.SL Idealize.SL.RA Idealize.SL.BI Idealize.ShloMosaic.Tactic
open scoped Idealize.SL.BI
open Idealize.SL.BI.BIBase Idealize.SL.BI.Laws Idealize.SL.ProofMode
open Idealize.ShloMosaic.Rounds
open Idealize.ShloMosaic.Pipeline (Cfg Window BodyObligation cellOf)
-- the theorem's implicit arguments are found by unifying its conclusion with this one
set_option backward.isDefEq.respectTransparency.types false in
/-- Every run ends with the two gradients in the two results, the arguments unchanged. -/
theorem run : θ_run defs (onTc (τ := τ) (main (F := Ideal))) ⟨m, fun _ => 0, ρ⟩ (fun r => ∀ c : Dev nD,
      r.2.mem ((c.tc : Thread nD τ).loc main_v6_0) = G5 m c
      ∧ r.2.mem ((c.tc : Thread nD τ).loc main_v7) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v6_0 (by decide))).trans (dx m ρ c),
       (h c _ (mem_uc main_v7 (by decide))).trans (dg m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)
end Run
open Cert.ReferenceInDxIdeal.Read in
theorem ref18 (c : Dev nD) (u : Fin 1) (t : Fin 8192) (q : Fin 2048) :
    (val_main_v18 (F := Ideal) (WI m c) (DP m c) : FVec Ideal S1x8192x2048 .f32) (ix3 u t q) = DH m c t q := by
  obtain rfl := Subsingleton.elim u 0
  unfold DH
  pointwise [val_main_v18]
open Cert.ReferenceInDxIdeal.Read in
theorem ref_dg (c : Dev nD) :
    (val_main_v41 (F := Ideal) (X m c) (WI m c) (DP m c) : FVec Ideal S1x2048 .f32) = G7 m c := by
  funext j
  obtain ⟨u, q, rfl⟩ : ∃ (u : Fin 1) (q : Fin 2048), j = ix2 u q := ⟨_, _, eq_ix2 j⟩
  obtain rfl := Subsingleton.elim u 0
  unfold G7 term rms ms
  pointwise [val_main_v41, val_main_v24]
  rw [red_first]
  pointwise [val_main_cst_4, val_main_cst_3, val_main_v21, val_main_v20, val_main_v19, val_main_v13, val_main_v12, val_main_v9, val_main_v8,
    val_main_v7, val_main_v6, val_main_v5, val_main_v4, val_main_v3, val_main_v2, val_main_v1, val_main_cst, val_main_cst_0, val_main_cst_1]
  simp only [ref18]
  exact Finset.sum_congr rfl fun x _ => mul_comm _ _
open Cert.ReferenceInDxIdeal.Read in
theorem ref_tail (c : Dev nD) (u : Fin 1) (t : Fin 8192) (q : Fin 2048) :
    (val_main_v36 (F := Ideal) (X m c) (NG m c) (WI m c) (DP m c) : FVec Ideal S1x8192x2048 .f32) (ix3 u t q)
      = tail (fun k => X m c (ix3 0 t k)) (fun k => DH m c t k * NG m c (ix2 0 k)) := by
  unfold tail rms ms
  pointwise [val_main_v36, val_main_v35, val_main_v34]
  rw [red_outer]
  pointwise [val_main_cst, val_main_cst_0, val_main_cst_1, val_main_cst_2, val_main_cst_5, val_main_cst_6, val_main_cst_7, val_main_v33, val_main_v32, val_main_v31,
    val_main_v27, val_main_v26, val_main_v25, val_main_v23, val_main_v22, val_main_v14, val_main_v11, val_main_v10, val_main_v9, val_main_v8,
    val_main_v7, val_main_v6, val_main_v5, val_main_v4, val_main_v3, val_main_v2, val_main_v1, val_main_v0]
  simp only [ref18]
open Cert.ReferenceInDxIdeal.Read in
theorem ref_dx (c : Dev nD) (t : Fin 8192) (q : Fin 2048) :
    (val_main_v42 (F := Ideal) (X m c) (NG m c) (WI m c) (DP m c) (CT m c) : FVec Ideal S8192x2048 .f32) (ix2 t q)
      = CT m c (ix3 0 t q) + (DH m c t q * NG m c (ix2 0 q)) * rms (fun k => X m c (ix3 0 t k))
        + X m c (ix3 0 t q) * tail (fun k => X m c (ix3 0 t k)) (fun k => DH m c t k * NG m c (ix2 0 k))
        + tail (fun k => X m c (ix3 0 t k)) (fun k => DH m c t k * NG m c (ix2 0 k)) * X m c (ix3 0 t q) := by
  pointwise [val_main_v42, val_main_v40, val_main_v39, val_main_v38, val_main_v37, val_main_v30, val_main_v29, val_main_v28,
    val_main_v23, val_main_v22, val_main_v14, val_main_v9, val_main_v8, val_main_cst, val_main_cst_0, val_main_cst_1,
    val_main_v7, val_main_v6, val_main_v5, val_main_v4, val_main_v3, val_main_v2, val_main_v1, val_main_v0]
  simp only [ref18, ref_tail]
  rfl
/-- The side conditions of the precondition's operations. -/
instance facts_pre : Cert.Pre_finite_in_dx.Facts where
  bcast_S_S1x8192x2048 := by decide
  reducesTo_S1x8192x2048_S_d0_1_2 := by decide
  h_S_ := by decide
  bcast_S_S1x2048 := by decide
  reducesTo_S1x2048_S_d0_1 := by decide
  bcast_S_S2048x4096 := by decide
  reducesTo_S2048x4096_S_d0_1 := by decide
  bcast_S_S1x8192x4096 := by decide
  reducesTo_S1x8192x4096_S_d0_1_2 := by decide
instance : Subsingleton Cert.Pre_finite_in_dx.S_.Idx := ⟨fun i j => funext fun a => a.elim0⟩
/-- The precondition says that every argument is finite. -/
theorem finite_of_pre (x0 : FVec Ideal S1x8192x2048 .f32) (x1 : FVec Ideal S1x2048 .f32)
    (x2 : FVec Ideal S2048x4096 .f32) (x3 : FVec Ideal S1x8192x4096 .f32)
    (x4 : FVec Ideal S1x8192x2048 .f32) (h : Cert.Pre_finite_in_dx.fn (F := Ideal) x0 x1 x2 x3 x4 = fun _ => 1#1) :
    (∀ i, Fin' (x0 i)) ∧ (∀ i, Fin' (x1 i)) ∧ (∀ i, Fin' (x2 i)) ∧ (∀ i, Fin' (x3 i)) ∧ (∀ i, Fin' (x4 i)) := by
  have h := congrFun h ix0
  unfold Cert.Pre_finite_in_dx.fn Cert.Pre_finite_in_dx.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => fin_of_olt _ (Host.reduce_andi_all _ _ _ _ _ h0 i), fun i => fin_of_olt _ (Host.reduce_andi_all _ _ _ _ _ h1 i),
    fun i => fin_of_olt _ (Host.reduce_andi_all _ _ _ _ _ h2 i), fun i => fin_of_olt _ (Host.reduce_andi_all _ _ _ _ _ h3 i),
    fun i => fin_of_olt _ (Host.reduce_andi_all _ _ _ _ _ h4 i)⟩
open Cert.ReferenceInDxIdeal.Read in
theorem ref_eq (c : Dev nD) (H : (∀ i, Fin' (X m c i)) ∧ (∀ i, Fin' (NG m c i)) ∧ (∀ i, Fin' (WI m c i)) ∧ (∀ i, Fin' (DP m c i)) ∧ (∀ i, Fin' (CT m c i))) :
    (val_main_v42 (F := Ideal) (X m c) (NG m c) (WI m c) (DP m c) (CT m c) : FVec Ideal S8192x2048 .f32) = G5 m c := by
  funext j
  obtain ⟨t, q, rfl⟩ : ∃ (t : Fin 8192) (q : Fin 2048), j = ix2 t q := ⟨_, _, eq_ix2 j⟩
  obtain ⟨h0, h1, h2, h3, h4⟩ := H
  have hd : ∀ k, Fin' (DH m c t k * NG m c (ix2 0 k)) := fun k =>
    (Fin'.sum (fun f : Fin 4096 => DP m c (ix3 0 t f) * WI m c (ix2 k f)) fun f => (h3 _).mul (h2 _)).mul (h1 _)
  rw [ref_dx m c t q]
  exact (back_eq (x := fun k => X m c (ix3 0 t k)) (d := fun k => DH m c t k * NG m c (ix2 0 k)) (e := CT m c (ix3 0 t q))
    (fun k => h0 _) hd (h4 _) q).symm
theorem frame_p : Cert.quiescent_KernelInDx := fun m ρ _ => Cert.KernelInDx.Gen.frame m ρ
theorem frame_pi : Cert.quiescent_KernelInDxIdeal := fun m ρ _ => Cert.KernelInDxIdeal.Gen.frame m ρ
theorem frame_pi_pre : Cert.quiescent_KernelInDxIdeal_pre_finite_in_dx := fun m ρ _ => Cert.KernelInDxIdeal.Gen.frame m ρ
theorem frame_ri : Cert.quiescent_ReferenceInDxIdeal := fun m ρ _ =>
  (θ_run Cert.ReferenceInDxIdeal.defs _ _).mono (fun r h => ⟨fun c => (h c).2.2,
      Idealize.ShloMosaic.sem_eq_zero_of_no_sems (by decide) r.2⟩)
    (Cert.ReferenceInDxIdeal.Value.run (F := Ideal) m ρ)
theorem frame_ri_pre : Cert.quiescent_ReferenceInDxIdeal_pre_finite_in_dx := fun m ρ _ => frame_ri m ρ trivial
theorem algebraic : Cert.algebraic_KernelInDxIdeal_ReferenceInDxIdeal_pre_finite_in_dx := by
  intro m ρ m' ρ' hpre hagree
  refine ⟨_, _, run m ρ, ?_⟩
  refine (θ_run Cert.ReferenceInDxIdeal.defs _ _).mono (fun _ h c => ?_) (Cert.ReferenceInDxIdeal.Value.run (F := Ideal) m' ρ')
  have H := finite_of_pre _ _ _ _ _ (hpre c)
  obtain ⟨a0, a1, a2, a3, a4⟩ := hagree c
  obtain ⟨r0, r1, k⟩ := h c
  refine ⟨(r0.trans (Cert.ReferenceInDxIdeal.Read.val_main_v42_eq _ _)).trans ?_,
    (r1.trans (Cert.ReferenceInDxIdeal.Read.val_main_v41_eq _ _ _)).trans ?_, k⟩
  · rw [a0, a1, a2, a3, a4]
    exact ref_eq m c H
  · rw [a0, a2, a3]
    exact ref_dg m c
end Cert.KernelInDxIdeal.Val
-- ==== Proof.Adam.lean ====
/- One step of AdamW for one number: the two moments and the change of the weight, with the constants as they are written. -/
module
public import proofs.«01_k».proof.Defs
public import Idealize.ShloMosaic.Lib.ReduceAll
@[expose] public section

noncomputable section
namespace Cert.Adam

open Idealize.ShloMosaic

/-- The first moment. -/
def mom (m g : EReal) : EReal := Ideal.ofBits FTy.f32 1063675494#32 * m + Ideal.ofBits FTy.f32 1036831949#32 * g

/-- The second moment. -/
def var (v g : EReal) : EReal := Ideal.ofBits FTy.f32 1065336439#32 * v + Ideal.ofBits FTy.f32 981668463#32 * (g * g)

/-- The change of the weight, from the weight and the two new moments. -/
def delta (w nm nv : EReal) : EReal :=
  Ideal.ofBits FTy.f32 3129152111#32 *
    (Ideal.div (Ideal.div nm (Ideal.ofBits FTy.f32 1059503362#32))
        (Ideal.sqrt (Ideal.div nv (Ideal.ofBits FTy.f32 1008933580#32)) + Ideal.ofBits FTy.f32 841731191#32) +
      Ideal.ofBits FTy.f32 1008981770#32 * w)

/-- The parts of a gradient added one after another. -/
theorem sum3 (a : EReal) (f : Fin 3 → EReal) : a + f 0 + f 1 + f 2 = a + ∑ k, f k := by
  rw [Fin.sum_univ_three, ← add_assoc, ← add_assoc]

theorem sum8 (f : Fin 8 → EReal) : f 0 + f 1 + f 2 + f 3 + f 4 + f 5 + f 6 + f 7 = ∑ k, f k := by
  rw [Fin.sum_univ_eight]
end Cert.Adam

end
-- ==== Proof.AdamDown.lean ====
/- AdamW on the shard of the down projection's weights: the gradient is this chip's part and the three others' added up. -/
module
public import proofs.«01_k».proof.Defs
public import proofs.«01_k».proof.Proof.Gen.KernelAdamDown
public import proofs.«01_k».proof.Proof.Gen.KernelAdamDown.Frame
public import proofs.«01_k».proof.Proof.Gen.KernelAdamDownIdeal
public import proofs.«01_k».proof.Proof.Gen.KernelAdamDownIdeal.Frame
public import proofs.«01_k».proof.Proof.Gen.KernelAdamDownIdeal.Value
public import proofs.«01_k».proof.Proof.Gen.ReferenceAdamDownIdeal
public import proofs.«01_k».proof.Proof.Gen.ReferenceAdamDownIdeal.Run
public import proofs.«01_k».proof.Proof.Gen.ReferenceAdamDownIdeal.Read
public import proofs.«01_k».proof.Proof.Ix
public import proofs.«01_k».proof.Proof.Adam
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelAdamDownIdeal.Val

open Cert.KernelAdamDownIdeal Cert.KernelAdamDownIdeal.Gen Idealize.ShloMosaic Idealize.ShloMosaic.TcCoe Idealize.SL.Sem
open Idealize.ShloMosaic.Pipeline (Dat)
open Cert.Adam

variable (m : (ℓ : Loc nD τ sig) → Buf (Elt Ideal) ℓ)

/-- The weights, their moments, this chip's part of the gradient and the three others. -/
abbrev X (c : Dev nD) : FVec Ideal S1x768x2048 .f32 := m ((c : Thread nD τ).loc main_arg0)
abbrev M (c : Dev nD) : FVec Ideal S1x768x2048 .f32 := m ((c : Thread nD τ).loc main_arg1)
abbrev S (c : Dev nD) : FVec Ideal S1x768x2048 .f32 := m ((c : Thread nD τ).loc main_arg2)
abbrev OWN (c : Dev nD) : FVec Ideal S768x2048 .f32 := m ((c : Thread nD τ).loc main_arg3)
abbrev R2 (c : Dev nD) : FVec Ideal S3x768x2048 .f32 := m ((c : Thread nD τ).loc main_arg4)

/-- Where each window's block lies. -/
theorem idx : ∀ t : Fin cfg0.N, win0_0.index t = ![t.val, 0] ∧ win0_1.index t = ![t.val, 0] ∧ win0_2.index t = ![t.val, 0]
    ∧ win0_3.index t = ![t.val, 0] ∧ win0_4.index t = ![0, t.val, 0] ∧ win0_5.index t = ![1, t.val, 0] ∧ win0_6.index t = ![2, t.val, 0]
    ∧ win0_7.index t = ![t.val, 0] ∧ win0_8.index t = ![t.val, 0] ∧ win0_9.index t = ![t.val, 0] ∧ win0_10.index t = ![t.val, 0]
    ∧ t.val < 12 :=
  (by decide +kernel : ∀ t : Fin grid0.N, _)

theorem lt (t : Fin cfg0.N) : t.val < 12 := (idx t).2.2.2.2.2.2.2.2.2.2.2

abbrev row (t : Fin cfg0.N) (r : Fin 64) : Fin 768 := ⟨t.val * 64 + r, by have := lt t; omega⟩

theorem v1_apply (c : Dev nD) (t : Fin 768) (k : Fin 2048) :
    (V m c main_v1 : FVec Ideal S768x2048 .f32) (ix2 t k) = X m c (ix3 0 t k) := by
  entry_read
  pointwise

theorem blk0 (c : Dev nD) (t : Fin cfg0.N) (r : Fin 64) (k : Fin 2048) :
    (iblk m c 0 t : Vec Ideal S64x2048 .f32) (ix2 r k) = X m c (ix3 0 (row t r) k) := by
  rw [← v1_apply m c]
  blk_ext [iblk, V, idx t]

theorem v2_apply (c : Dev nD) (t : Fin 768) (k : Fin 2048) :
    (V m c main_v2 : FVec Ideal S768x2048 .f32) (ix2 t k) = M m c (ix3 0 t k) := by
  entry_read
  pointwise

theorem blk1 (c : Dev nD) (t : Fin cfg0.N) (r : Fin 64) (k : Fin 2048) :
    (iblk m c 1 t : Vec Ideal S64x2048 .f32) (ix2 r k) = M m c (ix3 0 (row t r) k) := by
  rw [← v2_apply m c]
  blk_ext [iblk, V, idx t]

theorem v3_apply (c : Dev nD) (t : Fin 768) (k : Fin 2048) :
    (V m c main_v3 : FVec Ideal S768x2048 .f32) (ix2 t k) = S m c (ix3 0 t k) := by
  entry_read
  pointwise

theorem blk2 (c : Dev nD) (t : Fin cfg0.N) (r : Fin 64) (k : Fin 2048) :
    (iblk m c 2 t : Vec Ideal S64x2048 .f32) (ix2 r k) = S m c (ix3 0 (row t r) k) := by
  rw [← v3_apply m c]
  blk_ext [iblk, V, idx t]

theorem v0_apply (c : Dev nD) (s : Fin 3) (t : Fin 768) (k : Fin 2048) :
    (V m c main_v0 : FVec Ideal S3x768x2048 .bf16) (ix3 s t k) = R2 m c (ix3 s t k) := by
  entry_read
  pointwise

theorem blk3 (c : Dev nD) (t : Fin cfg0.N) (r : Fin 64) (k : Fin 2048) :
    (iblk m c 3 t : Vec Ideal S64x2048 .f32) (ix2 r k) = OWN m c (ix2 (row t r) k) := by
  blk_ext [iblk, V, idx t]

theorem blk4 (c : Dev nD) (t : Fin cfg0.N) (u : Fin 1) (r : Fin 64) (k : Fin 2048) :
    (iblk m c 4 t : Vec Ideal S1x64x2048 .bf16) (ix3 u r k) = R2 m c (ix3 0 (row t r) k) := by
  obtain rfl := Subsingleton.elim u 0
  rw [← v0_apply m c]
  blk_ext [iblk, V, idx t]

theorem blk5 (c : Dev nD) (t : Fin cfg0.N) (u : Fin 1) (r : Fin 64) (k : Fin 2048) :
    (iblk m c 5 t : Vec Ideal S1x64x2048 .bf16) (ix3 u r k) = R2 m c (ix3 1 (row t r) k) := by
  obtain rfl := Subsingleton.elim u 0
  rw [← v0_apply m c]
  blk_ext [iblk, V, idx t]

theorem blk6 (c : Dev nD) (t : Fin cfg0.N) (u : Fin 1) (r : Fin 64) (k : Fin 2048) :
    (iblk m c 6 t : Vec Ideal S1x64x2048 .bf16) (ix3 u r k) = R2 m c (ix3 2 (row t r) k) := by
  obtain rfl := Subsingleton.elim u 0
  rw [← v0_apply m c]
  blk_ext [iblk, V, idx t]

theorem pay2_at (a : FVec Ideal S64x2048 .f32) (x y z : FVec Ideal S1x64x2048 .bf16) (p : Fin 64) (q : Fin 2048) :
    k0_pay2 (F := Ideal) a x y z (ix2 p q) = a (ix2 p q) + x (ix3 0 p q) + y (ix3 0 p q) + z (ix3 0 p q) := by
  unfold k0_pay2
  pointwise

theorem pay3_at (a : FVec Ideal S64x2048 .f32) (x y z : FVec Ideal S1x64x2048 .bf16) (w : FVec Ideal S64x2048 .f32) (p : Fin 64) (q : Fin 2048) :
    k0_pay3 (F := Ideal) a x y z w (ix2 p q) = mom (w (ix2 p q)) (k0_pay2 (F := Ideal) a x y z (ix2 p q)) := by
  unfold k0_pay3 mom
  pointwise

theorem pay4_at (a : FVec Ideal S64x2048 .f32) (x y z : FVec Ideal S1x64x2048 .bf16) (w : FVec Ideal S64x2048 .f32) (p : Fin 64) (q : Fin 2048) :
    k0_pay4 (F := Ideal) a x y z w (ix2 p q) = var (w (ix2 p q)) (k0_pay2 (F := Ideal) a x y z (ix2 p q)) := by
  unfold k0_pay4 var
  pointwise

theorem pay1_at (a x y : FVec Ideal S64x2048 .f32) (p : Fin 64) (q : Fin 2048) :
    k0_pay1 (F := Ideal) a x y (ix2 p q) = delta (y (ix2 p q)) (a (ix2 p q)) (x (ix2 p q)) := by
  unfold k0_pay1 delta
  pointwise

/-- The gradient, the new moments and the change of the weights. -/
def G (c : Dev nD) (j : S768x2048.Idx) : EReal := OWN m c (ix2 (j 0) (j 1)) + ∑ k : Fin 3, R2 m c (ix3 k (j 0) (j 1))
def NM (c : Dev nD) (j : S768x2048.Idx) : EReal := mom (M m c (ix3 0 (j 0) (j 1))) (G m c j)
def NV (c : Dev nD) (j : S768x2048.Idx) : EReal := var (S m c (ix3 0 (j 0) (j 1))) (G m c j)
def DL (c : Dev nD) (j : S768x2048.Idx) : EReal := delta (X m c (ix3 0 (j 0) (j 1))) (NM m c j) (NV m c j)

theorem g_blk (c : Dev nD) (t : Fin cfg0.N) (p : Fin 64) (q : Fin 2048) :
    k0_pay2 (F := Ideal) (iblk m c 3 t) (iblk m c 4 t) (iblk m c 5 t) (iblk m c 6 t) (ix2 p q) = G m c (ix2 (row t p) q) := by
  refine (pay2_at _ _ _ _ _ _).trans ?_
  simp only [blk3, blk4, blk5, blk6]
  exact sum3 _ fun k => R2 m c (ix3 k (row t p) q)

theorem nm_blk (c : Dev nD) (t : Fin cfg0.N) (p : Fin 64) (q : Fin 2048) :
    k0_pay3 (F := Ideal) (iblk m c 3 t) (iblk m c 4 t) (iblk m c 5 t) (iblk m c 6 t) (iblk m c 1 t) (ix2 p q) = NM m c (ix2 (row t p) q) := by
  refine (pay3_at _ _ _ _ _ _ _).trans ?_
  rw [g_blk, blk1]
  rfl

theorem nv_blk (c : Dev nD) (t : Fin cfg0.N) (p : Fin 64) (q : Fin 2048) :
    k0_pay4 (F := Ideal) (iblk m c 3 t) (iblk m c 4 t) (iblk m c 5 t) (iblk m c 6 t) (iblk m c 2 t) (ix2 p q) = NV m c (ix2 (row t p) q) := by
  refine (pay4_at _ _ _ _ _ _ _).trans ?_
  rw [g_blk, blk2]
  rfl

theorem dl_blk (c : Dev nD) (t : Fin cfg0.N) (p : Fin 64) (q : Fin 2048) :
    k0_pay1 (F := Ideal) (k0_pay3 (F := Ideal) (iblk m c 3 t) (iblk m c 4 t) (iblk m c 5 t) (iblk m c 6 t) (iblk m c 1 t))
      (k0_pay4 (F := Ideal) (iblk m c 3 t) (iblk m c 4 t) (iblk m c 5 t) (iblk m c 6 t) (iblk m c 2 t)) (iblk m c 0 t) (ix2 p q)
      = DL m c (ix2 (row t p) q) := by
  refine (pay1_at _ _ _ _ _).trans ?_
  rw [nm_blk, nv_blk, blk0]
  rfl

theorem emb7 (t : Fin cfg0.N) (p : Fin 64) (q : Fin 2048) :
    (((cfg0.win 7).blk t).view.emb (ix2 p q) : S768x2048.Idx) = ix2 (row t p) q := by
  have e := idx t
  have h0 : ((((cfg0.win 7).blk t).view.emb (ix2 p q)) 0 : ℕ) = t.val * 64 + p := by blk_simp [e]
  have h1 : ((((cfg0.win 7).blk t).view.emb (ix2 p q)) 1 : ℕ) = q := by blk_simp [e]
  exact Ix.of2 _ _ _ h0 h1

theorem final7 (c : Dev nD) : (dats m 0 c).arrAt 7 (cfgs 0).N = G m c := by
  refine (dats m 0 c).arrAt_eq_of_covers 7 _ (by decide +kernel) fun t hf y => ?_
  blk_simp
  rw [after0_7]
  obtain ⟨p, q, rfl⟩ : ∃ (p : Fin 64) (q : Fin 2048), y = ix2 p q := ⟨_, _, eq_ix2 y⟩
  refine Eq.trans ?_ (congrArg (G m c) (emb7 t p q)).symm
  frame_out [k0_pay1, k0_pay2, k0_pay3, k0_pay4]
  exact g_blk m c t p q

theorem emb8 (t : Fin cfg0.N) (p : Fin 64) (q : Fin 2048) :
    (((cfg0.win 8).blk t).view.emb (ix2 p q) : S768x2048.Idx) = ix2 (row t p) q := by
  have e := idx t
  have h0 : ((((cfg0.win 8).blk t).view.emb (ix2 p q)) 0 : ℕ) = t.val * 64 + p := by blk_simp [e]
  have h1 : ((((cfg0.win 8).blk t).view.emb (ix2 p q)) 1 : ℕ) = q := by blk_simp [e]
  exact Ix.of2 _ _ _ h0 h1

theorem final8 (c : Dev nD) : (dats m 0 c).arrAt 8 (cfgs 0).N = DL m c := by
  refine (dats m 0 c).arrAt_eq_of_covers 8 _ (by decide +kernel) fun t hf y => ?_
  blk_simp
  rw [after0_8]
  obtain ⟨p, q, rfl⟩ : ∃ (p : Fin 64) (q : Fin 2048), y = ix2 p q := ⟨_, _, eq_ix2 y⟩
  refine Eq.trans ?_ (congrArg (DL m c) (emb8 t p q)).symm
  frame_out [k0_pay1, k0_pay2, k0_pay3, k0_pay4]
  exact dl_blk m c t p q

theorem emb9 (t : Fin cfg0.N) (p : Fin 64) (q : Fin 2048) :
    (((cfg0.win 9).blk t).view.emb (ix2 p q) : S768x2048.Idx) = ix2 (row t p) q := by
  have e := idx t
  have h0 : ((((cfg0.win 9).blk t).view.emb (ix2 p q)) 0 : ℕ) = t.val * 64 + p := by blk_simp [e]
  have h1 : ((((cfg0.win 9).blk t).view.emb (ix2 p q)) 1 : ℕ) = q := by blk_simp [e]
  exact Ix.of2 _ _ _ h0 h1

theorem final9 (c : Dev nD) : (dats m 0 c).arrAt 9 (cfgs 0).N = NM m c := by
  refine (dats m 0 c).arrAt_eq_of_covers 9 _ (by decide +kernel) fun t hf y => ?_
  blk_simp
  rw [after0_9]
  obtain ⟨p, q, rfl⟩ : ∃ (p : Fin 64) (q : Fin 2048), y = ix2 p q := ⟨_, _, eq_ix2 y⟩
  refine Eq.trans ?_ (congrArg (NM m c) (emb9 t p q)).symm
  frame_out [k0_pay1, k0_pay2, k0_pay3, k0_pay4]
  exact nm_blk m c t p q

theorem emb10 (t : Fin cfg0.N) (p : Fin 64) (q : Fin 2048) :
    (((cfg0.win 10).blk t).view.emb (ix2 p q) : S768x2048.Idx) = ix2 (row t p) q := by
  have e := idx t
  have h0 : ((((cfg0.win 10).blk t).view.emb (ix2 p q)) 0 : ℕ) = t.val * 64 + p := by blk_simp [e]
  have h1 : ((((cfg0.win 10).blk t).view.emb (ix2 p q)) 1 : ℕ) = q := by blk_simp [e]
  exact Ix.of2 _ _ _ h0 h1

theorem final10 (c : Dev nD) : (dats m 0 c).arrAt 10 (cfgs 0).N = NV m c := by
  refine (dats m 0 c).arrAt_eq_of_covers 10 _ (by decide +kernel) fun t hf y => ?_
  blk_simp
  rw [after0_10]
  obtain ⟨p, q, rfl⟩ : ∃ (p : Fin 64) (q : Fin 2048), y = ix2 p q := ⟨_, _, eq_ix2 y⟩
  refine Eq.trans ?_ (congrArg (NV m c) (emb10 t p q)).symm
  frame_out [k0_pay1, k0_pay2, k0_pay3, k0_pay4]
  exact nv_blk m c t p q

open Cert.ReferenceAdamDownIdeal.Read in
theorem ref_g (c : Dev nD) :
    (val_main_v1 (F := Ideal) (OWN m c) (R2 m c) : FVec Ideal S768x2048 .f32) = G m c := by
  funext j
  obtain ⟨p, q, rfl⟩ : ∃ (p : Fin 768) (q : Fin 2048), j = ix2 p q := ⟨_, _, eq_ix2 j⟩
  unfold G
  pointwise [val_main_v1, val_main_v0, val_main_cst]

open Cert.ReferenceAdamDownIdeal.Read in
theorem ref_m (c : Dev nD) :
    (val_main_v9 (F := Ideal) (M m c) (OWN m c) (R2 m c) : FVec Ideal S768x2048 .f32) = NM m c := by
  funext j
  obtain ⟨p, q, rfl⟩ : ∃ (p : Fin 768) (q : Fin 2048), j = ix2 p q := ⟨_, _, eq_ix2 j⟩
  unfold NM mom
  pointwise [val_main_v9, val_main_v8, val_main_v7, val_main_v6, val_main_v5, val_main_v3, val_main_cst_0, val_main_cst_1]
  rw [ref_g m c]

open Cert.ReferenceAdamDownIdeal.Read in
theorem ref_v (c : Dev nD) :
    (val_main_v15 (F := Ideal) (S m c) (OWN m c) (R2 m c) : FVec Ideal S768x2048 .f32) = NV m c := by
  funext j
  obtain ⟨p, q, rfl⟩ : ∃ (p : Fin 768) (q : Fin 2048), j = ix2 p q := ⟨_, _, eq_ix2 j⟩
  unfold NV var
  pointwise [val_main_v15, val_main_v14, val_main_v13, val_main_v12, val_main_v11, val_main_v10, val_main_v4, val_main_cst_2, val_main_cst_3]
  rw [ref_g m c]

open Cert.ReferenceAdamDownIdeal.Read in
theorem ref_d (c : Dev nD) :
    (val_main_v28 (F := Ideal) (X m c) (M m c) (S m c) (OWN m c) (R2 m c) : FVec Ideal S768x2048 .f32) = DL m c := by
  funext j
  obtain ⟨p, q, rfl⟩ : ∃ (p : Fin 768) (q : Fin 2048), j = ix2 p q := ⟨_, _, eq_ix2 j⟩
  unfold DL delta
  pointwise [val_main_v28, val_main_v27, val_main_v26, val_main_v25, val_main_v24, val_main_v23, val_main_v22, val_main_v21, val_main_v20, val_main_v19, val_main_v18, val_main_v17, val_main_v16, val_main_v2, val_main_cst, val_main_cst_0, val_main_cst_1, val_main_cst_2, val_main_cst_3, val_main_cst_4, val_main_cst_5, val_main_cst_6, val_main_cst_7, val_main_cst_8]
  rw [ref_m m c, ref_v m c]

theorem frame_p : Cert.quiescent_KernelAdamDown := fun m ρ _ => Cert.KernelAdamDown.Gen.frame m ρ
theorem frame_pi : Cert.quiescent_KernelAdamDownIdeal := fun m ρ _ => Cert.KernelAdamDownIdeal.Gen.frame m ρ
theorem frame_ri : Cert.quiescent_ReferenceAdamDownIdeal := fun m ρ _ =>
  (θ_run Cert.ReferenceAdamDownIdeal.defs _ _).mono (fun r h => ⟨fun c => (h c).2.2.2.2,
      Idealize.ShloMosaic.sem_eq_zero_of_no_sems (by decide) r.2⟩)
    (Cert.ReferenceAdamDownIdeal.Value.run (F := Ideal) m ρ)

theorem algebraic : Cert.algebraic_KernelAdamDownIdeal_ReferenceAdamDownIdeal := by
  intro m ρ m' ρ' hpre hagree
  refine ⟨_, _, _, _, Cert.KernelAdamDownIdeal.Value.run_blocks (F := Ideal) m ρ, ?_⟩
  refine (θ_run Cert.ReferenceAdamDownIdeal.defs _ _).mono (fun _ h c => ?_) (Cert.ReferenceAdamDownIdeal.Value.run (F := Ideal) m' ρ')
  obtain ⟨a0, a1, a2, a3, a4⟩ := hagree c
  obtain ⟨r0, r1, r2, r3, k⟩ := h c
  refine ⟨(r0.trans (Cert.ReferenceAdamDownIdeal.Read.val_main_v1_eq _ _)).trans ?_,
    (r1.trans (Cert.ReferenceAdamDownIdeal.Read.val_main_v28_eq _ _ _ _ _)).trans ?_,
    (r2.trans (Cert.ReferenceAdamDownIdeal.Read.val_main_v9_eq _ _ _)).trans ?_,
    (r3.trans (Cert.ReferenceAdamDownIdeal.Read.val_main_v15_eq _ _ _)).trans ?_, k⟩
  · rw [a3, a4]
    exact (ref_g m c).trans (final7 m c).symm
  · rw [a0, a1, a2, a3, a4]
    exact (ref_d m c).trans (final8 m c).symm
  · rw [a1, a3, a4]
    exact (ref_m m c).trans (final9 m c).symm
  · rw [a2, a3, a4]
    exact (ref_v m c).trans (final10 m c).symm
end Cert.KernelAdamDownIdeal.Val
-- ==== Proof.AdamUp.lean ====
/- AdamW on the shard of the up projection's weights: the gradient is this chip's part and the three others' added up. -/
module
public import proofs.«01_k».proof.Defs
public import proofs.«01_k».proof.Proof.Gen.KernelAdamUp
public import proofs.«01_k».proof.Proof.Gen.KernelAdamUp.Frame
public import proofs.«01_k».proof.Proof.Gen.KernelAdamUpIdeal
public import proofs.«01_k».proof.Proof.Gen.KernelAdamUpIdeal.Frame
public import proofs.«01_k».proof.Proof.Gen.KernelAdamUpIdeal.Value
public import proofs.«01_k».proof.Proof.Gen.ReferenceAdamUpIdeal
public import proofs.«01_k».proof.Proof.Gen.ReferenceAdamUpIdeal.Run
public import proofs.«01_k».proof.Proof.Gen.ReferenceAdamUpIdeal.Read
public import proofs.«01_k».proof.Proof.Ix
public import proofs.«01_k».proof.Proof.Adam
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelAdamUpIdeal.Val

open Cert.KernelAdamUpIdeal Cert.KernelAdamUpIdeal.Gen Idealize.ShloMosaic Idealize.ShloMosaic.TcCoe Idealize.SL.Sem
open Idealize.ShloMosaic.Pipeline (Dat)
open Cert.Adam

variable (m : (ℓ : Loc nD τ sig) → Buf (Elt Ideal) ℓ)

/-- The weights, their moments, this chip's part of the gradient and the three others. -/
abbrev X (c : Dev nD) : FVec Ideal S1x2048x1536 .f32 := m ((c : Thread nD τ).loc main_arg0)
abbrev M (c : Dev nD) : FVec Ideal S1x2048x1536 .f32 := m ((c : Thread nD τ).loc main_arg1)
abbrev S (c : Dev nD) : FVec Ideal S1x2048x1536 .f32 := m ((c : Thread nD τ).loc main_arg2)
abbrev OWN (c : Dev nD) : FVec Ideal S2048x1536 .f32 := m ((c : Thread nD τ).loc main_arg3)
abbrev R2 (c : Dev nD) : FVec Ideal S3x2048x1536 .f32 := m ((c : Thread nD τ).loc main_arg4)

/-- Where each window's block lies. -/
theorem idx : ∀ t : Fin cfg0.N, win0_0.index t = ![t.val, 0] ∧ win0_1.index t = ![t.val, 0] ∧ win0_2.index t = ![t.val, 0]
    ∧ win0_3.index t = ![t.val, 0] ∧ win0_4.index t = ![0, t.val, 0] ∧ win0_5.index t = ![1, t.val, 0] ∧ win0_6.index t = ![2, t.val, 0]
    ∧ win0_7.index t = ![t.val, 0] ∧ win0_8.index t = ![t.val, 0] ∧ win0_9.index t = ![t.val, 0] ∧ win0_10.index t = ![t.val, 0]
    ∧ t.val < 32 :=
  (by decide +kernel : ∀ t : Fin grid0.N, _)

theorem lt (t : Fin cfg0.N) : t.val < 32 := (idx t).2.2.2.2.2.2.2.2.2.2.2

abbrev row (t : Fin cfg0.N) (r : Fin 64) : Fin 2048 := ⟨t.val * 64 + r, by have := lt t; omega⟩

theorem v1_apply (c : Dev nD) (t : Fin 2048) (k : Fin 1536) :
    (V m c main_v1 : FVec Ideal S2048x1536 .f32) (ix2 t k) = X m c (ix3 0 t k) := by
  entry_read
  pointwise

theorem blk0 (c : Dev nD) (t : Fin cfg0.N) (r : Fin 64) (k : Fin 1536) :
    (iblk m c 0 t : Vec Ideal S64x1536 .f32) (ix2 r k) = X m c (ix3 0 (row t r) k) := by
  rw [← v1_apply m c]
  blk_ext [iblk, V, idx t]

theorem v2_apply (c : Dev nD) (t : Fin 2048) (k : Fin 1536) :
    (V m c main_v2 : FVec Ideal S2048x1536 .f32) (ix2 t k) = M m c (ix3 0 t k) := by
  entry_read
  pointwise

theorem blk1 (c : Dev nD) (t : Fin cfg0.N) (r : Fin 64) (k : Fin 1536) :
    (iblk m c 1 t : Vec Ideal S64x1536 .f32) (ix2 r k) = M m c (ix3 0 (row t r) k) := by
  rw [← v2_apply m c]
  blk_ext [iblk, V, idx t]

theorem v3_apply (c : Dev nD) (t : Fin 2048) (k : Fin 1536) :
    (V m c main_v3 : FVec Ideal S2048x1536 .f32) (ix2 t k) = S m c (ix3 0 t k) := by
  entry_read
  pointwise

theorem blk2 (c : Dev nD) (t : Fin cfg0.N) (r : Fin 64) (k : Fin 1536) :
    (iblk m c 2 t : Vec Ideal S64x1536 .f32) (ix2 r k) = S m c (ix3 0 (row t r) k) := by
  rw [← v3_apply m c]
  blk_ext [iblk, V, idx t]

theorem v0_apply (c : Dev nD) (s : Fin 3) (t : Fin 2048) (k : Fin 1536) :
    (V m c main_v0 : FVec Ideal S3x2048x1536 .bf16) (ix3 s t k) = R2 m c (ix3 s t k) := by
  entry_read
  pointwise

theorem blk3 (c : Dev nD) (t : Fin cfg0.N) (r : Fin 64) (k : Fin 1536) :
    (iblk m c 3 t : Vec Ideal S64x1536 .f32) (ix2 r k) = OWN m c (ix2 (row t r) k) := by
  blk_ext [iblk, V, idx t]

theorem blk4 (c : Dev nD) (t : Fin cfg0.N) (u : Fin 1) (r : Fin 64) (k : Fin 1536) :
    (iblk m c 4 t : Vec Ideal S1x64x1536 .bf16) (ix3 u r k) = R2 m c (ix3 0 (row t r) k) := by
  obtain rfl := Subsingleton.elim u 0
  rw [← v0_apply m c]
  blk_ext [iblk, V, idx t]

theorem blk5 (c : Dev nD) (t : Fin cfg0.N) (u : Fin 1) (r : Fin 64) (k : Fin 1536) :
    (iblk m c 5 t : Vec Ideal S1x64x1536 .bf16) (ix3 u r k) = R2 m c (ix3 1 (row t r) k) := by
  obtain rfl := Subsingleton.elim u 0
  rw [← v0_apply m c]
  blk_ext [iblk, V, idx t]

theorem blk6 (c : Dev nD) (t : Fin cfg0.N) (u : Fin 1) (r : Fin 64) (k : Fin 1536) :
    (iblk m c 6 t : Vec Ideal S1x64x1536 .bf16) (ix3 u r k) = R2 m c (ix3 2 (row t r) k) := by
  obtain rfl := Subsingleton.elim u 0
  rw [← v0_apply m c]
  blk_ext [iblk, V, idx t]

theorem pay2_at (a : FVec Ideal S64x1536 .f32) (x y z : FVec Ideal S1x64x1536 .bf16) (p : Fin 64) (q : Fin 1536) :
    k0_pay2 (F := Ideal) a x y z (ix2 p q) = a (ix2 p q) + x (ix3 0 p q) + y (ix3 0 p q) + z (ix3 0 p q) := by
  unfold k0_pay2
  pointwise

theorem pay3_at (a : FVec Ideal S64x1536 .f32) (x y z : FVec Ideal S1x64x1536 .bf16) (w : FVec Ideal S64x1536 .f32) (p : Fin 64) (q : Fin 1536) :
    k0_pay3 (F := Ideal) a x y z w (ix2 p q) = mom (w (ix2 p q)) (k0_pay2 (F := Ideal) a x y z (ix2 p q)) := by
  unfold k0_pay3 mom
  pointwise

theorem pay4_at (a : FVec Ideal S64x1536 .f32) (x y z : FVec Ideal S1x64x1536 .bf16) (w : FVec Ideal S64x1536 .f32) (p : Fin 64) (q : Fin 1536) :
    k0_pay4 (F := Ideal) a x y z w (ix2 p q) = var (w (ix2 p q)) (k0_pay2 (F := Ideal) a x y z (ix2 p q)) := by
  unfold k0_pay4 var
  pointwise

theorem pay1_at (a x y : FVec Ideal S64x1536 .f32) (p : Fin 64) (q : Fin 1536) :
    k0_pay1 (F := Ideal) a x y (ix2 p q) = delta (y (ix2 p q)) (a (ix2 p q)) (x (ix2 p q)) := by
  unfold k0_pay1 delta
  pointwise

/-- The gradient, the new moments and the change of the weights. -/
def G (c : Dev nD) (j : S2048x1536.Idx) : EReal := OWN m c (ix2 (j 0) (j 1)) + ∑ k : Fin 3, R2 m c (ix3 k (j 0) (j 1))
def NM (c : Dev nD) (j : S2048x1536.Idx) : EReal := mom (M m c (ix3 0 (j 0) (j 1))) (G m c j)
def NV (c : Dev nD) (j : S2048x1536.Idx) : EReal := var (S m c (ix3 0 (j 0) (j 1))) (G m c j)
def DL (c : Dev nD) (j : S2048x1536.Idx) : EReal := delta (X m c (ix3 0 (j 0) (j 1))) (NM m c j) (NV m c j)

theorem g_blk (c : Dev nD) (t : Fin cfg0.N) (p : Fin 64) (q : Fin 1536) :
    k0_pay2 (F := Ideal) (iblk m c 3 t) (iblk m c 4 t) (iblk m c 5 t) (iblk m c 6 t) (ix2 p q) = G m c (ix2 (row t p) q) := by
  refine (pay2_at _ _ _ _ _ _).trans ?_
  simp only [blk3, blk4, blk5, blk6]
  exact sum3 _ fun k => R2 m c (ix3 k (row t p) q)

theorem nm_blk (c : Dev nD) (t : Fin cfg0.N) (p : Fin 64) (q : Fin 1536) :
    k0_pay3 (F := Ideal) (iblk m c 3 t) (iblk m c 4 t) (iblk m c 5 t) (iblk m c 6 t) (iblk m c 1 t) (ix2 p q) = NM m c (ix2 (row t p) q) := by
  refine (pay3_at _ _ _ _ _ _ _).trans ?_
  rw [g_blk, blk1]
  rfl

theorem nv_blk (c : Dev nD) (t : Fin cfg0.N) (p : Fin 64) (q : Fin 1536) :
    k0_pay4 (F := Ideal) (iblk m c 3 t) (iblk m c 4 t) (iblk m c 5 t) (iblk m c 6 t) (iblk m c 2 t) (ix2 p q) = NV m c (ix2 (row t p) q) := by
  refine (pay4_at _ _ _ _ _ _ _).trans ?_
  rw [g_blk, blk2]
  rfl

theorem dl_blk (c : Dev nD) (t : Fin cfg0.N) (p : Fin 64) (q : Fin 1536) :
    k0_pay1 (F := Ideal) (k0_pay3 (F := Ideal) (iblk m c 3 t) (iblk m c 4 t) (iblk m c 5 t) (iblk m c 6 t) (iblk m c 1 t))
      (k0_pay4 (F := Ideal) (iblk m c 3 t) (iblk m c 4 t) (iblk m c 5 t) (iblk m c 6 t) (iblk m c 2 t)) (iblk m c 0 t) (ix2 p q)
      = DL m c (ix2 (row t p) q) := by
  refine (pay1_at _ _ _ _ _).trans ?_
  rw [nm_blk, nv_blk, blk0]
  rfl

theorem emb7 (t : Fin cfg0.N) (p : Fin 64) (q : Fin 1536) :
    (((cfg0.win 7).blk t).view.emb (ix2 p q) : S2048x1536.Idx) = ix2 (row t p) q := by
  have e := idx t
  have h0 : ((((cfg0.win 7).blk t).view.emb (ix2 p q)) 0 : ℕ) = t.val * 64 + p := by blk_simp [e]
  have h1 : ((((cfg0.win 7).blk t).view.emb (ix2 p q)) 1 : ℕ) = q := by blk_simp [e]
  exact Ix.of2 _ _ _ h0 h1

theorem final7 (c : Dev nD) : (dats m 0 c).arrAt 7 (cfgs 0).N = G m c := by
  refine (dats m 0 c).arrAt_eq_of_covers 7 _ (by decide +kernel) fun t hf y => ?_
  blk_simp
  rw [after0_7]
  obtain ⟨p, q, rfl⟩ : ∃ (p : Fin 64) (q : Fin 1536), y = ix2 p q := ⟨_, _, eq_ix2 y⟩
  refine Eq.trans ?_ (congrArg (G m c) (emb7 t p q)).symm
  frame_out [k0_pay1, k0_pay2, k0_pay3, k0_pay4]
  exact g_blk m c t p q

theorem emb8 (t : Fin cfg0.N) (p : Fin 64) (q : Fin 1536) :
    (((cfg0.win 8).blk t).view.emb (ix2 p q) : S2048x1536.Idx) = ix2 (row t p) q := by
  have e := idx t
  have h0 : ((((cfg0.win 8).blk t).view.emb (ix2 p q)) 0 : ℕ) = t.val * 64 + p := by blk_simp [e]
  have h1 : ((((cfg0.win 8).blk t).view.emb (ix2 p q)) 1 : ℕ) = q := by blk_simp [e]
  exact Ix.of2 _ _ _ h0 h1

theorem final8 (c : Dev nD) : (dats m 0 c).arrAt 8 (cfgs 0).N = DL m c := by
  refine (dats m 0 c).arrAt_eq_of_covers 8 _ (by decide +kernel) fun t hf y => ?_
  blk_simp
  rw [after0_8]
  obtain ⟨p, q, rfl⟩ : ∃ (p : Fin 64) (q : Fin 1536), y = ix2 p q := ⟨_, _, eq_ix2 y⟩
  refine Eq.trans ?_ (congrArg (DL m c) (emb8 t p q)).symm
  frame_out [k0_pay1, k0_pay2, k0_pay3, k0_pay4]
  exact dl_blk m c t p q

theorem emb9 (t : Fin cfg0.N) (p : Fin 64) (q : Fin 1536) :
    (((cfg0.win 9).blk t).view.emb (ix2 p q) : S2048x1536.Idx) = ix2 (row t p) q := by
  have e := idx t
  have h0 : ((((cfg0.win 9).blk t).view.emb (ix2 p q)) 0 : ℕ) = t.val * 64 + p := by blk_simp [e]
  have h1 : ((((cfg0.win 9).blk t).view.emb (ix2 p q)) 1 : ℕ) = q := by blk_simp [e]
  exact Ix.of2 _ _ _ h0 h1

theorem final9 (c : Dev nD) : (dats m 0 c).arrAt 9 (cfgs 0).N = NM m c := by
  refine (dats m 0 c).arrAt_eq_of_covers 9 _ (by decide +kernel) fun t hf y => ?_
  blk_simp
  rw [after0_9]
  obtain ⟨p, q, rfl⟩ : ∃ (p : Fin 64) (q : Fin 1536), y = ix2 p q := ⟨_, _, eq_ix2 y⟩
  refine Eq.trans ?_ (congrArg (NM m c) (emb9 t p q)).symm
  frame_out [k0_pay1, k0_pay2, k0_pay3, k0_pay4]
  exact nm_blk m c t p q

theorem emb10 (t : Fin cfg0.N) (p : Fin 64) (q : Fin 1536) :
    (((cfg0.win 10).blk t).view.emb (ix2 p q) : S2048x1536.Idx) = ix2 (row t p) q := by
  have e := idx t
  have h0 : ((((cfg0.win 10).blk t).view.emb (ix2 p q)) 0 : ℕ) = t.val * 64 + p := by blk_simp [e]
  have h1 : ((((cfg0.win 10).blk t).view.emb (ix2 p q)) 1 : ℕ) = q := by blk_simp [e]
  exact Ix.of2 _ _ _ h0 h1

theorem final10 (c : Dev nD) : (dats m 0 c).arrAt 10 (cfgs 0).N = NV m c := by
  refine (dats m 0 c).arrAt_eq_of_covers 10 _ (by decide +kernel) fun t hf y => ?_
  blk_simp
  rw [after0_10]
  obtain ⟨p, q, rfl⟩ : ∃ (p : Fin 64) (q : Fin 1536), y = ix2 p q := ⟨_, _, eq_ix2 y⟩
  refine Eq.trans ?_ (congrArg (NV m c) (emb10 t p q)).symm
  frame_out [k0_pay1, k0_pay2, k0_pay3, k0_pay4]
  exact nv_blk m c t p q

open Cert.ReferenceAdamUpIdeal.Read in
theorem ref_g (c : Dev nD) :
    (val_main_v1 (F := Ideal) (OWN m c) (R2 m c) : FVec Ideal S2048x1536 .f32) = G m c := by
  funext j
  obtain ⟨p, q, rfl⟩ : ∃ (p : Fin 2048) (q : Fin 1536), j = ix2 p q := ⟨_, _, eq_ix2 j⟩
  unfold G
  pointwise [val_main_v1, val_main_v0, val_main_cst]

open Cert.ReferenceAdamUpIdeal.Read in
theorem ref_m (c : Dev nD) :
    (val_main_v9 (F := Ideal) (M m c) (OWN m c) (R2 m c) : FVec Ideal S2048x1536 .f32) = NM m c := by
  funext j
  obtain ⟨p, q, rfl⟩ : ∃ (p : Fin 2048) (q : Fin 1536), j = ix2 p q := ⟨_, _, eq_ix2 j⟩
  unfold NM mom
  pointwise [val_main_v9, val_main_v8, val_main_v7, val_main_v6, val_main_v5, val_main_v3, val_main_cst_0, val_main_cst_1]
  rw [ref_g m c]

open Cert.ReferenceAdamUpIdeal.Read in
theorem ref_v (c : Dev nD) :
    (val_main_v15 (F := Ideal) (S m c) (OWN m c) (R2 m c) : FVec Ideal S2048x1536 .f32) = NV m c := by
  funext j
  obtain ⟨p, q, rfl⟩ : ∃ (p : Fin 2048) (q : Fin 1536), j = ix2 p q := ⟨_, _, eq_ix2 j⟩
  unfold NV var
  pointwise [val_main_v15, val_main_v14, val_main_v13, val_main_v12, val_main_v11, val_main_v10, val_main_v4, val_main_cst_2, val_main_cst_3]
  rw [ref_g m c]

open Cert.ReferenceAdamUpIdeal.Read in
theorem ref_d (c : Dev nD) :
    (val_main_v28 (F := Ideal) (X m c) (M m c) (S m c) (OWN m c) (R2 m c) : FVec Ideal S2048x1536 .f32) = DL m c := by
  funext j
  obtain ⟨p, q, rfl⟩ : ∃ (p : Fin 2048) (q : Fin 1536), j = ix2 p q := ⟨_, _, eq_ix2 j⟩
  unfold DL delta
  pointwise [val_main_v28, val_main_v27, val_main_v26, val_main_v25, val_main_v24, val_main_v23, val_main_v22, val_main_v21, val_main_v20, val_main_v19, val_main_v18, val_main_v17, val_main_v16, val_main_v2, val_main_cst, val_main_cst_0, val_main_cst_1, val_main_cst_2, val_main_cst_3, val_main_cst_4, val_main_cst_5, val_main_cst_6, val_main_cst_7, val_main_cst_8]
  rw [ref_m m c, ref_v m c]

theorem frame_p : Cert.quiescent_KernelAdamUp := fun m ρ _ => Cert.KernelAdamUp.Gen.frame m ρ
theorem frame_pi : Cert.quiescent_KernelAdamUpIdeal := fun m ρ _ => Cert.KernelAdamUpIdeal.Gen.frame m ρ
theorem frame_ri : Cert.quiescent_ReferenceAdamUpIdeal := fun m ρ _ =>
  (θ_run Cert.ReferenceAdamUpIdeal.defs _ _).mono (fun r h => ⟨fun c => (h c).2.2.2.2,
      Idealize.ShloMosaic.sem_eq_zero_of_no_sems (by decide) r.2⟩)
    (Cert.ReferenceAdamUpIdeal.Value.run (F := Ideal) m ρ)

theorem algebraic : Cert.algebraic_KernelAdamUpIdeal_ReferenceAdamUpIdeal := by
  intro m ρ m' ρ' hpre hagree
  refine ⟨_, _, _, _, Cert.KernelAdamUpIdeal.Value.run_blocks (F := Ideal) m ρ, ?_⟩
  refine (θ_run Cert.ReferenceAdamUpIdeal.defs _ _).mono (fun _ h c => ?_) (Cert.ReferenceAdamUpIdeal.Value.run (F := Ideal) m' ρ')
  obtain ⟨a0, a1, a2, a3, a4⟩ := hagree c
  obtain ⟨r0, r1, r2, r3, k⟩ := h c
  refine ⟨(r0.trans (Cert.ReferenceAdamUpIdeal.Read.val_main_v1_eq _ _)).trans ?_,
    (r1.trans (Cert.ReferenceAdamUpIdeal.Read.val_main_v28_eq _ _ _ _ _)).trans ?_,
    (r2.trans (Cert.ReferenceAdamUpIdeal.Read.val_main_v9_eq _ _ _)).trans ?_,
    (r3.trans (Cert.ReferenceAdamUpIdeal.Read.val_main_v15_eq _ _ _)).trans ?_, k⟩
  · rw [a3, a4]
    exact (ref_g m c).trans (final7 m c).symm
  · rw [a0, a1, a2, a3, a4]
    exact (ref_d m c).trans (final8 m c).symm
  · rw [a1, a3, a4]
    exact (ref_m m c).trans (final9 m c).symm
  · rw [a2, a3, a4]
    exact (ref_v m c).trans (final10 m c).symm
end Cert.KernelAdamUpIdeal.Val
-- ==== Proof.AdamOut.lean ====
/- AdamW on the shard of the output projection's weights: the gradient is this chip's part and the three others' added up. -/
module
public import proofs.«01_k».proof.Defs
public import proofs.«01_k».proof.Proof.Gen.KernelAdamOut
public import proofs.«01_k».proof.Proof.Gen.KernelAdamOut.Frame
public import proofs.«01_k».proof.Proof.Gen.KernelAdamOutIdeal
public import proofs.«01_k».proof.Proof.Gen.KernelAdamOutIdeal.Frame
public import proofs.«01_k».proof.Proof.Gen.KernelAdamOutIdeal.Value
public import proofs.«01_k».proof.Proof.Gen.ReferenceAdamOutIdeal
public import proofs.«01_k».proof.Proof.Gen.ReferenceAdamOutIdeal.Run
public import proofs.«01_k».proof.Proof.Gen.ReferenceAdamOutIdeal.Read
public import proofs.«01_k».proof.Proof.Ix
public import proofs.«01_k».proof.Proof.Adam
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelAdamOutIdeal.Val

open Cert.KernelAdamOutIdeal Cert.KernelAdamOutIdeal.Gen Idealize.ShloMosaic Idealize.ShloMosaic.TcCoe Idealize.SL.Sem
open Idealize.ShloMosaic.Pipeline (Dat)
open Cert.Adam

variable (m : (ℓ : Loc nD τ sig) → Buf (Elt Ideal) ℓ)

/-- The weights, their moments, this chip's part of the gradient and the three others. -/
abbrev X (c : Dev nD) : FVec Ideal S1x256x2048 .f32 := m ((c : Thread nD τ).loc main_arg0)
abbrev M (c : Dev nD) : FVec Ideal S1x256x2048 .f32 := m ((c : Thread nD τ).loc main_arg1)
abbrev S (c : Dev nD) : FVec Ideal S1x256x2048 .f32 := m ((c : Thread nD τ).loc main_arg2)
abbrev OWN (c : Dev nD) : FVec Ideal S256x2048 .f32 := m ((c : Thread nD τ).loc main_arg3)
abbrev R2 (c : Dev nD) : FVec Ideal S3x256x2048 .f32 := m ((c : Thread nD τ).loc main_arg4)

/-- Where each window's block lies. -/
theorem idx : ∀ t : Fin cfg0.N, win0_0.index t = ![t.val, 0] ∧ win0_1.index t = ![t.val, 0] ∧ win0_2.index t = ![t.val, 0]
    ∧ win0_3.index t = ![t.val, 0] ∧ win0_4.index t = ![0, t.val, 0] ∧ win0_5.index t = ![1, t.val, 0] ∧ win0_6.index t = ![2, t.val, 0]
    ∧ win0_7.index t = ![t.val, 0] ∧ win0_8.index t = ![t.val, 0] ∧ win0_9.index t = ![t.val, 0] ∧ win0_10.index t = ![t.val, 0]
    ∧ t.val < 4 :=
  (by decide +kernel : ∀ t : Fin grid0.N, _)

theorem lt (t : Fin cfg0.N) : t.val < 4 := (idx t).2.2.2.2.2.2.2.2.2.2.2

abbrev row (t : Fin cfg0.N) (r : Fin 64) : Fin 256 := ⟨t.val * 64 + r, by have := lt t; omega⟩

theorem v1_apply (c : Dev nD) (t : Fin 256) (k : Fin 2048) :
    (V m c main_v1 : FVec Ideal S256x2048 .f32) (ix2 t k) = X m c (ix3 0 t k) := by
  entry_read
  pointwise

theorem blk0 (c : Dev nD) (t : Fin cfg0.N) (r : Fin 64) (k : Fin 2048) :
    (iblk m c 0 t : Vec Ideal S64x2048 .f32) (ix2 r k) = X m c (ix3 0 (row t r) k) := by
  rw [← v1_apply m c]
  blk_ext [iblk, V, idx t]

theorem v2_apply (c : Dev nD) (t : Fin 256) (k : Fin 2048) :
    (V m c main_v2 : FVec Ideal S256x2048 .f32) (ix2 t k) = M m c (ix3 0 t k) := by
  entry_read
  pointwise

theorem blk1 (c : Dev nD) (t : Fin cfg0.N) (r : Fin 64) (k : Fin 2048) :
    (iblk m c 1 t : Vec Ideal S64x2048 .f32) (ix2 r k) = M m c (ix3 0 (row t r) k) := by
  rw [← v2_apply m c]
  blk_ext [iblk, V, idx t]

theorem v3_apply (c : Dev nD) (t : Fin 256) (k : Fin 2048) :
    (V m c main_v3 : FVec Ideal S256x2048 .f32) (ix2 t k) = S m c (ix3 0 t k) := by
  entry_read
  pointwise

theorem blk2 (c : Dev nD) (t : Fin cfg0.N) (r : Fin 64) (k : Fin 2048) :
    (iblk m c 2 t : Vec Ideal S64x2048 .f32) (ix2 r k) = S m c (ix3 0 (row t r) k) := by
  rw [← v3_apply m c]
  blk_ext [iblk, V, idx t]

theorem v0_apply (c : Dev nD) (s : Fin 3) (t : Fin 256) (k : Fin 2048) :
    (V m c main_v0 : FVec Ideal S3x256x2048 .bf16) (ix3 s t k) = R2 m c (ix3 s t k) := by
  entry_read
  pointwise

theorem blk3 (c : Dev nD) (t : Fin cfg0.N) (r : Fin 64) (k : Fin 2048) :
    (iblk m c 3 t : Vec Ideal S64x2048 .f32) (ix2 r k) = OWN m c (ix2 (row t r) k) := by
  blk_ext [iblk, V, idx t]

theorem blk4 (c : Dev nD) (t : Fin cfg0.N) (u : Fin 1) (r : Fin 64) (k : Fin 2048) :
    (iblk m c 4 t : Vec Ideal S1x64x2048 .bf16) (ix3 u r k) = R2 m c (ix3 0 (row t r) k) := by
  obtain rfl := Subsingleton.elim u 0
  rw [← v0_apply m c]
  blk_ext [iblk, V, idx t]

theorem blk5 (c : Dev nD) (t : Fin cfg0.N) (u : Fin 1) (r : Fin 64) (k : Fin 2048) :
    (iblk m c 5 t : Vec Ideal S1x64x2048 .bf16) (ix3 u r k) = R2 m c (ix3 1 (row t r) k) := by
  obtain rfl := Subsingleton.elim u 0
  rw [← v0_apply m c]
  blk_ext [iblk, V, idx t]

theorem blk6 (c : Dev nD) (t : Fin cfg0.N) (u : Fin 1) (r : Fin 64) (k : Fin 2048) :
    (iblk m c 6 t : Vec Ideal S1x64x2048 .bf16) (ix3 u r k) = R2 m c (ix3 2 (row t r) k) := by
  obtain rfl := Subsingleton.elim u 0
  rw [← v0_apply m c]
  blk_ext [iblk, V, idx t]

theorem pay2_at (a : FVec Ideal S64x2048 .f32) (x y z : FVec Ideal S1x64x2048 .bf16) (p : Fin 64) (q : Fin 2048) :
    k0_pay2 (F := Ideal) a x y z (ix2 p q) = a (ix2 p q) + x (ix3 0 p q) + y (ix3 0 p q) + z (ix3 0 p q) := by
  unfold k0_pay2
  pointwise

theorem pay3_at (a : FVec Ideal S64x2048 .f32) (x y z : FVec Ideal S1x64x2048 .bf16) (w : FVec Ideal S64x2048 .f32) (p : Fin 64) (q : Fin 2048) :
    k0_pay3 (F := Ideal) a x y z w (ix2 p q) = mom (w (ix2 p q)) (k0_pay2 (F := Ideal) a x y z (ix2 p q)) := by
  unfold k0_pay3 mom
  pointwise

theorem pay4_at (a : FVec Ideal S64x2048 .f32) (x y z : FVec Ideal S1x64x2048 .bf16) (w : FVec Ideal S64x2048 .f32) (p : Fin 64) (q : Fin 2048) :
    k0_pay4 (F := Ideal) a x y z w (ix2 p q) = var (w (ix2 p q)) (k0_pay2 (F := Ideal) a x y z (ix2 p q)) := by
  unfold k0_pay4 var
  pointwise

theorem pay1_at (a x y : FVec Ideal S64x2048 .f32) (p : Fin 64) (q : Fin 2048) :
    k0_pay1 (F := Ideal) a x y (ix2 p q) = delta (y (ix2 p q)) (a (ix2 p q)) (x (ix2 p q)) := by
  unfold k0_pay1 delta
  pointwise

/-- The gradient, the new moments and the change of the weights. -/
def G (c : Dev nD) (j : S256x2048.Idx) : EReal := OWN m c (ix2 (j 0) (j 1)) + ∑ k : Fin 3, R2 m c (ix3 k (j 0) (j 1))
def NM (c : Dev nD) (j : S256x2048.Idx) : EReal := mom (M m c (ix3 0 (j 0) (j 1))) (G m c j)
def NV (c : Dev nD) (j : S256x2048.Idx) : EReal := var (S m c (ix3 0 (j 0) (j 1))) (G m c j)
def DL (c : Dev nD) (j : S256x2048.Idx) : EReal := delta (X m c (ix3 0 (j 0) (j 1))) (NM m c j) (NV m c j)

theorem g_blk (c : Dev nD) (t : Fin cfg0.N) (p : Fin 64) (q : Fin 2048) :
    k0_pay2 (F := Ideal) (iblk m c 3 t) (iblk m c 4 t) (iblk m c 5 t) (iblk m c 6 t) (ix2 p q) = G m c (ix2 (row t p) q) := by
  refine (pay2_at _ _ _ _ _ _).trans ?_
  simp only [blk3, blk4, blk5, blk6]
  exact sum3 _ fun k => R2 m c (ix3 k (row t p) q)

theorem nm_blk (c : Dev nD) (t : Fin cfg0.N) (p : Fin 64) (q : Fin 2048) :
    k0_pay3 (F := Ideal) (iblk m c 3 t) (iblk m c 4 t) (iblk m c 5 t) (iblk m c 6 t) (iblk m c 1 t) (ix2 p q) = NM m c (ix2 (row t p) q) := by
  refine (pay3_at _ _ _ _ _ _ _).trans ?_
  rw [g_blk, blk1]
  rfl

theorem nv_blk (c : Dev nD) (t : Fin cfg0.N) (p : Fin 64) (q : Fin 2048) :
    k0_pay4 (F := Ideal) (iblk m c 3 t) (iblk m c 4 t) (iblk m c 5 t) (iblk m c 6 t) (iblk m c 2 t) (ix2 p q) = NV m c (ix2 (row t p) q) := by
  refine (pay4_at _ _ _ _ _ _ _).trans ?_
  rw [g_blk, blk2]
  rfl

theorem dl_blk (c : Dev nD) (t : Fin cfg0.N) (p : Fin 64) (q : Fin 2048) :
    k0_pay1 (F := Ideal) (k0_pay3 (F := Ideal) (iblk m c 3 t) (iblk m c 4 t) (iblk m c 5 t) (iblk m c 6 t) (iblk m c 1 t))
      (k0_pay4 (F := Ideal) (iblk m c 3 t) (iblk m c 4 t) (iblk m c 5 t) (iblk m c 6 t) (iblk m c 2 t)) (iblk m c 0 t) (ix2 p q)
      = DL m c (ix2 (row t p) q) := by
  refine (pay1_at _ _ _ _ _).trans ?_
  rw [nm_blk, nv_blk, blk0]
  rfl

theorem emb7 (t : Fin cfg0.N) (p : Fin 64) (q : Fin 2048) :
    (((cfg0.win 7).blk t).view.emb (ix2 p q) : S256x2048.Idx) = ix2 (row t p) q := by
  have e := idx t
  have h0 : ((((cfg0.win 7).blk t).view.emb (ix2 p q)) 0 : ℕ) = t.val * 64 + p := by blk_simp [e]
  have h1 : ((((cfg0.win 7).blk t).view.emb (ix2 p q)) 1 : ℕ) = q := by blk_simp [e]
  exact Ix.of2 _ _ _ h0 h1

theorem final7 (c : Dev nD) : (dats m 0 c).arrAt 7 (cfgs 0).N = G m c := by
  refine (dats m 0 c).arrAt_eq_of_covers 7 _ (by decide +kernel) fun t hf y => ?_
  blk_simp
  rw [after0_7]
  obtain ⟨p, q, rfl⟩ : ∃ (p : Fin 64) (q : Fin 2048), y = ix2 p q := ⟨_, _, eq_ix2 y⟩
  refine Eq.trans ?_ (congrArg (G m c) (emb7 t p q)).symm
  frame_out [k0_pay1, k0_pay2, k0_pay3, k0_pay4]
  exact g_blk m c t p q

theorem emb8 (t : Fin cfg0.N) (p : Fin 64) (q : Fin 2048) :
    (((cfg0.win 8).blk t).view.emb (ix2 p q) : S256x2048.Idx) = ix2 (row t p) q := by
  have e := idx t
  have h0 : ((((cfg0.win 8).blk t).view.emb (ix2 p q)) 0 : ℕ) = t.val * 64 + p := by blk_simp [e]
  have h1 : ((((cfg0.win 8).blk t).view.emb (ix2 p q)) 1 : ℕ) = q := by blk_simp [e]
  exact Ix.of2 _ _ _ h0 h1

theorem final8 (c : Dev nD) : (dats m 0 c).arrAt 8 (cfgs 0).N = DL m c := by
  refine (dats m 0 c).arrAt_eq_of_covers 8 _ (by decide +kernel) fun t hf y => ?_
  blk_simp
  rw [after0_8]
  obtain ⟨p, q, rfl⟩ : ∃ (p : Fin 64) (q : Fin 2048), y = ix2 p q := ⟨_, _, eq_ix2 y⟩
  refine Eq.trans ?_ (congrArg (DL m c) (emb8 t p q)).symm
  frame_out [k0_pay1, k0_pay2, k0_pay3, k0_pay4]
  exact dl_blk m c t p q

theorem emb9 (t : Fin cfg0.N) (p : Fin 64) (q : Fin 2048) :
    (((cfg0.win 9).blk t).view.emb (ix2 p q) : S256x2048.Idx) = ix2 (row t p) q := by
  have e := idx t
  have h0 : ((((cfg0.win 9).blk t).view.emb (ix2 p q)) 0 : ℕ) = t.val * 64 + p := by blk_simp [e]
  have h1 : ((((cfg0.win 9).blk t).view.emb (ix2 p q)) 1 : ℕ) = q := by blk_simp [e]
  exact Ix.of2 _ _ _ h0 h1

theorem final9 (c : Dev nD) : (dats m 0 c).arrAt 9 (cfgs 0).N = NM m c := by
  refine (dats m 0 c).arrAt_eq_of_covers 9 _ (by decide +kernel) fun t hf y => ?_
  blk_simp
  rw [after0_9]
  obtain ⟨p, q, rfl⟩ : ∃ (p : Fin 64) (q : Fin 2048), y = ix2 p q := ⟨_, _, eq_ix2 y⟩
  refine Eq.trans ?_ (congrArg (NM m c) (emb9 t p q)).symm
  frame_out [k0_pay1, k0_pay2, k0_pay3, k0_pay4]
  exact nm_blk m c t p q

theorem emb10 (t : Fin cfg0.N) (p : Fin 64) (q : Fin 2048) :
    (((cfg0.win 10).blk t).view.emb (ix2 p q) : S256x2048.Idx) = ix2 (row t p) q := by
  have e := idx t
  have h0 : ((((cfg0.win 10).blk t).view.emb (ix2 p q)) 0 : ℕ) = t.val * 64 + p := by blk_simp [e]
  have h1 : ((((cfg0.win 10).blk t).view.emb (ix2 p q)) 1 : ℕ) = q := by blk_simp [e]
  exact Ix.of2 _ _ _ h0 h1

theorem final10 (c : Dev nD) : (dats m 0 c).arrAt 10 (cfgs 0).N = NV m c := by
  refine (dats m 0 c).arrAt_eq_of_covers 10 _ (by decide +kernel) fun t hf y => ?_
  blk_simp
  rw [after0_10]
  obtain ⟨p, q, rfl⟩ : ∃ (p : Fin 64) (q : Fin 2048), y = ix2 p q := ⟨_, _, eq_ix2 y⟩
  refine Eq.trans ?_ (congrArg (NV m c) (emb10 t p q)).symm
  frame_out [k0_pay1, k0_pay2, k0_pay3, k0_pay4]
  exact nv_blk m c t p q

open Cert.ReferenceAdamOutIdeal.Read in
theorem ref_g (c : Dev nD) :
    (val_main_v1 (F := Ideal) (OWN m c) (R2 m c) : FVec Ideal S256x2048 .f32) = G m c := by
  funext j
  obtain ⟨p, q, rfl⟩ : ∃ (p : Fin 256) (q : Fin 2048), j = ix2 p q := ⟨_, _, eq_ix2 j⟩
  unfold G
  pointwise [val_main_v1, val_main_v0, val_main_cst]

open Cert.ReferenceAdamOutIdeal.Read in
theorem ref_m (c : Dev nD) :
    (val_main_v9 (F := Ideal) (M m c) (OWN m c) (R2 m c) : FVec Ideal S256x2048 .f32) = NM m c := by
  funext j
  obtain ⟨p, q, rfl⟩ : ∃ (p : Fin 256) (q : Fin 2048), j = ix2 p q := ⟨_, _, eq_ix2 j⟩
  unfold NM mom
  pointwise [val_main_v9, val_main_v8, val_main_v7, val_main_v6, val_main_v5, val_main_v3, val_main_cst_0, val_main_cst_1]
  rw [ref_g m c]

open Cert.ReferenceAdamOutIdeal.Read in
theorem ref_v (c : Dev nD) :
    (val_main_v15 (F := Ideal) (S m c) (OWN m c) (R2 m c) : FVec Ideal S256x2048 .f32) = NV m c := by
  funext j
  obtain ⟨p, q, rfl⟩ : ∃ (p : Fin 256) (q : Fin 2048), j = ix2 p q := ⟨_, _, eq_ix2 j⟩
  unfold NV var
  pointwise [val_main_v15, val_main_v14, val_main_v13, val_main_v12, val_main_v11, val_main_v10, val_main_v4, val_main_cst_2, val_main_cst_3]
  rw [ref_g m c]

open Cert.ReferenceAdamOutIdeal.Read in
theorem ref_d (c : Dev nD) :
    (val_main_v28 (F := Ideal) (X m c) (M m c) (S m c) (OWN m c) (R2 m c) : FVec Ideal S256x2048 .f32) = DL m c := by
  funext j
  obtain ⟨p, q, rfl⟩ : ∃ (p : Fin 256) (q : Fin 2048), j = ix2 p q := ⟨_, _, eq_ix2 j⟩
  unfold DL delta
  pointwise [val_main_v28, val_main_v27, val_main_v26, val_main_v25, val_main_v24, val_main_v23, val_main_v22, val_main_v21, val_main_v20, val_main_v19, val_main_v18, val_main_v17, val_main_v16, val_main_v2, val_main_cst, val_main_cst_0, val_main_cst_1, val_main_cst_2, val_main_cst_3, val_main_cst_4, val_main_cst_5, val_main_cst_6, val_main_cst_7, val_main_cst_8]
  rw [ref_m m c, ref_v m c]

theorem frame_p : Cert.quiescent_KernelAdamOut := fun m ρ _ => Cert.KernelAdamOut.Gen.frame m ρ
theorem frame_pi : Cert.quiescent_KernelAdamOutIdeal := fun m ρ _ => Cert.KernelAdamOutIdeal.Gen.frame m ρ
theorem frame_ri : Cert.quiescent_ReferenceAdamOutIdeal := fun m ρ _ =>
  (θ_run Cert.ReferenceAdamOutIdeal.defs _ _).mono (fun r h => ⟨fun c => (h c).2.2.2.2,
      Idealize.ShloMosaic.sem_eq_zero_of_no_sems (by decide) r.2⟩)
    (Cert.ReferenceAdamOutIdeal.Value.run (F := Ideal) m ρ)

theorem algebraic : Cert.algebraic_KernelAdamOutIdeal_ReferenceAdamOutIdeal := by
  intro m ρ m' ρ' hpre hagree
  refine ⟨_, _, _, _, Cert.KernelAdamOutIdeal.Value.run_blocks (F := Ideal) m ρ, ?_⟩
  refine (θ_run Cert.ReferenceAdamOutIdeal.defs _ _).mono (fun _ h c => ?_) (Cert.ReferenceAdamOutIdeal.Value.run (F := Ideal) m' ρ')
  obtain ⟨a0, a1, a2, a3, a4⟩ := hagree c
  obtain ⟨r0, r1, r2, r3, k⟩ := h c
  refine ⟨(r0.trans (Cert.ReferenceAdamOutIdeal.Read.val_main_v1_eq _ _)).trans ?_,
    (r1.trans (Cert.ReferenceAdamOutIdeal.Read.val_main_v28_eq _ _ _ _ _)).trans ?_,
    (r2.trans (Cert.ReferenceAdamOutIdeal.Read.val_main_v9_eq _ _ _)).trans ?_,
    (r3.trans (Cert.ReferenceAdamOutIdeal.Read.val_main_v15_eq _ _ _)).trans ?_, k⟩
  · rw [a3, a4]
    exact (ref_g m c).trans (final7 m c).symm
  · rw [a0, a1, a2, a3, a4]
    exact (ref_d m c).trans (final8 m c).symm
  · rw [a1, a3, a4]
    exact (ref_m m c).trans (final9 m c).symm
  · rw [a2, a3, a4]
    exact (ref_v m c).trans (final10 m c).symm
end Cert.KernelAdamOutIdeal.Val
-- ==== Proof.AdamIn.lean ====
/- AdamW on the shard of the input projection's weights: the gradient is this chip's part and the three others' added up. -/
module
public import proofs.«01_k».proof.Defs
public import proofs.«01_k».proof.Proof.Gen.KernelAdamIn
public import proofs.«01_k».proof.Proof.Gen.KernelAdamIn.Frame
public import proofs.«01_k».proof.Proof.Gen.KernelAdamInIdeal
public import proofs.«01_k».proof.Proof.Gen.KernelAdamInIdeal.Frame
public import proofs.«01_k».proof.Proof.Gen.KernelAdamInIdeal.Value
public import proofs.«01_k».proof.Proof.Gen.ReferenceAdamInIdeal
public import proofs.«01_k».proof.Proof.Gen.ReferenceAdamInIdeal.Run
public import proofs.«01_k».proof.Proof.Gen.ReferenceAdamInIdeal.Read
public import proofs.«01_k».proof.Proof.Ix
public import proofs.«01_k».proof.Proof.Adam
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelAdamInIdeal.Val

open Cert.KernelAdamInIdeal Cert.KernelAdamInIdeal.Gen Idealize.ShloMosaic Idealize.ShloMosaic.TcCoe Idealize.SL.Sem
open Idealize.ShloMosaic.Pipeline (Dat)
open Cert.Adam

variable (m : (ℓ : Loc nD τ sig) → Buf (Elt Ideal) ℓ)

/-- The weights, their moments, this chip's part of the gradient and the three others. -/
abbrev X (c : Dev nD) : FVec Ideal S1x2048x512 .f32 := m ((c : Thread nD τ).loc main_arg0)
abbrev M (c : Dev nD) : FVec Ideal S1x2048x512 .f32 := m ((c : Thread nD τ).loc main_arg1)
abbrev S (c : Dev nD) : FVec Ideal S1x2048x512 .f32 := m ((c : Thread nD τ).loc main_arg2)
abbrev OWN (c : Dev nD) : FVec Ideal S2048x512 .f32 := m ((c : Thread nD τ).loc main_arg3)
abbrev R2 (c : Dev nD) : FVec Ideal S3x2048x512 .f32 := m ((c : Thread nD τ).loc main_arg4)

/-- Where each window's block lies. -/
theorem idx : ∀ t : Fin cfg0.N, win0_0.index t = ![t.val, 0] ∧ win0_1.index t = ![t.val, 0] ∧ win0_2.index t = ![t.val, 0]
    ∧ win0_3.index t = ![t.val, 0] ∧ win0_4.index t = ![0, t.val, 0] ∧ win0_5.index t = ![1, t.val, 0] ∧ win0_6.index t = ![2, t.val, 0]
    ∧ win0_7.index t = ![t.val, 0] ∧ win0_8.index t = ![t.val, 0] ∧ win0_9.index t = ![t.val, 0] ∧ win0_10.index t = ![t.val, 0]
    ∧ t.val < 8 :=
  (by decide +kernel : ∀ t : Fin grid0.N, _)

theorem lt (t : Fin cfg0.N) : t.val < 8 := (idx t).2.2.2.2.2.2.2.2.2.2.2

abbrev row (t : Fin cfg0.N) (r : Fin 256) : Fin 2048 := ⟨t.val * 256 + r, by have := lt t; omega⟩

theorem v1_apply (c : Dev nD) (t : Fin 2048) (k : Fin 512) :
    (V m c main_v1 : FVec Ideal S2048x512 .f32) (ix2 t k) = X m c (ix3 0 t k) := by
  entry_read
  pointwise

theorem blk0 (c : Dev nD) (t : Fin cfg0.N) (r : Fin 256) (k : Fin 512) :
    (iblk m c 0 t : Vec Ideal S256x512 .f32) (ix2 r k) = X m c (ix3 0 (row t r) k) := by
  rw [← v1_apply m c]
  blk_ext [iblk, V, idx t]

theorem v2_apply (c : Dev nD) (t : Fin 2048) (k : Fin 512) :
    (V m c main_v2 : FVec Ideal S2048x512 .f32) (ix2 t k) = M m c (ix3 0 t k) := by
  entry_read
  pointwise

theorem blk1 (c : Dev nD) (t : Fin cfg0.N) (r : Fin 256) (k : Fin 512) :
    (iblk m c 1 t : Vec Ideal S256x512 .f32) (ix2 r k) = M m c (ix3 0 (row t r) k) := by
  rw [← v2_apply m c]
  blk_ext [iblk, V, idx t]

theorem v3_apply (c : Dev nD) (t : Fin 2048) (k : Fin 512) :
    (V m c main_v3 : FVec Ideal S2048x512 .f32) (ix2 t k) = S m c (ix3 0 t k) := by
  entry_read
  pointwise

theorem blk2 (c : Dev nD) (t : Fin cfg0.N) (r : Fin 256) (k : Fin 512) :
    (iblk m c 2 t : Vec Ideal S256x512 .f32) (ix2 r k) = S m c (ix3 0 (row t r) k) := by
  rw [← v3_apply m c]
  blk_ext [iblk, V, idx t]

theorem v0_apply (c : Dev nD) (s : Fin 3) (t : Fin 2048) (k : Fin 512) :
    (V m c main_v0 : FVec Ideal S3x2048x512 .bf16) (ix3 s t k) = R2 m c (ix3 s t k) := by
  entry_read
  pointwise

theorem blk3 (c : Dev nD) (t : Fin cfg0.N) (r : Fin 256) (k : Fin 512) :
    (iblk m c 3 t : Vec Ideal S256x512 .f32) (ix2 r k) = OWN m c (ix2 (row t r) k) := by
  blk_ext [iblk, V, idx t]

theorem blk4 (c : Dev nD) (t : Fin cfg0.N) (u : Fin 1) (r : Fin 256) (k : Fin 512) :
    (iblk m c 4 t : Vec Ideal S1x256x512 .bf16) (ix3 u r k) = R2 m c (ix3 0 (row t r) k) := by
  obtain rfl := Subsingleton.elim u 0
  rw [← v0_apply m c]
  blk_ext [iblk, V, idx t]

theorem blk5 (c : Dev nD) (t : Fin cfg0.N) (u : Fin 1) (r : Fin 256) (k : Fin 512) :
    (iblk m c 5 t : Vec Ideal S1x256x512 .bf16) (ix3 u r k) = R2 m c (ix3 1 (row t r) k) := by
  obtain rfl := Subsingleton.elim u 0
  rw [← v0_apply m c]
  blk_ext [iblk, V, idx t]

theorem blk6 (c : Dev nD) (t : Fin cfg0.N) (u : Fin 1) (r : Fin 256) (k : Fin 512) :
    (iblk m c 6 t : Vec Ideal S1x256x512 .bf16) (ix3 u r k) = R2 m c (ix3 2 (row t r) k) := by
  obtain rfl := Subsingleton.elim u 0
  rw [← v0_apply m c]
  blk_ext [iblk, V, idx t]

theorem pay2_at (a : FVec Ideal S256x512 .f32) (x y z : FVec Ideal S1x256x512 .bf16) (p : Fin 256) (q : Fin 512) :
    k0_pay2 (F := Ideal) a x y z (ix2 p q) = a (ix2 p q) + x (ix3 0 p q) + y (ix3 0 p q) + z (ix3 0 p q) := by
  unfold k0_pay2
  pointwise

theorem pay3_at (a : FVec Ideal S256x512 .f32) (x y z : FVec Ideal S1x256x512 .bf16) (w : FVec Ideal S256x512 .f32) (p : Fin 256) (q : Fin 512) :
    k0_pay3 (F := Ideal) a x y z w (ix2 p q) = mom (w (ix2 p q)) (k0_pay2 (F := Ideal) a x y z (ix2 p q)) := by
  unfold k0_pay3 mom
  pointwise

theorem pay4_at (a : FVec Ideal S256x512 .f32) (x y z : FVec Ideal S1x256x512 .bf16) (w : FVec Ideal S256x512 .f32) (p : Fin 256) (q : Fin 512) :
    k0_pay4 (F := Ideal) a x y z w (ix2 p q) = var (w (ix2 p q)) (k0_pay2 (F := Ideal) a x y z (ix2 p q)) := by
  unfold k0_pay4 var
  pointwise

theorem pay1_at (a x y : FVec Ideal S256x512 .f32) (p : Fin 256) (q : Fin 512) :
    k0_pay1 (F := Ideal) a x y (ix2 p q) = delta (y (ix2 p q)) (a (ix2 p q)) (x (ix2 p q)) := by
  unfold k0_pay1 delta
  pointwise

/-- The gradient, the new moments and the change of the weights. -/
def G (c : Dev nD) (j : S2048x512.Idx) : EReal := OWN m c (ix2 (j 0) (j 1)) + ∑ k : Fin 3, R2 m c (ix3 k (j 0) (j 1))
def NM (c : Dev nD) (j : S2048x512.Idx) : EReal := mom (M m c (ix3 0 (j 0) (j 1))) (G m c j)
def NV (c : Dev nD) (j : S2048x512.Idx) : EReal := var (S m c (ix3 0 (j 0) (j 1))) (G m c j)
def DL (c : Dev nD) (j : S2048x512.Idx) : EReal := delta (X m c (ix3 0 (j 0) (j 1))) (NM m c j) (NV m c j)

theorem g_blk (c : Dev nD) (t : Fin cfg0.N) (p : Fin 256) (q : Fin 512) :
    k0_pay2 (F := Ideal) (iblk m c 3 t) (iblk m c 4 t) (iblk m c 5 t) (iblk m c 6 t) (ix2 p q) = G m c (ix2 (row t p) q) := by
  refine (pay2_at _ _ _ _ _ _).trans ?_
  simp only [blk3, blk4, blk5, blk6]
  exact sum3 _ fun k => R2 m c (ix3 k (row t p) q)

theorem nm_blk (c : Dev nD) (t : Fin cfg0.N) (p : Fin 256) (q : Fin 512) :
    k0_pay3 (F := Ideal) (iblk m c 3 t) (iblk m c 4 t) (iblk m c 5 t) (iblk m c 6 t) (iblk m c 1 t) (ix2 p q) = NM m c (ix2 (row t p) q) := by
  refine (pay3_at _ _ _ _ _ _ _).trans ?_
  rw [g_blk, blk1]
  rfl

theorem nv_blk (c : Dev nD) (t : Fin cfg0.N) (p : Fin 256) (q : Fin 512) :
    k0_pay4 (F := Ideal) (iblk m c 3 t) (iblk m c 4 t) (iblk m c 5 t) (iblk m c 6 t) (iblk m c 2 t) (ix2 p q) = NV m c (ix2 (row t p) q) := by
  refine (pay4_at _ _ _ _ _ _ _).trans ?_
  rw [g_blk, blk2]
  rfl

theorem dl_blk (c : Dev nD) (t : Fin cfg0.N) (p : Fin 256) (q : Fin 512) :
    k0_pay1 (F := Ideal) (k0_pay3 (F := Ideal) (iblk m c 3 t) (iblk m c 4 t) (iblk m c 5 t) (iblk m c 6 t) (iblk m c 1 t))
      (k0_pay4 (F := Ideal) (iblk m c 3 t) (iblk m c 4 t) (iblk m c 5 t) (iblk m c 6 t) (iblk m c 2 t)) (iblk m c 0 t) (ix2 p q)
      = DL m c (ix2 (row t p) q) := by
  refine (pay1_at _ _ _ _ _).trans ?_
  rw [nm_blk, nv_blk, blk0]
  rfl

theorem emb7 (t : Fin cfg0.N) (p : Fin 256) (q : Fin 512) :
    (((cfg0.win 7).blk t).view.emb (ix2 p q) : S2048x512.Idx) = ix2 (row t p) q := by
  have e := idx t
  have h0 : ((((cfg0.win 7).blk t).view.emb (ix2 p q)) 0 : ℕ) = t.val * 256 + p := by blk_simp [e]
  have h1 : ((((cfg0.win 7).blk t).view.emb (ix2 p q)) 1 : ℕ) = q := by blk_simp [e]
  exact Ix.of2 _ _ _ h0 h1

theorem final7 (c : Dev nD) : (dats m 0 c).arrAt 7 (cfgs 0).N = G m c := by
  refine (dats m 0 c).arrAt_eq_of_covers 7 _ (by decide +kernel) fun t hf y => ?_
  blk_simp
  rw [after0_7]
  obtain ⟨p, q, rfl⟩ : ∃ (p : Fin 256) (q : Fin 512), y = ix2 p q := ⟨_, _, eq_ix2 y⟩
  refine Eq.trans ?_ (congrArg (G m c) (emb7 t p q)).symm
  frame_out [k0_pay1, k0_pay2, k0_pay3, k0_pay4]
  exact g_blk m c t p q

theorem emb8 (t : Fin cfg0.N) (p : Fin 256) (q : Fin 512) :
    (((cfg0.win 8).blk t).view.emb (ix2 p q) : S2048x512.Idx) = ix2 (row t p) q := by
  have e := idx t
  have h0 : ((((cfg0.win 8).blk t).view.emb (ix2 p q)) 0 : ℕ) = t.val * 256 + p := by blk_simp [e]
  have h1 : ((((cfg0.win 8).blk t).view.emb (ix2 p q)) 1 : ℕ) = q := by blk_simp [e]
  exact Ix.of2 _ _ _ h0 h1

theorem final8 (c : Dev nD) : (dats m 0 c).arrAt 8 (cfgs 0).N = DL m c := by
  refine (dats m 0 c).arrAt_eq_of_covers 8 _ (by decide +kernel) fun t hf y => ?_
  blk_simp
  rw [after0_8]
  obtain ⟨p, q, rfl⟩ : ∃ (p : Fin 256) (q : Fin 512), y = ix2 p q := ⟨_, _, eq_ix2 y⟩
  refine Eq.trans ?_ (congrArg (DL m c) (emb8 t p q)).symm
  frame_out [k0_pay1, k0_pay2, k0_pay3, k0_pay4]
  exact dl_blk m c t p q

theorem emb9 (t : Fin cfg0.N) (p : Fin 256) (q : Fin 512) :
    (((cfg0.win 9).blk t).view.emb (ix2 p q) : S2048x512.Idx) = ix2 (row t p) q := by
  have e := idx t
  have h0 : ((((cfg0.win 9).blk t).view.emb (ix2 p q)) 0 : ℕ) = t.val * 256 + p := by blk_simp [e]
  have h1 : ((((cfg0.win 9).blk t).view.emb (ix2 p q)) 1 : ℕ) = q := by blk_simp [e]
  exact Ix.of2 _ _ _ h0 h1

theorem final9 (c : Dev nD) : (dats m 0 c).arrAt 9 (cfgs 0).N = NM m c := by
  refine (dats m 0 c).arrAt_eq_of_covers 9 _ (by decide +kernel) fun t hf y => ?_
  blk_simp
  rw [after0_9]
  obtain ⟨p, q, rfl⟩ : ∃ (p : Fin 256) (q : Fin 512), y = ix2 p q := ⟨_, _, eq_ix2 y⟩
  refine Eq.trans ?_ (congrArg (NM m c) (emb9 t p q)).symm
  frame_out [k0_pay1, k0_pay2, k0_pay3, k0_pay4]
  exact nm_blk m c t p q

theorem emb10 (t : Fin cfg0.N) (p : Fin 256) (q : Fin 512) :
    (((cfg0.win 10).blk t).view.emb (ix2 p q) : S2048x512.Idx) = ix2 (row t p) q := by
  have e := idx t
  have h0 : ((((cfg0.win 10).blk t).view.emb (ix2 p q)) 0 : ℕ) = t.val * 256 + p := by blk_simp [e]
  have h1 : ((((cfg0.win 10).blk t).view.emb (ix2 p q)) 1 : ℕ) = q := by blk_simp [e]
  exact Ix.of2 _ _ _ h0 h1

theorem final10 (c : Dev nD) : (dats m 0 c).arrAt 10 (cfgs 0).N = NV m c := by
  refine (dats m 0 c).arrAt_eq_of_covers 10 _ (by decide +kernel) fun t hf y => ?_
  blk_simp
  rw [after0_10]
  obtain ⟨p, q, rfl⟩ : ∃ (p : Fin 256) (q : Fin 512), y = ix2 p q := ⟨_, _, eq_ix2 y⟩
  refine Eq.trans ?_ (congrArg (NV m c) (emb10 t p q)).symm
  frame_out [k0_pay1, k0_pay2, k0_pay3, k0_pay4]
  exact nv_blk m c t p q

open Cert.ReferenceAdamInIdeal.Read in
theorem ref_g (c : Dev nD) :
    (val_main_v1 (F := Ideal) (OWN m c) (R2 m c) : FVec Ideal S2048x512 .f32) = G m c := by
  funext j
  obtain ⟨p, q, rfl⟩ : ∃ (p : Fin 2048) (q : Fin 512), j = ix2 p q := ⟨_, _, eq_ix2 j⟩
  unfold G
  pointwise [val_main_v1, val_main_v0, val_main_cst]

open Cert.ReferenceAdamInIdeal.Read in
theorem ref_m (c : Dev nD) :
    (val_main_v9 (F := Ideal) (M m c) (OWN m c) (R2 m c) : FVec Ideal S2048x512 .f32) = NM m c := by
  funext j
  obtain ⟨p, q, rfl⟩ : ∃ (p : Fin 2048) (q : Fin 512), j = ix2 p q := ⟨_, _, eq_ix2 j⟩
  unfold NM mom
  pointwise [val_main_v9, val_main_v8, val_main_v7, val_main_v6, val_main_v5, val_main_v3, val_main_cst_0, val_main_cst_1]
  rw [ref_g m c]

open Cert.ReferenceAdamInIdeal.Read in
theorem ref_v (c : Dev nD) :
    (val_main_v15 (F := Ideal) (S m c) (OWN m c) (R2 m c) : FVec Ideal S2048x512 .f32) = NV m c := by
  funext j
  obtain ⟨p, q, rfl⟩ : ∃ (p : Fin 2048) (q : Fin 512), j = ix2 p q := ⟨_, _, eq_ix2 j⟩
  unfold NV var
  pointwise [val_main_v15, val_main_v14, val_main_v13, val_main_v12, val_main_v11, val_main_v10, val_main_v4, val_main_cst_2, val_main_cst_3]
  rw [ref_g m c]

open Cert.ReferenceAdamInIdeal.Read in
theorem ref_d (c : Dev nD) :
    (val_main_v28 (F := Ideal) (X m c) (M m c) (S m c) (OWN m c) (R2 m c) : FVec Ideal S2048x512 .f32) = DL m c := by
  funext j
  obtain ⟨p, q, rfl⟩ : ∃ (p : Fin 2048) (q : Fin 512), j = ix2 p q := ⟨_, _, eq_ix2 j⟩
  unfold DL delta
  pointwise [val_main_v28, val_main_v27, val_main_v26, val_main_v25, val_main_v24, val_main_v23, val_main_v22, val_main_v21, val_main_v20, val_main_v19, val_main_v18, val_main_v17, val_main_v16, val_main_v2, val_main_cst, val_main_cst_0, val_main_cst_1, val_main_cst_2, val_main_cst_3, val_main_cst_4, val_main_cst_5, val_main_cst_6, val_main_cst_7, val_main_cst_8]
  rw [ref_m m c, ref_v m c]

theorem frame_p : Cert.quiescent_KernelAdamIn := fun m ρ _ => Cert.KernelAdamIn.Gen.frame m ρ
theorem frame_pi : Cert.quiescent_KernelAdamInIdeal := fun m ρ _ => Cert.KernelAdamInIdeal.Gen.frame m ρ
theorem frame_ri : Cert.quiescent_ReferenceAdamInIdeal := fun m ρ _ =>
  (θ_run Cert.ReferenceAdamInIdeal.defs _ _).mono (fun r h => ⟨fun c => (h c).2.2.2.2,
      Idealize.ShloMosaic.sem_eq_zero_of_no_sems (by decide) r.2⟩)
    (Cert.ReferenceAdamInIdeal.Value.run (F := Ideal) m ρ)

theorem algebraic : Cert.algebraic_KernelAdamInIdeal_ReferenceAdamInIdeal := by
  intro m ρ m' ρ' hpre hagree
  refine ⟨_, _, _, _, Cert.KernelAdamInIdeal.Value.run_blocks (F := Ideal) m ρ, ?_⟩
  refine (θ_run Cert.ReferenceAdamInIdeal.defs _ _).mono (fun _ h c => ?_) (Cert.ReferenceAdamInIdeal.Value.run (F := Ideal) m' ρ')
  obtain ⟨a0, a1, a2, a3, a4⟩ := hagree c
  obtain ⟨r0, r1, r2, r3, k⟩ := h c
  refine ⟨(r0.trans (Cert.ReferenceAdamInIdeal.Read.val_main_v1_eq _ _)).trans ?_,
    (r1.trans (Cert.ReferenceAdamInIdeal.Read.val_main_v28_eq _ _ _ _ _)).trans ?_,
    (r2.trans (Cert.ReferenceAdamInIdeal.Read.val_main_v9_eq _ _ _)).trans ?_,
    (r3.trans (Cert.ReferenceAdamInIdeal.Read.val_main_v15_eq _ _ _)).trans ?_, k⟩
  · rw [a3, a4]
    exact (ref_g m c).trans (final7 m c).symm
  · rw [a0, a1, a2, a3, a4]
    exact (ref_d m c).trans (final8 m c).symm
  · rw [a1, a3, a4]
    exact (ref_m m c).trans (final9 m c).symm
  · rw [a2, a3, a4]
    exact (ref_v m c).trans (final10 m c).symm
end Cert.KernelAdamInIdeal.Val
-- ==== Proof.AdamLru.lean ====
/- AdamW on this chip's share of the second mixer's convolution, its gradient given. -/
module
public import proofs.«01_k».proof.Defs
public import proofs.«01_k».proof.Proof.Gen.KernelAdamLru
public import proofs.«01_k».proof.Proof.Gen.KernelAdamLru.Frame
public import proofs.«01_k».proof.Proof.Gen.KernelAdamLruIdeal
public import proofs.«01_k».proof.Proof.Gen.KernelAdamLruIdeal.Frame
public import proofs.«01_k».proof.Proof.Gen.KernelAdamLruIdeal.Value
public import proofs.«01_k».proof.Proof.Gen.ReferenceAdamLruIdeal
public import proofs.«01_k».proof.Proof.Gen.ReferenceAdamLruIdeal.Run
public import proofs.«01_k».proof.Proof.Gen.ReferenceAdamLruIdeal.Read
public import proofs.«01_k».proof.Proof.Ix
public import proofs.«01_k».proof.Proof.Adam
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelAdamLruIdeal.Val

open Cert.KernelAdamLruIdeal Cert.KernelAdamLruIdeal.Gen Idealize.ShloMosaic Idealize.ShloMosaic.TcCoe Idealize.SL.Sem
open Idealize.ShloMosaic.Pipeline (Dat)
open Cert.Adam

variable (m : (ℓ : Loc nD τ sig) → Buf (Elt Ideal) ℓ)

/-- The weights, their moments and the gradient. -/
abbrev X (c : Dev nD) : FVec Ideal S1x4x128 .f32 := m ((c : Thread nD τ).loc main_arg0)
abbrev M (c : Dev nD) : FVec Ideal S1x4x128 .f32 := m ((c : Thread nD τ).loc main_arg1)
abbrev S (c : Dev nD) : FVec Ideal S1x4x128 .f32 := m ((c : Thread nD τ).loc main_arg2)
abbrev G (c : Dev nD) : FVec Ideal S4x128 .f32 := m ((c : Thread nD τ).loc main_arg3)

/-- Where each window's block lies: the one point takes the whole arrays. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

theorem v0_apply (c : Dev nD) (t : Fin 4) (k : Fin 128) :
    (V m c main_v0 : FVec Ideal S4x128 .f32) (ix2 t k) = X m c (ix3 0 t k) := by
  entry_read
  pointwise

theorem blk0 (c : Dev nD) (t : Fin cfg0.N) (r : Fin 4) (k : Fin 128) :
    (iblk m c 0 t : Vec Ideal S4x128 .f32) (ix2 r k) = X m c (ix3 0 r k) := by
  rw [← v0_apply m c]
  blk_ext [iblk, V, idx t]

theorem v1_apply (c : Dev nD) (t : Fin 4) (k : Fin 128) :
    (V m c main_v1 : FVec Ideal S4x128 .f32) (ix2 t k) = M m c (ix3 0 t k) := by
  entry_read
  pointwise

theorem blk1 (c : Dev nD) (t : Fin cfg0.N) (r : Fin 4) (k : Fin 128) :
    (iblk m c 1 t : Vec Ideal S4x128 .f32) (ix2 r k) = M m c (ix3 0 r k) := by
  rw [← v1_apply m c]
  blk_ext [iblk, V, idx t]

theorem v2_apply (c : Dev nD) (t : Fin 4) (k : Fin 128) :
    (V m c main_v2 : FVec Ideal S4x128 .f32) (ix2 t k) = S m c (ix3 0 t k) := by
  entry_read
  pointwise

theorem blk2 (c : Dev nD) (t : Fin cfg0.N) (r : Fin 4) (k : Fin 128) :
    (iblk m c 2 t : Vec Ideal S4x128 .f32) (ix2 r k) = S m c (ix3 0 r k) := by
  rw [← v2_apply m c]
  blk_ext [iblk, V, idx t]

theorem blk3 (c : Dev nD) (t : Fin cfg0.N) (r : Fin 4) (k : Fin 128) :
    (iblk m c 3 t : Vec Ideal S4x128 .f32) (ix2 r k) = G m c (ix2 r k) := by
  blk_ext [iblk, V, idx t]

theorem pay2_at (g w : FVec Ideal S4x128 .f32) (p : Fin 4) (q : Fin 128) :
    k0_pay2 (F := Ideal) g w (ix2 p q) = mom (w (ix2 p q)) (g (ix2 p q)) := by
  unfold k0_pay2 mom
  pointwise

theorem pay3_at (g w : FVec Ideal S4x128 .f32) (p : Fin 4) (q : Fin 128) :
    k0_pay3 (F := Ideal) g w (ix2 p q) = var (w (ix2 p q)) (g (ix2 p q)) := by
  unfold k0_pay3 var
  pointwise

theorem pay1_at (g x y z : FVec Ideal S4x128 .f32) (p : Fin 4) (q : Fin 128) :
    k0_pay1 (F := Ideal) (k0_pay4 (F := Ideal) g x y z) (k0_pay5 (F := Ideal)) (ix2 p q)
      = delta (z (ix2 p q)) (k0_pay2 (F := Ideal) g x (ix2 p q)) (k0_pay3 (F := Ideal) g y (ix2 p q)) := by
  unfold k0_pay1 k0_pay4 k0_pay5 delta
  pointwise

/-- The new moments and the change of the weights. -/
def NM (c : Dev nD) (j : S4x128.Idx) : EReal := mom (M m c (ix3 0 (j 0) (j 1))) (G m c (ix2 (j 0) (j 1)))
def NV (c : Dev nD) (j : S4x128.Idx) : EReal := var (S m c (ix3 0 (j 0) (j 1))) (G m c (ix2 (j 0) (j 1)))
def DL (c : Dev nD) (j : S4x128.Idx) : EReal := delta (X m c (ix3 0 (j 0) (j 1))) (NM m c j) (NV m c j)

theorem nm_blk (c : Dev nD) (t : Fin cfg0.N) (p : Fin 4) (q : Fin 128) :
    k0_pay2 (F := Ideal) (iblk m c 3 t) (iblk m c 1 t) (ix2 p q) = NM m c (ix2 p q) := by
  refine (pay2_at _ _ _ _).trans ?_
  rw [blk3, blk1]
  rfl

theorem nv_blk (c : Dev nD) (t : Fin cfg0.N) (p : Fin 4) (q : Fin 128) :
    k0_pay3 (F := Ideal) (iblk m c 3 t) (iblk m c 2 t) (ix2 p q) = NV m c (ix2 p q) := by
  refine (pay3_at _ _ _ _).trans ?_
  rw [blk3, blk2]
  rfl

theorem dl_blk (c : Dev nD) (t : Fin cfg0.N) (p : Fin 4) (q : Fin 128) :
    k0_pay1 (F := Ideal) (k0_pay4 (F := Ideal) (iblk m c 3 t) (iblk m c 1 t) (iblk m c 2 t) (iblk m c 0 t)) (k0_pay5 (F := Ideal)) (ix2 p q)
      = DL m c (ix2 p q) := by
  refine (pay1_at _ _ _ _ _ _).trans ?_
  rw [nm_blk, nv_blk, blk0]
  rfl

theorem emb4 (t : Fin cfg0.N) (p : Fin 4) (q : Fin 128) :
    (((cfg0.win 4).blk t).view.emb (ix2 p q) : S4x128.Idx) = ix2 p q := by
  have e := idx t
  have h0 : ((((cfg0.win 4).blk t).view.emb (ix2 p q)) 0 : ℕ) = p := by blk_simp [e]
  have h1 : ((((cfg0.win 4).blk t).view.emb (ix2 p q)) 1 : ℕ) = q := by blk_simp [e]
  exact Ix.of2 _ _ _ h0 h1

theorem final4 (c : Dev nD) : (dats m 0 c).arrAt 4 (cfgs 0).N = G m c := by
  refine (dats m 0 c).arrAt_eq_of_covers 4 _ (by decide +kernel) fun t hf y => ?_
  blk_simp
  rw [after0_4]
  obtain ⟨p, q, rfl⟩ : ∃ (p : Fin 4) (q : Fin 128), y = ix2 p q := ⟨_, _, eq_ix2 y⟩
  refine Eq.trans ?_ (congrArg (G m c) (emb4 t p q)).symm
  frame_out [k0_pay1, k0_pay2, k0_pay3, k0_pay4]
  exact blk3 m c t p q

theorem emb5 (t : Fin cfg0.N) (p : Fin 4) (q : Fin 128) :
    (((cfg0.win 5).blk t).view.emb (ix2 p q) : S4x128.Idx) = ix2 p q := by
  have e := idx t
  have h0 : ((((cfg0.win 5).blk t).view.emb (ix2 p q)) 0 : ℕ) = p := by blk_simp [e]
  have h1 : ((((cfg0.win 5).blk t).view.emb (ix2 p q)) 1 : ℕ) = q := by blk_simp [e]
  exact Ix.of2 _ _ _ h0 h1

theorem final5 (c : Dev nD) : (dats m 0 c).arrAt 5 (cfgs 0).N = DL m c := by
  refine (dats m 0 c).arrAt_eq_of_covers 5 _ (by decide +kernel) fun t hf y => ?_
  blk_simp
  rw [after0_5]
  obtain ⟨p, q, rfl⟩ : ∃ (p : Fin 4) (q : Fin 128), y = ix2 p q := ⟨_, _, eq_ix2 y⟩
  refine Eq.trans ?_ (congrArg (DL m c) (emb5 t p q)).symm
  frame_out [k0_pay1, k0_pay2, k0_pay3, k0_pay4]
  exact dl_blk m c t p q

theorem emb6 (t : Fin cfg0.N) (p : Fin 4) (q : Fin 128) :
    (((cfg0.win 6).blk t).view.emb (ix2 p q) : S4x128.Idx) = ix2 p q := by
  have e := idx t
  have h0 : ((((cfg0.win 6).blk t).view.emb (ix2 p q)) 0 : ℕ) = p := by blk_simp [e]
  have h1 : ((((cfg0.win 6).blk t).view.emb (ix2 p q)) 1 : ℕ) = q := by blk_simp [e]
  exact Ix.of2 _ _ _ h0 h1

theorem final6 (c : Dev nD) : (dats m 0 c).arrAt 6 (cfgs 0).N = NM m c := by
  refine (dats m 0 c).arrAt_eq_of_covers 6 _ (by decide +kernel) fun t hf y => ?_
  blk_simp
  rw [after0_6]
  obtain ⟨p, q, rfl⟩ : ∃ (p : Fin 4) (q : Fin 128), y = ix2 p q := ⟨_, _, eq_ix2 y⟩
  refine Eq.trans ?_ (congrArg (NM m c) (emb6 t p q)).symm
  frame_out [k0_pay1, k0_pay2, k0_pay3, k0_pay4]
  exact nm_blk m c t p q

theorem emb7 (t : Fin cfg0.N) (p : Fin 4) (q : Fin 128) :
    (((cfg0.win 7).blk t).view.emb (ix2 p q) : S4x128.Idx) = ix2 p q := by
  have e := idx t
  have h0 : ((((cfg0.win 7).blk t).view.emb (ix2 p q)) 0 : ℕ) = p := by blk_simp [e]
  have h1 : ((((cfg0.win 7).blk t).view.emb (ix2 p q)) 1 : ℕ) = q := by blk_simp [e]
  exact Ix.of2 _ _ _ h0 h1

theorem final7 (c : Dev nD) : (dats m 0 c).arrAt 7 (cfgs 0).N = NV m c := by
  refine (dats m 0 c).arrAt_eq_of_covers 7 _ (by decide +kernel) fun t hf y => ?_
  blk_simp
  rw [after0_7]
  obtain ⟨p, q, rfl⟩ : ∃ (p : Fin 4) (q : Fin 128), y = ix2 p q := ⟨_, _, eq_ix2 y⟩
  refine Eq.trans ?_ (congrArg (NV m c) (emb7 t p q)).symm
  frame_out [k0_pay1, k0_pay2, k0_pay3, k0_pay4]
  exact nv_blk m c t p q

open Cert.ReferenceAdamLruIdeal.Read in
theorem ref_m (c : Dev nD) :
    (val_main_v7 (F := Ideal) (M m c) (G m c) : FVec Ideal S4x128 .f32) = NM m c := by
  funext j
  obtain ⟨p, q, rfl⟩ : ∃ (p : Fin 4) (q : Fin 128), j = ix2 p q := ⟨_, _, eq_ix2 j⟩
  unfold NM mom
  pointwise [val_main_v7, val_main_v6, val_main_v5, val_main_v4, val_main_v3, val_main_v1, val_main_cst, val_main_cst_0]

open Cert.ReferenceAdamLruIdeal.Read in
theorem ref_v (c : Dev nD) :
    (val_main_v13 (F := Ideal) (S m c) (G m c) : FVec Ideal S4x128 .f32) = NV m c := by
  funext j
  obtain ⟨p, q, rfl⟩ : ∃ (p : Fin 4) (q : Fin 128), j = ix2 p q := ⟨_, _, eq_ix2 j⟩
  unfold NV var
  pointwise [val_main_v13, val_main_v12, val_main_v11, val_main_v10, val_main_v9, val_main_v8, val_main_v2, val_main_cst_1, val_main_cst_2]

open Cert.ReferenceAdamLruIdeal.Read in
theorem ref_d (c : Dev nD) :
    (val_main_v26 (F := Ideal) (X m c) (M m c) (S m c) (G m c) : FVec Ideal S4x128 .f32) = DL m c := by
  funext j
  obtain ⟨p, q, rfl⟩ : ∃ (p : Fin 4) (q : Fin 128), j = ix2 p q := ⟨_, _, eq_ix2 j⟩
  unfold DL delta
  pointwise [val_main_v26, val_main_v25, val_main_v24, val_main_v23, val_main_v22, val_main_v21, val_main_v20, val_main_v19, val_main_v18, val_main_v17, val_main_v16, val_main_v15, val_main_v14, val_main_v0, val_main_cst, val_main_cst_0, val_main_cst_1, val_main_cst_2, val_main_cst_3, val_main_cst_4, val_main_cst_5, val_main_cst_6, val_main_cst_7]
  rw [ref_m m c, ref_v m c]

theorem frame_p : Cert.quiescent_KernelAdamLru := fun m ρ _ => Cert.KernelAdamLru.Gen.frame m ρ
theorem frame_pi : Cert.quiescent_KernelAdamLruIdeal := fun m ρ _ => Cert.KernelAdamLruIdeal.Gen.frame m ρ
theorem frame_ri : Cert.quiescent_ReferenceAdamLruIdeal := fun m ρ _ =>
  (θ_run Cert.ReferenceAdamLruIdeal.defs _ _).mono (fun r h => ⟨fun c => (h c).2.2.2.2,
      Idealize.ShloMosaic.sem_eq_zero_of_no_sems (by decide) r.2⟩)
    (Cert.ReferenceAdamLruIdeal.Value.run (F := Ideal) m ρ)

theorem algebraic : Cert.algebraic_KernelAdamLruIdeal_ReferenceAdamLruIdeal := by
  intro m ρ m' ρ' hpre hagree
  refine ⟨_, _, _, _, Cert.KernelAdamLruIdeal.Value.run_blocks (F := Ideal) m ρ, ?_⟩
  refine (θ_run Cert.ReferenceAdamLruIdeal.defs _ _).mono (fun _ h c => ?_) (Cert.ReferenceAdamLruIdeal.Value.run (F := Ideal) m' ρ')
  obtain ⟨a0, a1, a2, a3⟩ := hagree c
  obtain ⟨r0, r1, r2, r3, k⟩ := h c
  refine ⟨r0.trans ?_,
    (r1.trans (Cert.ReferenceAdamLruIdeal.Read.val_main_v26_eq _ _ _ _)).trans ?_,
    (r2.trans (Cert.ReferenceAdamLruIdeal.Read.val_main_v7_eq _ _)).trans ?_,
    (r3.trans (Cert.ReferenceAdamLruIdeal.Read.val_main_v13_eq _ _)).trans ?_, k⟩
  · rw [a3]
    exact (final4 m c).symm
  · rw [a0, a1, a2, a3]
    exact (ref_d m c).trans (final5 m c).symm
  · rw [a1, a3]
    exact (ref_m m c).trans (final6 m c).symm
  · rw [a2, a3]
    exact (ref_v m c).trans (final7 m c).symm
end Cert.KernelAdamLruIdeal.Val
-- ==== Proof.AdamConv.lean ====
/- AdamW on this chip's share of the feed-forward's convolution, its gradient given. -/
module
public import proofs.«01_k».proof.Defs
public import proofs.«01_k».proof.Proof.Gen.KernelAdamConv
public import proofs.«01_k».proof.Proof.Gen.KernelAdamConv.Frame
public import proofs.«01_k».proof.Proof.Gen.KernelAdamConvIdeal
public import proofs.«01_k».proof.Proof.Gen.KernelAdamConvIdeal.Frame
public import proofs.«01_k».proof.Proof.Gen.KernelAdamConvIdeal.Value
public import proofs.«01_k».proof.Proof.Gen.ReferenceAdamConvIdeal
public import proofs.«01_k».proof.Proof.Gen.ReferenceAdamConvIdeal.Run
public import proofs.«01_k».proof.Proof.Gen.ReferenceAdamConvIdeal.Read
public import proofs.«01_k».proof.Proof.Ix
public import proofs.«01_k».proof.Proof.Adam
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelAdamConvIdeal.Val

open Cert.KernelAdamConvIdeal Cert.KernelAdamConvIdeal.Gen Idealize.ShloMosaic Idealize.ShloMosaic.TcCoe Idealize.SL.Sem
open Idealize.ShloMosaic.Pipeline (Dat)
open Cert.Adam

variable (m : (ℓ : Loc nD τ sig) → Buf (Elt Ideal) ℓ)

/-- The weights, their moments and the gradient. -/
abbrev X (c : Dev nD) : FVec Ideal S1x3x1536 .f32 := m ((c : Thread nD τ).loc main_arg0)
abbrev M (c : Dev nD) : FVec Ideal S1x3x1536 .f32 := m ((c : Thread nD τ).loc main_arg1)
abbrev S (c : Dev nD) : FVec Ideal S1x3x1536 .f32 := m ((c : Thread nD τ).loc main_arg2)
abbrev G (c : Dev nD) : FVec Ideal S3x1536 .f32 := m ((c : Thread nD τ).loc main_arg3)

/-- Where each window's block lies: the one point takes the whole arrays. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

theorem v0_apply (c : Dev nD) (t : Fin 3) (k : Fin 1536) :
    (V m c main_v0 : FVec Ideal S3x1536 .f32) (ix2 t k) = X m c (ix3 0 t k) := by
  entry_read
  pointwise

theorem blk0 (c : Dev nD) (t : Fin cfg0.N) (r : Fin 3) (k : Fin 1536) :
    (iblk m c 0 t : Vec Ideal S3x1536 .f32) (ix2 r k) = X m c (ix3 0 r k) := by
  rw [← v0_apply m c]
  blk_ext [iblk, V, idx t]

theorem v1_apply (c : Dev nD) (t : Fin 3) (k : Fin 1536) :
    (V m c main_v1 : FVec Ideal S3x1536 .f32) (ix2 t k) = M m c (ix3 0 t k) := by
  entry_read
  pointwise

theorem blk1 (c : Dev nD) (t : Fin cfg0.N) (r : Fin 3) (k : Fin 1536) :
    (iblk m c 1 t : Vec Ideal S3x1536 .f32) (ix2 r k) = M m c (ix3 0 r k) := by
  rw [← v1_apply m c]
  blk_ext [iblk, V, idx t]

theorem v2_apply (c : Dev nD) (t : Fin 3) (k : Fin 1536) :
    (V m c main_v2 : FVec Ideal S3x1536 .f32) (ix2 t k) = S m c (ix3 0 t k) := by
  entry_read
  pointwise

theorem blk2 (c : Dev nD) (t : Fin cfg0.N) (r : Fin 3) (k : Fin 1536) :
    (iblk m c 2 t : Vec Ideal S3x1536 .f32) (ix2 r k) = S m c (ix3 0 r k) := by
  rw [← v2_apply m c]
  blk_ext [iblk, V, idx t]

theorem blk3 (c : Dev nD) (t : Fin cfg0.N) (r : Fin 3) (k : Fin 1536) :
    (iblk m c 3 t : Vec Ideal S3x1536 .f32) (ix2 r k) = G m c (ix2 r k) := by
  blk_ext [iblk, V, idx t]

theorem pay2_at (g w : FVec Ideal S3x1536 .f32) (p : Fin 3) (q : Fin 1536) :
    k0_pay2 (F := Ideal) g w (ix2 p q) = mom (w (ix2 p q)) (g (ix2 p q)) := by
  unfold k0_pay2 mom
  pointwise

theorem pay3_at (g w : FVec Ideal S3x1536 .f32) (p : Fin 3) (q : Fin 1536) :
    k0_pay3 (F := Ideal) g w (ix2 p q) = var (w (ix2 p q)) (g (ix2 p q)) := by
  unfold k0_pay3 var
  pointwise

theorem pay1_at (g x y z : FVec Ideal S3x1536 .f32) (p : Fin 3) (q : Fin 1536) :
    k0_pay1 (F := Ideal) (k0_pay4 (F := Ideal) g x y z) (k0_pay5 (F := Ideal)) (ix2 p q)
      = delta (z (ix2 p q)) (k0_pay2 (F := Ideal) g x (ix2 p q)) (k0_pay3 (F := Ideal) g y (ix2 p q)) := by
  unfold k0_pay1 k0_pay4 k0_pay5 delta
  pointwise

/-- The new moments and the change of the weights. -/
def NM (c : Dev nD) (j : S3x1536.Idx) : EReal := mom (M m c (ix3 0 (j 0) (j 1))) (G m c (ix2 (j 0) (j 1)))
def NV (c : Dev nD) (j : S3x1536.Idx) : EReal := var (S m c (ix3 0 (j 0) (j 1))) (G m c (ix2 (j 0) (j 1)))
def DL (c : Dev nD) (j : S3x1536.Idx) : EReal := delta (X m c (ix3 0 (j 0) (j 1))) (NM m c j) (NV m c j)

theorem nm_blk (c : Dev nD) (t : Fin cfg0.N) (p : Fin 3) (q : Fin 1536) :
    k0_pay2 (F := Ideal) (iblk m c 3 t) (iblk m c 1 t) (ix2 p q) = NM m c (ix2 p q) := by
  refine (pay2_at _ _ _ _).trans ?_
  rw [blk3, blk1]
  rfl

theorem nv_blk (c : Dev nD) (t : Fin cfg0.N) (p : Fin 3) (q : Fin 1536) :
    k0_pay3 (F := Ideal) (iblk m c 3 t) (iblk m c 2 t) (ix2 p q) = NV m c (ix2 p q) := by
  refine (pay3_at _ _ _ _).trans ?_
  rw [blk3, blk2]
  rfl

theorem dl_blk (c : Dev nD) (t : Fin cfg0.N) (p : Fin 3) (q : Fin 1536) :
    k0_pay1 (F := Ideal) (k0_pay4 (F := Ideal) (iblk m c 3 t) (iblk m c 1 t) (iblk m c 2 t) (iblk m c 0 t)) (k0_pay5 (F := Ideal)) (ix2 p q)
      = DL m c (ix2 p q) := by
  refine (pay1_at _ _ _ _ _ _).trans ?_
  rw [nm_blk, nv_blk, blk0]
  rfl

theorem emb4 (t : Fin cfg0.N) (p : Fin 3) (q : Fin 1536) :
    (((cfg0.win 4).blk t).view.emb (ix2 p q) : S3x1536.Idx) = ix2 p q := by
  have e := idx t
  have h0 : ((((cfg0.win 4).blk t).view.emb (ix2 p q)) 0 : ℕ) = p := by blk_simp [e]
  have h1 : ((((cfg0.win 4).blk t).view.emb (ix2 p q)) 1 : ℕ) = q := by blk_simp [e]
  exact Ix.of2 _ _ _ h0 h1

theorem final4 (c : Dev nD) : (dats m 0 c).arrAt 4 (cfgs 0).N = G m c := by
  refine (dats m 0 c).arrAt_eq_of_covers 4 _ (by decide +kernel) fun t hf y => ?_
  blk_simp
  rw [after0_4]
  obtain ⟨p, q, rfl⟩ : ∃ (p : Fin 3) (q : Fin 1536), y = ix2 p q := ⟨_, _, eq_ix2 y⟩
  refine Eq.trans ?_ (congrArg (G m c) (emb4 t p q)).symm
  frame_out [k0_pay1, k0_pay2, k0_pay3, k0_pay4]
  exact blk3 m c t p q

theorem emb5 (t : Fin cfg0.N) (p : Fin 3) (q : Fin 1536) :
    (((cfg0.win 5).blk t).view.emb (ix2 p q) : S3x1536.Idx) = ix2 p q := by
  have e := idx t
  have h0 : ((((cfg0.win 5).blk t).view.emb (ix2 p q)) 0 : ℕ) = p := by blk_simp [e]
  have h1 : ((((cfg0.win 5).blk t).view.emb (ix2 p q)) 1 : ℕ) = q := by blk_simp [e]
  exact Ix.of2 _ _ _ h0 h1

theorem final5 (c : Dev nD) : (dats m 0 c).arrAt 5 (cfgs 0).N = DL m c := by
  refine (dats m 0 c).arrAt_eq_of_covers 5 _ (by decide +kernel) fun t hf y => ?_
  blk_simp
  rw [after0_5]
  obtain ⟨p, q, rfl⟩ : ∃ (p : Fin 3) (q : Fin 1536), y = ix2 p q := ⟨_, _, eq_ix2 y⟩
  refine Eq.trans ?_ (congrArg (DL m c) (emb5 t p q)).symm
  frame_out [k0_pay1, k0_pay2, k0_pay3, k0_pay4]
  exact dl_blk m c t p q

theorem emb6 (t : Fin cfg0.N) (p : Fin 3) (q : Fin 1536) :
    (((cfg0.win 6).blk t).view.emb (ix2 p q) : S3x1536.Idx) = ix2 p q := by
  have e := idx t
  have h0 : ((((cfg0.win 6).blk t).view.emb (ix2 p q)) 0 : ℕ) = p := by blk_simp [e]
  have h1 : ((((cfg0.win 6).blk t).view.emb (ix2 p q)) 1 : ℕ) = q := by blk_simp [e]
  exact Ix.of2 _ _ _ h0 h1

theorem final6 (c : Dev nD) : (dats m 0 c).arrAt 6 (cfgs 0).N = NM m c := by
  refine (dats m 0 c).arrAt_eq_of_covers 6 _ (by decide +kernel) fun t hf y => ?_
  blk_simp
  rw [after0_6]
  obtain ⟨p, q, rfl⟩ : ∃ (p : Fin 3) (q : Fin 1536), y = ix2 p q := ⟨_, _, eq_ix2 y⟩
  refine Eq.trans ?_ (congrArg (NM m c) (emb6 t p q)).symm
  frame_out [k0_pay1, k0_pay2, k0_pay3, k0_pay4]
  exact nm_blk m c t p q

theorem emb7 (t : Fin cfg0.N) (p : Fin 3) (q : Fin 1536) :
    (((cfg0.win 7).blk t).view.emb (ix2 p q) : S3x1536.Idx) = ix2 p q := by
  have e := idx t
  have h0 : ((((cfg0.win 7).blk t).view.emb (ix2 p q)) 0 : ℕ) = p := by blk_simp [e]
  have h1 : ((((cfg0.win 7).blk t).view.emb (ix2 p q)) 1 : ℕ) = q := by blk_simp [e]
  exact Ix.of2 _ _ _ h0 h1

theorem final7 (c : Dev nD) : (dats m 0 c).arrAt 7 (cfgs 0).N = NV m c := by
  refine (dats m 0 c).arrAt_eq_of_covers 7 _ (by decide +kernel) fun t hf y => ?_
  blk_simp
  rw [after0_7]
  obtain ⟨p, q, rfl⟩ : ∃ (p : Fin 3) (q : Fin 1536), y = ix2 p q := ⟨_, _, eq_ix2 y⟩
  refine Eq.trans ?_ (congrArg (NV m c) (emb7 t p q)).symm
  frame_out [k0_pay1, k0_pay2, k0_pay3, k0_pay4]
  exact nv_blk m c t p q

open Cert.ReferenceAdamConvIdeal.Read in
theorem ref_m (c : Dev nD) :
    (val_main_v7 (F := Ideal) (M m c) (G m c) : FVec Ideal S3x1536 .f32) = NM m c := by
  funext j
  obtain ⟨p, q, rfl⟩ : ∃ (p : Fin 3) (q : Fin 1536), j = ix2 p q := ⟨_, _, eq_ix2 j⟩
  unfold NM mom
  pointwise [val_main_v7, val_main_v6, val_main_v5, val_main_v4, val_main_v3, val_main_v1, val_main_cst, val_main_cst_0]

open Cert.ReferenceAdamConvIdeal.Read in
theorem ref_v (c : Dev nD) :
    (val_main_v13 (F := Ideal) (S m c) (G m c) : FVec Ideal S3x1536 .f32) = NV m c := by
  funext j
  obtain ⟨p, q, rfl⟩ : ∃ (p : Fin 3) (q : Fin 1536), j = ix2 p q := ⟨_, _, eq_ix2 j⟩
  unfold NV var
  pointwise [val_main_v13, val_main_v12, val_main_v11, val_main_v10, val_main_v9, val_main_v8, val_main_v2, val_main_cst_1, val_main_cst_2]

open Cert.ReferenceAdamConvIdeal.Read in
theorem ref_d (c : Dev nD) :
    (val_main_v26 (F := Ideal) (X m c) (M m c) (S m c) (G m c) : FVec Ideal S3x1536 .f32) = DL m c := by
  funext j
  obtain ⟨p, q, rfl⟩ : ∃ (p : Fin 3) (q : Fin 1536), j = ix2 p q := ⟨_, _, eq_ix2 j⟩
  unfold DL delta
  pointwise [val_main_v26, val_main_v25, val_main_v24, val_main_v23, val_main_v22, val_main_v21, val_main_v20, val_main_v19, val_main_v18, val_main_v17, val_main_v16, val_main_v15, val_main_v14, val_main_v0, val_main_cst, val_main_cst_0, val_main_cst_1, val_main_cst_2, val_main_cst_3, val_main_cst_4, val_main_cst_5, val_main_cst_6, val_main_cst_7]
  rw [ref_m m c, ref_v m c]

theorem frame_p : Cert.quiescent_KernelAdamConv := fun m ρ _ => Cert.KernelAdamConv.Gen.frame m ρ
theorem frame_pi : Cert.quiescent_KernelAdamConvIdeal := fun m ρ _ => Cert.KernelAdamConvIdeal.Gen.frame m ρ
theorem frame_ri : Cert.quiescent_ReferenceAdamConvIdeal := fun m ρ _ =>
  (θ_run Cert.ReferenceAdamConvIdeal.defs _ _).mono (fun r h => ⟨fun c => (h c).2.2.2.2,
      Idealize.ShloMosaic.sem_eq_zero_of_no_sems (by decide) r.2⟩)
    (Cert.ReferenceAdamConvIdeal.Value.run (F := Ideal) m ρ)

theorem algebraic : Cert.algebraic_KernelAdamConvIdeal_ReferenceAdamConvIdeal := by
  intro m ρ m' ρ' hpre hagree
  refine ⟨_, _, _, _, Cert.KernelAdamConvIdeal.Value.run_blocks (F := Ideal) m ρ, ?_⟩
  refine (θ_run Cert.ReferenceAdamConvIdeal.defs _ _).mono (fun _ h c => ?_) (Cert.ReferenceAdamConvIdeal.Value.run (F := Ideal) m' ρ')
  obtain ⟨a0, a1, a2, a3⟩ := hagree c
  obtain ⟨r0, r1, r2, r3, k⟩ := h c
  refine ⟨r0.trans ?_,
    (r1.trans (Cert.ReferenceAdamConvIdeal.Read.val_main_v26_eq _ _ _ _)).trans ?_,
    (r2.trans (Cert.ReferenceAdamConvIdeal.Read.val_main_v7_eq _ _)).trans ?_,
    (r3.trans (Cert.ReferenceAdamConvIdeal.Read.val_main_v13_eq _ _)).trans ?_, k⟩
  · rw [a3]
    exact (final4 m c).symm
  · rw [a0, a1, a2, a3]
    exact (ref_d m c).trans (final5 m c).symm
  · rw [a1, a3]
    exact (ref_m m c).trans (final6 m c).symm
  · rw [a2, a3]
    exact (ref_v m c).trans (final7 m c).symm
end Cert.KernelAdamConvIdeal.Val
-- ==== Proof.AdamSmallKernel.lean ====
/- AdamW on the sixteen small weights together, packed by rows of 128: the gradient is the eight chips' parts added up. -/
module
public import proofs.«01_k».proof.Defs
public import proofs.«01_k».proof.Proof.Gen.KernelAdamSmall
public import proofs.«01_k».proof.Proof.Gen.KernelAdamSmall.Frame
public import proofs.«01_k».proof.Proof.Gen.KernelAdamSmallIdeal
public import proofs.«01_k».proof.Proof.Gen.KernelAdamSmallIdeal.Frame
public import proofs.«01_k».proof.Proof.Gen.ReferenceAdamSmallIdeal
public import proofs.«01_k».proof.Proof.Gen.ReferenceAdamSmallIdeal.Run
public import proofs.«01_k».proof.Proof.Gen.ReferenceAdamSmallIdeal.Read
public import proofs.«01_k».proof.Proof.Ix
public import proofs.«01_k».proof.Proof.Adam
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelAdamSmallIdeal.Val
open Cert.KernelAdamSmallIdeal Cert.KernelAdamSmallIdeal.Gen Idealize.ShloMosaic Idealize.ShloMosaic.TcCoe Idealize.SL.Sem
open Idealize.ShloMosaic.Pipeline (Dat)
open Cert.Adam
variable (m : (ℓ : Loc nD τ sig) → Buf (Elt Ideal) ℓ)
/-- The weights, their moments and the parts of the gradient as packed. -/
abbrev X (c : Dev nD) : FVec Ideal S3328x128 .f32 := V m c main_v39
abbrev M (c : Dev nD) : FVec Ideal S3328x128 .f32 := V m c main_v58
abbrev S (c : Dev nD) : FVec Ideal S3328x128 .f32 := V m c main_v77
abbrev PT (c : Dev nD) : FVec Ideal S8x3648x128 .f32 := V m c main_v20
/-- Where each window's block lies. -/
theorem idx : ∀ t : Fin cfg0.N, win0_0.index t = ![t.val, 0] ∧ win0_1.index t = ![t.val, 0] ∧ win0_2.index t = ![t.val, 0]
    ∧ win0_3.index t = ![0, t.val, 0] ∧ win0_4.index t = ![1, t.val, 0] ∧ win0_5.index t = ![2, t.val, 0] ∧ win0_6.index t = ![3, t.val, 0] ∧ win0_7.index t = ![4, t.val, 0] ∧ win0_8.index t = ![5, t.val, 0] ∧ win0_9.index t = ![6, t.val, 0] ∧ win0_10.index t = ![7, t.val, 0]
    ∧ win0_11.index t = ![t.val, 0] ∧ win0_12.index t = ![t.val, 0] ∧ win0_13.index t = ![t.val, 0] ∧ win0_14.index t = ![t.val, 0]
    ∧ t.val < 4 :=
  (by decide +kernel : ∀ t : Fin grid0.N, _)
theorem lt (t : Fin cfg0.N) : t.val < 4 := t.isLt
abbrev row (t : Fin cfg0.N) (r : Fin 832) : Fin 3328 := ⟨t.val * 832 + r, by have := lt t; omega⟩
abbrev big (r : Fin 3328) : Fin 3648 := ⟨r, by omega⟩
theorem blk0 (c : Dev nD) (t : Fin cfg0.N) (r : Fin 832) (k : Fin 128) :
    (iblk m c 0 t : Vec Ideal S832x128 .f32) (ix2 r k) = X m c (ix2 (row t r) k) := by
  blk_ext [iblk, idx t]
theorem blk1 (c : Dev nD) (t : Fin cfg0.N) (r : Fin 832) (k : Fin 128) :
    (iblk m c 1 t : Vec Ideal S832x128 .f32) (ix2 r k) = M m c (ix2 (row t r) k) := by
  blk_ext [iblk, idx t]
theorem blk2 (c : Dev nD) (t : Fin cfg0.N) (r : Fin 832) (k : Fin 128) :
    (iblk m c 2 t : Vec Ideal S832x128 .f32) (ix2 r k) = S m c (ix2 (row t r) k) := by
  blk_ext [iblk, idx t]
theorem blk3 (c : Dev nD) (t : Fin cfg0.N) (u : Fin 1) (r : Fin 832) (k : Fin 128) :
    (X0_3 m c t : Vec Ideal S1x832x128 .f32) (ix3 u r k) = PT m c (ix3 0 (big (row t r)) k) := by
  obtain rfl := Subsingleton.elim u 0
  refine (dif_pos (moved0_3 t (ix3 0 r k))).trans ?_
  blk_ext [iblk, idx t]
theorem blk4 (c : Dev nD) (t : Fin cfg0.N) (u : Fin 1) (r : Fin 832) (k : Fin 128) :
    (X0_4 m c t : Vec Ideal S1x832x128 .f32) (ix3 u r k) = PT m c (ix3 1 (big (row t r)) k) := by
  obtain rfl := Subsingleton.elim u 0
  refine (dif_pos (moved0_4 t (ix3 0 r k))).trans ?_
  blk_ext [iblk, idx t]
theorem blk5 (c : Dev nD) (t : Fin cfg0.N) (u : Fin 1) (r : Fin 832) (k : Fin 128) :
    (X0_5 m c t : Vec Ideal S1x832x128 .f32) (ix3 u r k) = PT m c (ix3 2 (big (row t r)) k) := by
  obtain rfl := Subsingleton.elim u 0
  refine (dif_pos (moved0_5 t (ix3 0 r k))).trans ?_
  blk_ext [iblk, idx t]
theorem blk6 (c : Dev nD) (t : Fin cfg0.N) (u : Fin 1) (r : Fin 832) (k : Fin 128) :
    (X0_6 m c t : Vec Ideal S1x832x128 .f32) (ix3 u r k) = PT m c (ix3 3 (big (row t r)) k) := by
  obtain rfl := Subsingleton.elim u 0
  refine (dif_pos (moved0_6 t (ix3 0 r k))).trans ?_
  blk_ext [iblk, idx t]
theorem blk7 (c : Dev nD) (t : Fin cfg0.N) (u : Fin 1) (r : Fin 832) (k : Fin 128) :
    (X0_7 m c t : Vec Ideal S1x832x128 .f32) (ix3 u r k) = PT m c (ix3 4 (big (row t r)) k) := by
  obtain rfl := Subsingleton.elim u 0
  refine (dif_pos (moved0_7 t (ix3 0 r k))).trans ?_
  blk_ext [iblk, idx t]
theorem blk8 (c : Dev nD) (t : Fin cfg0.N) (u : Fin 1) (r : Fin 832) (k : Fin 128) :
    (X0_8 m c t : Vec Ideal S1x832x128 .f32) (ix3 u r k) = PT m c (ix3 5 (big (row t r)) k) := by
  obtain rfl := Subsingleton.elim u 0
  refine (dif_pos (moved0_8 t (ix3 0 r k))).trans ?_
  blk_ext [iblk, idx t]
theorem blk9 (c : Dev nD) (t : Fin cfg0.N) (u : Fin 1) (r : Fin 832) (k : Fin 128) :
    (X0_9 m c t : Vec Ideal S1x832x128 .f32) (ix3 u r k) = PT m c (ix3 6 (big (row t r)) k) := by
  obtain rfl := Subsingleton.elim u 0
  refine (dif_pos (moved0_9 t (ix3 0 r k))).trans ?_
  blk_ext [iblk, idx t]
theorem blk10 (c : Dev nD) (t : Fin cfg0.N) (u : Fin 1) (r : Fin 832) (k : Fin 128) :
    (X0_10 m c t : Vec Ideal S1x832x128 .f32) (ix3 u r k) = PT m c (ix3 7 (big (row t r)) k) := by
  obtain rfl := Subsingleton.elim u 0
  refine (dif_pos (moved0_10 t (ix3 0 r k))).trans ?_
  blk_ext [iblk, idx t]
theorem pay3_at (x0 x1 x2 x3 x4 x5 x6 x7 : FVec Ideal S1x832x128 .f32) (p : Fin 832) (q : Fin 128) :
    k0_pay3 (F := Ideal) x0 x1 x2 x3 x4 x5 x6 x7 (ix2 p q) = x0 (ix3 0 p q) + x1 (ix3 0 p q) + x2 (ix3 0 p q) + x3 (ix3 0 p q) + x4 (ix3 0 p q) + x5 (ix3 0 p q) + x6 (ix3 0 p q) + x7 (ix3 0 p q) := by
  unfold k0_pay3
  pointwise
theorem pay4_at (x0 x1 x2 x3 x4 x5 x6 x7 : FVec Ideal S1x832x128 .f32) (w : FVec Ideal S832x128 .f32) (p : Fin 832) (q : Fin 128) :
    k0_pay4 (F := Ideal) x0 x1 x2 x3 x4 x5 x6 x7 w (ix2 p q) = mom (w (ix2 p q)) (k0_pay3 (F := Ideal) x0 x1 x2 x3 x4 x5 x6 x7 (ix2 p q)) := by
  unfold k0_pay4 mom
  pointwise
theorem pay1_at (g w : FVec Ideal S832x128 .f32) (p : Fin 832) (q : Fin 128) :
    k0_pay1 (F := Ideal) g w (ix2 p q) = var (w (ix2 p q)) (g (ix2 p q)) := by
  unfold k0_pay1 var
  pointwise
theorem pay2_at (g n v w : FVec Ideal S832x128 .f32) (p : Fin 832) (q : Fin 128) :
    k0_pay2 (F := Ideal) g n v w (ix2 p q) = delta (w (ix2 p q)) (n (ix2 p q)) (k0_pay1 (F := Ideal) g v (ix2 p q)) := by
  unfold k0_pay2 delta
  pointwise
/-- The gradient, the new moments and the change of the weights. -/
def G (c : Dev nD) (j : S3328x128.Idx) : EReal := ∑ k : Fin 8, PT m c (ix3 k (big (j 0)) (j 1))
def NM (c : Dev nD) (j : S3328x128.Idx) : EReal := mom (M m c (ix2 (j 0) (j 1))) (G m c j)
def NV (c : Dev nD) (j : S3328x128.Idx) : EReal := var (S m c (ix2 (j 0) (j 1))) (G m c j)
def DL (c : Dev nD) (j : S3328x128.Idx) : EReal := delta (X m c (ix2 (j 0) (j 1))) (NM m c j) (NV m c j)
theorem g_blk (c : Dev nD) (t : Fin cfg0.N) (p : Fin 832) (q : Fin 128) :
    k0_pay3 (F := Ideal) (X0_3 m c t) (X0_4 m c t) (X0_5 m c t) (X0_6 m c t) (X0_7 m c t) (X0_8 m c t) (X0_9 m c t) (X0_10 m c t) (ix2 p q) = G m c (ix2 (row t p) q) := by
  refine (pay3_at _ _ _ _ _ _ _ _ _ _).trans ?_
  simp only [blk3, blk4, blk5, blk6, blk7, blk8, blk9, blk10]
  exact sum8 fun k => PT m c (ix3 k (big (row t p)) q)
theorem nm_blk (c : Dev nD) (t : Fin cfg0.N) (p : Fin 832) (q : Fin 128) :
    k0_pay4 (F := Ideal) (X0_3 m c t) (X0_4 m c t) (X0_5 m c t) (X0_6 m c t) (X0_7 m c t) (X0_8 m c t) (X0_9 m c t) (X0_10 m c t) (iblk m c 1 t) (ix2 p q) = NM m c (ix2 (row t p) q) := by
  refine (pay4_at _ _ _ _ _ _ _ _ _ _ _).trans ?_
  rw [g_blk, blk1]
  rfl
theorem nv_blk (c : Dev nD) (t : Fin cfg0.N) (p : Fin 832) (q : Fin 128) :
    k0_pay1 (F := Ideal) (k0_pay3 (F := Ideal) (X0_3 m c t) (X0_4 m c t) (X0_5 m c t) (X0_6 m c t) (X0_7 m c t) (X0_8 m c t) (X0_9 m c t) (X0_10 m c t)) (iblk m c 2 t) (ix2 p q) = NV m c (ix2 (row t p) q) := by
  refine (pay1_at _ _ _ _).trans ?_
  rw [g_blk, blk2]
  rfl
theorem dl_blk (c : Dev nD) (t : Fin cfg0.N) (p : Fin 832) (q : Fin 128) :
    k0_pay2 (F := Ideal) (k0_pay3 (F := Ideal) (X0_3 m c t) (X0_4 m c t) (X0_5 m c t) (X0_6 m c t) (X0_7 m c t) (X0_8 m c t) (X0_9 m c t) (X0_10 m c t))
      (k0_pay4 (F := Ideal) (X0_3 m c t) (X0_4 m c t) (X0_5 m c t) (X0_6 m c t) (X0_7 m c t) (X0_8 m c t) (X0_9 m c t) (X0_10 m c t) (iblk m c 1 t)) (iblk m c 2 t) (iblk m c 0 t) (ix2 p q) = DL m c (ix2 (row t p) q) := by
  refine (pay2_at _ _ _ _ _ _).trans ?_
  rw [nm_blk, nv_blk, blk0]
  rfl
theorem emb11 (t : Fin cfg0.N) (p : Fin 832) (q : Fin 128) :
    (((cfg0.win 11).blk t).view.emb (ix2 p q) : S3328x128.Idx) = ix2 (row t p) q := by
  have e := idx t
  have h0 : ((((cfg0.win 11).blk t).view.emb (ix2 p q)) 0 : ℕ) = t.val * 832 + p := by blk_simp [e]
  have h1 : ((((cfg0.win 11).blk t).view.emb (ix2 p q)) 1 : ℕ) = q := by blk_simp [e]
  exact Ix.of2 _ _ _ h0 h1
theorem final11 (c : Dev nD) : (dats m 0 c).arrAt 11 cfg0.N = G m c := by
  refine (dats m 0 c).arrAt_eq_of_covers 11 _ (by decide +kernel) fun t hf y => ?_
  blk_simp
  rw [after0_11]
  obtain ⟨p, q, rfl⟩ : ∃ (p : Fin 832) (q : Fin 128), y = ix2 p q := ⟨_, _, eq_ix2 y⟩
  refine Eq.trans ?_ (congrArg (G m c) (emb11 t p q)).symm
  simp only [outsAt0]
  frame_out [k0_pay1, k0_pay2, k0_pay3, k0_pay4]
  exact g_blk m c t p q
theorem emb12 (t : Fin cfg0.N) (p : Fin 832) (q : Fin 128) :
    (((cfg0.win 12).blk t).view.emb (ix2 p q) : S3328x128.Idx) = ix2 (row t p) q := by
  have e := idx t
  have h0 : ((((cfg0.win 12).blk t).view.emb (ix2 p q)) 0 : ℕ) = t.val * 832 + p := by blk_simp [e]
  have h1 : ((((cfg0.win 12).blk t).view.emb (ix2 p q)) 1 : ℕ) = q := by blk_simp [e]
  exact Ix.of2 _ _ _ h0 h1
theorem final12 (c : Dev nD) : (dats m 0 c).arrAt 12 cfg0.N = DL m c := by
  refine (dats m 0 c).arrAt_eq_of_covers 12 _ (by decide +kernel) fun t hf y => ?_
  blk_simp
  rw [after0_12]
  obtain ⟨p, q, rfl⟩ : ∃ (p : Fin 832) (q : Fin 128), y = ix2 p q := ⟨_, _, eq_ix2 y⟩
  refine Eq.trans ?_ (congrArg (DL m c) (emb12 t p q)).symm
  simp only [outsAt0]
  frame_out [k0_pay1, k0_pay2, k0_pay3, k0_pay4]
  exact dl_blk m c t p q
theorem emb13 (t : Fin cfg0.N) (p : Fin 832) (q : Fin 128) :
    (((cfg0.win 13).blk t).view.emb (ix2 p q) : S3328x128.Idx) = ix2 (row t p) q := by
  have e := idx t
  have h0 : ((((cfg0.win 13).blk t).view.emb (ix2 p q)) 0 : ℕ) = t.val * 832 + p := by blk_simp [e]
  have h1 : ((((cfg0.win 13).blk t).view.emb (ix2 p q)) 1 : ℕ) = q := by blk_simp [e]
  exact Ix.of2 _ _ _ h0 h1
theorem final13 (c : Dev nD) : (dats m 0 c).arrAt 13 cfg0.N = NM m c := by
  refine (dats m 0 c).arrAt_eq_of_covers 13 _ (by decide +kernel) fun t hf y => ?_
  blk_simp
  rw [after0_13]
  obtain ⟨p, q, rfl⟩ : ∃ (p : Fin 832) (q : Fin 128), y = ix2 p q := ⟨_, _, eq_ix2 y⟩
  refine Eq.trans ?_ (congrArg (NM m c) (emb13 t p q)).symm
  simp only [outsAt0]
  frame_out [k0_pay1, k0_pay2, k0_pay3, k0_pay4]
  exact nm_blk m c t p q
theorem emb14 (t : Fin cfg0.N) (p : Fin 832) (q : Fin 128) :
    (((cfg0.win 14).blk t).view.emb (ix2 p q) : S3328x128.Idx) = ix2 (row t p) q := by
  have e := idx t
  have h0 : ((((cfg0.win 14).blk t).view.emb (ix2 p q)) 0 : ℕ) = t.val * 832 + p := by blk_simp [e]
  have h1 : ((((cfg0.win 14).blk t).view.emb (ix2 p q)) 1 : ℕ) = q := by blk_simp [e]
  exact Ix.of2 _ _ _ h0 h1
theorem final14 (c : Dev nD) : (dats m 0 c).arrAt 14 cfg0.N = NV m c := by
  refine (dats m 0 c).arrAt_eq_of_covers 14 _ (by decide +kernel) fun t hf y => ?_
  blk_simp
  rw [after0_14]
  obtain ⟨p, q, rfl⟩ : ∃ (p : Fin 832) (q : Fin 128), y = ix2 p q := ⟨_, _, eq_ix2 y⟩
  refine Eq.trans ?_ (congrArg (NV m c) (emb14 t p q)).symm
  simp only [outsAt0]
  frame_out [k0_pay1, k0_pay2, k0_pay3, k0_pay4]
  exact nv_blk m c t p q
end Cert.KernelAdamSmallIdeal.Val
-- ==== Proof.AdamSmallPack.lean ====
/- AdamW on the sixteen small weights together, packed by rows of 128: the gradient is the eight chips' parts added up. -/
module
public import Idealize.ShloMosaic.Lib.StableHlo.RunRead
public import proofs.«01_k».proof.Defs
public import proofs.«01_k».proof.Proof.Gen.KernelAdamSmall
public import proofs.«01_k».proof.Proof.Gen.KernelAdamSmall.Frame
public import proofs.«01_k».proof.Proof.Gen.KernelAdamSmallIdeal
public import proofs.«01_k».proof.Proof.Gen.KernelAdamSmallIdeal.Frame
public import proofs.«01_k».proof.Proof.Gen.ReferenceAdamSmallIdeal
public import proofs.«01_k».proof.Proof.Gen.ReferenceAdamSmallIdeal.Run
public import proofs.«01_k».proof.Proof.Gen.ReferenceAdamSmallIdeal.Read
public import proofs.«01_k».proof.Proof.Ix
public import proofs.«01_k».proof.Proof.Adam
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
set_option maxHeartbeats 2000000
noncomputable section
namespace Cert.KernelAdamSmallIdeal.Val
open Cert.KernelAdamSmallIdeal Cert.KernelAdamSmallIdeal.Gen Idealize.ShloMosaic Idealize.ShloMosaic.TcCoe Idealize.SL.Sem
open Idealize.ShloMosaic.Pipeline (Dat)
open Cert.Adam
variable (m : (ℓ : Loc nD τ sig) → Buf (Elt Ideal) ℓ)
theorem off2 {n N w : ℕ} (r : Fin n) (R : Fin N) (l : Fin w) (b : Fin 2) (h : b ≠ 0) : (ix2 r l b).val = (ix2 R l b).val := by
  match b with
  | 0 => exact absurd rfl h
  | 1 => rfl
theorem off3 {n N w d : ℕ} (k : Fin d) (r : Fin n) (R : Fin N) (l : Fin w) (b : Fin 3) (h : b ≠ 1) :
    (ix3 k r l b).val = (ix3 k R l b).val := by
  match b with
  | 0 => rfl
  | 1 => exact absurd rfl h
  | 2 => rfl
/-- An array after the first operations on the host. -/
abbrev at_ (c : Dev nD) (n : ℕ) (v : Ref sig .tc) := StableHlo.upto hostOps0 (fun b => m (c, b)) n (Proc.devRef .tc v)
theorem outX (c : Dev nD) (r : Fin 3288) (l : Fin 128) :
    (V m c main_v39 : FVec Ideal S3328x128 .f32) (ix2 ⟨r.val, by omega⟩ l) = (at_ m c 41 main_v37 : FVec Ideal S3288x128 .f32) (ix2 r l) := by
  have e : (StableHlo.after hostOps0 (fun b => m (c, b)) (Proc.devRef .tc main_v39) : FVec Ideal S3328x128 .f32) =
      concatenate S3328x128 0 [⟨S3288x128, (at_ m c 41 main_v37 : FVec Ideal S3288x128 .f32)⟩, ⟨S40x128, (at_ m c 41 main_v38 : FVec Ideal S40x128 .f32)⟩] concatenates_S3288x128_S40x128_S3328x128_d0 :=
    (StableHlo.after_last_write (ops := hostOps0) (i := 41) [main_v40, main_v41, main_v42, main_v43, main_v44, main_v45, main_v46, main_v47, main_v48, main_v49, main_v50, main_v51, main_v52, main_v53, main_v54, main_v55, main_v56, main_cst_1, main_v57, main_v58, main_v59, main_v60, main_v61, main_v62, main_v63, main_v64, main_v65, main_v66, main_v67, main_v68, main_v69, main_v70, main_v71, main_v72, main_v73, main_v74, main_v75, main_cst_2, main_v76, main_v77] rfl rfl (by decide) _).trans (StableHlo.binary_result ..)
  exact (congrFun e _).trans (concatenate_apply_piece (t := S3328x128) 0 _ _ _ 0 (Nat.le_of_ble_eq_true rfl) S3288x128 _ rfl rfl 0 rfl (ix2 r l) (off2 _ _ _) (by simp))
theorem innX (c : Dev nD) : (at_ m c 41 main_v37 : FVec Ideal S3288x128 .f32) =
      concatenate S3288x128 0 [⟨S16x128, (at_ m c 38 main_v21 : FVec Ideal S16x128 .f32)⟩, ⟨S8x128, (at_ m c 38 main_v22 : FVec Ideal S8x128 .f32)⟩, ⟨S8x128, (at_ m c 38 main_v23 : FVec Ideal S8x128 .f32)⟩, ⟨S1024x128, (at_ m c 38 main_v24 : FVec Ideal S1024x128 .f32)⟩, ⟨S8x128, (at_ m c 38 main_v25 : FVec Ideal S8x128 .f32)⟩, ⟨S8x128, (at_ m c 38 main_v26 : FVec Ideal S8x128 .f32)⟩, ⟨S1024x128, (at_ m c 38 main_v27 : FVec Ideal S1024x128 .f32)⟩, ⟨S8x128, (at_ m c 38 main_v28 : FVec Ideal S8x128 .f32)⟩, ⟨S1024x128, (at_ m c 38 main_v29 : FVec Ideal S1024x128 .f32)⟩, ⟨S8x128, (at_ m c 38 main_v30 : FVec Ideal S8x128 .f32)⟩, ⟨S8x128, (at_ m c 38 main_v31 : FVec Ideal S8x128 .f32)⟩, ⟨S8x128, (at_ m c 38 main_v32 : FVec Ideal S8x128 .f32)⟩, ⟨S8x128, (at_ m c 38 main_v33 : FVec Ideal S8x128 .f32)⟩, ⟨S16x128, (at_ m c 38 main_v34 : FVec Ideal S16x128 .f32)⟩, ⟨S96x128, (at_ m c 38 main_v35 : FVec Ideal S96x128 .f32)⟩, ⟨S16x128, (at_ m c 38 main_v36 : FVec Ideal S16x128 .f32)⟩] concatenates_S16x128_S8x128_S8x128_S1024x128_S8x128_S8x128_S1024x128_S8x128_S1024x128_S8x128_S8x128_S8x128_S8x128_S16x128_S96x128_S16x128_S3288x128_d0 :=
  (StableHlo.upto_last_write (ops := hostOps0) (n := 41) (i := 38) [main_cst_0, main_v38] rfl rfl (by decide) _).trans (StableHlo.nary_result ..)
theorem pkX0 (c : Dev nD) (r : Fin 16) (l : Fin 128) :
    (V m c main_v39 : FVec Ideal S3328x128 .f32) (ix2 ⟨r.val, by omega⟩ l) = (at_ m c 38 main_v21 : FVec Ideal S16x128 .f32) (ix2 r l) :=
  (outX m c ⟨r.val, by omega⟩ l).trans <| (congrFun (innX m c) _).trans <|
    concatenate_apply_piece (t := S3288x128) 0 _ _ _ 0 (Nat.le_of_ble_eq_true rfl) S16x128 _ rfl rfl 0 rfl (ix2 r l) (off2 _ _ _) (by simp)
theorem atX0 (c : Dev nD) (q : Fin 2048) :
    (at_ m c 38 main_v21 : FVec Ideal S16x128 .f32) (ix2 ⟨q.val / 128, by omega⟩ ⟨q.val % 128, by omega⟩) =
      (m ((c : Thread nD τ).loc main_arg0) : FVec Ideal S1x2048 .f32) (ix2 0 q) := by
  unfold at_
  after_reads_simp
  pointwise
theorem pkX1 (c : Dev nD) (r : Fin 8) (l : Fin 128) :
    (V m c main_v39 : FVec Ideal S3328x128 .f32) (ix2 ⟨16 + r.val, by omega⟩ l) = (at_ m c 38 main_v22 : FVec Ideal S8x128 .f32) (ix2 r l) :=
  (outX m c ⟨16 + r.val, by omega⟩ l).trans <| (congrFun (innX m c) _).trans <|
    concatenate_apply_piece (t := S3288x128) 0 _ _ _ 1 (Nat.le_of_ble_eq_true rfl) S8x128 _ rfl rfl 16 rfl (ix2 r l) (off2 _ _ _) (by simp)
theorem atX1 (c : Dev nD) (q : Fin 1024) :
    (at_ m c 38 main_v22 : FVec Ideal S8x128 .f32) (ix2 ⟨q.val / 128, by omega⟩ ⟨q.val % 128, by omega⟩) =
      (m ((c : Thread nD τ).loc main_arg1) : FVec Ideal S1x1024 .f32) (ix2 0 q) := by
  unfold at_
  after_reads_simp
  pointwise
theorem pkX2 (c : Dev nD) (r : Fin 8) (l : Fin 128) :
    (V m c main_v39 : FVec Ideal S3328x128 .f32) (ix2 ⟨24 + r.val, by omega⟩ l) = (at_ m c 38 main_v23 : FVec Ideal S8x128 .f32) (ix2 r l) :=
  (outX m c ⟨24 + r.val, by omega⟩ l).trans <| (congrFun (innX m c) _).trans <|
    concatenate_apply_piece (t := S3288x128) 0 _ _ _ 2 (Nat.le_of_ble_eq_true rfl) S8x128 _ rfl rfl 24 rfl (ix2 r l) (off2 _ _ _) (by simp)
theorem atX2 (c : Dev nD) (q : Fin 1024) :
    (at_ m c 38 main_v23 : FVec Ideal S8x128 .f32) (ix2 ⟨q.val / 128, by omega⟩ ⟨q.val % 128, by omega⟩) =
      (m ((c : Thread nD τ).loc main_arg2) : FVec Ideal S1x1024 .f32) (ix2 0 q) := by
  unfold at_
  after_reads_simp
  pointwise
theorem pkX3 (c : Dev nD) (r : Fin 1024) (l : Fin 128) :
    (V m c main_v39 : FVec Ideal S3328x128 .f32) (ix2 ⟨32 + r.val, by omega⟩ l) = (at_ m c 38 main_v24 : FVec Ideal S1024x128 .f32) (ix2 r l) :=
  (outX m c ⟨32 + r.val, by omega⟩ l).trans <| (congrFun (innX m c) _).trans <|
    concatenate_apply_piece (t := S3288x128) 0 _ _ _ 3 (Nat.le_of_ble_eq_true rfl) S1024x128 _ rfl rfl 32 rfl (ix2 r l) (off2 _ _ _) (by simp)
theorem atX3 (c : Dev nD) (a : Fin 8) (b : Fin 128) (q : Fin 128) :
    (at_ m c 38 main_v24 : FVec Ideal S1024x128 .f32) (ix2 ⟨a.val * 128 + b.val, by omega⟩ q) =
      (m ((c : Thread nD τ).loc main_arg3) : FVec Ideal S1x8x128x128 .f32) (ix4 0 a b q) := by
  unfold at_
  after_reads_simp
  pointwise
theorem pkX4 (c : Dev nD) (r : Fin 8) (l : Fin 128) :
    (V m c main_v39 : FVec Ideal S3328x128 .f32) (ix2 ⟨1056 + r.val, by omega⟩ l) = (at_ m c 38 main_v25 : FVec Ideal S8x128 .f32) (ix2 r l) :=
  (outX m c ⟨1056 + r.val, by omega⟩ l).trans <| (congrFun (innX m c) _).trans <|
    concatenate_apply_piece (t := S3288x128) 0 _ _ _ 4 (Nat.le_of_ble_eq_true rfl) S8x128 _ rfl rfl 1056 rfl (ix2 r l) (off2 _ _ _) (by simp)
theorem atX4 (c : Dev nD) (a : Fin 8) (q : Fin 128) :
    (at_ m c 38 main_v25 : FVec Ideal S8x128 .f32) (ix2 a q) =
      (m ((c : Thread nD τ).loc main_arg4) : FVec Ideal S1x8x128 .f32) (ix3 0 a q) := by
  unfold at_
  after_reads_simp
  pointwise
theorem pkX5 (c : Dev nD) (r : Fin 8) (l : Fin 128) :
    (V m c main_v39 : FVec Ideal S3328x128 .f32) (ix2 ⟨1064 + r.val, by omega⟩ l) = (at_ m c 38 main_v26 : FVec Ideal S8x128 .f32) (ix2 r l) :=
  (outX m c ⟨1064 + r.val, by omega⟩ l).trans <| (congrFun (innX m c) _).trans <|
    concatenate_apply_piece (t := S3288x128) 0 _ _ _ 5 (Nat.le_of_ble_eq_true rfl) S8x128 _ rfl rfl 1064 rfl (ix2 r l) (off2 _ _ _) (by simp)
theorem atX5 (c : Dev nD) (q : Fin 1024) :
    (at_ m c 38 main_v26 : FVec Ideal S8x128 .f32) (ix2 ⟨q.val / 128, by omega⟩ ⟨q.val % 128, by omega⟩) =
      (m ((c : Thread nD τ).loc main_arg5) : FVec Ideal S1x1024 .f32) (ix2 0 q) := by
  unfold at_
  after_reads_simp
  pointwise
theorem pkX6 (c : Dev nD) (r : Fin 1024) (l : Fin 128) :
    (V m c main_v39 : FVec Ideal S3328x128 .f32) (ix2 ⟨1072 + r.val, by omega⟩ l) = (at_ m c 38 main_v27 : FVec Ideal S1024x128 .f32) (ix2 r l) :=
  (outX m c ⟨1072 + r.val, by omega⟩ l).trans <| (congrFun (innX m c) _).trans <|
    concatenate_apply_piece (t := S3288x128) 0 _ _ _ 6 (Nat.le_of_ble_eq_true rfl) S1024x128 _ rfl rfl 1072 rfl (ix2 r l) (off2 _ _ _) (by simp)
theorem atX6 (c : Dev nD) (a : Fin 8) (b : Fin 128) (q : Fin 128) :
    (at_ m c 38 main_v27 : FVec Ideal S1024x128 .f32) (ix2 ⟨a.val * 128 + b.val, by omega⟩ q) =
      (m ((c : Thread nD τ).loc main_arg6) : FVec Ideal S1x8x128x128 .f32) (ix4 0 a b q) := by
  unfold at_
  after_reads_simp
  pointwise
theorem pkX7 (c : Dev nD) (r : Fin 8) (l : Fin 128) :
    (V m c main_v39 : FVec Ideal S3328x128 .f32) (ix2 ⟨2096 + r.val, by omega⟩ l) = (at_ m c 38 main_v28 : FVec Ideal S8x128 .f32) (ix2 r l) :=
  (outX m c ⟨2096 + r.val, by omega⟩ l).trans <| (congrFun (innX m c) _).trans <|
    concatenate_apply_piece (t := S3288x128) 0 _ _ _ 7 (Nat.le_of_ble_eq_true rfl) S8x128 _ rfl rfl 2096 rfl (ix2 r l) (off2 _ _ _) (by simp)
theorem atX7 (c : Dev nD) (a : Fin 8) (q : Fin 128) :
    (at_ m c 38 main_v28 : FVec Ideal S8x128 .f32) (ix2 a q) =
      (m ((c : Thread nD τ).loc main_arg7) : FVec Ideal S1x8x128 .f32) (ix3 0 a q) := by
  unfold at_
  after_reads_simp
  pointwise
theorem pkX8 (c : Dev nD) (r : Fin 1024) (l : Fin 128) :
    (V m c main_v39 : FVec Ideal S3328x128 .f32) (ix2 ⟨2104 + r.val, by omega⟩ l) = (at_ m c 38 main_v29 : FVec Ideal S1024x128 .f32) (ix2 r l) :=
  (outX m c ⟨2104 + r.val, by omega⟩ l).trans <| (congrFun (innX m c) _).trans <|
    concatenate_apply_piece (t := S3288x128) 0 _ _ _ 8 (Nat.le_of_ble_eq_true rfl) S1024x128 _ rfl rfl 2104 rfl (ix2 r l) (off2 _ _ _) (by simp)
theorem atX8 (c : Dev nD) (a : Fin 8) (b : Fin 128) (q : Fin 128) :
    (at_ m c 38 main_v29 : FVec Ideal S1024x128 .f32) (ix2 ⟨a.val * 128 + b.val, by omega⟩ q) =
      (m ((c : Thread nD τ).loc main_arg8) : FVec Ideal S1x8x128x128 .f32) (ix4 0 a b q) := by
  unfold at_
  after_reads_simp
  pointwise
theorem pkX9 (c : Dev nD) (r : Fin 8) (l : Fin 128) :
    (V m c main_v39 : FVec Ideal S3328x128 .f32) (ix2 ⟨3128 + r.val, by omega⟩ l) = (at_ m c 38 main_v30 : FVec Ideal S8x128 .f32) (ix2 r l) :=
  (outX m c ⟨3128 + r.val, by omega⟩ l).trans <| (congrFun (innX m c) _).trans <|
    concatenate_apply_piece (t := S3288x128) 0 _ _ _ 9 (Nat.le_of_ble_eq_true rfl) S8x128 _ rfl rfl 3128 rfl (ix2 r l) (off2 _ _ _) (by simp)
theorem atX9 (c : Dev nD) (a : Fin 8) (q : Fin 128) :
    (at_ m c 38 main_v30 : FVec Ideal S8x128 .f32) (ix2 a q) =
      (m ((c : Thread nD τ).loc main_arg9) : FVec Ideal S1x8x128 .f32) (ix3 0 a q) := by
  unfold at_
  after_reads_simp
  pointwise
theorem pkX10 (c : Dev nD) (r : Fin 8) (l : Fin 128) :
    (V m c main_v39 : FVec Ideal S3328x128 .f32) (ix2 ⟨3136 + r.val, by omega⟩ l) = (at_ m c 38 main_v31 : FVec Ideal S8x128 .f32) (ix2 r l) :=
  (outX m c ⟨3136 + r.val, by omega⟩ l).trans <| (congrFun (innX m c) _).trans <|
    concatenate_apply_piece (t := S3288x128) 0 _ _ _ 10 (Nat.le_of_ble_eq_true rfl) S8x128 _ rfl rfl 3136 rfl (ix2 r l) (off2 _ _ _) (by simp)
theorem atX10 (c : Dev nD) (q : Fin 1024) :
    (at_ m c 38 main_v31 : FVec Ideal S8x128 .f32) (ix2 ⟨q.val / 128, by omega⟩ ⟨q.val % 128, by omega⟩) =
      (m ((c : Thread nD τ).loc main_arg10) : FVec Ideal S1x1024 .f32) (ix2 0 q) := by
  unfold at_
  after_reads_simp
  pointwise
theorem pkX11 (c : Dev nD) (r : Fin 8) (l : Fin 128) :
    (V m c main_v39 : FVec Ideal S3328x128 .f32) (ix2 ⟨3144 + r.val, by omega⟩ l) = (at_ m c 38 main_v32 : FVec Ideal S8x128 .f32) (ix2 r l) :=
  (outX m c ⟨3144 + r.val, by omega⟩ l).trans <| (congrFun (innX m c) _).trans <|
    concatenate_apply_piece (t := S3288x128) 0 _ _ _ 11 (Nat.le_of_ble_eq_true rfl) S8x128 _ rfl rfl 3144 rfl (ix2 r l) (off2 _ _ _) (by simp)
theorem atX11 (c : Dev nD) (q : Fin 1024) :
    (at_ m c 38 main_v32 : FVec Ideal S8x128 .f32) (ix2 ⟨q.val / 128, by omega⟩ ⟨q.val % 128, by omega⟩) =
      (m ((c : Thread nD τ).loc main_arg11) : FVec Ideal S1x1024 .f32) (ix2 0 q) := by
  unfold at_
  after_reads_simp
  pointwise
theorem pkX12 (c : Dev nD) (r : Fin 8) (l : Fin 128) :
    (V m c main_v39 : FVec Ideal S3328x128 .f32) (ix2 ⟨3152 + r.val, by omega⟩ l) = (at_ m c 38 main_v33 : FVec Ideal S8x128 .f32) (ix2 r l) :=
  (outX m c ⟨3152 + r.val, by omega⟩ l).trans <| (congrFun (innX m c) _).trans <|
    concatenate_apply_piece (t := S3288x128) 0 _ _ _ 12 (Nat.le_of_ble_eq_true rfl) S8x128 _ rfl rfl 3152 rfl (ix2 r l) (off2 _ _ _) (by simp)
theorem atX12 (c : Dev nD) (q : Fin 1024) :
    (at_ m c 38 main_v33 : FVec Ideal S8x128 .f32) (ix2 ⟨q.val / 128, by omega⟩ ⟨q.val % 128, by omega⟩) =
      (m ((c : Thread nD τ).loc main_arg12) : FVec Ideal S1x1024 .f32) (ix2 0 q) := by
  unfold at_
  after_reads_simp
  pointwise
theorem pkX13 (c : Dev nD) (r : Fin 16) (l : Fin 128) :
    (V m c main_v39 : FVec Ideal S3328x128 .f32) (ix2 ⟨3160 + r.val, by omega⟩ l) = (at_ m c 38 main_v34 : FVec Ideal S16x128 .f32) (ix2 r l) :=
  (outX m c ⟨3160 + r.val, by omega⟩ l).trans <| (congrFun (innX m c) _).trans <|
    concatenate_apply_piece (t := S3288x128) 0 _ _ _ 13 (Nat.le_of_ble_eq_true rfl) S16x128 _ rfl rfl 3160 rfl (ix2 r l) (off2 _ _ _) (by simp)
theorem atX13 (c : Dev nD) (q : Fin 2048) :
    (at_ m c 38 main_v34 : FVec Ideal S16x128 .f32) (ix2 ⟨q.val / 128, by omega⟩ ⟨q.val % 128, by omega⟩) =
      (m ((c : Thread nD τ).loc main_arg13) : FVec Ideal S1x2048 .f32) (ix2 0 q) := by
  unfold at_
  after_reads_simp
  pointwise
theorem pkX14 (c : Dev nD) (r : Fin 96) (l : Fin 128) :
    (V m c main_v39 : FVec Ideal S3328x128 .f32) (ix2 ⟨3176 + r.val, by omega⟩ l) = (at_ m c 38 main_v35 : FVec Ideal S96x128 .f32) (ix2 r l) :=
  (outX m c ⟨3176 + r.val, by omega⟩ l).trans <| (congrFun (innX m c) _).trans <|
    concatenate_apply_piece (t := S3288x128) 0 _ _ _ 14 (Nat.le_of_ble_eq_true rfl) S96x128 _ rfl rfl 3176 rfl (ix2 r l) (off2 _ _ _) (by simp)
theorem atX14 (c : Dev nD) (q : Fin 12288) :
    (at_ m c 38 main_v35 : FVec Ideal S96x128 .f32) (ix2 ⟨q.val / 128, by omega⟩ ⟨q.val % 128, by omega⟩) =
      (m ((c : Thread nD τ).loc main_arg14) : FVec Ideal S1x12288 .f32) (ix2 0 q) := by
  unfold at_
  after_reads_simp
  pointwise
theorem pkX15 (c : Dev nD) (r : Fin 16) (l : Fin 128) :
    (V m c main_v39 : FVec Ideal S3328x128 .f32) (ix2 ⟨3272 + r.val, by omega⟩ l) = (at_ m c 38 main_v36 : FVec Ideal S16x128 .f32) (ix2 r l) :=
  (outX m c ⟨3272 + r.val, by omega⟩ l).trans <| (congrFun (innX m c) _).trans <|
    concatenate_apply_piece (t := S3288x128) 0 _ _ _ 15 (Nat.le_of_ble_eq_true rfl) S16x128 _ rfl rfl 3272 rfl (ix2 r l) (off2 _ _ _) (by simp)
theorem atX15 (c : Dev nD) (q : Fin 2048) :
    (at_ m c 38 main_v36 : FVec Ideal S16x128 .f32) (ix2 ⟨q.val / 128, by omega⟩ ⟨q.val % 128, by omega⟩) =
      (m ((c : Thread nD τ).loc main_arg15) : FVec Ideal S2048 .f32) (ix1 q) := by
  unfold at_
  after_reads_simp
  pointwise
theorem outM (c : Dev nD) (r : Fin 3288) (l : Fin 128) :
    (V m c main_v58 : FVec Ideal S3328x128 .f32) (ix2 ⟨r.val, by omega⟩ l) = (at_ m c 61 main_v56 : FVec Ideal S3288x128 .f32) (ix2 r l) := by
  have e : (StableHlo.after hostOps0 (fun b => m (c, b)) (Proc.devRef .tc main_v58) : FVec Ideal S3328x128 .f32) =
      concatenate S3328x128 0 [⟨S3288x128, (at_ m c 61 main_v56 : FVec Ideal S3288x128 .f32)⟩, ⟨S40x128, (at_ m c 61 main_v57 : FVec Ideal S40x128 .f32)⟩] concatenates_S3288x128_S40x128_S3328x128_d0 :=
    (StableHlo.after_last_write (ops := hostOps0) (i := 61) [main_v59, main_v60, main_v61, main_v62, main_v63, main_v64, main_v65, main_v66, main_v67, main_v68, main_v69, main_v70, main_v71, main_v72, main_v73, main_v74, main_v75, main_cst_2, main_v76, main_v77] rfl rfl (by decide) _).trans (StableHlo.binary_result ..)
  exact (congrFun e _).trans (concatenate_apply_piece (t := S3328x128) 0 _ _ _ 0 (Nat.le_of_ble_eq_true rfl) S3288x128 _ rfl rfl 0 rfl (ix2 r l) (off2 _ _ _) (by simp))
theorem innM (c : Dev nD) : (at_ m c 61 main_v56 : FVec Ideal S3288x128 .f32) =
      concatenate S3288x128 0 [⟨S16x128, (at_ m c 58 main_v40 : FVec Ideal S16x128 .f32)⟩, ⟨S8x128, (at_ m c 58 main_v41 : FVec Ideal S8x128 .f32)⟩, ⟨S8x128, (at_ m c 58 main_v42 : FVec Ideal S8x128 .f32)⟩, ⟨S1024x128, (at_ m c 58 main_v43 : FVec Ideal S1024x128 .f32)⟩, ⟨S8x128, (at_ m c 58 main_v44 : FVec Ideal S8x128 .f32)⟩, ⟨S8x128, (at_ m c 58 main_v45 : FVec Ideal S8x128 .f32)⟩, ⟨S1024x128, (at_ m c 58 main_v46 : FVec Ideal S1024x128 .f32)⟩, ⟨S8x128, (at_ m c 58 main_v47 : FVec Ideal S8x128 .f32)⟩, ⟨S1024x128, (at_ m c 58 main_v48 : FVec Ideal S1024x128 .f32)⟩, ⟨S8x128, (at_ m c 58 main_v49 : FVec Ideal S8x128 .f32)⟩, ⟨S8x128, (at_ m c 58 main_v50 : FVec Ideal S8x128 .f32)⟩, ⟨S8x128, (at_ m c 58 main_v51 : FVec Ideal S8x128 .f32)⟩, ⟨S8x128, (at_ m c 58 main_v52 : FVec Ideal S8x128 .f32)⟩, ⟨S16x128, (at_ m c 58 main_v53 : FVec Ideal S16x128 .f32)⟩, ⟨S96x128, (at_ m c 58 main_v54 : FVec Ideal S96x128 .f32)⟩, ⟨S16x128, (at_ m c 58 main_v55 : FVec Ideal S16x128 .f32)⟩] concatenates_S16x128_S8x128_S8x128_S1024x128_S8x128_S8x128_S1024x128_S8x128_S1024x128_S8x128_S8x128_S8x128_S8x128_S16x128_S96x128_S16x128_S3288x128_d0 :=
  (StableHlo.upto_last_write (ops := hostOps0) (n := 61) (i := 58) [main_cst_1, main_v57] rfl rfl (by decide) _).trans (StableHlo.nary_result ..)
theorem pkM0 (c : Dev nD) (r : Fin 16) (l : Fin 128) :
    (V m c main_v58 : FVec Ideal S3328x128 .f32) (ix2 ⟨r.val, by omega⟩ l) = (at_ m c 58 main_v40 : FVec Ideal S16x128 .f32) (ix2 r l) :=
  (outM m c ⟨r.val, by omega⟩ l).trans <| (congrFun (innM m c) _).trans <|
    concatenate_apply_piece (t := S3288x128) 0 _ _ _ 0 (Nat.le_of_ble_eq_true rfl) S16x128 _ rfl rfl 0 rfl (ix2 r l) (off2 _ _ _) (by simp)
theorem atM0 (c : Dev nD) (q : Fin 2048) :
    (at_ m c 58 main_v40 : FVec Ideal S16x128 .f32) (ix2 ⟨q.val / 128, by omega⟩ ⟨q.val % 128, by omega⟩) =
      (m ((c : Thread nD τ).loc main_arg16) : FVec Ideal S1x2048 .f32) (ix2 0 q) := by
  unfold at_
  after_reads_simp
  pointwise
theorem pkM1 (c : Dev nD) (r : Fin 8) (l : Fin 128) :
    (V m c main_v58 : FVec Ideal S3328x128 .f32) (ix2 ⟨16 + r.val, by omega⟩ l) = (at_ m c 58 main_v41 : FVec Ideal S8x128 .f32) (ix2 r l) :=
  (outM m c ⟨16 + r.val, by omega⟩ l).trans <| (congrFun (innM m c) _).trans <|
    concatenate_apply_piece (t := S3288x128) 0 _ _ _ 1 (Nat.le_of_ble_eq_true rfl) S8x128 _ rfl rfl 16 rfl (ix2 r l) (off2 _ _ _) (by simp)
theorem atM1 (c : Dev nD) (q : Fin 1024) :
    (at_ m c 58 main_v41 : FVec Ideal S8x128 .f32) (ix2 ⟨q.val / 128, by omega⟩ ⟨q.val % 128, by omega⟩) =
      (m ((c : Thread nD τ).loc main_arg17) : FVec Ideal S1x1024 .f32) (ix2 0 q) := by
  unfold at_
  after_reads_simp
  pointwise
theorem pkM2 (c : Dev nD) (r : Fin 8) (l : Fin 128) :
    (V m c main_v58 : FVec Ideal S3328x128 .f32) (ix2 ⟨24 + r.val, by omega⟩ l) = (at_ m c 58 main_v42 : FVec Ideal S8x128 .f32) (ix2 r l) :=
  (outM m c ⟨24 + r.val, by omega⟩ l).trans <| (congrFun (innM m c) _).trans <|
    concatenate_apply_piece (t := S3288x128) 0 _ _ _ 2 (Nat.le_of_ble_eq_true rfl) S8x128 _ rfl rfl 24 rfl (ix2 r l) (off2 _ _ _) (by simp)
theorem atM2 (c : Dev nD) (q : Fin 1024) :
    (at_ m c 58 main_v42 : FVec Ideal S8x128 .f32) (ix2 ⟨q.val / 128, by omega⟩ ⟨q.val % 128, by omega⟩) =
      (m ((c : Thread nD τ).loc main_arg18) : FVec Ideal S1x1024 .f32) (ix2 0 q) := by
  unfold at_
  after_reads_simp
  pointwise
theorem pkM3 (c : Dev nD) (r : Fin 1024) (l : Fin 128) :
    (V m c main_v58 : FVec Ideal S3328x128 .f32) (ix2 ⟨32 + r.val, by omega⟩ l) = (at_ m c 58 main_v43 : FVec Ideal S1024x128 .f32) (ix2 r l) :=
  (outM m c ⟨32 + r.val, by omega⟩ l).trans <| (congrFun (innM m c) _).trans <|
    concatenate_apply_piece (t := S3288x128) 0 _ _ _ 3 (Nat.le_of_ble_eq_true rfl) S1024x128 _ rfl rfl 32 rfl (ix2 r l) (off2 _ _ _) (by simp)
theorem atM3 (c : Dev nD) (a : Fin 8) (b : Fin 128) (q : Fin 128) :
    (at_ m c 58 main_v43 : FVec Ideal S1024x128 .f32) (ix2 ⟨a.val * 128 + b.val, by omega⟩ q) =
      (m ((c : Thread nD τ).loc main_arg19) : FVec Ideal S1x8x128x128 .f32) (ix4 0 a b q) := by
  unfold at_
  after_reads_simp
  pointwise
theorem pkM4 (c : Dev nD) (r : Fin 8) (l : Fin 128) :
    (V m c main_v58 : FVec Ideal S3328x128 .f32) (ix2 ⟨1056 + r.val, by omega⟩ l) = (at_ m c 58 main_v44 : FVec Ideal S8x128 .f32) (ix2 r l) :=
  (outM m c ⟨1056 + r.val, by omega⟩ l).trans <| (congrFun (innM m c) _).trans <|
    concatenate_apply_piece (t := S3288x128) 0 _ _ _ 4 (Nat.le_of_ble_eq_true rfl) S8x128 _ rfl rfl 1056 rfl (ix2 r l) (off2 _ _ _) (by simp)
theorem atM4 (c : Dev nD) (a : Fin 8) (q : Fin 128) :
    (at_ m c 58 main_v44 : FVec Ideal S8x128 .f32) (ix2 a q) =
      (m ((c : Thread nD τ).loc main_arg20) : FVec Ideal S1x8x128 .f32) (ix3 0 a q) := by
  unfold at_
  after_reads_simp
  pointwise
theorem pkM5 (c : Dev nD) (r : Fin 8) (l : Fin 128) :
    (V m c main_v58 : FVec Ideal S3328x128 .f32) (ix2 ⟨1064 + r.val, by omega⟩ l) = (at_ m c 58 main_v45 : FVec Ideal S8x128 .f32) (ix2 r l) :=
  (outM m c ⟨1064 + r.val, by omega⟩ l).trans <| (congrFun (innM m c) _).trans <|
    concatenate_apply_piece (t := S3288x128) 0 _ _ _ 5 (Nat.le_of_ble_eq_true rfl) S8x128 _ rfl rfl 1064 rfl (ix2 r l) (off2 _ _ _) (by simp)
theorem atM5 (c : Dev nD) (q : Fin 1024) :
    (at_ m c 58 main_v45 : FVec Ideal S8x128 .f32) (ix2 ⟨q.val / 128, by omega⟩ ⟨q.val % 128, by omega⟩) =
      (m ((c : Thread nD τ).loc main_arg21) : FVec Ideal S1x1024 .f32) (ix2 0 q) := by
  unfold at_
  after_reads_simp
  pointwise
theorem pkM6 (c : Dev nD) (r : Fin 1024) (l : Fin 128) :
    (V m c main_v58 : FVec Ideal S3328x128 .f32) (ix2 ⟨1072 + r.val, by omega⟩ l) = (at_ m c 58 main_v46 : FVec Ideal S1024x128 .f32) (ix2 r l) :=
  (outM m c ⟨1072 + r.val, by omega⟩ l).trans <| (congrFun (innM m c) _).trans <|
    concatenate_apply_piece (t := S3288x128) 0 _ _ _ 6 (Nat.le_of_ble_eq_true rfl) S1024x128 _ rfl rfl 1072 rfl (ix2 r l) (off2 _ _ _) (by simp)
theorem atM6 (c : Dev nD) (a : Fin 8) (b : Fin 128) (q : Fin 128) :
    (at_ m c 58 main_v46 : FVec Ideal S1024x128 .f32) (ix2 ⟨a.val * 128 + b.val, by omega⟩ q) =
      (m ((c : Thread nD τ).loc main_arg22) : FVec Ideal S1x8x128x128 .f32) (ix4 0 a b q) := by
  unfold at_
  after_reads_simp
  pointwise
theorem pkM7 (c : Dev nD) (r : Fin 8) (l : Fin 128) :
    (V m c main_v58 : FVec Ideal S3328x128 .f32) (ix2 ⟨2096 + r.val, by omega⟩ l) = (at_ m c 58 main_v47 : FVec Ideal S8x128 .f32) (ix2 r l) :=
  (outM m c ⟨2096 + r.val, by omega⟩ l).trans <| (congrFun (innM m c) _).trans <|
    concatenate_apply_piece (t := S3288x128) 0 _ _ _ 7 (Nat.le_of_ble_eq_true rfl) S8x128 _ rfl rfl 2096 rfl (ix2 r l) (off2 _ _ _) (by simp)
theorem atM7 (c : Dev nD) (a : Fin 8) (q : Fin 128) :
    (at_ m c 58 main_v47 : FVec Ideal S8x128 .f32) (ix2 a q) =
      (m ((c : Thread nD τ).loc main_arg23) : FVec Ideal S1x8x128 .f32) (ix3 0 a q) := by
  unfold at_
  after_reads_simp
  pointwise
theorem pkM8 (c : Dev nD) (r : Fin 1024) (l : Fin 128) :
    (V m c main_v58 : FVec Ideal S3328x128 .f32) (ix2 ⟨2104 + r.val, by omega⟩ l) = (at_ m c 58 main_v48 : FVec Ideal S1024x128 .f32) (ix2 r l) :=
  (outM m c ⟨2104 + r.val, by omega⟩ l).trans <| (congrFun (innM m c) _).trans <|
    concatenate_apply_piece (t := S3288x128) 0 _ _ _ 8 (Nat.le_of_ble_eq_true rfl) S1024x128 _ rfl rfl 2104 rfl (ix2 r l) (off2 _ _ _) (by simp)
theorem atM8 (c : Dev nD) (a : Fin 8) (b : Fin 128) (q : Fin 128) :
    (at_ m c 58 main_v48 : FVec Ideal S1024x128 .f32) (ix2 ⟨a.val * 128 + b.val, by omega⟩ q) =
      (m ((c : Thread nD τ).loc main_arg24) : FVec Ideal S1x8x128x128 .f32) (ix4 0 a b q) := by
  unfold at_
  after_reads_simp
  pointwise
theorem pkM9 (c : Dev nD) (r : Fin 8) (l : Fin 128) :
    (V m c main_v58 : FVec Ideal S3328x128 .f32) (ix2 ⟨3128 + r.val, by omega⟩ l) = (at_ m c 58 main_v49 : FVec Ideal S8x128 .f32) (ix2 r l) :=
  (outM m c ⟨3128 + r.val, by omega⟩ l).trans <| (congrFun (innM m c) _).trans <|
    concatenate_apply_piece (t := S3288x128) 0 _ _ _ 9 (Nat.le_of_ble_eq_true rfl) S8x128 _ rfl rfl 3128 rfl (ix2 r l) (off2 _ _ _) (by simp)
theorem atM9 (c : Dev nD) (a : Fin 8) (q : Fin 128) :
    (at_ m c 58 main_v49 : FVec Ideal S8x128 .f32) (ix2 a q) =
      (m ((c : Thread nD τ).loc main_arg25) : FVec Ideal S1x8x128 .f32) (ix3 0 a q) := by
  unfold at_
  after_reads_simp
  pointwise
theorem pkM10 (c : Dev nD) (r : Fin 8) (l : Fin 128) :
    (V m c main_v58 : FVec Ideal S3328x128 .f32) (ix2 ⟨3136 + r.val, by omega⟩ l) = (at_ m c 58 main_v50 : FVec Ideal S8x128 .f32) (ix2 r l) :=
  (outM m c ⟨3136 + r.val, by omega⟩ l).trans <| (congrFun (innM m c) _).trans <|
    concatenate_apply_piece (t := S3288x128) 0 _ _ _ 10 (Nat.le_of_ble_eq_true rfl) S8x128 _ rfl rfl 3136 rfl (ix2 r l) (off2 _ _ _) (by simp)
theorem atM10 (c : Dev nD) (q : Fin 1024) :
    (at_ m c 58 main_v50 : FVec Ideal S8x128 .f32) (ix2 ⟨q.val / 128, by omega⟩ ⟨q.val % 128, by omega⟩) =
      (m ((c : Thread nD τ).loc main_arg26) : FVec Ideal S1x1024 .f32) (ix2 0 q) := by
  unfold at_
  after_reads_simp
  pointwise
theorem pkM11 (c : Dev nD) (r : Fin 8) (l : Fin 128) :
    (V m c main_v58 : FVec Ideal S3328x128 .f32) (ix2 ⟨3144 + r.val, by omega⟩ l) = (at_ m c 58 main_v51 : FVec Ideal S8x128 .f32) (ix2 r l) :=
  (outM m c ⟨3144 + r.val, by omega⟩ l).trans <| (congrFun (innM m c) _).trans <|
    concatenate_apply_piece (t := S3288x128) 0 _ _ _ 11 (Nat.le_of_ble_eq_true rfl) S8x128 _ rfl rfl 3144 rfl (ix2 r l) (off2 _ _ _) (by simp)
theorem atM11 (c : Dev nD) (q : Fin 1024) :
    (at_ m c 58 main_v51 : FVec Ideal S8x128 .f32) (ix2 ⟨q.val / 128, by omega⟩ ⟨q.val % 128, by omega⟩) =
      (m ((c : Thread nD τ).loc main_arg27) : FVec Ideal S1x1024 .f32) (ix2 0 q) := by
  unfold at_
  after_reads_simp
  pointwise
theorem pkM12 (c : Dev nD) (r : Fin 8) (l : Fin 128) :
    (V m c main_v58 : FVec Ideal S3328x128 .f32) (ix2 ⟨3152 + r.val, by omega⟩ l) = (at_ m c 58 main_v52 : FVec Ideal S8x128 .f32) (ix2 r l) :=
  (outM m c ⟨3152 + r.val, by omega⟩ l).trans <| (congrFun (innM m c) _).trans <|
    concatenate_apply_piece (t := S3288x128) 0 _ _ _ 12 (Nat.le_of_ble_eq_true rfl) S8x128 _ rfl rfl 3152 rfl (ix2 r l) (off2 _ _ _) (by simp)
theorem atM12 (c : Dev nD) (q : Fin 1024) :
    (at_ m c 58 main_v52 : FVec Ideal S8x128 .f32) (ix2 ⟨q.val / 128, by omega⟩ ⟨q.val % 128, by omega⟩) =
      (m ((c : Thread nD τ).loc main_arg28) : FVec Ideal S1x1024 .f32) (ix2 0 q) := by
  unfold at_
  after_reads_simp
  pointwise
theorem pkM13 (c : Dev nD) (r : Fin 16) (l : Fin 128) :
    (V m c main_v58 : FVec Ideal S3328x128 .f32) (ix2 ⟨3160 + r.val, by omega⟩ l) = (at_ m c 58 main_v53 : FVec Ideal S16x128 .f32) (ix2 r l) :=
  (outM m c ⟨3160 + r.val, by omega⟩ l).trans <| (congrFun (innM m c) _).trans <|
    concatenate_apply_piece (t := S3288x128) 0 _ _ _ 13 (Nat.le_of_ble_eq_true rfl) S16x128 _ rfl rfl 3160 rfl (ix2 r l) (off2 _ _ _) (by simp)
theorem atM13 (c : Dev nD) (q : Fin 2048) :
    (at_ m c 58 main_v53 : FVec Ideal S16x128 .f32) (ix2 ⟨q.val / 128, by omega⟩ ⟨q.val % 128, by omega⟩) =
      (m ((c : Thread nD τ).loc main_arg29) : FVec Ideal S1x2048 .f32) (ix2 0 q) := by
  unfold at_
  after_reads_simp
  pointwise
theorem pkM14 (c : Dev nD) (r : Fin 96) (l : Fin 128) :
    (V m c main_v58 : FVec Ideal S3328x128 .f32) (ix2 ⟨3176 + r.val, by omega⟩ l) = (at_ m c 58 main_v54 : FVec Ideal S96x128 .f32) (ix2 r l) :=
  (outM m c ⟨3176 + r.val, by omega⟩ l).trans <| (congrFun (innM m c) _).trans <|
    concatenate_apply_piece (t := S3288x128) 0 _ _ _ 14 (Nat.le_of_ble_eq_true rfl) S96x128 _ rfl rfl 3176 rfl (ix2 r l) (off2 _ _ _) (by simp)
theorem atM14 (c : Dev nD) (q : Fin 12288) :
    (at_ m c 58 main_v54 : FVec Ideal S96x128 .f32) (ix2 ⟨q.val / 128, by omega⟩ ⟨q.val % 128, by omega⟩) =
      (m ((c : Thread nD τ).loc main_arg30) : FVec Ideal S1x12288 .f32) (ix2 0 q) := by
  unfold at_
  after_reads_simp
  pointwise
theorem pkM15 (c : Dev nD) (r : Fin 16) (l : Fin 128) :
    (V m c main_v58 : FVec Ideal S3328x128 .f32) (ix2 ⟨3272 + r.val, by omega⟩ l) = (at_ m c 58 main_v55 : FVec Ideal S16x128 .f32) (ix2 r l) :=
  (outM m c ⟨3272 + r.val, by omega⟩ l).trans <| (congrFun (innM m c) _).trans <|
    concatenate_apply_piece (t := S3288x128) 0 _ _ _ 15 (Nat.le_of_ble_eq_true rfl) S16x128 _ rfl rfl 3272 rfl (ix2 r l) (off2 _ _ _) (by simp)
theorem atM15 (c : Dev nD) (q : Fin 2048) :
    (at_ m c 58 main_v55 : FVec Ideal S16x128 .f32) (ix2 ⟨q.val / 128, by omega⟩ ⟨q.val % 128, by omega⟩) =
      (m ((c : Thread nD τ).loc main_arg31) : FVec Ideal S2048 .f32) (ix1 q) := by
  unfold at_
  after_reads_simp
  pointwise
theorem outS (c : Dev nD) (r : Fin 3288) (l : Fin 128) :
    (V m c main_v77 : FVec Ideal S3328x128 .f32) (ix2 ⟨r.val, by omega⟩ l) = (at_ m c 81 main_v75 : FVec Ideal S3288x128 .f32) (ix2 r l) := by
  have e : (StableHlo.after hostOps0 (fun b => m (c, b)) (Proc.devRef .tc main_v77) : FVec Ideal S3328x128 .f32) =
      concatenate S3328x128 0 [⟨S3288x128, (at_ m c 81 main_v75 : FVec Ideal S3288x128 .f32)⟩, ⟨S40x128, (at_ m c 81 main_v76 : FVec Ideal S40x128 .f32)⟩] concatenates_S3288x128_S40x128_S3328x128_d0 :=
    (StableHlo.after_last_write (ops := hostOps0) (i := 81) [] rfl rfl (by decide) _).trans (StableHlo.binary_result ..)
  exact (congrFun e _).trans (concatenate_apply_piece (t := S3328x128) 0 _ _ _ 0 (Nat.le_of_ble_eq_true rfl) S3288x128 _ rfl rfl 0 rfl (ix2 r l) (off2 _ _ _) (by simp))
theorem innS (c : Dev nD) : (at_ m c 81 main_v75 : FVec Ideal S3288x128 .f32) =
      concatenate S3288x128 0 [⟨S16x128, (at_ m c 78 main_v59 : FVec Ideal S16x128 .f32)⟩, ⟨S8x128, (at_ m c 78 main_v60 : FVec Ideal S8x128 .f32)⟩, ⟨S8x128, (at_ m c 78 main_v61 : FVec Ideal S8x128 .f32)⟩, ⟨S1024x128, (at_ m c 78 main_v62 : FVec Ideal S1024x128 .f32)⟩, ⟨S8x128, (at_ m c 78 main_v63 : FVec Ideal S8x128 .f32)⟩, ⟨S8x128, (at_ m c 78 main_v64 : FVec Ideal S8x128 .f32)⟩, ⟨S1024x128, (at_ m c 78 main_v65 : FVec Ideal S1024x128 .f32)⟩, ⟨S8x128, (at_ m c 78 main_v66 : FVec Ideal S8x128 .f32)⟩, ⟨S1024x128, (at_ m c 78 main_v67 : FVec Ideal S1024x128 .f32)⟩, ⟨S8x128, (at_ m c 78 main_v68 : FVec Ideal S8x128 .f32)⟩, ⟨S8x128, (at_ m c 78 main_v69 : FVec Ideal S8x128 .f32)⟩, ⟨S8x128, (at_ m c 78 main_v70 : FVec Ideal S8x128 .f32)⟩, ⟨S8x128, (at_ m c 78 main_v71 : FVec Ideal S8x128 .f32)⟩, ⟨S16x128, (at_ m c 78 main_v72 : FVec Ideal S16x128 .f32)⟩, ⟨S96x128, (at_ m c 78 main_v73 : FVec Ideal S96x128 .f32)⟩, ⟨S16x128, (at_ m c 78 main_v74 : FVec Ideal S16x128 .f32)⟩] concatenates_S16x128_S8x128_S8x128_S1024x128_S8x128_S8x128_S1024x128_S8x128_S1024x128_S8x128_S8x128_S8x128_S8x128_S16x128_S96x128_S16x128_S3288x128_d0 :=
  (StableHlo.upto_last_write (ops := hostOps0) (n := 81) (i := 78) [main_cst_2, main_v76] rfl rfl (by decide) _).trans (StableHlo.nary_result ..)
theorem pkS0 (c : Dev nD) (r : Fin 16) (l : Fin 128) :
    (V m c main_v77 : FVec Ideal S3328x128 .f32) (ix2 ⟨r.val, by omega⟩ l) = (at_ m c 78 main_v59 : FVec Ideal S16x128 .f32) (ix2 r l) :=
  (outS m c ⟨r.val, by omega⟩ l).trans <| (congrFun (innS m c) _).trans <|
    concatenate_apply_piece (t := S3288x128) 0 _ _ _ 0 (Nat.le_of_ble_eq_true rfl) S16x128 _ rfl rfl 0 rfl (ix2 r l) (off2 _ _ _) (by simp)
theorem atS0 (c : Dev nD) (q : Fin 2048) :
    (at_ m c 78 main_v59 : FVec Ideal S16x128 .f32) (ix2 ⟨q.val / 128, by omega⟩ ⟨q.val % 128, by omega⟩) =
      (m ((c : Thread nD τ).loc main_arg32) : FVec Ideal S1x2048 .f32) (ix2 0 q) := by
  unfold at_
  after_reads_simp
  pointwise
theorem pkS1 (c : Dev nD) (r : Fin 8) (l : Fin 128) :
    (V m c main_v77 : FVec Ideal S3328x128 .f32) (ix2 ⟨16 + r.val, by omega⟩ l) = (at_ m c 78 main_v60 : FVec Ideal S8x128 .f32) (ix2 r l) :=
  (outS m c ⟨16 + r.val, by omega⟩ l).trans <| (congrFun (innS m c) _).trans <|
    concatenate_apply_piece (t := S3288x128) 0 _ _ _ 1 (Nat.le_of_ble_eq_true rfl) S8x128 _ rfl rfl 16 rfl (ix2 r l) (off2 _ _ _) (by simp)
theorem atS1 (c : Dev nD) (q : Fin 1024) :
    (at_ m c 78 main_v60 : FVec Ideal S8x128 .f32) (ix2 ⟨q.val / 128, by omega⟩ ⟨q.val % 128, by omega⟩) =
      (m ((c : Thread nD τ).loc main_arg33) : FVec Ideal S1x1024 .f32) (ix2 0 q) := by
  unfold at_
  after_reads_simp
  pointwise
theorem pkS2 (c : Dev nD) (r : Fin 8) (l : Fin 128) :
    (V m c main_v77 : FVec Ideal S3328x128 .f32) (ix2 ⟨24 + r.val, by omega⟩ l) = (at_ m c 78 main_v61 : FVec Ideal S8x128 .f32) (ix2 r l) :=
  (outS m c ⟨24 + r.val, by omega⟩ l).trans <| (congrFun (innS m c) _).trans <|
    concatenate_apply_piece (t := S3288x128) 0 _ _ _ 2 (Nat.le_of_ble_eq_true rfl) S8x128 _ rfl rfl 24 rfl (ix2 r l) (off2 _ _ _) (by simp)
theorem atS2 (c : Dev nD) (q : Fin 1024) :
    (at_ m c 78 main_v61 : FVec Ideal S8x128 .f32) (ix2 ⟨q.val / 128, by omega⟩ ⟨q.val % 128, by omega⟩) =
      (m ((c : Thread nD τ).loc main_arg34) : FVec Ideal S1x1024 .f32) (ix2 0 q) := by
  unfold at_
  after_reads_simp
  pointwise
theorem pkS3 (c : Dev nD) (r : Fin 1024) (l : Fin 128) :
    (V m c main_v77 : FVec Ideal S3328x128 .f32) (ix2 ⟨32 + r.val, by omega⟩ l) = (at_ m c 78 main_v62 : FVec Ideal S1024x128 .f32) (ix2 r l) :=
  (outS m c ⟨32 + r.val, by omega⟩ l).trans <| (congrFun (innS m c) _).trans <|
    concatenate_apply_piece (t := S3288x128) 0 _ _ _ 3 (Nat.le_of_ble_eq_true rfl) S1024x128 _ rfl rfl 32 rfl (ix2 r l) (off2 _ _ _) (by simp)
theorem atS3 (c : Dev nD) (a : Fin 8) (b : Fin 128) (q : Fin 128) :
    (at_ m c 78 main_v62 : FVec Ideal S1024x128 .f32) (ix2 ⟨a.val * 128 + b.val, by omega⟩ q) =
      (m ((c : Thread nD τ).loc main_arg35) : FVec Ideal S1x8x128x128 .f32) (ix4 0 a b q) := by
  unfold at_
  after_reads_simp
  pointwise
theorem pkS4 (c : Dev nD) (r : Fin 8) (l : Fin 128) :
    (V m c main_v77 : FVec Ideal S3328x128 .f32) (ix2 ⟨1056 + r.val, by omega⟩ l) = (at_ m c 78 main_v63 : FVec Ideal S8x128 .f32) (ix2 r l) :=
  (outS m c ⟨1056 + r.val, by omega⟩ l).trans <| (congrFun (innS m c) _).trans <|
    concatenate_apply_piece (t := S3288x128) 0 _ _ _ 4 (Nat.le_of_ble_eq_true rfl) S8x128 _ rfl rfl 1056 rfl (ix2 r l) (off2 _ _ _) (by simp)
theorem atS4 (c : Dev nD) (a : Fin 8) (q : Fin 128) :
    (at_ m c 78 main_v63 : FVec Ideal S8x128 .f32) (ix2 a q) =
      (m ((c : Thread nD τ).loc main_arg36) : FVec Ideal S1x8x128 .f32) (ix3 0 a q) := by
  unfold at_
  after_reads_simp
  pointwise
theorem pkS5 (c : Dev nD) (r : Fin 8) (l : Fin 128) :
    (V m c main_v77 : FVec Ideal S3328x128 .f32) (ix2 ⟨1064 + r.val, by omega⟩ l) = (at_ m c 78 main_v64 : FVec Ideal S8x128 .f32) (ix2 r l) :=
  (outS m c ⟨1064 + r.val, by omega⟩ l).trans <| (congrFun (innS m c) _).trans <|
    concatenate_apply_piece (t := S3288x128) 0 _ _ _ 5 (Nat.le_of_ble_eq_true rfl) S8x128 _ rfl rfl 1064 rfl (ix2 r l) (off2 _ _ _) (by simp)
theorem atS5 (c : Dev nD) (q : Fin 1024) :
    (at_ m c 78 main_v64 : FVec Ideal S8x128 .f32) (ix2 ⟨q.val / 128, by omega⟩ ⟨q.val % 128, by omega⟩) =
      (m ((c : Thread nD τ).loc main_arg37) : FVec Ideal S1x1024 .f32) (ix2 0 q) := by
  unfold at_
  after_reads_simp
  pointwise
theorem pkS6 (c : Dev nD) (r : Fin 1024) (l : Fin 128) :
    (V m c main_v77 : FVec Ideal S3328x128 .f32) (ix2 ⟨1072 + r.val, by omega⟩ l) = (at_ m c 78 main_v65 : FVec Ideal S1024x128 .f32) (ix2 r l) :=
  (outS m c ⟨1072 + r.val, by omega⟩ l).trans <| (congrFun (innS m c) _).trans <|
    concatenate_apply_piece (t := S3288x128) 0 _ _ _ 6 (Nat.le_of_ble_eq_true rfl) S1024x128 _ rfl rfl 1072 rfl (ix2 r l) (off2 _ _ _) (by simp)
theorem atS6 (c : Dev nD) (a : Fin 8) (b : Fin 128) (q : Fin 128) :
    (at_ m c 78 main_v65 : FVec Ideal S1024x128 .f32) (ix2 ⟨a.val * 128 + b.val, by omega⟩ q) =
      (m ((c : Thread nD τ).loc main_arg38) : FVec Ideal S1x8x128x128 .f32) (ix4 0 a b q) := by
  unfold at_
  after_reads_simp
  pointwise
theorem pkS7 (c : Dev nD) (r : Fin 8) (l : Fin 128) :
    (V m c main_v77 : FVec Ideal S3328x128 .f32) (ix2 ⟨2096 + r.val, by omega⟩ l) = (at_ m c 78 main_v66 : FVec Ideal S8x128 .f32) (ix2 r l) :=
  (outS m c ⟨2096 + r.val, by omega⟩ l).trans <| (congrFun (innS m c) _).trans <|
    concatenate_apply_piece (t := S3288x128) 0 _ _ _ 7 (Nat.le_of_ble_eq_true rfl) S8x128 _ rfl rfl 2096 rfl (ix2 r l) (off2 _ _ _) (by simp)
theorem atS7 (c : Dev nD) (a : Fin 8) (q : Fin 128) :
    (at_ m c 78 main_v66 : FVec Ideal S8x128 .f32) (ix2 a q) =
      (m ((c : Thread nD τ).loc main_arg39) : FVec Ideal S1x8x128 .f32) (ix3 0 a q) := by
  unfold at_
  after_reads_simp
  pointwise
theorem pkS8 (c : Dev nD) (r : Fin 1024) (l : Fin 128) :
    (V m c main_v77 : FVec Ideal S3328x128 .f32) (ix2 ⟨2104 + r.val, by omega⟩ l) = (at_ m c 78 main_v67 : FVec Ideal S1024x128 .f32) (ix2 r l) :=
  (outS m c ⟨2104 + r.val, by omega⟩ l).trans <| (congrFun (innS m c) _).trans <|
    concatenate_apply_piece (t := S3288x128) 0 _ _ _ 8 (Nat.le_of_ble_eq_true rfl) S1024x128 _ rfl rfl 2104 rfl (ix2 r l) (off2 _ _ _) (by simp)
theorem atS8 (c : Dev nD) (a : Fin 8) (b : Fin 128) (q : Fin 128) :
    (at_ m c 78 main_v67 : FVec Ideal S1024x128 .f32) (ix2 ⟨a.val * 128 + b.val, by omega⟩ q) =
      (m ((c : Thread nD τ).loc main_arg40) : FVec Ideal S1x8x128x128 .f32) (ix4 0 a b q) := by
  unfold at_
  after_reads_simp
  pointwise
theorem pkS9 (c : Dev nD) (r : Fin 8) (l : Fin 128) :
    (V m c main_v77 : FVec Ideal S3328x128 .f32) (ix2 ⟨3128 + r.val, by omega⟩ l) = (at_ m c 78 main_v68 : FVec Ideal S8x128 .f32) (ix2 r l) :=
  (outS m c ⟨3128 + r.val, by omega⟩ l).trans <| (congrFun (innS m c) _).trans <|
    concatenate_apply_piece (t := S3288x128) 0 _ _ _ 9 (Nat.le_of_ble_eq_true rfl) S8x128 _ rfl rfl 3128 rfl (ix2 r l) (off2 _ _ _) (by simp)
theorem atS9 (c : Dev nD) (a : Fin 8) (q : Fin 128) :
    (at_ m c 78 main_v68 : FVec Ideal S8x128 .f32) (ix2 a q) =
      (m ((c : Thread nD τ).loc main_arg41) : FVec Ideal S1x8x128 .f32) (ix3 0 a q) := by
  unfold at_
  after_reads_simp
  pointwise
theorem pkS10 (c : Dev nD) (r : Fin 8) (l : Fin 128) :
    (V m c main_v77 : FVec Ideal S3328x128 .f32) (ix2 ⟨3136 + r.val, by omega⟩ l) = (at_ m c 78 main_v69 : FVec Ideal S8x128 .f32) (ix2 r l) :=
  (outS m c ⟨3136 + r.val, by omega⟩ l).trans <| (congrFun (innS m c) _).trans <|
    concatenate_apply_piece (t := S3288x128) 0 _ _ _ 10 (Nat.le_of_ble_eq_true rfl) S8x128 _ rfl rfl 3136 rfl (ix2 r l) (off2 _ _ _) (by simp)
theorem atS10 (c : Dev nD) (q : Fin 1024) :
    (at_ m c 78 main_v69 : FVec Ideal S8x128 .f32) (ix2 ⟨q.val / 128, by omega⟩ ⟨q.val % 128, by omega⟩) =
      (m ((c : Thread nD τ).loc main_arg42) : FVec Ideal S1x1024 .f32) (ix2 0 q) := by
  unfold at_
  after_reads_simp
  pointwise
theorem pkS11 (c : Dev nD) (r : Fin 8) (l : Fin 128) :
    (V m c main_v77 : FVec Ideal S3328x128 .f32) (ix2 ⟨3144 + r.val, by omega⟩ l) = (at_ m c 78 main_v70 : FVec Ideal S8x128 .f32) (ix2 r l) :=
  (outS m c ⟨3144 + r.val, by omega⟩ l).trans <| (congrFun (innS m c) _).trans <|
    concatenate_apply_piece (t := S3288x128) 0 _ _ _ 11 (Nat.le_of_ble_eq_true rfl) S8x128 _ rfl rfl 3144 rfl (ix2 r l) (off2 _ _ _) (by simp)
theorem atS11 (c : Dev nD) (q : Fin 1024) :
    (at_ m c 78 main_v70 : FVec Ideal S8x128 .f32) (ix2 ⟨q.val / 128, by omega⟩ ⟨q.val % 128, by omega⟩) =
      (m ((c : Thread nD τ).loc main_arg43) : FVec Ideal S1x1024 .f32) (ix2 0 q) := by
  unfold at_
  after_reads_simp
  pointwise
theorem pkS12 (c : Dev nD) (r : Fin 8) (l : Fin 128) :
    (V m c main_v77 : FVec Ideal S3328x128 .f32) (ix2 ⟨3152 + r.val, by omega⟩ l) = (at_ m c 78 main_v71 : FVec Ideal S8x128 .f32) (ix2 r l) :=
  (outS m c ⟨3152 + r.val, by omega⟩ l).trans <| (congrFun (innS m c) _).trans <|
    concatenate_apply_piece (t := S3288x128) 0 _ _ _ 12 (Nat.le_of_ble_eq_true rfl) S8x128 _ rfl rfl 3152 rfl (ix2 r l) (off2 _ _ _) (by simp)
theorem atS12 (c : Dev nD) (q : Fin 1024) :
    (at_ m c 78 main_v71 : FVec Ideal S8x128 .f32) (ix2 ⟨q.val / 128, by omega⟩ ⟨q.val % 128, by omega⟩) =
      (m ((c : Thread nD τ).loc main_arg44) : FVec Ideal S1x1024 .f32) (ix2 0 q) := by
  unfold at_
  after_reads_simp
  pointwise
theorem pkS13 (c : Dev nD) (r : Fin 16) (l : Fin 128) :
    (V m c main_v77 : FVec Ideal S3328x128 .f32) (ix2 ⟨3160 + r.val, by omega⟩ l) = (at_ m c 78 main_v72 : FVec Ideal S16x128 .f32) (ix2 r l) :=
  (outS m c ⟨3160 + r.val, by omega⟩ l).trans <| (congrFun (innS m c) _).trans <|
    concatenate_apply_piece (t := S3288x128) 0 _ _ _ 13 (Nat.le_of_ble_eq_true rfl) S16x128 _ rfl rfl 3160 rfl (ix2 r l) (off2 _ _ _) (by simp)
theorem atS13 (c : Dev nD) (q : Fin 2048) :
    (at_ m c 78 main_v72 : FVec Ideal S16x128 .f32) (ix2 ⟨q.val / 128, by omega⟩ ⟨q.val % 128, by omega⟩) =
      (m ((c : Thread nD τ).loc main_arg45) : FVec Ideal S1x2048 .f32) (ix2 0 q) := by
  unfold at_
  after_reads_simp
  pointwise
theorem pkS14 (c : Dev nD) (r : Fin 96) (l : Fin 128) :
    (V m c main_v77 : FVec Ideal S3328x128 .f32) (ix2 ⟨3176 + r.val, by omega⟩ l) = (at_ m c 78 main_v73 : FVec Ideal S96x128 .f32) (ix2 r l) :=
  (outS m c ⟨3176 + r.val, by omega⟩ l).trans <| (congrFun (innS m c) _).trans <|
    concatenate_apply_piece (t := S3288x128) 0 _ _ _ 14 (Nat.le_of_ble_eq_true rfl) S96x128 _ rfl rfl 3176 rfl (ix2 r l) (off2 _ _ _) (by simp)
theorem atS14 (c : Dev nD) (q : Fin 12288) :
    (at_ m c 78 main_v73 : FVec Ideal S96x128 .f32) (ix2 ⟨q.val / 128, by omega⟩ ⟨q.val % 128, by omega⟩) =
      (m ((c : Thread nD τ).loc main_arg46) : FVec Ideal S1x12288 .f32) (ix2 0 q) := by
  unfold at_
  after_reads_simp
  pointwise
theorem pkS15 (c : Dev nD) (r : Fin 16) (l : Fin 128) :
    (V m c main_v77 : FVec Ideal S3328x128 .f32) (ix2 ⟨3272 + r.val, by omega⟩ l) = (at_ m c 78 main_v74 : FVec Ideal S16x128 .f32) (ix2 r l) :=
  (outS m c ⟨3272 + r.val, by omega⟩ l).trans <| (congrFun (innS m c) _).trans <|
    concatenate_apply_piece (t := S3288x128) 0 _ _ _ 15 (Nat.le_of_ble_eq_true rfl) S16x128 _ rfl rfl 3272 rfl (ix2 r l) (off2 _ _ _) (by simp)
theorem atS15 (c : Dev nD) (q : Fin 2048) :
    (at_ m c 78 main_v74 : FVec Ideal S16x128 .f32) (ix2 ⟨q.val / 128, by omega⟩ ⟨q.val % 128, by omega⟩) =
      (m ((c : Thread nD τ).loc main_arg47) : FVec Ideal S2048 .f32) (ix1 q) := by
  unfold at_
  after_reads_simp
  pointwise
theorem outP (c : Dev nD) (k : Fin 8) (r : Fin 3288) (l : Fin 128) :
    (V m c main_v20 : FVec Ideal S8x3648x128 .f32) (ix3 k ⟨r.val, by omega⟩ l) = (at_ m c 21 main_v16 : FVec Ideal S8x3288x128 .f32) (ix3 k r l) := by
  have e : (StableHlo.after hostOps0 (fun b => m (c, b)) (Proc.devRef .tc main_v20) : FVec Ideal S8x3648x128 .f32) =
      concatenate S8x3648x128 1 [⟨S8x3288x128, (at_ m c 21 main_v16 : FVec Ideal S8x3288x128 .f32)⟩, ⟨S8x40x128, (at_ m c 21 main_v17 : FVec Ideal S8x40x128 .f32)⟩, ⟨S8x32x128, (at_ m c 21 main_v18 : FVec Ideal S8x32x128 .f32)⟩, ⟨S8x288x128, (at_ m c 21 main_v19 : FVec Ideal S8x288x128 .f32)⟩] concatenates_S8x3288x128_S8x40x128_S8x32x128_S8x288x128_S8x3648x128_d1 :=
    (StableHlo.after_last_write (ops := hostOps0) (i := 21) [main_v21, main_v22, main_v23, main_v24, main_v25, main_v26, main_v27, main_v28, main_v29, main_v30, main_v31, main_v32, main_v33, main_v34, main_v35, main_v36, main_v37, main_cst_0, main_v38, main_v39, main_v40, main_v41, main_v42, main_v43, main_v44, main_v45, main_v46, main_v47, main_v48, main_v49, main_v50, main_v51, main_v52, main_v53, main_v54, main_v55, main_v56, main_cst_1, main_v57, main_v58, main_v59, main_v60, main_v61, main_v62, main_v63, main_v64, main_v65, main_v66, main_v67, main_v68, main_v69, main_v70, main_v71, main_v72, main_v73, main_v74, main_v75, main_cst_2, main_v76, main_v77] rfl rfl (by decide) _).trans (StableHlo.nary_result ..)
  exact (congrFun e _).trans (concatenate_apply_piece (t := S8x3648x128) 1 _ _ _ 0 (Nat.le_of_ble_eq_true rfl) S8x3288x128 _ rfl rfl 0 rfl (ix3 k r l) (off3 _ _ _ _) (by simp))
theorem innP (c : Dev nD) : (at_ m c 21 main_v16 : FVec Ideal S8x3288x128 .f32) =
      concatenate S8x3288x128 1 [⟨S8x16x128, (at_ m c 16 main_v0 : FVec Ideal S8x16x128 .f32)⟩, ⟨S8x8x128, (at_ m c 16 main_v1 : FVec Ideal S8x8x128 .f32)⟩, ⟨S8x8x128, (at_ m c 16 main_v2 : FVec Ideal S8x8x128 .f32)⟩, ⟨S8x1024x128, (at_ m c 16 main_v3 : FVec Ideal S8x1024x128 .f32)⟩, ⟨S8x8x128, (at_ m c 16 main_v4 : FVec Ideal S8x8x128 .f32)⟩, ⟨S8x8x128, (at_ m c 16 main_v5 : FVec Ideal S8x8x128 .f32)⟩, ⟨S8x1024x128, (at_ m c 16 main_v6 : FVec Ideal S8x1024x128 .f32)⟩, ⟨S8x8x128, (at_ m c 16 main_v7 : FVec Ideal S8x8x128 .f32)⟩, ⟨S8x1024x128, (at_ m c 16 main_v8 : FVec Ideal S8x1024x128 .f32)⟩, ⟨S8x8x128, (at_ m c 16 main_v9 : FVec Ideal S8x8x128 .f32)⟩, ⟨S8x8x128, (at_ m c 16 main_v10 : FVec Ideal S8x8x128 .f32)⟩, ⟨S8x8x128, (at_ m c 16 main_v11 : FVec Ideal S8x8x128 .f32)⟩, ⟨S8x8x128, (at_ m c 16 main_v12 : FVec Ideal S8x8x128 .f32)⟩, ⟨S8x16x128, (at_ m c 16 main_v13 : FVec Ideal S8x16x128 .f32)⟩, ⟨S8x96x128, (at_ m c 16 main_v14 : FVec Ideal S8x96x128 .f32)⟩, ⟨S8x16x128, (at_ m c 16 main_v15 : FVec Ideal S8x16x128 .f32)⟩] concatenates_S8x16x128_S8x8x128_S8x8x128_S8x1024x128_S8x8x128_S8x8x128_S8x1024x128_S8x8x128_S8x1024x128_S8x8x128_S8x8x128_S8x8x128_S8x8x128_S8x16x128_S8x96x128_S8x16x128_S8x3288x128_d1 :=
  (StableHlo.upto_last_write (ops := hostOps0) (n := 21) (i := 16) [main_cst, main_v17, main_v18, main_v19] rfl rfl (by decide) _).trans (StableHlo.nary_result ..)
theorem pkP0 (c : Dev nD) (k : Fin 8) (r : Fin 16) (l : Fin 128) :
    (V m c main_v20 : FVec Ideal S8x3648x128 .f32) (ix3 k ⟨r.val, by omega⟩ l) = (at_ m c 16 main_v0 : FVec Ideal S8x16x128 .f32) (ix3 k r l) :=
  (outP m c k ⟨r.val, by omega⟩ l).trans <| (congrFun (innP m c) _).trans <|
    concatenate_apply_piece (t := S8x3288x128) 1 _ _ _ 0 (Nat.le_of_ble_eq_true rfl) S8x16x128 _ rfl rfl 0 rfl (ix3 k r l) (off3 _ _ _ _) (by simp)
theorem atP0 (c : Dev nD) (k : Fin 8) (q : Fin 2048) :
    (at_ m c 16 main_v0 : FVec Ideal S8x16x128 .f32) (ix3 k ⟨q.val / 128, by omega⟩ ⟨q.val % 128, by omega⟩) =
      (m ((c : Thread nD τ).loc main_arg48) : FVec Ideal S8x1x2048 .f32) (ix3 k 0 q) := by
  unfold at_
  after_reads_simp
  pointwise
theorem pkP1 (c : Dev nD) (k : Fin 8) (r : Fin 8) (l : Fin 128) :
    (V m c main_v20 : FVec Ideal S8x3648x128 .f32) (ix3 k ⟨16 + r.val, by omega⟩ l) = (at_ m c 16 main_v1 : FVec Ideal S8x8x128 .f32) (ix3 k r l) :=
  (outP m c k ⟨16 + r.val, by omega⟩ l).trans <| (congrFun (innP m c) _).trans <|
    concatenate_apply_piece (t := S8x3288x128) 1 _ _ _ 1 (Nat.le_of_ble_eq_true rfl) S8x8x128 _ rfl rfl 16 rfl (ix3 k r l) (off3 _ _ _ _) (by simp)
theorem atP1 (c : Dev nD) (k : Fin 8) (q : Fin 1024) :
    (at_ m c 16 main_v1 : FVec Ideal S8x8x128 .f32) (ix3 k ⟨q.val / 128, by omega⟩ ⟨q.val % 128, by omega⟩) =
      (m ((c : Thread nD τ).loc main_arg49) : FVec Ideal S8x1x1024 .f32) (ix3 k 0 q) := by
  unfold at_
  after_reads_simp
  pointwise
theorem pkP2 (c : Dev nD) (k : Fin 8) (r : Fin 8) (l : Fin 128) :
    (V m c main_v20 : FVec Ideal S8x3648x128 .f32) (ix3 k ⟨24 + r.val, by omega⟩ l) = (at_ m c 16 main_v2 : FVec Ideal S8x8x128 .f32) (ix3 k r l) :=
  (outP m c k ⟨24 + r.val, by omega⟩ l).trans <| (congrFun (innP m c) _).trans <|
    concatenate_apply_piece (t := S8x3288x128) 1 _ _ _ 2 (Nat.le_of_ble_eq_true rfl) S8x8x128 _ rfl rfl 24 rfl (ix3 k r l) (off3 _ _ _ _) (by simp)
theorem atP2 (c : Dev nD) (k : Fin 8) (q : Fin 1024) :
    (at_ m c 16 main_v2 : FVec Ideal S8x8x128 .f32) (ix3 k ⟨q.val / 128, by omega⟩ ⟨q.val % 128, by omega⟩) =
      (m ((c : Thread nD τ).loc main_arg50) : FVec Ideal S8x1x1024 .f32) (ix3 k 0 q) := by
  unfold at_
  after_reads_simp
  pointwise
theorem pkP3 (c : Dev nD) (k : Fin 8) (r : Fin 1024) (l : Fin 128) :
    (V m c main_v20 : FVec Ideal S8x3648x128 .f32) (ix3 k ⟨32 + r.val, by omega⟩ l) = (at_ m c 16 main_v3 : FVec Ideal S8x1024x128 .f32) (ix3 k r l) :=
  (outP m c k ⟨32 + r.val, by omega⟩ l).trans <| (congrFun (innP m c) _).trans <|
    concatenate_apply_piece (t := S8x3288x128) 1 _ _ _ 3 (Nat.le_of_ble_eq_true rfl) S8x1024x128 _ rfl rfl 32 rfl (ix3 k r l) (off3 _ _ _ _) (by simp)
theorem atP3 (c : Dev nD) (k : Fin 8) (a : Fin 8) (b : Fin 128) (q : Fin 128) :
    (at_ m c 16 main_v3 : FVec Ideal S8x1024x128 .f32) (ix3 k ⟨a.val * 128 + b.val, by omega⟩ q) =
      (m ((c : Thread nD τ).loc main_arg51) : FVec Ideal S8x1x8x128x128 .f32) (ix5 k 0 a b q) := by
  unfold at_
  after_reads_simp
  pointwise
theorem pkP4 (c : Dev nD) (k : Fin 8) (r : Fin 8) (l : Fin 128) :
    (V m c main_v20 : FVec Ideal S8x3648x128 .f32) (ix3 k ⟨1056 + r.val, by omega⟩ l) = (at_ m c 16 main_v4 : FVec Ideal S8x8x128 .f32) (ix3 k r l) :=
  (outP m c k ⟨1056 + r.val, by omega⟩ l).trans <| (congrFun (innP m c) _).trans <|
    concatenate_apply_piece (t := S8x3288x128) 1 _ _ _ 4 (Nat.le_of_ble_eq_true rfl) S8x8x128 _ rfl rfl 1056 rfl (ix3 k r l) (off3 _ _ _ _) (by simp)
theorem atP4 (c : Dev nD) (k : Fin 8) (a : Fin 8) (q : Fin 128) :
    (at_ m c 16 main_v4 : FVec Ideal S8x8x128 .f32) (ix3 k a q) =
      (m ((c : Thread nD τ).loc main_arg52) : FVec Ideal S8x1x8x128 .f32) (ix4 k 0 a q) := by
  unfold at_
  after_reads_simp
  pointwise
theorem pkP5 (c : Dev nD) (k : Fin 8) (r : Fin 8) (l : Fin 128) :
    (V m c main_v20 : FVec Ideal S8x3648x128 .f32) (ix3 k ⟨1064 + r.val, by omega⟩ l) = (at_ m c 16 main_v5 : FVec Ideal S8x8x128 .f32) (ix3 k r l) :=
  (outP m c k ⟨1064 + r.val, by omega⟩ l).trans <| (congrFun (innP m c) _).trans <|
    concatenate_apply_piece (t := S8x3288x128) 1 _ _ _ 5 (Nat.le_of_ble_eq_true rfl) S8x8x128 _ rfl rfl 1064 rfl (ix3 k r l) (off3 _ _ _ _) (by simp)
theorem atP5 (c : Dev nD) (k : Fin 8) (q : Fin 1024) :
    (at_ m c 16 main_v5 : FVec Ideal S8x8x128 .f32) (ix3 k ⟨q.val / 128, by omega⟩ ⟨q.val % 128, by omega⟩) =
      (m ((c : Thread nD τ).loc main_arg53) : FVec Ideal S8x1x1024 .f32) (ix3 k 0 q) := by
  unfold at_
  after_reads_simp
  pointwise
theorem pkP6 (c : Dev nD) (k : Fin 8) (r : Fin 1024) (l : Fin 128) :
    (V m c main_v20 : FVec Ideal S8x3648x128 .f32) (ix3 k ⟨1072 + r.val, by omega⟩ l) = (at_ m c 16 main_v6 : FVec Ideal S8x1024x128 .f32) (ix3 k r l) :=
  (outP m c k ⟨1072 + r.val, by omega⟩ l).trans <| (congrFun (innP m c) _).trans <|
    concatenate_apply_piece (t := S8x3288x128) 1 _ _ _ 6 (Nat.le_of_ble_eq_true rfl) S8x1024x128 _ rfl rfl 1072 rfl (ix3 k r l) (off3 _ _ _ _) (by simp)
theorem atP6 (c : Dev nD) (k : Fin 8) (a : Fin 8) (b : Fin 128) (q : Fin 128) :
    (at_ m c 16 main_v6 : FVec Ideal S8x1024x128 .f32) (ix3 k ⟨a.val * 128 + b.val, by omega⟩ q) =
      (m ((c : Thread nD τ).loc main_arg54) : FVec Ideal S8x1x8x128x128 .f32) (ix5 k 0 a b q) := by
  unfold at_
  after_reads_simp
  pointwise
theorem pkP7 (c : Dev nD) (k : Fin 8) (r : Fin 8) (l : Fin 128) :
    (V m c main_v20 : FVec Ideal S8x3648x128 .f32) (ix3 k ⟨2096 + r.val, by omega⟩ l) = (at_ m c 16 main_v7 : FVec Ideal S8x8x128 .f32) (ix3 k r l) :=
  (outP m c k ⟨2096 + r.val, by omega⟩ l).trans <| (congrFun (innP m c) _).trans <|
    concatenate_apply_piece (t := S8x3288x128) 1 _ _ _ 7 (Nat.le_of_ble_eq_true rfl) S8x8x128 _ rfl rfl 2096 rfl (ix3 k r l) (off3 _ _ _ _) (by simp)
theorem atP7 (c : Dev nD) (k : Fin 8) (a : Fin 8) (q : Fin 128) :
    (at_ m c 16 main_v7 : FVec Ideal S8x8x128 .f32) (ix3 k a q) =
      (m ((c : Thread nD τ).loc main_arg55) : FVec Ideal S8x1x8x128 .f32) (ix4 k 0 a q) := by
  unfold at_
  after_reads_simp
  pointwise
theorem pkP8 (c : Dev nD) (k : Fin 8) (r : Fin 1024) (l : Fin 128) :
    (V m c main_v20 : FVec Ideal S8x3648x128 .f32) (ix3 k ⟨2104 + r.val, by omega⟩ l) = (at_ m c 16 main_v8 : FVec Ideal S8x1024x128 .f32) (ix3 k r l) :=
  (outP m c k ⟨2104 + r.val, by omega⟩ l).trans <| (congrFun (innP m c) _).trans <|
    concatenate_apply_piece (t := S8x3288x128) 1 _ _ _ 8 (Nat.le_of_ble_eq_true rfl) S8x1024x128 _ rfl rfl 2104 rfl (ix3 k r l) (off3 _ _ _ _) (by simp)
theorem atP8 (c : Dev nD) (k : Fin 8) (a : Fin 8) (b : Fin 128) (q : Fin 128) :
    (at_ m c 16 main_v8 : FVec Ideal S8x1024x128 .f32) (ix3 k ⟨a.val * 128 + b.val, by omega⟩ q) =
      (m ((c : Thread nD τ).loc main_arg56) : FVec Ideal S8x1x8x128x128 .f32) (ix5 k 0 a b q) := by
  unfold at_
  after_reads_simp
  pointwise
theorem pkP9 (c : Dev nD) (k : Fin 8) (r : Fin 8) (l : Fin 128) :
    (V m c main_v20 : FVec Ideal S8x3648x128 .f32) (ix3 k ⟨3128 + r.val, by omega⟩ l) = (at_ m c 16 main_v9 : FVec Ideal S8x8x128 .f32) (ix3 k r l) :=
  (outP m c k ⟨3128 + r.val, by omega⟩ l).trans <| (congrFun (innP m c) _).trans <|
    concatenate_apply_piece (t := S8x3288x128) 1 _ _ _ 9 (Nat.le_of_ble_eq_true rfl) S8x8x128 _ rfl rfl 3128 rfl (ix3 k r l) (off3 _ _ _ _) (by simp)
theorem atP9 (c : Dev nD) (k : Fin 8) (a : Fin 8) (q : Fin 128) :
    (at_ m c 16 main_v9 : FVec Ideal S8x8x128 .f32) (ix3 k a q) =
      (m ((c : Thread nD τ).loc main_arg57) : FVec Ideal S8x1x8x128 .f32) (ix4 k 0 a q) := by
  unfold at_
  after_reads_simp
  pointwise
theorem pkP10 (c : Dev nD) (k : Fin 8) (r : Fin 8) (l : Fin 128) :
    (V m c main_v20 : FVec Ideal S8x3648x128 .f32) (ix3 k ⟨3136 + r.val, by omega⟩ l) = (at_ m c 16 main_v10 : FVec Ideal S8x8x128 .f32) (ix3 k r l) :=
  (outP m c k ⟨3136 + r.val, by omega⟩ l).trans <| (congrFun (innP m c) _).trans <|
    concatenate_apply_piece (t := S8x3288x128) 1 _ _ _ 10 (Nat.le_of_ble_eq_true rfl) S8x8x128 _ rfl rfl 3136 rfl (ix3 k r l) (off3 _ _ _ _) (by simp)
theorem atP10 (c : Dev nD) (k : Fin 8) (q : Fin 1024) :
    (at_ m c 16 main_v10 : FVec Ideal S8x8x128 .f32) (ix3 k ⟨q.val / 128, by omega⟩ ⟨q.val % 128, by omega⟩) =
      (m ((c : Thread nD τ).loc main_arg58) : FVec Ideal S8x1x1024 .f32) (ix3 k 0 q) := by
  unfold at_
  after_reads_simp
  pointwise
theorem pkP11 (c : Dev nD) (k : Fin 8) (r : Fin 8) (l : Fin 128) :
    (V m c main_v20 : FVec Ideal S8x3648x128 .f32) (ix3 k ⟨3144 + r.val, by omega⟩ l) = (at_ m c 16 main_v11 : FVec Ideal S8x8x128 .f32) (ix3 k r l) :=
  (outP m c k ⟨3144 + r.val, by omega⟩ l).trans <| (congrFun (innP m c) _).trans <|
    concatenate_apply_piece (t := S8x3288x128) 1 _ _ _ 11 (Nat.le_of_ble_eq_true rfl) S8x8x128 _ rfl rfl 3144 rfl (ix3 k r l) (off3 _ _ _ _) (by simp)
theorem atP11 (c : Dev nD) (k : Fin 8) (q : Fin 1024) :
    (at_ m c 16 main_v11 : FVec Ideal S8x8x128 .f32) (ix3 k ⟨q.val / 128, by omega⟩ ⟨q.val % 128, by omega⟩) =
      (m ((c : Thread nD τ).loc main_arg59) : FVec Ideal S8x1x1024 .f32) (ix3 k 0 q) := by
  unfold at_
  after_reads_simp
  pointwise
theorem pkP12 (c : Dev nD) (k : Fin 8) (r : Fin 8) (l : Fin 128) :
    (V m c main_v20 : FVec Ideal S8x3648x128 .f32) (ix3 k ⟨3152 + r.val, by omega⟩ l) = (at_ m c 16 main_v12 : FVec Ideal S8x8x128 .f32) (ix3 k r l) :=
  (outP m c k ⟨3152 + r.val, by omega⟩ l).trans <| (congrFun (innP m c) _).trans <|
    concatenate_apply_piece (t := S8x3288x128) 1 _ _ _ 12 (Nat.le_of_ble_eq_true rfl) S8x8x128 _ rfl rfl 3152 rfl (ix3 k r l) (off3 _ _ _ _) (by simp)
theorem atP12 (c : Dev nD) (k : Fin 8) (q : Fin 1024) :
    (at_ m c 16 main_v12 : FVec Ideal S8x8x128 .f32) (ix3 k ⟨q.val / 128, by omega⟩ ⟨q.val % 128, by omega⟩) =
      (m ((c : Thread nD τ).loc main_arg60) : FVec Ideal S8x1x1024 .f32) (ix3 k 0 q) := by
  unfold at_
  after_reads_simp
  pointwise
theorem pkP13 (c : Dev nD) (k : Fin 8) (r : Fin 16) (l : Fin 128) :
    (V m c main_v20 : FVec Ideal S8x3648x128 .f32) (ix3 k ⟨3160 + r.val, by omega⟩ l) = (at_ m c 16 main_v13 : FVec Ideal S8x16x128 .f32) (ix3 k r l) :=
  (outP m c k ⟨3160 + r.val, by omega⟩ l).trans <| (congrFun (innP m c) _).trans <|
    concatenate_apply_piece (t := S8x3288x128) 1 _ _ _ 13 (Nat.le_of_ble_eq_true rfl) S8x16x128 _ rfl rfl 3160 rfl (ix3 k r l) (off3 _ _ _ _) (by simp)
theorem atP13 (c : Dev nD) (k : Fin 8) (q : Fin 2048) :
    (at_ m c 16 main_v13 : FVec Ideal S8x16x128 .f32) (ix3 k ⟨q.val / 128, by omega⟩ ⟨q.val % 128, by omega⟩) =
      (m ((c : Thread nD τ).loc main_arg61) : FVec Ideal S8x1x2048 .f32) (ix3 k 0 q) := by
  unfold at_
  after_reads_simp
  pointwise
theorem pkP14 (c : Dev nD) (k : Fin 8) (r : Fin 96) (l : Fin 128) :
    (V m c main_v20 : FVec Ideal S8x3648x128 .f32) (ix3 k ⟨3176 + r.val, by omega⟩ l) = (at_ m c 16 main_v14 : FVec Ideal S8x96x128 .f32) (ix3 k r l) :=
  (outP m c k ⟨3176 + r.val, by omega⟩ l).trans <| (congrFun (innP m c) _).trans <|
    concatenate_apply_piece (t := S8x3288x128) 1 _ _ _ 14 (Nat.le_of_ble_eq_true rfl) S8x96x128 _ rfl rfl 3176 rfl (ix3 k r l) (off3 _ _ _ _) (by simp)
theorem atP14 (c : Dev nD) (k : Fin 8) (q : Fin 12288) :
    (at_ m c 16 main_v14 : FVec Ideal S8x96x128 .f32) (ix3 k ⟨q.val / 128, by omega⟩ ⟨q.val % 128, by omega⟩) =
      (m ((c : Thread nD τ).loc main_arg62) : FVec Ideal S8x1x12288 .f32) (ix3 k 0 q) := by
  unfold at_
  after_reads_simp
  pointwise
theorem pkP15 (c : Dev nD) (k : Fin 8) (r : Fin 16) (l : Fin 128) :
    (V m c main_v20 : FVec Ideal S8x3648x128 .f32) (ix3 k ⟨3272 + r.val, by omega⟩ l) = (at_ m c 16 main_v15 : FVec Ideal S8x16x128 .f32) (ix3 k r l) :=
  (outP m c k ⟨3272 + r.val, by omega⟩ l).trans <| (congrFun (innP m c) _).trans <|
    concatenate_apply_piece (t := S8x3288x128) 1 _ _ _ 15 (Nat.le_of_ble_eq_true rfl) S8x16x128 _ rfl rfl 3272 rfl (ix3 k r l) (off3 _ _ _ _) (by simp)
theorem atP15 (c : Dev nD) (k : Fin 8) (q : Fin 2048) :
    (at_ m c 16 main_v15 : FVec Ideal S8x16x128 .f32) (ix3 k ⟨q.val / 128, by omega⟩ ⟨q.val % 128, by omega⟩) =
      (m ((c : Thread nD τ).loc main_arg63) : FVec Ideal S8x2048 .f32) (ix2 k q) := by
  unfold at_
  after_reads_simp
  pointwise
end Cert.KernelAdamSmallIdeal.Val
-- ==== Proof.AdamSmallOut.lean ====
/- AdamW on the sixteen small weights together, packed by rows of 128: the gradient is the eight chips' parts added up. -/
module
public import Idealize.ShloMosaic.Lib.StableHlo.RunRead
public import proofs.«01_k».proof.Defs
public import proofs.«01_k».proof.Proof.Gen.KernelAdamSmall
public import proofs.«01_k».proof.Proof.Gen.KernelAdamSmall.Frame
public import proofs.«01_k».proof.Proof.Gen.KernelAdamSmallIdeal
public import proofs.«01_k».proof.Proof.Gen.KernelAdamSmallIdeal.Frame
public import proofs.«01_k».proof.Proof.Gen.ReferenceAdamSmallIdeal
public import proofs.«01_k».proof.Proof.Gen.ReferenceAdamSmallIdeal.Run
public import proofs.«01_k».proof.Proof.Gen.ReferenceAdamSmallIdeal.Read
public import proofs.«01_k».proof.Proof.Ix
public import proofs.«01_k».proof.Proof.Adam
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelAdamSmallIdeal.Val
open Cert.KernelAdamSmallIdeal Cert.KernelAdamSmallIdeal.Gen Idealize.ShloMosaic Idealize.ShloMosaic.TcCoe Idealize.SL.Sem
open Idealize.ShloMosaic.Pipeline (Dat)
open Cert.Adam
variable (m : (ℓ : Loc nD τ sig) → Buf (Elt Ideal) ℓ)
theorem res0_0 (W : Valuation τ sig (Elt Ideal)) (q : Fin 2048) :
    (StableHlo.after hostOps1 W (Proc.devRef .tc main_v80) : FVec Ideal S1x2048 .f32) (ix2 0 q) =
      (W (Proc.devRef .tc main_v78_0) : FVec Ideal S3328x128 .f32) (ix2 ⟨q.val / 128, by omega⟩ ⟨q.val % 128, by omega⟩) := by
  after_reads_simp
  pointwise
theorem res0_1 (W : Valuation τ sig (Elt Ideal)) (q : Fin 1024) :
    (StableHlo.after hostOps1 W (Proc.devRef .tc main_v82) : FVec Ideal S1x1024 .f32) (ix2 0 q) =
      (W (Proc.devRef .tc main_v78_0) : FVec Ideal S3328x128 .f32) (ix2 ⟨16 + q.val / 128, by omega⟩ ⟨q.val % 128, by omega⟩) := by
  after_reads_simp
  pointwise
theorem res0_2 (W : Valuation τ sig (Elt Ideal)) (q : Fin 1024) :
    (StableHlo.after hostOps1 W (Proc.devRef .tc main_v84) : FVec Ideal S1x1024 .f32) (ix2 0 q) =
      (W (Proc.devRef .tc main_v78_0) : FVec Ideal S3328x128 .f32) (ix2 ⟨24 + q.val / 128, by omega⟩ ⟨q.val % 128, by omega⟩) := by
  after_reads_simp
  pointwise
theorem res0_3 (W : Valuation τ sig (Elt Ideal)) (a : Fin 8) (b : Fin 128) (q : Fin 128) :
    (StableHlo.after hostOps1 W (Proc.devRef .tc main_v86) : FVec Ideal S1x8x128x128 .f32) (ix4 0 a b q) =
      (W (Proc.devRef .tc main_v78_0) : FVec Ideal S3328x128 .f32) (ix2 ⟨32 + (a.val * 128 + b.val), by omega⟩ q) := by
  after_reads_simp
  pointwise
theorem res0_4 (W : Valuation τ sig (Elt Ideal)) (a : Fin 8) (q : Fin 128) :
    (StableHlo.after hostOps1 W (Proc.devRef .tc main_v88) : FVec Ideal S1x8x128 .f32) (ix3 0 a q) =
      (W (Proc.devRef .tc main_v78_0) : FVec Ideal S3328x128 .f32) (ix2 ⟨1056 + a.val, by omega⟩ q) := by
  after_reads_simp
  pointwise
theorem res0_5 (W : Valuation τ sig (Elt Ideal)) (q : Fin 1024) :
    (StableHlo.after hostOps1 W (Proc.devRef .tc main_v90) : FVec Ideal S1x1024 .f32) (ix2 0 q) =
      (W (Proc.devRef .tc main_v78_0) : FVec Ideal S3328x128 .f32) (ix2 ⟨1064 + q.val / 128, by omega⟩ ⟨q.val % 128, by omega⟩) := by
  after_reads_simp
  pointwise
theorem res0_6 (W : Valuation τ sig (Elt Ideal)) (a : Fin 8) (b : Fin 128) (q : Fin 128) :
    (StableHlo.after hostOps1 W (Proc.devRef .tc main_v92) : FVec Ideal S1x8x128x128 .f32) (ix4 0 a b q) =
      (W (Proc.devRef .tc main_v78_0) : FVec Ideal S3328x128 .f32) (ix2 ⟨1072 + (a.val * 128 + b.val), by omega⟩ q) := by
  after_reads_simp
  pointwise
theorem res0_7 (W : Valuation τ sig (Elt Ideal)) (a : Fin 8) (q : Fin 128) :
    (StableHlo.after hostOps1 W (Proc.devRef .tc main_v94) : FVec Ideal S1x8x128 .f32) (ix3 0 a q) =
      (W (Proc.devRef .tc main_v78_0) : FVec Ideal S3328x128 .f32) (ix2 ⟨2096 + a.val, by omega⟩ q) := by
  after_reads_simp
  pointwise
theorem res0_8 (W : Valuation τ sig (Elt Ideal)) (a : Fin 8) (b : Fin 128) (q : Fin 128) :
    (StableHlo.after hostOps1 W (Proc.devRef .tc main_v96) : FVec Ideal S1x8x128x128 .f32) (ix4 0 a b q) =
      (W (Proc.devRef .tc main_v78_0) : FVec Ideal S3328x128 .f32) (ix2 ⟨2104 + (a.val * 128 + b.val), by omega⟩ q) := by
  after_reads_simp
  pointwise
theorem res0_9 (W : Valuation τ sig (Elt Ideal)) (a : Fin 8) (q : Fin 128) :
    (StableHlo.after hostOps1 W (Proc.devRef .tc main_v98) : FVec Ideal S1x8x128 .f32) (ix3 0 a q) =
      (W (Proc.devRef .tc main_v78_0) : FVec Ideal S3328x128 .f32) (ix2 ⟨3128 + a.val, by omega⟩ q) := by
  after_reads_simp
  pointwise
theorem res0_10 (W : Valuation τ sig (Elt Ideal)) (q : Fin 1024) :
    (StableHlo.after hostOps1 W (Proc.devRef .tc main_v100) : FVec Ideal S1x1024 .f32) (ix2 0 q) =
      (W (Proc.devRef .tc main_v78_0) : FVec Ideal S3328x128 .f32) (ix2 ⟨3136 + q.val / 128, by omega⟩ ⟨q.val % 128, by omega⟩) := by
  after_reads_simp
  pointwise
theorem res0_11 (W : Valuation τ sig (Elt Ideal)) (q : Fin 1024) :
    (StableHlo.after hostOps1 W (Proc.devRef .tc main_v102) : FVec Ideal S1x1024 .f32) (ix2 0 q) =
      (W (Proc.devRef .tc main_v78_0) : FVec Ideal S3328x128 .f32) (ix2 ⟨3144 + q.val / 128, by omega⟩ ⟨q.val % 128, by omega⟩) := by
  after_reads_simp
  pointwise
theorem res0_12 (W : Valuation τ sig (Elt Ideal)) (q : Fin 1024) :
    (StableHlo.after hostOps1 W (Proc.devRef .tc main_v104) : FVec Ideal S1x1024 .f32) (ix2 0 q) =
      (W (Proc.devRef .tc main_v78_0) : FVec Ideal S3328x128 .f32) (ix2 ⟨3152 + q.val / 128, by omega⟩ ⟨q.val % 128, by omega⟩) := by
  after_reads_simp
  pointwise
theorem res0_13 (W : Valuation τ sig (Elt Ideal)) (q : Fin 2048) :
    (StableHlo.after hostOps1 W (Proc.devRef .tc main_v106) : FVec Ideal S1x2048 .f32) (ix2 0 q) =
      (W (Proc.devRef .tc main_v78_0) : FVec Ideal S3328x128 .f32) (ix2 ⟨3160 + q.val / 128, by omega⟩ ⟨q.val % 128, by omega⟩) := by
  after_reads_simp
  pointwise
theorem res0_14 (W : Valuation τ sig (Elt Ideal)) (q : Fin 12288) :
    (StableHlo.after hostOps1 W (Proc.devRef .tc main_v108) : FVec Ideal S1x12288 .f32) (ix2 0 q) =
      (W (Proc.devRef .tc main_v78_0) : FVec Ideal S3328x128 .f32) (ix2 ⟨3176 + q.val / 128, by omega⟩ ⟨q.val % 128, by omega⟩) := by
  after_reads_simp
  pointwise
theorem res0_15 (W : Valuation τ sig (Elt Ideal)) (q : Fin 2048) :
    (StableHlo.after hostOps1 W (Proc.devRef .tc main_v110) : FVec Ideal S2048 .f32) (ix1 q) =
      (W (Proc.devRef .tc main_v78_0) : FVec Ideal S3328x128 .f32) (ix2 ⟨3272 + q.val / 128, by omega⟩ ⟨q.val % 128, by omega⟩) := by
  after_reads_simp
  pointwise
theorem res1_0 (W : Valuation τ sig (Elt Ideal)) (q : Fin 2048) :
    (StableHlo.after hostOps1 W (Proc.devRef .tc main_v112) : FVec Ideal S1x2048 .f32) (ix2 0 q) =
      (W (Proc.devRef .tc main_v78_1) : FVec Ideal S3328x128 .f32) (ix2 ⟨q.val / 128, by omega⟩ ⟨q.val % 128, by omega⟩) := by
  after_reads_simp
  pointwise
theorem res1_1 (W : Valuation τ sig (Elt Ideal)) (q : Fin 1024) :
    (StableHlo.after hostOps1 W (Proc.devRef .tc main_v114) : FVec Ideal S1x1024 .f32) (ix2 0 q) =
      (W (Proc.devRef .tc main_v78_1) : FVec Ideal S3328x128 .f32) (ix2 ⟨16 + q.val / 128, by omega⟩ ⟨q.val % 128, by omega⟩) := by
  after_reads_simp
  pointwise
theorem res1_2 (W : Valuation τ sig (Elt Ideal)) (q : Fin 1024) :
    (StableHlo.after hostOps1 W (Proc.devRef .tc main_v116) : FVec Ideal S1x1024 .f32) (ix2 0 q) =
      (W (Proc.devRef .tc main_v78_1) : FVec Ideal S3328x128 .f32) (ix2 ⟨24 + q.val / 128, by omega⟩ ⟨q.val % 128, by omega⟩) := by
  after_reads_simp
  pointwise
theorem res1_3 (W : Valuation τ sig (Elt Ideal)) (a : Fin 8) (b : Fin 128) (q : Fin 128) :
    (StableHlo.after hostOps1 W (Proc.devRef .tc main_v118) : FVec Ideal S1x8x128x128 .f32) (ix4 0 a b q) =
      (W (Proc.devRef .tc main_v78_1) : FVec Ideal S3328x128 .f32) (ix2 ⟨32 + (a.val * 128 + b.val), by omega⟩ q) := by
  after_reads_simp
  pointwise
theorem res1_4 (W : Valuation τ sig (Elt Ideal)) (a : Fin 8) (q : Fin 128) :
    (StableHlo.after hostOps1 W (Proc.devRef .tc main_v120) : FVec Ideal S1x8x128 .f32) (ix3 0 a q) =
      (W (Proc.devRef .tc main_v78_1) : FVec Ideal S3328x128 .f32) (ix2 ⟨1056 + a.val, by omega⟩ q) := by
  after_reads_simp
  pointwise
theorem res1_5 (W : Valuation τ sig (Elt Ideal)) (q : Fin 1024) :
    (StableHlo.after hostOps1 W (Proc.devRef .tc main_v122) : FVec Ideal S1x1024 .f32) (ix2 0 q) =
      (W (Proc.devRef .tc main_v78_1) : FVec Ideal S3328x128 .f32) (ix2 ⟨1064 + q.val / 128, by omega⟩ ⟨q.val % 128, by omega⟩) := by
  after_reads_simp
  pointwise
theorem res1_6 (W : Valuation τ sig (Elt Ideal)) (a : Fin 8) (b : Fin 128) (q : Fin 128) :
    (StableHlo.after hostOps1 W (Proc.devRef .tc main_v124) : FVec Ideal S1x8x128x128 .f32) (ix4 0 a b q) =
      (W (Proc.devRef .tc main_v78_1) : FVec Ideal S3328x128 .f32) (ix2 ⟨1072 + (a.val * 128 + b.val), by omega⟩ q) := by
  after_reads_simp
  pointwise
theorem res1_7 (W : Valuation τ sig (Elt Ideal)) (a : Fin 8) (q : Fin 128) :
    (StableHlo.after hostOps1 W (Proc.devRef .tc main_v126) : FVec Ideal S1x8x128 .f32) (ix3 0 a q) =
      (W (Proc.devRef .tc main_v78_1) : FVec Ideal S3328x128 .f32) (ix2 ⟨2096 + a.val, by omega⟩ q) := by
  after_reads_simp
  pointwise
theorem res1_8 (W : Valuation τ sig (Elt Ideal)) (a : Fin 8) (b : Fin 128) (q : Fin 128) :
    (StableHlo.after hostOps1 W (Proc.devRef .tc main_v128) : FVec Ideal S1x8x128x128 .f32) (ix4 0 a b q) =
      (W (Proc.devRef .tc main_v78_1) : FVec Ideal S3328x128 .f32) (ix2 ⟨2104 + (a.val * 128 + b.val), by omega⟩ q) := by
  after_reads_simp
  pointwise
theorem res1_9 (W : Valuation τ sig (Elt Ideal)) (a : Fin 8) (q : Fin 128) :
    (StableHlo.after hostOps1 W (Proc.devRef .tc main_v130) : FVec Ideal S1x8x128 .f32) (ix3 0 a q) =
      (W (Proc.devRef .tc main_v78_1) : FVec Ideal S3328x128 .f32) (ix2 ⟨3128 + a.val, by omega⟩ q) := by
  after_reads_simp
  pointwise
theorem res1_10 (W : Valuation τ sig (Elt Ideal)) (q : Fin 1024) :
    (StableHlo.after hostOps1 W (Proc.devRef .tc main_v132) : FVec Ideal S1x1024 .f32) (ix2 0 q) =
      (W (Proc.devRef .tc main_v78_1) : FVec Ideal S3328x128 .f32) (ix2 ⟨3136 + q.val / 128, by omega⟩ ⟨q.val % 128, by omega⟩) := by
  after_reads_simp
  pointwise
theorem res1_11 (W : Valuation τ sig (Elt Ideal)) (q : Fin 1024) :
    (StableHlo.after hostOps1 W (Proc.devRef .tc main_v134) : FVec Ideal S1x1024 .f32) (ix2 0 q) =
      (W (Proc.devRef .tc main_v78_1) : FVec Ideal S3328x128 .f32) (ix2 ⟨3144 + q.val / 128, by omega⟩ ⟨q.val % 128, by omega⟩) := by
  after_reads_simp
  pointwise
theorem res1_12 (W : Valuation τ sig (Elt Ideal)) (q : Fin 1024) :
    (StableHlo.after hostOps1 W (Proc.devRef .tc main_v136) : FVec Ideal S1x1024 .f32) (ix2 0 q) =
      (W (Proc.devRef .tc main_v78_1) : FVec Ideal S3328x128 .f32) (ix2 ⟨3152 + q.val / 128, by omega⟩ ⟨q.val % 128, by omega⟩) := by
  after_reads_simp
  pointwise
theorem res1_13 (W : Valuation τ sig (Elt Ideal)) (q : Fin 2048) :
    (StableHlo.after hostOps1 W (Proc.devRef .tc main_v138) : FVec Ideal S1x2048 .f32) (ix2 0 q) =
      (W (Proc.devRef .tc main_v78_1) : FVec Ideal S3328x128 .f32) (ix2 ⟨3160 + q.val / 128, by omega⟩ ⟨q.val % 128, by omega⟩) := by
  after_reads_simp
  pointwise
theorem res1_14 (W : Valuation τ sig (Elt Ideal)) (q : Fin 12288) :
    (StableHlo.after hostOps1 W (Proc.devRef .tc main_v140) : FVec Ideal S1x12288 .f32) (ix2 0 q) =
      (W (Proc.devRef .tc main_v78_1) : FVec Ideal S3328x128 .f32) (ix2 ⟨3176 + q.val / 128, by omega⟩ ⟨q.val % 128, by omega⟩) := by
  after_reads_simp
  pointwise
theorem res1_15 (W : Valuation τ sig (Elt Ideal)) (q : Fin 2048) :
    (StableHlo.after hostOps1 W (Proc.devRef .tc main_v142) : FVec Ideal S2048 .f32) (ix1 q) =
      (W (Proc.devRef .tc main_v78_1) : FVec Ideal S3328x128 .f32) (ix2 ⟨3272 + q.val / 128, by omega⟩ ⟨q.val % 128, by omega⟩) := by
  after_reads_simp
  pointwise
theorem res2_0 (W : Valuation τ sig (Elt Ideal)) (q : Fin 2048) :
    (StableHlo.after hostOps1 W (Proc.devRef .tc main_v144) : FVec Ideal S1x2048 .f32) (ix2 0 q) =
      (W (Proc.devRef .tc main_v78_2) : FVec Ideal S3328x128 .f32) (ix2 ⟨q.val / 128, by omega⟩ ⟨q.val % 128, by omega⟩) := by
  after_reads_simp
  pointwise
theorem res2_1 (W : Valuation τ sig (Elt Ideal)) (q : Fin 1024) :
    (StableHlo.after hostOps1 W (Proc.devRef .tc main_v146) : FVec Ideal S1x1024 .f32) (ix2 0 q) =
      (W (Proc.devRef .tc main_v78_2) : FVec Ideal S3328x128 .f32) (ix2 ⟨16 + q.val / 128, by omega⟩ ⟨q.val % 128, by omega⟩) := by
  after_reads_simp
  pointwise
theorem res2_2 (W : Valuation τ sig (Elt Ideal)) (q : Fin 1024) :
    (StableHlo.after hostOps1 W (Proc.devRef .tc main_v148) : FVec Ideal S1x1024 .f32) (ix2 0 q) =
      (W (Proc.devRef .tc main_v78_2) : FVec Ideal S3328x128 .f32) (ix2 ⟨24 + q.val / 128, by omega⟩ ⟨q.val % 128, by omega⟩) := by
  after_reads_simp
  pointwise
theorem res2_3 (W : Valuation τ sig (Elt Ideal)) (a : Fin 8) (b : Fin 128) (q : Fin 128) :
    (StableHlo.after hostOps1 W (Proc.devRef .tc main_v150) : FVec Ideal S1x8x128x128 .f32) (ix4 0 a b q) =
      (W (Proc.devRef .tc main_v78_2) : FVec Ideal S3328x128 .f32) (ix2 ⟨32 + (a.val * 128 + b.val), by omega⟩ q) := by
  after_reads_simp
  pointwise
theorem res2_4 (W : Valuation τ sig (Elt Ideal)) (a : Fin 8) (q : Fin 128) :
    (StableHlo.after hostOps1 W (Proc.devRef .tc main_v152) : FVec Ideal S1x8x128 .f32) (ix3 0 a q) =
      (W (Proc.devRef .tc main_v78_2) : FVec Ideal S3328x128 .f32) (ix2 ⟨1056 + a.val, by omega⟩ q) := by
  after_reads_simp
  pointwise
theorem res2_5 (W : Valuation τ sig (Elt Ideal)) (q : Fin 1024) :
    (StableHlo.after hostOps1 W (Proc.devRef .tc main_v154) : FVec Ideal S1x1024 .f32) (ix2 0 q) =
      (W (Proc.devRef .tc main_v78_2) : FVec Ideal S3328x128 .f32) (ix2 ⟨1064 + q.val / 128, by omega⟩ ⟨q.val % 128, by omega⟩) := by
  after_reads_simp
  pointwise
theorem res2_6 (W : Valuation τ sig (Elt Ideal)) (a : Fin 8) (b : Fin 128) (q : Fin 128) :
    (StableHlo.after hostOps1 W (Proc.devRef .tc main_v156) : FVec Ideal S1x8x128x128 .f32) (ix4 0 a b q) =
      (W (Proc.devRef .tc main_v78_2) : FVec Ideal S3328x128 .f32) (ix2 ⟨1072 + (a.val * 128 + b.val), by omega⟩ q) := by
  after_reads_simp
  pointwise
theorem res2_7 (W : Valuation τ sig (Elt Ideal)) (a : Fin 8) (q : Fin 128) :
    (StableHlo.after hostOps1 W (Proc.devRef .tc main_v158) : FVec Ideal S1x8x128 .f32) (ix3 0 a q) =
      (W (Proc.devRef .tc main_v78_2) : FVec Ideal S3328x128 .f32) (ix2 ⟨2096 + a.val, by omega⟩ q) := by
  after_reads_simp
  pointwise
theorem res2_8 (W : Valuation τ sig (Elt Ideal)) (a : Fin 8) (b : Fin 128) (q : Fin 128) :
    (StableHlo.after hostOps1 W (Proc.devRef .tc main_v160) : FVec Ideal S1x8x128x128 .f32) (ix4 0 a b q) =
      (W (Proc.devRef .tc main_v78_2) : FVec Ideal S3328x128 .f32) (ix2 ⟨2104 + (a.val * 128 + b.val), by omega⟩ q) := by
  after_reads_simp
  pointwise
theorem res2_9 (W : Valuation τ sig (Elt Ideal)) (a : Fin 8) (q : Fin 128) :
    (StableHlo.after hostOps1 W (Proc.devRef .tc main_v162) : FVec Ideal S1x8x128 .f32) (ix3 0 a q) =
      (W (Proc.devRef .tc main_v78_2) : FVec Ideal S3328x128 .f32) (ix2 ⟨3128 + a.val, by omega⟩ q) := by
  after_reads_simp
  pointwise
theorem res2_10 (W : Valuation τ sig (Elt Ideal)) (q : Fin 1024) :
    (StableHlo.after hostOps1 W (Proc.devRef .tc main_v164) : FVec Ideal S1x1024 .f32) (ix2 0 q) =
      (W (Proc.devRef .tc main_v78_2) : FVec Ideal S3328x128 .f32) (ix2 ⟨3136 + q.val / 128, by omega⟩ ⟨q.val % 128, by omega⟩) := by
  after_reads_simp
  pointwise
theorem res2_11 (W : Valuation τ sig (Elt Ideal)) (q : Fin 1024) :
    (StableHlo.after hostOps1 W (Proc.devRef .tc main_v166) : FVec Ideal S1x1024 .f32) (ix2 0 q) =
      (W (Proc.devRef .tc main_v78_2) : FVec Ideal S3328x128 .f32) (ix2 ⟨3144 + q.val / 128, by omega⟩ ⟨q.val % 128, by omega⟩) := by
  after_reads_simp
  pointwise
theorem res2_12 (W : Valuation τ sig (Elt Ideal)) (q : Fin 1024) :
    (StableHlo.after hostOps1 W (Proc.devRef .tc main_v168) : FVec Ideal S1x1024 .f32) (ix2 0 q) =
      (W (Proc.devRef .tc main_v78_2) : FVec Ideal S3328x128 .f32) (ix2 ⟨3152 + q.val / 128, by omega⟩ ⟨q.val % 128, by omega⟩) := by
  after_reads_simp
  pointwise
theorem res2_13 (W : Valuation τ sig (Elt Ideal)) (q : Fin 2048) :
    (StableHlo.after hostOps1 W (Proc.devRef .tc main_v170) : FVec Ideal S1x2048 .f32) (ix2 0 q) =
      (W (Proc.devRef .tc main_v78_2) : FVec Ideal S3328x128 .f32) (ix2 ⟨3160 + q.val / 128, by omega⟩ ⟨q.val % 128, by omega⟩) := by
  after_reads_simp
  pointwise
theorem res2_14 (W : Valuation τ sig (Elt Ideal)) (q : Fin 12288) :
    (StableHlo.after hostOps1 W (Proc.devRef .tc main_v172) : FVec Ideal S1x12288 .f32) (ix2 0 q) =
      (W (Proc.devRef .tc main_v78_2) : FVec Ideal S3328x128 .f32) (ix2 ⟨3176 + q.val / 128, by omega⟩ ⟨q.val % 128, by omega⟩) := by
  after_reads_simp
  pointwise
theorem res2_15 (W : Valuation τ sig (Elt Ideal)) (q : Fin 2048) :
    (StableHlo.after hostOps1 W (Proc.devRef .tc main_v174) : FVec Ideal S2048 .f32) (ix1 q) =
      (W (Proc.devRef .tc main_v78_2) : FVec Ideal S3328x128 .f32) (ix2 ⟨3272 + q.val / 128, by omega⟩ ⟨q.val % 128, by omega⟩) := by
  after_reads_simp
  pointwise
theorem res3_0 (W : Valuation τ sig (Elt Ideal)) (q : Fin 2048) :
    (StableHlo.after hostOps1 W (Proc.devRef .tc main_v176) : FVec Ideal S1x2048 .f32) (ix2 0 q) =
      (W (Proc.devRef .tc main_v78_3) : FVec Ideal S3328x128 .f32) (ix2 ⟨q.val / 128, by omega⟩ ⟨q.val % 128, by omega⟩) := by
  after_reads_simp
  pointwise
theorem res3_1 (W : Valuation τ sig (Elt Ideal)) (q : Fin 1024) :
    (StableHlo.after hostOps1 W (Proc.devRef .tc main_v178) : FVec Ideal S1x1024 .f32) (ix2 0 q) =
      (W (Proc.devRef .tc main_v78_3) : FVec Ideal S3328x128 .f32) (ix2 ⟨16 + q.val / 128, by omega⟩ ⟨q.val % 128, by omega⟩) := by
  after_reads_simp
  pointwise
theorem res3_2 (W : Valuation τ sig (Elt Ideal)) (q : Fin 1024) :
    (StableHlo.after hostOps1 W (Proc.devRef .tc main_v180) : FVec Ideal S1x1024 .f32) (ix2 0 q) =
      (W (Proc.devRef .tc main_v78_3) : FVec Ideal S3328x128 .f32) (ix2 ⟨24 + q.val / 128, by omega⟩ ⟨q.val % 128, by omega⟩) := by
  after_reads_simp
  pointwise
theorem res3_3 (W : Valuation τ sig (Elt Ideal)) (a : Fin 8) (b : Fin 128) (q : Fin 128) :
    (StableHlo.after hostOps1 W (Proc.devRef .tc main_v182) : FVec Ideal S1x8x128x128 .f32) (ix4 0 a b q) =
      (W (Proc.devRef .tc main_v78_3) : FVec Ideal S3328x128 .f32) (ix2 ⟨32 + (a.val * 128 + b.val), by omega⟩ q) := by
  after_reads_simp
  pointwise
theorem res3_4 (W : Valuation τ sig (Elt Ideal)) (a : Fin 8) (q : Fin 128) :
    (StableHlo.after hostOps1 W (Proc.devRef .tc main_v184) : FVec Ideal S1x8x128 .f32) (ix3 0 a q) =
      (W (Proc.devRef .tc main_v78_3) : FVec Ideal S3328x128 .f32) (ix2 ⟨1056 + a.val, by omega⟩ q) := by
  after_reads_simp
  pointwise
theorem res3_5 (W : Valuation τ sig (Elt Ideal)) (q : Fin 1024) :
    (StableHlo.after hostOps1 W (Proc.devRef .tc main_v186) : FVec Ideal S1x1024 .f32) (ix2 0 q) =
      (W (Proc.devRef .tc main_v78_3) : FVec Ideal S3328x128 .f32) (ix2 ⟨1064 + q.val / 128, by omega⟩ ⟨q.val % 128, by omega⟩) := by
  after_reads_simp
  pointwise
theorem res3_6 (W : Valuation τ sig (Elt Ideal)) (a : Fin 8) (b : Fin 128) (q : Fin 128) :
    (StableHlo.after hostOps1 W (Proc.devRef .tc main_v188) : FVec Ideal S1x8x128x128 .f32) (ix4 0 a b q) =
      (W (Proc.devRef .tc main_v78_3) : FVec Ideal S3328x128 .f32) (ix2 ⟨1072 + (a.val * 128 + b.val), by omega⟩ q) := by
  after_reads_simp
  pointwise
theorem res3_7 (W : Valuation τ sig (Elt Ideal)) (a : Fin 8) (q : Fin 128) :
    (StableHlo.after hostOps1 W (Proc.devRef .tc main_v190) : FVec Ideal S1x8x128 .f32) (ix3 0 a q) =
      (W (Proc.devRef .tc main_v78_3) : FVec Ideal S3328x128 .f32) (ix2 ⟨2096 + a.val, by omega⟩ q) := by
  after_reads_simp
  pointwise
theorem res3_8 (W : Valuation τ sig (Elt Ideal)) (a : Fin 8) (b : Fin 128) (q : Fin 128) :
    (StableHlo.after hostOps1 W (Proc.devRef .tc main_v192) : FVec Ideal S1x8x128x128 .f32) (ix4 0 a b q) =
      (W (Proc.devRef .tc main_v78_3) : FVec Ideal S3328x128 .f32) (ix2 ⟨2104 + (a.val * 128 + b.val), by omega⟩ q) := by
  after_reads_simp
  pointwise
theorem res3_9 (W : Valuation τ sig (Elt Ideal)) (a : Fin 8) (q : Fin 128) :
    (StableHlo.after hostOps1 W (Proc.devRef .tc main_v194) : FVec Ideal S1x8x128 .f32) (ix3 0 a q) =
      (W (Proc.devRef .tc main_v78_3) : FVec Ideal S3328x128 .f32) (ix2 ⟨3128 + a.val, by omega⟩ q) := by
  after_reads_simp
  pointwise
theorem res3_10 (W : Valuation τ sig (Elt Ideal)) (q : Fin 1024) :
    (StableHlo.after hostOps1 W (Proc.devRef .tc main_v196) : FVec Ideal S1x1024 .f32) (ix2 0 q) =
      (W (Proc.devRef .tc main_v78_3) : FVec Ideal S3328x128 .f32) (ix2 ⟨3136 + q.val / 128, by omega⟩ ⟨q.val % 128, by omega⟩) := by
  after_reads_simp
  pointwise
theorem res3_11 (W : Valuation τ sig (Elt Ideal)) (q : Fin 1024) :
    (StableHlo.after hostOps1 W (Proc.devRef .tc main_v198) : FVec Ideal S1x1024 .f32) (ix2 0 q) =
      (W (Proc.devRef .tc main_v78_3) : FVec Ideal S3328x128 .f32) (ix2 ⟨3144 + q.val / 128, by omega⟩ ⟨q.val % 128, by omega⟩) := by
  after_reads_simp
  pointwise
theorem res3_12 (W : Valuation τ sig (Elt Ideal)) (q : Fin 1024) :
    (StableHlo.after hostOps1 W (Proc.devRef .tc main_v200) : FVec Ideal S1x1024 .f32) (ix2 0 q) =
      (W (Proc.devRef .tc main_v78_3) : FVec Ideal S3328x128 .f32) (ix2 ⟨3152 + q.val / 128, by omega⟩ ⟨q.val % 128, by omega⟩) := by
  after_reads_simp
  pointwise
theorem res3_13 (W : Valuation τ sig (Elt Ideal)) (q : Fin 2048) :
    (StableHlo.after hostOps1 W (Proc.devRef .tc main_v202) : FVec Ideal S1x2048 .f32) (ix2 0 q) =
      (W (Proc.devRef .tc main_v78_3) : FVec Ideal S3328x128 .f32) (ix2 ⟨3160 + q.val / 128, by omega⟩ ⟨q.val % 128, by omega⟩) := by
  after_reads_simp
  pointwise
theorem res3_14 (W : Valuation τ sig (Elt Ideal)) (q : Fin 12288) :
    (StableHlo.after hostOps1 W (Proc.devRef .tc main_v204) : FVec Ideal S1x12288 .f32) (ix2 0 q) =
      (W (Proc.devRef .tc main_v78_3) : FVec Ideal S3328x128 .f32) (ix2 ⟨3176 + q.val / 128, by omega⟩ ⟨q.val % 128, by omega⟩) := by
  after_reads_simp
  pointwise
theorem res3_15 (W : Valuation τ sig (Elt Ideal)) (q : Fin 2048) :
    (StableHlo.after hostOps1 W (Proc.devRef .tc main_v206) : FVec Ideal S2048 .f32) (ix1 q) =
      (W (Proc.devRef .tc main_v78_3) : FVec Ideal S3328x128 .f32) (ix2 ⟨3272 + q.val / 128, by omega⟩ ⟨q.val % 128, by omega⟩) := by
  after_reads_simp
  pointwise
end Cert.KernelAdamSmallIdeal.Val
-- ==== Proof.AdamSmallRef.lean ====
/- AdamW on the sixteen small weights as the reference computes it, read at an index. -/
module
public import proofs.«01_k».proof.Defs
public import proofs.«01_k».proof.Proof.Gen.KernelAdamSmall
public import proofs.«01_k».proof.Proof.Gen.KernelAdamSmall.Frame
public import proofs.«01_k».proof.Proof.Gen.KernelAdamSmallIdeal
public import proofs.«01_k».proof.Proof.Gen.KernelAdamSmallIdeal.Frame
public import proofs.«01_k».proof.Proof.Gen.ReferenceAdamSmallIdeal
public import proofs.«01_k».proof.Proof.Gen.ReferenceAdamSmallIdeal.Run
public import proofs.«01_k».proof.Proof.Gen.ReferenceAdamSmallIdeal.Read
public import proofs.«01_k».proof.Proof.Ix
public import proofs.«01_k».proof.Proof.Adam
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.ReferenceAdamSmallIdeal.At
open Cert.ReferenceAdamSmallIdeal Cert.ReferenceAdamSmallIdeal.Read Idealize.ShloMosaic Idealize.ShloMosaic.TcCoe Idealize.SL.Sem
open Idealize.ShloMosaic.Pipeline (Dat)
open Cert.Adam
variable (m : (ℓ : Loc nD τ sig) → Buf (Elt Ideal) ℓ)
theorem g0 (p : FVec Ideal S8x1x2048 .f32) (q : Fin 2048) :
    (val_main_v0 (F := Ideal) p : FVec Ideal S1x2048 .f32) (ix2 0 q) = ∑ k : Fin 8, p (ix3 k 0 q) := by
  pointwise [val_main_v0, val_main_cst]
theorem m0 (x : FVec Ideal S1x2048 .f32) (p : FVec Ideal S8x1x2048 .f32) (q : Fin 2048) :
    (val_main_v20 (F := Ideal) x p : FVec Ideal S1x2048 .f32) (ix2 0 q) = mom (x (ix2 0 q)) ((val_main_v0 (F := Ideal) p : FVec Ideal S1x2048 .f32) (ix2 0 q)) := by
  unfold mom
  pointwise [val_main_v20, val_main_v17, val_main_v19, val_main_v16, val_main_v18, val_main_cst_15, val_main_cst_16]
theorem v0 (x : FVec Ideal S1x2048 .f32) (p : FVec Ideal S8x1x2048 .f32) (q : Fin 2048) :
    (val_main_v26 (F := Ideal) x p : FVec Ideal S1x2048 .f32) (ix2 0 q) = var (x (ix2 0 q)) ((val_main_v0 (F := Ideal) p : FVec Ideal S1x2048 .f32) (ix2 0 q)) := by
  unfold var
  pointwise [val_main_v26, val_main_v22, val_main_v25, val_main_v21, val_main_v24, val_main_v23, val_main_cst_17, val_main_cst_18]
theorem d0 (x y z : FVec Ideal S1x2048 .f32) (p : FVec Ideal S8x1x2048 .f32) (q : Fin 2048) :
    (val_main_v39 (F := Ideal) x y z p : FVec Ideal S1x2048 .f32) (ix2 0 q) = delta (x (ix2 0 q)) ((val_main_v20 (F := Ideal) y p : FVec Ideal S1x2048 .f32) (ix2 0 q))
      ((val_main_v26 (F := Ideal) z p : FVec Ideal S1x2048 .f32) (ix2 0 q)) := by
  unfold delta
  pointwise [val_main_v39, val_main_v38, val_main_v37, val_main_cst_23, val_main_v34, val_main_v36, val_main_v28, val_main_v33, val_main_v35, val_main_v27, val_main_v31, val_main_v32, val_main_cst_22, val_main_cst_19, val_main_v30, val_main_cst_21, val_main_v29, val_main_cst_20]
theorem g1 (p : FVec Ideal S8x1x1024 .f32) (q : Fin 1024) :
    (val_main_v1 (F := Ideal) p : FVec Ideal S1x1024 .f32) (ix2 0 q) = ∑ k : Fin 8, p (ix3 k 0 q) := by
  pointwise [val_main_v1, val_main_cst_0]
theorem m1 (x : FVec Ideal S1x1024 .f32) (p : FVec Ideal S8x1x1024 .f32) (q : Fin 1024) :
    (val_main_v44 (F := Ideal) x p : FVec Ideal S1x1024 .f32) (ix2 0 q) = mom (x (ix2 0 q)) ((val_main_v1 (F := Ideal) p : FVec Ideal S1x1024 .f32) (ix2 0 q)) := by
  unfold mom
  pointwise [val_main_v44, val_main_v41, val_main_v43, val_main_v40, val_main_v42, val_main_cst_24, val_main_cst_25]
theorem v1 (x : FVec Ideal S1x1024 .f32) (p : FVec Ideal S8x1x1024 .f32) (q : Fin 1024) :
    (val_main_v50 (F := Ideal) x p : FVec Ideal S1x1024 .f32) (ix2 0 q) = var (x (ix2 0 q)) ((val_main_v1 (F := Ideal) p : FVec Ideal S1x1024 .f32) (ix2 0 q)) := by
  unfold var
  pointwise [val_main_v50, val_main_v46, val_main_v49, val_main_v45, val_main_v48, val_main_v47, val_main_cst_26, val_main_cst_27]
theorem d1 (x y z : FVec Ideal S1x1024 .f32) (p : FVec Ideal S8x1x1024 .f32) (q : Fin 1024) :
    (val_main_v63 (F := Ideal) x y z p : FVec Ideal S1x1024 .f32) (ix2 0 q) = delta (x (ix2 0 q)) ((val_main_v44 (F := Ideal) y p : FVec Ideal S1x1024 .f32) (ix2 0 q))
      ((val_main_v50 (F := Ideal) z p : FVec Ideal S1x1024 .f32) (ix2 0 q)) := by
  unfold delta
  pointwise [val_main_v63, val_main_v62, val_main_v61, val_main_cst_32, val_main_v58, val_main_v60, val_main_v52, val_main_v57, val_main_v59, val_main_v51, val_main_v55, val_main_v56, val_main_cst_31, val_main_cst_28, val_main_v54, val_main_cst_30, val_main_v53, val_main_cst_29]
theorem g2 (p : FVec Ideal S8x1x1024 .f32) (q : Fin 1024) :
    (val_main_v2 (F := Ideal) p : FVec Ideal S1x1024 .f32) (ix2 0 q) = ∑ k : Fin 8, p (ix3 k 0 q) := by
  pointwise [val_main_v2, val_main_cst_1]
theorem m2 (x : FVec Ideal S1x1024 .f32) (p : FVec Ideal S8x1x1024 .f32) (q : Fin 1024) :
    (val_main_v68 (F := Ideal) x p : FVec Ideal S1x1024 .f32) (ix2 0 q) = mom (x (ix2 0 q)) ((val_main_v2 (F := Ideal) p : FVec Ideal S1x1024 .f32) (ix2 0 q)) := by
  unfold mom
  pointwise [val_main_v68, val_main_v65, val_main_v67, val_main_v64, val_main_v66, val_main_cst_33, val_main_cst_34]
theorem v2 (x : FVec Ideal S1x1024 .f32) (p : FVec Ideal S8x1x1024 .f32) (q : Fin 1024) :
    (val_main_v74 (F := Ideal) x p : FVec Ideal S1x1024 .f32) (ix2 0 q) = var (x (ix2 0 q)) ((val_main_v2 (F := Ideal) p : FVec Ideal S1x1024 .f32) (ix2 0 q)) := by
  unfold var
  pointwise [val_main_v74, val_main_v70, val_main_v73, val_main_v69, val_main_v72, val_main_v71, val_main_cst_35, val_main_cst_36]
theorem d2 (x y z : FVec Ideal S1x1024 .f32) (p : FVec Ideal S8x1x1024 .f32) (q : Fin 1024) :
    (val_main_v87 (F := Ideal) x y z p : FVec Ideal S1x1024 .f32) (ix2 0 q) = delta (x (ix2 0 q)) ((val_main_v68 (F := Ideal) y p : FVec Ideal S1x1024 .f32) (ix2 0 q))
      ((val_main_v74 (F := Ideal) z p : FVec Ideal S1x1024 .f32) (ix2 0 q)) := by
  unfold delta
  pointwise [val_main_v87, val_main_v86, val_main_v85, val_main_cst_41, val_main_v82, val_main_v84, val_main_v76, val_main_v81, val_main_v83, val_main_v75, val_main_v79, val_main_v80, val_main_cst_40, val_main_cst_37, val_main_v78, val_main_cst_39, val_main_v77, val_main_cst_38]
theorem g3 (p : FVec Ideal S8x1x8x128x128 .f32) (a : Fin 8) (b : Fin 128) (q : Fin 128) :
    (val_main_v3 (F := Ideal) p : FVec Ideal S1x8x128x128 .f32) (ix4 0 a b q) = ∑ k : Fin 8, p (ix5 k 0 a b q) := by
  pointwise [val_main_v3, val_main_cst_2]
theorem m3 (x : FVec Ideal S1x8x128x128 .f32) (p : FVec Ideal S8x1x8x128x128 .f32) (a : Fin 8) (b : Fin 128) (q : Fin 128) :
    (val_main_v92 (F := Ideal) x p : FVec Ideal S1x8x128x128 .f32) (ix4 0 a b q) = mom (x (ix4 0 a b q)) ((val_main_v3 (F := Ideal) p : FVec Ideal S1x8x128x128 .f32) (ix4 0 a b q)) := by
  unfold mom
  pointwise [val_main_v92, val_main_v89, val_main_v91, val_main_v88, val_main_v90, val_main_cst_42, val_main_cst_43]
theorem v3 (x : FVec Ideal S1x8x128x128 .f32) (p : FVec Ideal S8x1x8x128x128 .f32) (a : Fin 8) (b : Fin 128) (q : Fin 128) :
    (val_main_v98 (F := Ideal) x p : FVec Ideal S1x8x128x128 .f32) (ix4 0 a b q) = var (x (ix4 0 a b q)) ((val_main_v3 (F := Ideal) p : FVec Ideal S1x8x128x128 .f32) (ix4 0 a b q)) := by
  unfold var
  pointwise [val_main_v98, val_main_v94, val_main_v97, val_main_v93, val_main_v96, val_main_v95, val_main_cst_44, val_main_cst_45]
theorem d3 (x y z : FVec Ideal S1x8x128x128 .f32) (p : FVec Ideal S8x1x8x128x128 .f32) (a : Fin 8) (b : Fin 128) (q : Fin 128) :
    (val_main_v111 (F := Ideal) x y z p : FVec Ideal S1x8x128x128 .f32) (ix4 0 a b q) = delta (x (ix4 0 a b q)) ((val_main_v92 (F := Ideal) y p : FVec Ideal S1x8x128x128 .f32) (ix4 0 a b q))
      ((val_main_v98 (F := Ideal) z p : FVec Ideal S1x8x128x128 .f32) (ix4 0 a b q)) := by
  unfold delta
  pointwise [val_main_v111, val_main_v110, val_main_v109, val_main_cst_50, val_main_v106, val_main_v108, val_main_v100, val_main_v105, val_main_v107, val_main_v99, val_main_v103, val_main_v104, val_main_cst_49, val_main_cst_46, val_main_v102, val_main_cst_48, val_main_v101, val_main_cst_47]
theorem g4 (p : FVec Ideal S8x1x8x128 .f32) (a : Fin 8) (q : Fin 128) :
    (val_main_v4 (F := Ideal) p : FVec Ideal S1x8x128 .f32) (ix3 0 a q) = ∑ k : Fin 8, p (ix4 k 0 a q) := by
  pointwise [val_main_v4, val_main_cst_3]
theorem m4 (x : FVec Ideal S1x8x128 .f32) (p : FVec Ideal S8x1x8x128 .f32) (a : Fin 8) (q : Fin 128) :
    (val_main_v116 (F := Ideal) x p : FVec Ideal S1x8x128 .f32) (ix3 0 a q) = mom (x (ix3 0 a q)) ((val_main_v4 (F := Ideal) p : FVec Ideal S1x8x128 .f32) (ix3 0 a q)) := by
  unfold mom
  pointwise [val_main_v116, val_main_v113, val_main_v115, val_main_v112, val_main_v114, val_main_cst_51, val_main_cst_52]
theorem v4 (x : FVec Ideal S1x8x128 .f32) (p : FVec Ideal S8x1x8x128 .f32) (a : Fin 8) (q : Fin 128) :
    (val_main_v122 (F := Ideal) x p : FVec Ideal S1x8x128 .f32) (ix3 0 a q) = var (x (ix3 0 a q)) ((val_main_v4 (F := Ideal) p : FVec Ideal S1x8x128 .f32) (ix3 0 a q)) := by
  unfold var
  pointwise [val_main_v122, val_main_v118, val_main_v121, val_main_v117, val_main_v120, val_main_v119, val_main_cst_53, val_main_cst_54]
theorem d4 (x y z : FVec Ideal S1x8x128 .f32) (p : FVec Ideal S8x1x8x128 .f32) (a : Fin 8) (q : Fin 128) :
    (val_main_v135 (F := Ideal) x y z p : FVec Ideal S1x8x128 .f32) (ix3 0 a q) = delta (x (ix3 0 a q)) ((val_main_v116 (F := Ideal) y p : FVec Ideal S1x8x128 .f32) (ix3 0 a q))
      ((val_main_v122 (F := Ideal) z p : FVec Ideal S1x8x128 .f32) (ix3 0 a q)) := by
  unfold delta
  pointwise [val_main_v135, val_main_v134, val_main_v133, val_main_cst_59, val_main_v130, val_main_v132, val_main_v124, val_main_v129, val_main_v131, val_main_v123, val_main_v127, val_main_v128, val_main_cst_58, val_main_cst_55, val_main_v126, val_main_cst_57, val_main_v125, val_main_cst_56]
theorem g5 (p : FVec Ideal S8x1x1024 .f32) (q : Fin 1024) :
    (val_main_v5 (F := Ideal) p : FVec Ideal S1x1024 .f32) (ix2 0 q) = ∑ k : Fin 8, p (ix3 k 0 q) := by
  pointwise [val_main_v5, val_main_cst_4]
theorem m5 (x : FVec Ideal S1x1024 .f32) (p : FVec Ideal S8x1x1024 .f32) (q : Fin 1024) :
    (val_main_v140 (F := Ideal) x p : FVec Ideal S1x1024 .f32) (ix2 0 q) = mom (x (ix2 0 q)) ((val_main_v5 (F := Ideal) p : FVec Ideal S1x1024 .f32) (ix2 0 q)) := by
  unfold mom
  pointwise [val_main_v140, val_main_v137, val_main_v139, val_main_v136, val_main_v138, val_main_cst_60, val_main_cst_61]
theorem v5 (x : FVec Ideal S1x1024 .f32) (p : FVec Ideal S8x1x1024 .f32) (q : Fin 1024) :
    (val_main_v146 (F := Ideal) x p : FVec Ideal S1x1024 .f32) (ix2 0 q) = var (x (ix2 0 q)) ((val_main_v5 (F := Ideal) p : FVec Ideal S1x1024 .f32) (ix2 0 q)) := by
  unfold var
  pointwise [val_main_v146, val_main_v142, val_main_v145, val_main_v141, val_main_v144, val_main_v143, val_main_cst_62, val_main_cst_63]
theorem d5 (x y z : FVec Ideal S1x1024 .f32) (p : FVec Ideal S8x1x1024 .f32) (q : Fin 1024) :
    (val_main_v159 (F := Ideal) x y z p : FVec Ideal S1x1024 .f32) (ix2 0 q) = delta (x (ix2 0 q)) ((val_main_v140 (F := Ideal) y p : FVec Ideal S1x1024 .f32) (ix2 0 q))
      ((val_main_v146 (F := Ideal) z p : FVec Ideal S1x1024 .f32) (ix2 0 q)) := by
  unfold delta
  pointwise [val_main_v159, val_main_v158, val_main_v157, val_main_cst_68, val_main_v154, val_main_v156, val_main_v148, val_main_v153, val_main_v155, val_main_v147, val_main_v151, val_main_v152, val_main_cst_67, val_main_cst_64, val_main_v150, val_main_cst_66, val_main_v149, val_main_cst_65]
theorem g6 (p : FVec Ideal S8x1x8x128x128 .f32) (a : Fin 8) (b : Fin 128) (q : Fin 128) :
    (val_main_v6 (F := Ideal) p : FVec Ideal S1x8x128x128 .f32) (ix4 0 a b q) = ∑ k : Fin 8, p (ix5 k 0 a b q) := by
  pointwise [val_main_v6, val_main_cst_5]
theorem m6 (x : FVec Ideal S1x8x128x128 .f32) (p : FVec Ideal S8x1x8x128x128 .f32) (a : Fin 8) (b : Fin 128) (q : Fin 128) :
    (val_main_v164 (F := Ideal) x p : FVec Ideal S1x8x128x128 .f32) (ix4 0 a b q) = mom (x (ix4 0 a b q)) ((val_main_v6 (F := Ideal) p : FVec Ideal S1x8x128x128 .f32) (ix4 0 a b q)) := by
  unfold mom
  pointwise [val_main_v164, val_main_v161, val_main_v163, val_main_v160, val_main_v162, val_main_cst_69, val_main_cst_70]
theorem v6 (x : FVec Ideal S1x8x128x128 .f32) (p : FVec Ideal S8x1x8x128x128 .f32) (a : Fin 8) (b : Fin 128) (q : Fin 128) :
    (val_main_v170 (F := Ideal) x p : FVec Ideal S1x8x128x128 .f32) (ix4 0 a b q) = var (x (ix4 0 a b q)) ((val_main_v6 (F := Ideal) p : FVec Ideal S1x8x128x128 .f32) (ix4 0 a b q)) := by
  unfold var
  pointwise [val_main_v170, val_main_v166, val_main_v169, val_main_v165, val_main_v168, val_main_v167, val_main_cst_71, val_main_cst_72]
theorem d6 (x y z : FVec Ideal S1x8x128x128 .f32) (p : FVec Ideal S8x1x8x128x128 .f32) (a : Fin 8) (b : Fin 128) (q : Fin 128) :
    (val_main_v183 (F := Ideal) x y z p : FVec Ideal S1x8x128x128 .f32) (ix4 0 a b q) = delta (x (ix4 0 a b q)) ((val_main_v164 (F := Ideal) y p : FVec Ideal S1x8x128x128 .f32) (ix4 0 a b q))
      ((val_main_v170 (F := Ideal) z p : FVec Ideal S1x8x128x128 .f32) (ix4 0 a b q)) := by
  unfold delta
  pointwise [val_main_v183, val_main_v182, val_main_v181, val_main_cst_77, val_main_v178, val_main_v180, val_main_v172, val_main_v177, val_main_v179, val_main_v171, val_main_v175, val_main_v176, val_main_cst_76, val_main_cst_73, val_main_v174, val_main_cst_75, val_main_v173, val_main_cst_74]
theorem g7 (p : FVec Ideal S8x1x8x128 .f32) (a : Fin 8) (q : Fin 128) :
    (val_main_v7 (F := Ideal) p : FVec Ideal S1x8x128 .f32) (ix3 0 a q) = ∑ k : Fin 8, p (ix4 k 0 a q) := by
  pointwise [val_main_v7, val_main_cst_6]
theorem m7 (x : FVec Ideal S1x8x128 .f32) (p : FVec Ideal S8x1x8x128 .f32) (a : Fin 8) (q : Fin 128) :
    (val_main_v188 (F := Ideal) x p : FVec Ideal S1x8x128 .f32) (ix3 0 a q) = mom (x (ix3 0 a q)) ((val_main_v7 (F := Ideal) p : FVec Ideal S1x8x128 .f32) (ix3 0 a q)) := by
  unfold mom
  pointwise [val_main_v188, val_main_v185, val_main_v187, val_main_v184, val_main_v186, val_main_cst_78, val_main_cst_79]
theorem v7 (x : FVec Ideal S1x8x128 .f32) (p : FVec Ideal S8x1x8x128 .f32) (a : Fin 8) (q : Fin 128) :
    (val_main_v194 (F := Ideal) x p : FVec Ideal S1x8x128 .f32) (ix3 0 a q) = var (x (ix3 0 a q)) ((val_main_v7 (F := Ideal) p : FVec Ideal S1x8x128 .f32) (ix3 0 a q)) := by
  unfold var
  pointwise [val_main_v194, val_main_v190, val_main_v193, val_main_v189, val_main_v192, val_main_v191, val_main_cst_80, val_main_cst_81]
theorem d7 (x y z : FVec Ideal S1x8x128 .f32) (p : FVec Ideal S8x1x8x128 .f32) (a : Fin 8) (q : Fin 128) :
    (val_main_v207 (F := Ideal) x y z p : FVec Ideal S1x8x128 .f32) (ix3 0 a q) = delta (x (ix3 0 a q)) ((val_main_v188 (F := Ideal) y p : FVec Ideal S1x8x128 .f32) (ix3 0 a q))
      ((val_main_v194 (F := Ideal) z p : FVec Ideal S1x8x128 .f32) (ix3 0 a q)) := by
  unfold delta
  pointwise [val_main_v207, val_main_v206, val_main_v205, val_main_cst_86, val_main_v202, val_main_v204, val_main_v196, val_main_v201, val_main_v203, val_main_v195, val_main_v199, val_main_v200, val_main_cst_85, val_main_cst_82, val_main_v198, val_main_cst_84, val_main_v197, val_main_cst_83]
theorem g8 (p : FVec Ideal S8x1x8x128x128 .f32) (a : Fin 8) (b : Fin 128) (q : Fin 128) :
    (val_main_v8 (F := Ideal) p : FVec Ideal S1x8x128x128 .f32) (ix4 0 a b q) = ∑ k : Fin 8, p (ix5 k 0 a b q) := by
  pointwise [val_main_v8, val_main_cst_7]
theorem m8 (x : FVec Ideal S1x8x128x128 .f32) (p : FVec Ideal S8x1x8x128x128 .f32) (a : Fin 8) (b : Fin 128) (q : Fin 128) :
    (val_main_v212 (F := Ideal) x p : FVec Ideal S1x8x128x128 .f32) (ix4 0 a b q) = mom (x (ix4 0 a b q)) ((val_main_v8 (F := Ideal) p : FVec Ideal S1x8x128x128 .f32) (ix4 0 a b q)) := by
  unfold mom
  pointwise [val_main_v212, val_main_v209, val_main_v211, val_main_v208, val_main_v210, val_main_cst_87, val_main_cst_88]
theorem v8 (x : FVec Ideal S1x8x128x128 .f32) (p : FVec Ideal S8x1x8x128x128 .f32) (a : Fin 8) (b : Fin 128) (q : Fin 128) :
    (val_main_v218 (F := Ideal) x p : FVec Ideal S1x8x128x128 .f32) (ix4 0 a b q) = var (x (ix4 0 a b q)) ((val_main_v8 (F := Ideal) p : FVec Ideal S1x8x128x128 .f32) (ix4 0 a b q)) := by
  unfold var
  pointwise [val_main_v218, val_main_v214, val_main_v217, val_main_v213, val_main_v216, val_main_v215, val_main_cst_89, val_main_cst_90]
theorem d8 (x y z : FVec Ideal S1x8x128x128 .f32) (p : FVec Ideal S8x1x8x128x128 .f32) (a : Fin 8) (b : Fin 128) (q : Fin 128) :
    (val_main_v231 (F := Ideal) x y z p : FVec Ideal S1x8x128x128 .f32) (ix4 0 a b q) = delta (x (ix4 0 a b q)) ((val_main_v212 (F := Ideal) y p : FVec Ideal S1x8x128x128 .f32) (ix4 0 a b q))
      ((val_main_v218 (F := Ideal) z p : FVec Ideal S1x8x128x128 .f32) (ix4 0 a b q)) := by
  unfold delta
  pointwise [val_main_v231, val_main_v230, val_main_v229, val_main_cst_95, val_main_v226, val_main_v228, val_main_v220, val_main_v225, val_main_v227, val_main_v219, val_main_v223, val_main_v224, val_main_cst_94, val_main_cst_91, val_main_v222, val_main_cst_93, val_main_v221, val_main_cst_92]
theorem g9 (p : FVec Ideal S8x1x8x128 .f32) (a : Fin 8) (q : Fin 128) :
    (val_main_v9 (F := Ideal) p : FVec Ideal S1x8x128 .f32) (ix3 0 a q) = ∑ k : Fin 8, p (ix4 k 0 a q) := by
  pointwise [val_main_v9, val_main_cst_8]
theorem m9 (x : FVec Ideal S1x8x128 .f32) (p : FVec Ideal S8x1x8x128 .f32) (a : Fin 8) (q : Fin 128) :
    (val_main_v236 (F := Ideal) x p : FVec Ideal S1x8x128 .f32) (ix3 0 a q) = mom (x (ix3 0 a q)) ((val_main_v9 (F := Ideal) p : FVec Ideal S1x8x128 .f32) (ix3 0 a q)) := by
  unfold mom
  pointwise [val_main_v236, val_main_v233, val_main_v235, val_main_v232, val_main_v234, val_main_cst_96, val_main_cst_97]
theorem v9 (x : FVec Ideal S1x8x128 .f32) (p : FVec Ideal S8x1x8x128 .f32) (a : Fin 8) (q : Fin 128) :
    (val_main_v242 (F := Ideal) x p : FVec Ideal S1x8x128 .f32) (ix3 0 a q) = var (x (ix3 0 a q)) ((val_main_v9 (F := Ideal) p : FVec Ideal S1x8x128 .f32) (ix3 0 a q)) := by
  unfold var
  pointwise [val_main_v242, val_main_v238, val_main_v241, val_main_v237, val_main_v240, val_main_v239, val_main_cst_98, val_main_cst_99]
theorem d9 (x y z : FVec Ideal S1x8x128 .f32) (p : FVec Ideal S8x1x8x128 .f32) (a : Fin 8) (q : Fin 128) :
    (val_main_v255 (F := Ideal) x y z p : FVec Ideal S1x8x128 .f32) (ix3 0 a q) = delta (x (ix3 0 a q)) ((val_main_v236 (F := Ideal) y p : FVec Ideal S1x8x128 .f32) (ix3 0 a q))
      ((val_main_v242 (F := Ideal) z p : FVec Ideal S1x8x128 .f32) (ix3 0 a q)) := by
  unfold delta
  pointwise [val_main_v255, val_main_v254, val_main_v253, val_main_cst_104, val_main_v250, val_main_v252, val_main_v244, val_main_v249, val_main_v251, val_main_v243, val_main_v247, val_main_v248, val_main_cst_103, val_main_cst_100, val_main_v246, val_main_cst_102, val_main_v245, val_main_cst_101]
theorem g10 (p : FVec Ideal S8x1x1024 .f32) (q : Fin 1024) :
    (val_main_v10 (F := Ideal) p : FVec Ideal S1x1024 .f32) (ix2 0 q) = ∑ k : Fin 8, p (ix3 k 0 q) := by
  pointwise [val_main_v10, val_main_cst_9]
theorem m10 (x : FVec Ideal S1x1024 .f32) (p : FVec Ideal S8x1x1024 .f32) (q : Fin 1024) :
    (val_main_v260 (F := Ideal) x p : FVec Ideal S1x1024 .f32) (ix2 0 q) = mom (x (ix2 0 q)) ((val_main_v10 (F := Ideal) p : FVec Ideal S1x1024 .f32) (ix2 0 q)) := by
  unfold mom
  pointwise [val_main_v260, val_main_v257, val_main_v259, val_main_v256, val_main_v258, val_main_cst_105, val_main_cst_106]
theorem v10 (x : FVec Ideal S1x1024 .f32) (p : FVec Ideal S8x1x1024 .f32) (q : Fin 1024) :
    (val_main_v266 (F := Ideal) x p : FVec Ideal S1x1024 .f32) (ix2 0 q) = var (x (ix2 0 q)) ((val_main_v10 (F := Ideal) p : FVec Ideal S1x1024 .f32) (ix2 0 q)) := by
  unfold var
  pointwise [val_main_v266, val_main_v262, val_main_v265, val_main_v261, val_main_v264, val_main_v263, val_main_cst_107, val_main_cst_108]
theorem d10 (x y z : FVec Ideal S1x1024 .f32) (p : FVec Ideal S8x1x1024 .f32) (q : Fin 1024) :
    (val_main_v279 (F := Ideal) x y z p : FVec Ideal S1x1024 .f32) (ix2 0 q) = delta (x (ix2 0 q)) ((val_main_v260 (F := Ideal) y p : FVec Ideal S1x1024 .f32) (ix2 0 q))
      ((val_main_v266 (F := Ideal) z p : FVec Ideal S1x1024 .f32) (ix2 0 q)) := by
  unfold delta
  pointwise [val_main_v279, val_main_v278, val_main_v277, val_main_cst_113, val_main_v274, val_main_v276, val_main_v268, val_main_v273, val_main_v275, val_main_v267, val_main_v271, val_main_v272, val_main_cst_112, val_main_cst_109, val_main_v270, val_main_cst_111, val_main_v269, val_main_cst_110]
theorem g11 (p : FVec Ideal S8x1x1024 .f32) (q : Fin 1024) :
    (val_main_v11 (F := Ideal) p : FVec Ideal S1x1024 .f32) (ix2 0 q) = ∑ k : Fin 8, p (ix3 k 0 q) := by
  pointwise [val_main_v11, val_main_cst_10]
theorem m11 (x : FVec Ideal S1x1024 .f32) (p : FVec Ideal S8x1x1024 .f32) (q : Fin 1024) :
    (val_main_v284 (F := Ideal) x p : FVec Ideal S1x1024 .f32) (ix2 0 q) = mom (x (ix2 0 q)) ((val_main_v11 (F := Ideal) p : FVec Ideal S1x1024 .f32) (ix2 0 q)) := by
  unfold mom
  pointwise [val_main_v284, val_main_v281, val_main_v283, val_main_v280, val_main_v282, val_main_cst_114, val_main_cst_115]
theorem v11 (x : FVec Ideal S1x1024 .f32) (p : FVec Ideal S8x1x1024 .f32) (q : Fin 1024) :
    (val_main_v290 (F := Ideal) x p : FVec Ideal S1x1024 .f32) (ix2 0 q) = var (x (ix2 0 q)) ((val_main_v11 (F := Ideal) p : FVec Ideal S1x1024 .f32) (ix2 0 q)) := by
  unfold var
  pointwise [val_main_v290, val_main_v286, val_main_v289, val_main_v285, val_main_v288, val_main_v287, val_main_cst_116, val_main_cst_117]
theorem d11 (x y z : FVec Ideal S1x1024 .f32) (p : FVec Ideal S8x1x1024 .f32) (q : Fin 1024) :
    (val_main_v303 (F := Ideal) x y z p : FVec Ideal S1x1024 .f32) (ix2 0 q) = delta (x (ix2 0 q)) ((val_main_v284 (F := Ideal) y p : FVec Ideal S1x1024 .f32) (ix2 0 q))
      ((val_main_v290 (F := Ideal) z p : FVec Ideal S1x1024 .f32) (ix2 0 q)) := by
  unfold delta
  pointwise [val_main_v303, val_main_v302, val_main_v301, val_main_cst_122, val_main_v298, val_main_v300, val_main_v292, val_main_v297, val_main_v299, val_main_v291, val_main_v295, val_main_v296, val_main_cst_121, val_main_cst_118, val_main_v294, val_main_cst_120, val_main_v293, val_main_cst_119]
theorem g12 (p : FVec Ideal S8x1x1024 .f32) (q : Fin 1024) :
    (val_main_v12 (F := Ideal) p : FVec Ideal S1x1024 .f32) (ix2 0 q) = ∑ k : Fin 8, p (ix3 k 0 q) := by
  pointwise [val_main_v12, val_main_cst_11]
theorem m12 (x : FVec Ideal S1x1024 .f32) (p : FVec Ideal S8x1x1024 .f32) (q : Fin 1024) :
    (val_main_v308 (F := Ideal) x p : FVec Ideal S1x1024 .f32) (ix2 0 q) = mom (x (ix2 0 q)) ((val_main_v12 (F := Ideal) p : FVec Ideal S1x1024 .f32) (ix2 0 q)) := by
  unfold mom
  pointwise [val_main_v308, val_main_v305, val_main_v307, val_main_v304, val_main_v306, val_main_cst_123, val_main_cst_124]
theorem v12 (x : FVec Ideal S1x1024 .f32) (p : FVec Ideal S8x1x1024 .f32) (q : Fin 1024) :
    (val_main_v314 (F := Ideal) x p : FVec Ideal S1x1024 .f32) (ix2 0 q) = var (x (ix2 0 q)) ((val_main_v12 (F := Ideal) p : FVec Ideal S1x1024 .f32) (ix2 0 q)) := by
  unfold var
  pointwise [val_main_v314, val_main_v310, val_main_v313, val_main_v309, val_main_v312, val_main_v311, val_main_cst_125, val_main_cst_126]
theorem d12 (x y z : FVec Ideal S1x1024 .f32) (p : FVec Ideal S8x1x1024 .f32) (q : Fin 1024) :
    (val_main_v327 (F := Ideal) x y z p : FVec Ideal S1x1024 .f32) (ix2 0 q) = delta (x (ix2 0 q)) ((val_main_v308 (F := Ideal) y p : FVec Ideal S1x1024 .f32) (ix2 0 q))
      ((val_main_v314 (F := Ideal) z p : FVec Ideal S1x1024 .f32) (ix2 0 q)) := by
  unfold delta
  pointwise [val_main_v327, val_main_v326, val_main_v325, val_main_cst_131, val_main_v322, val_main_v324, val_main_v316, val_main_v321, val_main_v323, val_main_v315, val_main_v319, val_main_v320, val_main_cst_130, val_main_cst_127, val_main_v318, val_main_cst_129, val_main_v317, val_main_cst_128]
theorem g13 (p : FVec Ideal S8x1x2048 .f32) (q : Fin 2048) :
    (val_main_v13 (F := Ideal) p : FVec Ideal S1x2048 .f32) (ix2 0 q) = ∑ k : Fin 8, p (ix3 k 0 q) := by
  pointwise [val_main_v13, val_main_cst_12]
theorem m13 (x : FVec Ideal S1x2048 .f32) (p : FVec Ideal S8x1x2048 .f32) (q : Fin 2048) :
    (val_main_v332 (F := Ideal) x p : FVec Ideal S1x2048 .f32) (ix2 0 q) = mom (x (ix2 0 q)) ((val_main_v13 (F := Ideal) p : FVec Ideal S1x2048 .f32) (ix2 0 q)) := by
  unfold mom
  pointwise [val_main_v332, val_main_v329, val_main_v331, val_main_v328, val_main_v330, val_main_cst_132, val_main_cst_133]
theorem v13 (x : FVec Ideal S1x2048 .f32) (p : FVec Ideal S8x1x2048 .f32) (q : Fin 2048) :
    (val_main_v338 (F := Ideal) x p : FVec Ideal S1x2048 .f32) (ix2 0 q) = var (x (ix2 0 q)) ((val_main_v13 (F := Ideal) p : FVec Ideal S1x2048 .f32) (ix2 0 q)) := by
  unfold var
  pointwise [val_main_v338, val_main_v334, val_main_v337, val_main_v333, val_main_v336, val_main_v335, val_main_cst_134, val_main_cst_135]
theorem d13 (x y z : FVec Ideal S1x2048 .f32) (p : FVec Ideal S8x1x2048 .f32) (q : Fin 2048) :
    (val_main_v351 (F := Ideal) x y z p : FVec Ideal S1x2048 .f32) (ix2 0 q) = delta (x (ix2 0 q)) ((val_main_v332 (F := Ideal) y p : FVec Ideal S1x2048 .f32) (ix2 0 q))
      ((val_main_v338 (F := Ideal) z p : FVec Ideal S1x2048 .f32) (ix2 0 q)) := by
  unfold delta
  pointwise [val_main_v351, val_main_v350, val_main_v349, val_main_cst_140, val_main_v346, val_main_v348, val_main_v340, val_main_v345, val_main_v347, val_main_v339, val_main_v343, val_main_v344, val_main_cst_139, val_main_cst_136, val_main_v342, val_main_cst_138, val_main_v341, val_main_cst_137]
theorem g14 (p : FVec Ideal S8x1x12288 .f32) (q : Fin 12288) :
    (val_main_v14 (F := Ideal) p : FVec Ideal S1x12288 .f32) (ix2 0 q) = ∑ k : Fin 8, p (ix3 k 0 q) := by
  pointwise [val_main_v14, val_main_cst_13]
theorem m14 (x : FVec Ideal S1x12288 .f32) (p : FVec Ideal S8x1x12288 .f32) (q : Fin 12288) :
    (val_main_v356 (F := Ideal) x p : FVec Ideal S1x12288 .f32) (ix2 0 q) = mom (x (ix2 0 q)) ((val_main_v14 (F := Ideal) p : FVec Ideal S1x12288 .f32) (ix2 0 q)) := by
  unfold mom
  pointwise [val_main_v356, val_main_v353, val_main_v355, val_main_v352, val_main_v354, val_main_cst_141, val_main_cst_142]
theorem v14 (x : FVec Ideal S1x12288 .f32) (p : FVec Ideal S8x1x12288 .f32) (q : Fin 12288) :
    (val_main_v362 (F := Ideal) x p : FVec Ideal S1x12288 .f32) (ix2 0 q) = var (x (ix2 0 q)) ((val_main_v14 (F := Ideal) p : FVec Ideal S1x12288 .f32) (ix2 0 q)) := by
  unfold var
  pointwise [val_main_v362, val_main_v358, val_main_v361, val_main_v357, val_main_v360, val_main_v359, val_main_cst_143, val_main_cst_144]
theorem d14 (x y z : FVec Ideal S1x12288 .f32) (p : FVec Ideal S8x1x12288 .f32) (q : Fin 12288) :
    (val_main_v375 (F := Ideal) x y z p : FVec Ideal S1x12288 .f32) (ix2 0 q) = delta (x (ix2 0 q)) ((val_main_v356 (F := Ideal) y p : FVec Ideal S1x12288 .f32) (ix2 0 q))
      ((val_main_v362 (F := Ideal) z p : FVec Ideal S1x12288 .f32) (ix2 0 q)) := by
  unfold delta
  pointwise [val_main_v375, val_main_v374, val_main_v373, val_main_cst_149, val_main_v370, val_main_v372, val_main_v364, val_main_v369, val_main_v371, val_main_v363, val_main_v367, val_main_v368, val_main_cst_148, val_main_cst_145, val_main_v366, val_main_cst_147, val_main_v365, val_main_cst_146]
theorem g15 (p : FVec Ideal S8x2048 .f32) (q : Fin 2048) :
    (val_main_v15 (F := Ideal) p : FVec Ideal S2048 .f32) (ix1 q) = ∑ k : Fin 8, p (ix2 k q) := by
  pointwise [val_main_v15, val_main_cst_14]
theorem m15 (x : FVec Ideal S2048 .f32) (p : FVec Ideal S8x2048 .f32) (q : Fin 2048) :
    (val_main_v380 (F := Ideal) x p : FVec Ideal S2048 .f32) (ix1 q) = mom (x (ix1 q)) ((val_main_v15 (F := Ideal) p : FVec Ideal S2048 .f32) (ix1 q)) := by
  unfold mom
  pointwise [val_main_v380, val_main_v377, val_main_v379, val_main_v376, val_main_v378, val_main_cst_150, val_main_cst_151]
theorem v15 (x : FVec Ideal S2048 .f32) (p : FVec Ideal S8x2048 .f32) (q : Fin 2048) :
    (val_main_v386 (F := Ideal) x p : FVec Ideal S2048 .f32) (ix1 q) = var (x (ix1 q)) ((val_main_v15 (F := Ideal) p : FVec Ideal S2048 .f32) (ix1 q)) := by
  unfold var
  pointwise [val_main_v386, val_main_v382, val_main_v385, val_main_v381, val_main_v384, val_main_v383, val_main_cst_152, val_main_cst_153]
theorem d15 (x y z : FVec Ideal S2048 .f32) (p : FVec Ideal S8x2048 .f32) (q : Fin 2048) :
    (val_main_v399 (F := Ideal) x y z p : FVec Ideal S2048 .f32) (ix1 q) = delta (x (ix1 q)) ((val_main_v380 (F := Ideal) y p : FVec Ideal S2048 .f32) (ix1 q))
      ((val_main_v386 (F := Ideal) z p : FVec Ideal S2048 .f32) (ix1 q)) := by
  unfold delta
  pointwise [val_main_v399, val_main_v398, val_main_v397, val_main_cst_158, val_main_v394, val_main_v396, val_main_v388, val_main_v393, val_main_v395, val_main_v387, val_main_v391, val_main_v392, val_main_cst_157, val_main_cst_154, val_main_v390, val_main_cst_156, val_main_v389, val_main_cst_155]
end Cert.ReferenceAdamSmallIdeal.At
-- ==== Proof.AdamSmallEnd.lean ====
/- AdamW on the sixteen small weights together, packed by rows of 128: the gradient is the eight chips' parts added up. -/
module
public import proofs.«01_k».proof.Proof.AdamSmallKernel
public import proofs.«01_k».proof.Proof.AdamSmallPack
public import proofs.«01_k».proof.Proof.AdamSmallOut
public import proofs.«01_k».proof.Proof.AdamSmallRef
@[expose] public section
set_option maxRecDepth 16384
noncomputable section
namespace Cert.KernelAdamSmallIdeal.Val
open Cert.KernelAdamSmallIdeal Cert.KernelAdamSmallIdeal.Gen Idealize.ShloMosaic Idealize.ShloMosaic.TcCoe Idealize.SL.Sem
open Idealize.ShloMosaic.Pipeline (Dat)
open Cert.Adam Cert.ReferenceAdamSmallIdeal.Read Cert.ReferenceAdamSmallIdeal.At
variable (m : (ℓ : Loc nD τ sig) → Buf (Elt Ideal) ℓ)
theorem sum_same (f g : Fin 8 → EReal) (h : ∀ k, f k = g k) : ∑ k, f k = ∑ k, g k := Finset.sum_congr rfl fun k _ => h k
theorem delta_congr {a a' b b' d d' : EReal} (ha : a = a') (hb : b = b') (hd : d = d') : delta a b d = delta a' b' d' := by
  rw [ha, hb, hd]
theorem one2 {n : ℕ} (j : (⟨2, ![1, n]⟩ : Shape).Idx) : ∃ q : Fin n, j = ix2 0 q :=
  ⟨j 1, (eq_ix2 j).trans (congrArg (fun u : Fin 1 => (ix2 u (j 1) : (⟨2, ![1, n]⟩ : Shape).Idx)) (Subsingleton.elim _ _))⟩
theorem one3 {a n : ℕ} (j : (⟨3, ![1, a, n]⟩ : Shape).Idx) : ∃ (p : Fin a) (q : Fin n), j = ix3 0 p q :=
  ⟨j 1, j 2, (eq_ix3 j).trans (congrArg (fun u : Fin 1 => (ix3 u (j 1) (j 2) : (⟨3, ![1, a, n]⟩ : Shape).Idx)) (Subsingleton.elim _ _))⟩
theorem one4 {a b n : ℕ} (j : (⟨4, ![1, a, b, n]⟩ : Shape).Idx) : ∃ (p : Fin a) (r : Fin b) (q : Fin n), j = ix4 0 p r q :=
  ⟨j 1, j 2, j 3, (eq_ix4 j).trans (congrArg (fun u : Fin 1 => (ix4 u (j 1) (j 2) (j 3) : (⟨4, ![1, a, b, n]⟩ : Shape).Idx)) (Subsingleton.elim _ _))⟩
/-- The contents when the operations after the region start. -/
abbrev AW (c : Dev nD) : Valuation τ sig (Elt Ideal) :=
  Pipeline.withArrays (cfgs 0).spec c (V0 m c) fun w => (dats m 0 c).arrAt w (cfgs 0).N
theorem aw0 (c : Dev nD) : (AW m c (Proc.devRef .tc main_v78_0) : FVec Ideal S3328x128 .f32) = G m c :=
  (Pipeline.Dat.withArrays_arrAt (dats m 0 c) sharedIn0 (V0 m c) (A_eq m c) 11).trans (final11 m c)
theorem aw1 (c : Dev nD) : (AW m c (Proc.devRef .tc main_v78_1) : FVec Ideal S3328x128 .f32) = DL m c :=
  (Pipeline.Dat.withArrays_arrAt (dats m 0 c) sharedIn0 (V0 m c) (A_eq m c) 12).trans (final12 m c)
theorem aw2 (c : Dev nD) : (AW m c (Proc.devRef .tc main_v78_2) : FVec Ideal S3328x128 .f32) = NM m c :=
  (Pipeline.Dat.withArrays_arrAt (dats m 0 c) sharedIn0 (V0 m c) (A_eq m c) 13).trans (final13 m c)
theorem aw3 (c : Dev nD) : (AW m c (Proc.devRef .tc main_v78_3) : FVec Ideal S3328x128 .f32) = NV m c :=
  (Pipeline.Dat.withArrays_arrAt (dats m 0 c) sharedIn0 (V0 m c) (A_eq m c) 14).trans (final14 m c)
theorem gAt0 (c : Dev nD) (q : Fin 2048) : G m c (ix2 ⟨q.val / 128, by omega⟩ ⟨q.val % 128, by omega⟩) = (val_main_v0 (F := Ideal) (m (c.tc.loc main_arg48)) : FVec Ideal S1x2048 .f32) (ix2 0 q) :=
  (sum_same (fun k => PT m c (ix3 k ⟨q.val / 128, by omega⟩ ⟨q.val % 128, by omega⟩)) (fun k => (m (c.tc.loc main_arg48) : FVec Ideal S8x1x2048 .f32) (ix3 k 0 q))
    fun k => (pkP0 m c k ⟨q.val / 128, by omega⟩ ⟨q.val % 128, by omega⟩).trans (atP0 m c k q)).trans (g0 _ q).symm
theorem nmAt0 (c : Dev nD) (q : Fin 2048) : NM m c (ix2 ⟨q.val / 128, by omega⟩ ⟨q.val % 128, by omega⟩) = (val_main_v20 (F := Ideal) (m (c.tc.loc main_arg16)) (m (c.tc.loc main_arg48)) : FVec Ideal S1x2048 .f32) (ix2 0 q) :=
  (congrArg₂ mom ((pkM0 m c ⟨q.val / 128, by omega⟩ ⟨q.val % 128, by omega⟩).trans (atM0 m c q)) (gAt0 m c q)).trans (m0 _ _ q).symm
theorem nvAt0 (c : Dev nD) (q : Fin 2048) : NV m c (ix2 ⟨q.val / 128, by omega⟩ ⟨q.val % 128, by omega⟩) = (val_main_v26 (F := Ideal) (m (c.tc.loc main_arg32)) (m (c.tc.loc main_arg48)) : FVec Ideal S1x2048 .f32) (ix2 0 q) :=
  (congrArg₂ var ((pkS0 m c ⟨q.val / 128, by omega⟩ ⟨q.val % 128, by omega⟩).trans (atS0 m c q)) (gAt0 m c q)).trans (v0 _ _ q).symm
theorem dlAt0 (c : Dev nD) (q : Fin 2048) : DL m c (ix2 ⟨q.val / 128, by omega⟩ ⟨q.val % 128, by omega⟩) = (val_main_v39 (F := Ideal) (m (c.tc.loc main_arg0)) (m (c.tc.loc main_arg16)) (m (c.tc.loc main_arg32)) (m (c.tc.loc main_arg48)) : FVec Ideal S1x2048 .f32) (ix2 0 q) :=
  (delta_congr ((pkX0 m c ⟨q.val / 128, by omega⟩ ⟨q.val % 128, by omega⟩).trans (atX0 m c q)) (nmAt0 m c q) (nvAt0 m c q)).trans (d0 _ _ _ _ q).symm
theorem end0_0 (c : Dev nD) :
    (StableHlo.after hostOps1 (AW m c) (Proc.devRef .tc main_v80) : FVec Ideal S1x2048 .f32) = (val_main_v0 (F := Ideal) (m (c.tc.loc main_arg48)) : FVec Ideal S1x2048 .f32) := by
  funext j
  obtain ⟨q, rfl⟩ : ∃ (q : Fin 2048), j = ix2 0 q := one2 j
  exact (res0_0 (AW m c) q).trans ((congrFun (aw0 m c) _).trans (gAt0 m c q))
theorem end1_0 (c : Dev nD) :
    (StableHlo.after hostOps1 (AW m c) (Proc.devRef .tc main_v112) : FVec Ideal S1x2048 .f32) = (val_main_v39 (F := Ideal) (m (c.tc.loc main_arg0)) (m (c.tc.loc main_arg16)) (m (c.tc.loc main_arg32)) (m (c.tc.loc main_arg48)) : FVec Ideal S1x2048 .f32) := by
  funext j
  obtain ⟨q, rfl⟩ : ∃ (q : Fin 2048), j = ix2 0 q := one2 j
  exact (res1_0 (AW m c) q).trans ((congrFun (aw1 m c) _).trans (dlAt0 m c q))
theorem end2_0 (c : Dev nD) :
    (StableHlo.after hostOps1 (AW m c) (Proc.devRef .tc main_v144) : FVec Ideal S1x2048 .f32) = (val_main_v20 (F := Ideal) (m (c.tc.loc main_arg16)) (m (c.tc.loc main_arg48)) : FVec Ideal S1x2048 .f32) := by
  funext j
  obtain ⟨q, rfl⟩ : ∃ (q : Fin 2048), j = ix2 0 q := one2 j
  exact (res2_0 (AW m c) q).trans ((congrFun (aw2 m c) _).trans (nmAt0 m c q))
theorem end3_0 (c : Dev nD) :
    (StableHlo.after hostOps1 (AW m c) (Proc.devRef .tc main_v176) : FVec Ideal S1x2048 .f32) = (val_main_v26 (F := Ideal) (m (c.tc.loc main_arg32)) (m (c.tc.loc main_arg48)) : FVec Ideal S1x2048 .f32) := by
  funext j
  obtain ⟨q, rfl⟩ : ∃ (q : Fin 2048), j = ix2 0 q := one2 j
  exact (res3_0 (AW m c) q).trans ((congrFun (aw3 m c) _).trans (nvAt0 m c q))
theorem gAt1 (c : Dev nD) (q : Fin 1024) : G m c (ix2 ⟨16 + q.val / 128, by omega⟩ ⟨q.val % 128, by omega⟩) = (val_main_v1 (F := Ideal) (m (c.tc.loc main_arg49)) : FVec Ideal S1x1024 .f32) (ix2 0 q) :=
  (sum_same (fun k => PT m c (ix3 k ⟨16 + q.val / 128, by omega⟩ ⟨q.val % 128, by omega⟩)) (fun k => (m (c.tc.loc main_arg49) : FVec Ideal S8x1x1024 .f32) (ix3 k 0 q))
    fun k => (pkP1 m c k ⟨q.val / 128, by omega⟩ ⟨q.val % 128, by omega⟩).trans (atP1 m c k q)).trans (g1 _ q).symm
theorem nmAt1 (c : Dev nD) (q : Fin 1024) : NM m c (ix2 ⟨16 + q.val / 128, by omega⟩ ⟨q.val % 128, by omega⟩) = (val_main_v44 (F := Ideal) (m (c.tc.loc main_arg17)) (m (c.tc.loc main_arg49)) : FVec Ideal S1x1024 .f32) (ix2 0 q) :=
  (congrArg₂ mom ((pkM1 m c ⟨q.val / 128, by omega⟩ ⟨q.val % 128, by omega⟩).trans (atM1 m c q)) (gAt1 m c q)).trans (m1 _ _ q).symm
theorem nvAt1 (c : Dev nD) (q : Fin 1024) : NV m c (ix2 ⟨16 + q.val / 128, by omega⟩ ⟨q.val % 128, by omega⟩) = (val_main_v50 (F := Ideal) (m (c.tc.loc main_arg33)) (m (c.tc.loc main_arg49)) : FVec Ideal S1x1024 .f32) (ix2 0 q) :=
  (congrArg₂ var ((pkS1 m c ⟨q.val / 128, by omega⟩ ⟨q.val % 128, by omega⟩).trans (atS1 m c q)) (gAt1 m c q)).trans (v1 _ _ q).symm
theorem dlAt1 (c : Dev nD) (q : Fin 1024) : DL m c (ix2 ⟨16 + q.val / 128, by omega⟩ ⟨q.val % 128, by omega⟩) = (val_main_v63 (F := Ideal) (m (c.tc.loc main_arg1)) (m (c.tc.loc main_arg17)) (m (c.tc.loc main_arg33)) (m (c.tc.loc main_arg49)) : FVec Ideal S1x1024 .f32) (ix2 0 q) :=
  (delta_congr ((pkX1 m c ⟨q.val / 128, by omega⟩ ⟨q.val % 128, by omega⟩).trans (atX1 m c q)) (nmAt1 m c q) (nvAt1 m c q)).trans (d1 _ _ _ _ q).symm
theorem end0_1 (c : Dev nD) :
    (StableHlo.after hostOps1 (AW m c) (Proc.devRef .tc main_v82) : FVec Ideal S1x1024 .f32) = (val_main_v1 (F := Ideal) (m (c.tc.loc main_arg49)) : FVec Ideal S1x1024 .f32) := by
  funext j
  obtain ⟨q, rfl⟩ : ∃ (q : Fin 1024), j = ix2 0 q := one2 j
  exact (res0_1 (AW m c) q).trans ((congrFun (aw0 m c) _).trans (gAt1 m c q))
theorem end1_1 (c : Dev nD) :
    (StableHlo.after hostOps1 (AW m c) (Proc.devRef .tc main_v114) : FVec Ideal S1x1024 .f32) = (val_main_v63 (F := Ideal) (m (c.tc.loc main_arg1)) (m (c.tc.loc main_arg17)) (m (c.tc.loc main_arg33)) (m (c.tc.loc main_arg49)) : FVec Ideal S1x1024 .f32) := by
  funext j
  obtain ⟨q, rfl⟩ : ∃ (q : Fin 1024), j = ix2 0 q := one2 j
  exact (res1_1 (AW m c) q).trans ((congrFun (aw1 m c) _).trans (dlAt1 m c q))
theorem end2_1 (c : Dev nD) :
    (StableHlo.after hostOps1 (AW m c) (Proc.devRef .tc main_v146) : FVec Ideal S1x1024 .f32) = (val_main_v44 (F := Ideal) (m (c.tc.loc main_arg17)) (m (c.tc.loc main_arg49)) : FVec Ideal S1x1024 .f32) := by
  funext j
  obtain ⟨q, rfl⟩ : ∃ (q : Fin 1024), j = ix2 0 q := one2 j
  exact (res2_1 (AW m c) q).trans ((congrFun (aw2 m c) _).trans (nmAt1 m c q))
theorem end3_1 (c : Dev nD) :
    (StableHlo.after hostOps1 (AW m c) (Proc.devRef .tc main_v178) : FVec Ideal S1x1024 .f32) = (val_main_v50 (F := Ideal) (m (c.tc.loc main_arg33)) (m (c.tc.loc main_arg49)) : FVec Ideal S1x1024 .f32) := by
  funext j
  obtain ⟨q, rfl⟩ : ∃ (q : Fin 1024), j = ix2 0 q := one2 j
  exact (res3_1 (AW m c) q).trans ((congrFun (aw3 m c) _).trans (nvAt1 m c q))
theorem gAt2 (c : Dev nD) (q : Fin 1024) : G m c (ix2 ⟨24 + q.val / 128, by omega⟩ ⟨q.val % 128, by omega⟩) = (val_main_v2 (F := Ideal) (m (c.tc.loc main_arg50)) : FVec Ideal S1x1024 .f32) (ix2 0 q) :=
  (sum_same (fun k => PT m c (ix3 k ⟨24 + q.val / 128, by omega⟩ ⟨q.val % 128, by omega⟩)) (fun k => (m (c.tc.loc main_arg50) : FVec Ideal S8x1x1024 .f32) (ix3 k 0 q))
    fun k => (pkP2 m c k ⟨q.val / 128, by omega⟩ ⟨q.val % 128, by omega⟩).trans (atP2 m c k q)).trans (g2 _ q).symm
theorem nmAt2 (c : Dev nD) (q : Fin 1024) : NM m c (ix2 ⟨24 + q.val / 128, by omega⟩ ⟨q.val % 128, by omega⟩) = (val_main_v68 (F := Ideal) (m (c.tc.loc main_arg18)) (m (c.tc.loc main_arg50)) : FVec Ideal S1x1024 .f32) (ix2 0 q) :=
  (congrArg₂ mom ((pkM2 m c ⟨q.val / 128, by omega⟩ ⟨q.val % 128, by omega⟩).trans (atM2 m c q)) (gAt2 m c q)).trans (m2 _ _ q).symm
theorem nvAt2 (c : Dev nD) (q : Fin 1024) : NV m c (ix2 ⟨24 + q.val / 128, by omega⟩ ⟨q.val % 128, by omega⟩) = (val_main_v74 (F := Ideal) (m (c.tc.loc main_arg34)) (m (c.tc.loc main_arg50)) : FVec Ideal S1x1024 .f32) (ix2 0 q) :=
  (congrArg₂ var ((pkS2 m c ⟨q.val / 128, by omega⟩ ⟨q.val % 128, by omega⟩).trans (atS2 m c q)) (gAt2 m c q)).trans (v2 _ _ q).symm
theorem dlAt2 (c : Dev nD) (q : Fin 1024) : DL m c (ix2 ⟨24 + q.val / 128, by omega⟩ ⟨q.val % 128, by omega⟩) = (val_main_v87 (F := Ideal) (m (c.tc.loc main_arg2)) (m (c.tc.loc main_arg18)) (m (c.tc.loc main_arg34)) (m (c.tc.loc main_arg50)) : FVec Ideal S1x1024 .f32) (ix2 0 q) :=
  (delta_congr ((pkX2 m c ⟨q.val / 128, by omega⟩ ⟨q.val % 128, by omega⟩).trans (atX2 m c q)) (nmAt2 m c q) (nvAt2 m c q)).trans (d2 _ _ _ _ q).symm
theorem end0_2 (c : Dev nD) :
    (StableHlo.after hostOps1 (AW m c) (Proc.devRef .tc main_v84) : FVec Ideal S1x1024 .f32) = (val_main_v2 (F := Ideal) (m (c.tc.loc main_arg50)) : FVec Ideal S1x1024 .f32) := by
  funext j
  obtain ⟨q, rfl⟩ : ∃ (q : Fin 1024), j = ix2 0 q := one2 j
  exact (res0_2 (AW m c) q).trans ((congrFun (aw0 m c) _).trans (gAt2 m c q))
theorem end1_2 (c : Dev nD) :
    (StableHlo.after hostOps1 (AW m c) (Proc.devRef .tc main_v116) : FVec Ideal S1x1024 .f32) = (val_main_v87 (F := Ideal) (m (c.tc.loc main_arg2)) (m (c.tc.loc main_arg18)) (m (c.tc.loc main_arg34)) (m (c.tc.loc main_arg50)) : FVec Ideal S1x1024 .f32) := by
  funext j
  obtain ⟨q, rfl⟩ : ∃ (q : Fin 1024), j = ix2 0 q := one2 j
  exact (res1_2 (AW m c) q).trans ((congrFun (aw1 m c) _).trans (dlAt2 m c q))
theorem end2_2 (c : Dev nD) :
    (StableHlo.after hostOps1 (AW m c) (Proc.devRef .tc main_v148) : FVec Ideal S1x1024 .f32) = (val_main_v68 (F := Ideal) (m (c.tc.loc main_arg18)) (m (c.tc.loc main_arg50)) : FVec Ideal S1x1024 .f32) := by
  funext j
  obtain ⟨q, rfl⟩ : ∃ (q : Fin 1024), j = ix2 0 q := one2 j
  exact (res2_2 (AW m c) q).trans ((congrFun (aw2 m c) _).trans (nmAt2 m c q))
theorem end3_2 (c : Dev nD) :
    (StableHlo.after hostOps1 (AW m c) (Proc.devRef .tc main_v180) : FVec Ideal S1x1024 .f32) = (val_main_v74 (F := Ideal) (m (c.tc.loc main_arg34)) (m (c.tc.loc main_arg50)) : FVec Ideal S1x1024 .f32) := by
  funext j
  obtain ⟨q, rfl⟩ : ∃ (q : Fin 1024), j = ix2 0 q := one2 j
  exact (res3_2 (AW m c) q).trans ((congrFun (aw3 m c) _).trans (nvAt2 m c q))
theorem gAt3 (c : Dev nD) (a : Fin 8) (b : Fin 128) (q : Fin 128) : G m c (ix2 ⟨32 + (a.val * 128 + b.val), by omega⟩ q) = (val_main_v3 (F := Ideal) (m (c.tc.loc main_arg51)) : FVec Ideal S1x8x128x128 .f32) (ix4 0 a b q) :=
  (sum_same (fun k => PT m c (ix3 k ⟨32 + (a.val * 128 + b.val), by omega⟩ q)) (fun k => (m (c.tc.loc main_arg51) : FVec Ideal S8x1x8x128x128 .f32) (ix5 k 0 a b q))
    fun k => (pkP3 m c k ⟨a.val * 128 + b.val, by omega⟩ q).trans (atP3 m c k a b q)).trans (g3 _ a b q).symm
theorem nmAt3 (c : Dev nD) (a : Fin 8) (b : Fin 128) (q : Fin 128) : NM m c (ix2 ⟨32 + (a.val * 128 + b.val), by omega⟩ q) = (val_main_v92 (F := Ideal) (m (c.tc.loc main_arg19)) (m (c.tc.loc main_arg51)) : FVec Ideal S1x8x128x128 .f32) (ix4 0 a b q) :=
  (congrArg₂ mom ((pkM3 m c ⟨a.val * 128 + b.val, by omega⟩ q).trans (atM3 m c a b q)) (gAt3 m c a b q)).trans (m3 _ _ a b q).symm
theorem nvAt3 (c : Dev nD) (a : Fin 8) (b : Fin 128) (q : Fin 128) : NV m c (ix2 ⟨32 + (a.val * 128 + b.val), by omega⟩ q) = (val_main_v98 (F := Ideal) (m (c.tc.loc main_arg35)) (m (c.tc.loc main_arg51)) : FVec Ideal S1x8x128x128 .f32) (ix4 0 a b q) :=
  (congrArg₂ var ((pkS3 m c ⟨a.val * 128 + b.val, by omega⟩ q).trans (atS3 m c a b q)) (gAt3 m c a b q)).trans (v3 _ _ a b q).symm
theorem dlAt3 (c : Dev nD) (a : Fin 8) (b : Fin 128) (q : Fin 128) : DL m c (ix2 ⟨32 + (a.val * 128 + b.val), by omega⟩ q) = (val_main_v111 (F := Ideal) (m (c.tc.loc main_arg3)) (m (c.tc.loc main_arg19)) (m (c.tc.loc main_arg35)) (m (c.tc.loc main_arg51)) : FVec Ideal S1x8x128x128 .f32) (ix4 0 a b q) :=
  (delta_congr ((pkX3 m c ⟨a.val * 128 + b.val, by omega⟩ q).trans (atX3 m c a b q)) (nmAt3 m c a b q) (nvAt3 m c a b q)).trans (d3 _ _ _ _ a b q).symm
theorem end0_3 (c : Dev nD) :
    (StableHlo.after hostOps1 (AW m c) (Proc.devRef .tc main_v86) : FVec Ideal S1x8x128x128 .f32) = (val_main_v3 (F := Ideal) (m (c.tc.loc main_arg51)) : FVec Ideal S1x8x128x128 .f32) := by
  funext j
  obtain ⟨a, b, q, rfl⟩ : ∃ (a : Fin 8) (b : Fin 128) (q : Fin 128), j = ix4 0 a b q := one4 j
  exact (res0_3 (AW m c) a b q).trans ((congrFun (aw0 m c) _).trans (gAt3 m c a b q))
theorem end1_3 (c : Dev nD) :
    (StableHlo.after hostOps1 (AW m c) (Proc.devRef .tc main_v118) : FVec Ideal S1x8x128x128 .f32) = (val_main_v111 (F := Ideal) (m (c.tc.loc main_arg3)) (m (c.tc.loc main_arg19)) (m (c.tc.loc main_arg35)) (m (c.tc.loc main_arg51)) : FVec Ideal S1x8x128x128 .f32) := by
  funext j
  obtain ⟨a, b, q, rfl⟩ : ∃ (a : Fin 8) (b : Fin 128) (q : Fin 128), j = ix4 0 a b q := one4 j
  exact (res1_3 (AW m c) a b q).trans ((congrFun (aw1 m c) _).trans (dlAt3 m c a b q))
theorem end2_3 (c : Dev nD) :
    (StableHlo.after hostOps1 (AW m c) (Proc.devRef .tc main_v150) : FVec Ideal S1x8x128x128 .f32) = (val_main_v92 (F := Ideal) (m (c.tc.loc main_arg19)) (m (c.tc.loc main_arg51)) : FVec Ideal S1x8x128x128 .f32) := by
  funext j
  obtain ⟨a, b, q, rfl⟩ : ∃ (a : Fin 8) (b : Fin 128) (q : Fin 128), j = ix4 0 a b q := one4 j
  exact (res2_3 (AW m c) a b q).trans ((congrFun (aw2 m c) _).trans (nmAt3 m c a b q))
theorem end3_3 (c : Dev nD) :
    (StableHlo.after hostOps1 (AW m c) (Proc.devRef .tc main_v182) : FVec Ideal S1x8x128x128 .f32) = (val_main_v98 (F := Ideal) (m (c.tc.loc main_arg35)) (m (c.tc.loc main_arg51)) : FVec Ideal S1x8x128x128 .f32) := by
  funext j
  obtain ⟨a, b, q, rfl⟩ : ∃ (a : Fin 8) (b : Fin 128) (q : Fin 128), j = ix4 0 a b q := one4 j
  exact (res3_3 (AW m c) a b q).trans ((congrFun (aw3 m c) _).trans (nvAt3 m c a b q))
theorem gAt4 (c : Dev nD) (a : Fin 8) (q : Fin 128) : G m c (ix2 ⟨1056 + a.val, by omega⟩ q) = (val_main_v4 (F := Ideal) (m (c.tc.loc main_arg52)) : FVec Ideal S1x8x128 .f32) (ix3 0 a q) :=
  (sum_same (fun k => PT m c (ix3 k ⟨1056 + a.val, by omega⟩ q)) (fun k => (m (c.tc.loc main_arg52) : FVec Ideal S8x1x8x128 .f32) (ix4 k 0 a q))
    fun k => (pkP4 m c k a q).trans (atP4 m c k a q)).trans (g4 _ a q).symm
theorem nmAt4 (c : Dev nD) (a : Fin 8) (q : Fin 128) : NM m c (ix2 ⟨1056 + a.val, by omega⟩ q) = (val_main_v116 (F := Ideal) (m (c.tc.loc main_arg20)) (m (c.tc.loc main_arg52)) : FVec Ideal S1x8x128 .f32) (ix3 0 a q) :=
  (congrArg₂ mom ((pkM4 m c a q).trans (atM4 m c a q)) (gAt4 m c a q)).trans (m4 _ _ a q).symm
theorem nvAt4 (c : Dev nD) (a : Fin 8) (q : Fin 128) : NV m c (ix2 ⟨1056 + a.val, by omega⟩ q) = (val_main_v122 (F := Ideal) (m (c.tc.loc main_arg36)) (m (c.tc.loc main_arg52)) : FVec Ideal S1x8x128 .f32) (ix3 0 a q) :=
  (congrArg₂ var ((pkS4 m c a q).trans (atS4 m c a q)) (gAt4 m c a q)).trans (v4 _ _ a q).symm
theorem dlAt4 (c : Dev nD) (a : Fin 8) (q : Fin 128) : DL m c (ix2 ⟨1056 + a.val, by omega⟩ q) = (val_main_v135 (F := Ideal) (m (c.tc.loc main_arg4)) (m (c.tc.loc main_arg20)) (m (c.tc.loc main_arg36)) (m (c.tc.loc main_arg52)) : FVec Ideal S1x8x128 .f32) (ix3 0 a q) :=
  (delta_congr ((pkX4 m c a q).trans (atX4 m c a q)) (nmAt4 m c a q) (nvAt4 m c a q)).trans (d4 _ _ _ _ a q).symm
theorem end0_4 (c : Dev nD) :
    (StableHlo.after hostOps1 (AW m c) (Proc.devRef .tc main_v88) : FVec Ideal S1x8x128 .f32) = (val_main_v4 (F := Ideal) (m (c.tc.loc main_arg52)) : FVec Ideal S1x8x128 .f32) := by
  funext j
  obtain ⟨a, q, rfl⟩ : ∃ (a : Fin 8) (q : Fin 128), j = ix3 0 a q := one3 j
  exact (res0_4 (AW m c) a q).trans ((congrFun (aw0 m c) _).trans (gAt4 m c a q))
theorem end1_4 (c : Dev nD) :
    (StableHlo.after hostOps1 (AW m c) (Proc.devRef .tc main_v120) : FVec Ideal S1x8x128 .f32) = (val_main_v135 (F := Ideal) (m (c.tc.loc main_arg4)) (m (c.tc.loc main_arg20)) (m (c.tc.loc main_arg36)) (m (c.tc.loc main_arg52)) : FVec Ideal S1x8x128 .f32) := by
  funext j
  obtain ⟨a, q, rfl⟩ : ∃ (a : Fin 8) (q : Fin 128), j = ix3 0 a q := one3 j
  exact (res1_4 (AW m c) a q).trans ((congrFun (aw1 m c) _).trans (dlAt4 m c a q))
theorem end2_4 (c : Dev nD) :
    (StableHlo.after hostOps1 (AW m c) (Proc.devRef .tc main_v152) : FVec Ideal S1x8x128 .f32) = (val_main_v116 (F := Ideal) (m (c.tc.loc main_arg20)) (m (c.tc.loc main_arg52)) : FVec Ideal S1x8x128 .f32) := by
  funext j
  obtain ⟨a, q, rfl⟩ : ∃ (a : Fin 8) (q : Fin 128), j = ix3 0 a q := one3 j
  exact (res2_4 (AW m c) a q).trans ((congrFun (aw2 m c) _).trans (nmAt4 m c a q))
theorem end3_4 (c : Dev nD) :
    (StableHlo.after hostOps1 (AW m c) (Proc.devRef .tc main_v184) : FVec Ideal S1x8x128 .f32) = (val_main_v122 (F := Ideal) (m (c.tc.loc main_arg36)) (m (c.tc.loc main_arg52)) : FVec Ideal S1x8x128 .f32) := by
  funext j
  obtain ⟨a, q, rfl⟩ : ∃ (a : Fin 8) (q : Fin 128), j = ix3 0 a q := one3 j
  exact (res3_4 (AW m c) a q).trans ((congrFun (aw3 m c) _).trans (nvAt4 m c a q))
theorem gAt5 (c : Dev nD) (q : Fin 1024) : G m c (ix2 ⟨1064 + q.val / 128, by omega⟩ ⟨q.val % 128, by omega⟩) = (val_main_v5 (F := Ideal) (m (c.tc.loc main_arg53)) : FVec Ideal S1x1024 .f32) (ix2 0 q) :=
  (sum_same (fun k => PT m c (ix3 k ⟨1064 + q.val / 128, by omega⟩ ⟨q.val % 128, by omega⟩)) (fun k => (m (c.tc.loc main_arg53) : FVec Ideal S8x1x1024 .f32) (ix3 k 0 q))
    fun k => (pkP5 m c k ⟨q.val / 128, by omega⟩ ⟨q.val % 128, by omega⟩).trans (atP5 m c k q)).trans (g5 _ q).symm
theorem nmAt5 (c : Dev nD) (q : Fin 1024) : NM m c (ix2 ⟨1064 + q.val / 128, by omega⟩ ⟨q.val % 128, by omega⟩) = (val_main_v140 (F := Ideal) (m (c.tc.loc main_arg21)) (m (c.tc.loc main_arg53)) : FVec Ideal S1x1024 .f32) (ix2 0 q) :=
  (congrArg₂ mom ((pkM5 m c ⟨q.val / 128, by omega⟩ ⟨q.val % 128, by omega⟩).trans (atM5 m c q)) (gAt5 m c q)).trans (m5 _ _ q).symm
theorem nvAt5 (c : Dev nD) (q : Fin 1024) : NV m c (ix2 ⟨1064 + q.val / 128, by omega⟩ ⟨q.val % 128, by omega⟩) = (val_main_v146 (F := Ideal) (m (c.tc.loc main_arg37)) (m (c.tc.loc main_arg53)) : FVec Ideal S1x1024 .f32) (ix2 0 q) :=
  (congrArg₂ var ((pkS5 m c ⟨q.val / 128, by omega⟩ ⟨q.val % 128, by omega⟩).trans (atS5 m c q)) (gAt5 m c q)).trans (v5 _ _ q).symm
theorem dlAt5 (c : Dev nD) (q : Fin 1024) : DL m c (ix2 ⟨1064 + q.val / 128, by omega⟩ ⟨q.val % 128, by omega⟩) = (val_main_v159 (F := Ideal) (m (c.tc.loc main_arg5)) (m (c.tc.loc main_arg21)) (m (c.tc.loc main_arg37)) (m (c.tc.loc main_arg53)) : FVec Ideal S1x1024 .f32) (ix2 0 q) :=
  (delta_congr ((pkX5 m c ⟨q.val / 128, by omega⟩ ⟨q.val % 128, by omega⟩).trans (atX5 m c q)) (nmAt5 m c q) (nvAt5 m c q)).trans (d5 _ _ _ _ q).symm
theorem end0_5 (c : Dev nD) :
    (StableHlo.after hostOps1 (AW m c) (Proc.devRef .tc main_v90) : FVec Ideal S1x1024 .f32) = (val_main_v5 (F := Ideal) (m (c.tc.loc main_arg53)) : FVec Ideal S1x1024 .f32) := by
  funext j
  obtain ⟨q, rfl⟩ : ∃ (q : Fin 1024), j = ix2 0 q := one2 j
  exact (res0_5 (AW m c) q).trans ((congrFun (aw0 m c) _).trans (gAt5 m c q))
theorem end1_5 (c : Dev nD) :
    (StableHlo.after hostOps1 (AW m c) (Proc.devRef .tc main_v122) : FVec Ideal S1x1024 .f32) = (val_main_v159 (F := Ideal) (m (c.tc.loc main_arg5)) (m (c.tc.loc main_arg21)) (m (c.tc.loc main_arg37)) (m (c.tc.loc main_arg53)) : FVec Ideal S1x1024 .f32) := by
  funext j
  obtain ⟨q, rfl⟩ : ∃ (q : Fin 1024), j = ix2 0 q := one2 j
  exact (res1_5 (AW m c) q).trans ((congrFun (aw1 m c) _).trans (dlAt5 m c q))
theorem end2_5 (c : Dev nD) :
    (StableHlo.after hostOps1 (AW m c) (Proc.devRef .tc main_v154) : FVec Ideal S1x1024 .f32) = (val_main_v140 (F := Ideal) (m (c.tc.loc main_arg21)) (m (c.tc.loc main_arg53)) : FVec Ideal S1x1024 .f32) := by
  funext j
  obtain ⟨q, rfl⟩ : ∃ (q : Fin 1024), j = ix2 0 q := one2 j
  exact (res2_5 (AW m c) q).trans ((congrFun (aw2 m c) _).trans (nmAt5 m c q))
theorem end3_5 (c : Dev nD) :
    (StableHlo.after hostOps1 (AW m c) (Proc.devRef .tc main_v186) : FVec Ideal S1x1024 .f32) = (val_main_v146 (F := Ideal) (m (c.tc.loc main_arg37)) (m (c.tc.loc main_arg53)) : FVec Ideal S1x1024 .f32) := by
  funext j
  obtain ⟨q, rfl⟩ : ∃ (q : Fin 1024), j = ix2 0 q := one2 j
  exact (res3_5 (AW m c) q).trans ((congrFun (aw3 m c) _).trans (nvAt5 m c q))
theorem gAt6 (c : Dev nD) (a : Fin 8) (b : Fin 128) (q : Fin 128) : G m c (ix2 ⟨1072 + (a.val * 128 + b.val), by omega⟩ q) = (val_main_v6 (F := Ideal) (m (c.tc.loc main_arg54)) : FVec Ideal S1x8x128x128 .f32) (ix4 0 a b q) :=
  (sum_same (fun k => PT m c (ix3 k ⟨1072 + (a.val * 128 + b.val), by omega⟩ q)) (fun k => (m (c.tc.loc main_arg54) : FVec Ideal S8x1x8x128x128 .f32) (ix5 k 0 a b q))
    fun k => (pkP6 m c k ⟨a.val * 128 + b.val, by omega⟩ q).trans (atP6 m c k a b q)).trans (g6 _ a b q).symm
theorem nmAt6 (c : Dev nD) (a : Fin 8) (b : Fin 128) (q : Fin 128) : NM m c (ix2 ⟨1072 + (a.val * 128 + b.val), by omega⟩ q) = (val_main_v164 (F := Ideal) (m (c.tc.loc main_arg22)) (m (c.tc.loc main_arg54)) : FVec Ideal S1x8x128x128 .f32) (ix4 0 a b q) :=
  (congrArg₂ mom ((pkM6 m c ⟨a.val * 128 + b.val, by omega⟩ q).trans (atM6 m c a b q)) (gAt6 m c a b q)).trans (m6 _ _ a b q).symm
theorem nvAt6 (c : Dev nD) (a : Fin 8) (b : Fin 128) (q : Fin 128) : NV m c (ix2 ⟨1072 + (a.val * 128 + b.val), by omega⟩ q) = (val_main_v170 (F := Ideal) (m (c.tc.loc main_arg38)) (m (c.tc.loc main_arg54)) : FVec Ideal S1x8x128x128 .f32) (ix4 0 a b q) :=
  (congrArg₂ var ((pkS6 m c ⟨a.val * 128 + b.val, by omega⟩ q).trans (atS6 m c a b q)) (gAt6 m c a b q)).trans (v6 _ _ a b q).symm
theorem dlAt6 (c : Dev nD) (a : Fin 8) (b : Fin 128) (q : Fin 128) : DL m c (ix2 ⟨1072 + (a.val * 128 + b.val), by omega⟩ q) = (val_main_v183 (F := Ideal) (m (c.tc.loc main_arg6)) (m (c.tc.loc main_arg22)) (m (c.tc.loc main_arg38)) (m (c.tc.loc main_arg54)) : FVec Ideal S1x8x128x128 .f32) (ix4 0 a b q) :=
  (delta_congr ((pkX6 m c ⟨a.val * 128 + b.val, by omega⟩ q).trans (atX6 m c a b q)) (nmAt6 m c a b q) (nvAt6 m c a b q)).trans (d6 _ _ _ _ a b q).symm
theorem end0_6 (c : Dev nD) :
    (StableHlo.after hostOps1 (AW m c) (Proc.devRef .tc main_v92) : FVec Ideal S1x8x128x128 .f32) = (val_main_v6 (F := Ideal) (m (c.tc.loc main_arg54)) : FVec Ideal S1x8x128x128 .f32) := by
  funext j
  obtain ⟨a, b, q, rfl⟩ : ∃ (a : Fin 8) (b : Fin 128) (q : Fin 128), j = ix4 0 a b q := one4 j
  exact (res0_6 (AW m c) a b q).trans ((congrFun (aw0 m c) _).trans (gAt6 m c a b q))
theorem end1_6 (c : Dev nD) :
    (StableHlo.after hostOps1 (AW m c) (Proc.devRef .tc main_v124) : FVec Ideal S1x8x128x128 .f32) = (val_main_v183 (F := Ideal) (m (c.tc.loc main_arg6)) (m (c.tc.loc main_arg22)) (m (c.tc.loc main_arg38)) (m (c.tc.loc main_arg54)) : FVec Ideal S1x8x128x128 .f32) := by
  funext j
  obtain ⟨a, b, q, rfl⟩ : ∃ (a : Fin 8) (b : Fin 128) (q : Fin 128), j = ix4 0 a b q := one4 j
  exact (res1_6 (AW m c) a b q).trans ((congrFun (aw1 m c) _).trans (dlAt6 m c a b q))
theorem end2_6 (c : Dev nD) :
    (StableHlo.after hostOps1 (AW m c) (Proc.devRef .tc main_v156) : FVec Ideal S1x8x128x128 .f32) = (val_main_v164 (F := Ideal) (m (c.tc.loc main_arg22)) (m (c.tc.loc main_arg54)) : FVec Ideal S1x8x128x128 .f32) := by
  funext j
  obtain ⟨a, b, q, rfl⟩ : ∃ (a : Fin 8) (b : Fin 128) (q : Fin 128), j = ix4 0 a b q := one4 j
  exact (res2_6 (AW m c) a b q).trans ((congrFun (aw2 m c) _).trans (nmAt6 m c a b q))
theorem end3_6 (c : Dev nD) :
    (StableHlo.after hostOps1 (AW m c) (Proc.devRef .tc main_v188) : FVec Ideal S1x8x128x128 .f32) = (val_main_v170 (F := Ideal) (m (c.tc.loc main_arg38)) (m (c.tc.loc main_arg54)) : FVec Ideal S1x8x128x128 .f32) := by
  funext j
  obtain ⟨a, b, q, rfl⟩ : ∃ (a : Fin 8) (b : Fin 128) (q : Fin 128), j = ix4 0 a b q := one4 j
  exact (res3_6 (AW m c) a b q).trans ((congrFun (aw3 m c) _).trans (nvAt6 m c a b q))
theorem gAt7 (c : Dev nD) (a : Fin 8) (q : Fin 128) : G m c (ix2 ⟨2096 + a.val, by omega⟩ q) = (val_main_v7 (F := Ideal) (m (c.tc.loc main_arg55)) : FVec Ideal S1x8x128 .f32) (ix3 0 a q) :=
  (sum_same (fun k => PT m c (ix3 k ⟨2096 + a.val, by omega⟩ q)) (fun k => (m (c.tc.loc main_arg55) : FVec Ideal S8x1x8x128 .f32) (ix4 k 0 a q))
    fun k => (pkP7 m c k a q).trans (atP7 m c k a q)).trans (g7 _ a q).symm
theorem nmAt7 (c : Dev nD) (a : Fin 8) (q : Fin 128) : NM m c (ix2 ⟨2096 + a.val, by omega⟩ q) = (val_main_v188 (F := Ideal) (m (c.tc.loc main_arg23)) (m (c.tc.loc main_arg55)) : FVec Ideal S1x8x128 .f32) (ix3 0 a q) :=
  (congrArg₂ mom ((pkM7 m c a q).trans (atM7 m c a q)) (gAt7 m c a q)).trans (m7 _ _ a q).symm
theorem nvAt7 (c : Dev nD) (a : Fin 8) (q : Fin 128) : NV m c (ix2 ⟨2096 + a.val, by omega⟩ q) = (val_main_v194 (F := Ideal) (m (c.tc.loc main_arg39)) (m (c.tc.loc main_arg55)) : FVec Ideal S1x8x128 .f32) (ix3 0 a q) :=
  (congrArg₂ var ((pkS7 m c a q).trans (atS7 m c a q)) (gAt7 m c a q)).trans (v7 _ _ a q).symm
theorem dlAt7 (c : Dev nD) (a : Fin 8) (q : Fin 128) : DL m c (ix2 ⟨2096 + a.val, by omega⟩ q) = (val_main_v207 (F := Ideal) (m (c.tc.loc main_arg7)) (m (c.tc.loc main_arg23)) (m (c.tc.loc main_arg39)) (m (c.tc.loc main_arg55)) : FVec Ideal S1x8x128 .f32) (ix3 0 a q) :=
  (delta_congr ((pkX7 m c a q).trans (atX7 m c a q)) (nmAt7 m c a q) (nvAt7 m c a q)).trans (d7 _ _ _ _ a q).symm
theorem end0_7 (c : Dev nD) :
    (StableHlo.after hostOps1 (AW m c) (Proc.devRef .tc main_v94) : FVec Ideal S1x8x128 .f32) = (val_main_v7 (F := Ideal) (m (c.tc.loc main_arg55)) : FVec Ideal S1x8x128 .f32) := by
  funext j
  obtain ⟨a, q, rfl⟩ : ∃ (a : Fin 8) (q : Fin 128), j = ix3 0 a q := one3 j
  exact (res0_7 (AW m c) a q).trans ((congrFun (aw0 m c) _).trans (gAt7 m c a q))
theorem end1_7 (c : Dev nD) :
    (StableHlo.after hostOps1 (AW m c) (Proc.devRef .tc main_v126) : FVec Ideal S1x8x128 .f32) = (val_main_v207 (F := Ideal) (m (c.tc.loc main_arg7)) (m (c.tc.loc main_arg23)) (m (c.tc.loc main_arg39)) (m (c.tc.loc main_arg55)) : FVec Ideal S1x8x128 .f32) := by
  funext j
  obtain ⟨a, q, rfl⟩ : ∃ (a : Fin 8) (q : Fin 128), j = ix3 0 a q := one3 j
  exact (res1_7 (AW m c) a q).trans ((congrFun (aw1 m c) _).trans (dlAt7 m c a q))
theorem end2_7 (c : Dev nD) :
    (StableHlo.after hostOps1 (AW m c) (Proc.devRef .tc main_v158) : FVec Ideal S1x8x128 .f32) = (val_main_v188 (F := Ideal) (m (c.tc.loc main_arg23)) (m (c.tc.loc main_arg55)) : FVec Ideal S1x8x128 .f32) := by
  funext j
  obtain ⟨a, q, rfl⟩ : ∃ (a : Fin 8) (q : Fin 128), j = ix3 0 a q := one3 j
  exact (res2_7 (AW m c) a q).trans ((congrFun (aw2 m c) _).trans (nmAt7 m c a q))
theorem end3_7 (c : Dev nD) :
    (StableHlo.after hostOps1 (AW m c) (Proc.devRef .tc main_v190) : FVec Ideal S1x8x128 .f32) = (val_main_v194 (F := Ideal) (m (c.tc.loc main_arg39)) (m (c.tc.loc main_arg55)) : FVec Ideal S1x8x128 .f32) := by
  funext j
  obtain ⟨a, q, rfl⟩ : ∃ (a : Fin 8) (q : Fin 128), j = ix3 0 a q := one3 j
  exact (res3_7 (AW m c) a q).trans ((congrFun (aw3 m c) _).trans (nvAt7 m c a q))
theorem gAt8 (c : Dev nD) (a : Fin 8) (b : Fin 128) (q : Fin 128) : G m c (ix2 ⟨2104 + (a.val * 128 + b.val), by omega⟩ q) = (val_main_v8 (F := Ideal) (m (c.tc.loc main_arg56)) : FVec Ideal S1x8x128x128 .f32) (ix4 0 a b q) :=
  (sum_same (fun k => PT m c (ix3 k ⟨2104 + (a.val * 128 + b.val), by omega⟩ q)) (fun k => (m (c.tc.loc main_arg56) : FVec Ideal S8x1x8x128x128 .f32) (ix5 k 0 a b q))
    fun k => (pkP8 m c k ⟨a.val * 128 + b.val, by omega⟩ q).trans (atP8 m c k a b q)).trans (g8 _ a b q).symm
theorem nmAt8 (c : Dev nD) (a : Fin 8) (b : Fin 128) (q : Fin 128) : NM m c (ix2 ⟨2104 + (a.val * 128 + b.val), by omega⟩ q) = (val_main_v212 (F := Ideal) (m (c.tc.loc main_arg24)) (m (c.tc.loc main_arg56)) : FVec Ideal S1x8x128x128 .f32) (ix4 0 a b q) :=
  (congrArg₂ mom ((pkM8 m c ⟨a.val * 128 + b.val, by omega⟩ q).trans (atM8 m c a b q)) (gAt8 m c a b q)).trans (m8 _ _ a b q).symm
theorem nvAt8 (c : Dev nD) (a : Fin 8) (b : Fin 128) (q : Fin 128) : NV m c (ix2 ⟨2104 + (a.val * 128 + b.val), by omega⟩ q) = (val_main_v218 (F := Ideal) (m (c.tc.loc main_arg40)) (m (c.tc.loc main_arg56)) : FVec Ideal S1x8x128x128 .f32) (ix4 0 a b q) :=
  (congrArg₂ var ((pkS8 m c ⟨a.val * 128 + b.val, by omega⟩ q).trans (atS8 m c a b q)) (gAt8 m c a b q)).trans (v8 _ _ a b q).symm
theorem dlAt8 (c : Dev nD) (a : Fin 8) (b : Fin 128) (q : Fin 128) : DL m c (ix2 ⟨2104 + (a.val * 128 + b.val), by omega⟩ q) = (val_main_v231 (F := Ideal) (m (c.tc.loc main_arg8)) (m (c.tc.loc main_arg24)) (m (c.tc.loc main_arg40)) (m (c.tc.loc main_arg56)) : FVec Ideal S1x8x128x128 .f32) (ix4 0 a b q) :=
  (delta_congr ((pkX8 m c ⟨a.val * 128 + b.val, by omega⟩ q).trans (atX8 m c a b q)) (nmAt8 m c a b q) (nvAt8 m c a b q)).trans (d8 _ _ _ _ a b q).symm
theorem end0_8 (c : Dev nD) :
    (StableHlo.after hostOps1 (AW m c) (Proc.devRef .tc main_v96) : FVec Ideal S1x8x128x128 .f32) = (val_main_v8 (F := Ideal) (m (c.tc.loc main_arg56)) : FVec Ideal S1x8x128x128 .f32) := by
  funext j
  obtain ⟨a, b, q, rfl⟩ : ∃ (a : Fin 8) (b : Fin 128) (q : Fin 128), j = ix4 0 a b q := one4 j
  exact (res0_8 (AW m c) a b q).trans ((congrFun (aw0 m c) _).trans (gAt8 m c a b q))
theorem end1_8 (c : Dev nD) :
    (StableHlo.after hostOps1 (AW m c) (Proc.devRef .tc main_v128) : FVec Ideal S1x8x128x128 .f32) = (val_main_v231 (F := Ideal) (m (c.tc.loc main_arg8)) (m (c.tc.loc main_arg24)) (m (c.tc.loc main_arg40)) (m (c.tc.loc main_arg56)) : FVec Ideal S1x8x128x128 .f32) := by
  funext j
  obtain ⟨a, b, q, rfl⟩ : ∃ (a : Fin 8) (b : Fin 128) (q : Fin 128), j = ix4 0 a b q := one4 j
  exact (res1_8 (AW m c) a b q).trans ((congrFun (aw1 m c) _).trans (dlAt8 m c a b q))
theorem end2_8 (c : Dev nD) :
    (StableHlo.after hostOps1 (AW m c) (Proc.devRef .tc main_v160) : FVec Ideal S1x8x128x128 .f32) = (val_main_v212 (F := Ideal) (m (c.tc.loc main_arg24)) (m (c.tc.loc main_arg56)) : FVec Ideal S1x8x128x128 .f32) := by
  funext j
  obtain ⟨a, b, q, rfl⟩ : ∃ (a : Fin 8) (b : Fin 128) (q : Fin 128), j = ix4 0 a b q := one4 j
  exact (res2_8 (AW m c) a b q).trans ((congrFun (aw2 m c) _).trans (nmAt8 m c a b q))
theorem end3_8 (c : Dev nD) :
    (StableHlo.after hostOps1 (AW m c) (Proc.devRef .tc main_v192) : FVec Ideal S1x8x128x128 .f32) = (val_main_v218 (F := Ideal) (m (c.tc.loc main_arg40)) (m (c.tc.loc main_arg56)) : FVec Ideal S1x8x128x128 .f32) := by
  funext j
  obtain ⟨a, b, q, rfl⟩ : ∃ (a : Fin 8) (b : Fin 128) (q : Fin 128), j = ix4 0 a b q := one4 j
  exact (res3_8 (AW m c) a b q).trans ((congrFun (aw3 m c) _).trans (nvAt8 m c a b q))
theorem gAt9 (c : Dev nD) (a : Fin 8) (q : Fin 128) : G m c (ix2 ⟨3128 + a.val, by omega⟩ q) = (val_main_v9 (F := Ideal) (m (c.tc.loc main_arg57)) : FVec Ideal S1x8x128 .f32) (ix3 0 a q) :=
  (sum_same (fun k => PT m c (ix3 k ⟨3128 + a.val, by omega⟩ q)) (fun k => (m (c.tc.loc main_arg57) : FVec Ideal S8x1x8x128 .f32) (ix4 k 0 a q))
    fun k => (pkP9 m c k a q).trans (atP9 m c k a q)).trans (g9 _ a q).symm
theorem nmAt9 (c : Dev nD) (a : Fin 8) (q : Fin 128) : NM m c (ix2 ⟨3128 + a.val, by omega⟩ q) = (val_main_v236 (F := Ideal) (m (c.tc.loc main_arg25)) (m (c.tc.loc main_arg57)) : FVec Ideal S1x8x128 .f32) (ix3 0 a q) :=
  (congrArg₂ mom ((pkM9 m c a q).trans (atM9 m c a q)) (gAt9 m c a q)).trans (m9 _ _ a q).symm
theorem nvAt9 (c : Dev nD) (a : Fin 8) (q : Fin 128) : NV m c (ix2 ⟨3128 + a.val, by omega⟩ q) = (val_main_v242 (F := Ideal) (m (c.tc.loc main_arg41)) (m (c.tc.loc main_arg57)) : FVec Ideal S1x8x128 .f32) (ix3 0 a q) :=
  (congrArg₂ var ((pkS9 m c a q).trans (atS9 m c a q)) (gAt9 m c a q)).trans (v9 _ _ a q).symm
theorem dlAt9 (c : Dev nD) (a : Fin 8) (q : Fin 128) : DL m c (ix2 ⟨3128 + a.val, by omega⟩ q) = (val_main_v255 (F := Ideal) (m (c.tc.loc main_arg9)) (m (c.tc.loc main_arg25)) (m (c.tc.loc main_arg41)) (m (c.tc.loc main_arg57)) : FVec Ideal S1x8x128 .f32) (ix3 0 a q) :=
  (delta_congr ((pkX9 m c a q).trans (atX9 m c a q)) (nmAt9 m c a q) (nvAt9 m c a q)).trans (d9 _ _ _ _ a q).symm
theorem end0_9 (c : Dev nD) :
    (StableHlo.after hostOps1 (AW m c) (Proc.devRef .tc main_v98) : FVec Ideal S1x8x128 .f32) = (val_main_v9 (F := Ideal) (m (c.tc.loc main_arg57)) : FVec Ideal S1x8x128 .f32) := by
  funext j
  obtain ⟨a, q, rfl⟩ : ∃ (a : Fin 8) (q : Fin 128), j = ix3 0 a q := one3 j
  exact (res0_9 (AW m c) a q).trans ((congrFun (aw0 m c) _).trans (gAt9 m c a q))
theorem end1_9 (c : Dev nD) :
    (StableHlo.after hostOps1 (AW m c) (Proc.devRef .tc main_v130) : FVec Ideal S1x8x128 .f32) = (val_main_v255 (F := Ideal) (m (c.tc.loc main_arg9)) (m (c.tc.loc main_arg25)) (m (c.tc.loc main_arg41)) (m (c.tc.loc main_arg57)) : FVec Ideal S1x8x128 .f32) := by
  funext j
  obtain ⟨a, q, rfl⟩ : ∃ (a : Fin 8) (q : Fin 128), j = ix3 0 a q := one3 j
  exact (res1_9 (AW m c) a q).trans ((congrFun (aw1 m c) _).trans (dlAt9 m c a q))
theorem end2_9 (c : Dev nD) :
    (StableHlo.after hostOps1 (AW m c) (Proc.devRef .tc main_v162) : FVec Ideal S1x8x128 .f32) = (val_main_v236 (F := Ideal) (m (c.tc.loc main_arg25)) (m (c.tc.loc main_arg57)) : FVec Ideal S1x8x128 .f32) := by
  funext j
  obtain ⟨a, q, rfl⟩ : ∃ (a : Fin 8) (q : Fin 128), j = ix3 0 a q := one3 j
  exact (res2_9 (AW m c) a q).trans ((congrFun (aw2 m c) _).trans (nmAt9 m c a q))
theorem end3_9 (c : Dev nD) :
    (StableHlo.after hostOps1 (AW m c) (Proc.devRef .tc main_v194) : FVec Ideal S1x8x128 .f32) = (val_main_v242 (F := Ideal) (m (c.tc.loc main_arg41)) (m (c.tc.loc main_arg57)) : FVec Ideal S1x8x128 .f32) := by
  funext j
  obtain ⟨a, q, rfl⟩ : ∃ (a : Fin 8) (q : Fin 128), j = ix3 0 a q := one3 j
  exact (res3_9 (AW m c) a q).trans ((congrFun (aw3 m c) _).trans (nvAt9 m c a q))
theorem gAt10 (c : Dev nD) (q : Fin 1024) : G m c (ix2 ⟨3136 + q.val / 128, by omega⟩ ⟨q.val % 128, by omega⟩) = (val_main_v10 (F := Ideal) (m (c.tc.loc main_arg58)) : FVec Ideal S1x1024 .f32) (ix2 0 q) :=
  (sum_same (fun k => PT m c (ix3 k ⟨3136 + q.val / 128, by omega⟩ ⟨q.val % 128, by omega⟩)) (fun k => (m (c.tc.loc main_arg58) : FVec Ideal S8x1x1024 .f32) (ix3 k 0 q))
    fun k => (pkP10 m c k ⟨q.val / 128, by omega⟩ ⟨q.val % 128, by omega⟩).trans (atP10 m c k q)).trans (g10 _ q).symm
theorem nmAt10 (c : Dev nD) (q : Fin 1024) : NM m c (ix2 ⟨3136 + q.val / 128, by omega⟩ ⟨q.val % 128, by omega⟩) = (val_main_v260 (F := Ideal) (m (c.tc.loc main_arg26)) (m (c.tc.loc main_arg58)) : FVec Ideal S1x1024 .f32) (ix2 0 q) :=
  (congrArg₂ mom ((pkM10 m c ⟨q.val / 128, by omega⟩ ⟨q.val % 128, by omega⟩).trans (atM10 m c q)) (gAt10 m c q)).trans (m10 _ _ q).symm
theorem nvAt10 (c : Dev nD) (q : Fin 1024) : NV m c (ix2 ⟨3136 + q.val / 128, by omega⟩ ⟨q.val % 128, by omega⟩) = (val_main_v266 (F := Ideal) (m (c.tc.loc main_arg42)) (m (c.tc.loc main_arg58)) : FVec Ideal S1x1024 .f32) (ix2 0 q) :=
  (congrArg₂ var ((pkS10 m c ⟨q.val / 128, by omega⟩ ⟨q.val % 128, by omega⟩).trans (atS10 m c q)) (gAt10 m c q)).trans (v10 _ _ q).symm
theorem dlAt10 (c : Dev nD) (q : Fin 1024) : DL m c (ix2 ⟨3136 + q.val / 128, by omega⟩ ⟨q.val % 128, by omega⟩) = (val_main_v279 (F := Ideal) (m (c.tc.loc main_arg10)) (m (c.tc.loc main_arg26)) (m (c.tc.loc main_arg42)) (m (c.tc.loc main_arg58)) : FVec Ideal S1x1024 .f32) (ix2 0 q) :=
  (delta_congr ((pkX10 m c ⟨q.val / 128, by omega⟩ ⟨q.val % 128, by omega⟩).trans (atX10 m c q)) (nmAt10 m c q) (nvAt10 m c q)).trans (d10 _ _ _ _ q).symm
theorem end0_10 (c : Dev nD) :
    (StableHlo.after hostOps1 (AW m c) (Proc.devRef .tc main_v100) : FVec Ideal S1x1024 .f32) = (val_main_v10 (F := Ideal) (m (c.tc.loc main_arg58)) : FVec Ideal S1x1024 .f32) := by
  funext j
  obtain ⟨q, rfl⟩ : ∃ (q : Fin 1024), j = ix2 0 q := one2 j
  exact (res0_10 (AW m c) q).trans ((congrFun (aw0 m c) _).trans (gAt10 m c q))
theorem end1_10 (c : Dev nD) :
    (StableHlo.after hostOps1 (AW m c) (Proc.devRef .tc main_v132) : FVec Ideal S1x1024 .f32) = (val_main_v279 (F := Ideal) (m (c.tc.loc main_arg10)) (m (c.tc.loc main_arg26)) (m (c.tc.loc main_arg42)) (m (c.tc.loc main_arg58)) : FVec Ideal S1x1024 .f32) := by
  funext j
  obtain ⟨q, rfl⟩ : ∃ (q : Fin 1024), j = ix2 0 q := one2 j
  exact (res1_10 (AW m c) q).trans ((congrFun (aw1 m c) _).trans (dlAt10 m c q))
theorem end2_10 (c : Dev nD) :
    (StableHlo.after hostOps1 (AW m c) (Proc.devRef .tc main_v164) : FVec Ideal S1x1024 .f32) = (val_main_v260 (F := Ideal) (m (c.tc.loc main_arg26)) (m (c.tc.loc main_arg58)) : FVec Ideal S1x1024 .f32) := by
  funext j
  obtain ⟨q, rfl⟩ : ∃ (q : Fin 1024), j = ix2 0 q := one2 j
  exact (res2_10 (AW m c) q).trans ((congrFun (aw2 m c) _).trans (nmAt10 m c q))
theorem end3_10 (c : Dev nD) :
    (StableHlo.after hostOps1 (AW m c) (Proc.devRef .tc main_v196) : FVec Ideal S1x1024 .f32) = (val_main_v266 (F := Ideal) (m (c.tc.loc main_arg42)) (m (c.tc.loc main_arg58)) : FVec Ideal S1x1024 .f32) := by
  funext j
  obtain ⟨q, rfl⟩ : ∃ (q : Fin 1024), j = ix2 0 q := one2 j
  exact (res3_10 (AW m c) q).trans ((congrFun (aw3 m c) _).trans (nvAt10 m c q))
theorem gAt11 (c : Dev nD) (q : Fin 1024) : G m c (ix2 ⟨3144 + q.val / 128, by omega⟩ ⟨q.val % 128, by omega⟩) = (val_main_v11 (F := Ideal) (m (c.tc.loc main_arg59)) : FVec Ideal S1x1024 .f32) (ix2 0 q) :=
  (sum_same (fun k => PT m c (ix3 k ⟨3144 + q.val / 128, by omega⟩ ⟨q.val % 128, by omega⟩)) (fun k => (m (c.tc.loc main_arg59) : FVec Ideal S8x1x1024 .f32) (ix3 k 0 q))
    fun k => (pkP11 m c k ⟨q.val / 128, by omega⟩ ⟨q.val % 128, by omega⟩).trans (atP11 m c k q)).trans (g11 _ q).symm
theorem nmAt11 (c : Dev nD) (q : Fin 1024) : NM m c (ix2 ⟨3144 + q.val / 128, by omega⟩ ⟨q.val % 128, by omega⟩) = (val_main_v284 (F := Ideal) (m (c.tc.loc main_arg27)) (m (c.tc.loc main_arg59)) : FVec Ideal S1x1024 .f32) (ix2 0 q) :=
  (congrArg₂ mom ((pkM11 m c ⟨q.val / 128, by omega⟩ ⟨q.val % 128, by omega⟩).trans (atM11 m c q)) (gAt11 m c q)).trans (m11 _ _ q).symm
theorem nvAt11 (c : Dev nD) (q : Fin 1024) : NV m c (ix2 ⟨3144 + q.val / 128, by omega⟩ ⟨q.val % 128, by omega⟩) = (val_main_v290 (F := Ideal) (m (c.tc.loc main_arg43)) (m (c.tc.loc main_arg59)) : FVec Ideal S1x1024 .f32) (ix2 0 q) :=
  (congrArg₂ var ((pkS11 m c ⟨q.val / 128, by omega⟩ ⟨q.val % 128, by omega⟩).trans (atS11 m c q)) (gAt11 m c q)).trans (v11 _ _ q).symm
theorem dlAt11 (c : Dev nD) (q : Fin 1024) : DL m c (ix2 ⟨3144 + q.val / 128, by omega⟩ ⟨q.val % 128, by omega⟩) = (val_main_v303 (F := Ideal) (m (c.tc.loc main_arg11)) (m (c.tc.loc main_arg27)) (m (c.tc.loc main_arg43)) (m (c.tc.loc main_arg59)) : FVec Ideal S1x1024 .f32) (ix2 0 q) :=
  (delta_congr ((pkX11 m c ⟨q.val / 128, by omega⟩ ⟨q.val % 128, by omega⟩).trans (atX11 m c q)) (nmAt11 m c q) (nvAt11 m c q)).trans (d11 _ _ _ _ q).symm
theorem end0_11 (c : Dev nD) :
    (StableHlo.after hostOps1 (AW m c) (Proc.devRef .tc main_v102) : FVec Ideal S1x1024 .f32) = (val_main_v11 (F := Ideal) (m (c.tc.loc main_arg59)) : FVec Ideal S1x1024 .f32) := by
  funext j
  obtain ⟨q, rfl⟩ : ∃ (q : Fin 1024), j = ix2 0 q := one2 j
  exact (res0_11 (AW m c) q).trans ((congrFun (aw0 m c) _).trans (gAt11 m c q))
theorem end1_11 (c : Dev nD) :
    (StableHlo.after hostOps1 (AW m c) (Proc.devRef .tc main_v134) : FVec Ideal S1x1024 .f32) = (val_main_v303 (F := Ideal) (m (c.tc.loc main_arg11)) (m (c.tc.loc main_arg27)) (m (c.tc.loc main_arg43)) (m (c.tc.loc main_arg59)) : FVec Ideal S1x1024 .f32) := by
  funext j
  obtain ⟨q, rfl⟩ : ∃ (q : Fin 1024), j = ix2 0 q := one2 j
  exact (res1_11 (AW m c) q).trans ((congrFun (aw1 m c) _).trans (dlAt11 m c q))
theorem end2_11 (c : Dev nD) :
    (StableHlo.after hostOps1 (AW m c) (Proc.devRef .tc main_v166) : FVec Ideal S1x1024 .f32) = (val_main_v284 (F := Ideal) (m (c.tc.loc main_arg27)) (m (c.tc.loc main_arg59)) : FVec Ideal S1x1024 .f32) := by
  funext j
  obtain ⟨q, rfl⟩ : ∃ (q : Fin 1024), j = ix2 0 q := one2 j
  exact (res2_11 (AW m c) q).trans ((congrFun (aw2 m c) _).trans (nmAt11 m c q))
theorem end3_11 (c : Dev nD) :
    (StableHlo.after hostOps1 (AW m c) (Proc.devRef .tc main_v198) : FVec Ideal S1x1024 .f32) = (val_main_v290 (F := Ideal) (m (c.tc.loc main_arg43)) (m (c.tc.loc main_arg59)) : FVec Ideal S1x1024 .f32) := by
  funext j
  obtain ⟨q, rfl⟩ : ∃ (q : Fin 1024), j = ix2 0 q := one2 j
  exact (res3_11 (AW m c) q).trans ((congrFun (aw3 m c) _).trans (nvAt11 m c q))
theorem gAt12 (c : Dev nD) (q : Fin 1024) : G m c (ix2 ⟨3152 + q.val / 128, by omega⟩ ⟨q.val % 128, by omega⟩) = (val_main_v12 (F := Ideal) (m (c.tc.loc main_arg60)) : FVec Ideal S1x1024 .f32) (ix2 0 q) :=
  (sum_same (fun k => PT m c (ix3 k ⟨3152 + q.val / 128, by omega⟩ ⟨q.val % 128, by omega⟩)) (fun k => (m (c.tc.loc main_arg60) : FVec Ideal S8x1x1024 .f32) (ix3 k 0 q))
    fun k => (pkP12 m c k ⟨q.val / 128, by omega⟩ ⟨q.val % 128, by omega⟩).trans (atP12 m c k q)).trans (g12 _ q).symm
theorem nmAt12 (c : Dev nD) (q : Fin 1024) : NM m c (ix2 ⟨3152 + q.val / 128, by omega⟩ ⟨q.val % 128, by omega⟩) = (val_main_v308 (F := Ideal) (m (c.tc.loc main_arg28)) (m (c.tc.loc main_arg60)) : FVec Ideal S1x1024 .f32) (ix2 0 q) :=
  (congrArg₂ mom ((pkM12 m c ⟨q.val / 128, by omega⟩ ⟨q.val % 128, by omega⟩).trans (atM12 m c q)) (gAt12 m c q)).trans (m12 _ _ q).symm
theorem nvAt12 (c : Dev nD) (q : Fin 1024) : NV m c (ix2 ⟨3152 + q.val / 128, by omega⟩ ⟨q.val % 128, by omega⟩) = (val_main_v314 (F := Ideal) (m (c.tc.loc main_arg44)) (m (c.tc.loc main_arg60)) : FVec Ideal S1x1024 .f32) (ix2 0 q) :=
  (congrArg₂ var ((pkS12 m c ⟨q.val / 128, by omega⟩ ⟨q.val % 128, by omega⟩).trans (atS12 m c q)) (gAt12 m c q)).trans (v12 _ _ q).symm
theorem dlAt12 (c : Dev nD) (q : Fin 1024) : DL m c (ix2 ⟨3152 + q.val / 128, by omega⟩ ⟨q.val % 128, by omega⟩) = (val_main_v327 (F := Ideal) (m (c.tc.loc main_arg12)) (m (c.tc.loc main_arg28)) (m (c.tc.loc main_arg44)) (m (c.tc.loc main_arg60)) : FVec Ideal S1x1024 .f32) (ix2 0 q) :=
  (delta_congr ((pkX12 m c ⟨q.val / 128, by omega⟩ ⟨q.val % 128, by omega⟩).trans (atX12 m c q)) (nmAt12 m c q) (nvAt12 m c q)).trans (d12 _ _ _ _ q).symm
theorem end0_12 (c : Dev nD) :
    (StableHlo.after hostOps1 (AW m c) (Proc.devRef .tc main_v104) : FVec Ideal S1x1024 .f32) = (val_main_v12 (F := Ideal) (m (c.tc.loc main_arg60)) : FVec Ideal S1x1024 .f32) := by
  funext j
  obtain ⟨q, rfl⟩ : ∃ (q : Fin 1024), j = ix2 0 q := one2 j
  exact (res0_12 (AW m c) q).trans ((congrFun (aw0 m c) _).trans (gAt12 m c q))
theorem end1_12 (c : Dev nD) :
    (StableHlo.after hostOps1 (AW m c) (Proc.devRef .tc main_v136) : FVec Ideal S1x1024 .f32) = (val_main_v327 (F := Ideal) (m (c.tc.loc main_arg12)) (m (c.tc.loc main_arg28)) (m (c.tc.loc main_arg44)) (m (c.tc.loc main_arg60)) : FVec Ideal S1x1024 .f32) := by
  funext j
  obtain ⟨q, rfl⟩ : ∃ (q : Fin 1024), j = ix2 0 q := one2 j
  exact (res1_12 (AW m c) q).trans ((congrFun (aw1 m c) _).trans (dlAt12 m c q))
theorem end2_12 (c : Dev nD) :
    (StableHlo.after hostOps1 (AW m c) (Proc.devRef .tc main_v168) : FVec Ideal S1x1024 .f32) = (val_main_v308 (F := Ideal) (m (c.tc.loc main_arg28)) (m (c.tc.loc main_arg60)) : FVec Ideal S1x1024 .f32) := by
  funext j
  obtain ⟨q, rfl⟩ : ∃ (q : Fin 1024), j = ix2 0 q := one2 j
  exact (res2_12 (AW m c) q).trans ((congrFun (aw2 m c) _).trans (nmAt12 m c q))
theorem end3_12 (c : Dev nD) :
    (StableHlo.after hostOps1 (AW m c) (Proc.devRef .tc main_v200) : FVec Ideal S1x1024 .f32) = (val_main_v314 (F := Ideal) (m (c.tc.loc main_arg44)) (m (c.tc.loc main_arg60)) : FVec Ideal S1x1024 .f32) := by
  funext j
  obtain ⟨q, rfl⟩ : ∃ (q : Fin 1024), j = ix2 0 q := one2 j
  exact (res3_12 (AW m c) q).trans ((congrFun (aw3 m c) _).trans (nvAt12 m c q))
theorem gAt13 (c : Dev nD) (q : Fin 2048) : G m c (ix2 ⟨3160 + q.val / 128, by omega⟩ ⟨q.val % 128, by omega⟩) = (val_main_v13 (F := Ideal) (m (c.tc.loc main_arg61)) : FVec Ideal S1x2048 .f32) (ix2 0 q) :=
  (sum_same (fun k => PT m c (ix3 k ⟨3160 + q.val / 128, by omega⟩ ⟨q.val % 128, by omega⟩)) (fun k => (m (c.tc.loc main_arg61) : FVec Ideal S8x1x2048 .f32) (ix3 k 0 q))
    fun k => (pkP13 m c k ⟨q.val / 128, by omega⟩ ⟨q.val % 128, by omega⟩).trans (atP13 m c k q)).trans (g13 _ q).symm
theorem nmAt13 (c : Dev nD) (q : Fin 2048) : NM m c (ix2 ⟨3160 + q.val / 128, by omega⟩ ⟨q.val % 128, by omega⟩) = (val_main_v332 (F := Ideal) (m (c.tc.loc main_arg29)) (m (c.tc.loc main_arg61)) : FVec Ideal S1x2048 .f32) (ix2 0 q) :=
  (congrArg₂ mom ((pkM13 m c ⟨q.val / 128, by omega⟩ ⟨q.val % 128, by omega⟩).trans (atM13 m c q)) (gAt13 m c q)).trans (m13 _ _ q).symm
theorem nvAt13 (c : Dev nD) (q : Fin 2048) : NV m c (ix2 ⟨3160 + q.val / 128, by omega⟩ ⟨q.val % 128, by omega⟩) = (val_main_v338 (F := Ideal) (m (c.tc.loc main_arg45)) (m (c.tc.loc main_arg61)) : FVec Ideal S1x2048 .f32) (ix2 0 q) :=
  (congrArg₂ var ((pkS13 m c ⟨q.val / 128, by omega⟩ ⟨q.val % 128, by omega⟩).trans (atS13 m c q)) (gAt13 m c q)).trans (v13 _ _ q).symm
theorem dlAt13 (c : Dev nD) (q : Fin 2048) : DL m c (ix2 ⟨3160 + q.val / 128, by omega⟩ ⟨q.val % 128, by omega⟩) = (val_main_v351 (F := Ideal) (m (c.tc.loc main_arg13)) (m (c.tc.loc main_arg29)) (m (c.tc.loc main_arg45)) (m (c.tc.loc main_arg61)) : FVec Ideal S1x2048 .f32) (ix2 0 q) :=
  (delta_congr ((pkX13 m c ⟨q.val / 128, by omega⟩ ⟨q.val % 128, by omega⟩).trans (atX13 m c q)) (nmAt13 m c q) (nvAt13 m c q)).trans (d13 _ _ _ _ q).symm
theorem end0_13 (c : Dev nD) :
    (StableHlo.after hostOps1 (AW m c) (Proc.devRef .tc main_v106) : FVec Ideal S1x2048 .f32) = (val_main_v13 (F := Ideal) (m (c.tc.loc main_arg61)) : FVec Ideal S1x2048 .f32) := by
  funext j
  obtain ⟨q, rfl⟩ : ∃ (q : Fin 2048), j = ix2 0 q := one2 j
  exact (res0_13 (AW m c) q).trans ((congrFun (aw0 m c) _).trans (gAt13 m c q))
theorem end1_13 (c : Dev nD) :
    (StableHlo.after hostOps1 (AW m c) (Proc.devRef .tc main_v138) : FVec Ideal S1x2048 .f32) = (val_main_v351 (F := Ideal) (m (c.tc.loc main_arg13)) (m (c.tc.loc main_arg29)) (m (c.tc.loc main_arg45)) (m (c.tc.loc main_arg61)) : FVec Ideal S1x2048 .f32) := by
  funext j
  obtain ⟨q, rfl⟩ : ∃ (q : Fin 2048), j = ix2 0 q := one2 j
  exact (res1_13 (AW m c) q).trans ((congrFun (aw1 m c) _).trans (dlAt13 m c q))
theorem end2_13 (c : Dev nD) :
    (StableHlo.after hostOps1 (AW m c) (Proc.devRef .tc main_v170) : FVec Ideal S1x2048 .f32) = (val_main_v332 (F := Ideal) (m (c.tc.loc main_arg29)) (m (c.tc.loc main_arg61)) : FVec Ideal S1x2048 .f32) := by
  funext j
  obtain ⟨q, rfl⟩ : ∃ (q : Fin 2048), j = ix2 0 q := one2 j
  exact (res2_13 (AW m c) q).trans ((congrFun (aw2 m c) _).trans (nmAt13 m c q))
theorem end3_13 (c : Dev nD) :
    (StableHlo.after hostOps1 (AW m c) (Proc.devRef .tc main_v202) : FVec Ideal S1x2048 .f32) = (val_main_v338 (F := Ideal) (m (c.tc.loc main_arg45)) (m (c.tc.loc main_arg61)) : FVec Ideal S1x2048 .f32) := by
  funext j
  obtain ⟨q, rfl⟩ : ∃ (q : Fin 2048), j = ix2 0 q := one2 j
  exact (res3_13 (AW m c) q).trans ((congrFun (aw3 m c) _).trans (nvAt13 m c q))
theorem gAt14 (c : Dev nD) (q : Fin 12288) : G m c (ix2 ⟨3176 + q.val / 128, by omega⟩ ⟨q.val % 128, by omega⟩) = (val_main_v14 (F := Ideal) (m (c.tc.loc main_arg62)) : FVec Ideal S1x12288 .f32) (ix2 0 q) :=
  (sum_same (fun k => PT m c (ix3 k ⟨3176 + q.val / 128, by omega⟩ ⟨q.val % 128, by omega⟩)) (fun k => (m (c.tc.loc main_arg62) : FVec Ideal S8x1x12288 .f32) (ix3 k 0 q))
    fun k => (pkP14 m c k ⟨q.val / 128, by omega⟩ ⟨q.val % 128, by omega⟩).trans (atP14 m c k q)).trans (g14 _ q).symm
theorem nmAt14 (c : Dev nD) (q : Fin 12288) : NM m c (ix2 ⟨3176 + q.val / 128, by omega⟩ ⟨q.val % 128, by omega⟩) = (val_main_v356 (F := Ideal) (m (c.tc.loc main_arg30)) (m (c.tc.loc main_arg62)) : FVec Ideal S1x12288 .f32) (ix2 0 q) :=
  (congrArg₂ mom ((pkM14 m c ⟨q.val / 128, by omega⟩ ⟨q.val % 128, by omega⟩).trans (atM14 m c q)) (gAt14 m c q)).trans (m14 _ _ q).symm
theorem nvAt14 (c : Dev nD) (q : Fin 12288) : NV m c (ix2 ⟨3176 + q.val / 128, by omega⟩ ⟨q.val % 128, by omega⟩) = (val_main_v362 (F := Ideal) (m (c.tc.loc main_arg46)) (m (c.tc.loc main_arg62)) : FVec Ideal S1x12288 .f32) (ix2 0 q) :=
  (congrArg₂ var ((pkS14 m c ⟨q.val / 128, by omega⟩ ⟨q.val % 128, by omega⟩).trans (atS14 m c q)) (gAt14 m c q)).trans (v14 _ _ q).symm
theorem dlAt14 (c : Dev nD) (q : Fin 12288) : DL m c (ix2 ⟨3176 + q.val / 128, by omega⟩ ⟨q.val % 128, by omega⟩) = (val_main_v375 (F := Ideal) (m (c.tc.loc main_arg14)) (m (c.tc.loc main_arg30)) (m (c.tc.loc main_arg46)) (m (c.tc.loc main_arg62)) : FVec Ideal S1x12288 .f32) (ix2 0 q) :=
  (delta_congr ((pkX14 m c ⟨q.val / 128, by omega⟩ ⟨q.val % 128, by omega⟩).trans (atX14 m c q)) (nmAt14 m c q) (nvAt14 m c q)).trans (d14 _ _ _ _ q).symm
theorem end0_14 (c : Dev nD) :
    (StableHlo.after hostOps1 (AW m c) (Proc.devRef .tc main_v108) : FVec Ideal S1x12288 .f32) = (val_main_v14 (F := Ideal) (m (c.tc.loc main_arg62)) : FVec Ideal S1x12288 .f32) := by
  funext j
  obtain ⟨q, rfl⟩ : ∃ (q : Fin 12288), j = ix2 0 q := one2 j
  exact (res0_14 (AW m c) q).trans ((congrFun (aw0 m c) _).trans (gAt14 m c q))
theorem end1_14 (c : Dev nD) :
    (StableHlo.after hostOps1 (AW m c) (Proc.devRef .tc main_v140) : FVec Ideal S1x12288 .f32) = (val_main_v375 (F := Ideal) (m (c.tc.loc main_arg14)) (m (c.tc.loc main_arg30)) (m (c.tc.loc main_arg46)) (m (c.tc.loc main_arg62)) : FVec Ideal S1x12288 .f32) := by
  funext j
  obtain ⟨q, rfl⟩ : ∃ (q : Fin 12288), j = ix2 0 q := one2 j
  exact (res1_14 (AW m c) q).trans ((congrFun (aw1 m c) _).trans (dlAt14 m c q))
theorem end2_14 (c : Dev nD) :
    (StableHlo.after hostOps1 (AW m c) (Proc.devRef .tc main_v172) : FVec Ideal S1x12288 .f32) = (val_main_v356 (F := Ideal) (m (c.tc.loc main_arg30)) (m (c.tc.loc main_arg62)) : FVec Ideal S1x12288 .f32) := by
  funext j
  obtain ⟨q, rfl⟩ : ∃ (q : Fin 12288), j = ix2 0 q := one2 j
  exact (res2_14 (AW m c) q).trans ((congrFun (aw2 m c) _).trans (nmAt14 m c q))
theorem end3_14 (c : Dev nD) :
    (StableHlo.after hostOps1 (AW m c) (Proc.devRef .tc main_v204) : FVec Ideal S1x12288 .f32) = (val_main_v362 (F := Ideal) (m (c.tc.loc main_arg46)) (m (c.tc.loc main_arg62)) : FVec Ideal S1x12288 .f32) := by
  funext j
  obtain ⟨q, rfl⟩ : ∃ (q : Fin 12288), j = ix2 0 q := one2 j
  exact (res3_14 (AW m c) q).trans ((congrFun (aw3 m c) _).trans (nvAt14 m c q))
theorem gAt15 (c : Dev nD) (q : Fin 2048) : G m c (ix2 ⟨3272 + q.val / 128, by omega⟩ ⟨q.val % 128, by omega⟩) = (val_main_v15 (F := Ideal) (m (c.tc.loc main_arg63)) : FVec Ideal S2048 .f32) (ix1 q) :=
  (sum_same (fun k => PT m c (ix3 k ⟨3272 + q.val / 128, by omega⟩ ⟨q.val % 128, by omega⟩)) (fun k => (m (c.tc.loc main_arg63) : FVec Ideal S8x2048 .f32) (ix2 k q))
    fun k => (pkP15 m c k ⟨q.val / 128, by omega⟩ ⟨q.val % 128, by omega⟩).trans (atP15 m c k q)).trans (g15 _ q).symm
theorem nmAt15 (c : Dev nD) (q : Fin 2048) : NM m c (ix2 ⟨3272 + q.val / 128, by omega⟩ ⟨q.val % 128, by omega⟩) = (val_main_v380 (F := Ideal) (m (c.tc.loc main_arg31)) (m (c.tc.loc main_arg63)) : FVec Ideal S2048 .f32) (ix1 q) :=
  (congrArg₂ mom ((pkM15 m c ⟨q.val / 128, by omega⟩ ⟨q.val % 128, by omega⟩).trans (atM15 m c q)) (gAt15 m c q)).trans (m15 _ _ q).symm
theorem nvAt15 (c : Dev nD) (q : Fin 2048) : NV m c (ix2 ⟨3272 + q.val / 128, by omega⟩ ⟨q.val % 128, by omega⟩) = (val_main_v386 (F := Ideal) (m (c.tc.loc main_arg47)) (m (c.tc.loc main_arg63)) : FVec Ideal S2048 .f32) (ix1 q) :=
  (congrArg₂ var ((pkS15 m c ⟨q.val / 128, by omega⟩ ⟨q.val % 128, by omega⟩).trans (atS15 m c q)) (gAt15 m c q)).trans (v15 _ _ q).symm
theorem dlAt15 (c : Dev nD) (q : Fin 2048) : DL m c (ix2 ⟨3272 + q.val / 128, by omega⟩ ⟨q.val % 128, by omega⟩) = (val_main_v399 (F := Ideal) (m (c.tc.loc main_arg15)) (m (c.tc.loc main_arg31)) (m (c.tc.loc main_arg47)) (m (c.tc.loc main_arg63)) : FVec Ideal S2048 .f32) (ix1 q) :=
  (delta_congr ((pkX15 m c ⟨q.val / 128, by omega⟩ ⟨q.val % 128, by omega⟩).trans (atX15 m c q)) (nmAt15 m c q) (nvAt15 m c q)).trans (d15 _ _ _ _ q).symm
theorem end0_15 (c : Dev nD) :
    (StableHlo.after hostOps1 (AW m c) (Proc.devRef .tc main_v110) : FVec Ideal S2048 .f32) = (val_main_v15 (F := Ideal) (m (c.tc.loc main_arg63)) : FVec Ideal S2048 .f32) := by
  funext j
  obtain ⟨q, rfl⟩ : ∃ (q : Fin 2048), j = ix1 q := ⟨j 0, eq_ix1 j⟩
  exact (res0_15 (AW m c) q).trans ((congrFun (aw0 m c) _).trans (gAt15 m c q))
theorem end1_15 (c : Dev nD) :
    (StableHlo.after hostOps1 (AW m c) (Proc.devRef .tc main_v142) : FVec Ideal S2048 .f32) = (val_main_v399 (F := Ideal) (m (c.tc.loc main_arg15)) (m (c.tc.loc main_arg31)) (m (c.tc.loc main_arg47)) (m (c.tc.loc main_arg63)) : FVec Ideal S2048 .f32) := by
  funext j
  obtain ⟨q, rfl⟩ : ∃ (q : Fin 2048), j = ix1 q := ⟨j 0, eq_ix1 j⟩
  exact (res1_15 (AW m c) q).trans ((congrFun (aw1 m c) _).trans (dlAt15 m c q))
theorem end2_15 (c : Dev nD) :
    (StableHlo.after hostOps1 (AW m c) (Proc.devRef .tc main_v174) : FVec Ideal S2048 .f32) = (val_main_v380 (F := Ideal) (m (c.tc.loc main_arg31)) (m (c.tc.loc main_arg63)) : FVec Ideal S2048 .f32) := by
  funext j
  obtain ⟨q, rfl⟩ : ∃ (q : Fin 2048), j = ix1 q := ⟨j 0, eq_ix1 j⟩
  exact (res2_15 (AW m c) q).trans ((congrFun (aw2 m c) _).trans (nmAt15 m c q))
theorem end3_15 (c : Dev nD) :
    (StableHlo.after hostOps1 (AW m c) (Proc.devRef .tc main_v206) : FVec Ideal S2048 .f32) = (val_main_v386 (F := Ideal) (m (c.tc.loc main_arg47)) (m (c.tc.loc main_arg63)) : FVec Ideal S2048 .f32) := by
  funext j
  obtain ⟨q, rfl⟩ : ∃ (q : Fin 2048), j = ix1 q := ⟨j 0, eq_ix1 j⟩
  exact (res3_15 (AW m c) q).trans ((congrFun (aw3 m c) _).trans (nvAt15 m c q))
end Cert.KernelAdamSmallIdeal.Val
-- ==== Proof.AdamSmall.lean ====
/- AdamW on the sixteen small weights together, packed by rows of 128: the gradient is the eight chips' parts added up. -/
module
public import proofs.«01_k».proof.Proof.AdamSmallEnd
public import proofs.«01_k».proof.Defs
@[expose] public section
set_option maxRecDepth 16384
noncomputable section
namespace Cert.KernelAdamSmallIdeal.Val
open Cert.KernelAdamSmallIdeal Cert.KernelAdamSmallIdeal.Gen Idealize.ShloMosaic Idealize.ShloMosaic.TcCoe Idealize.SL.Sem
open Idealize.ShloMosaic.Pipeline (Dat)
open Cert.Adam Cert.ReferenceAdamSmallIdeal.Read
variable (m : (ℓ : Loc nD τ sig) → Buf (Elt Ideal) ℓ)
theorem congr4 {A B C D E : Type} (f : A → B → C → D → E) {a a' : A} {b b' : B} {d d' : C} {e e' : D}
    (h₀ : a = a') (h₁ : b = b') (h₂ : d = d') (h₃ : e = e') : f a b d e = f a' b' d' e' := by
  rw [h₀, h₁, h₂, h₃]
theorem rs (b : Ref sig .tc) (h : b.isScoped = false) (h' : ∀ w, ((cfgs 0).spec w).arr.view.ref ≠ b) :
    b ∈ Pipeline.restRefs sig (cfgs 0).spec := Pipeline.mem_restRefs_of _ h h'
/-- What the kernel leaves in its results. -/
theorem results (ρ : Dev nD → PrngReg) :
    θ_run defs (onTc (τ := τ) (main (F := Ideal))) ⟨m, fun _ => 0, ρ⟩ fun r => ∀ c : Dev nD,
      r.2.mem (c.tc.loc main_v80) = val_main_v0 (F := Ideal) (m (c.tc.loc main_arg48))
      ∧ r.2.mem (c.tc.loc main_v82) = val_main_v1 (F := Ideal) (m (c.tc.loc main_arg49))
      ∧ r.2.mem (c.tc.loc main_v84) = val_main_v2 (F := Ideal) (m (c.tc.loc main_arg50))
      ∧ r.2.mem (c.tc.loc main_v86) = val_main_v3 (F := Ideal) (m (c.tc.loc main_arg51))
      ∧ r.2.mem (c.tc.loc main_v88) = val_main_v4 (F := Ideal) (m (c.tc.loc main_arg52))
      ∧ r.2.mem (c.tc.loc main_v90) = val_main_v5 (F := Ideal) (m (c.tc.loc main_arg53))
      ∧ r.2.mem (c.tc.loc main_v92) = val_main_v6 (F := Ideal) (m (c.tc.loc main_arg54))
      ∧ r.2.mem (c.tc.loc main_v94) = val_main_v7 (F := Ideal) (m (c.tc.loc main_arg55))
      ∧ r.2.mem (c.tc.loc main_v96) = val_main_v8 (F := Ideal) (m (c.tc.loc main_arg56))
      ∧ r.2.mem (c.tc.loc main_v98) = val_main_v9 (F := Ideal) (m (c.tc.loc main_arg57))
      ∧ r.2.mem (c.tc.loc main_v100) = val_main_v10 (F := Ideal) (m (c.tc.loc main_arg58))
      ∧ r.2.mem (c.tc.loc main_v102) = val_main_v11 (F := Ideal) (m (c.tc.loc main_arg59))
      ∧ r.2.mem (c.tc.loc main_v104) = val_main_v12 (F := Ideal) (m (c.tc.loc main_arg60))
      ∧ r.2.mem (c.tc.loc main_v106) = val_main_v13 (F := Ideal) (m (c.tc.loc main_arg61))
      ∧ r.2.mem (c.tc.loc main_v108) = val_main_v14 (F := Ideal) (m (c.tc.loc main_arg62))
      ∧ r.2.mem (c.tc.loc main_v110) = val_main_v15 (F := Ideal) (m (c.tc.loc main_arg63))
      ∧ r.2.mem (c.tc.loc main_v112) = val_main_v39 (F := Ideal) (m (c.tc.loc main_arg0)) (m (c.tc.loc main_arg16)) (m (c.tc.loc main_arg32)) (m (c.tc.loc main_arg48))
      ∧ r.2.mem (c.tc.loc main_v114) = val_main_v63 (F := Ideal) (m (c.tc.loc main_arg1)) (m (c.tc.loc main_arg17)) (m (c.tc.loc main_arg33)) (m (c.tc.loc main_arg49))
      ∧ r.2.mem (c.tc.loc main_v116) = val_main_v87 (F := Ideal) (m (c.tc.loc main_arg2)) (m (c.tc.loc main_arg18)) (m (c.tc.loc main_arg34)) (m (c.tc.loc main_arg50))
      ∧ r.2.mem (c.tc.loc main_v118) = val_main_v111 (F := Ideal) (m (c.tc.loc main_arg3)) (m (c.tc.loc main_arg19)) (m (c.tc.loc main_arg35)) (m (c.tc.loc main_arg51))
      ∧ r.2.mem (c.tc.loc main_v120) = val_main_v135 (F := Ideal) (m (c.tc.loc main_arg4)) (m (c.tc.loc main_arg20)) (m (c.tc.loc main_arg36)) (m (c.tc.loc main_arg52))
      ∧ r.2.mem (c.tc.loc main_v122) = val_main_v159 (F := Ideal) (m (c.tc.loc main_arg5)) (m (c.tc.loc main_arg21)) (m (c.tc.loc main_arg37)) (m (c.tc.loc main_arg53))
      ∧ r.2.mem (c.tc.loc main_v124) = val_main_v183 (F := Ideal) (m (c.tc.loc main_arg6)) (m (c.tc.loc main_arg22)) (m (c.tc.loc main_arg38)) (m (c.tc.loc main_arg54))
      ∧ r.2.mem (c.tc.loc main_v126) = val_main_v207 (F := Ideal) (m (c.tc.loc main_arg7)) (m (c.tc.loc main_arg23)) (m (c.tc.loc main_arg39)) (m (c.tc.loc main_arg55))
      ∧ r.2.mem (c.tc.loc main_v128) = val_main_v231 (F := Ideal) (m (c.tc.loc main_arg8)) (m (c.tc.loc main_arg24)) (m (c.tc.loc main_arg40)) (m (c.tc.loc main_arg56))
      ∧ r.2.mem (c.tc.loc main_v130) = val_main_v255 (F := Ideal) (m (c.tc.loc main_arg9)) (m (c.tc.loc main_arg25)) (m (c.tc.loc main_arg41)) (m (c.tc.loc main_arg57))
      ∧ r.2.mem (c.tc.loc main_v132) = val_main_v279 (F := Ideal) (m (c.tc.loc main_arg10)) (m (c.tc.loc main_arg26)) (m (c.tc.loc main_arg42)) (m (c.tc.loc main_arg58))
      ∧ r.2.mem (c.tc.loc main_v134) = val_main_v303 (F := Ideal) (m (c.tc.loc main_arg11)) (m (c.tc.loc main_arg27)) (m (c.tc.loc main_arg43)) (m (c.tc.loc main_arg59))
      ∧ r.2.mem (c.tc.loc main_v136) = val_main_v327 (F := Ideal) (m (c.tc.loc main_arg12)) (m (c.tc.loc main_arg28)) (m (c.tc.loc main_arg44)) (m (c.tc.loc main_arg60))
      ∧ r.2.mem (c.tc.loc main_v138) = val_main_v351 (F := Ideal) (m (c.tc.loc main_arg13)) (m (c.tc.loc main_arg29)) (m (c.tc.loc main_arg45)) (m (c.tc.loc main_arg61))
      ∧ r.2.mem (c.tc.loc main_v140) = val_main_v375 (F := Ideal) (m (c.tc.loc main_arg14)) (m (c.tc.loc main_arg30)) (m (c.tc.loc main_arg46)) (m (c.tc.loc main_arg62))
      ∧ r.2.mem (c.tc.loc main_v142) = val_main_v399 (F := Ideal) (m (c.tc.loc main_arg15)) (m (c.tc.loc main_arg31)) (m (c.tc.loc main_arg47)) (m (c.tc.loc main_arg63))
      ∧ r.2.mem (c.tc.loc main_v144) = val_main_v20 (F := Ideal) (m (c.tc.loc main_arg16)) (m (c.tc.loc main_arg48))
      ∧ r.2.mem (c.tc.loc main_v146) = val_main_v44 (F := Ideal) (m (c.tc.loc main_arg17)) (m (c.tc.loc main_arg49))
      ∧ r.2.mem (c.tc.loc main_v148) = val_main_v68 (F := Ideal) (m (c.tc.loc main_arg18)) (m (c.tc.loc main_arg50))
      ∧ r.2.mem (c.tc.loc main_v150) = val_main_v92 (F := Ideal) (m (c.tc.loc main_arg19)) (m (c.tc.loc main_arg51))
      ∧ r.2.mem (c.tc.loc main_v152) = val_main_v116 (F := Ideal) (m (c.tc.loc main_arg20)) (m (c.tc.loc main_arg52))
      ∧ r.2.mem (c.tc.loc main_v154) = val_main_v140 (F := Ideal) (m (c.tc.loc main_arg21)) (m (c.tc.loc main_arg53))
      ∧ r.2.mem (c.tc.loc main_v156) = val_main_v164 (F := Ideal) (m (c.tc.loc main_arg22)) (m (c.tc.loc main_arg54))
      ∧ r.2.mem (c.tc.loc main_v158) = val_main_v188 (F := Ideal) (m (c.tc.loc main_arg23)) (m (c.tc.loc main_arg55))
      ∧ r.2.mem (c.tc.loc main_v160) = val_main_v212 (F := Ideal) (m (c.tc.loc main_arg24)) (m (c.tc.loc main_arg56))
      ∧ r.2.mem (c.tc.loc main_v162) = val_main_v236 (F := Ideal) (m (c.tc.loc main_arg25)) (m (c.tc.loc main_arg57))
      ∧ r.2.mem (c.tc.loc main_v164) = val_main_v260 (F := Ideal) (m (c.tc.loc main_arg26)) (m (c.tc.loc main_arg58))
      ∧ r.2.mem (c.tc.loc main_v166) = val_main_v284 (F := Ideal) (m (c.tc.loc main_arg27)) (m (c.tc.loc main_arg59))
      ∧ r.2.mem (c.tc.loc main_v168) = val_main_v308 (F := Ideal) (m (c.tc.loc main_arg28)) (m (c.tc.loc main_arg60))
      ∧ r.2.mem (c.tc.loc main_v170) = val_main_v332 (F := Ideal) (m (c.tc.loc main_arg29)) (m (c.tc.loc main_arg61))
      ∧ r.2.mem (c.tc.loc main_v172) = val_main_v356 (F := Ideal) (m (c.tc.loc main_arg30)) (m (c.tc.loc main_arg62))
      ∧ r.2.mem (c.tc.loc main_v174) = val_main_v380 (F := Ideal) (m (c.tc.loc main_arg31)) (m (c.tc.loc main_arg63))
      ∧ r.2.mem (c.tc.loc main_v176) = val_main_v26 (F := Ideal) (m (c.tc.loc main_arg32)) (m (c.tc.loc main_arg48))
      ∧ r.2.mem (c.tc.loc main_v178) = val_main_v50 (F := Ideal) (m (c.tc.loc main_arg33)) (m (c.tc.loc main_arg49))
      ∧ r.2.mem (c.tc.loc main_v180) = val_main_v74 (F := Ideal) (m (c.tc.loc main_arg34)) (m (c.tc.loc main_arg50))
      ∧ r.2.mem (c.tc.loc main_v182) = val_main_v98 (F := Ideal) (m (c.tc.loc main_arg35)) (m (c.tc.loc main_arg51))
      ∧ r.2.mem (c.tc.loc main_v184) = val_main_v122 (F := Ideal) (m (c.tc.loc main_arg36)) (m (c.tc.loc main_arg52))
      ∧ r.2.mem (c.tc.loc main_v186) = val_main_v146 (F := Ideal) (m (c.tc.loc main_arg37)) (m (c.tc.loc main_arg53))
      ∧ r.2.mem (c.tc.loc main_v188) = val_main_v170 (F := Ideal) (m (c.tc.loc main_arg38)) (m (c.tc.loc main_arg54))
      ∧ r.2.mem (c.tc.loc main_v190) = val_main_v194 (F := Ideal) (m (c.tc.loc main_arg39)) (m (c.tc.loc main_arg55))
      ∧ r.2.mem (c.tc.loc main_v192) = val_main_v218 (F := Ideal) (m (c.tc.loc main_arg40)) (m (c.tc.loc main_arg56))
      ∧ r.2.mem (c.tc.loc main_v194) = val_main_v242 (F := Ideal) (m (c.tc.loc main_arg41)) (m (c.tc.loc main_arg57))
      ∧ r.2.mem (c.tc.loc main_v196) = val_main_v266 (F := Ideal) (m (c.tc.loc main_arg42)) (m (c.tc.loc main_arg58))
      ∧ r.2.mem (c.tc.loc main_v198) = val_main_v290 (F := Ideal) (m (c.tc.loc main_arg43)) (m (c.tc.loc main_arg59))
      ∧ r.2.mem (c.tc.loc main_v200) = val_main_v314 (F := Ideal) (m (c.tc.loc main_arg44)) (m (c.tc.loc main_arg60))
      ∧ r.2.mem (c.tc.loc main_v202) = val_main_v338 (F := Ideal) (m (c.tc.loc main_arg45)) (m (c.tc.loc main_arg61))
      ∧ r.2.mem (c.tc.loc main_v204) = val_main_v362 (F := Ideal) (m (c.tc.loc main_arg46)) (m (c.tc.loc main_arg62))
      ∧ r.2.mem (c.tc.loc main_v206) = val_main_v386 (F := Ideal) (m (c.tc.loc main_arg47)) (m (c.tc.loc main_arg63)) :=
  (θ_run defs _ _).mono (fun r h c => ⟨((h c).2 main_v80 (rs _ rfl (by decide))).trans (end0_0 m c),
      ((h c).2 main_v82 (rs _ rfl (by decide))).trans (end0_1 m c),
      ((h c).2 main_v84 (rs _ rfl (by decide))).trans (end0_2 m c),
      ((h c).2 main_v86 (rs _ rfl (by decide))).trans (end0_3 m c),
      ((h c).2 main_v88 (rs _ rfl (by decide))).trans (end0_4 m c),
      ((h c).2 main_v90 (rs _ rfl (by decide))).trans (end0_5 m c),
      ((h c).2 main_v92 (rs _ rfl (by decide))).trans (end0_6 m c),
      ((h c).2 main_v94 (rs _ rfl (by decide))).trans (end0_7 m c),
      ((h c).2 main_v96 (rs _ rfl (by decide))).trans (end0_8 m c),
      ((h c).2 main_v98 (rs _ rfl (by decide))).trans (end0_9 m c),
      ((h c).2 main_v100 (rs _ rfl (by decide))).trans (end0_10 m c),
      ((h c).2 main_v102 (rs _ rfl (by decide))).trans (end0_11 m c),
      ((h c).2 main_v104 (rs _ rfl (by decide))).trans (end0_12 m c),
      ((h c).2 main_v106 (rs _ rfl (by decide))).trans (end0_13 m c),
      ((h c).2 main_v108 (rs _ rfl (by decide))).trans (end0_14 m c),
      ((h c).2 main_v110 (rs _ rfl (by decide))).trans (end0_15 m c),
      ((h c).2 main_v112 (rs _ rfl (by decide))).trans (end1_0 m c),
      ((h c).2 main_v114 (rs _ rfl (by decide))).trans (end1_1 m c),
      ((h c).2 main_v116 (rs _ rfl (by decide))).trans (end1_2 m c),
      ((h c).2 main_v118 (rs _ rfl (by decide))).trans (end1_3 m c),
      ((h c).2 main_v120 (rs _ rfl (by decide))).trans (end1_4 m c),
      ((h c).2 main_v122 (rs _ rfl (by decide))).trans (end1_5 m c),
      ((h c).2 main_v124 (rs _ rfl (by decide))).trans (end1_6 m c),
      ((h c).2 main_v126 (rs _ rfl (by decide))).trans (end1_7 m c),
      ((h c).2 main_v128 (rs _ rfl (by decide))).trans (end1_8 m c),
      ((h c).2 main_v130 (rs _ rfl (by decide))).trans (end1_9 m c),
      ((h c).2 main_v132 (rs _ rfl (by decide))).trans (end1_10 m c),
      ((h c).2 main_v134 (rs _ rfl (by decide))).trans (end1_11 m c),
      ((h c).2 main_v136 (rs _ rfl (by decide))).trans (end1_12 m c),
      ((h c).2 main_v138 (rs _ rfl (by decide))).trans (end1_13 m c),
      ((h c).2 main_v140 (rs _ rfl (by decide))).trans (end1_14 m c),
      ((h c).2 main_v142 (rs _ rfl (by decide))).trans (end1_15 m c),
      ((h c).2 main_v144 (rs _ rfl (by decide))).trans (end2_0 m c),
      ((h c).2 main_v146 (rs _ rfl (by decide))).trans (end2_1 m c),
      ((h c).2 main_v148 (rs _ rfl (by decide))).trans (end2_2 m c),
      ((h c).2 main_v150 (rs _ rfl (by decide))).trans (end2_3 m c),
      ((h c).2 main_v152 (rs _ rfl (by decide))).trans (end2_4 m c),
      ((h c).2 main_v154 (rs _ rfl (by decide))).trans (end2_5 m c),
      ((h c).2 main_v156 (rs _ rfl (by decide))).trans (end2_6 m c),
      ((h c).2 main_v158 (rs _ rfl (by decide))).trans (end2_7 m c),
      ((h c).2 main_v160 (rs _ rfl (by decide))).trans (end2_8 m c),
      ((h c).2 main_v162 (rs _ rfl (by decide))).trans (end2_9 m c),
      ((h c).2 main_v164 (rs _ rfl (by decide))).trans (end2_10 m c),
      ((h c).2 main_v166 (rs _ rfl (by decide))).trans (end2_11 m c),
      ((h c).2 main_v168 (rs _ rfl (by decide))).trans (end2_12 m c),
      ((h c).2 main_v170 (rs _ rfl (by decide))).trans (end2_13 m c),
      ((h c).2 main_v172 (rs _ rfl (by decide))).trans (end2_14 m c),
      ((h c).2 main_v174 (rs _ rfl (by decide))).trans (end2_15 m c),
      ((h c).2 main_v176 (rs _ rfl (by decide))).trans (end3_0 m c),
      ((h c).2 main_v178 (rs _ rfl (by decide))).trans (end3_1 m c),
      ((h c).2 main_v180 (rs _ rfl (by decide))).trans (end3_2 m c),
      ((h c).2 main_v182 (rs _ rfl (by decide))).trans (end3_3 m c),
      ((h c).2 main_v184 (rs _ rfl (by decide))).trans (end3_4 m c),
      ((h c).2 main_v186 (rs _ rfl (by decide))).trans (end3_5 m c),
      ((h c).2 main_v188 (rs _ rfl (by decide))).trans (end3_6 m c),
      ((h c).2 main_v190 (rs _ rfl (by decide))).trans (end3_7 m c),
      ((h c).2 main_v192 (rs _ rfl (by decide))).trans (end3_8 m c),
      ((h c).2 main_v194 (rs _ rfl (by decide))).trans (end3_9 m c),
      ((h c).2 main_v196 (rs _ rfl (by decide))).trans (end3_10 m c),
      ((h c).2 main_v198 (rs _ rfl (by decide))).trans (end3_11 m c),
      ((h c).2 main_v200 (rs _ rfl (by decide))).trans (end3_12 m c),
      ((h c).2 main_v202 (rs _ rfl (by decide))).trans (end3_13 m c),
      ((h c).2 main_v204 (rs _ rfl (by decide))).trans (end3_14 m c),
      ((h c).2 main_v206 (rs _ rfl (by decide))).trans (end3_15 m c)⟩) (Cert.KernelAdamSmallIdeal.Gen.run_main m ρ)
theorem frame_p : Cert.quiescent_KernelAdamSmall := fun m ρ _ => Cert.KernelAdamSmall.Gen.frame m ρ
theorem frame_pi : Cert.quiescent_KernelAdamSmallIdeal := fun m ρ _ => Cert.KernelAdamSmallIdeal.Gen.frame m ρ
theorem frame_ri : Cert.quiescent_ReferenceAdamSmallIdeal := fun m ρ _ =>
  (θ_run Cert.ReferenceAdamSmallIdeal.defs _ _).mono (fun r h => ⟨fun c => (h c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2,
      Idealize.ShloMosaic.sem_eq_zero_of_no_sems (by decide) r.2⟩)
    (Cert.ReferenceAdamSmallIdeal.Value.run (F := Ideal) m ρ)
theorem algebraic : Cert.algebraic_KernelAdamSmallIdeal_ReferenceAdamSmallIdeal := by
  intro m ρ m' ρ' hpre hagree
  refine ⟨_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _,
    (θ_run defs _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1, (h.1 c).2.2.2.2.2.2.2.2.2.2.2.2.1, (h.1 c).2.2.2.2.2.2.2.2.2.2.2.2.2.1, (h.1 c).2.2.2.2.2.2.2.2.2.2.2.2.2.2.1, (h.1 c).2.2.2.2.2.2.2.2.2.2.2.2.2.2.2.1, (h.1 c).2.2.2.2.2.2.2.2.2.2.2.2.2.2.2.2.1, (h.1 c).2.2.2.2.2.2.2.2.2.2.2.2.2.2.2.2.2.1, (h.1 c).2.2.2.2.2.2.2.2.2.2.2.2.2.2.2.2.2.2.1, (h.1 c).2.2.2.2.2.2.2.2.2.2.2.2.2.2.2.2.2.2.2.1, (h.1 c).2.2.2.2.2.2.2.2.2.2.2.2.2.2.2.2.2.2.2.2.1, (h.1 c).2.2.2.2.2.2.2.2.2.2.2.2.2.2.2.2.2.2.2.2.2.1, (h.1 c).2.2.2.2.2.2.2.2.2.2.2.2.2.2.2.2.2.2.2.2.2.2.1, (h.1 c).2.2.2.2.2.2.2.2.2.2.2.2.2.2.2.2.2.2.2.2.2.2.2.1, (h.1 c).2.2.2.2.2.2.2.2.2.2.2.2.2.2.2.2.2.2.2.2.2.2.2.2.1, (h.1 c).2.2.2.2.2.2.2.2.2.2.2.2.2.2.2.2.2.2.2.2.2.2.2.2.2.1, (h.1 c).2.2.2.2.2.2.2.2.2.2.2.2.2.2.2.2.2.2.2.2.2.2.2.2.2.2.1, (h.1 c).2.2.2.2.2.2.2.2.2.2.2.2.2.2.2.2.2.2.2.2.2.2.2.2.2.2.2.1, (h.1 c).2.2.2.2.2.2.2.2.2.2.2.2.2.2.2.2.2.2.2.2.2.2.2.2.2.2.2.2.1, (h.1 c).2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (h.1 c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2, h.2 c⟩)
      (θ_run_and (results m ρ) (Cert.KernelAdamSmallIdeal.Gen.unchanged m ρ)), ?_⟩
  refine (θ_run Cert.ReferenceAdamSmallIdeal.defs _ _).mono (fun _ h c => ?_) (Cert.ReferenceAdamSmallIdeal.Value.run (F := Ideal) m' ρ')
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65⟩ := hagree c
  obtain ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44, r45, r46, r47, r48, r49, r50, r51, r52, r53, r54, r55, r56, r57, r58, r59, r60, r61, r62, r63, k⟩ := h c
  exact ⟨(r0.trans (val_main_v0_eq _)).trans (congrArg (val_main_v0 (F := Ideal)) a48),
    (r1.trans (val_main_v1_eq _)).trans (congrArg (val_main_v1 (F := Ideal)) a49),
    (r2.trans (val_main_v2_eq _)).trans (congrArg (val_main_v2 (F := Ideal)) a50),
    (r3.trans (val_main_v3_eq _)).trans (congrArg (val_main_v3 (F := Ideal)) a51),
    (r4.trans (val_main_v4_eq _)).trans (congrArg (val_main_v4 (F := Ideal)) a52),
    (r5.trans (val_main_v5_eq _)).trans (congrArg (val_main_v5 (F := Ideal)) a53),
    (r6.trans (val_main_v6_eq _)).trans (congrArg (val_main_v6 (F := Ideal)) a54),
    (r7.trans (val_main_v7_eq _)).trans (congrArg (val_main_v7 (F := Ideal)) a55),
    (r8.trans (val_main_v8_eq _)).trans (congrArg (val_main_v8 (F := Ideal)) a56),
    (r9.trans (val_main_v9_eq _)).trans (congrArg (val_main_v9 (F := Ideal)) a57),
    (r10.trans (val_main_v10_eq _)).trans (congrArg (val_main_v10 (F := Ideal)) a58),
    (r11.trans (val_main_v11_eq _)).trans (congrArg (val_main_v11 (F := Ideal)) a59),
    (r12.trans (val_main_v12_eq _)).trans (congrArg (val_main_v12 (F := Ideal)) a60),
    (r13.trans (val_main_v13_eq _)).trans (congrArg (val_main_v13 (F := Ideal)) a61),
    (r14.trans (val_main_v14_eq _)).trans (congrArg (val_main_v14 (F := Ideal)) a62),
    (r15.trans (val_main_v15_eq _)).trans (congrArg (val_main_v15 (F := Ideal)) a63),
    (r16.trans (val_main_v39_eq _)).trans (congr4 (val_main_v39 (F := Ideal)) a0 a16 a32 a48),
    (r17.trans (val_main_v63_eq _)).trans (congr4 (val_main_v63 (F := Ideal)) a1 a17 a33 a49),
    (r18.trans (val_main_v87_eq _)).trans (congr4 (val_main_v87 (F := Ideal)) a2 a18 a34 a50),
    (r19.trans (val_main_v111_eq _)).trans (congr4 (val_main_v111 (F := Ideal)) a3 a19 a35 a51),
    (r20.trans (val_main_v135_eq _)).trans (congr4 (val_main_v135 (F := Ideal)) a4 a20 a36 a52),
    (r21.trans (val_main_v159_eq _)).trans (congr4 (val_main_v159 (F := Ideal)) a5 a21 a37 a53),
    (r22.trans (val_main_v183_eq _)).trans (congr4 (val_main_v183 (F := Ideal)) a6 a22 a38 a54),
    (r23.trans (val_main_v207_eq _)).trans (congr4 (val_main_v207 (F := Ideal)) a7 a23 a39 a55),
    (r24.trans (val_main_v231_eq _)).trans (congr4 (val_main_v231 (F := Ideal)) a8 a24 a40 a56),
    (r25.trans (val_main_v255_eq _)).trans (congr4 (val_main_v255 (F := Ideal)) a9 a25 a41 a57),
    (r26.trans (val_main_v279_eq _)).trans (congr4 (val_main_v279 (F := Ideal)) a10 a26 a42 a58),
    (r27.trans (val_main_v303_eq _)).trans (congr4 (val_main_v303 (F := Ideal)) a11 a27 a43 a59),
    (r28.trans (val_main_v327_eq _)).trans (congr4 (val_main_v327 (F := Ideal)) a12 a28 a44 a60),
    (r29.trans (val_main_v351_eq _)).trans (congr4 (val_main_v351 (F := Ideal)) a13 a29 a45 a61),
    (r30.trans (val_main_v375_eq _)).trans (congr4 (val_main_v375 (F := Ideal)) a14 a30 a46 a62),
    (r31.trans (val_main_v399_eq _)).trans (congr4 (val_main_v399 (F := Ideal)) a15 a31 a47 a63),
    (r32.trans (val_main_v20_eq _)).trans (congrArg₂ (val_main_v20 (F := Ideal)) a16 a48),
    (r33.trans (val_main_v44_eq _)).trans (congrArg₂ (val_main_v44 (F := Ideal)) a17 a49),
    (r34.trans (val_main_v68_eq _)).trans (congrArg₂ (val_main_v68 (F := Ideal)) a18 a50),
    (r35.trans (val_main_v92_eq _)).trans (congrArg₂ (val_main_v92 (F := Ideal)) a19 a51),
    (r36.trans (val_main_v116_eq _)).trans (congrArg₂ (val_main_v116 (F := Ideal)) a20 a52),
    (r37.trans (val_main_v140_eq _)).trans (congrArg₂ (val_main_v140 (F := Ideal)) a21 a53),
    (r38.trans (val_main_v164_eq _)).trans (congrArg₂ (val_main_v164 (F := Ideal)) a22 a54),
    (r39.trans (val_main_v188_eq _)).trans (congrArg₂ (val_main_v188 (F := Ideal)) a23 a55),
    (r40.trans (val_main_v212_eq _)).trans (congrArg₂ (val_main_v212 (F := Ideal)) a24 a56),
    (r41.trans (val_main_v236_eq _)).trans (congrArg₂ (val_main_v236 (F := Ideal)) a25 a57),
    (r42.trans (val_main_v260_eq _)).trans (congrArg₂ (val_main_v260 (F := Ideal)) a26 a58),
    (r43.trans (val_main_v284_eq _)).trans (congrArg₂ (val_main_v284 (F := Ideal)) a27 a59),
    (r44.trans (val_main_v308_eq _)).trans (congrArg₂ (val_main_v308 (F := Ideal)) a28 a60),
    (r45.trans (val_main_v332_eq _)).trans (congrArg₂ (val_main_v332 (F := Ideal)) a29 a61),
    (r46.trans (val_main_v356_eq _)).trans (congrArg₂ (val_main_v356 (F := Ideal)) a30 a62),
    (r47.trans (val_main_v380_eq _)).trans (congrArg₂ (val_main_v380 (F := Ideal)) a31 a63),
    (r48.trans (val_main_v26_eq _)).trans (congrArg₂ (val_main_v26 (F := Ideal)) a32 a48),
    (r49.trans (val_main_v50_eq _)).trans (congrArg₂ (val_main_v50 (F := Ideal)) a33 a49),
    (r50.trans (val_main_v74_eq _)).trans (congrArg₂ (val_main_v74 (F := Ideal)) a34 a50),
    (r51.trans (val_main_v98_eq _)).trans (congrArg₂ (val_main_v98 (F := Ideal)) a35 a51),
    (r52.trans (val_main_v122_eq _)).trans (congrArg₂ (val_main_v122 (F := Ideal)) a36 a52),
    (r53.trans (val_main_v146_eq _)).trans (congrArg₂ (val_main_v146 (F := Ideal)) a37 a53),
    (r54.trans (val_main_v170_eq _)).trans (congrArg₂ (val_main_v170 (F := Ideal)) a38 a54),
    (r55.trans (val_main_v194_eq _)).trans (congrArg₂ (val_main_v194 (F := Ideal)) a39 a55),
    (r56.trans (val_main_v218_eq _)).trans (congrArg₂ (val_main_v218 (F := Ideal)) a40 a56),
    (r57.trans (val_main_v242_eq _)).trans (congrArg₂ (val_main_v242 (F := Ideal)) a41 a57),
    (r58.trans (val_main_v266_eq _)).trans (congrArg₂ (val_main_v266 (F := Ideal)) a42 a58),
    (r59.trans (val_main_v290_eq _)).trans (congrArg₂ (val_main_v290 (F := Ideal)) a43 a59),
    (r60.trans (val_main_v314_eq _)).trans (congrArg₂ (val_main_v314 (F := Ideal)) a44 a60),
    (r61.trans (val_main_v338_eq _)).trans (congrArg₂ (val_main_v338 (F := Ideal)) a45 a61),
    (r62.trans (val_main_v362_eq _)).trans (congrArg₂ (val_main_v362 (F := Ideal)) a46 a62),
    (r63.trans (val_main_v386_eq _)).trans (congrArg₂ (val_main_v386 (F := Ideal)) a47 a63), k⟩
end Cert.KernelAdamSmallIdeal.Val
-- ==== Proof.Sum.lean ====
/- The two convolutions' gradients, the last rows of the packed gradients: the eight chips' parts added up. -/
module
public import Idealize.ShloMosaic.Lib.StableHlo.RunRead
public import proofs.«01_k».proof.Defs
public import proofs.«01_k».proof.Proof.Gen.KernelSum
public import proofs.«01_k».proof.Proof.Gen.KernelSum.Frame
public import proofs.«01_k».proof.Proof.Gen.KernelSumIdeal
public import proofs.«01_k».proof.Proof.Gen.KernelSumIdeal.Frame
public import proofs.«01_k».proof.Proof.Gen.ReferenceSumIdeal
public import proofs.«01_k».proof.Proof.Gen.ReferenceSumIdeal.Run
public import proofs.«01_k».proof.Proof.Gen.ReferenceSumIdeal.Read
public import proofs.«01_k».proof.Proof.Ix
public import proofs.«01_k».proof.Proof.Adam
public import Idealize.ShloMosaic.Lib.ReduceAll
public import Idealize.ShloMosaic.Lib.Pipeline.ReadBack
public import Idealize.ShloMosaic.Lib.Pipeline.ValueKit
public import Idealize.ShloMosaic.Lib.WordCmp
public import Idealize.ShloMosaic.Lib.Claim
public import Idealize.ShloMosaic.Lib.QuiescentFlight
@[expose] public section
set_option maxRecDepth 16384
noncomputable section
namespace Cert.KernelSumIdeal.Val
open Cert.KernelSumIdeal Cert.KernelSumIdeal.Gen Idealize.ShloMosaic Idealize.ShloMosaic.TcCoe Idealize.SL.Sem
open Idealize.ShloMosaic.Pipeline (Dat)
open Cert.Adam
variable (m : (ℓ : Loc nD τ sig) → Buf (Elt Ideal) ℓ)
/-- The parts as packed. -/
abbrev PT (c : Dev nD) : FVec Ideal S8x3648x128 .f32 := V m c main_v2
/-- Where each window's block lies. -/
theorem idx : ∀ t : Fin cfg0.N, win0_0.index t = ![0, t.val + 52, 0] ∧ win0_1.index t = ![t.val, 0] ∧ t.val < 5 :=
  (by decide +kernel : ∀ t : Fin grid0.N, _)
abbrev row (t : Fin cfg0.N) (r : Fin 64) : Fin 320 := ⟨t.val * 64 + r, by have := (idx t).2.2; omega⟩
abbrev big (r : Fin 320) : Fin 3648 := ⟨3328 + r, by omega⟩
theorem blk0 (c : Dev nD) (t : Fin cfg0.N) (s : Fin 8) (r : Fin 64) (k : Fin 128) :
    (iblk m c 0 t : Vec Ideal S8x64x128 .f32) (ix3 s r k) = PT m c (ix3 s (big (row t r)) k) := by
  blk_ext [iblk, idx t]
/-- The sum. -/
def G (c : Dev nD) (j : S320x128.Idx) : EReal := ∑ k : Fin 8, PT m c (ix3 k (big (j 0)) (j 1))
theorem emb1 (t : Fin cfg0.N) (p : Fin 64) (q : Fin 128) :
    (((cfg0.win 1).blk t).view.emb (ix2 p q) : S320x128.Idx) = ix2 (row t p) q := by
  have e := idx t
  have h0 : ((((cfg0.win 1).blk t).view.emb (ix2 p q)) 0 : ℕ) = t.val * 64 + p := by blk_simp [e]
  have h1 : ((((cfg0.win 1).blk t).view.emb (ix2 p q)) 1 : ℕ) = q := by blk_simp [e]
  exact Ix.of2 _ _ _ h0 h1
theorem final1 (c : Dev nD) : (dats m 0 c).arrAt 1 cfg0.N = G m c := by
  refine (dats m 0 c).arrAt_eq_of_covers 1 _ (by decide +kernel) fun t hf y => ?_
  blk_simp
  rw [after0_1]
  obtain ⟨p, q, rfl⟩ : ∃ (p : Fin 64) (q : Fin 128), y = ix2 p q := ⟨_, _, eq_ix2 y⟩
  refine Eq.trans ?_ (congrArg (G m c) (emb1 t p q)).symm
  frame_out [k0_pay1]
  pointwise
  refine Eq.trans ?_ (sum8 fun k => PT m c (ix3 k (big (row t p)) q))
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (blk0 m c t 0 p q) (blk0 m c t 1 p q)) (blk0 m c t 2 p q)) (blk0 m c t 3 p q)) (blk0 m c t 4 p q)) (blk0 m c t 5 p q)) (blk0 m c t 6 p q)) (blk0 m c t 7 p q)
/-- The packed gradients, piece by piece. -/
theorem pack (c : Dev nD) : PT m c = concatenate S8x3648x128 1
    [⟨S8x3328x128, (StableHlo.upto hostOps0 (fun b => m (c, b)) 2 (Proc.devRef .tc main_arg0) : FVec Ideal S8x3328x128 .f32)⟩,
     ⟨S8x32x128, (StableHlo.upto hostOps0 (fun b => m (c, b)) 2 (Proc.devRef .tc main_v0) : FVec Ideal S8x32x128 .f32)⟩,
     ⟨S8x288x128, (StableHlo.upto hostOps0 (fun b => m (c, b)) 2 (Proc.devRef .tc main_v1) : FVec Ideal S8x288x128 .f32)⟩]
    concatenates_S8x3328x128_S8x32x128_S8x288x128_S8x3648x128_d1 :=
  (StableHlo.after_last_write (ops := hostOps0) (i := 2) [] rfl rfl (by decide) _).trans (StableHlo.nary_result ..)
set_option maxHeartbeats 2000000 in
theorem piece1 (c : Dev nD) (k : Fin 8) (r : Fin 32) (l : Fin 128) : PT m c (ix3 k ⟨3328 + r.val, by omega⟩ l) =
    (StableHlo.upto hostOps0 (fun b => m (c, b)) 2 (Proc.devRef .tc main_v0) : FVec Ideal S8x32x128 .f32) (ix3 k r l) :=
  (congrFun (pack m c) _).trans <|
    concatenate_apply_piece (t := S8x3648x128) 1 _ _ _ 1 (Nat.le_of_ble_eq_true rfl) S8x32x128 _ rfl rfl 3328 rfl (ix3 k r l)
      (by rintro ⟨_ | _ | _ | b, hb⟩ h <;> first | rfl | exact absurd rfl h | exact absurd hb (by simp [Shape.rank])) (by simp)
theorem read1 (c : Dev nD) (k : Fin 8) (a : Fin 4) (q : Fin 1024) :
    (StableHlo.upto hostOps0 (fun b => m (c, b)) 2 (Proc.devRef .tc main_v0) : FVec Ideal S8x32x128 .f32)
      (ix3 k ⟨a.val * 8 + q.val / 128, by omega⟩ ⟨q.val % 128, by omega⟩) =
      (m ((c : Thread nD τ).loc main_arg1) : FVec Ideal S8x4x1024 .f32) (ix3 k a q) := by
  after_reads_simp
  pointwise
theorem res1 (W : Valuation τ sig (Elt Ideal)) (a : Fin 4) (q : Fin 1024) :
    (StableHlo.after hostOps1 W (Proc.devRef .tc main_v5) : FVec Ideal S4x1024 .f32) (ix2 a q) =
      (W (Proc.devRef .tc main_v3) : FVec Ideal S320x128 .f32)
        (ix2 ⟨0 + (a.val * 8 + q.val / 128), by omega⟩ ⟨q.val % 128, by omega⟩) := by
  after_reads_simp
  pointwise
open Cert.ReferenceSumIdeal.Read in
theorem ref1 (p : FVec Ideal S8x4x1024 .f32) (a : Fin 4) (q : Fin 1024) :
    (val_main_v0 (F := Ideal) p : FVec Ideal S4x1024 .f32) (ix2 a q) = ∑ k : Fin 8, p (ix3 k a q) := by
  pointwise [val_main_v0, val_main_cst]
set_option maxHeartbeats 2000000 in
theorem piece2 (c : Dev nD) (k : Fin 8) (r : Fin 288) (l : Fin 128) : PT m c (ix3 k ⟨3360 + r.val, by omega⟩ l) =
    (StableHlo.upto hostOps0 (fun b => m (c, b)) 2 (Proc.devRef .tc main_v1) : FVec Ideal S8x288x128 .f32) (ix3 k r l) :=
  (congrFun (pack m c) _).trans <|
    concatenate_apply_piece (t := S8x3648x128) 1 _ _ _ 2 (Nat.le_of_ble_eq_true rfl) S8x288x128 _ rfl rfl 3360 rfl (ix3 k r l)
      (by rintro ⟨_ | _ | _ | b, hb⟩ h <;> first | rfl | exact absurd rfl h | exact absurd hb (by simp [Shape.rank])) (by simp)
theorem read2 (c : Dev nD) (k : Fin 8) (a : Fin 3) (q : Fin 12288) :
    (StableHlo.upto hostOps0 (fun b => m (c, b)) 2 (Proc.devRef .tc main_v1) : FVec Ideal S8x288x128 .f32)
      (ix3 k ⟨a.val * 96 + q.val / 128, by omega⟩ ⟨q.val % 128, by omega⟩) =
      (m ((c : Thread nD τ).loc main_arg2) : FVec Ideal S8x3x12288 .f32) (ix3 k a q) := by
  after_reads_simp
  pointwise
theorem res2 (W : Valuation τ sig (Elt Ideal)) (a : Fin 3) (q : Fin 12288) :
    (StableHlo.after hostOps1 W (Proc.devRef .tc main_v7) : FVec Ideal S3x12288 .f32) (ix2 a q) =
      (W (Proc.devRef .tc main_v3) : FVec Ideal S320x128 .f32)
        (ix2 ⟨32 + (a.val * 96 + q.val / 128), by omega⟩ ⟨q.val % 128, by omega⟩) := by
  after_reads_simp
  pointwise
open Cert.ReferenceSumIdeal.Read in
theorem ref2 (p : FVec Ideal S8x3x12288 .f32) (a : Fin 3) (q : Fin 12288) :
    (val_main_v1 (F := Ideal) p : FVec Ideal S3x12288 .f32) (ix2 a q) = ∑ k : Fin 8, p (ix3 k a q) := by
  pointwise [val_main_v1, val_main_cst_0]
/-- The contents when the operations after the region start. -/
abbrev AW (c : Dev nD) : Valuation τ sig (Elt Ideal) :=
  Pipeline.withArrays (cfgs 0).spec c (V0 m c) fun w => (dats m 0 c).arrAt w (cfgs 0).N
theorem aw (c : Dev nD) : (AW m c (Proc.devRef .tc main_v3) : FVec Ideal S320x128 .f32) = G m c :=
  (Pipeline.withArrays_arr (cfgs 0).spec (by decide) c (V0 m c) (fun w => (dats m 0 c).arrAt w (cfgs 0).N) 1).trans (final1 m c)
theorem sum_same (f g : Fin 8 → EReal) (h : ∀ k, f k = g k) : ∑ k, f k = ∑ k, g k := Finset.sum_congr rfl fun k _ => h k
theorem row_eq {n : ℕ} (a b : Fin n) (h : a.val = b.val) : a = b := Fin.ext h
open Cert.ReferenceSumIdeal.Read in
theorem end1 (c : Dev nD) : (StableHlo.after hostOps1 (AW m c) (Proc.devRef .tc main_v5) : FVec Ideal S4x1024 .f32) =
    (val_main_v0 (F := Ideal) (m ((c : Thread nD τ).loc main_arg1) : FVec Ideal S8x4x1024 .f32) : FVec Ideal S4x1024 .f32) := by
  funext j
  obtain ⟨a, q, rfl⟩ : ∃ (a : Fin 4) (q : Fin 1024), j = ix2 a q := ⟨_, _, eq_ix2 j⟩
  refine (res1 (AW m c) a q).trans ((congrFun (aw m c) _).trans (Eq.trans ?_ (ref1 _ a q).symm))
  refine sum_same (fun k => PT m c (ix3 k (big ⟨0 + (a.val * 8 + q.val / 128), by omega⟩) ⟨q.val % 128, by omega⟩))
    (fun k => (m ((c : Thread nD τ).loc main_arg1) : FVec Ideal S8x4x1024 .f32) (ix3 k a q)) fun k => ?_
  rw [row_eq (big ⟨0 + (a.val * 8 + q.val / 128), by omega⟩) ⟨3328 + (a.val * 8 + q.val / 128), by omega⟩
    (by show 3328 + (0 + _) = 3328 + _; omega)]
  exact (piece1 m c k ⟨a.val * 8 + q.val / 128, by omega⟩ ⟨q.val % 128, by omega⟩).trans (read1 m c k a q)
open Cert.ReferenceSumIdeal.Read in
theorem end2 (c : Dev nD) : (StableHlo.after hostOps1 (AW m c) (Proc.devRef .tc main_v7) : FVec Ideal S3x12288 .f32) =
    (val_main_v1 (F := Ideal) (m ((c : Thread nD τ).loc main_arg2) : FVec Ideal S8x3x12288 .f32) : FVec Ideal S3x12288 .f32) := by
  funext j
  obtain ⟨a, q, rfl⟩ : ∃ (a : Fin 3) (q : Fin 12288), j = ix2 a q := ⟨_, _, eq_ix2 j⟩
  refine (res2 (AW m c) a q).trans ((congrFun (aw m c) _).trans (Eq.trans ?_ (ref2 _ a q).symm))
  refine sum_same (fun k => PT m c (ix3 k (big ⟨32 + (a.val * 96 + q.val / 128), by omega⟩) ⟨q.val % 128, by omega⟩))
    (fun k => (m ((c : Thread nD τ).loc main_arg2) : FVec Ideal S8x3x12288 .f32) (ix3 k a q)) fun k => ?_
  rw [row_eq (big ⟨32 + (a.val * 96 + q.val / 128), by omega⟩) ⟨3360 + (a.val * 96 + q.val / 128), by omega⟩
    (by show 3328 + (32 + _) = 3360 + _; omega)]
  exact (piece2 m c k ⟨a.val * 96 + q.val / 128, by omega⟩ ⟨q.val % 128, by omega⟩).trans (read2 m c k a q)
theorem rest1 : main_v5 ∈ Pipeline.restRefs sig (cfgs 0).spec := Pipeline.mem_restRefs_of _ rfl (by decide)
theorem rest2 : main_v7 ∈ Pipeline.restRefs sig (cfgs 0).spec := Pipeline.mem_restRefs_of _ rfl (by decide)
open Cert.ReferenceSumIdeal.Read in
/-- What the kernel leaves in its results. -/
theorem results (ρ : Dev nD → PrngReg) :
    θ_run defs (onTc (τ := τ) (main (F := Ideal))) ⟨m, fun _ => 0, ρ⟩ fun r => ∀ c : Dev nD,
      r.2.mem ((c : Thread nD τ).loc main_v5) = val_main_v0 (F := Ideal) (m ((c : Thread nD τ).loc main_arg1))
      ∧ r.2.mem ((c : Thread nD τ).loc main_v7) = val_main_v1 (F := Ideal) (m ((c : Thread nD τ).loc main_arg2)) :=
  (θ_run defs _ _).mono (fun r h c => ⟨((h c).2 main_v5 rest1).trans (end1 m c), ((h c).2 main_v7 rest2).trans (end2 m c)⟩)
    (Cert.KernelSumIdeal.Gen.run_main m ρ)
theorem frame_p : Cert.quiescent_KernelSum := fun m ρ _ => Cert.KernelSum.Gen.frame m ρ
theorem frame_pi : Cert.quiescent_KernelSumIdeal := fun m ρ _ => Cert.KernelSumIdeal.Gen.frame m ρ
theorem frame_ri : Cert.quiescent_ReferenceSumIdeal := fun m ρ _ =>
  (θ_run Cert.ReferenceSumIdeal.defs _ _).mono (fun r h => ⟨fun c => (h c).2.2,
      Idealize.ShloMosaic.sem_eq_zero_of_no_sems (by decide) r.2⟩)
    (Cert.ReferenceSumIdeal.Value.run (F := Ideal) m ρ)
theorem algebraic : Cert.algebraic_KernelSumIdeal_ReferenceSumIdeal := by
  intro m ρ m' ρ' hpre hagree
  refine ⟨_, _, (θ_run defs _ _).mono (fun r h c => ⟨(h.1 c).1, (h.1 c).2, h.2 c⟩)
      (θ_run_and (results m ρ) (Cert.KernelSumIdeal.Gen.unchanged m ρ)), ?_⟩
  refine (θ_run Cert.ReferenceSumIdeal.defs _ _).mono (fun _ h c => ?_) (Cert.ReferenceSumIdeal.Value.run (F := Ideal) m' ρ')
  obtain ⟨a0, a1, a2⟩ := hagree c
  obtain ⟨r0, r1, k⟩ := h c
  exact ⟨(r0.trans (Cert.ReferenceSumIdeal.Read.val_main_v0_eq _)).trans (congrArg (Cert.ReferenceSumIdeal.Read.val_main_v0 (F := Ideal)) a1),
    (r1.trans (Cert.ReferenceSumIdeal.Read.val_main_v1_eq _)).trans (congrArg (Cert.ReferenceSumIdeal.Read.val_main_v1 (F := Ideal)) a2), k⟩
end Cert.KernelSumIdeal.Val
-- ==== Proof.lean ====
/- The claims about the products of the layer and the calls around them. -/
module

public import proofs.«01_k».proof.Defs
public import proofs.«01_k».proof.Proof.Claims
public import proofs.«01_k».proof.Proof.UpDw
public import proofs.«01_k».proof.Proof.InDw
public import proofs.«01_k».proof.Proof.DownDw
public import proofs.«01_k».proof.Proof.OutDw
public import proofs.«01_k».proof.Proof.OutDx
public import proofs.«01_k».proof.Proof.UpDx
public import proofs.«01_k».proof.Proof.Up
public import proofs.«01_k».proof.Proof.Loss
public import proofs.«01_k».proof.Proof.Out
public import proofs.«01_k».proof.Proof.Norm
public import proofs.«01_k».proof.Proof.InOwn
public import proofs.«01_k».proof.Proof.InRest
public import proofs.«01_k».proof.Proof.WRows
public import proofs.«01_k».proof.Proof.InDx
public import proofs.«01_k».proof.Proof.AdamDown
public import proofs.«01_k».proof.Proof.AdamUp
public import proofs.«01_k».proof.Proof.AdamOut
public import proofs.«01_k».proof.Proof.AdamIn
public import proofs.«01_k».proof.Proof.AdamLru
public import proofs.«01_k».proof.Proof.AdamConv
public import proofs.«01_k».proof.Proof.AdamSmall
public import proofs.«01_k».proof.Proof.Sum

@[expose] public section

noncomputable section

namespace Cert.Proof

open Idealize.ShloMosaic

theorem claim : Cert.Claim :=
  ⟨Cert.Kernel.Gen.facts, Cert.KernelIdeal.Gen.facts, Cert.ReferenceIdeal.Gen.facts,
    Cert.KernelUpDw.Gen.facts, Cert.KernelUpDwIdeal.Gen.facts, Cert.ReferenceUpDwIdeal.Gen.facts, Cert.KernelInDw.Gen.facts,
    Cert.KernelInDwIdeal.Gen.facts, Cert.ReferenceInDwIdeal.Gen.facts, Cert.KernelDownDw.Gen.facts, Cert.KernelDownDwIdeal.Gen.facts,
    Cert.ReferenceDownDwIdeal.Gen.facts, Cert.KernelOutDw.Gen.facts, Cert.KernelOutDwIdeal.Gen.facts, Cert.ReferenceOutDwIdeal.Gen.facts,
    Cert.KernelOutDx.Gen.facts, Cert.KernelOutDxIdeal.Gen.facts, Cert.ReferenceOutDxIdeal.Gen.facts, Cert.KernelUpDx.Gen.facts,
    Cert.KernelUpDxIdeal.Gen.facts, Cert.ReferenceUpDxIdeal.Gen.facts, Cert.KernelUp.Gen.facts, Cert.KernelUpIdeal.Gen.facts,
    Cert.ReferenceUpIdeal.Gen.facts, Cert.KernelLoss.Gen.facts, Cert.KernelLossIdeal.Gen.facts, Cert.ReferenceLossIdeal.Gen.facts,
    Cert.KernelOut.Gen.facts, Cert.KernelOutIdeal.Gen.facts, Cert.ReferenceOutIdeal.Gen.facts, Cert.KernelNorm.Gen.facts,
    Cert.KernelNormIdeal.Gen.facts, Cert.ReferenceNormIdeal.Gen.facts, Cert.KernelInOwn.Gen.facts, Cert.KernelInOwnIdeal.Gen.facts,
    Cert.ReferenceInOwnIdeal.Gen.facts, Cert.KernelInRest.Gen.facts, Cert.KernelInRestIdeal.Gen.facts, Cert.ReferenceInRestIdeal.Gen.facts,
    Cert.KernelWRows.Gen.facts, Cert.KernelWRowsIdeal.Gen.facts, Cert.ReferenceWRowsIdeal.Gen.facts, Cert.KernelInDx.Gen.facts,
    Cert.KernelInDxIdeal.Gen.facts, Cert.ReferenceInDxIdeal.Gen.facts, Cert.KernelAdamDown.Gen.facts, Cert.KernelAdamDownIdeal.Gen.facts,
    Cert.ReferenceAdamDownIdeal.Gen.facts, Cert.KernelAdamUp.Gen.facts, Cert.KernelAdamUpIdeal.Gen.facts, Cert.ReferenceAdamUpIdeal.Gen.facts,
    Cert.KernelAdamOut.Gen.facts, Cert.KernelAdamOutIdeal.Gen.facts, Cert.ReferenceAdamOutIdeal.Gen.facts, Cert.KernelAdamIn.Gen.facts,
    Cert.KernelAdamInIdeal.Gen.facts, Cert.ReferenceAdamInIdeal.Gen.facts, Cert.KernelAdamLru.Gen.facts, Cert.KernelAdamLruIdeal.Gen.facts,
    Cert.ReferenceAdamLruIdeal.Gen.facts, Cert.KernelAdamConv.Gen.facts, Cert.KernelAdamConvIdeal.Gen.facts, Cert.ReferenceAdamConvIdeal.Gen.facts,
    Cert.KernelAdamSmall.Gen.facts, Cert.KernelAdamSmallIdeal.Gen.facts, Cert.ReferenceAdamSmallIdeal.Gen.facts, Cert.KernelSum.Gen.facts,
    Cert.KernelSumIdeal.Gen.facts, Cert.ReferenceSumIdeal.Gen.facts,
    GluBwd.facts_pre, KernelUpDxIdeal.Val.facts_pre, KernelLossIdeal.Val.facts_pre, KernelInDxIdeal.Val.facts_pre,
    GluBwd.frame_p, GluBwd.frame_pi, GluBwd.frame_pi_pre, GluBwd.frame_ri, GluBwd.frame_ri_pre,
    KernelUpDwIdeal.Val.frame_p, KernelUpDwIdeal.Val.frame_pi, KernelUpDwIdeal.Val.frame_ri, KernelInDwIdeal.Val.frame_p, KernelInDwIdeal.Val.frame_pi,
    KernelInDwIdeal.Val.frame_ri, KernelDownDwIdeal.Val.frame_p, KernelDownDwIdeal.Val.frame_pi, KernelDownDwIdeal.Val.frame_ri,
    KernelOutDwIdeal.Val.frame_p, KernelOutDwIdeal.Val.frame_pi, KernelOutDwIdeal.Val.frame_ri, KernelOutDxIdeal.Val.frame_p,
    KernelOutDxIdeal.Val.frame_pi, KernelOutDxIdeal.Val.frame_ri, KernelUpDxIdeal.Val.frame_p, KernelUpDxIdeal.Val.frame_pi,
    KernelUpDxIdeal.Val.frame_pi_pre, KernelUpDxIdeal.Val.frame_ri, KernelUpDxIdeal.Val.frame_ri_pre, KernelUpIdeal.Val.frame_p,
    KernelUpIdeal.Val.frame_pi, KernelUpIdeal.Val.frame_ri, KernelLossIdeal.Val.frame_p, KernelLossIdeal.Val.frame_pi, KernelLossIdeal.Val.frame_pi_pre,
    KernelLossIdeal.Val.frame_ri, KernelLossIdeal.Val.frame_ri_pre, KernelOutIdeal.Val.frame_p, KernelOutIdeal.Val.frame_pi,
    KernelOutIdeal.Val.frame_ri, KernelNormIdeal.Val.frame_p, KernelNormIdeal.Val.frame_pi, KernelNormIdeal.Val.frame_ri, KernelInOwnIdeal.Val.frame_p,
    KernelInOwnIdeal.Val.frame_pi, KernelInOwnIdeal.Val.frame_ri, KernelInRestIdeal.Val.frame_p, KernelInRestIdeal.Val.frame_pi,
    KernelInRestIdeal.Val.frame_ri, KernelWRowsIdeal.Val.frame_p, KernelWRowsIdeal.Val.frame_pi, KernelWRowsIdeal.Val.frame_ri,
    KernelInDxIdeal.Val.frame_p, KernelInDxIdeal.Val.frame_pi, KernelInDxIdeal.Val.frame_pi_pre, KernelInDxIdeal.Val.frame_ri,
    KernelInDxIdeal.Val.frame_ri_pre, KernelAdamDownIdeal.Val.frame_p, KernelAdamDownIdeal.Val.frame_pi, KernelAdamDownIdeal.Val.frame_ri,
    KernelAdamUpIdeal.Val.frame_p, KernelAdamUpIdeal.Val.frame_pi, KernelAdamUpIdeal.Val.frame_ri, KernelAdamOutIdeal.Val.frame_p,
    KernelAdamOutIdeal.Val.frame_pi, KernelAdamOutIdeal.Val.frame_ri, KernelAdamInIdeal.Val.frame_p, KernelAdamInIdeal.Val.frame_pi,
    KernelAdamInIdeal.Val.frame_ri, KernelAdamLruIdeal.Val.frame_p, KernelAdamLruIdeal.Val.frame_pi, KernelAdamLruIdeal.Val.frame_ri,
    KernelAdamConvIdeal.Val.frame_p, KernelAdamConvIdeal.Val.frame_pi, KernelAdamConvIdeal.Val.frame_ri, KernelAdamSmallIdeal.Val.frame_p,
    KernelAdamSmallIdeal.Val.frame_pi, KernelAdamSmallIdeal.Val.frame_ri, KernelSumIdeal.Val.frame_p, KernelSumIdeal.Val.frame_pi,
    KernelSumIdeal.Val.frame_ri,
    GluBwd.preserves, GluBwd.algebraic,
    trivial, KernelUpDwIdeal.Val.algebraic, trivial, KernelInDwIdeal.Val.algebraic, trivial, KernelDownDwIdeal.Val.algebraic, trivial,
    KernelOutDwIdeal.Val.algebraic, trivial, KernelOutDxIdeal.Val.algebraic, trivial, KernelUpDxIdeal.Val.algebraic,
    IdealRules.named_const.statement Cert.KernelUpIdeal.κ "gelu_ca" .f32 0x3D122279#32 ((80338380498831 / 2251799813685248 : ℝ) : EReal) rfl,
    KernelUpIdeal.Val.algebraic, trivial, KernelLossIdeal.Val.algebraic, trivial, KernelOutIdeal.Val.algebraic, trivial, KernelNormIdeal.Val.algebraic,
    trivial, KernelInOwnIdeal.Val.algebraic, trivial, KernelInRestIdeal.Val.algebraic, trivial, KernelWRowsIdeal.Val.algebraic, trivial,
    KernelInDxIdeal.Val.algebraic, trivial, KernelAdamDownIdeal.Val.algebraic, trivial, KernelAdamUpIdeal.Val.algebraic, trivial,
    KernelAdamOutIdeal.Val.algebraic, trivial, KernelAdamInIdeal.Val.algebraic, trivial, KernelAdamLruIdeal.Val.algebraic, trivial,
    KernelAdamConvIdeal.Val.algebraic, trivial, KernelAdamSmallIdeal.Val.algebraic, trivial, KernelSumIdeal.Val.algebraic⟩

end Cert.Proof

end
